-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_Df (m : (ℓ : Loc Cert.Df.nD Cert.Df.τ Cert.Df.sig) → Buf (Elt Bits) ℓ) : Prop :=
  True

def Pre_DfIdeal (m : (ℓ : Loc Cert.DfIdeal.nD Cert.DfIdeal.τ Cert.DfIdeal.sig) → Buf (Elt Ideal) ℓ) : Prop :=
  True

def Pre_DfRefIdeal (m : (ℓ : Loc Cert.DfRefIdeal.nD Cert.DfRefIdeal.τ Cert.DfRefIdeal.sig) → Buf (Elt Ideal) ℓ) : Prop :=
  True

def Pre_Dxn3 (m : (ℓ : Loc Cert.Dxn3.nD Cert.Dxn3.τ Cert.Dxn3.sig) → Buf (Elt Bits) ℓ) : Prop :=
  True

def Pre_Dxn3Ideal (m : (ℓ : Loc Cert.Dxn3Ideal.nD Cert.Dxn3Ideal.τ Cert.Dxn3Ideal.sig) → Buf (Elt Ideal) ℓ) : Prop :=
  True

def Pre_Dxn3RefIdeal (m : (ℓ : Loc Cert.Dxn3RefIdeal.nD Cert.Dxn3RefIdeal.τ Cert.Dxn3RefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Dxn1 (m : (ℓ : Loc Cert.Dxn1.nD Cert.Dxn1.τ Cert.Dxn1.sig) → Buf (Elt Bits) ℓ) : Prop :=
  True

def Pre_Dxn1Ideal (m : (ℓ : Loc Cert.Dxn1Ideal.nD Cert.Dxn1Ideal.τ Cert.Dxn1Ideal.sig) → Buf (Elt Ideal) ℓ) : Prop :=
  True

def Pre_Dxn1RefIdeal (m : (ℓ : Loc Cert.Dxn1RefIdeal.nD Cert.Dxn1RefIdeal.τ Cert.Dxn1RefIdeal.sig) → Buf (Elt Ideal) ℓ) : Prop :=
  True

def Pre_H3 (m : (ℓ : Loc Cert.H3.nD Cert.H3.τ Cert.H3.sig) → Buf (Elt Bits) ℓ) : Prop :=
  True

def Pre_H3Ideal (m : (ℓ : Loc Cert.H3Ideal.nD Cert.H3Ideal.τ Cert.H3Ideal.sig) → Buf (Elt Ideal) ℓ) : Prop :=
  True

def Pre_H3RefIdeal (m : (ℓ : Loc Cert.H3RefIdeal.nD Cert.H3RefIdeal.τ Cert.H3RefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QRefIdeal (m : (ℓ : Loc Cert.QRefIdeal.nD Cert.QRefIdeal.τ Cert.QRefIdeal.sig) → Buf (Elt Ideal) ℓ) : Prop :=
  True

def Pre_H2 (m : (ℓ : Loc Cert.H2.nD Cert.H2.τ Cert.H2.sig) → Buf (Elt Bits) ℓ) : Prop :=
  True

def Pre_H2Ideal (m : (ℓ : Loc Cert.H2Ideal.nD Cert.H2Ideal.τ Cert.H2Ideal.sig) → Buf (Elt Ideal) ℓ) : Prop :=
  True

def Pre_H2RefIdeal (m : (ℓ : Loc Cert.H2RefIdeal.nD Cert.H2RefIdeal.τ Cert.H2RefIdeal.sig) → Buf (Elt Ideal) ℓ) : Prop :=
  True

def Pre_H1 (m : (ℓ : Loc Cert.H1.nD Cert.H1.τ Cert.H1.sig) → Buf (Elt Bits) ℓ) : Prop :=
  True

def Pre_H1Ideal (m : (ℓ : Loc Cert.H1Ideal.nD Cert.H1Ideal.τ Cert.H1Ideal.sig) → Buf (Elt Ideal) ℓ) : Prop :=
  True

def Pre_H1RefIdeal (m : (ℓ : Loc Cert.H1RefIdeal.nD Cert.H1RefIdeal.τ Cert.H1RefIdeal.sig) → Buf (Elt Ideal) ℓ) : Prop :=
  True

def Pre_Do (m : (ℓ : Loc Cert.Do.nD Cert.Do.τ Cert.Do.sig) → Buf (Elt Bits) ℓ) : Prop :=
  True

def Pre_DoIdeal (m : (ℓ : Loc Cert.DoIdeal.nD Cert.DoIdeal.τ Cert.DoIdeal.sig) → Buf (Elt Ideal) ℓ) : Prop :=
  True

def Pre_DoRefIdeal (m : (ℓ : Loc Cert.DoRefIdeal.nD Cert.DoRefIdeal.τ Cert.DoRefIdeal.sig) → Buf (Elt Ideal) ℓ) : Prop :=
  True

def Pre_Dxn2 (m : (ℓ : Loc Cert.Dxn2.nD Cert.Dxn2.τ Cert.Dxn2.sig) → Buf (Elt Bits) ℓ) : Prop :=
  True

def Pre_Dxn2Ideal (m : (ℓ : Loc Cert.Dxn2Ideal.nD Cert.Dxn2Ideal.τ Cert.Dxn2Ideal.sig) → Buf (Elt Ideal) ℓ) : Prop :=
  True

def Pre_Dxn2RefIdeal (m : (ℓ : Loc Cert.Dxn2RefIdeal.nD Cert.Dxn2RefIdeal.τ Cert.Dxn2RefIdeal.sig) → Buf (Elt Ideal) ℓ) : Prop :=
  True

def Pre_DwO (m : (ℓ : Loc Cert.DwO.nD Cert.DwO.τ Cert.DwO.sig) → Buf (Elt Bits) ℓ) : Prop :=
  True

def Pre_DwOIdeal (m : (ℓ : Loc Cert.DwOIdeal.nD Cert.DwOIdeal.τ Cert.DwOIdeal.sig) → Buf (Elt Ideal) ℓ) : Prop :=
  True

def Pre_DwORefIdeal (m : (ℓ : Loc Cert.DwORefIdeal.nD Cert.DwORefIdeal.τ Cert.DwORefIdeal.sig) → Buf (Elt Ideal) ℓ) : Prop :=
  True

def Pre_DwQ (m : (ℓ : Loc Cert.DwQ.nD Cert.DwQ.τ Cert.DwQ.sig) → Buf (Elt Bits) ℓ) : Prop :=
  True

def Pre_DwQIdeal (m : (ℓ : Loc Cert.DwQIdeal.nD Cert.DwQIdeal.τ Cert.DwQIdeal.sig) → Buf (Elt Ideal) ℓ) : Prop :=
  True

def Pre_DwQRefIdeal (m : (ℓ : Loc Cert.DwQRefIdeal.nD Cert.DwQRefIdeal.τ Cert.DwQRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_RmsMem (m : (ℓ : Loc Cert.RmsMem.nD Cert.RmsMem.τ Cert.RmsMem.sig) → Buf (Elt Bits) ℓ) : Prop :=
  True

def Pre_RmsMemIdeal (m : (ℓ : Loc Cert.RmsMemIdeal.nD Cert.RmsMemIdeal.τ Cert.RmsMemIdeal.sig) → Buf (Elt Ideal) ℓ) : Prop :=
  True

def Pre_RmsMemRefIdeal (m : (ℓ : Loc Cert.RmsMemRefIdeal.nD Cert.RmsMemRefIdeal.τ Cert.RmsMemRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamConvA (m : (ℓ : Loc Cert.AdamConvA.nD Cert.AdamConvA.τ Cert.AdamConvA.sig) → Buf (Elt Bits) ℓ) : Prop :=
  True

def Pre_AdamConvAIdeal (m : (ℓ : Loc Cert.AdamConvAIdeal.nD Cert.AdamConvAIdeal.τ Cert.AdamConvAIdeal.sig) → Buf (Elt Ideal) ℓ) : Prop :=
  True

def Pre_AdamConvARefIdeal (m : (ℓ : Loc Cert.AdamConvARefIdeal.nD Cert.AdamConvARefIdeal.τ Cert.AdamConvARefIdeal.sig) → Buf (Elt Ideal) ℓ) : Prop :=
  True

def Pre_AdamConvB (m : (ℓ : Loc Cert.AdamConvB.nD Cert.AdamConvB.τ Cert.AdamConvB.sig) → Buf (Elt Bits) ℓ) : Prop :=
  True

def Pre_AdamConvBIdeal (m : (ℓ : Loc Cert.AdamConvBIdeal.nD Cert.AdamConvBIdeal.τ Cert.AdamConvBIdeal.sig) → Buf (Elt Ideal) ℓ) : Prop :=
  True

def Pre_AdamConvBRefIdeal (m : (ℓ : Loc Cert.AdamConvBRefIdeal.nD Cert.AdamConvBRefIdeal.τ Cert.AdamConvBRefIdeal.sig) → Buf (Elt Ideal) ℓ) : Prop :=
  True

def Pre_AdamConvF (m : (ℓ : Loc Cert.AdamConvF.nD Cert.AdamConvF.τ Cert.AdamConvF.sig) → Buf (Elt Bits) ℓ) : Prop :=
  True

def Pre_AdamConvFIdeal (m : (ℓ : Loc Cert.AdamConvFIdeal.nD Cert.AdamConvFIdeal.τ Cert.AdamConvFIdeal.sig) → Buf (Elt Ideal) ℓ) : Prop :=
  True

def Pre_AdamConvFRefIdeal (m : (ℓ : Loc Cert.AdamConvFRefIdeal.nD Cert.AdamConvFRefIdeal.τ Cert.AdamConvFRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_Df [hDf : Cert.Df.Facts] : Prop :=
  ∀ (m : (ℓ : Loc Cert.Df.nD Cert.Df.τ Cert.Df.sig) → Buf (Elt Bits) ℓ) (g : Dev Cert.Df.nD → PrngReg), Pre_Df m →
    θ_run (Cert.Df.defs (F := Bits)) (onTc (τ := Cert.Df.τ) (Cert.Df.main (F := Bits))) ⟨m, fun _ => 0, g⟩ (fun r => (∀ c : Dev Cert.Df.nD,
      r.2.mem ((c.tc : Thread Cert.Df.nD Cert.Df.τ).loc Cert.Df.main_arg0) = m ((c.tc : Thread Cert.Df.nD Cert.Df.τ).loc Cert.Df.main_arg0)
      ∧ r.2.mem ((c.tc : Thread Cert.Df.nD Cert.Df.τ).loc Cert.Df.main_arg1) = m ((c.tc : Thread Cert.Df.nD Cert.Df.τ).loc Cert.Df.main_arg1))
      ∧ r.2.sem = fun _ => 0)

def quiescent_DfIdeal [hDfIdeal : Cert.DfIdeal.Facts] : Prop :=
  ∀ (m : (ℓ : Loc Cert.DfIdeal.nD Cert.DfIdeal.τ Cert.DfIdeal.sig) → Buf (Elt Ideal) ℓ) (g : Dev Cert.DfIdeal.nD → PrngReg), Pre_DfIdeal m →
    θ_run (Cert.DfIdeal.defs (F := Ideal)) (onTc (τ := Cert.DfIdeal.τ) (Cert.DfIdeal.main (F := Ideal))) ⟨m, fun _ => 0, g⟩ (fun r => (∀ c : Dev Cert.DfIdeal.nD,
      r.2.mem ((c.tc : Thread Cert.DfIdeal.nD Cert.DfIdeal.τ).loc Cert.DfIdeal.main_arg0) = m ((c.tc : Thread Cert.DfIdeal.nD Cert.DfIdeal.τ).loc Cert.DfIdeal.main_arg0)
      ∧ r.2.mem ((c.tc : Thread Cert.DfIdeal.nD Cert.DfIdeal.τ).loc Cert.DfIdeal.main_arg1) = m ((c.tc : Thread Cert.DfIdeal.nD Cert.DfIdeal.τ).loc Cert.DfIdeal.main_arg1))
      ∧ r.2.sem = fun _ => 0)

def quiescent_DfRefIdeal [hDfRefIdeal : Cert.DfRefIdeal.Facts] : Prop :=
  ∀ (m : (ℓ : Loc Cert.DfRefIdeal.nD Cert.DfRefIdeal.τ Cert.DfRefIdeal.sig) → Buf (Elt Ideal) ℓ) (g : Dev Cert.DfRefIdeal.nD → PrngReg), Pre_DfRefIdeal m →
    θ_run (Cert.DfRefIdeal.defs (F := Ideal)) (onTc (τ := Cert.DfRefIdeal.τ) (Cert.DfRefIdeal.main (F := Ideal))) ⟨m, fun _ => 0, g⟩ (fun r => (∀ c : Dev Cert.DfRefIdeal.nD,
      r.2.mem ((c.tc : Thread Cert.DfRefIdeal.nD Cert.DfRefIdeal.τ).loc Cert.DfRefIdeal.main_arg0) = m ((c.tc : Thread Cert.DfRefIdeal.nD Cert.DfRefIdeal.τ).loc Cert.DfRefIdeal.main_arg0)
      ∧ r.2.mem ((c.tc : Thread Cert.DfRefIdeal.nD Cert.DfRefIdeal.τ).loc Cert.DfRefIdeal.main_arg1) = m ((c.tc : Thread Cert.DfRefIdeal.nD Cert.DfRefIdeal.τ).loc Cert.DfRefIdeal.main_arg1))
      ∧ r.2.sem = fun _ => 0)

def quiescent_Dxn3 [hDxn3 : Cert.Dxn3.Facts] : Prop :=
  ∀ (m : (ℓ : Loc Cert.Dxn3.nD Cert.Dxn3.τ Cert.Dxn3.sig) → Buf (Elt Bits) ℓ) (g : Dev Cert.Dxn3.nD → PrngReg), Pre_Dxn3 m →
    θ_run (Cert.Dxn3.defs (F := Bits)) (onTc (τ := Cert.Dxn3.τ) (Cert.Dxn3.main (F := Bits))) ⟨m, fun _ => 0, g⟩ (fun r => (∀ c : Dev Cert.Dxn3.nD,
      r.2.mem ((c.tc : Thread Cert.Dxn3.nD Cert.Dxn3.τ).loc Cert.Dxn3.main_arg0) = m ((c.tc : Thread Cert.Dxn3.nD Cert.Dxn3.τ).loc Cert.Dxn3.main_arg0)
      ∧ r.2.mem ((c.tc : Thread Cert.Dxn3.nD Cert.Dxn3.τ).loc Cert.Dxn3.main_arg1) = m ((c.tc : Thread Cert.Dxn3.nD Cert.Dxn3.τ).loc Cert.Dxn3.main_arg1)
      ∧ r.2.mem ((c.tc : Thread Cert.Dxn3.nD Cert.Dxn3.τ).loc Cert.Dxn3.main_arg2) = m ((c.tc : Thread Cert.Dxn3.nD Cert.Dxn3.τ).loc Cert.Dxn3.main_arg2))
      ∧ r.2.sem = fun _ => 0)

def quiescent_Dxn3Ideal [hDxn3Ideal : Cert.Dxn3Ideal.Facts] : Prop :=
  ∀ (m : (ℓ : Loc Cert.Dxn3Ideal.nD Cert.Dxn3Ideal.τ Cert.Dxn3Ideal.sig) → Buf (Elt Ideal) ℓ) (g : Dev Cert.Dxn3Ideal.nD → PrngReg), Pre_Dxn3Ideal m →
    θ_run (Cert.Dxn3Ideal.defs (F := Ideal)) (onTc (τ := Cert.Dxn3Ideal.τ) (Cert.Dxn3Ideal.main (F := Ideal))) ⟨m, fun _ => 0, g⟩ (fun r => (∀ c : Dev Cert.Dxn3Ideal.nD,
      r.2.mem ((c.tc : Thread Cert.Dxn3Ideal.nD Cert.Dxn3Ideal.τ).loc Cert.Dxn3Ideal.main_arg0) = m ((c.tc : Thread Cert.Dxn3Ideal.nD Cert.Dxn3Ideal.τ).loc Cert.Dxn3Ideal.main_arg0)
      ∧ r.2.mem ((c.tc : Thread Cert.Dxn3Ideal.nD Cert.Dxn3Ideal.τ).loc Cert.Dxn3Ideal.main_arg1) = m ((c.tc : Thread Cert.Dxn3Ideal.nD Cert.Dxn3Ideal.τ).loc Cert.Dxn3Ideal.main_arg1)
      ∧ r.2.mem ((c.tc : Thread Cert.Dxn3Ideal.nD Cert.Dxn3Ideal.τ).loc Cert.Dxn3Ideal.main_arg2) = m ((c.tc : Thread Cert.Dxn3Ideal.nD Cert.Dxn3Ideal.τ).loc Cert.Dxn3Ideal.main_arg2))
      ∧ r.2.sem = fun _ => 0)

def quiescent_Dxn3RefIdeal [hDxn3RefIdeal : Cert.Dxn3RefIdeal.Facts] : Prop :=
  ∀ (m : (ℓ : Loc Cert.Dxn3RefIdeal.nD Cert.Dxn3RefIdeal.τ Cert.Dxn3RefIdeal.sig) → Buf (Elt Ideal) ℓ) (g : Dev Cert.Dxn3RefIdeal.nD → PrngReg), Pre_Dxn3RefIdeal m →
    θ_run (Cert.Dxn3RefIdeal.defs (F := Ideal)) (onTc (τ := Cert.Dxn3RefIdeal.τ) (Cert.Dxn3RefIdeal.main (F := Ideal))) ⟨m, fun _ => 0, g⟩ (fun r => (∀ c : Dev Cert.Dxn3RefIdeal.nD,
      r.2.mem ((c.tc : Thread Cert.Dxn3RefIdeal.nD Cert.Dxn3RefIdeal.τ).loc Cert.Dxn3RefIdeal.main_arg0) = m ((c.tc : Thread Cert.Dxn3RefIdeal.nD Cert.Dxn3RefIdeal.τ).loc Cert.Dxn3RefIdeal.main_arg0)
      ∧ r.2.mem ((c.tc : Thread Cert.Dxn3RefIdeal.nD Cert.Dxn3RefIdeal.τ).loc Cert.Dxn3RefIdeal.main_arg1) = m ((c.tc : Thread Cert.Dxn3RefIdeal.nD Cert.Dxn3RefIdeal.τ).loc Cert.Dxn3RefIdeal.main_arg1)
      ∧ r.2.mem ((c.tc : Thread Cert.Dxn3RefIdeal.nD Cert.Dxn3RefIdeal.τ).loc Cert.Dxn3RefIdeal.main_arg2) = m ((c.tc : Thread Cert.Dxn3RefIdeal.nD Cert.Dxn3RefIdeal.τ).loc Cert.Dxn3RefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Dxn1 [hDxn1 : Cert.Dxn1.Facts] : Prop :=
  ∀ (m : (ℓ : Loc Cert.Dxn1.nD Cert.Dxn1.τ Cert.Dxn1.sig) → Buf (Elt Bits) ℓ) (g : Dev Cert.Dxn1.nD → PrngReg), Pre_Dxn1 m →
    θ_run (Cert.Dxn1.defs (F := Bits)) (onTc (τ := Cert.Dxn1.τ) (Cert.Dxn1.main (F := Bits))) ⟨m, fun _ => 0, g⟩ (fun r => (∀ c : Dev Cert.Dxn1.nD,
      r.2.mem ((c.tc : Thread Cert.Dxn1.nD Cert.Dxn1.τ).loc Cert.Dxn1.main_arg0) = m ((c.tc : Thread Cert.Dxn1.nD Cert.Dxn1.τ).loc Cert.Dxn1.main_arg0)
      ∧ r.2.mem ((c.tc : Thread Cert.Dxn1.nD Cert.Dxn1.τ).loc Cert.Dxn1.main_arg1) = m ((c.tc : Thread Cert.Dxn1.nD Cert.Dxn1.τ).loc Cert.Dxn1.main_arg1))
      ∧ r.2.sem = fun _ => 0)

def quiescent_Dxn1Ideal [hDxn1Ideal : Cert.Dxn1Ideal.Facts] : Prop :=
  ∀ (m : (ℓ : Loc Cert.Dxn1Ideal.nD Cert.Dxn1Ideal.τ Cert.Dxn1Ideal.sig) → Buf (Elt Ideal) ℓ) (g : Dev Cert.Dxn1Ideal.nD → PrngReg), Pre_Dxn1Ideal m →
    θ_run (Cert.Dxn1Ideal.defs (F := Ideal)) (onTc (τ := Cert.Dxn1Ideal.τ) (Cert.Dxn1Ideal.main (F := Ideal))) ⟨m, fun _ => 0, g⟩ (fun r => (∀ c : Dev Cert.Dxn1Ideal.nD,
      r.2.mem ((c.tc : Thread Cert.Dxn1Ideal.nD Cert.Dxn1Ideal.τ).loc Cert.Dxn1Ideal.main_arg0) = m ((c.tc : Thread Cert.Dxn1Ideal.nD Cert.Dxn1Ideal.τ).loc Cert.Dxn1Ideal.main_arg0)
      ∧ r.2.mem ((c.tc : Thread Cert.Dxn1Ideal.nD Cert.Dxn1Ideal.τ).loc Cert.Dxn1Ideal.main_arg1) = m ((c.tc : Thread Cert.Dxn1Ideal.nD Cert.Dxn1Ideal.τ).loc Cert.Dxn1Ideal.main_arg1))
      ∧ r.2.sem = fun _ => 0)

def quiescent_Dxn1RefIdeal [hDxn1RefIdeal : Cert.Dxn1RefIdeal.Facts] : Prop :=
  ∀ (m : (ℓ : Loc Cert.Dxn1RefIdeal.nD Cert.Dxn1RefIdeal.τ Cert.Dxn1RefIdeal.sig) → Buf (Elt Ideal) ℓ) (g : Dev Cert.Dxn1RefIdeal.nD → PrngReg), Pre_Dxn1RefIdeal m →
    θ_run (Cert.Dxn1RefIdeal.defs (F := Ideal)) (onTc (τ := Cert.Dxn1RefIdeal.τ) (Cert.Dxn1RefIdeal.main (F := Ideal))) ⟨m, fun _ => 0, g⟩ (fun r => (∀ c : Dev Cert.Dxn1RefIdeal.nD,
      r.2.mem ((c.tc : Thread Cert.Dxn1RefIdeal.nD Cert.Dxn1RefIdeal.τ).loc Cert.Dxn1RefIdeal.main_arg0) = m ((c.tc : Thread Cert.Dxn1RefIdeal.nD Cert.Dxn1RefIdeal.τ).loc Cert.Dxn1RefIdeal.main_arg0)
      ∧ r.2.mem ((c.tc : Thread Cert.Dxn1RefIdeal.nD Cert.Dxn1RefIdeal.τ).loc Cert.Dxn1RefIdeal.main_arg1) = m ((c.tc : Thread Cert.Dxn1RefIdeal.nD Cert.Dxn1RefIdeal.τ).loc Cert.Dxn1RefIdeal.main_arg1))
      ∧ r.2.sem = fun _ => 0)

def quiescent_H3 [hH3 : Cert.H3.Facts] : Prop :=
  ∀ (m : (ℓ : Loc Cert.H3.nD Cert.H3.τ Cert.H3.sig) → Buf (Elt Bits) ℓ) (g : Dev Cert.H3.nD → PrngReg), Pre_H3 m →
    θ_run (Cert.H3.defs (F := Bits)) (onTc (τ := Cert.H3.τ) (Cert.H3.main (F := Bits))) ⟨m, fun _ => 0, g⟩ (fun r => (∀ c : Dev Cert.H3.nD,
      r.2.mem ((c.tc : Thread Cert.H3.nD Cert.H3.τ).loc Cert.H3.main_arg0) = m ((c.tc : Thread Cert.H3.nD Cert.H3.τ).loc Cert.H3.main_arg0)
      ∧ r.2.mem ((c.tc : Thread Cert.H3.nD Cert.H3.τ).loc Cert.H3.main_arg1) = m ((c.tc : Thread Cert.H3.nD Cert.H3.τ).loc Cert.H3.main_arg1)
      ∧ r.2.mem ((c.tc : Thread Cert.H3.nD Cert.H3.τ).loc Cert.H3.main_arg2) = m ((c.tc : Thread Cert.H3.nD Cert.H3.τ).loc Cert.H3.main_arg2))
      ∧ r.2.sem = fun _ => 0)

def quiescent_H3Ideal [hH3Ideal : Cert.H3Ideal.Facts] : Prop :=
  ∀ (m : (ℓ : Loc Cert.H3Ideal.nD Cert.H3Ideal.τ Cert.H3Ideal.sig) → Buf (Elt Ideal) ℓ) (g : Dev Cert.H3Ideal.nD → PrngReg), Pre_H3Ideal m →
    θ_run (Cert.H3Ideal.defs (F := Ideal)) (onTc (τ := Cert.H3Ideal.τ) (Cert.H3Ideal.main (F := Ideal))) ⟨m, fun _ => 0, g⟩ (fun r => (∀ c : Dev Cert.H3Ideal.nD,
      r.2.mem ((c.tc : Thread Cert.H3Ideal.nD Cert.H3Ideal.τ).loc Cert.H3Ideal.main_arg0) = m ((c.tc : Thread Cert.H3Ideal.nD Cert.H3Ideal.τ).loc Cert.H3Ideal.main_arg0)
      ∧ r.2.mem ((c.tc : Thread Cert.H3Ideal.nD Cert.H3Ideal.τ).loc Cert.H3Ideal.main_arg1) = m ((c.tc : Thread Cert.H3Ideal.nD Cert.H3Ideal.τ).loc Cert.H3Ideal.main_arg1)
      ∧ r.2.mem ((c.tc : Thread Cert.H3Ideal.nD Cert.H3Ideal.τ).loc Cert.H3Ideal.main_arg2) = m ((c.tc : Thread Cert.H3Ideal.nD Cert.H3Ideal.τ).loc Cert.H3Ideal.main_arg2))
      ∧ r.2.sem = fun _ => 0)

def quiescent_H3RefIdeal [hH3RefIdeal : Cert.H3RefIdeal.Facts] : Prop :=
  ∀ (m : (ℓ : Loc Cert.H3RefIdeal.nD Cert.H3RefIdeal.τ Cert.H3RefIdeal.sig) → Buf (Elt Ideal) ℓ) (g : Dev Cert.H3RefIdeal.nD → PrngReg), Pre_H3RefIdeal m →
    θ_run (Cert.H3RefIdeal.defs (F := Ideal)) (onTc (τ := Cert.H3RefIdeal.τ) (Cert.H3RefIdeal.main (F := Ideal))) ⟨m, fun _ => 0, g⟩ (fun r => (∀ c : Dev Cert.H3RefIdeal.nD,
      r.2.mem ((c.tc : Thread Cert.H3RefIdeal.nD Cert.H3RefIdeal.τ).loc Cert.H3RefIdeal.main_arg0) = m ((c.tc : Thread Cert.H3RefIdeal.nD Cert.H3RefIdeal.τ).loc Cert.H3RefIdeal.main_arg0)
      ∧ r.2.mem ((c.tc : Thread Cert.H3RefIdeal.nD Cert.H3RefIdeal.τ).loc Cert.H3RefIdeal.main_arg1) = m ((c.tc : Thread Cert.H3RefIdeal.nD Cert.H3RefIdeal.τ).loc Cert.H3RefIdeal.main_arg1)
      ∧ r.2.mem ((c.tc : Thread Cert.H3RefIdeal.nD Cert.H3RefIdeal.τ).loc Cert.H3RefIdeal.main_arg2) = m ((c.tc : Thread Cert.H3RefIdeal.nD Cert.H3RefIdeal.τ).loc Cert.H3RefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1))
      ∧ r.2.sem = fun _ => 0)

def quiescent_H2 [hH2 : Cert.H2.Facts] : Prop :=
  ∀ (m : (ℓ : Loc Cert.H2.nD Cert.H2.τ Cert.H2.sig) → Buf (Elt Bits) ℓ) (g : Dev Cert.H2.nD → PrngReg), Pre_H2 m →
    θ_run (Cert.H2.defs (F := Bits)) (onTc (τ := Cert.H2.τ) (Cert.H2.main (F := Bits))) ⟨m, fun _ => 0, g⟩ (fun r => (∀ c : Dev Cert.H2.nD,
      r.2.mem ((c.tc : Thread Cert.H2.nD Cert.H2.τ).loc Cert.H2.main_arg0) = m ((c.tc : Thread Cert.H2.nD Cert.H2.τ).loc Cert.H2.main_arg0)
      ∧ r.2.mem ((c.tc : Thread Cert.H2.nD Cert.H2.τ).loc Cert.H2.main_arg1) = m ((c.tc : Thread Cert.H2.nD Cert.H2.τ).loc Cert.H2.main_arg1)
      ∧ r.2.mem ((c.tc : Thread Cert.H2.nD Cert.H2.τ).loc Cert.H2.main_arg2) = m ((c.tc : Thread Cert.H2.nD Cert.H2.τ).loc Cert.H2.main_arg2))
      ∧ r.2.sem = fun _ => 0)

def quiescent_H2Ideal [hH2Ideal : Cert.H2Ideal.Facts] : Prop :=
  ∀ (m : (ℓ : Loc Cert.H2Ideal.nD Cert.H2Ideal.τ Cert.H2Ideal.sig) → Buf (Elt Ideal) ℓ) (g : Dev Cert.H2Ideal.nD → PrngReg), Pre_H2Ideal m →
    θ_run (Cert.H2Ideal.defs (F := Ideal)) (onTc (τ := Cert.H2Ideal.τ) (Cert.H2Ideal.main (F := Ideal))) ⟨m, fun _ => 0, g⟩ (fun r => (∀ c : Dev Cert.H2Ideal.nD,
      r.2.mem ((c.tc : Thread Cert.H2Ideal.nD Cert.H2Ideal.τ).loc Cert.H2Ideal.main_arg0) = m ((c.tc : Thread Cert.H2Ideal.nD Cert.H2Ideal.τ).loc Cert.H2Ideal.main_arg0)
      ∧ r.2.mem ((c.tc : Thread Cert.H2Ideal.nD Cert.H2Ideal.τ).loc Cert.H2Ideal.main_arg1) = m ((c.tc : Thread Cert.H2Ideal.nD Cert.H2Ideal.τ).loc Cert.H2Ideal.main_arg1)
      ∧ r.2.mem ((c.tc : Thread Cert.H2Ideal.nD Cert.H2Ideal.τ).loc Cert.H2Ideal.main_arg2) = m ((c.tc : Thread Cert.H2Ideal.nD Cert.H2Ideal.τ).loc Cert.H2Ideal.main_arg2))
      ∧ r.2.sem = fun _ => 0)

def quiescent_H2RefIdeal [hH2RefIdeal : Cert.H2RefIdeal.Facts] : Prop :=
  ∀ (m : (ℓ : Loc Cert.H2RefIdeal.nD Cert.H2RefIdeal.τ Cert.H2RefIdeal.sig) → Buf (Elt Ideal) ℓ) (g : Dev Cert.H2RefIdeal.nD → PrngReg), Pre_H2RefIdeal m →
    θ_run (Cert.H2RefIdeal.defs (F := Ideal)) (onTc (τ := Cert.H2RefIdeal.τ) (Cert.H2RefIdeal.main (F := Ideal))) ⟨m, fun _ => 0, g⟩ (fun r => (∀ c : Dev Cert.H2RefIdeal.nD,
      r.2.mem ((c.tc : Thread Cert.H2RefIdeal.nD Cert.H2RefIdeal.τ).loc Cert.H2RefIdeal.main_arg0) = m ((c.tc : Thread Cert.H2RefIdeal.nD Cert.H2RefIdeal.τ).loc Cert.H2RefIdeal.main_arg0)
      ∧ r.2.mem ((c.tc : Thread Cert.H2RefIdeal.nD Cert.H2RefIdeal.τ).loc Cert.H2RefIdeal.main_arg1) = m ((c.tc : Thread Cert.H2RefIdeal.nD Cert.H2RefIdeal.τ).loc Cert.H2RefIdeal.main_arg1)
      ∧ r.2.mem ((c.tc : Thread Cert.H2RefIdeal.nD Cert.H2RefIdeal.τ).loc Cert.H2RefIdeal.main_arg2) = m ((c.tc : Thread Cert.H2RefIdeal.nD Cert.H2RefIdeal.τ).loc Cert.H2RefIdeal.main_arg2))
      ∧ r.2.sem = fun _ => 0)

def quiescent_H1 [hH1 : Cert.H1.Facts] : Prop :=
  ∀ (m : (ℓ : Loc Cert.H1.nD Cert.H1.τ Cert.H1.sig) → Buf (Elt Bits) ℓ) (g : Dev Cert.H1.nD → PrngReg), Pre_H1 m →
    θ_run (Cert.H1.defs (F := Bits)) (onTc (τ := Cert.H1.τ) (Cert.H1.main (F := Bits))) ⟨m, fun _ => 0, g⟩ (fun r => (∀ c : Dev Cert.H1.nD,
      r.2.mem ((c.tc : Thread Cert.H1.nD Cert.H1.τ).loc Cert.H1.main_arg0) = m ((c.tc : Thread Cert.H1.nD Cert.H1.τ).loc Cert.H1.main_arg0)
      ∧ r.2.mem ((c.tc : Thread Cert.H1.nD Cert.H1.τ).loc Cert.H1.main_arg1) = m ((c.tc : Thread Cert.H1.nD Cert.H1.τ).loc Cert.H1.main_arg1)
      ∧ r.2.mem ((c.tc : Thread Cert.H1.nD Cert.H1.τ).loc Cert.H1.main_arg2) = m ((c.tc : Thread Cert.H1.nD Cert.H1.τ).loc Cert.H1.main_arg2))
      ∧ r.2.sem = fun _ => 0)

def quiescent_H1Ideal [hH1Ideal : Cert.H1Ideal.Facts] : Prop :=
  ∀ (m : (ℓ : Loc Cert.H1Ideal.nD Cert.H1Ideal.τ Cert.H1Ideal.sig) → Buf (Elt Ideal) ℓ) (g : Dev Cert.H1Ideal.nD → PrngReg), Pre_H1Ideal m →
    θ_run (Cert.H1Ideal.defs (F := Ideal)) (onTc (τ := Cert.H1Ideal.τ) (Cert.H1Ideal.main (F := Ideal))) ⟨m, fun _ => 0, g⟩ (fun r => (∀ c : Dev Cert.H1Ideal.nD,
      r.2.mem ((c.tc : Thread Cert.H1Ideal.nD Cert.H1Ideal.τ).loc Cert.H1Ideal.main_arg0) = m ((c.tc : Thread Cert.H1Ideal.nD Cert.H1Ideal.τ).loc Cert.H1Ideal.main_arg0)
      ∧ r.2.mem ((c.tc : Thread Cert.H1Ideal.nD Cert.H1Ideal.τ).loc Cert.H1Ideal.main_arg1) = m ((c.tc : Thread Cert.H1Ideal.nD Cert.H1Ideal.τ).loc Cert.H1Ideal.main_arg1)
      ∧ r.2.mem ((c.tc : Thread Cert.H1Ideal.nD Cert.H1Ideal.τ).loc Cert.H1Ideal.main_arg2) = m ((c.tc : Thread Cert.H1Ideal.nD Cert.H1Ideal.τ).loc Cert.H1Ideal.main_arg2))
      ∧ r.2.sem = fun _ => 0)

def quiescent_H1RefIdeal [hH1RefIdeal : Cert.H1RefIdeal.Facts] : Prop :=
  ∀ (m : (ℓ : Loc Cert.H1RefIdeal.nD Cert.H1RefIdeal.τ Cert.H1RefIdeal.sig) → Buf (Elt Ideal) ℓ) (g : Dev Cert.H1RefIdeal.nD → PrngReg), Pre_H1RefIdeal m →
    θ_run (Cert.H1RefIdeal.defs (F := Ideal)) (onTc (τ := Cert.H1RefIdeal.τ) (Cert.H1RefIdeal.main (F := Ideal))) ⟨m, fun _ => 0, g⟩ (fun r => (∀ c : Dev Cert.H1RefIdeal.nD,
      r.2.mem ((c.tc : Thread Cert.H1RefIdeal.nD Cert.H1RefIdeal.τ).loc Cert.H1RefIdeal.main_arg0) = m ((c.tc : Thread Cert.H1RefIdeal.nD Cert.H1RefIdeal.τ).loc Cert.H1RefIdeal.main_arg0)
      ∧ r.2.mem ((c.tc : Thread Cert.H1RefIdeal.nD Cert.H1RefIdeal.τ).loc Cert.H1RefIdeal.main_arg1) = m ((c.tc : Thread Cert.H1RefIdeal.nD Cert.H1RefIdeal.τ).loc Cert.H1RefIdeal.main_arg1)
      ∧ r.2.mem ((c.tc : Thread Cert.H1RefIdeal.nD Cert.H1RefIdeal.τ).loc Cert.H1RefIdeal.main_arg2) = m ((c.tc : Thread Cert.H1RefIdeal.nD Cert.H1RefIdeal.τ).loc Cert.H1RefIdeal.main_arg2))
      ∧ r.2.sem = fun _ => 0)

def quiescent_Do [hDo : Cert.Do.Facts] : Prop :=
  ∀ (m : (ℓ : Loc Cert.Do.nD Cert.Do.τ Cert.Do.sig) → Buf (Elt Bits) ℓ) (g : Dev Cert.Do.nD → PrngReg), Pre_Do m →
    θ_run (Cert.Do.defs (F := Bits)) (onTc (τ := Cert.Do.τ) (Cert.Do.main (F := Bits))) ⟨m, fun _ => 0, g⟩ (fun r => (∀ c : Dev Cert.Do.nD,
      r.2.mem ((c.tc : Thread Cert.Do.nD Cert.Do.τ).loc Cert.Do.main_arg0) = m ((c.tc : Thread Cert.Do.nD Cert.Do.τ).loc Cert.Do.main_arg0)
      ∧ r.2.mem ((c.tc : Thread Cert.Do.nD Cert.Do.τ).loc Cert.Do.main_arg1) = m ((c.tc : Thread Cert.Do.nD Cert.Do.τ).loc Cert.Do.main_arg1))
      ∧ r.2.sem = fun _ => 0)

def quiescent_DoIdeal [hDoIdeal : Cert.DoIdeal.Facts] : Prop :=
  ∀ (m : (ℓ : Loc Cert.DoIdeal.nD Cert.DoIdeal.τ Cert.DoIdeal.sig) → Buf (Elt Ideal) ℓ) (g : Dev Cert.DoIdeal.nD → PrngReg), Pre_DoIdeal m →
    θ_run (Cert.DoIdeal.defs (F := Ideal)) (onTc (τ := Cert.DoIdeal.τ) (Cert.DoIdeal.main (F := Ideal))) ⟨m, fun _ => 0, g⟩ (fun r => (∀ c : Dev Cert.DoIdeal.nD,
      r.2.mem ((c.tc : Thread Cert.DoIdeal.nD Cert.DoIdeal.τ).loc Cert.DoIdeal.main_arg0) = m ((c.tc : Thread Cert.DoIdeal.nD Cert.DoIdeal.τ).loc Cert.DoIdeal.main_arg0)
      ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ r.2.sem = fun _ => 0)

def quiescent_DoRefIdeal [hDoRefIdeal : Cert.DoRefIdeal.Facts] : Prop :=
  ∀ (m : (ℓ : Loc Cert.DoRefIdeal.nD Cert.DoRefIdeal.τ Cert.DoRefIdeal.sig) → Buf (Elt Ideal) ℓ) (g : Dev Cert.DoRefIdeal.nD → PrngReg), Pre_DoRefIdeal m →
    θ_run (Cert.DoRefIdeal.defs (F := Ideal)) (onTc (τ := Cert.DoRefIdeal.τ) (Cert.DoRefIdeal.main (F := Ideal))) ⟨m, fun _ => 0, g⟩ (fun r => (∀ c : Dev Cert.DoRefIdeal.nD,
      r.2.mem ((c.tc : Thread Cert.DoRefIdeal.nD Cert.DoRefIdeal.τ).loc Cert.DoRefIdeal.main_arg0) = m ((c.tc : Thread Cert.DoRefIdeal.nD Cert.DoRefIdeal.τ).loc Cert.DoRefIdeal.main_arg0)
      ∧ r.2.mem ((c.tc : Thread Cert.DoRefIdeal.nD Cert.DoRefIdeal.τ).loc Cert.DoRefIdeal.main_arg1) = m ((c.tc : Thread Cert.DoRefIdeal.nD Cert.DoRefIdeal.τ).loc Cert.DoRefIdeal.main_arg1))
      ∧ r.2.sem = fun _ => 0)

def quiescent_Dxn2 [hDxn2 : Cert.Dxn2.Facts] : Prop :=
  ∀ (m : (ℓ : Loc Cert.Dxn2.nD Cert.Dxn2.τ Cert.Dxn2.sig) → Buf (Elt Bits) ℓ) (g : Dev Cert.Dxn2.nD → PrngReg), Pre_Dxn2 m →
    θ_run (Cert.Dxn2.defs (F := Bits)) (onTc (τ := Cert.Dxn2.τ) (Cert.Dxn2.main (F := Bits))) ⟨m, fun _ => 0, g⟩ (fun r => (∀ c : Dev Cert.Dxn2.nD,
      r.2.mem ((c.tc : Thread Cert.Dxn2.nD Cert.Dxn2.τ).loc Cert.Dxn2.main_arg0) = m ((c.tc : Thread Cert.Dxn2.nD Cert.Dxn2.τ).loc Cert.Dxn2.main_arg0)
      ∧ r.2.mem ((c.tc : Thread Cert.Dxn2.nD Cert.Dxn2.τ).loc Cert.Dxn2.main_arg1) = m ((c.tc : Thread Cert.Dxn2.nD Cert.Dxn2.τ).loc Cert.Dxn2.main_arg1))
      ∧ r.2.sem = fun _ => 0)

def quiescent_Dxn2Ideal [hDxn2Ideal : Cert.Dxn2Ideal.Facts] : Prop :=
  ∀ (m : (ℓ : Loc Cert.Dxn2Ideal.nD Cert.Dxn2Ideal.τ Cert.Dxn2Ideal.sig) → Buf (Elt Ideal) ℓ) (g : Dev Cert.Dxn2Ideal.nD → PrngReg), Pre_Dxn2Ideal m →
    θ_run (Cert.Dxn2Ideal.defs (F := Ideal)) (onTc (τ := Cert.Dxn2Ideal.τ) (Cert.Dxn2Ideal.main (F := Ideal))) ⟨m, fun _ => 0, g⟩ (fun r => (∀ c : Dev Cert.Dxn2Ideal.nD,
      r.2.mem ((c.tc : Thread Cert.Dxn2Ideal.nD Cert.Dxn2Ideal.τ).loc Cert.Dxn2Ideal.main_arg0) = m ((c.tc : Thread Cert.Dxn2Ideal.nD Cert.Dxn2Ideal.τ).loc Cert.Dxn2Ideal.main_arg0)
      ∧ r.2.mem ((c.tc : Thread Cert.Dxn2Ideal.nD Cert.Dxn2Ideal.τ).loc Cert.Dxn2Ideal.main_arg1) = m ((c.tc : Thread Cert.Dxn2Ideal.nD Cert.Dxn2Ideal.τ).loc Cert.Dxn2Ideal.main_arg1))
      ∧ r.2.sem = fun _ => 0)

def quiescent_Dxn2RefIdeal [hDxn2RefIdeal : Cert.Dxn2RefIdeal.Facts] : Prop :=
  ∀ (m : (ℓ : Loc Cert.Dxn2RefIdeal.nD Cert.Dxn2RefIdeal.τ Cert.Dxn2RefIdeal.sig) → Buf (Elt Ideal) ℓ) (g : Dev Cert.Dxn2RefIdeal.nD → PrngReg), Pre_Dxn2RefIdeal m →
    θ_run (Cert.Dxn2RefIdeal.defs (F := Ideal)) (onTc (τ := Cert.Dxn2RefIdeal.τ) (Cert.Dxn2RefIdeal.main (F := Ideal))) ⟨m, fun _ => 0, g⟩ (fun r => (∀ c : Dev Cert.Dxn2RefIdeal.nD,
      r.2.mem ((c.tc : Thread Cert.Dxn2RefIdeal.nD Cert.Dxn2RefIdeal.τ).loc Cert.Dxn2RefIdeal.main_arg0) = m ((c.tc : Thread Cert.Dxn2RefIdeal.nD Cert.Dxn2RefIdeal.τ).loc Cert.Dxn2RefIdeal.main_arg0)
      ∧ r.2.mem ((c.tc : Thread Cert.Dxn2RefIdeal.nD Cert.Dxn2RefIdeal.τ).loc Cert.Dxn2RefIdeal.main_arg1) = m ((c.tc : Thread Cert.Dxn2RefIdeal.nD Cert.Dxn2RefIdeal.τ).loc Cert.Dxn2RefIdeal.main_arg1))
      ∧ r.2.sem = fun _ => 0)

def quiescent_DwO [hDwO : Cert.DwO.Facts] : Prop :=
  ∀ (m : (ℓ : Loc Cert.DwO.nD Cert.DwO.τ Cert.DwO.sig) → Buf (Elt Bits) ℓ) (g : Dev Cert.DwO.nD → PrngReg), Pre_DwO m →
    θ_run (Cert.DwO.defs (F := Bits)) (onTc (τ := Cert.DwO.τ) (Cert.DwO.main (F := Bits))) ⟨m, fun _ => 0, g⟩ (fun r => (∀ c : Dev Cert.DwO.nD,
      r.2.mem ((c.tc : Thread Cert.DwO.nD Cert.DwO.τ).loc Cert.DwO.main_arg0) = m ((c.tc : Thread Cert.DwO.nD Cert.DwO.τ).loc Cert.DwO.main_arg0)
      ∧ r.2.mem ((c.tc : Thread Cert.DwO.nD Cert.DwO.τ).loc Cert.DwO.main_arg1) = m ((c.tc : Thread Cert.DwO.nD Cert.DwO.τ).loc Cert.DwO.main_arg1))
      ∧ r.2.sem = fun _ => 0)

def quiescent_DwOIdeal [hDwOIdeal : Cert.DwOIdeal.Facts] : Prop :=
  ∀ (m : (ℓ : Loc Cert.DwOIdeal.nD Cert.DwOIdeal.τ Cert.DwOIdeal.sig) → Buf (Elt Ideal) ℓ) (g : Dev Cert.DwOIdeal.nD → PrngReg), Pre_DwOIdeal m →
    θ_run (Cert.DwOIdeal.defs (F := Ideal)) (onTc (τ := Cert.DwOIdeal.τ) (Cert.DwOIdeal.main (F := Ideal))) ⟨m, fun _ => 0, g⟩ (fun r => (∀ c : Dev Cert.DwOIdeal.nD,
      r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
      ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ r.2.sem = fun _ => 0)

def quiescent_DwORefIdeal [hDwORefIdeal : Cert.DwORefIdeal.Facts] : Prop :=
  ∀ (m : (ℓ : Loc Cert.DwORefIdeal.nD Cert.DwORefIdeal.τ Cert.DwORefIdeal.sig) → Buf (Elt Ideal) ℓ) (g : Dev Cert.DwORefIdeal.nD → PrngReg), Pre_DwORefIdeal m →
    θ_run (Cert.DwORefIdeal.defs (F := Ideal)) (onTc (τ := Cert.DwORefIdeal.τ) (Cert.DwORefIdeal.main (F := Ideal))) ⟨m, fun _ => 0, g⟩ (fun r => (∀ c : Dev Cert.DwORefIdeal.nD,
      r.2.mem ((c.tc : Thread Cert.DwORefIdeal.nD Cert.DwORefIdeal.τ).loc Cert.DwORefIdeal.main_arg0) = m ((c.tc : Thread Cert.DwORefIdeal.nD Cert.DwORefIdeal.τ).loc Cert.DwORefIdeal.main_arg0)
      ∧ r.2.mem ((c.tc : Thread Cert.DwORefIdeal.nD Cert.DwORefIdeal.τ).loc Cert.DwORefIdeal.main_arg1) = m ((c.tc : Thread Cert.DwORefIdeal.nD Cert.DwORefIdeal.τ).loc Cert.DwORefIdeal.main_arg1))
      ∧ r.2.sem = fun _ => 0)

def quiescent_DwQ [hDwQ : Cert.DwQ.Facts] : Prop :=
  ∀ (m : (ℓ : Loc Cert.DwQ.nD Cert.DwQ.τ Cert.DwQ.sig) → Buf (Elt Bits) ℓ) (g : Dev Cert.DwQ.nD → PrngReg), Pre_DwQ m →
    θ_run (Cert.DwQ.defs (F := Bits)) (onTc (τ := Cert.DwQ.τ) (Cert.DwQ.main (F := Bits))) ⟨m, fun _ => 0, g⟩ (fun r => (∀ c : Dev Cert.DwQ.nD,
      r.2.mem ((c.tc : Thread Cert.DwQ.nD Cert.DwQ.τ).loc Cert.DwQ.main_arg0) = m ((c.tc : Thread Cert.DwQ.nD Cert.DwQ.τ).loc Cert.DwQ.main_arg0)
      ∧ r.2.mem ((c.tc : Thread Cert.DwQ.nD Cert.DwQ.τ).loc Cert.DwQ.main_arg1) = m ((c.tc : Thread Cert.DwQ.nD Cert.DwQ.τ).loc Cert.DwQ.main_arg1))
      ∧ r.2.sem = fun _ => 0)

def quiescent_DwQIdeal [hDwQIdeal : Cert.DwQIdeal.Facts] : Prop :=
  ∀ (m : (ℓ : Loc Cert.DwQIdeal.nD Cert.DwQIdeal.τ Cert.DwQIdeal.sig) → Buf (Elt Ideal) ℓ) (g : Dev Cert.DwQIdeal.nD → PrngReg), Pre_DwQIdeal m →
    θ_run (Cert.DwQIdeal.defs (F := Ideal)) (onTc (τ := Cert.DwQIdeal.τ) (Cert.DwQIdeal.main (F := Ideal))) ⟨m, fun _ => 0, g⟩ (fun r => (∀ c : Dev Cert.DwQIdeal.nD,
      r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
      ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ r.2.sem = fun _ => 0)

def quiescent_DwQRefIdeal [hDwQRefIdeal : Cert.DwQRefIdeal.Facts] : Prop :=
  ∀ (m : (ℓ : Loc Cert.DwQRefIdeal.nD Cert.DwQRefIdeal.τ Cert.DwQRefIdeal.sig) → Buf (Elt Ideal) ℓ) (g : Dev Cert.DwQRefIdeal.nD → PrngReg), Pre_DwQRefIdeal m →
    θ_run (Cert.DwQRefIdeal.defs (F := Ideal)) (onTc (τ := Cert.DwQRefIdeal.τ) (Cert.DwQRefIdeal.main (F := Ideal))) ⟨m, fun _ => 0, g⟩ (fun r => (∀ c : Dev Cert.DwQRefIdeal.nD,
      r.2.mem ((c.tc : Thread Cert.DwQRefIdeal.nD Cert.DwQRefIdeal.τ).loc Cert.DwQRefIdeal.main_arg0) = m ((c.tc : Thread Cert.DwQRefIdeal.nD Cert.DwQRefIdeal.τ).loc Cert.DwQRefIdeal.main_arg0)
      ∧ r.2.mem ((c.tc : Thread Cert.DwQRefIdeal.nD Cert.DwQRefIdeal.τ).loc Cert.DwQRefIdeal.main_arg1) = m ((c.tc : Thread Cert.DwQRefIdeal.nD Cert.DwQRefIdeal.τ).loc Cert.DwQRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_RmsMem [hRmsMem : Cert.RmsMem.Facts] : Prop :=
  ∀ (m : (ℓ : Loc Cert.RmsMem.nD Cert.RmsMem.τ Cert.RmsMem.sig) → Buf (Elt Bits) ℓ) (g : Dev Cert.RmsMem.nD → PrngReg), Pre_RmsMem m →
    θ_run (Cert.RmsMem.defs (F := Bits)) (onTc (τ := Cert.RmsMem.τ) (Cert.RmsMem.main (F := Bits))) ⟨m, fun _ => 0, g⟩ (fun r => (∀ c : Dev Cert.RmsMem.nD,
      r.2.mem ((c.tc : Thread Cert.RmsMem.nD Cert.RmsMem.τ).loc Cert.RmsMem.main_arg0) = m ((c.tc : Thread Cert.RmsMem.nD Cert.RmsMem.τ).loc Cert.RmsMem.main_arg0)
      ∧ r.2.mem ((c.tc : Thread Cert.RmsMem.nD Cert.RmsMem.τ).loc Cert.RmsMem.main_arg1) = m ((c.tc : Thread Cert.RmsMem.nD Cert.RmsMem.τ).loc Cert.RmsMem.main_arg1)
      ∧ r.2.mem ((c.tc : Thread Cert.RmsMem.nD Cert.RmsMem.τ).loc Cert.RmsMem.main_arg2) = m ((c.tc : Thread Cert.RmsMem.nD Cert.RmsMem.τ).loc Cert.RmsMem.main_arg2))
      ∧ r.2.sem = fun _ => 0)

def quiescent_RmsMemIdeal [hRmsMemIdeal : Cert.RmsMemIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg), Pre_RmsMemIdeal m →
    θ_run (Cert.RmsMemIdeal.defs (F := Ideal)) (onTc (τ := Cert.RmsMemIdeal.τ) (Cert.RmsMemIdeal.main (F := Ideal))) ⟨m, fun _ => 0, g⟩ (fun r => (∀ c : Dev Cert.RmsMemIdeal.nD,
      r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
      ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1)
      ∧ r.2.mem ((c.tc : Thread Cert.RmsMemIdeal.nD Cert.RmsMemIdeal.τ).loc Cert.RmsMemIdeal.main_arg2) = m ((c.tc : Thread Cert.RmsMemIdeal.nD Cert.RmsMemIdeal.τ).loc Cert.RmsMemIdeal.main_arg2))
      ∧ r.2.sem = fun _ => 0)

def quiescent_RmsMemRefIdeal [hRmsMemRefIdeal : Cert.RmsMemRefIdeal.Facts] : Prop :=
  ∀ (m : (ℓ : Loc Cert.RmsMemRefIdeal.nD Cert.RmsMemRefIdeal.τ Cert.RmsMemRefIdeal.sig) → Buf (Elt Ideal) ℓ) (g : Dev Cert.RmsMemRefIdeal.nD → PrngReg), Pre_RmsMemRefIdeal m →
    θ_run (Cert.RmsMemRefIdeal.defs (F := Ideal)) (onTc (τ := Cert.RmsMemRefIdeal.τ) (Cert.RmsMemRefIdeal.main (F := Ideal))) ⟨m, fun _ => 0, g⟩ (fun r => (∀ c : Dev Cert.RmsMemRefIdeal.nD,
      r.2.mem ((c.tc : Thread Cert.RmsMemRefIdeal.nD Cert.RmsMemRefIdeal.τ).loc Cert.RmsMemRefIdeal.main_arg0) = m ((c.tc : Thread Cert.RmsMemRefIdeal.nD Cert.RmsMemRefIdeal.τ).loc Cert.RmsMemRefIdeal.main_arg0)
      ∧ r.2.mem ((c.tc : Thread Cert.RmsMemRefIdeal.nD Cert.RmsMemRefIdeal.τ).loc Cert.RmsMemRefIdeal.main_arg1) = m ((c.tc : Thread Cert.RmsMemRefIdeal.nD Cert.RmsMemRefIdeal.τ).loc Cert.RmsMemRefIdeal.main_arg1)
      ∧ r.2.mem ((c.tc : Thread Cert.RmsMemRefIdeal.nD Cert.RmsMemRefIdeal.τ).loc Cert.RmsMemRefIdeal.main_arg2) = m ((c.tc : Thread Cert.RmsMemRefIdeal.nD Cert.RmsMemRefIdeal.τ).loc Cert.RmsMemRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamConvA [hAdamConvA : Cert.AdamConvA.Facts] : Prop :=
  ∀ (m : (ℓ : Loc Cert.AdamConvA.nD Cert.AdamConvA.τ Cert.AdamConvA.sig) → Buf (Elt Bits) ℓ) (g : Dev Cert.AdamConvA.nD → PrngReg), Pre_AdamConvA m →
    θ_run (Cert.AdamConvA.defs (F := Bits)) (onTc (τ := Cert.AdamConvA.τ) (Cert.AdamConvA.main (F := Bits))) ⟨m, fun _ => 0, g⟩ (fun r => (∀ c : Dev Cert.AdamConvA.nD,
      r.2.mem ((c.tc : Thread Cert.AdamConvA.nD Cert.AdamConvA.τ).loc Cert.AdamConvA.main_arg0) = m ((c.tc : Thread Cert.AdamConvA.nD Cert.AdamConvA.τ).loc Cert.AdamConvA.main_arg0)
      ∧ r.2.mem ((c.tc : Thread Cert.AdamConvA.nD Cert.AdamConvA.τ).loc Cert.AdamConvA.main_arg1) = m ((c.tc : Thread Cert.AdamConvA.nD Cert.AdamConvA.τ).loc Cert.AdamConvA.main_arg1)
      ∧ r.2.mem ((c.tc : Thread Cert.AdamConvA.nD Cert.AdamConvA.τ).loc Cert.AdamConvA.main_arg2) = m ((c.tc : Thread Cert.AdamConvA.nD Cert.AdamConvA.τ).loc Cert.AdamConvA.main_arg2)
      ∧ r.2.mem ((c.tc : Thread Cert.AdamConvA.nD Cert.AdamConvA.τ).loc Cert.AdamConvA.main_arg3) = m ((c.tc : Thread Cert.AdamConvA.nD Cert.AdamConvA.τ).loc Cert.AdamConvA.main_arg3))
      ∧ r.2.sem = fun _ => 0)

def quiescent_AdamConvAIdeal [hAdamConvAIdeal : Cert.AdamConvAIdeal.Facts] : Prop :=
  ∀ (m : (ℓ : Loc Cert.AdamConvAIdeal.nD Cert.AdamConvAIdeal.τ Cert.AdamConvAIdeal.sig) → Buf (Elt Ideal) ℓ) (g : Dev Cert.AdamConvAIdeal.nD → PrngReg), Pre_AdamConvAIdeal m →
    θ_run (Cert.AdamConvAIdeal.defs (F := Ideal)) (onTc (τ := Cert.AdamConvAIdeal.τ) (Cert.AdamConvAIdeal.main (F := Ideal))) ⟨m, fun _ => 0, g⟩ (fun r => (∀ c : Dev Cert.AdamConvAIdeal.nD,
      r.2.mem ((c.tc : Thread Cert.AdamConvAIdeal.nD Cert.AdamConvAIdeal.τ).loc Cert.AdamConvAIdeal.main_arg0) = m ((c.tc : Thread Cert.AdamConvAIdeal.nD Cert.AdamConvAIdeal.τ).loc Cert.AdamConvAIdeal.main_arg0)
      ∧ r.2.mem ((c.tc : Thread Cert.AdamConvAIdeal.nD Cert.AdamConvAIdeal.τ).loc Cert.AdamConvAIdeal.main_arg1) = m ((c.tc : Thread Cert.AdamConvAIdeal.nD Cert.AdamConvAIdeal.τ).loc Cert.AdamConvAIdeal.main_arg1)
      ∧ r.2.mem ((c.tc : Thread Cert.AdamConvAIdeal.nD Cert.AdamConvAIdeal.τ).loc Cert.AdamConvAIdeal.main_arg2) = m ((c.tc : Thread Cert.AdamConvAIdeal.nD Cert.AdamConvAIdeal.τ).loc Cert.AdamConvAIdeal.main_arg2)
      ∧ r.2.mem ((c.tc : Thread Cert.AdamConvAIdeal.nD Cert.AdamConvAIdeal.τ).loc Cert.AdamConvAIdeal.main_arg3) = m ((c.tc : Thread Cert.AdamConvAIdeal.nD Cert.AdamConvAIdeal.τ).loc Cert.AdamConvAIdeal.main_arg3))
      ∧ r.2.sem = fun _ => 0)

def quiescent_AdamConvARefIdeal [hAdamConvARefIdeal : Cert.AdamConvARefIdeal.Facts] : Prop :=
  ∀ (m : (ℓ : Loc Cert.AdamConvARefIdeal.nD Cert.AdamConvARefIdeal.τ Cert.AdamConvARefIdeal.sig) → Buf (Elt Ideal) ℓ) (g : Dev Cert.AdamConvARefIdeal.nD → PrngReg), Pre_AdamConvARefIdeal m →
    θ_run (Cert.AdamConvARefIdeal.defs (F := Ideal)) (onTc (τ := Cert.AdamConvARefIdeal.τ) (Cert.AdamConvARefIdeal.main (F := Ideal))) ⟨m, fun _ => 0, g⟩ (fun r => (∀ c : Dev Cert.AdamConvARefIdeal.nD,
      r.2.mem ((c.tc : Thread Cert.AdamConvARefIdeal.nD Cert.AdamConvARefIdeal.τ).loc Cert.AdamConvARefIdeal.main_arg0) = m ((c.tc : Thread Cert.AdamConvARefIdeal.nD Cert.AdamConvARefIdeal.τ).loc Cert.AdamConvARefIdeal.main_arg0)
      ∧ r.2.mem ((c.tc : Thread Cert.AdamConvARefIdeal.nD Cert.AdamConvARefIdeal.τ).loc Cert.AdamConvARefIdeal.main_arg1) = m ((c.tc : Thread Cert.AdamConvARefIdeal.nD Cert.AdamConvARefIdeal.τ).loc Cert.AdamConvARefIdeal.main_arg1)
      ∧ r.2.mem ((c.tc : Thread Cert.AdamConvARefIdeal.nD Cert.AdamConvARefIdeal.τ).loc Cert.AdamConvARefIdeal.main_arg2) = m ((c.tc : Thread Cert.AdamConvARefIdeal.nD Cert.AdamConvARefIdeal.τ).loc Cert.AdamConvARefIdeal.main_arg2)
      ∧ r.2.mem ((c.tc : Thread Cert.AdamConvARefIdeal.nD Cert.AdamConvARefIdeal.τ).loc Cert.AdamConvARefIdeal.main_arg3) = m ((c.tc : Thread Cert.AdamConvARefIdeal.nD Cert.AdamConvARefIdeal.τ).loc Cert.AdamConvARefIdeal.main_arg3))
      ∧ r.2.sem = fun _ => 0)

def quiescent_AdamConvB [hAdamConvB : Cert.AdamConvB.Facts] : Prop :=
  ∀ (m : (ℓ : Loc Cert.AdamConvB.nD Cert.AdamConvB.τ Cert.AdamConvB.sig) → Buf (Elt Bits) ℓ) (g : Dev Cert.AdamConvB.nD → PrngReg), Pre_AdamConvB m →
    θ_run (Cert.AdamConvB.defs (F := Bits)) (onTc (τ := Cert.AdamConvB.τ) (Cert.AdamConvB.main (F := Bits))) ⟨m, fun _ => 0, g⟩ (fun r => (∀ c : Dev Cert.AdamConvB.nD,
      r.2.mem ((c.tc : Thread Cert.AdamConvB.nD Cert.AdamConvB.τ).loc Cert.AdamConvB.main_arg0) = m ((c.tc : Thread Cert.AdamConvB.nD Cert.AdamConvB.τ).loc Cert.AdamConvB.main_arg0)
      ∧ r.2.mem ((c.tc : Thread Cert.AdamConvB.nD Cert.AdamConvB.τ).loc Cert.AdamConvB.main_arg1) = m ((c.tc : Thread Cert.AdamConvB.nD Cert.AdamConvB.τ).loc Cert.AdamConvB.main_arg1)
      ∧ r.2.mem ((c.tc : Thread Cert.AdamConvB.nD Cert.AdamConvB.τ).loc Cert.AdamConvB.main_arg2) = m ((c.tc : Thread Cert.AdamConvB.nD Cert.AdamConvB.τ).loc Cert.AdamConvB.main_arg2)
      ∧ r.2.mem ((c.tc : Thread Cert.AdamConvB.nD Cert.AdamConvB.τ).loc Cert.AdamConvB.main_arg3) = m ((c.tc : Thread Cert.AdamConvB.nD Cert.AdamConvB.τ).loc Cert.AdamConvB.main_arg3))
      ∧ r.2.sem = fun _ => 0)

def quiescent_AdamConvBIdeal [hAdamConvBIdeal : Cert.AdamConvBIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg), Pre_AdamConvBIdeal m →
    θ_run (Cert.AdamConvBIdeal.defs (F := Ideal)) (onTc (τ := Cert.AdamConvBIdeal.τ) (Cert.AdamConvBIdeal.main (F := Ideal))) ⟨m, fun _ => 0, g⟩ (fun r => (∀ c : Dev Cert.AdamConvBIdeal.nD,
      r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
      ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
      ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
      ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ r.2.sem = fun _ => 0)

def quiescent_AdamConvBRefIdeal [hAdamConvBRefIdeal : Cert.AdamConvBRefIdeal.Facts] : Prop :=
  ∀ (m : (ℓ : Loc Cert.AdamConvBRefIdeal.nD Cert.AdamConvBRefIdeal.τ Cert.AdamConvBRefIdeal.sig) → Buf (Elt Ideal) ℓ) (g : Dev Cert.AdamConvBRefIdeal.nD → PrngReg), Pre_AdamConvBRefIdeal m →
    θ_run (Cert.AdamConvBRefIdeal.defs (F := Ideal)) (onTc (τ := Cert.AdamConvBRefIdeal.τ) (Cert.AdamConvBRefIdeal.main (F := Ideal))) ⟨m, fun _ => 0, g⟩ (fun r => (∀ c : Dev Cert.AdamConvBRefIdeal.nD,
      r.2.mem ((c.tc : Thread Cert.AdamConvBRefIdeal.nD Cert.AdamConvBRefIdeal.τ).loc Cert.AdamConvBRefIdeal.main_arg0) = m ((c.tc : Thread Cert.AdamConvBRefIdeal.nD Cert.AdamConvBRefIdeal.τ).loc Cert.AdamConvBRefIdeal.main_arg0)
      ∧ r.2.mem ((c.tc : Thread Cert.AdamConvBRefIdeal.nD Cert.AdamConvBRefIdeal.τ).loc Cert.AdamConvBRefIdeal.main_arg1) = m ((c.tc : Thread Cert.AdamConvBRefIdeal.nD Cert.AdamConvBRefIdeal.τ).loc Cert.AdamConvBRefIdeal.main_arg1)
      ∧ r.2.mem ((c.tc : Thread Cert.AdamConvBRefIdeal.nD Cert.AdamConvBRefIdeal.τ).loc Cert.AdamConvBRefIdeal.main_arg2) = m ((c.tc : Thread Cert.AdamConvBRefIdeal.nD Cert.AdamConvBRefIdeal.τ).loc Cert.AdamConvBRefIdeal.main_arg2)
      ∧ r.2.mem ((c.tc : Thread Cert.AdamConvBRefIdeal.nD Cert.AdamConvBRefIdeal.τ).loc Cert.AdamConvBRefIdeal.main_arg3) = m ((c.tc : Thread Cert.AdamConvBRefIdeal.nD Cert.AdamConvBRefIdeal.τ).loc Cert.AdamConvBRefIdeal.main_arg3))
      ∧ r.2.sem = fun _ => 0)

def quiescent_AdamConvF [hAdamConvF : Cert.AdamConvF.Facts] : Prop :=
  ∀ (m : (ℓ : Loc Cert.AdamConvF.nD Cert.AdamConvF.τ Cert.AdamConvF.sig) → Buf (Elt Bits) ℓ) (g : Dev Cert.AdamConvF.nD → PrngReg), Pre_AdamConvF m →
    θ_run (Cert.AdamConvF.defs (F := Bits)) (onTc (τ := Cert.AdamConvF.τ) (Cert.AdamConvF.main (F := Bits))) ⟨m, fun _ => 0, g⟩ (fun r => (∀ c : Dev Cert.AdamConvF.nD,
      r.2.mem ((c.tc : Thread Cert.AdamConvF.nD Cert.AdamConvF.τ).loc Cert.AdamConvF.main_arg0) = m ((c.tc : Thread Cert.AdamConvF.nD Cert.AdamConvF.τ).loc Cert.AdamConvF.main_arg0)
      ∧ r.2.mem ((c.tc : Thread Cert.AdamConvF.nD Cert.AdamConvF.τ).loc Cert.AdamConvF.main_arg1) = m ((c.tc : Thread Cert.AdamConvF.nD Cert.AdamConvF.τ).loc Cert.AdamConvF.main_arg1)
      ∧ r.2.mem ((c.tc : Thread Cert.AdamConvF.nD Cert.AdamConvF.τ).loc Cert.AdamConvF.main_arg2) = m ((c.tc : Thread Cert.AdamConvF.nD Cert.AdamConvF.τ).loc Cert.AdamConvF.main_arg2)
      ∧ r.2.mem ((c.tc : Thread Cert.AdamConvF.nD Cert.AdamConvF.τ).loc Cert.AdamConvF.main_arg3) = m ((c.tc : Thread Cert.AdamConvF.nD Cert.AdamConvF.τ).loc Cert.AdamConvF.main_arg3))
      ∧ r.2.sem = fun _ => 0)

def quiescent_AdamConvFIdeal [hAdamConvFIdeal : Cert.AdamConvFIdeal.Facts] : Prop :=
  ∀ (m : (ℓ : Loc Cert.AdamConvFIdeal.nD Cert.AdamConvFIdeal.τ Cert.AdamConvFIdeal.sig) → Buf (Elt Ideal) ℓ) (g : Dev Cert.AdamConvFIdeal.nD → PrngReg), Pre_AdamConvFIdeal m →
    θ_run (Cert.AdamConvFIdeal.defs (F := Ideal)) (onTc (τ := Cert.AdamConvFIdeal.τ) (Cert.AdamConvFIdeal.main (F := Ideal))) ⟨m, fun _ => 0, g⟩ (fun r => (∀ c : Dev Cert.AdamConvFIdeal.nD,
      r.2.mem ((c.tc : Thread Cert.AdamConvFIdeal.nD Cert.AdamConvFIdeal.τ).loc Cert.AdamConvFIdeal.main_arg0) = m ((c.tc : Thread Cert.AdamConvFIdeal.nD Cert.AdamConvFIdeal.τ).loc Cert.AdamConvFIdeal.main_arg0)
      ∧ r.2.mem ((c.tc : Thread Cert.AdamConvFIdeal.nD Cert.AdamConvFIdeal.τ).loc Cert.AdamConvFIdeal.main_arg1) = m ((c.tc : Thread Cert.AdamConvFIdeal.nD Cert.AdamConvFIdeal.τ).loc Cert.AdamConvFIdeal.main_arg1)
      ∧ r.2.mem ((c.tc : Thread Cert.AdamConvFIdeal.nD Cert.AdamConvFIdeal.τ).loc Cert.AdamConvFIdeal.main_arg2) = m ((c.tc : Thread Cert.AdamConvFIdeal.nD Cert.AdamConvFIdeal.τ).loc Cert.AdamConvFIdeal.main_arg2)
      ∧ r.2.mem ((c.tc : Thread Cert.AdamConvFIdeal.nD Cert.AdamConvFIdeal.τ).loc Cert.AdamConvFIdeal.main_arg3) = m ((c.tc : Thread Cert.AdamConvFIdeal.nD Cert.AdamConvFIdeal.τ).loc Cert.AdamConvFIdeal.main_arg3))
      ∧ r.2.sem = fun _ => 0)

def quiescent_AdamConvFRefIdeal [hAdamConvFRefIdeal : Cert.AdamConvFRefIdeal.Facts] : Prop :=
  ∀ (m : (ℓ : Loc Cert.AdamConvFRefIdeal.nD Cert.AdamConvFRefIdeal.τ Cert.AdamConvFRefIdeal.sig) → Buf (Elt Ideal) ℓ) (g : Dev Cert.AdamConvFRefIdeal.nD → PrngReg), Pre_AdamConvFRefIdeal m →
    θ_run (Cert.AdamConvFRefIdeal.defs (F := Ideal)) (onTc (τ := Cert.AdamConvFRefIdeal.τ) (Cert.AdamConvFRefIdeal.main (F := Ideal))) ⟨m, fun _ => 0, g⟩ (fun r => (∀ c : Dev Cert.AdamConvFRefIdeal.nD,
      r.2.mem ((c.tc : Thread Cert.AdamConvFRefIdeal.nD Cert.AdamConvFRefIdeal.τ).loc Cert.AdamConvFRefIdeal.main_arg0) = m ((c.tc : Thread Cert.AdamConvFRefIdeal.nD Cert.AdamConvFRefIdeal.τ).loc Cert.AdamConvFRefIdeal.main_arg0)
      ∧ r.2.mem ((c.tc : Thread Cert.AdamConvFRefIdeal.nD Cert.AdamConvFRefIdeal.τ).loc Cert.AdamConvFRefIdeal.main_arg1) = m ((c.tc : Thread Cert.AdamConvFRefIdeal.nD Cert.AdamConvFRefIdeal.τ).loc Cert.AdamConvFRefIdeal.main_arg1)
      ∧ r.2.mem ((c.tc : Thread Cert.AdamConvFRefIdeal.nD Cert.AdamConvFRefIdeal.τ).loc Cert.AdamConvFRefIdeal.main_arg2) = m ((c.tc : Thread Cert.AdamConvFRefIdeal.nD Cert.AdamConvFRefIdeal.τ).loc Cert.AdamConvFRefIdeal.main_arg2)
      ∧ r.2.mem ((c.tc : Thread Cert.AdamConvFRefIdeal.nD Cert.AdamConvFRefIdeal.τ).loc Cert.AdamConvFRefIdeal.main_arg3) = m ((c.tc : Thread Cert.AdamConvFRefIdeal.nD Cert.AdamConvFRefIdeal.τ).loc Cert.AdamConvFRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v2)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v2) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v7) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_Df_DfIdeal : Prop :=
  True

def algebraic_DfIdeal_DfRefIdeal [hDfIdeal : Cert.DfIdeal.Facts] [hDfRefIdeal : Cert.DfRefIdeal.Facts] : Prop :=
  ∀ (m : (ℓ : Loc Cert.DfIdeal.nD Cert.DfIdeal.τ Cert.DfIdeal.sig) → Buf (Elt Ideal) ℓ) (g : Dev Cert.DfIdeal.nD → PrngReg)
    (m' : (ℓ : Loc Cert.DfRefIdeal.nD Cert.DfRefIdeal.τ Cert.DfRefIdeal.sig) → Buf (Elt Ideal) ℓ) (g' : Dev Cert.DfRefIdeal.nD → PrngReg), Pre_DfIdeal m →
    (∀ c : Dev Cert.DfIdeal.nD,
      m' ((c.tc : Thread Cert.DfRefIdeal.nD Cert.DfRefIdeal.τ).loc Cert.DfRefIdeal.main_arg0) = m ((c.tc : Thread Cert.DfIdeal.nD Cert.DfIdeal.τ).loc Cert.DfIdeal.main_arg0)
      ∧ m' ((c.tc : Thread Cert.DfRefIdeal.nD Cert.DfRefIdeal.τ).loc Cert.DfRefIdeal.main_arg1) = m ((c.tc : Thread Cert.DfIdeal.nD Cert.DfIdeal.τ).loc Cert.DfIdeal.main_arg1)) →
    ∃ (v0 : (c : Dev Cert.DfIdeal.nD) → Buf (Elt Ideal) ((c.tc : Thread Cert.DfIdeal.nD Cert.DfIdeal.τ).loc Cert.DfIdeal.main_v1)),
      θ_run (Cert.DfIdeal.defs (F := Ideal)) (onTc (τ := Cert.DfIdeal.τ) (Cert.DfIdeal.main (F := Ideal))) ⟨m, fun _ => 0, g⟩ (fun r => ∀ c : Dev Cert.DfIdeal.nD,
          r.2.mem ((c.tc : Thread Cert.DfIdeal.nD Cert.DfIdeal.τ).loc Cert.DfIdeal.main_v1) = v0 c
          ∧ r.2.mem ((c.tc : Thread Cert.DfIdeal.nD Cert.DfIdeal.τ).loc Cert.DfIdeal.main_arg0) = m ((c.tc : Thread Cert.DfIdeal.nD Cert.DfIdeal.τ).loc Cert.DfIdeal.main_arg0)
          ∧ r.2.mem ((c.tc : Thread Cert.DfIdeal.nD Cert.DfIdeal.τ).loc Cert.DfIdeal.main_arg1) = m ((c.tc : Thread Cert.DfIdeal.nD Cert.DfIdeal.τ).loc Cert.DfIdeal.main_arg1))
      ∧ θ_run (Cert.DfRefIdeal.defs (F := Ideal)) (onTc (τ := Cert.DfRefIdeal.τ) (Cert.DfRefIdeal.main (F := Ideal))) ⟨m', fun _ => 0, g'⟩ (fun r => ∀ c : Dev Cert.DfRefIdeal.nD,
          r.2.mem ((c.tc : Thread Cert.DfRefIdeal.nD Cert.DfRefIdeal.τ).loc Cert.DfRefIdeal.main_v7) = v0 c
          ∧ r.2.mem ((c.tc : Thread Cert.DfRefIdeal.nD Cert.DfRefIdeal.τ).loc Cert.DfRefIdeal.main_arg0) = m' ((c.tc : Thread Cert.DfRefIdeal.nD Cert.DfRefIdeal.τ).loc Cert.DfRefIdeal.main_arg0)
          ∧ r.2.mem ((c.tc : Thread Cert.DfRefIdeal.nD Cert.DfRefIdeal.τ).loc Cert.DfRefIdeal.main_arg1) = m' ((c.tc : Thread Cert.DfRefIdeal.nD Cert.DfRefIdeal.τ).loc Cert.DfRefIdeal.main_arg1))

def preserves_Dxn3_Dxn3Ideal : Prop :=
  True

def algebraic_Dxn3Ideal_Dxn3RefIdeal [hDxn3Ideal : Cert.Dxn3Ideal.Facts] [hDxn3RefIdeal : Cert.Dxn3RefIdeal.Facts] : Prop :=
  ∀ (m : (ℓ : Loc Cert.Dxn3Ideal.nD Cert.Dxn3Ideal.τ Cert.Dxn3Ideal.sig) → Buf (Elt Ideal) ℓ) (g : Dev Cert.Dxn3Ideal.nD → PrngReg)
    (m' : (ℓ : Loc Cert.Dxn3RefIdeal.nD Cert.Dxn3RefIdeal.τ Cert.Dxn3RefIdeal.sig) → Buf (Elt Ideal) ℓ) (g' : Dev Cert.Dxn3RefIdeal.nD → PrngReg), Pre_Dxn3Ideal m →
    (∀ c : Dev Cert.Dxn3Ideal.nD,
      m' ((c.tc : Thread Cert.Dxn3RefIdeal.nD Cert.Dxn3RefIdeal.τ).loc Cert.Dxn3RefIdeal.main_arg0) = m ((c.tc : Thread Cert.Dxn3Ideal.nD Cert.Dxn3Ideal.τ).loc Cert.Dxn3Ideal.main_arg0)
      ∧ m' ((c.tc : Thread Cert.Dxn3RefIdeal.nD Cert.Dxn3RefIdeal.τ).loc Cert.Dxn3RefIdeal.main_arg1) = m ((c.tc : Thread Cert.Dxn3Ideal.nD Cert.Dxn3Ideal.τ).loc Cert.Dxn3Ideal.main_arg1)
      ∧ m' ((c.tc : Thread Cert.Dxn3RefIdeal.nD Cert.Dxn3RefIdeal.τ).loc Cert.Dxn3RefIdeal.main_arg2) = m ((c.tc : Thread Cert.Dxn3Ideal.nD Cert.Dxn3Ideal.τ).loc Cert.Dxn3Ideal.main_arg2)) →
    ∃ (v0 : (c : Dev Cert.Dxn3Ideal.nD) → Buf (Elt Ideal) ((c.tc : Thread Cert.Dxn3Ideal.nD Cert.Dxn3Ideal.τ).loc Cert.Dxn3Ideal.main_v4)),
      θ_run (Cert.Dxn3Ideal.defs (F := Ideal)) (onTc (τ := Cert.Dxn3Ideal.τ) (Cert.Dxn3Ideal.main (F := Ideal))) ⟨m, fun _ => 0, g⟩ (fun r => ∀ c : Dev Cert.Dxn3Ideal.nD,
          r.2.mem ((c.tc : Thread Cert.Dxn3Ideal.nD Cert.Dxn3Ideal.τ).loc Cert.Dxn3Ideal.main_v4) = v0 c
          ∧ r.2.mem ((c.tc : Thread Cert.Dxn3Ideal.nD Cert.Dxn3Ideal.τ).loc Cert.Dxn3Ideal.main_arg0) = m ((c.tc : Thread Cert.Dxn3Ideal.nD Cert.Dxn3Ideal.τ).loc Cert.Dxn3Ideal.main_arg0)
          ∧ r.2.mem ((c.tc : Thread Cert.Dxn3Ideal.nD Cert.Dxn3Ideal.τ).loc Cert.Dxn3Ideal.main_arg1) = m ((c.tc : Thread Cert.Dxn3Ideal.nD Cert.Dxn3Ideal.τ).loc Cert.Dxn3Ideal.main_arg1)
          ∧ r.2.mem ((c.tc : Thread Cert.Dxn3Ideal.nD Cert.Dxn3Ideal.τ).loc Cert.Dxn3Ideal.main_arg2) = m ((c.tc : Thread Cert.Dxn3Ideal.nD Cert.Dxn3Ideal.τ).loc Cert.Dxn3Ideal.main_arg2))
      ∧ θ_run (Cert.Dxn3RefIdeal.defs (F := Ideal)) (onTc (τ := Cert.Dxn3RefIdeal.τ) (Cert.Dxn3RefIdeal.main (F := Ideal))) ⟨m', fun _ => 0, g'⟩ (fun r => ∀ c : Dev Cert.Dxn3RefIdeal.nD,
          r.2.mem ((c.tc : Thread Cert.Dxn3RefIdeal.nD Cert.Dxn3RefIdeal.τ).loc Cert.Dxn3RefIdeal.main_v7) = v0 c
          ∧ r.2.mem ((c.tc : Thread Cert.Dxn3RefIdeal.nD Cert.Dxn3RefIdeal.τ).loc Cert.Dxn3RefIdeal.main_arg0) = m' ((c.tc : Thread Cert.Dxn3RefIdeal.nD Cert.Dxn3RefIdeal.τ).loc Cert.Dxn3RefIdeal.main_arg0)
          ∧ r.2.mem ((c.tc : Thread Cert.Dxn3RefIdeal.nD Cert.Dxn3RefIdeal.τ).loc Cert.Dxn3RefIdeal.main_arg1) = m' ((c.tc : Thread Cert.Dxn3RefIdeal.nD Cert.Dxn3RefIdeal.τ).loc Cert.Dxn3RefIdeal.main_arg1)
          ∧ r.2.mem ((c.tc : Thread Cert.Dxn3RefIdeal.nD Cert.Dxn3RefIdeal.τ).loc Cert.Dxn3RefIdeal.main_arg2) = m' ((c.tc : Thread Cert.Dxn3RefIdeal.nD Cert.Dxn3RefIdeal.τ).loc Cert.Dxn3RefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_v0_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v406) = v0 c
          ∧ r.2.mem ((c.tc : Thread Cert.MixRefIdeal.nD Cert.MixRefIdeal.τ).loc Cert.MixRefIdeal.main_v407) = v1 c
          ∧ r.2.mem ((c.tc : Thread Cert.MixRefIdeal.nD Cert.MixRefIdeal.τ).loc Cert.MixRefIdeal.main_v408) = v2 c
          ∧ r.2.mem ((c.tc : Thread Cert.MixRefIdeal.nD Cert.MixRefIdeal.τ).loc Cert.MixRefIdeal.main_v409) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Dxn1_Dxn1Ideal : Prop :=
  True

def algebraic_Dxn1Ideal_Dxn1RefIdeal [hDxn1Ideal : Cert.Dxn1Ideal.Facts] [hDxn1RefIdeal : Cert.Dxn1RefIdeal.Facts] : Prop :=
  ∀ (m : (ℓ : Loc Cert.Dxn1Ideal.nD Cert.Dxn1Ideal.τ Cert.Dxn1Ideal.sig) → Buf (Elt Ideal) ℓ) (g : Dev Cert.Dxn1Ideal.nD → PrngReg)
    (m' : (ℓ : Loc Cert.Dxn1RefIdeal.nD Cert.Dxn1RefIdeal.τ Cert.Dxn1RefIdeal.sig) → Buf (Elt Ideal) ℓ) (g' : Dev Cert.Dxn1RefIdeal.nD → PrngReg), Pre_Dxn1Ideal m →
    (∀ c : Dev Cert.Dxn1Ideal.nD,
      m' ((c.tc : Thread Cert.Dxn1RefIdeal.nD Cert.Dxn1RefIdeal.τ).loc Cert.Dxn1RefIdeal.main_arg0) = m ((c.tc : Thread Cert.Dxn1Ideal.nD Cert.Dxn1Ideal.τ).loc Cert.Dxn1Ideal.main_arg0)
      ∧ m' ((c.tc : Thread Cert.Dxn1RefIdeal.nD Cert.Dxn1RefIdeal.τ).loc Cert.Dxn1RefIdeal.main_arg1) = m ((c.tc : Thread Cert.Dxn1Ideal.nD Cert.Dxn1Ideal.τ).loc Cert.Dxn1Ideal.main_arg1)) →
    ∃ (v0 : (c : Dev Cert.Dxn1Ideal.nD) → Buf (Elt Ideal) ((c.tc : Thread Cert.Dxn1Ideal.nD Cert.Dxn1Ideal.τ).loc Cert.Dxn1Ideal.main_v2)),
      θ_run (Cert.Dxn1Ideal.defs (F := Ideal)) (onTc (τ := Cert.Dxn1Ideal.τ) (Cert.Dxn1Ideal.main (F := Ideal))) ⟨m, fun _ => 0, g⟩ (fun r => ∀ c : Dev Cert.Dxn1Ideal.nD,
          r.2.mem ((c.tc : Thread Cert.Dxn1Ideal.nD Cert.Dxn1Ideal.τ).loc Cert.Dxn1Ideal.main_v2) = v0 c
          ∧ r.2.mem ((c.tc : Thread Cert.Dxn1Ideal.nD Cert.Dxn1Ideal.τ).loc Cert.Dxn1Ideal.main_arg0) = m ((c.tc : Thread Cert.Dxn1Ideal.nD Cert.Dxn1Ideal.τ).loc Cert.Dxn1Ideal.main_arg0)
          ∧ r.2.mem ((c.tc : Thread Cert.Dxn1Ideal.nD Cert.Dxn1Ideal.τ).loc Cert.Dxn1Ideal.main_arg1) = m ((c.tc : Thread Cert.Dxn1Ideal.nD Cert.Dxn1Ideal.τ).loc Cert.Dxn1Ideal.main_arg1))
      ∧ θ_run (Cert.Dxn1RefIdeal.defs (F := Ideal)) (onTc (τ := Cert.Dxn1RefIdeal.τ) (Cert.Dxn1RefIdeal.main (F := Ideal))) ⟨m', fun _ => 0, g'⟩ (fun r => ∀ c : Dev Cert.Dxn1RefIdeal.nD,
          r.2.mem ((c.tc : Thread Cert.Dxn1RefIdeal.nD Cert.Dxn1RefIdeal.τ).loc Cert.Dxn1RefIdeal.main_v5) = v0 c
          ∧ r.2.mem ((c.tc : Thread Cert.Dxn1RefIdeal.nD Cert.Dxn1RefIdeal.τ).loc Cert.Dxn1RefIdeal.main_arg0) = m' ((c.tc : Thread Cert.Dxn1RefIdeal.nD Cert.Dxn1RefIdeal.τ).loc Cert.Dxn1RefIdeal.main_arg0)
          ∧ r.2.mem ((c.tc : Thread Cert.Dxn1RefIdeal.nD Cert.Dxn1RefIdeal.τ).loc Cert.Dxn1RefIdeal.main_arg1) = m' ((c.tc : Thread Cert.Dxn1RefIdeal.nD Cert.Dxn1RefIdeal.τ).loc Cert.Dxn1RefIdeal.main_arg1))

def preserves_H3_H3Ideal : Prop :=
  True

def algebraic_H3Ideal_H3RefIdeal [hH3Ideal : Cert.H3Ideal.Facts] [hH3RefIdeal : Cert.H3RefIdeal.Facts] : Prop :=
  ∀ (m : (ℓ : Loc Cert.H3Ideal.nD Cert.H3Ideal.τ Cert.H3Ideal.sig) → Buf (Elt Ideal) ℓ) (g : Dev Cert.H3Ideal.nD → PrngReg)
    (m' : (ℓ : Loc Cert.H3RefIdeal.nD Cert.H3RefIdeal.τ Cert.H3RefIdeal.sig) → Buf (Elt Ideal) ℓ) (g' : Dev Cert.H3RefIdeal.nD → PrngReg), Pre_H3Ideal m →
    (∀ c : Dev Cert.H3Ideal.nD,
      m' ((c.tc : Thread Cert.H3RefIdeal.nD Cert.H3RefIdeal.τ).loc Cert.H3RefIdeal.main_arg0) = m ((c.tc : Thread Cert.H3Ideal.nD Cert.H3Ideal.τ).loc Cert.H3Ideal.main_arg0)
      ∧ m' ((c.tc : Thread Cert.H3RefIdeal.nD Cert.H3RefIdeal.τ).loc Cert.H3RefIdeal.main_arg1) = m ((c.tc : Thread Cert.H3Ideal.nD Cert.H3Ideal.τ).loc Cert.H3Ideal.main_arg1)
      ∧ m' ((c.tc : Thread Cert.H3RefIdeal.nD Cert.H3RefIdeal.τ).loc Cert.H3RefIdeal.main_arg2) = m ((c.tc : Thread Cert.H3Ideal.nD Cert.H3Ideal.τ).loc Cert.H3Ideal.main_arg2)) →
    ∃ (v0 : (c : Dev Cert.H3Ideal.nD) → Buf (Elt Ideal) ((c.tc : Thread Cert.H3Ideal.nD Cert.H3Ideal.τ).loc Cert.H3Ideal.main_v3)),
      θ_run (Cert.H3Ideal.defs (F := Ideal)) (onTc (τ := Cert.H3Ideal.τ) (Cert.H3Ideal.main (F := Ideal))) ⟨m, fun _ => 0, g⟩ (fun r => ∀ c : Dev Cert.H3Ideal.nD,
          r.2.mem ((c.tc : Thread Cert.H3Ideal.nD Cert.H3Ideal.τ).loc Cert.H3Ideal.main_v3) = v0 c
          ∧ r.2.mem ((c.tc : Thread Cert.H3Ideal.nD Cert.H3Ideal.τ).loc Cert.H3Ideal.main_arg0) = m ((c.tc : Thread Cert.H3Ideal.nD Cert.H3Ideal.τ).loc Cert.H3Ideal.main_arg0)
          ∧ r.2.mem ((c.tc : Thread Cert.H3Ideal.nD Cert.H3Ideal.τ).loc Cert.H3Ideal.main_arg1) = m ((c.tc : Thread Cert.H3Ideal.nD Cert.H3Ideal.τ).loc Cert.H3Ideal.main_arg1)
          ∧ r.2.mem ((c.tc : Thread Cert.H3Ideal.nD Cert.H3Ideal.τ).loc Cert.H3Ideal.main_arg2) = m ((c.tc : Thread Cert.H3Ideal.nD Cert.H3Ideal.τ).loc Cert.H3Ideal.main_arg2))
      ∧ θ_run (Cert.H3RefIdeal.defs (F := Ideal)) (onTc (τ := Cert.H3RefIdeal.τ) (Cert.H3RefIdeal.main (F := Ideal))) ⟨m', fun _ => 0, g'⟩ (fun r => ∀ c : Dev Cert.H3RefIdeal.nD,
          r.2.mem ((c.tc : Thread Cert.H3RefIdeal.nD Cert.H3RefIdeal.τ).loc Cert.H3RefIdeal.main_v3) = v0 c
          ∧ r.2.mem ((c.tc : Thread Cert.H3RefIdeal.nD Cert.H3RefIdeal.τ).loc Cert.H3RefIdeal.main_arg0) = m' ((c.tc : Thread Cert.H3RefIdeal.nD Cert.H3RefIdeal.τ).loc Cert.H3RefIdeal.main_arg0)
          ∧ r.2.mem ((c.tc : Thread Cert.H3RefIdeal.nD Cert.H3RefIdeal.τ).loc Cert.H3RefIdeal.main_arg1) = m' ((c.tc : Thread Cert.H3RefIdeal.nD Cert.H3RefIdeal.τ).loc Cert.H3RefIdeal.main_arg1)
          ∧ r.2.mem ((c.tc : Thread Cert.H3RefIdeal.nD Cert.H3RefIdeal.τ).loc Cert.H3RefIdeal.main_arg2) = m' ((c.tc : Thread Cert.H3RefIdeal.nD Cert.H3RefIdeal.τ).loc Cert.H3RefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v4) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v5) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v2) = v0 c
          ∧ r.2.mem ((c.tc : Thread Cert.AdamRefIdeal.nD Cert.AdamRefIdeal.τ).loc Cert.AdamRefIdeal.main_v26) = v1 c
          ∧ r.2.mem ((c.tc : Thread Cert.AdamRefIdeal.nD Cert.AdamRefIdeal.τ).loc Cert.AdamRefIdeal.main_v7) = v2 c
          ∧ r.2.mem ((c.tc : Thread Cert.AdamRefIdeal.nD Cert.AdamRefIdeal.τ).loc Cert.AdamRefIdeal.main_v13) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v8) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Q_QIdeal : Prop :=
  True

def algebraic_QIdeal_QRefIdeal [hQIdeal : Cert.QIdeal.Facts] [hQRefIdeal : Cert.QRefIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)) →
    ∃ (v0 : (c : Dev Cert.QIdeal.nD) → Buf (Elt Ideal) ((c.tc : Thread Cert.QIdeal.nD Cert.QIdeal.τ).loc Cert.QIdeal.main_v0)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v0) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v3) = v0 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1))

def preserves_H2_H2Ideal : Prop :=
  True

def algebraic_H2Ideal_H2RefIdeal [hH2Ideal : Cert.H2Ideal.Facts] [hH2RefIdeal : Cert.H2RefIdeal.Facts] : Prop :=
  ∀ (m : (ℓ : Loc Cert.H2Ideal.nD Cert.H2Ideal.τ Cert.H2Ideal.sig) → Buf (Elt Ideal) ℓ) (g : Dev Cert.H2Ideal.nD → PrngReg)
    (m' : (ℓ : Loc Cert.H2RefIdeal.nD Cert.H2RefIdeal.τ Cert.H2RefIdeal.sig) → Buf (Elt Ideal) ℓ) (g' : Dev Cert.H2RefIdeal.nD → PrngReg), Pre_H2Ideal m →
    (∀ c : Dev Cert.H2Ideal.nD,
      m' ((c.tc : Thread Cert.H2RefIdeal.nD Cert.H2RefIdeal.τ).loc Cert.H2RefIdeal.main_arg0) = m ((c.tc : Thread Cert.H2Ideal.nD Cert.H2Ideal.τ).loc Cert.H2Ideal.main_arg0)
      ∧ m' ((c.tc : Thread Cert.H2RefIdeal.nD Cert.H2RefIdeal.τ).loc Cert.H2RefIdeal.main_arg1) = m ((c.tc : Thread Cert.H2Ideal.nD Cert.H2Ideal.τ).loc Cert.H2Ideal.main_arg1)
      ∧ m' ((c.tc : Thread Cert.H2RefIdeal.nD Cert.H2RefIdeal.τ).loc Cert.H2RefIdeal.main_arg2) = m ((c.tc : Thread Cert.H2Ideal.nD Cert.H2Ideal.τ).loc Cert.H2Ideal.main_arg2)) →
    ∃ (v0 : (c : Dev Cert.H2Ideal.nD) → Buf (Elt Ideal) ((c.tc : Thread Cert.H2Ideal.nD Cert.H2Ideal.τ).loc Cert.H2Ideal.main_v0)),
      θ_run (Cert.H2Ideal.defs (F := Ideal)) (onTc (τ := Cert.H2Ideal.τ) (Cert.H2Ideal.main (F := Ideal))) ⟨m, fun _ => 0, g⟩ (fun r => ∀ c : Dev Cert.H2Ideal.nD,
          r.2.mem ((c.tc : Thread Cert.H2Ideal.nD Cert.H2Ideal.τ).loc Cert.H2Ideal.main_v0) = v0 c
          ∧ r.2.mem ((c.tc : Thread Cert.H2Ideal.nD Cert.H2Ideal.τ).loc Cert.H2Ideal.main_arg0) = m ((c.tc : Thread Cert.H2Ideal.nD Cert.H2Ideal.τ).loc Cert.H2Ideal.main_arg0)
          ∧ r.2.mem ((c.tc : Thread Cert.H2Ideal.nD Cert.H2Ideal.τ).loc Cert.H2Ideal.main_arg1) = m ((c.tc : Thread Cert.H2Ideal.nD Cert.H2Ideal.τ).loc Cert.H2Ideal.main_arg1)
          ∧ r.2.mem ((c.tc : Thread Cert.H2Ideal.nD Cert.H2Ideal.τ).loc Cert.H2Ideal.main_arg2) = m ((c.tc : Thread Cert.H2Ideal.nD Cert.H2Ideal.τ).loc Cert.H2Ideal.main_arg2))
      ∧ θ_run (Cert.H2RefIdeal.defs (F := Ideal)) (onTc (τ := Cert.H2RefIdeal.τ) (Cert.H2RefIdeal.main (F := Ideal))) ⟨m', fun _ => 0, g'⟩ (fun r => ∀ c : Dev Cert.H2RefIdeal.nD,
          r.2.mem ((c.tc : Thread Cert.H2RefIdeal.nD Cert.H2RefIdeal.τ).loc Cert.H2RefIdeal.main_v3) = v0 c
          ∧ r.2.mem ((c.tc : Thread Cert.H2RefIdeal.nD Cert.H2RefIdeal.τ).loc Cert.H2RefIdeal.main_arg0) = m' ((c.tc : Thread Cert.H2RefIdeal.nD Cert.H2RefIdeal.τ).loc Cert.H2RefIdeal.main_arg0)
          ∧ r.2.mem ((c.tc : Thread Cert.H2RefIdeal.nD Cert.H2RefIdeal.τ).loc Cert.H2RefIdeal.main_arg1) = m' ((c.tc : Thread Cert.H2RefIdeal.nD Cert.H2RefIdeal.τ).loc Cert.H2RefIdeal.main_arg1)
          ∧ r.2.mem ((c.tc : Thread Cert.H2RefIdeal.nD Cert.H2RefIdeal.τ).loc Cert.H2RefIdeal.main_arg2) = m' ((c.tc : Thread Cert.H2RefIdeal.nD Cert.H2RefIdeal.τ).loc Cert.H2RefIdeal.main_arg2))

def preserves_H1_H1Ideal : Prop :=
  True

def algebraic_H1Ideal_H1RefIdeal [hH1Ideal : Cert.H1Ideal.Facts] [hH1RefIdeal : Cert.H1RefIdeal.Facts] : Prop :=
  ∀ (m : (ℓ : Loc Cert.H1Ideal.nD Cert.H1Ideal.τ Cert.H1Ideal.sig) → Buf (Elt Ideal) ℓ) (g : Dev Cert.H1Ideal.nD → PrngReg)
    (m' : (ℓ : Loc Cert.H1RefIdeal.nD Cert.H1RefIdeal.τ Cert.H1RefIdeal.sig) → Buf (Elt Ideal) ℓ) (g' : Dev Cert.H1RefIdeal.nD → PrngReg), Pre_H1Ideal m →
    (∀ c : Dev Cert.H1Ideal.nD,
      m' ((c.tc : Thread Cert.H1RefIdeal.nD Cert.H1RefIdeal.τ).loc Cert.H1RefIdeal.main_arg0) = m ((c.tc : Thread Cert.H1Ideal.nD Cert.H1Ideal.τ).loc Cert.H1Ideal.main_arg0)
      ∧ m' ((c.tc : Thread Cert.H1RefIdeal.nD Cert.H1RefIdeal.τ).loc Cert.H1RefIdeal.main_arg1) = m ((c.tc : Thread Cert.H1Ideal.nD Cert.H1Ideal.τ).loc Cert.H1Ideal.main_arg1)
      ∧ m' ((c.tc : Thread Cert.H1RefIdeal.nD Cert.H1RefIdeal.τ).loc Cert.H1RefIdeal.main_arg2) = m ((c.tc : Thread Cert.H1Ideal.nD Cert.H1Ideal.τ).loc Cert.H1Ideal.main_arg2)) →
    ∃ (v0 : (c : Dev Cert.H1Ideal.nD) → Buf (Elt Ideal) ((c.tc : Thread Cert.H1Ideal.nD Cert.H1Ideal.τ).loc Cert.H1Ideal.main_v3)),
      θ_run (Cert.H1Ideal.defs (F := Ideal)) (onTc (τ := Cert.H1Ideal.τ) (Cert.H1Ideal.main (F := Ideal))) ⟨m, fun _ => 0, g⟩ (fun r => ∀ c : Dev Cert.H1Ideal.nD,
          r.2.mem ((c.tc : Thread Cert.H1Ideal.nD Cert.H1Ideal.τ).loc Cert.H1Ideal.main_v3) = v0 c
          ∧ r.2.mem ((c.tc : Thread Cert.H1Ideal.nD Cert.H1Ideal.τ).loc Cert.H1Ideal.main_arg0) = m ((c.tc : Thread Cert.H1Ideal.nD Cert.H1Ideal.τ).loc Cert.H1Ideal.main_arg0)
          ∧ r.2.mem ((c.tc : Thread Cert.H1Ideal.nD Cert.H1Ideal.τ).loc Cert.H1Ideal.main_arg1) = m ((c.tc : Thread Cert.H1Ideal.nD Cert.H1Ideal.τ).loc Cert.H1Ideal.main_arg1)
          ∧ r.2.mem ((c.tc : Thread Cert.H1Ideal.nD Cert.H1Ideal.τ).loc Cert.H1Ideal.main_arg2) = m ((c.tc : Thread Cert.H1Ideal.nD Cert.H1Ideal.τ).loc Cert.H1Ideal.main_arg2))
      ∧ θ_run (Cert.H1RefIdeal.defs (F := Ideal)) (onTc (τ := Cert.H1RefIdeal.τ) (Cert.H1RefIdeal.main (F := Ideal))) ⟨m', fun _ => 0, g'⟩ (fun r => ∀ c : Dev Cert.H1RefIdeal.nD,
          r.2.mem ((c.tc : Thread Cert.H1RefIdeal.nD Cert.H1RefIdeal.τ).loc Cert.H1RefIdeal.main_v3) = v0 c
          ∧ r.2.mem ((c.tc : Thread Cert.H1RefIdeal.nD Cert.H1RefIdeal.τ).loc Cert.H1RefIdeal.main_arg0) = m' ((c.tc : Thread Cert.H1RefIdeal.nD Cert.H1RefIdeal.τ).loc Cert.H1RefIdeal.main_arg0)
          ∧ r.2.mem ((c.tc : Thread Cert.H1RefIdeal.nD Cert.H1RefIdeal.τ).loc Cert.H1RefIdeal.main_arg1) = m' ((c.tc : Thread Cert.H1RefIdeal.nD Cert.H1RefIdeal.τ).loc Cert.H1RefIdeal.main_arg1)
          ∧ r.2.mem ((c.tc : Thread Cert.H1RefIdeal.nD Cert.H1RefIdeal.τ).loc Cert.H1RefIdeal.main_arg2) = m' ((c.tc : Thread Cert.H1RefIdeal.nD Cert.H1RefIdeal.τ).loc Cert.H1RefIdeal.main_arg2))

def preserves_Do_DoIdeal : Prop :=
  True

def algebraic_DoIdeal_DoRefIdeal [hDoIdeal : Cert.DoIdeal.Facts] [hDoRefIdeal : Cert.DoRefIdeal.Facts] : Prop :=
  ∀ (m : (ℓ : Loc Cert.DoIdeal.nD Cert.DoIdeal.τ Cert.DoIdeal.sig) → Buf (Elt Ideal) ℓ) (g : Dev Cert.DoIdeal.nD → PrngReg)
    (m' : (ℓ : Loc Cert.DoRefIdeal.nD Cert.DoRefIdeal.τ Cert.DoRefIdeal.sig) → Buf (Elt Ideal) ℓ) (g' : Dev Cert.DoRefIdeal.nD → PrngReg), Pre_DoIdeal m →
    (∀ c : Dev Cert.DoIdeal.nD,
      m' ((c.tc : Thread Cert.DoRefIdeal.nD Cert.DoRefIdeal.τ).loc Cert.DoRefIdeal.main_arg0) = m ((c.tc : Thread Cert.DoIdeal.nD Cert.DoIdeal.τ).loc Cert.DoIdeal.main_arg0)
      ∧ m' ((c.tc : Thread Cert.DoRefIdeal.nD Cert.DoRefIdeal.τ).loc Cert.DoRefIdeal.main_arg1) = m ((c.tc : Thread Cert.DoIdeal.nD Cert.DoIdeal.τ).loc Cert.DoIdeal.main_arg1)) →
    ∃ (v0 : (c : Dev Cert.DoIdeal.nD) → Buf (Elt Ideal) ((c.tc : Thread Cert.DoIdeal.nD Cert.DoIdeal.τ).loc Cert.DoIdeal.main_v0)),
      θ_run (Cert.DoIdeal.defs (F := Ideal)) (onTc (τ := Cert.DoIdeal.τ) (Cert.DoIdeal.main (F := Ideal))) ⟨m, fun _ => 0, g⟩ (fun r => ∀ c : Dev Cert.DoIdeal.nD,
          r.2.mem ((c.tc : Thread Cert.DoIdeal.nD Cert.DoIdeal.τ).loc Cert.DoIdeal.main_v0) = v0 c
          ∧ r.2.mem ((c.tc : Thread Cert.DoIdeal.nD Cert.DoIdeal.τ).loc Cert.DoIdeal.main_arg0) = m ((c.tc : Thread Cert.DoIdeal.nD Cert.DoIdeal.τ).loc Cert.DoIdeal.main_arg0)
          ∧ r.2.mem ((c.tc : Thread Cert.DoIdeal.nD Cert.DoIdeal.τ).loc Cert.DoIdeal.main_arg1) = m ((c.tc : Thread Cert.DoIdeal.nD Cert.DoIdeal.τ).loc Cert.DoIdeal.main_arg1))
      ∧ θ_run (Cert.DoRefIdeal.defs (F := Ideal)) (onTc (τ := Cert.DoRefIdeal.τ) (Cert.DoRefIdeal.main (F := Ideal))) ⟨m', fun _ => 0, g'⟩ (fun r => ∀ c : Dev Cert.DoRefIdeal.nD,
          r.2.mem ((c.tc : Thread Cert.DoRefIdeal.nD Cert.DoRefIdeal.τ).loc Cert.DoRefIdeal.main_v5) = v0 c
          ∧ r.2.mem ((c.tc : Thread Cert.DoRefIdeal.nD Cert.DoRefIdeal.τ).loc Cert.DoRefIdeal.main_arg0) = m' ((c.tc : Thread Cert.DoRefIdeal.nD Cert.DoRefIdeal.τ).loc Cert.DoRefIdeal.main_arg0)
          ∧ r.2.mem ((c.tc : Thread Cert.DoRefIdeal.nD Cert.DoRefIdeal.τ).loc Cert.DoRefIdeal.main_arg1) = m' ((c.tc : Thread Cert.DoRefIdeal.nD Cert.DoRefIdeal.τ).loc Cert.DoRefIdeal.main_arg1))

def preserves_Dxn2_Dxn2Ideal : Prop :=
  True

def algebraic_Dxn2Ideal_Dxn2RefIdeal [hDxn2Ideal : Cert.Dxn2Ideal.Facts] [hDxn2RefIdeal : Cert.Dxn2RefIdeal.Facts] : Prop :=
  ∀ (m : (ℓ : Loc Cert.Dxn2Ideal.nD Cert.Dxn2Ideal.τ Cert.Dxn2Ideal.sig) → Buf (Elt Ideal) ℓ) (g : Dev Cert.Dxn2Ideal.nD → PrngReg)
    (m' : (ℓ : Loc Cert.Dxn2RefIdeal.nD Cert.Dxn2RefIdeal.τ Cert.Dxn2RefIdeal.sig) → Buf (Elt Ideal) ℓ) (g' : Dev Cert.Dxn2RefIdeal.nD → PrngReg), Pre_Dxn2Ideal m →
    (∀ c : Dev Cert.Dxn2Ideal.nD,
      m' ((c.tc : Thread Cert.Dxn2RefIdeal.nD Cert.Dxn2RefIdeal.τ).loc Cert.Dxn2RefIdeal.main_arg0) = m ((c.tc : Thread Cert.Dxn2Ideal.nD Cert.Dxn2Ideal.τ).loc Cert.Dxn2Ideal.main_arg0)
      ∧ m' ((c.tc : Thread Cert.Dxn2RefIdeal.nD Cert.Dxn2RefIdeal.τ).loc Cert.Dxn2RefIdeal.main_arg1) = m ((c.tc : Thread Cert.Dxn2Ideal.nD Cert.Dxn2Ideal.τ).loc Cert.Dxn2Ideal.main_arg1)) →
    ∃ (v0 : (c : Dev Cert.Dxn2Ideal.nD) → Buf (Elt Ideal) ((c.tc : Thread Cert.Dxn2Ideal.nD Cert.Dxn2Ideal.τ).loc Cert.Dxn2Ideal.main_v0)),
      θ_run (Cert.Dxn2Ideal.defs (F := Ideal)) (onTc (τ := Cert.Dxn2Ideal.τ) (Cert.Dxn2Ideal.main (F := Ideal))) ⟨m, fun _ => 0, g⟩ (fun r => ∀ c : Dev Cert.Dxn2Ideal.nD,
          r.2.mem ((c.tc : Thread Cert.Dxn2Ideal.nD Cert.Dxn2Ideal.τ).loc Cert.Dxn2Ideal.main_v0) = v0 c
          ∧ r.2.mem ((c.tc : Thread Cert.Dxn2Ideal.nD Cert.Dxn2Ideal.τ).loc Cert.Dxn2Ideal.main_arg0) = m ((c.tc : Thread Cert.Dxn2Ideal.nD Cert.Dxn2Ideal.τ).loc Cert.Dxn2Ideal.main_arg0)
          ∧ r.2.mem ((c.tc : Thread Cert.Dxn2Ideal.nD Cert.Dxn2Ideal.τ).loc Cert.Dxn2Ideal.main_arg1) = m ((c.tc : Thread Cert.Dxn2Ideal.nD Cert.Dxn2Ideal.τ).loc Cert.Dxn2Ideal.main_arg1))
      ∧ θ_run (Cert.Dxn2RefIdeal.defs (F := Ideal)) (onTc (τ := Cert.Dxn2RefIdeal.τ) (Cert.Dxn2RefIdeal.main (F := Ideal))) ⟨m', fun _ => 0, g'⟩ (fun r => ∀ c : Dev Cert.Dxn2RefIdeal.nD,
          r.2.mem ((c.tc : Thread Cert.Dxn2RefIdeal.nD Cert.Dxn2RefIdeal.τ).loc Cert.Dxn2RefIdeal.main_v5) = v0 c
          ∧ r.2.mem ((c.tc : Thread Cert.Dxn2RefIdeal.nD Cert.Dxn2RefIdeal.τ).loc Cert.Dxn2RefIdeal.main_arg0) = m' ((c.tc : Thread Cert.Dxn2RefIdeal.nD Cert.Dxn2RefIdeal.τ).loc Cert.Dxn2RefIdeal.main_arg0)
          ∧ r.2.mem ((c.tc : Thread Cert.Dxn2RefIdeal.nD Cert.Dxn2RefIdeal.τ).loc Cert.Dxn2RefIdeal.main_arg1) = m' ((c.tc : Thread Cert.Dxn2RefIdeal.nD Cert.Dxn2RefIdeal.τ).loc Cert.Dxn2RefIdeal.main_arg1))

def preserves_DwO_DwOIdeal : Prop :=
  True

def algebraic_DwOIdeal_DwORefIdeal [hDwOIdeal : Cert.DwOIdeal.Facts] [hDwORefIdeal : Cert.DwORefIdeal.Facts] : Prop :=
  ∀ (m : (ℓ : Loc Cert.DwOIdeal.nD Cert.DwOIdeal.τ Cert.DwOIdeal.sig) → Buf (Elt Ideal) ℓ) (g : Dev Cert.DwOIdeal.nD → PrngReg)
    (m' : (ℓ : Loc Cert.DwORefIdeal.nD Cert.DwORefIdeal.τ Cert.DwORefIdeal.sig) → Buf (Elt Ideal) ℓ) (g' : Dev Cert.DwORefIdeal.nD → PrngReg), Pre_DwOIdeal m →
    (∀ c : Dev Cert.DwOIdeal.nD,
      m' ((c.tc : Thread Cert.DwORefIdeal.nD Cert.DwORefIdeal.τ).loc Cert.DwORefIdeal.main_arg0) = m ((c.tc : Thread Cert.DwOIdeal.nD Cert.DwOIdeal.τ).loc Cert.DwOIdeal.main_arg0)
      ∧ m' ((c.tc : Thread Cert.DwORefIdeal.nD Cert.DwORefIdeal.τ).loc Cert.DwORefIdeal.main_arg1) = m ((c.tc : Thread Cert.DwOIdeal.nD Cert.DwOIdeal.τ).loc Cert.DwOIdeal.main_arg1)) →
    ∃ (v0 : (c : Dev Cert.DwOIdeal.nD) → Buf (Elt Ideal) ((c.tc : Thread Cert.DwOIdeal.nD Cert.DwOIdeal.τ).loc Cert.DwOIdeal.main_v0)),
      θ_run (Cert.DwOIdeal.defs (F := Ideal)) (onTc (τ := Cert.DwOIdeal.τ) (Cert.DwOIdeal.main (F := Ideal))) ⟨m, fun _ => 0, g⟩ (fun r => ∀ c : Dev Cert.DwOIdeal.nD,
          r.2.mem ((c.tc : Thread Cert.DwOIdeal.nD Cert.DwOIdeal.τ).loc Cert.DwOIdeal.main_v0) = v0 c
          ∧ r.2.mem ((c.tc : Thread Cert.DwOIdeal.nD Cert.DwOIdeal.τ).loc Cert.DwOIdeal.main_arg0) = m ((c.tc : Thread Cert.DwOIdeal.nD Cert.DwOIdeal.τ).loc Cert.DwOIdeal.main_arg0)
          ∧ r.2.mem ((c.tc : Thread Cert.DwOIdeal.nD Cert.DwOIdeal.τ).loc Cert.DwOIdeal.main_arg1) = m ((c.tc : Thread Cert.DwOIdeal.nD Cert.DwOIdeal.τ).loc Cert.DwOIdeal.main_arg1))
      ∧ θ_run (Cert.DwORefIdeal.defs (F := Ideal)) (onTc (τ := Cert.DwORefIdeal.τ) (Cert.DwORefIdeal.main (F := Ideal))) ⟨m', fun _ => 0, g'⟩ (fun r => ∀ c : Dev Cert.DwORefIdeal.nD,
          r.2.mem ((c.tc : Thread Cert.DwORefIdeal.nD Cert.DwORefIdeal.τ).loc Cert.DwORefIdeal.main_v6) = v0 c
          ∧ r.2.mem ((c.tc : Thread Cert.DwORefIdeal.nD Cert.DwORefIdeal.τ).loc Cert.DwORefIdeal.main_arg0) = m' ((c.tc : Thread Cert.DwORefIdeal.nD Cert.DwORefIdeal.τ).loc Cert.DwORefIdeal.main_arg0)
          ∧ r.2.mem ((c.tc : Thread Cert.DwORefIdeal.nD Cert.DwORefIdeal.τ).loc Cert.DwORefIdeal.main_arg1) = m' ((c.tc : Thread Cert.DwORefIdeal.nD Cert.DwORefIdeal.τ).loc Cert.DwORefIdeal.main_arg1))

def preserves_DwQ_DwQIdeal : Prop :=
  True

def algebraic_DwQIdeal_DwQRefIdeal [hDwQIdeal : Cert.DwQIdeal.Facts] [hDwQRefIdeal : Cert.DwQRefIdeal.Facts] : Prop :=
  ∀ (m : (ℓ : Loc Cert.DwQIdeal.nD Cert.DwQIdeal.τ Cert.DwQIdeal.sig) → Buf (Elt Ideal) ℓ) (g : Dev Cert.DwQIdeal.nD → PrngReg)
    (m' : (ℓ : Loc Cert.DwQRefIdeal.nD Cert.DwQRefIdeal.τ Cert.DwQRefIdeal.sig) → Buf (Elt Ideal) ℓ) (g' : Dev Cert.DwQRefIdeal.nD → PrngReg), Pre_DwQIdeal m →
    (∀ c : Dev Cert.DwQIdeal.nD,
      m' ((c.tc : Thread Cert.DwQRefIdeal.nD Cert.DwQRefIdeal.τ).loc Cert.DwQRefIdeal.main_arg0) = m ((c.tc : Thread Cert.DwQIdeal.nD Cert.DwQIdeal.τ).loc Cert.DwQIdeal.main_arg0)
      ∧ m' ((c.tc : Thread Cert.DwQRefIdeal.nD Cert.DwQRefIdeal.τ).loc Cert.DwQRefIdeal.main_arg1) = m ((c.tc : Thread Cert.DwQIdeal.nD Cert.DwQIdeal.τ).loc Cert.DwQIdeal.main_arg1)) →
    ∃ (v0 : (c : Dev Cert.DwQIdeal.nD) → Buf (Elt Ideal) ((c.tc : Thread Cert.DwQIdeal.nD Cert.DwQIdeal.τ).loc Cert.DwQIdeal.main_v0)),
      θ_run (Cert.DwQIdeal.defs (F := Ideal)) (onTc (τ := Cert.DwQIdeal.τ) (Cert.DwQIdeal.main (F := Ideal))) ⟨m, fun _ => 0, g⟩ (fun r => ∀ c : Dev Cert.DwQIdeal.nD,
          r.2.mem ((c.tc : Thread Cert.DwQIdeal.nD Cert.DwQIdeal.τ).loc Cert.DwQIdeal.main_v0) = v0 c
          ∧ r.2.mem ((c.tc : Thread Cert.DwQIdeal.nD Cert.DwQIdeal.τ).loc Cert.DwQIdeal.main_arg0) = m ((c.tc : Thread Cert.DwQIdeal.nD Cert.DwQIdeal.τ).loc Cert.DwQIdeal.main_arg0)
          ∧ r.2.mem ((c.tc : Thread Cert.DwQIdeal.nD Cert.DwQIdeal.τ).loc Cert.DwQIdeal.main_arg1) = m ((c.tc : Thread Cert.DwQIdeal.nD Cert.DwQIdeal.τ).loc Cert.DwQIdeal.main_arg1))
      ∧ θ_run (Cert.DwQRefIdeal.defs (F := Ideal)) (onTc (τ := Cert.DwQRefIdeal.τ) (Cert.DwQRefIdeal.main (F := Ideal))) ⟨m', fun _ => 0, g'⟩ (fun r => ∀ c : Dev Cert.DwQRefIdeal.nD,
          r.2.mem ((c.tc : Thread Cert.DwQRefIdeal.nD Cert.DwQRefIdeal.τ).loc Cert.DwQRefIdeal.main_v6) = v0 c
          ∧ r.2.mem ((c.tc : Thread Cert.DwQRefIdeal.nD Cert.DwQRefIdeal.τ).loc Cert.DwQRefIdeal.main_arg0) = m' ((c.tc : Thread Cert.DwQRefIdeal.nD Cert.DwQRefIdeal.τ).loc Cert.DwQRefIdeal.main_arg0)
          ∧ r.2.mem ((c.tc : Thread Cert.DwQRefIdeal.nD Cert.DwQRefIdeal.τ).loc Cert.DwQRefIdeal.main_arg1) = m' ((c.tc : Thread Cert.DwQRefIdeal.nD Cert.DwQRefIdeal.τ).loc Cert.DwQRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v48) = v0 c
          ∧ r.2.mem ((c.tc : Thread Cert.LossRefIdeal.nD Cert.LossRefIdeal.τ).loc Cert.LossRefIdeal.main_v49) = v1 c
          ∧ r.2.mem ((c.tc : Thread Cert.LossRefIdeal.nD Cert.LossRefIdeal.τ).loc Cert.LossRefIdeal.main_v50) = v2 c
          ∧ r.2.mem ((c.tc : Thread Cert.LossRefIdeal.nD Cert.LossRefIdeal.τ).loc Cert.LossRefIdeal.main_v32) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_RmsMem_RmsMemIdeal : Prop :=
  True

def algebraic_RmsMemIdeal_RmsMemRefIdeal [hRmsMemIdeal : Cert.RmsMemIdeal.Facts] [hRmsMemRefIdeal : Cert.RmsMemRefIdeal.Facts] : Prop :=
  ∀ (m : (ℓ : Loc Cert.RmsMemIdeal.nD Cert.RmsMemIdeal.τ Cert.RmsMemIdeal.sig) → Buf (Elt Ideal) ℓ) (g : Dev Cert.RmsMemIdeal.nD → PrngReg)
    (m' : (ℓ : Loc Cert.RmsMemRefIdeal.nD Cert.RmsMemRefIdeal.τ Cert.RmsMemRefIdeal.sig) → Buf (Elt Ideal) ℓ) (g' : Dev Cert.RmsMemRefIdeal.nD → PrngReg), Pre_RmsMemIdeal m →
    (∀ c : Dev Cert.RmsMemIdeal.nD,
      m' ((c.tc : Thread Cert.RmsMemRefIdeal.nD Cert.RmsMemRefIdeal.τ).loc Cert.RmsMemRefIdeal.main_arg0) = m ((c.tc : Thread Cert.RmsMemIdeal.nD Cert.RmsMemIdeal.τ).loc Cert.RmsMemIdeal.main_arg0)
      ∧ m' ((c.tc : Thread Cert.RmsMemRefIdeal.nD Cert.RmsMemRefIdeal.τ).loc Cert.RmsMemRefIdeal.main_arg1) = m ((c.tc : Thread Cert.RmsMemIdeal.nD Cert.RmsMemIdeal.τ).loc Cert.RmsMemIdeal.main_arg1)
      ∧ m' ((c.tc : Thread Cert.RmsMemRefIdeal.nD Cert.RmsMemRefIdeal.τ).loc Cert.RmsMemRefIdeal.main_arg2) = m ((c.tc : Thread Cert.RmsMemIdeal.nD Cert.RmsMemIdeal.τ).loc Cert.RmsMemIdeal.main_arg2)) →
    ∃ (v0 : (c : Dev Cert.RmsMemIdeal.nD) → Buf (Elt Ideal) ((c.tc : Thread Cert.RmsMemIdeal.nD Cert.RmsMemIdeal.τ).loc Cert.RmsMemIdeal.main_v0)),
      θ_run (Cert.RmsMemIdeal.defs (F := Ideal)) (onTc (τ := Cert.RmsMemIdeal.τ) (Cert.RmsMemIdeal.main (F := Ideal))) ⟨m, fun _ => 0, g⟩ (fun r => ∀ c : Dev Cert.RmsMemIdeal.nD,
          r.2.mem ((c.tc : Thread Cert.RmsMemIdeal.nD Cert.RmsMemIdeal.τ).loc Cert.RmsMemIdeal.main_v0) = v0 c
          ∧ r.2.mem ((c.tc : Thread Cert.RmsMemIdeal.nD Cert.RmsMemIdeal.τ).loc Cert.RmsMemIdeal.main_arg0) = m ((c.tc : Thread Cert.RmsMemIdeal.nD Cert.RmsMemIdeal.τ).loc Cert.RmsMemIdeal.main_arg0)
          ∧ r.2.mem ((c.tc : Thread Cert.RmsMemIdeal.nD Cert.RmsMemIdeal.τ).loc Cert.RmsMemIdeal.main_arg1) = m ((c.tc : Thread Cert.RmsMemIdeal.nD Cert.RmsMemIdeal.τ).loc Cert.RmsMemIdeal.main_arg1)
          ∧ r.2.mem ((c.tc : Thread Cert.RmsMemIdeal.nD Cert.RmsMemIdeal.τ).loc Cert.RmsMemIdeal.main_arg2) = m ((c.tc : Thread Cert.RmsMemIdeal.nD Cert.RmsMemIdeal.τ).loc Cert.RmsMemIdeal.main_arg2))
      ∧ θ_run (Cert.RmsMemRefIdeal.defs (F := Ideal)) (onTc (τ := Cert.RmsMemRefIdeal.τ) (Cert.RmsMemRefIdeal.main (F := Ideal))) ⟨m', fun _ => 0, g'⟩ (fun r => ∀ c : Dev Cert.RmsMemRefIdeal.nD,
          r.2.mem ((c.tc : Thread Cert.RmsMemRefIdeal.nD Cert.RmsMemRefIdeal.τ).loc Cert.RmsMemRefIdeal.main_v17) = v0 c
          ∧ r.2.mem ((c.tc : Thread Cert.RmsMemRefIdeal.nD Cert.RmsMemRefIdeal.τ).loc Cert.RmsMemRefIdeal.main_arg0) = m' ((c.tc : Thread Cert.RmsMemRefIdeal.nD Cert.RmsMemRefIdeal.τ).loc Cert.RmsMemRefIdeal.main_arg0)
          ∧ r.2.mem ((c.tc : Thread Cert.RmsMemRefIdeal.nD Cert.RmsMemRefIdeal.τ).loc Cert.RmsMemRefIdeal.main_arg1) = m' ((c.tc : Thread Cert.RmsMemRefIdeal.nD Cert.RmsMemRefIdeal.τ).loc Cert.RmsMemRefIdeal.main_arg1)
          ∧ r.2.mem ((c.tc : Thread Cert.RmsMemRefIdeal.nD Cert.RmsMemRefIdeal.τ).loc Cert.RmsMemRefIdeal.main_arg2) = m' ((c.tc : Thread Cert.RmsMemRefIdeal.nD Cert.RmsMemRefIdeal.τ).loc Cert.RmsMemRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v27) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v1_0)) (v1 : (c : Dev Cert.AdamSmallIdeal.nD) → Buf (Elt Ideal) ((c.tc : Thread Cert.AdamSmallIdeal.nD Cert.AdamSmallIdeal.τ).loc Cert.AdamSmallIdeal.main_v1_1)) (v2 : (c : Dev Cert.AdamSmallIdeal.nD) → Buf (Elt Ideal) ((c.tc : Thread Cert.AdamSmallIdeal.nD Cert.AdamSmallIdeal.τ).loc Cert.AdamSmallIdeal.main_v1_2)) (v3 : (c : Dev Cert.AdamSmallIdeal.nD) → Buf (Elt Ideal) ((c.tc : Thread Cert.AdamSmallIdeal.nD Cert.AdamSmallIdeal.τ).loc Cert.AdamSmallIdeal.main_v1_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v1_0) = v0 c
          ∧ r.2.mem ((c.tc : Thread Cert.AdamSmallIdeal.nD Cert.AdamSmallIdeal.τ).loc Cert.AdamSmallIdeal.main_v1_1) = v1 c
          ∧ r.2.mem ((c.tc : Thread Cert.AdamSmallIdeal.nD Cert.AdamSmallIdeal.τ).loc Cert.AdamSmallIdeal.main_v1_2) = v2 c
          ∧ r.2.mem ((c.tc : Thread Cert.AdamSmallIdeal.nD Cert.AdamSmallIdeal.τ).loc Cert.AdamSmallIdeal.main_v1_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg0) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v2) = v0 c
          ∧ r.2.mem ((c.tc : Thread Cert.AdamOutRefIdeal.nD Cert.AdamOutRefIdeal.τ).loc Cert.AdamOutRefIdeal.main_v26) = v1 c
          ∧ r.2.mem ((c.tc : Thread Cert.AdamOutRefIdeal.nD Cert.AdamOutRefIdeal.τ).loc Cert.AdamOutRefIdeal.main_v7) = v2 c
          ∧ r.2.mem ((c.tc : Thread Cert.AdamOutRefIdeal.nD Cert.AdamOutRefIdeal.τ).loc Cert.AdamOutRefIdeal.main_v13) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamConvA_AdamConvAIdeal : Prop :=
  True

def algebraic_AdamConvAIdeal_AdamConvARefIdeal [hAdamConvAIdeal : Cert.AdamConvAIdeal.Facts] [hAdamConvARefIdeal : Cert.AdamConvARefIdeal.Facts] : Prop :=
  ∀ (m : (ℓ : Loc Cert.AdamConvAIdeal.nD Cert.AdamConvAIdeal.τ Cert.AdamConvAIdeal.sig) → Buf (Elt Ideal) ℓ) (g : Dev Cert.AdamConvAIdeal.nD → PrngReg)
    (m' : (ℓ : Loc Cert.AdamConvARefIdeal.nD Cert.AdamConvARefIdeal.τ Cert.AdamConvARefIdeal.sig) → Buf (Elt Ideal) ℓ) (g' : Dev Cert.AdamConvARefIdeal.nD → PrngReg), Pre_AdamConvAIdeal m →
    (∀ c : Dev Cert.AdamConvAIdeal.nD,
      m' ((c.tc : Thread Cert.AdamConvARefIdeal.nD Cert.AdamConvARefIdeal.τ).loc Cert.AdamConvARefIdeal.main_arg0) = m ((c.tc : Thread Cert.AdamConvAIdeal.nD Cert.AdamConvAIdeal.τ).loc Cert.AdamConvAIdeal.main_arg0)
      ∧ m' ((c.tc : Thread Cert.AdamConvARefIdeal.nD Cert.AdamConvARefIdeal.τ).loc Cert.AdamConvARefIdeal.main_arg1) = m ((c.tc : Thread Cert.AdamConvAIdeal.nD Cert.AdamConvAIdeal.τ).loc Cert.AdamConvAIdeal.main_arg1)
      ∧ m' ((c.tc : Thread Cert.AdamConvARefIdeal.nD Cert.AdamConvARefIdeal.τ).loc Cert.AdamConvARefIdeal.main_arg2) = m ((c.tc : Thread Cert.AdamConvAIdeal.nD Cert.AdamConvAIdeal.τ).loc Cert.AdamConvAIdeal.main_arg2)
      ∧ m' ((c.tc : Thread Cert.AdamConvARefIdeal.nD Cert.AdamConvARefIdeal.τ).loc Cert.AdamConvARefIdeal.main_arg3) = m ((c.tc : Thread Cert.AdamConvAIdeal.nD Cert.AdamConvAIdeal.τ).loc Cert.AdamConvAIdeal.main_arg3)) →
    ∃ (v0 : (c : Dev Cert.AdamConvAIdeal.nD) → Buf (Elt Ideal) ((c.tc : Thread Cert.AdamConvAIdeal.nD Cert.AdamConvAIdeal.τ).loc Cert.AdamConvAIdeal.main_v0_0)) (v1 : (c : Dev Cert.AdamConvAIdeal.nD) → Buf (Elt Ideal) ((c.tc : Thread Cert.AdamConvAIdeal.nD Cert.AdamConvAIdeal.τ).loc Cert.AdamConvAIdeal.main_v0_1)) (v2 : (c : Dev Cert.AdamConvAIdeal.nD) → Buf (Elt Ideal) ((c.tc : Thread Cert.AdamConvAIdeal.nD Cert.AdamConvAIdeal.τ).loc Cert.AdamConvAIdeal.main_v0_2)) (v3 : (c : Dev Cert.AdamConvAIdeal.nD) → Buf (Elt Ideal) ((c.tc : Thread Cert.AdamConvAIdeal.nD Cert.AdamConvAIdeal.τ).loc Cert.AdamConvAIdeal.main_v0_3)),
      θ_run (Cert.AdamConvAIdeal.defs (F := Ideal)) (onTc (τ := Cert.AdamConvAIdeal.τ) (Cert.AdamConvAIdeal.main (F := Ideal))) ⟨m, fun _ => 0, g⟩ (fun r => ∀ c : Dev Cert.AdamConvAIdeal.nD,
          r.2.mem ((c.tc : Thread Cert.AdamConvAIdeal.nD Cert.AdamConvAIdeal.τ).loc Cert.AdamConvAIdeal.main_v0_0) = v0 c
          ∧ r.2.mem ((c.tc : Thread Cert.AdamConvAIdeal.nD Cert.AdamConvAIdeal.τ).loc Cert.AdamConvAIdeal.main_v0_1) = v1 c
          ∧ r.2.mem ((c.tc : Thread Cert.AdamConvAIdeal.nD Cert.AdamConvAIdeal.τ).loc Cert.AdamConvAIdeal.main_v0_2) = v2 c
          ∧ r.2.mem ((c.tc : Thread Cert.AdamConvAIdeal.nD Cert.AdamConvAIdeal.τ).loc Cert.AdamConvAIdeal.main_v0_3) = v3 c
          ∧ r.2.mem ((c.tc : Thread Cert.AdamConvAIdeal.nD Cert.AdamConvAIdeal.τ).loc Cert.AdamConvAIdeal.main_arg0) = m ((c.tc : Thread Cert.AdamConvAIdeal.nD Cert.AdamConvAIdeal.τ).loc Cert.AdamConvAIdeal.main_arg0)
          ∧ r.2.mem ((c.tc : Thread Cert.AdamConvAIdeal.nD Cert.AdamConvAIdeal.τ).loc Cert.AdamConvAIdeal.main_arg1) = m ((c.tc : Thread Cert.AdamConvAIdeal.nD Cert.AdamConvAIdeal.τ).loc Cert.AdamConvAIdeal.main_arg1)
          ∧ r.2.mem ((c.tc : Thread Cert.AdamConvAIdeal.nD Cert.AdamConvAIdeal.τ).loc Cert.AdamConvAIdeal.main_arg2) = m ((c.tc : Thread Cert.AdamConvAIdeal.nD Cert.AdamConvAIdeal.τ).loc Cert.AdamConvAIdeal.main_arg2)
          ∧ r.2.mem ((c.tc : Thread Cert.AdamConvAIdeal.nD Cert.AdamConvAIdeal.τ).loc Cert.AdamConvAIdeal.main_arg3) = m ((c.tc : Thread Cert.AdamConvAIdeal.nD Cert.AdamConvAIdeal.τ).loc Cert.AdamConvAIdeal.main_arg3))
      ∧ θ_run (Cert.AdamConvARefIdeal.defs (F := Ideal)) (onTc (τ := Cert.AdamConvARefIdeal.τ) (Cert.AdamConvARefIdeal.main (F := Ideal))) ⟨m', fun _ => 0, g'⟩ (fun r => ∀ c : Dev Cert.AdamConvARefIdeal.nD,
          r.2.mem ((c.tc : Thread Cert.AdamConvARefIdeal.nD Cert.AdamConvARefIdeal.τ).loc Cert.AdamConvARefIdeal.main_v1) = v0 c
          ∧ r.2.mem ((c.tc : Thread Cert.AdamConvARefIdeal.nD Cert.AdamConvARefIdeal.τ).loc Cert.AdamConvARefIdeal.main_v25) = v1 c
          ∧ r.2.mem ((c.tc : Thread Cert.AdamConvARefIdeal.nD Cert.AdamConvARefIdeal.τ).loc Cert.AdamConvARefIdeal.main_v6) = v2 c
          ∧ r.2.mem ((c.tc : Thread Cert.AdamConvARefIdeal.nD Cert.AdamConvARefIdeal.τ).loc Cert.AdamConvARefIdeal.main_v12) = v3 c
          ∧ r.2.mem ((c.tc : Thread Cert.AdamConvARefIdeal.nD Cert.AdamConvARefIdeal.τ).loc Cert.AdamConvARefIdeal.main_arg0) = m' ((c.tc : Thread Cert.AdamConvARefIdeal.nD Cert.AdamConvARefIdeal.τ).loc Cert.AdamConvARefIdeal.main_arg0)
          ∧ r.2.mem ((c.tc : Thread Cert.AdamConvARefIdeal.nD Cert.AdamConvARefIdeal.τ).loc Cert.AdamConvARefIdeal.main_arg1) = m' ((c.tc : Thread Cert.AdamConvARefIdeal.nD Cert.AdamConvARefIdeal.τ).loc Cert.AdamConvARefIdeal.main_arg1)
          ∧ r.2.mem ((c.tc : Thread Cert.AdamConvARefIdeal.nD Cert.AdamConvARefIdeal.τ).loc Cert.AdamConvARefIdeal.main_arg2) = m' ((c.tc : Thread Cert.AdamConvARefIdeal.nD Cert.AdamConvARefIdeal.τ).loc Cert.AdamConvARefIdeal.main_arg2)
          ∧ r.2.mem ((c.tc : Thread Cert.AdamConvARefIdeal.nD Cert.AdamConvARefIdeal.τ).loc Cert.AdamConvARefIdeal.main_arg3) = m' ((c.tc : Thread Cert.AdamConvARefIdeal.nD Cert.AdamConvARefIdeal.τ).loc Cert.AdamConvARefIdeal.main_arg3))

def preserves_AdamConvB_AdamConvBIdeal : Prop :=
  True

def algebraic_AdamConvBIdeal_AdamConvBRefIdeal [hAdamConvBIdeal : Cert.AdamConvBIdeal.Facts] [hAdamConvBRefIdeal : Cert.AdamConvBRefIdeal.Facts] : Prop :=
  ∀ (m : (ℓ : Loc Cert.AdamConvBIdeal.nD Cert.AdamConvBIdeal.τ Cert.AdamConvBIdeal.sig) → Buf (Elt Ideal) ℓ) (g : Dev Cert.AdamConvBIdeal.nD → PrngReg)
    (m' : (ℓ : Loc Cert.AdamConvBRefIdeal.nD Cert.AdamConvBRefIdeal.τ Cert.AdamConvBRefIdeal.sig) → Buf (Elt Ideal) ℓ) (g' : Dev Cert.AdamConvBRefIdeal.nD → PrngReg), Pre_AdamConvBIdeal m →
    (∀ c : Dev Cert.AdamConvBIdeal.nD,
      m' ((c.tc : Thread Cert.AdamConvBRefIdeal.nD Cert.AdamConvBRefIdeal.τ).loc Cert.AdamConvBRefIdeal.main_arg0) = m ((c.tc : Thread Cert.AdamConvBIdeal.nD Cert.AdamConvBIdeal.τ).loc Cert.AdamConvBIdeal.main_arg0)
      ∧ m' ((c.tc : Thread Cert.AdamConvBRefIdeal.nD Cert.AdamConvBRefIdeal.τ).loc Cert.AdamConvBRefIdeal.main_arg1) = m ((c.tc : Thread Cert.AdamConvBIdeal.nD Cert.AdamConvBIdeal.τ).loc Cert.AdamConvBIdeal.main_arg1)
      ∧ m' ((c.tc : Thread Cert.AdamConvBRefIdeal.nD Cert.AdamConvBRefIdeal.τ).loc Cert.AdamConvBRefIdeal.main_arg2) = m ((c.tc : Thread Cert.AdamConvBIdeal.nD Cert.AdamConvBIdeal.τ).loc Cert.AdamConvBIdeal.main_arg2)
      ∧ m' ((c.tc : Thread Cert.AdamConvBRefIdeal.nD Cert.AdamConvBRefIdeal.τ).loc Cert.AdamConvBRefIdeal.main_arg3) = m ((c.tc : Thread Cert.AdamConvBIdeal.nD Cert.AdamConvBIdeal.τ).loc Cert.AdamConvBIdeal.main_arg3)) →
    ∃ (v0 : (c : Dev Cert.AdamConvBIdeal.nD) → Buf (Elt Ideal) ((c.tc : Thread Cert.AdamConvBIdeal.nD Cert.AdamConvBIdeal.τ).loc Cert.AdamConvBIdeal.main_v0_0)) (v1 : (c : Dev Cert.AdamConvBIdeal.nD) → Buf (Elt Ideal) ((c.tc : Thread Cert.AdamConvBIdeal.nD Cert.AdamConvBIdeal.τ).loc Cert.AdamConvBIdeal.main_v0_1)) (v2 : (c : Dev Cert.AdamConvBIdeal.nD) → Buf (Elt Ideal) ((c.tc : Thread Cert.AdamConvBIdeal.nD Cert.AdamConvBIdeal.τ).loc Cert.AdamConvBIdeal.main_v0_2)) (v3 : (c : Dev Cert.AdamConvBIdeal.nD) → Buf (Elt Ideal) ((c.tc : Thread Cert.AdamConvBIdeal.nD Cert.AdamConvBIdeal.τ).loc Cert.AdamConvBIdeal.main_v0_3)),
      θ_run (Cert.AdamConvBIdeal.defs (F := Ideal)) (onTc (τ := Cert.AdamConvBIdeal.τ) (Cert.AdamConvBIdeal.main (F := Ideal))) ⟨m, fun _ => 0, g⟩ (fun r => ∀ c : Dev Cert.AdamConvBIdeal.nD,
          r.2.mem ((c.tc : Thread Cert.AdamConvBIdeal.nD Cert.AdamConvBIdeal.τ).loc Cert.AdamConvBIdeal.main_v0_0) = v0 c
          ∧ r.2.mem ((c.tc : Thread Cert.AdamConvBIdeal.nD Cert.AdamConvBIdeal.τ).loc Cert.AdamConvBIdeal.main_v0_1) = v1 c
          ∧ r.2.mem ((c.tc : Thread Cert.AdamConvBIdeal.nD Cert.AdamConvBIdeal.τ).loc Cert.AdamConvBIdeal.main_v0_2) = v2 c
          ∧ r.2.mem ((c.tc : Thread Cert.AdamConvBIdeal.nD Cert.AdamConvBIdeal.τ).loc Cert.AdamConvBIdeal.main_v0_3) = v3 c
          ∧ r.2.mem ((c.tc : Thread Cert.AdamConvBIdeal.nD Cert.AdamConvBIdeal.τ).loc Cert.AdamConvBIdeal.main_arg0) = m ((c.tc : Thread Cert.AdamConvBIdeal.nD Cert.AdamConvBIdeal.τ).loc Cert.AdamConvBIdeal.main_arg0)
          ∧ r.2.mem ((c.tc : Thread Cert.AdamConvBIdeal.nD Cert.AdamConvBIdeal.τ).loc Cert.AdamConvBIdeal.main_arg1) = m ((c.tc : Thread Cert.AdamConvBIdeal.nD Cert.AdamConvBIdeal.τ).loc Cert.AdamConvBIdeal.main_arg1)
          ∧ r.2.mem ((c.tc : Thread Cert.AdamConvBIdeal.nD Cert.AdamConvBIdeal.τ).loc Cert.AdamConvBIdeal.main_arg2) = m ((c.tc : Thread Cert.AdamConvBIdeal.nD Cert.AdamConvBIdeal.τ).loc Cert.AdamConvBIdeal.main_arg2)
          ∧ r.2.mem ((c.tc : Thread Cert.AdamConvBIdeal.nD Cert.AdamConvBIdeal.τ).loc Cert.AdamConvBIdeal.main_arg3) = m ((c.tc : Thread Cert.AdamConvBIdeal.nD Cert.AdamConvBIdeal.τ).loc Cert.AdamConvBIdeal.main_arg3))
      ∧ θ_run (Cert.AdamConvBRefIdeal.defs (F := Ideal)) (onTc (τ := Cert.AdamConvBRefIdeal.τ) (Cert.AdamConvBRefIdeal.main (F := Ideal))) ⟨m', fun _ => 0, g'⟩ (fun r => ∀ c : Dev Cert.AdamConvBRefIdeal.nD,
          r.2.mem ((c.tc : Thread Cert.AdamConvBRefIdeal.nD Cert.AdamConvBRefIdeal.τ).loc Cert.AdamConvBRefIdeal.main_v1) = v0 c
          ∧ r.2.mem ((c.tc : Thread Cert.AdamConvBRefIdeal.nD Cert.AdamConvBRefIdeal.τ).loc Cert.AdamConvBRefIdeal.main_v25) = v1 c
          ∧ r.2.mem ((c.tc : Thread Cert.AdamConvBRefIdeal.nD Cert.AdamConvBRefIdeal.τ).loc Cert.AdamConvBRefIdeal.main_v6) = v2 c
          ∧ r.2.mem ((c.tc : Thread Cert.AdamConvBRefIdeal.nD Cert.AdamConvBRefIdeal.τ).loc Cert.AdamConvBRefIdeal.main_v12) = v3 c
          ∧ r.2.mem ((c.tc : Thread Cert.AdamConvBRefIdeal.nD Cert.AdamConvBRefIdeal.τ).loc Cert.AdamConvBRefIdeal.main_arg0) = m' ((c.tc : Thread Cert.AdamConvBRefIdeal.nD Cert.AdamConvBRefIdeal.τ).loc Cert.AdamConvBRefIdeal.main_arg0)
          ∧ r.2.mem ((c.tc : Thread Cert.AdamConvBRefIdeal.nD Cert.AdamConvBRefIdeal.τ).loc Cert.AdamConvBRefIdeal.main_arg1) = m' ((c.tc : Thread Cert.AdamConvBRefIdeal.nD Cert.AdamConvBRefIdeal.τ).loc Cert.AdamConvBRefIdeal.main_arg1)
          ∧ r.2.mem ((c.tc : Thread Cert.AdamConvBRefIdeal.nD Cert.AdamConvBRefIdeal.τ).loc Cert.AdamConvBRefIdeal.main_arg2) = m' ((c.tc : Thread Cert.AdamConvBRefIdeal.nD Cert.AdamConvBRefIdeal.τ).loc Cert.AdamConvBRefIdeal.main_arg2)
          ∧ r.2.mem ((c.tc : Thread Cert.AdamConvBRefIdeal.nD Cert.AdamConvBRefIdeal.τ).loc Cert.AdamConvBRefIdeal.main_arg3) = m' ((c.tc : Thread Cert.AdamConvBRefIdeal.nD Cert.AdamConvBRefIdeal.τ).loc Cert.AdamConvBRefIdeal.main_arg3))

def preserves_AdamConvF_AdamConvFIdeal : Prop :=
  True

def algebraic_AdamConvFIdeal_AdamConvFRefIdeal [hAdamConvFIdeal : Cert.AdamConvFIdeal.Facts] [hAdamConvFRefIdeal : Cert.AdamConvFRefIdeal.Facts] : Prop :=
  ∀ (m : (ℓ : Loc Cert.AdamConvFIdeal.nD Cert.AdamConvFIdeal.τ Cert.AdamConvFIdeal.sig) → Buf (Elt Ideal) ℓ) (g : Dev Cert.AdamConvFIdeal.nD → PrngReg)
    (m' : (ℓ : Loc Cert.AdamConvFRefIdeal.nD Cert.AdamConvFRefIdeal.τ Cert.AdamConvFRefIdeal.sig) → Buf (Elt Ideal) ℓ) (g' : Dev Cert.AdamConvFRefIdeal.nD → PrngReg), Pre_AdamConvFIdeal m →
    (∀ c : Dev Cert.AdamConvFIdeal.nD,
      m' ((c.tc : Thread Cert.AdamConvFRefIdeal.nD Cert.AdamConvFRefIdeal.τ).loc Cert.AdamConvFRefIdeal.main_arg0) = m ((c.tc : Thread Cert.AdamConvFIdeal.nD Cert.AdamConvFIdeal.τ).loc Cert.AdamConvFIdeal.main_arg0)
      ∧ m' ((c.tc : Thread Cert.AdamConvFRefIdeal.nD Cert.AdamConvFRefIdeal.τ).loc Cert.AdamConvFRefIdeal.main_arg1) = m ((c.tc : Thread Cert.AdamConvFIdeal.nD Cert.AdamConvFIdeal.τ).loc Cert.AdamConvFIdeal.main_arg1)
      ∧ m' ((c.tc : Thread Cert.AdamConvFRefIdeal.nD Cert.AdamConvFRefIdeal.τ).loc Cert.AdamConvFRefIdeal.main_arg2) = m ((c.tc : Thread Cert.AdamConvFIdeal.nD Cert.AdamConvFIdeal.τ).loc Cert.AdamConvFIdeal.main_arg2)
      ∧ m' ((c.tc : Thread Cert.AdamConvFRefIdeal.nD Cert.AdamConvFRefIdeal.τ).loc Cert.AdamConvFRefIdeal.main_arg3) = m ((c.tc : Thread Cert.AdamConvFIdeal.nD Cert.AdamConvFIdeal.τ).loc Cert.AdamConvFIdeal.main_arg3)) →
    ∃ (v0 : (c : Dev Cert.AdamConvFIdeal.nD) → Buf (Elt Ideal) ((c.tc : Thread Cert.AdamConvFIdeal.nD Cert.AdamConvFIdeal.τ).loc Cert.AdamConvFIdeal.main_v0_0)) (v1 : (c : Dev Cert.AdamConvFIdeal.nD) → Buf (Elt Ideal) ((c.tc : Thread Cert.AdamConvFIdeal.nD Cert.AdamConvFIdeal.τ).loc Cert.AdamConvFIdeal.main_v0_1)) (v2 : (c : Dev Cert.AdamConvFIdeal.nD) → Buf (Elt Ideal) ((c.tc : Thread Cert.AdamConvFIdeal.nD Cert.AdamConvFIdeal.τ).loc Cert.AdamConvFIdeal.main_v0_2)) (v3 : (c : Dev Cert.AdamConvFIdeal.nD) → Buf (Elt Ideal) ((c.tc : Thread Cert.AdamConvFIdeal.nD Cert.AdamConvFIdeal.τ).loc Cert.AdamConvFIdeal.main_v0_3)),
      θ_run (Cert.AdamConvFIdeal.defs (F := Ideal)) (onTc (τ := Cert.AdamConvFIdeal.τ) (Cert.AdamConvFIdeal.main (F := Ideal))) ⟨m, fun _ => 0, g⟩ (fun r => ∀ c : Dev Cert.AdamConvFIdeal.nD,
          r.2.mem ((c.tc : Thread Cert.AdamConvFIdeal.nD Cert.AdamConvFIdeal.τ).loc Cert.AdamConvFIdeal.main_v0_0) = v0 c
          ∧ r.2.mem ((c.tc : Thread Cert.AdamConvFIdeal.nD Cert.AdamConvFIdeal.τ).loc Cert.AdamConvFIdeal.main_v0_1) = v1 c
          ∧ r.2.mem ((c.tc : Thread Cert.AdamConvFIdeal.nD Cert.AdamConvFIdeal.τ).loc Cert.AdamConvFIdeal.main_v0_2) = v2 c
          ∧ r.2.mem ((c.tc : Thread Cert.AdamConvFIdeal.nD Cert.AdamConvFIdeal.τ).loc Cert.AdamConvFIdeal.main_v0_3) = v3 c
          ∧ r.2.mem ((c.tc : Thread Cert.AdamConvFIdeal.nD Cert.AdamConvFIdeal.τ).loc Cert.AdamConvFIdeal.main_arg0) = m ((c.tc : Thread Cert.AdamConvFIdeal.nD Cert.AdamConvFIdeal.τ).loc Cert.AdamConvFIdeal.main_arg0)
          ∧ r.2.mem ((c.tc : Thread Cert.AdamConvFIdeal.nD Cert.AdamConvFIdeal.τ).loc Cert.AdamConvFIdeal.main_arg1) = m ((c.tc : Thread Cert.AdamConvFIdeal.nD Cert.AdamConvFIdeal.τ).loc Cert.AdamConvFIdeal.main_arg1)
          ∧ r.2.mem ((c.tc : Thread Cert.AdamConvFIdeal.nD Cert.AdamConvFIdeal.τ).loc Cert.AdamConvFIdeal.main_arg2) = m ((c.tc : Thread Cert.AdamConvFIdeal.nD Cert.AdamConvFIdeal.τ).loc Cert.AdamConvFIdeal.main_arg2)
          ∧ r.2.mem ((c.tc : Thread Cert.AdamConvFIdeal.nD Cert.AdamConvFIdeal.τ).loc Cert.AdamConvFIdeal.main_arg3) = m ((c.tc : Thread Cert.AdamConvFIdeal.nD Cert.AdamConvFIdeal.τ).loc Cert.AdamConvFIdeal.main_arg3))
      ∧ θ_run (Cert.AdamConvFRefIdeal.defs (F := Ideal)) (onTc (τ := Cert.AdamConvFRefIdeal.τ) (Cert.AdamConvFRefIdeal.main (F := Ideal))) ⟨m', fun _ => 0, g'⟩ (fun r => ∀ c : Dev Cert.AdamConvFRefIdeal.nD,
          r.2.mem ((c.tc : Thread Cert.AdamConvFRefIdeal.nD Cert.AdamConvFRefIdeal.τ).loc Cert.AdamConvFRefIdeal.main_v1) = v0 c
          ∧ r.2.mem ((c.tc : Thread Cert.AdamConvFRefIdeal.nD Cert.AdamConvFRefIdeal.τ).loc Cert.AdamConvFRefIdeal.main_v25) = v1 c
          ∧ r.2.mem ((c.tc : Thread Cert.AdamConvFRefIdeal.nD Cert.AdamConvFRefIdeal.τ).loc Cert.AdamConvFRefIdeal.main_v6) = v2 c
          ∧ r.2.mem ((c.tc : Thread Cert.AdamConvFRefIdeal.nD Cert.AdamConvFRefIdeal.τ).loc Cert.AdamConvFRefIdeal.main_v12) = v3 c
          ∧ r.2.mem ((c.tc : Thread Cert.AdamConvFRefIdeal.nD Cert.AdamConvFRefIdeal.τ).loc Cert.AdamConvFRefIdeal.main_arg0) = m' ((c.tc : Thread Cert.AdamConvFRefIdeal.nD Cert.AdamConvFRefIdeal.τ).loc Cert.AdamConvFRefIdeal.main_arg0)
          ∧ r.2.mem ((c.tc : Thread Cert.AdamConvFRefIdeal.nD Cert.AdamConvFRefIdeal.τ).loc Cert.AdamConvFRefIdeal.main_arg1) = m' ((c.tc : Thread Cert.AdamConvFRefIdeal.nD Cert.AdamConvFRefIdeal.τ).loc Cert.AdamConvFRefIdeal.main_arg1)
          ∧ r.2.mem ((c.tc : Thread Cert.AdamConvFRefIdeal.nD Cert.AdamConvFRefIdeal.τ).loc Cert.AdamConvFRefIdeal.main_arg2) = m' ((c.tc : Thread Cert.AdamConvFRefIdeal.nD Cert.AdamConvFRefIdeal.τ).loc Cert.AdamConvFRefIdeal.main_arg2)
          ∧ r.2.mem ((c.tc : Thread Cert.AdamConvFRefIdeal.nD Cert.AdamConvFRefIdeal.τ).loc Cert.AdamConvFRefIdeal.main_arg3) = m' ((c.tc : Thread Cert.AdamConvFRefIdeal.nD Cert.AdamConvFRefIdeal.τ).loc Cert.AdamConvFRefIdeal.main_arg3))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)) →
    ∃ (v0 : (c : Dev Cert.MixFwdIdeal.nD) → Buf (Elt Ideal) ((c.tc : Thread Cert.MixFwdIdeal.nD Cert.MixFwdIdeal.τ).loc Cert.MixFwdIdeal.main_v0_0)) (v1 : (c : Dev Cert.MixFwdIdeal.nD) → Buf (Elt Ideal) ((c.tc : Thread Cert.MixFwdIdeal.nD Cert.MixFwdIdeal.τ).loc Cert.MixFwdIdeal.main_v0_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v0_0) = v0 c
          ∧ r.2.mem ((c.tc : Thread Cert.MixFwdIdeal.nD Cert.MixFwdIdeal.τ).loc Cert.MixFwdIdeal.main_v0_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v283) = v0 c
          ∧ r.2.mem ((c.tc : Thread Cert.MixFwdRefIdeal.nD Cert.MixFwdRefIdeal.τ).loc Cert.MixFwdRefIdeal.main_v232) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)) →
    ∃ (v0 : (c : Dev Cert.FfnFwdIdeal.nD) → Buf (Elt Ideal) ((c.tc : Thread Cert.FfnFwdIdeal.nD Cert.FfnFwdIdeal.τ).loc Cert.FfnFwdIdeal.main_v6)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v6) = v0 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v28) = v0 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2))

def Claim : Prop :=
  ∃ (hKernel : Cert.Kernel.Facts) (hKernelIdeal : Cert.KernelIdeal.Facts) (hReferenceIdeal : Cert.ReferenceIdeal.Facts) (hDwDown : Cert.DwDown.Facts) (hDwDownIdeal : Cert.DwDownIdeal.Facts) (hDwDownRefIdeal : Cert.DwDownRefIdeal.Facts) (hDf : Cert.Df.Facts) (hDfIdeal : Cert.DfIdeal.Facts) (hDfRefIdeal : Cert.DfRefIdeal.Facts) (hDxn3 : Cert.Dxn3.Facts) (hDxn3Ideal : Cert.Dxn3Ideal.Facts) (hDxn3RefIdeal : Cert.Dxn3RefIdeal.Facts) (hMix : Cert.Mix.Facts) (hMixIdeal : Cert.MixIdeal.Facts) (hMixRefIdeal : Cert.MixRefIdeal.Facts) (hDxn1 : Cert.Dxn1.Facts) (hDxn1Ideal : Cert.Dxn1Ideal.Facts) (hDxn1RefIdeal : Cert.Dxn1RefIdeal.Facts) (hH3 : Cert.H3.Facts) (hH3Ideal : Cert.H3Ideal.Facts) (hH3RefIdeal : Cert.H3RefIdeal.Facts) (hProj : Cert.Proj.Facts) (hProjIdeal : Cert.ProjIdeal.Facts) (hProjRefIdeal : Cert.ProjRefIdeal.Facts) (hGate : Cert.Gate.Facts) (hGateIdeal : Cert.GateIdeal.Facts) (hGateRefIdeal : Cert.GateRefIdeal.Facts) (hAdam : Cert.Adam.Facts) (hAdamIdeal : Cert.AdamIdeal.Facts) (hAdamRefIdeal : Cert.AdamRefIdeal.Facts) (hDwIn : Cert.DwIn.Facts) (hDwInIdeal : Cert.DwInIdeal.Facts) (hDwInRefIdeal : Cert.DwInRefIdeal.Facts) (hQ : Cert.Q.Facts) (hQIdeal : Cert.QIdeal.Facts) (hQRefIdeal : Cert.QRefIdeal.Facts) (hH2 : Cert.H2.Facts) (hH2Ideal : Cert.H2Ideal.Facts) (hH2RefIdeal : Cert.H2RefIdeal.Facts) (hH1 : Cert.H1.Facts) (hH1Ideal : Cert.H1Ideal.Facts) (hH1RefIdeal : Cert.H1RefIdeal.Facts) (hDo : Cert.Do.Facts) (hDoIdeal : Cert.DoIdeal.Facts) (hDoRefIdeal : Cert.DoRefIdeal.Facts) (hDxn2 : Cert.Dxn2.Facts) (hDxn2Ideal : Cert.Dxn2Ideal.Facts) (hDxn2RefIdeal : Cert.Dxn2RefIdeal.Facts) (hDwO : Cert.DwO.Facts) (hDwOIdeal : Cert.DwOIdeal.Facts) (hDwORefIdeal : Cert.DwORefIdeal.Facts) (hDwQ : Cert.DwQ.Facts) (hDwQIdeal : Cert.DwQIdeal.Facts) (hDwQRefIdeal : Cert.DwQRefIdeal.Facts) (hDwOut : Cert.DwOut.Facts) (hDwOutIdeal : Cert.DwOutIdeal.Facts) (hDwOutRefIdeal : Cert.DwOutRefIdeal.Facts) (hLoss : Cert.Loss.Facts) (hLossIdeal : Cert.LossIdeal.Facts) (hLossRefIdeal : Cert.LossRefIdeal.Facts) (hRmsMem : Cert.RmsMem.Facts) (hRmsMemIdeal : Cert.RmsMemIdeal.Facts) (hRmsMemRefIdeal : Cert.RmsMemRefIdeal.Facts) (hRmsFwd : Cert.RmsFwd.Facts) (hRmsFwdIdeal : Cert.RmsFwdIdeal.Facts) (hRmsFwdRefIdeal : Cert.RmsFwdRefIdeal.Facts) (hAttnFwd : Cert.AttnFwd.Facts) (hAttnFwdIdeal : Cert.AttnFwdIdeal.Facts) (hAttnFwdRefIdeal : Cert.AttnFwdRefIdeal.Facts) (hAdamSmall : Cert.AdamSmall.Facts) (hAdamSmallIdeal : Cert.AdamSmallIdeal.Facts) (hAdamSmallRefIdeal : Cert.AdamSmallRefIdeal.Facts) (hAdamOut : Cert.AdamOut.Facts) (hAdamOutIdeal : Cert.AdamOutIdeal.Facts) (hAdamOutRefIdeal : Cert.AdamOutRefIdeal.Facts) (hAdamConvA : Cert.AdamConvA.Facts) (hAdamConvAIdeal : Cert.AdamConvAIdeal.Facts) (hAdamConvARefIdeal : Cert.AdamConvARefIdeal.Facts) (hAdamConvB : Cert.AdamConvB.Facts) (hAdamConvBIdeal : Cert.AdamConvBIdeal.Facts) (hAdamConvBRefIdeal : Cert.AdamConvBRefIdeal.Facts) (hAdamConvF : Cert.AdamConvF.Facts) (hAdamConvFIdeal : Cert.AdamConvFIdeal.Facts) (hAdamConvFRefIdeal : Cert.AdamConvFRefIdeal.Facts) (hMixFwd : Cert.MixFwd.Facts) (hMixFwdIdeal : Cert.MixFwdIdeal.Facts) (hMixFwdRefIdeal : Cert.MixFwdRefIdeal.Facts) (hFfnFwd : Cert.FfnFwd.Facts) (hFfnFwdIdeal : Cert.FfnFwdIdeal.Facts) (hFfnFwdRefIdeal : Cert.FfnFwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_Df (hDf := hDf)
    ∧ quiescent_DfIdeal (hDfIdeal := hDfIdeal)
    ∧ quiescent_DfRefIdeal (hDfRefIdeal := hDfRefIdeal)
    ∧ quiescent_Dxn3 (hDxn3 := hDxn3)
    ∧ quiescent_Dxn3Ideal (hDxn3Ideal := hDxn3Ideal)
    ∧ quiescent_Dxn3RefIdeal (hDxn3RefIdeal := hDxn3RefIdeal)
    ∧ quiescent_Mix (hMix := hMix)
    ∧ quiescent_MixIdeal (hMixIdeal := hMixIdeal)
    ∧ quiescent_MixRefIdeal (hMixRefIdeal := hMixRefIdeal)
    ∧ quiescent_Dxn1 (hDxn1 := hDxn1)
    ∧ quiescent_Dxn1Ideal (hDxn1Ideal := hDxn1Ideal)
    ∧ quiescent_Dxn1RefIdeal (hDxn1RefIdeal := hDxn1RefIdeal)
    ∧ quiescent_H3 (hH3 := hH3)
    ∧ quiescent_H3Ideal (hH3Ideal := hH3Ideal)
    ∧ quiescent_H3RefIdeal (hH3RefIdeal := hH3RefIdeal)
    ∧ quiescent_Proj (hProj := hProj)
    ∧ quiescent_ProjIdeal (hProjIdeal := hProjIdeal)
    ∧ quiescent_ProjRefIdeal (hProjRefIdeal := hProjRefIdeal)
    ∧ quiescent_Gate (hGate := hGate)
    ∧ quiescent_GateIdeal (hGateIdeal := hGateIdeal)
    ∧ quiescent_GateRefIdeal (hGateRefIdeal := hGateRefIdeal)
    ∧ quiescent_Adam (hAdam := hAdam)
    ∧ quiescent_AdamIdeal (hAdamIdeal := hAdamIdeal)
    ∧ quiescent_AdamRefIdeal (hAdamRefIdeal := hAdamRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Q (hQ := hQ)
    ∧ quiescent_QIdeal (hQIdeal := hQIdeal)
    ∧ quiescent_QRefIdeal (hQRefIdeal := hQRefIdeal)
    ∧ quiescent_H2 (hH2 := hH2)
    ∧ quiescent_H2Ideal (hH2Ideal := hH2Ideal)
    ∧ quiescent_H2RefIdeal (hH2RefIdeal := hH2RefIdeal)
    ∧ quiescent_H1 (hH1 := hH1)
    ∧ quiescent_H1Ideal (hH1Ideal := hH1Ideal)
    ∧ quiescent_H1RefIdeal (hH1RefIdeal := hH1RefIdeal)
    ∧ quiescent_Do (hDo := hDo)
    ∧ quiescent_DoIdeal (hDoIdeal := hDoIdeal)
    ∧ quiescent_DoRefIdeal (hDoRefIdeal := hDoRefIdeal)
    ∧ quiescent_Dxn2 (hDxn2 := hDxn2)
    ∧ quiescent_Dxn2Ideal (hDxn2Ideal := hDxn2Ideal)
    ∧ quiescent_Dxn2RefIdeal (hDxn2RefIdeal := hDxn2RefIdeal)
    ∧ quiescent_DwO (hDwO := hDwO)
    ∧ quiescent_DwOIdeal (hDwOIdeal := hDwOIdeal)
    ∧ quiescent_DwORefIdeal (hDwORefIdeal := hDwORefIdeal)
    ∧ quiescent_DwQ (hDwQ := hDwQ)
    ∧ quiescent_DwQIdeal (hDwQIdeal := hDwQIdeal)
    ∧ quiescent_DwQRefIdeal (hDwQRefIdeal := hDwQRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_Loss (hLoss := hLoss)
    ∧ quiescent_LossIdeal (hLossIdeal := hLossIdeal)
    ∧ quiescent_LossRefIdeal (hLossRefIdeal := hLossRefIdeal)
    ∧ quiescent_RmsMem (hRmsMem := hRmsMem)
    ∧ quiescent_RmsMemIdeal (hRmsMemIdeal := hRmsMemIdeal)
    ∧ quiescent_RmsMemRefIdeal (hRmsMemRefIdeal := hRmsMemRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamConvA (hAdamConvA := hAdamConvA)
    ∧ quiescent_AdamConvAIdeal (hAdamConvAIdeal := hAdamConvAIdeal)
    ∧ quiescent_AdamConvARefIdeal (hAdamConvARefIdeal := hAdamConvARefIdeal)
    ∧ quiescent_AdamConvB (hAdamConvB := hAdamConvB)
    ∧ quiescent_AdamConvBIdeal (hAdamConvBIdeal := hAdamConvBIdeal)
    ∧ quiescent_AdamConvBRefIdeal (hAdamConvBRefIdeal := hAdamConvBRefIdeal)
    ∧ quiescent_AdamConvF (hAdamConvF := hAdamConvF)
    ∧ quiescent_AdamConvFIdeal (hAdamConvFIdeal := hAdamConvFIdeal)
    ∧ quiescent_AdamConvFRefIdeal (hAdamConvFRefIdeal := hAdamConvFRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwDown_DwDownIdeal
    ∧ algebraic_DwDownIdeal_DwDownRefIdeal (hDwDownIdeal := hDwDownIdeal) (hDwDownRefIdeal := hDwDownRefIdeal)
    ∧ preserves_Df_DfIdeal
    ∧ algebraic_DfIdeal_DfRefIdeal (hDfIdeal := hDfIdeal) (hDfRefIdeal := hDfRefIdeal)
    ∧ preserves_Dxn3_Dxn3Ideal
    ∧ algebraic_Dxn3Ideal_Dxn3RefIdeal (hDxn3Ideal := hDxn3Ideal) (hDxn3RefIdeal := hDxn3RefIdeal)
    ∧ preserves_Mix_MixIdeal
    ∧ algebraic_MixIdeal_MixRefIdeal (hMixIdeal := hMixIdeal) (hMixRefIdeal := hMixRefIdeal)
    ∧ preserves_Dxn1_Dxn1Ideal
    ∧ algebraic_Dxn1Ideal_Dxn1RefIdeal (hDxn1Ideal := hDxn1Ideal) (hDxn1RefIdeal := hDxn1RefIdeal)
    ∧ preserves_H3_H3Ideal
    ∧ algebraic_H3Ideal_H3RefIdeal (hH3Ideal := hH3Ideal) (hH3RefIdeal := hH3RefIdeal)
    ∧ preserves_Proj_ProjIdeal
    ∧ algebraic_ProjIdeal_ProjRefIdeal (hProjIdeal := hProjIdeal) (hProjRefIdeal := hProjRefIdeal)
    ∧ preserves_Gate_GateIdeal
    ∧ algebraic_GateIdeal_GateRefIdeal (hGateIdeal := hGateIdeal) (hGateRefIdeal := hGateRefIdeal)
    ∧ preserves_Adam_AdamIdeal
    ∧ algebraic_AdamIdeal_AdamRefIdeal (hAdamIdeal := hAdamIdeal) (hAdamRefIdeal := hAdamRefIdeal)
    ∧ preserves_DwIn_DwInIdeal
    ∧ algebraic_DwInIdeal_DwInRefIdeal (hDwInIdeal := hDwInIdeal) (hDwInRefIdeal := hDwInRefIdeal)
    ∧ preserves_Q_QIdeal
    ∧ algebraic_QIdeal_QRefIdeal (hQIdeal := hQIdeal) (hQRefIdeal := hQRefIdeal)
    ∧ preserves_H2_H2Ideal
    ∧ algebraic_H2Ideal_H2RefIdeal (hH2Ideal := hH2Ideal) (hH2RefIdeal := hH2RefIdeal)
    ∧ preserves_H1_H1Ideal
    ∧ algebraic_H1Ideal_H1RefIdeal (hH1Ideal := hH1Ideal) (hH1RefIdeal := hH1RefIdeal)
    ∧ preserves_Do_DoIdeal
    ∧ algebraic_DoIdeal_DoRefIdeal (hDoIdeal := hDoIdeal) (hDoRefIdeal := hDoRefIdeal)
    ∧ preserves_Dxn2_Dxn2Ideal
    ∧ algebraic_Dxn2Ideal_Dxn2RefIdeal (hDxn2Ideal := hDxn2Ideal) (hDxn2RefIdeal := hDxn2RefIdeal)
    ∧ preserves_DwO_DwOIdeal
    ∧ algebraic_DwOIdeal_DwORefIdeal (hDwOIdeal := hDwOIdeal) (hDwORefIdeal := hDwORefIdeal)
    ∧ preserves_DwQ_DwQIdeal
    ∧ algebraic_DwQIdeal_DwQRefIdeal (hDwQIdeal := hDwQIdeal) (hDwQRefIdeal := hDwQRefIdeal)
    ∧ preserves_DwOut_DwOutIdeal
    ∧ algebraic_DwOutIdeal_DwOutRefIdeal (hDwOutIdeal := hDwOutIdeal) (hDwOutRefIdeal := hDwOutRefIdeal)
    ∧ preserves_Loss_LossIdeal
    ∧ algebraic_LossIdeal_LossRefIdeal (hLossIdeal := hLossIdeal) (hLossRefIdeal := hLossRefIdeal)
    ∧ preserves_RmsMem_RmsMemIdeal
    ∧ algebraic_RmsMemIdeal_RmsMemRefIdeal (hRmsMemIdeal := hRmsMemIdeal) (hRmsMemRefIdeal := hRmsMemRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamConvA_AdamConvAIdeal
    ∧ algebraic_AdamConvAIdeal_AdamConvARefIdeal (hAdamConvAIdeal := hAdamConvAIdeal) (hAdamConvARefIdeal := hAdamConvARefIdeal)
    ∧ preserves_AdamConvB_AdamConvBIdeal
    ∧ algebraic_AdamConvBIdeal_AdamConvBRefIdeal (hAdamConvBIdeal := hAdamConvBIdeal) (hAdamConvBRefIdeal := hAdamConvBRefIdeal)
    ∧ preserves_AdamConvF_AdamConvFIdeal
    ∧ algebraic_AdamConvFIdeal_AdamConvFRefIdeal (hAdamConvFIdeal := hAdamConvFIdeal) (hAdamConvFRefIdeal := hAdamConvFRefIdeal)
    ∧ preserves_MixFwd_MixFwdIdeal
    ∧ algebraic_MixFwdIdeal_MixFwdRefIdeal (hMixFwdIdeal := hMixFwdIdeal) (hMixFwdRefIdeal := hMixFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
-- ==== Pre_finite.lean ====
abbrev S4096x4096 : Shape := ⟨2, ![4096, 4096]⟩
abbrev S256x4096 : Shape := ⟨2, ![256, 4096]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  bcast_S_S256x4096 : S_.BroadcastsInDim S256x4096 (![] : Fin 0 → Fin S256x4096.rank)

variable [Facts]

def fn {F : FTy → Type} [FloatOps F] (main_arg0 : FVec F S4096x4096 .bf16) (main_arg1 : FVec F S256x4096 .bf16) (main_arg2 : FVec F S256x4096 .bf16) (main_arg3 : FVec F S4096x4096 .bf16) : IVec S4096x4096 1 × IVec S256x4096 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_v4 : FVec F S256x4096 .f32 := (extf .f32 · bitsLt_bf16_f32) main_arg1
  let main_v5 : FVec F S256x4096 .f32 := Host.absf main_v4
  let main_cst_0 : FVec F S_ .f32 := constant S_ .f32 0x7F800000#32
  let main_v6 : FVec F S256x4096 .f32 := broadcastInDim S256x4096 ![] bcast_S_S256x4096 main_cst_0
  let main_v7 : IVec S256x4096 1 := cmpf .olt main_v5 main_v6
  (main_v3, main_v7)
-- ==== Kernel.lean ====
abbrev S4096x4096 : Shape := ⟨2, ![4096, 4096]⟩
abbrev S256x4096 : Shape := ⟨2, ![256, 4096]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S256x4096, .bf16⟩
  | .hbm, ⟨2, _⟩ => ⟨S256x4096, .bf16⟩
  | .hbm, ⟨3, _⟩ => ⟨S4096x4096, .bf16⟩
  | .hbm, ⟨4, _⟩ => ⟨S4096x4096, .bf16⟩
  | .hbm, ⟨5, _⟩ => ⟨S256x4096, .bf16⟩
  | .hbm, ⟨6, _⟩ => ⟨S256x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S256x4096, .f32⟩
  | .local _ .vmem, ⟨11, _⟩ => ⟨S256x4096, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v179 : BitVec 1 := Scalar.cmpi .eq arg0 c15_i32
  let v180 : BitVec 32 := Scalar.extui v179
  let c0_i32_108 : BitVec 32 := 0#32
  let v181 : BitVec 1 := Scalar.cmpi .ne v180 c0_i32_108
  v181

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x4096 : Shape := ⟨2, ![4096, 4096]⟩
abbrev S256x4096 : Shape := ⟨2, ![256, 4096]⟩
abbrev S1x4096x4096 : Shape := ⟨3, ![1, 4096, 4096]⟩
abbrev S1x256x4096 : Shape := ⟨3, ![1, 256, 4096]⟩
abbrev S1x4096x4x1024 : Shape := ⟨4, ![1, 4096, 4, 1024]⟩
abbrev S1x256x4x1024 : Shape := ⟨4, ![1, 256, 4, 1024]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x1024x4096 : Shape := ⟨4, ![1, 4, 1024, 4096]⟩
abbrev S1x4x1024x256 : Shape := ⟨4, ![1, 4, 1024, 256]⟩
abbrev S4x4096 : Shape := ⟨2, ![4, 4096]⟩
abbrev S1x4x256x1024 : Shape := ⟨4, ![1, 4, 256, 1024]⟩
abbrev S1x4x4096x1024 : Shape := ⟨4, ![1, 4, 4096, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S256x4096, .bf16⟩
  | .hbm, ⟨2, _⟩ => ⟨S256x4096, .bf16⟩
  | .hbm, ⟨3, _⟩ => ⟨S4096x4096, .bf16⟩
  | .hbm, ⟨4, _⟩ => ⟨S4096x4096, .f32⟩
  | .hbm, ⟨5, _⟩ => ⟨S1x4096x4096, .f32⟩
  | .hbm, ⟨6, _⟩ => ⟨S256x4096, .f32⟩
  | .hbm, ⟨7, _⟩ => ⟨S1x256x4096, .f32⟩
  | .hbm, ⟨8, _⟩ => ⟨S256x4096, .f32⟩
  | .hbm, ⟨9, _⟩ => ⟨S1x256x4096, .f32⟩
  | .hbm, ⟨10, _⟩ => ⟨S1x4096x4x1024, .f32⟩
  | .hbm, ⟨11, _⟩ => ⟨S1x256x4x1024, .f32⟩
  | .hbm, ⟨12, _⟩ => ⟨S1x256x4x1024, .f32⟩
  | .hbm, ⟨13, _⟩ => ⟨S1x4x4096x256, .f32⟩
  | .hbm, ⟨14, _⟩ => ⟨S_, .f32⟩
  | .hbm, ⟨15, _⟩ => ⟨S1x4x4096x256, .f32⟩
  | .hbm, ⟨16, _⟩ => ⟨S1x4x4096x256, .f32⟩
  | .hbm, ⟨17, _⟩ => ⟨S_, .f32⟩
  | .hbm, ⟨18, _⟩ => ⟨S1x4x4096, .f32⟩
  | .hbm, ⟨19, _⟩ => ⟨S1x4x4096x1, .f32⟩
  | .hbm, ⟨20, _⟩ => ⟨S1x4x4096x256, .f32⟩
  | .hbm, ⟨21, _⟩ => ⟨S1x4x4096x256, .i1⟩
  | .hbm, ⟨22, _⟩ => ⟨S1x4x4096x256, .f32⟩
  | .hbm, ⟨23, _⟩ => ⟨S_, .f32⟩
  | .hbm, ⟨24, _⟩ => ⟨S1x4x4096, .f32⟩
  | .hbm, ⟨25, _⟩ => ⟨S_, .f32⟩
  | .hbm, ⟨26, _⟩ => ⟨S1x4x4096, .f32⟩
  | .hbm, ⟨27, _⟩ => ⟨S1x4x4096, .f32⟩
  | .hbm, ⟨28, _⟩ => ⟨S_, .f32⟩
  | .hbm, ⟨29, _⟩ => ⟨S1x4x4096, .f32⟩
  | .hbm, ⟨30, _⟩ => ⟨S1x4x4096, .i1⟩
  | .hbm, ⟨31, _⟩ => ⟨S_, .f32⟩
  | .hbm, ⟨32, _⟩ => ⟨S1x4x4096, .f32⟩
  | .hbm, ⟨33, _⟩ => ⟨S1x4x4096, .i1⟩
  | .hbm, ⟨34, _⟩ => ⟨S_, .f32⟩
  | .hbm, ⟨35, _⟩ => ⟨S1x4x4096, .f32⟩
  | .hbm, ⟨36, _⟩ => ⟨S_, .f32⟩
  | .hbm, ⟨37, _⟩ => ⟨S1x4x4096, .f32⟩
  | .hbm, ⟨38, _⟩ => ⟨S_, .f32⟩
  | .hbm, ⟨39, _⟩ => ⟨S1x4x4096, .f32⟩
  | .hbm, ⟨40, _⟩ => ⟨S1x4x4096, .f32⟩
  | .hbm, ⟨41, _⟩ => ⟨S1x4x4096, .f32⟩
  | .hbm, ⟨42, _⟩ => ⟨S1x4x4096x1, .f32⟩
  | .hbm, ⟨43, _⟩ => ⟨S1x4x4096x256, .f32⟩
  | .hbm, ⟨44, _⟩ => ⟨S1x4x4096x256, .f32⟩
  | .hbm, ⟨45, _⟩ => ⟨S1x4x4096x256, .f32⟩
  | .hbm, ⟨46, _⟩ => ⟨S_, .f32⟩
  | .hbm, ⟨47, _⟩ => ⟨S1x4x4096, .f32⟩
  | .hbm, ⟨48, _⟩ => ⟨S1x4x4096x1, .f32⟩
  | .hbm, ⟨49, _⟩ => ⟨S1x4x4096x256, .f32⟩
  | .hbm, ⟨50, _⟩ => ⟨S1x4x4096x256, .f32⟩
  | .hbm, ⟨51, _⟩ => ⟨S1x4x4096x1, .f32⟩
  | .hbm, ⟨52, _⟩ => ⟨S_, .f32⟩
  | .hbm, ⟨53, _⟩ => ⟨S1x4x4096x1, .f32⟩
  | .hbm, ⟨54, _⟩ => ⟨S1x4x4096x1, .f32⟩
  | .hbm, ⟨55, _⟩ => ⟨S1x4x1024x4096, .f32⟩
  | .hbm, ⟨56, _⟩ => ⟨S1x4096x4x1024, .f32⟩
  | .hbm, ⟨57, _⟩ => ⟨S1x4096x4096, .f32⟩
  | .hbm, ⟨58, _⟩ => ⟨S4096x4096, .f32⟩
  | .hbm, ⟨59, _⟩ => ⟨S1x4096x4096, .f32⟩
  | .hbm, ⟨60, _⟩ => ⟨S1x4096x4x1024, .f32⟩
  | .hbm, ⟨61, _⟩ => ⟨S1x4x1024x4096, .f32⟩
  | .hbm, ⟨62, _⟩ => ⟨S1x4x4096x256, .f32⟩
  | .hbm, ⟨63, _⟩ => ⟨S1x4x1024x256, .f32⟩
  | .hbm, ⟨64, _⟩ => ⟨S1x256x4x1024, .f32⟩
  | .hbm, ⟨65, _⟩ => ⟨S1x4x4096x256, .f32⟩
  | .hbm, ⟨66, _⟩ => ⟨S1x4x4096x256, .f32⟩
  | .hbm, ⟨67, _⟩ => ⟨S1x4x4096x256, .f32⟩
  | .hbm, ⟨68, _⟩ => ⟨S_, .f32⟩
  | .hbm, ⟨69, _⟩ => ⟨S1x4x4096, .f32⟩
  | .hbm, ⟨70, _⟩ => ⟨S1x4x4096x1, .f32⟩
  | .hbm, ⟨71, _⟩ => ⟨S1x4x4096x1, .f32⟩
  | .hbm, ⟨72, _⟩ => ⟨S1x4x4096x256, .f32⟩
  | .hbm, ⟨73, _⟩ => ⟨S1x4x4096x256, .f32⟩
  | .hbm, ⟨74, _⟩ => ⟨S_, .f32⟩
  | .hbm, ⟨75, _⟩ => ⟨S4x4096, .f32⟩
  | .hbm, ⟨76, _⟩ => ⟨S1x4x4096, .f32⟩
  | .hbm, ⟨77, _⟩ => ⟨S1x4x4096x256, .f32⟩
  | .hbm, ⟨78, _⟩ => ⟨S1x4x4096x256, .f32⟩
  | .hbm, ⟨79, _⟩ => ⟨S1x4x4096x256, .f32⟩
  | .hbm, ⟨80, _⟩ => ⟨S_, .f32⟩
  | .hbm, ⟨81, _⟩ => ⟨S1x4x4096x256, .f32⟩
  | .hbm, ⟨82, _⟩ => ⟨S1x4x4096x256, .f32⟩
  | .hbm, ⟨83, _⟩ => ⟨S1x4x256x1024, .f32⟩
  | .hbm, ⟨84, _⟩ => ⟨S1x256x4x1024, .f32⟩
  | .hbm, ⟨85, _⟩ => ⟨S1x4x4096x1024, .f32⟩
  | .hbm, ⟨86, _⟩ => ⟨S1x4096x4x1024, .f32⟩
  | .hbm, ⟨87, _⟩ => ⟨S1x256x4096, .f32⟩
  | .hbm, ⟨88, _⟩ => ⟨S1x256x4096, .f32⟩
  | .hbm, ⟨89, _⟩ => ⟨S1x4096x4096, .f32⟩
  | .hbm, ⟨90, _⟩ => ⟨S4096x4096, .f32⟩
  | .hbm, ⟨91, _⟩ => ⟨S4096x4096, .bf16⟩
  | .hbm, ⟨92, _⟩ => ⟨S256x4096, .f32⟩
  | .hbm, ⟨93, _⟩ => ⟨S256x4096, .bf16⟩
  | .hbm, ⟨94, _⟩ => ⟨S256x4096, .f32⟩
  | .hbm, ⟨95, _⟩ => ⟨S256x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_12 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩

abbrev nD : Nat := 1
abbrev τ : Topo := Topo.v7x

variable {F : FTy → Type} [FloatOps F]
-- ==== DwDown.lean ====
abbrev S4096x11008 : Shape := ⟨2, ![4096, 11008]⟩
abbrev S4096x4096 : Shape := ⟨2, ![4096, 4096]⟩
abbrev S4096x8x1376 : Shape := ⟨3, ![4096, 8, 1376]⟩
abbrev S8x4096x1376 : Shape := ⟨3, ![8, 4096, 1376]⟩
abbrev S8x1376x4096 : Shape := ⟨3, ![8, 1376, 4096]⟩
abbrev S1x4096x1376 : Shape := ⟨3, ![1, 4096, 1376]⟩
abbrev S4096x512 : Shape := ⟨2, ![4096, 512]⟩
abbrev S1x1376x512 : Shape := ⟨3, ![1, 1376, 512]⟩
abbrev S4096x1376 : Shape := ⟨2, ![4096, 1376]⟩
abbrev S1376x512 : Shape := ⟨2, ![1376, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x11008, .bf16⟩
  | .hbm, ⟨1, _⟩ => ⟨S4096x4096, .bf16⟩
  | .hbm, ⟨2, _⟩ => ⟨S4096x8x1376, .bf16⟩
  | .hbm, ⟨3, _⟩ => ⟨S8x4096x1376, .bf16⟩
  | .hbm, ⟨4, _⟩ => ⟨S8x1376x4096, .bf16⟩
  | .local _ .vmem, ⟨0, _⟩ => ⟨S1x4096x1376, .bf16⟩
  | .local _ .vmem, ⟨1, _⟩ => ⟨S1x4096x1376, .bf16⟩
  | .local _ .vmem, ⟨2, _⟩ => ⟨S4096x512, .bf16⟩
  | .local _ .vmem, ⟨3, _⟩ => ⟨S4096x512, .bf16⟩
  | .local _ .vmem, ⟨4, _⟩ => ⟨S1x1376x512, .bf16⟩
  | .local _ .vmem, ⟨5, _⟩ => ⟨S1x1376x512, .bf16⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x4096x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1376x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwDownRefIdeal.lean ====
abbrev S4096x11008 : Shape := ⟨2, ![4096, 11008]⟩
abbrev S4096x4096 : Shape := ⟨2, ![4096, 4096]⟩
abbrev S_ : Shape := ⟨0, ![]⟩
abbrev S11008x4096 : Shape := ⟨2, ![11008, 4096]⟩
abbrev S8x1376x4096 : Shape := ⟨3, ![8, 1376, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x4096, .bf16⟩
  | .hbm, ⟨2, _⟩ => ⟨S_, .f32⟩
  | .hbm, ⟨3, _⟩ => ⟨S11008x4096, .f32⟩
  | .hbm, ⟨4, _⟩ => ⟨S4096x11008, .f32⟩
  | .hbm, ⟨5, _⟩ => ⟨S4096x4096, .f32⟩
  | .hbm, ⟨6, _⟩ => ⟨S4096x4096, .f32⟩
  | .hbm, ⟨7, _⟩ => ⟨S4096x11008, .f32⟩
  | .hbm, ⟨8, _⟩ => ⟨S11008x4096, .f32⟩
  | .hbm, ⟨9, _⟩ => ⟨S11008x4096, .bf16⟩
  | .hbm, ⟨10, _⟩ => ⟨S8x1376x4096, .bf16⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Df.lean ====
abbrev S4096x4096 : Shape := ⟨2, ![4096, 4096]⟩
abbrev S11008x4096 : Shape := ⟨2, ![11008, 4096]⟩
abbrev S8x1376x4096 : Shape := ⟨3, ![8, 1376, 4096]⟩
abbrev S8x4096x1376 : Shape := ⟨3, ![8, 4096, 1376]⟩
abbrev S1024x4096 : Shape := ⟨2, ![1024, 4096]⟩
abbrev S1x1376x4096 : Shape := ⟨3, ![1, 1376, 4096]⟩
abbrev S1x1024x1376 : Shape := ⟨3, ![1, 1024, 1376]⟩
abbrev S1376x4096 : Shape := ⟨2, ![1376, 4096]⟩
abbrev S1024x1376 : Shape := ⟨2, ![1024, 1376]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S11008x4096, .bf16⟩
  | .hbm, ⟨2, _⟩ => ⟨S8x1376x4096, .bf16⟩
  | .hbm, ⟨3, _⟩ => ⟨S8x4096x1376, .bf16⟩
  | .local _ .vmem, ⟨0, _⟩ => ⟨S1024x4096, .bf16⟩
  | .local _ .vmem, ⟨1, _⟩ => ⟨S1024x4096, .bf16⟩
  | .local _ .vmem, ⟨2, _⟩ => ⟨S1x1376x4096, .bf16⟩
  | .local _ .vmem, ⟨3, _⟩ => ⟨S1x1376x4096, .bf16⟩
  | .local _ .vmem, ⟨4, _⟩ => ⟨S1x1024x1376, .bf16⟩
  | .local _ .vmem, ⟨5, _⟩ => ⟨S1x1024x1376, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1376x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1376 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DfRefIdeal.lean ====
abbrev S4096x4096 : Shape := ⟨2, ![4096, 4096]⟩
abbrev S11008x4096 : Shape := ⟨2, ![11008, 4096]⟩
abbrev S_ : Shape := ⟨0, ![]⟩
abbrev S4096x11008 : Shape := ⟨2, ![4096, 11008]⟩
abbrev S4096x8x1376 : Shape := ⟨3, ![4096, 8, 1376]⟩
abbrev S8x4096x1376 : Shape := ⟨3, ![8, 4096, 1376]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S11008x4096, .bf16⟩
  | .hbm, ⟨2, _⟩ => ⟨S_, .f32⟩
  | .hbm, ⟨3, _⟩ => ⟨S4096x11008, .f32⟩
  | .hbm, ⟨4, _⟩ => ⟨S11008x4096, .f32⟩
  | .hbm, ⟨5, _⟩ => ⟨S4096x4096, .f32⟩
  | .hbm, ⟨6, _⟩ => ⟨S4096x4096, .f32⟩
  | .hbm, ⟨7, _⟩ => ⟨S4096x11008, .f32⟩
  | .hbm, ⟨8, _⟩ => ⟨S4096x11008, .bf16⟩
  | .hbm, ⟨9, _⟩ => ⟨S4096x8x1376, .bf16⟩
  | .hbm, ⟨10, _⟩ => ⟨S8x4096x1376, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dxn3.lean ====
abbrev S4096x11008 : Shape := ⟨2, ![4096, 11008]⟩
abbrev S4096x4096 : Shape := ⟨2, ![4096, 4096]⟩
abbrev S4096x8x1376 : Shape := ⟨3, ![4096, 8, 1376]⟩
abbrev S8x4096x1376 : Shape := ⟨3, ![8, 4096, 1376]⟩
abbrev S11008x4096 : Shape := ⟨2, ![11008, 4096]⟩
abbrev S8x1376x4096 : Shape := ⟨3, ![8, 1376, 4096]⟩
abbrev S2x1024x1376 : Shape := ⟨3, ![2, 1024, 1376]⟩
abbrev S2x1376x1024 : Shape := ⟨3, ![2, 1376, 1024]⟩
abbrev S1024x1024 : Shape := ⟨2, ![1024, 1024]⟩
abbrev S1x1024x1376 : Shape := ⟨3, ![1, 1024, 1376]⟩
abbrev S1024x1376 : Shape := ⟨2, ![1024, 1376]⟩
abbrev S1x1376x1024 : Shape := ⟨3, ![1, 1376, 1024]⟩
abbrev S1376x1024 : Shape := ⟨2, ![1376, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S4096x4096, .bf16⟩
  | .hbm, ⟨3, _⟩ => ⟨S4096x8x1376, .bf16⟩
  | .hbm, ⟨4, _⟩ => ⟨S8x4096x1376, .bf16⟩
  | .hbm, ⟨5, _⟩ => ⟨S11008x4096, .bf16⟩
  | .hbm, ⟨6, _⟩ => ⟨S8x1376x4096, .bf16⟩
  | .hbm, ⟨7, _⟩ => ⟨S4096x4096, .bf16⟩
  | .local _ .vmem, ⟨0, _⟩ => ⟨S2x1024x1376, .bf16⟩
  | .local _ .vmem, ⟨1, _⟩ => ⟨S2x1024x1376, .bf16⟩
  | .local _ .vmem, ⟨2, _⟩ => ⟨S2x1376x1024, .bf16⟩
  | .local _ .vmem, ⟨3, _⟩ => ⟨S2x1376x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 4, 4, 1], ![false, false, false, false]⟩

def k0_cond2 (i : grid0.Coords) : BitVec 1 :=
  let arg2 : BitVec 32 := BitVec.ofNat 32 (i 2).val
  let c3_i32 : BitVec 32 := 3#32
  let v3 : BitVec 1 := Scalar.cmpi .eq arg2 c3_i32
  let arg3 : BitVec 32 := BitVec.ofNat 32 (i 3).val
  let c0_i32_1 : BitVec 32 := 0#32
  let v4 : BitVec 1 := Scalar.cmpi .eq arg3 c0_i32_1
  let v5 : BitVec 1 := Scalar.andi v3 v4
  let v24 : BitVec 32 := Scalar.extui v5
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S2x1024x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2x1376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== Dxn3RefIdeal.lean ====
abbrev S4096x11008 : Shape := ⟨2, ![4096, 11008]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S4096x4096, .bf16⟩
  | .hbm, ⟨3, _⟩ => ⟨S_, .f32⟩
  | .hbm, ⟨4, _⟩ => ⟨S4096x4096, .f32⟩
  | .hbm, ⟨5, _⟩ => ⟨S4096x11008, .f32⟩
  | .hbm, ⟨6, _⟩ => ⟨S4096x11008, .f32⟩
  | .hbm, ⟨7, _⟩ => ⟨S4096x11008, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Mix.lean ====
abbrev S4096x2048 : Shape := ⟨2, ![4096, 2048]⟩
abbrev S4096x10240 : Shape := ⟨2, ![4096, 10240]⟩
abbrev S31x2048 : Shape := ⟨2, ![31, 2048]⟩
abbrev S3x2048 : Shape := ⟨2, ![3, 2048]⟩
abbrev S512x256 : Shape := ⟨2, ![512, 256]⟩
abbrev S32x256 : Shape := ⟨2, ![32, 256]⟩
abbrev S31x256 : Shape := ⟨2, ![31, 256]⟩
abbrev S3x256 : Shape := ⟨2, ![3, 256]⟩
abbrev S544x256 : Shape := ⟨2, ![544, 256]⟩
abbrev S96x128 : Shape := ⟨2, ![96, 128]⟩
abbrev S64x128 : Shape := ⟨2, ![64, 128]⟩
abbrev S1x128 : Shape := ⟨2, ![1, 128]⟩
abbrev S72x128 : Shape := ⟨2, ![72, 128]⟩

abbrev nBuf : Space → Nat
  | .hbm => 9
  | .vmem => 30
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x10240, .bf16⟩
  | .hbm, ⟨3, _⟩ => ⟨S31x2048, .f32⟩
  | .hbm, ⟨4, _⟩ => ⟨S3x2048, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S512x256, .f32⟩
  | .local _ .vmem, ⟨1, _⟩ => ⟨S512x256, .f32⟩
  | .local _ .vmem, ⟨2, _⟩ => ⟨S32x256, .f32⟩
  | .local _ .vmem, ⟨3, _⟩ => ⟨S32x256, .f32⟩
  | .local _ .vmem, ⟨4, _⟩ => ⟨S512x256, .f32⟩
  | .local _ .vmem, ⟨5, _⟩ => ⟨S512x256, .f32⟩
  | .local _ .vmem, ⟨6, _⟩ => ⟨S32x256, .f32⟩
  | .local _ .vmem, ⟨7, _⟩ => ⟨S32x256, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S31x256, .f32⟩
  | .local _ .vmem, ⟨17, _⟩ => ⟨S31x256, .f32⟩
  | .local _ .vmem, ⟨18, _⟩ => ⟨S3x256, .f32⟩
  | .local _ .vmem, ⟨19, _⟩ => ⟨S3x256, .f32⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S544x256, .f32⟩
  | .local _ .vmem, ⟨29, _⟩ => ⟨S544x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S31x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixRefIdeal.lean ====
abbrev S4096x2048 : Shape := ⟨2, ![4096, 2048]⟩
abbrev S4096x10240 : Shape := ⟨2, ![4096, 10240]⟩
abbrev S31x2048 : Shape := ⟨2, ![31, 2048]⟩
abbrev S3x2048 : Shape := ⟨2, ![3, 2048]⟩
abbrev S_ : Shape := ⟨0, ![]⟩
abbrev S30x2048 : Shape := ⟨2, ![30, 2048]⟩
abbrev S4126x2048 : Shape := ⟨2, ![4126, 2048]⟩
abbrev S1x2048 : Shape := ⟨2, ![1, 2048]⟩
abbrev S2048 : Shape := ⟨1, ![2048]⟩
abbrev S2x2048 : Shape := ⟨2, ![2, 2048]⟩
abbrev S4098x2048 : Shape := ⟨2, ![4098, 2048]⟩

abbrev nBuf : Space → Nat
  | .hbm => 456
  | .vmem => 0
  | .smem => 0
  | _ => 0

abbrev hbmTy0_0 (i : Nat) : BufTy := match i % 128 with
  | 0 => ⟨S4096x2048, .f32⟩
  | 1 => ⟨S4096x2048, .f32⟩
  | 2 => ⟨S4096x10240, .bf16⟩
  | 3 => ⟨S31x2048, .f32⟩
  | 4 => ⟨S3x2048, .f32⟩
  | 5 => ⟨S4096x10240, .f32⟩
  | 6 => ⟨S4096x2048, .f32⟩
  | 7 => ⟨S4096x2048, .f32⟩
  | 8 => ⟨S4096x2048, .f32⟩
  | 9 => ⟨S4096x2048, .f32⟩
  | 10 => ⟨S4096x2048, .f32⟩
  | 11 => ⟨S4096x2048, .f32⟩
  | 12 => ⟨S4096x2048, .f32⟩
  | 13 => ⟨S_, .f32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S_, .f32⟩
  | 20 => ⟨S4096x2048, .f32⟩
  | 21 => ⟨S4096x2048, .f32⟩
  | 22 => ⟨S4096x2048, .f32⟩
  | 23 => ⟨S4096x2048, .f32⟩
  | 24 => ⟨S_, .f32⟩
  | 25 => ⟨S30x2048, .f32⟩
  | 26 => ⟨S4126x2048, .f32⟩
  | 27 => ⟨S_, .f32⟩
  | 28 => ⟨S30x2048, .f32⟩
  | 29 => ⟨S4096x2048, .f32⟩
  | 30 => ⟨S1x2048, .f32⟩
  | 31 => ⟨S2048, .f32⟩
  | 32 => ⟨S1x2048, .f32⟩
  | 33 => ⟨S4096x2048, .f32⟩
  | 34 => ⟨S4096x2048, .f32⟩
  | 35 => ⟨S4096x2048, .f32⟩
  | 36 => ⟨S1x2048, .f32⟩
  | 37 => ⟨S2048, .f32⟩
  | 38 => ⟨S1x2048, .f32⟩
  | 39 => ⟨S4096x2048, .f32⟩
  | 40 => ⟨S4096x2048, .f32⟩
  | 41 => ⟨S4096x2048, .f32⟩
  | 42 => ⟨S4096x2048, .f32⟩
  | 43 => ⟨S1x2048, .f32⟩
  | 44 => ⟨S2048, .f32⟩
  | 45 => ⟨S1x2048, .f32⟩
  | 46 => ⟨S4096x2048, .f32⟩
  | 47 => ⟨S4096x2048, .f32⟩
  | 48 => ⟨S4096x2048, .f32⟩
  | 49 => ⟨S4096x2048, .f32⟩
  | 50 => ⟨S1x2048, .f32⟩
  | 51 => ⟨S2048, .f32⟩
  | 52 => ⟨S1x2048, .f32⟩
  | 53 => ⟨S4096x2048, .f32⟩
  | 54 => ⟨S4096x2048, .f32⟩
  | 55 => ⟨S4096x2048, .f32⟩
  | 56 => ⟨S4096x2048, .f32⟩
  | 57 => ⟨S1x2048, .f32⟩
  | 58 => ⟨S2048, .f32⟩
  | 59 => ⟨S1x2048, .f32⟩
  | 60 => ⟨S4096x2048, .f32⟩
  | 61 => ⟨S4096x2048, .f32⟩
  | 62 => ⟨S4096x2048, .f32⟩
  | 63 => ⟨S4096x2048, .f32⟩
  | 64 => ⟨S1x2048, .f32⟩
  | 65 => ⟨S2048, .f32⟩
  | 66 => ⟨S1x2048, .f32⟩
  | 67 => ⟨S4096x2048, .f32⟩
  | 68 => ⟨S4096x2048, .f32⟩
  | 69 => ⟨S4096x2048, .f32⟩
  | 70 => ⟨S4096x2048, .f32⟩
  | 71 => ⟨S1x2048, .f32⟩
  | 72 => ⟨S2048, .f32⟩
  | 73 => ⟨S1x2048, .f32⟩
  | 74 => ⟨S4096x2048, .f32⟩
  | 75 => ⟨S4096x2048, .f32⟩
  | 76 => ⟨S4096x2048, .f32⟩
  | 77 => ⟨S4096x2048, .f32⟩
  | 78 => ⟨S1x2048, .f32⟩
  | 79 => ⟨S2048, .f32⟩
  | 80 => ⟨S1x2048, .f32⟩
  | 81 => ⟨S4096x2048, .f32⟩
  | 82 => ⟨S4096x2048, .f32⟩
  | 83 => ⟨S4096x2048, .f32⟩
  | 84 => ⟨S4096x2048, .f32⟩
  | 85 => ⟨S1x2048, .f32⟩
  | 86 => ⟨S2048, .f32⟩
  | 87 => ⟨S1x2048, .f32⟩
  | 88 => ⟨S4096x2048, .f32⟩
  | 89 => ⟨S4096x2048, .f32⟩
  | 90 => ⟨S4096x2048, .f32⟩
  | 91 => ⟨S4096x2048, .f32⟩
  | 92 => ⟨S1x2048, .f32⟩
  | 93 => ⟨S2048, .f32⟩
  | 94 => ⟨S1x2048, .f32⟩
  | 95 => ⟨S4096x2048, .f32⟩
  | 96 => ⟨S4096x2048, .f32⟩
  | 97 => ⟨S4096x2048, .f32⟩
  | 98 => ⟨S4096x2048, .f32⟩
  | 99 => ⟨S1x2048, .f32⟩
  | 100 => ⟨S2048, .f32⟩
  | 101 => ⟨S1x2048, .f32⟩
  | 102 => ⟨S4096x2048, .f32⟩
  | 103 => ⟨S4096x2048, .f32⟩
  | 104 => ⟨S4096x2048, .f32⟩
  | 105 => ⟨S4096x2048, .f32⟩
  | 106 => ⟨S1x2048, .f32⟩
  | 107 => ⟨S2048, .f32⟩
  | 108 => ⟨S1x2048, .f32⟩
  | 109 => ⟨S4096x2048, .f32⟩
  | 110 => ⟨S4096x2048, .f32⟩
  | 111 => ⟨S4096x2048, .f32⟩
  | 112 => ⟨S4096x2048, .f32⟩
  | 113 => ⟨S1x2048, .f32⟩
  | 114 => ⟨S2048, .f32⟩
  | 115 => ⟨S1x2048, .f32⟩
  | 116 => ⟨S4096x2048, .f32⟩
  | 117 => ⟨S4096x2048, .f32⟩
  | 118 => ⟨S4096x2048, .f32⟩
  | 119 => ⟨S4096x2048, .f32⟩
  | 120 => ⟨S1x2048, .f32⟩
  | 121 => ⟨S2048, .f32⟩
  | 122 => ⟨S1x2048, .f32⟩
  | 123 => ⟨S4096x2048, .f32⟩
  | 124 => ⟨S4096x2048, .f32⟩
  | 125 => ⟨S4096x2048, .f32⟩
  | 126 => ⟨S4096x2048, .f32⟩
  | 127 => ⟨S1x2048, .f32⟩
  | _ => ⟨S4096x2048, .f32⟩

abbrev hbmTy0_1 (i : Nat) : BufTy := match i % 128 with
  | 0 => ⟨S2048, .f32⟩
  | 1 => ⟨S1x2048, .f32⟩
  | 2 => ⟨S4096x2048, .f32⟩
  | 3 => ⟨S4096x2048, .f32⟩
  | 4 => ⟨S4096x2048, .f32⟩
  | 5 => ⟨S4096x2048, .f32⟩
  | 6 => ⟨S1x2048, .f32⟩
  | 7 => ⟨S2048, .f32⟩
  | 8 => ⟨S1x2048, .f32⟩
  | 9 => ⟨S4096x2048, .f32⟩
  | 10 => ⟨S4096x2048, .f32⟩
  | 11 => ⟨S4096x2048, .f32⟩
  | 12 => ⟨S4096x2048, .f32⟩
  | 13 => ⟨S1x2048, .f32⟩
  | 14 => ⟨S2048, .f32⟩
  | 15 => ⟨S1x2048, .f32⟩
  | 16 => ⟨S4096x2048, .f32⟩
  | 17 => ⟨S4096x2048, .f32⟩
  | 18 => ⟨S4096x2048, .f32⟩
  | 19 => ⟨S4096x2048, .f32⟩
  | 20 => ⟨S1x2048, .f32⟩
  | 21 => ⟨S2048, .f32⟩
  | 22 => ⟨S1x2048, .f32⟩
  | 23 => ⟨S4096x2048, .f32⟩
  | 24 => ⟨S4096x2048, .f32⟩
  | 25 => ⟨S4096x2048, .f32⟩
  | 26 => ⟨S4096x2048, .f32⟩
  | 27 => ⟨S1x2048, .f32⟩
  | 28 => ⟨S2048, .f32⟩
  | 29 => ⟨S1x2048, .f32⟩
  | 30 => ⟨S4096x2048, .f32⟩
  | 31 => ⟨S4096x2048, .f32⟩
  | 32 => ⟨S4096x2048, .f32⟩
  | 33 => ⟨S4096x2048, .f32⟩
  | 34 => ⟨S1x2048, .f32⟩
  | 35 => ⟨S2048, .f32⟩
  | 36 => ⟨S1x2048, .f32⟩
  | 37 => ⟨S4096x2048, .f32⟩
  | 38 => ⟨S4096x2048, .f32⟩
  | 39 => ⟨S4096x2048, .f32⟩
  | 40 => ⟨S4096x2048, .f32⟩
  | 41 => ⟨S1x2048, .f32⟩
  | 42 => ⟨S2048, .f32⟩
  | 43 => ⟨S1x2048, .f32⟩
  | 44 => ⟨S4096x2048, .f32⟩
  | 45 => ⟨S4096x2048, .f32⟩
  | 46 => ⟨S4096x2048, .f32⟩
  | 47 => ⟨S4096x2048, .f32⟩
  | 48 => ⟨S1x2048, .f32⟩
  | 49 => ⟨S2048, .f32⟩
  | 50 => ⟨S1x2048, .f32⟩
  | 51 => ⟨S4096x2048, .f32⟩
  | 52 => ⟨S4096x2048, .f32⟩
  | 53 => ⟨S4096x2048, .f32⟩
  | 54 => ⟨S4096x2048, .f32⟩
  | 55 => ⟨S1x2048, .f32⟩
  | 56 => ⟨S2048, .f32⟩
  | 57 => ⟨S1x2048, .f32⟩
  | 58 => ⟨S4096x2048, .f32⟩
  | 59 => ⟨S4096x2048, .f32⟩
  | 60 => ⟨S4096x2048, .f32⟩
  | 61 => ⟨S4096x2048, .f32⟩
  | 62 => ⟨S1x2048, .f32⟩
  | 63 => ⟨S2048, .f32⟩
  | 64 => ⟨S1x2048, .f32⟩
  | 65 => ⟨S4096x2048, .f32⟩
  | 66 => ⟨S4096x2048, .f32⟩
  | 67 => ⟨S4096x2048, .f32⟩
  | 68 => ⟨S4096x2048, .f32⟩
  | 69 => ⟨S1x2048, .f32⟩
  | 70 => ⟨S2048, .f32⟩
  | 71 => ⟨S1x2048, .f32⟩
  | 72 => ⟨S4096x2048, .f32⟩
  | 73 => ⟨S4096x2048, .f32⟩
  | 74 => ⟨S4096x2048, .f32⟩
  | 75 => ⟨S4096x2048, .f32⟩
  | 76 => ⟨S1x2048, .f32⟩
  | 77 => ⟨S2048, .f32⟩
  | 78 => ⟨S1x2048, .f32⟩
  | 79 => ⟨S4096x2048, .f32⟩
  | 80 => ⟨S4096x2048, .f32⟩
  | 81 => ⟨S4096x2048, .f32⟩
  | 82 => ⟨S4096x2048, .f32⟩
  | 83 => ⟨S1x2048, .f32⟩
  | 84 => ⟨S2048, .f32⟩
  | 85 => ⟨S1x2048, .f32⟩
  | 86 => ⟨S4096x2048, .f32⟩
  | 87 => ⟨S4096x2048, .f32⟩
  | 88 => ⟨S4096x2048, .f32⟩
  | 89 => ⟨S4096x2048, .f32⟩
  | 90 => ⟨S1x2048, .f32⟩
  | 91 => ⟨S2048, .f32⟩
  | 92 => ⟨S1x2048, .f32⟩
  | 93 => ⟨S4096x2048, .f32⟩
  | 94 => ⟨S4096x2048, .f32⟩
  | 95 => ⟨S4096x2048, .f32⟩
  | 96 => ⟨S4096x2048, .f32⟩
  | 97 => ⟨S1x2048, .f32⟩
  | 98 => ⟨S2048, .f32⟩
  | 99 => ⟨S1x2048, .f32⟩
  | 100 => ⟨S4096x2048, .f32⟩
  | 101 => ⟨S4096x2048, .f32⟩
  | 102 => ⟨S4096x2048, .f32⟩
  | 103 => ⟨S4096x2048, .f32⟩
  | 104 => ⟨S1x2048, .f32⟩
  | 105 => ⟨S2048, .f32⟩
  | 106 => ⟨S1x2048, .f32⟩
  | 107 => ⟨S4096x2048, .f32⟩
  | 108 => ⟨S4096x2048, .f32⟩
  | 109 => ⟨S4096x2048, .f32⟩
  | 110 => ⟨S4096x2048, .f32⟩
  | 111 => ⟨S1x2048, .f32⟩
  | 112 => ⟨S2048, .f32⟩
  | 113 => ⟨S1x2048, .f32⟩
  | 114 => ⟨S4096x2048, .f32⟩
  | 115 => ⟨S4096x2048, .f32⟩
  | 116 => ⟨S4096x2048, .f32⟩
  | 117 => ⟨S4096x2048, .f32⟩
  | 118 => ⟨S_, .f32⟩
  | 119 => ⟨S2x2048, .f32⟩
  | 120 => ⟨S4098x2048, .f32⟩
  | 121 => ⟨S_, .f32⟩
  | 122 => ⟨S2x2048, .f32⟩
  | 123 => ⟨S4096x2048, .f32⟩
  | 124 => ⟨S1x2048, .f32⟩
  | 125 => ⟨S2048, .f32⟩
  | 126 => ⟨S1x2048, .f32⟩
  | 127 => ⟨S4096x2048, .f32⟩
  | _ => ⟨S4096x2048, .f32⟩

abbrev hbmTy0_2 (i : Nat) : BufTy := match i % 128 with
  | 0 => ⟨S4096x2048, .f32⟩
  | 1 => ⟨S4096x2048, .f32⟩
  | 2 => ⟨S1x2048, .f32⟩
  | 3 => ⟨S2048, .f32⟩
  | 4 => ⟨S1x2048, .f32⟩
  | 5 => ⟨S4096x2048, .f32⟩
  | 6 => ⟨S4096x2048, .f32⟩
  | 7 => ⟨S4096x2048, .f32⟩
  | 8 => ⟨S4096x2048, .f32⟩
  | 9 => ⟨S1x2048, .f32⟩
  | 10 => ⟨S2048, .f32⟩
  | 11 => ⟨S1x2048, .f32⟩
  | 12 => ⟨S4096x2048, .f32⟩
  | 13 => ⟨S4096x2048, .f32⟩
  | 14 => ⟨S4096x2048, .f32⟩
  | 15 => ⟨S4096x2048, .f32⟩
  | 16 => ⟨S4096x2048, .f32⟩
  | 17 => ⟨S4096x2048, .f32⟩
  | 18 => ⟨S4096x2048, .f32⟩
  | 19 => ⟨S_, .f32⟩
  | 20 => ⟨S4098x2048, .f32⟩
  | 21 => ⟨S4096x2048, .f32⟩
  | 22 => ⟨S4096x2048, .f32⟩
  | 23 => ⟨S_, .f32⟩
  | 24 => ⟨S4098x2048, .f32⟩
  | 25 => ⟨S4098x2048, .f32⟩
  | 26 => ⟨S4096x2048, .f32⟩
  | 27 => ⟨S4096x2048, .f32⟩
  | 28 => ⟨S_, .f32⟩
  | 29 => ⟨S4098x2048, .f32⟩
  | 30 => ⟨S4098x2048, .f32⟩
  | 31 => ⟨S2x2048, .f32⟩
  | 32 => ⟨S4096x2048, .f32⟩
  | 33 => ⟨S4096x2048, .f32⟩
  | 34 => ⟨S4096x2048, .f32⟩
  | 35 => ⟨S4096x2048, .f32⟩
  | 36 => ⟨S4096x2048, .f32⟩
  | 37 => ⟨S4096x2048, .f32⟩
  | 38 => ⟨S4096x2048, .f32⟩
  | 39 => ⟨S_, .f32⟩
  | 40 => ⟨S4126x2048, .f32⟩
  | 41 => ⟨S4096x2048, .f32⟩
  | 42 => ⟨S4096x2048, .f32⟩
  | 43 => ⟨S_, .f32⟩
  | 44 => ⟨S4126x2048, .f32⟩
  | 45 => ⟨S4126x2048, .f32⟩
  | 46 => ⟨S4096x2048, .f32⟩
  | 47 => ⟨S4096x2048, .f32⟩
  | 48 => ⟨S_, .f32⟩
  | 49 => ⟨S4126x2048, .f32⟩
  | 50 => ⟨S4126x2048, .f32⟩
  | 51 => ⟨S4096x2048, .f32⟩
  | 52 => ⟨S4096x2048, .f32⟩
  | 53 => ⟨S_, .f32⟩
  | 54 => ⟨S4126x2048, .f32⟩
  | 55 => ⟨S4126x2048, .f32⟩
  | 56 => ⟨S4096x2048, .f32⟩
  | 57 => ⟨S4096x2048, .f32⟩
  | 58 => ⟨S_, .f32⟩
  | 59 => ⟨S4126x2048, .f32⟩
  | 60 => ⟨S4126x2048, .f32⟩
  | 61 => ⟨S4096x2048, .f32⟩
  | 62 => ⟨S4096x2048, .f32⟩
  | 63 => ⟨S_, .f32⟩
  | 64 => ⟨S4126x2048, .f32⟩
  | 65 => ⟨S4126x2048, .f32⟩
  | 66 => ⟨S4096x2048, .f32⟩
  | 67 => ⟨S4096x2048, .f32⟩
  | 68 => ⟨S_, .f32⟩
  | 69 => ⟨S4126x2048, .f32⟩
  | 70 => ⟨S4126x2048, .f32⟩
  | 71 => ⟨S4096x2048, .f32⟩
  | 72 => ⟨S4096x2048, .f32⟩
  | 73 => ⟨S_, .f32⟩
  | 74 => ⟨S4126x2048, .f32⟩
  | 75 => ⟨S4126x2048, .f32⟩
  | 76 => ⟨S4096x2048, .f32⟩
  | 77 => ⟨S4096x2048, .f32⟩
  | 78 => ⟨S_, .f32⟩
  | 79 => ⟨S4126x2048, .f32⟩
  | 80 => ⟨S4126x2048, .f32⟩
  | 81 => ⟨S4096x2048, .f32⟩
  | 82 => ⟨S4096x2048, .f32⟩
  | 83 => ⟨S_, .f32⟩
  | 84 => ⟨S4126x2048, .f32⟩
  | 85 => ⟨S4126x2048, .f32⟩
  | 86 => ⟨S4096x2048, .f32⟩
  | 87 => ⟨S4096x2048, .f32⟩
  | 88 => ⟨S_, .f32⟩
  | 89 => ⟨S4126x2048, .f32⟩
  | 90 => ⟨S4126x2048, .f32⟩
  | 91 => ⟨S4096x2048, .f32⟩
  | 92 => ⟨S4096x2048, .f32⟩
  | 93 => ⟨S_, .f32⟩
  | 94 => ⟨S4126x2048, .f32⟩
  | 95 => ⟨S4126x2048, .f32⟩
  | 96 => ⟨S4096x2048, .f32⟩
  | 97 => ⟨S4096x2048, .f32⟩
  | 98 => ⟨S_, .f32⟩
  | 99 => ⟨S4126x2048, .f32⟩
  | 100 => ⟨S4126x2048, .f32⟩
  | 101 => ⟨S4096x2048, .f32⟩
  | 102 => ⟨S4096x2048, .f32⟩
  | 103 => ⟨S_, .f32⟩
  | 104 => ⟨S4126x2048, .f32⟩
  | 105 => ⟨S4126x2048, .f32⟩
  | 106 => ⟨S4096x2048, .f32⟩
  | 107 => ⟨S4096x2048, .f32⟩
  | 108 => ⟨S_, .f32⟩
  | 109 => ⟨S4126x2048, .f32⟩
  | 110 => ⟨S4126x2048, .f32⟩
  | 111 => ⟨S4096x2048, .f32⟩
  | 112 => ⟨S4096x2048, .f32⟩
  | 113 => ⟨S_, .f32⟩
  | 114 => ⟨S4126x2048, .f32⟩
  | 115 => ⟨S4126x2048, .f32⟩
  | 116 => ⟨S4096x2048, .f32⟩
  | 117 => ⟨S4096x2048, .f32⟩
  | 118 => ⟨S_, .f32⟩
  | 119 => ⟨S4126x2048, .f32⟩
  | 120 => ⟨S4126x2048, .f32⟩
  | 121 => ⟨S4096x2048, .f32⟩
  | 122 => ⟨S4096x2048, .f32⟩
  | 123 => ⟨S_, .f32⟩
  | 124 => ⟨S4126x2048, .f32⟩
  | 125 => ⟨S4126x2048, .f32⟩
  | 126 => ⟨S4096x2048, .f32⟩
  | 127 => ⟨S4096x2048, .f32⟩
  | _ => ⟨S4096x2048, .f32⟩

abbrev hbmTy0_3 (i : Nat) : BufTy := match i % 128 with
  | 0 => ⟨S_, .f32⟩
  | 1 => ⟨S4126x2048, .f32⟩
  | 2 => ⟨S4126x2048, .f32⟩
  | 3 => ⟨S4096x2048, .f32⟩
  | 4 => ⟨S4096x2048, .f32⟩
  | 5 => ⟨S_, .f32⟩
  | 6 => ⟨S4126x2048, .f32⟩
  | 7 => ⟨S4126x2048, .f32⟩
  | 8 => ⟨S4096x2048, .f32⟩
  | 9 => ⟨S4096x2048, .f32⟩
  | 10 => ⟨S_, .f32⟩
  | 11 => ⟨S4126x2048, .f32⟩
  | 12 => ⟨S4126x2048, .f32⟩
  | 13 => ⟨S4096x2048, .f32⟩
  | 14 => ⟨S4096x2048, .f32⟩
  | 15 => ⟨S_, .f32⟩
  | 16 => ⟨S4126x2048, .f32⟩
  | 17 => ⟨S4126x2048, .f32⟩
  | 18 => ⟨S4096x2048, .f32⟩
  | 19 => ⟨S4096x2048, .f32⟩
  | 20 => ⟨S_, .f32⟩
  | 21 => ⟨S4126x2048, .f32⟩
  | 22 => ⟨S4126x2048, .f32⟩
  | 23 => ⟨S4096x2048, .f32⟩
  | 24 => ⟨S4096x2048, .f32⟩
  | 25 => ⟨S_, .f32⟩
  | 26 => ⟨S4126x2048, .f32⟩
  | 27 => ⟨S4126x2048, .f32⟩
  | 28 => ⟨S4096x2048, .f32⟩
  | 29 => ⟨S4096x2048, .f32⟩
  | 30 => ⟨S_, .f32⟩
  | 31 => ⟨S4126x2048, .f32⟩
  | 32 => ⟨S4126x2048, .f32⟩
  | 33 => ⟨S4096x2048, .f32⟩
  | 34 => ⟨S4096x2048, .f32⟩
  | 35 => ⟨S_, .f32⟩
  | 36 => ⟨S4126x2048, .f32⟩
  | 37 => ⟨S4126x2048, .f32⟩
  | 38 => ⟨S4096x2048, .f32⟩
  | 39 => ⟨S4096x2048, .f32⟩
  | 40 => ⟨S_, .f32⟩
  | 41 => ⟨S4126x2048, .f32⟩
  | 42 => ⟨S4126x2048, .f32⟩
  | 43 => ⟨S4096x2048, .f32⟩
  | 44 => ⟨S4096x2048, .f32⟩
  | 45 => ⟨S_, .f32⟩
  | 46 => ⟨S4126x2048, .f32⟩
  | 47 => ⟨S4126x2048, .f32⟩
  | 48 => ⟨S4096x2048, .f32⟩
  | 49 => ⟨S4096x2048, .f32⟩
  | 50 => ⟨S_, .f32⟩
  | 51 => ⟨S4126x2048, .f32⟩
  | 52 => ⟨S4126x2048, .f32⟩
  | 53 => ⟨S4096x2048, .f32⟩
  | 54 => ⟨S4096x2048, .f32⟩
  | 55 => ⟨S_, .f32⟩
  | 56 => ⟨S4126x2048, .f32⟩
  | 57 => ⟨S4126x2048, .f32⟩
  | 58 => ⟨S4096x2048, .f32⟩
  | 59 => ⟨S4096x2048, .f32⟩
  | 60 => ⟨S_, .f32⟩
  | 61 => ⟨S4126x2048, .f32⟩
  | 62 => ⟨S4126x2048, .f32⟩
  | 63 => ⟨S30x2048, .f32⟩
  | 64 => ⟨S4096x2048, .f32⟩
  | 65 => ⟨S4096x2048, .f32⟩
  | 66 => ⟨S4096x2048, .f32⟩
  | 67 => ⟨S4096x2048, .f32⟩
  | 68 => ⟨S4096x2048, .bf16⟩
  | 69 => ⟨S4096x2048, .bf16⟩
  | 70 => ⟨S4096x2048, .bf16⟩
  | 71 => ⟨S4096x2048, .bf16⟩
  | _ => ⟨S4096x2048, .f32⟩

abbrev hbmTy (i : Nat) : BufTy := match i / 128 with
  | 0 => hbmTy0_0 i
  | 1 => hbmTy0_1 i
  | 2 => hbmTy0_2 i
  | 3 => hbmTy0_3 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_cst_4 : Ref sig .tc := ⟨.hbm, 246, rfl⟩
abbrev main_v236 : Ref sig .tc := ⟨.hbm, 247, rfl⟩
abbrev main_v237 : Ref sig .tc := ⟨.hbm, 248, rfl⟩
abbrev main_cst_5 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_v244 : Ref sig .tc := ⟨.hbm, 256, rfl⟩
abbrev main_v245 : Ref sig .tc := ⟨.hbm, 257, rfl⟩
abbrev main_v246 : Ref sig .tc := ⟨.hbm, 258, rfl⟩
abbrev main_v247 : Ref sig .tc := ⟨.hbm, 259, rfl⟩
abbrev main_v248 : Ref sig .tc := ⟨.hbm, 260, rfl⟩
abbrev main_v249 : Ref sig .tc := ⟨.hbm, 261, rfl⟩
abbrev main_v250 : Ref sig .tc := ⟨.hbm, 262, rfl⟩
abbrev main_v251 : Ref sig .tc := ⟨.hbm, 263, rfl⟩
abbrev main_v252 : Ref sig .tc := ⟨.hbm, 264, rfl⟩
abbrev main_v253 : Ref sig .tc := ⟨.hbm, 265, rfl⟩
abbrev main_v254 : Ref sig .tc := ⟨.hbm, 266, rfl⟩
abbrev main_v255 : Ref sig .tc := ⟨.hbm, 267, rfl⟩
abbrev main_v256 : Ref sig .tc := ⟨.hbm, 268, rfl⟩
abbrev main_v257 : Ref sig .tc := ⟨.hbm, 269, rfl⟩
abbrev main_v258 : Ref sig .tc := ⟨.hbm, 270, rfl⟩
abbrev main_v259 : Ref sig .tc := ⟨.hbm, 271, rfl⟩
abbrev main_v260 : Ref sig .tc := ⟨.hbm, 272, rfl⟩
abbrev main_v261 : Ref sig .tc := ⟨.hbm, 273, rfl⟩
abbrev main_v262 : Ref sig .tc := ⟨.hbm, 274, rfl⟩
abbrev main_cst_6 : Ref sig .tc := ⟨.hbm, 275, rfl⟩
abbrev main_v263 : Ref sig .tc := ⟨.hbm, 276, rfl⟩
abbrev main_v264 : Ref sig .tc := ⟨.hbm, 277, rfl⟩
abbrev main_v265 : Ref sig .tc := ⟨.hbm, 278, rfl⟩
abbrev main_cst_7 : Ref sig .tc := ⟨.hbm, 279, rfl⟩
abbrev main_v266 : Ref sig .tc := ⟨.hbm, 280, rfl⟩
abbrev main_v267 : Ref sig .tc := ⟨.hbm, 281, rfl⟩
abbrev main_v268 : Ref sig .tc := ⟨.hbm, 282, rfl⟩
abbrev main_v269 : Ref sig .tc := ⟨.hbm, 283, rfl⟩
abbrev main_cst_8 : Ref sig .tc := ⟨.hbm, 284, rfl⟩
abbrev main_v270 : Ref sig .tc := ⟨.hbm, 285, rfl⟩
abbrev main_v271 : Ref sig .tc := ⟨.hbm, 286, rfl⟩
abbrev main_v272 : Ref sig .tc := ⟨.hbm, 287, rfl⟩
abbrev main_v273 : Ref sig .tc := ⟨.hbm, 288, rfl⟩
abbrev main_v274 : Ref sig .tc := ⟨.hbm, 289, rfl⟩
abbrev main_v275 : Ref sig .tc := ⟨.hbm, 290, rfl⟩
abbrev main_v276 : Ref sig .tc := ⟨.hbm, 291, rfl⟩
abbrev main_v277 : Ref sig .tc := ⟨.hbm, 292, rfl⟩
abbrev main_v278 : Ref sig .tc := ⟨.hbm, 293, rfl⟩
abbrev main_v279 : Ref sig .tc := ⟨.hbm, 294, rfl⟩
abbrev main_cst_9 : Ref sig .tc := ⟨.hbm, 295, rfl⟩
abbrev main_v280 : Ref sig .tc := ⟨.hbm, 296, rfl⟩
abbrev main_v281 : Ref sig .tc := ⟨.hbm, 297, rfl⟩
abbrev main_v282 : Ref sig .tc := ⟨.hbm, 298, rfl⟩
abbrev main_cst_10 : Ref sig .tc := ⟨.hbm, 299, rfl⟩
abbrev main_v283 : Ref sig .tc := ⟨.hbm, 300, rfl⟩
abbrev main_v284 : Ref sig .tc := ⟨.hbm, 301, rfl⟩
abbrev main_v285 : Ref sig .tc := ⟨.hbm, 302, rfl⟩
abbrev main_v286 : Ref sig .tc := ⟨.hbm, 303, rfl⟩
abbrev main_cst_11 : Ref sig .tc := ⟨.hbm, 304, rfl⟩
abbrev main_v287 : Ref sig .tc := ⟨.hbm, 305, rfl⟩
abbrev main_v288 : Ref sig .tc := ⟨.hbm, 306, rfl⟩
abbrev main_v289 : Ref sig .tc := ⟨.hbm, 307, rfl⟩
abbrev main_v290 : Ref sig .tc := ⟨.hbm, 308, rfl⟩
abbrev main_cst_12 : Ref sig .tc := ⟨.hbm, 309, rfl⟩
abbrev main_v291 : Ref sig .tc := ⟨.hbm, 310, rfl⟩
abbrev main_v292 : Ref sig .tc := ⟨.hbm, 311, rfl⟩
abbrev main_v293 : Ref sig .tc := ⟨.hbm, 312, rfl⟩
abbrev main_v294 : Ref sig .tc := ⟨.hbm, 313, rfl⟩
abbrev main_cst_13 : Ref sig .tc := ⟨.hbm, 314, rfl⟩
abbrev main_v295 : Ref sig .tc := ⟨.hbm, 315, rfl⟩
abbrev main_v296 : Ref sig .tc := ⟨.hbm, 316, rfl⟩
abbrev main_v297 : Ref sig .tc := ⟨.hbm, 317, rfl⟩
abbrev main_v298 : Ref sig .tc := ⟨.hbm, 318, rfl⟩
abbrev main_cst_14 : Ref sig .tc := ⟨.hbm, 319, rfl⟩
abbrev main_v299 : Ref sig .tc := ⟨.hbm, 320, rfl⟩
abbrev main_v300 : Ref sig .tc := ⟨.hbm, 321, rfl⟩
abbrev main_v301 : Ref sig .tc := ⟨.hbm, 322, rfl⟩
abbrev main_v302 : Ref sig .tc := ⟨.hbm, 323, rfl⟩
abbrev main_cst_15 : Ref sig .tc := ⟨.hbm, 324, rfl⟩
abbrev main_v303 : Ref sig .tc := ⟨.hbm, 325, rfl⟩
abbrev main_v304 : Ref sig .tc := ⟨.hbm, 326, rfl⟩
abbrev main_v305 : Ref sig .tc := ⟨.hbm, 327, rfl⟩
abbrev main_v306 : Ref sig .tc := ⟨.hbm, 328, rfl⟩
abbrev main_cst_16 : Ref sig .tc := ⟨.hbm, 329, rfl⟩
abbrev main_v307 : Ref sig .tc := ⟨.hbm, 330, rfl⟩
abbrev main_v308 : Ref sig .tc := ⟨.hbm, 331, rfl⟩
abbrev main_v309 : Ref sig .tc := ⟨.hbm, 332, rfl⟩
abbrev main_v310 : Ref sig .tc := ⟨.hbm, 333, rfl⟩
abbrev main_cst_17 : Ref sig .tc := ⟨.hbm, 334, rfl⟩
abbrev main_v311 : Ref sig .tc := ⟨.hbm, 335, rfl⟩
abbrev main_v312 : Ref sig .tc := ⟨.hbm, 336, rfl⟩
abbrev main_v313 : Ref sig .tc := ⟨.hbm, 337, rfl⟩
abbrev main_v314 : Ref sig .tc := ⟨.hbm, 338, rfl⟩
abbrev main_cst_18 : Ref sig .tc := ⟨.hbm, 339, rfl⟩
abbrev main_v315 : Ref sig .tc := ⟨.hbm, 340, rfl⟩
abbrev main_v316 : Ref sig .tc := ⟨.hbm, 341, rfl⟩
abbrev main_v317 : Ref sig .tc := ⟨.hbm, 342, rfl⟩
abbrev main_v318 : Ref sig .tc := ⟨.hbm, 343, rfl⟩
abbrev main_cst_19 : Ref sig .tc := ⟨.hbm, 344, rfl⟩
abbrev main_v319 : Ref sig .tc := ⟨.hbm, 345, rfl⟩
abbrev main_v320 : Ref sig .tc := ⟨.hbm, 346, rfl⟩
abbrev main_v321 : Ref sig .tc := ⟨.hbm, 347, rfl⟩
abbrev main_v322 : Ref sig .tc := ⟨.hbm, 348, rfl⟩
abbrev main_cst_20 : Ref sig .tc := ⟨.hbm, 349, rfl⟩
abbrev main_v323 : Ref sig .tc := ⟨.hbm, 350, rfl⟩
abbrev main_v324 : Ref sig .tc := ⟨.hbm, 351, rfl⟩
abbrev main_v325 : Ref sig .tc := ⟨.hbm, 352, rfl⟩
abbrev main_v326 : Ref sig .tc := ⟨.hbm, 353, rfl⟩
abbrev main_cst_21 : Ref sig .tc := ⟨.hbm, 354, rfl⟩
abbrev main_v327 : Ref sig .tc := ⟨.hbm, 355, rfl⟩
abbrev main_v328 : Ref sig .tc := ⟨.hbm, 356, rfl⟩
abbrev main_v329 : Ref sig .tc := ⟨.hbm, 357, rfl⟩
abbrev main_v330 : Ref sig .tc := ⟨.hbm, 358, rfl⟩
abbrev main_cst_22 : Ref sig .tc := ⟨.hbm, 359, rfl⟩
abbrev main_v331 : Ref sig .tc := ⟨.hbm, 360, rfl⟩
abbrev main_v332 : Ref sig .tc := ⟨.hbm, 361, rfl⟩
abbrev main_v333 : Ref sig .tc := ⟨.hbm, 362, rfl⟩
abbrev main_v334 : Ref sig .tc := ⟨.hbm, 363, rfl⟩
abbrev main_cst_23 : Ref sig .tc := ⟨.hbm, 364, rfl⟩
abbrev main_v335 : Ref sig .tc := ⟨.hbm, 365, rfl⟩
abbrev main_v336 : Ref sig .tc := ⟨.hbm, 366, rfl⟩
abbrev main_v337 : Ref sig .tc := ⟨.hbm, 367, rfl⟩
abbrev main_v338 : Ref sig .tc := ⟨.hbm, 368, rfl⟩
abbrev main_cst_24 : Ref sig .tc := ⟨.hbm, 369, rfl⟩
abbrev main_v339 : Ref sig .tc := ⟨.hbm, 370, rfl⟩
abbrev main_v340 : Ref sig .tc := ⟨.hbm, 371, rfl⟩
abbrev main_v341 : Ref sig .tc := ⟨.hbm, 372, rfl⟩
abbrev main_v342 : Ref sig .tc := ⟨.hbm, 373, rfl⟩
abbrev main_cst_25 : Ref sig .tc := ⟨.hbm, 374, rfl⟩
abbrev main_v343 : Ref sig .tc := ⟨.hbm, 375, rfl⟩
abbrev main_v344 : Ref sig .tc := ⟨.hbm, 376, rfl⟩
abbrev main_v345 : Ref sig .tc := ⟨.hbm, 377, rfl⟩
abbrev main_v346 : Ref sig .tc := ⟨.hbm, 378, rfl⟩
abbrev main_cst_26 : Ref sig .tc := ⟨.hbm, 379, rfl⟩
abbrev main_v347 : Ref sig .tc := ⟨.hbm, 380, rfl⟩
abbrev main_v348 : Ref sig .tc := ⟨.hbm, 381, rfl⟩
abbrev main_v349 : Ref sig .tc := ⟨.hbm, 382, rfl⟩
abbrev main_v350 : Ref sig .tc := ⟨.hbm, 383, rfl⟩
abbrev main_cst_27 : Ref sig .tc := ⟨.hbm, 384, rfl⟩
abbrev main_v351 : Ref sig .tc := ⟨.hbm, 385, rfl⟩
abbrev main_v352 : Ref sig .tc := ⟨.hbm, 386, rfl⟩
abbrev main_v353 : Ref sig .tc := ⟨.hbm, 387, rfl⟩
abbrev main_v354 : Ref sig .tc := ⟨.hbm, 388, rfl⟩
abbrev main_cst_28 : Ref sig .tc := ⟨.hbm, 389, rfl⟩
abbrev main_v355 : Ref sig .tc := ⟨.hbm, 390, rfl⟩
abbrev main_v356 : Ref sig .tc := ⟨.hbm, 391, rfl⟩
abbrev main_v357 : Ref sig .tc := ⟨.hbm, 392, rfl⟩
abbrev main_v358 : Ref sig .tc := ⟨.hbm, 393, rfl⟩
abbrev main_cst_29 : Ref sig .tc := ⟨.hbm, 394, rfl⟩
abbrev main_v359 : Ref sig .tc := ⟨.hbm, 395, rfl⟩
abbrev main_v360 : Ref sig .tc := ⟨.hbm, 396, rfl⟩
abbrev main_v361 : Ref sig .tc := ⟨.hbm, 397, rfl⟩
abbrev main_v362 : Ref sig .tc := ⟨.hbm, 398, rfl⟩
abbrev main_cst_30 : Ref sig .tc := ⟨.hbm, 399, rfl⟩
abbrev main_v363 : Ref sig .tc := ⟨.hbm, 400, rfl⟩
abbrev main_v364 : Ref sig .tc := ⟨.hbm, 401, rfl⟩
abbrev main_v365 : Ref sig .tc := ⟨.hbm, 402, rfl⟩
abbrev main_v366 : Ref sig .tc := ⟨.hbm, 403, rfl⟩
abbrev main_cst_31 : Ref sig .tc := ⟨.hbm, 404, rfl⟩
abbrev main_v367 : Ref sig .tc := ⟨.hbm, 405, rfl⟩
abbrev main_v368 : Ref sig .tc := ⟨.hbm, 406, rfl⟩
abbrev main_v369 : Ref sig .tc := ⟨.hbm, 407, rfl⟩
abbrev main_v370 : Ref sig .tc := ⟨.hbm, 408, rfl⟩
abbrev main_cst_32 : Ref sig .tc := ⟨.hbm, 409, rfl⟩
abbrev main_v371 : Ref sig .tc := ⟨.hbm, 410, rfl⟩
abbrev main_v372 : Ref sig .tc := ⟨.hbm, 411, rfl⟩
abbrev main_v373 : Ref sig .tc := ⟨.hbm, 412, rfl⟩
abbrev main_v374 : Ref sig .tc := ⟨.hbm, 413, rfl⟩
abbrev main_cst_33 : Ref sig .tc := ⟨.hbm, 414, rfl⟩
abbrev main_v375 : Ref sig .tc := ⟨.hbm, 415, rfl⟩
abbrev main_v376 : Ref sig .tc := ⟨.hbm, 416, rfl⟩
abbrev main_v377 : Ref sig .tc := ⟨.hbm, 417, rfl⟩
abbrev main_v378 : Ref sig .tc := ⟨.hbm, 418, rfl⟩
abbrev main_cst_34 : Ref sig .tc := ⟨.hbm, 419, rfl⟩
abbrev main_v379 : Ref sig .tc := ⟨.hbm, 420, rfl⟩
abbrev main_v380 : Ref sig .tc := ⟨.hbm, 421, rfl⟩
abbrev main_v381 : Ref sig .tc := ⟨.hbm, 422, rfl⟩
abbrev main_v382 : Ref sig .tc := ⟨.hbm, 423, rfl⟩
abbrev main_cst_35 : Ref sig .tc := ⟨.hbm, 424, rfl⟩
abbrev main_v383 : Ref sig .tc := ⟨.hbm, 425, rfl⟩
abbrev main_v384 : Ref sig .tc := ⟨.hbm, 426, rfl⟩
abbrev main_v385 : Ref sig .tc := ⟨.hbm, 427, rfl⟩
abbrev main_v386 : Ref sig .tc := ⟨.hbm, 428, rfl⟩
abbrev main_cst_36 : Ref sig .tc := ⟨.hbm, 429, rfl⟩
abbrev main_v387 : Ref sig .tc := ⟨.hbm, 430, rfl⟩
abbrev main_v388 : Ref sig .tc := ⟨.hbm, 431, rfl⟩
abbrev main_v389 : Ref sig .tc := ⟨.hbm, 432, rfl⟩
abbrev main_v390 : Ref sig .tc := ⟨.hbm, 433, rfl⟩
abbrev main_cst_37 : Ref sig .tc := ⟨.hbm, 434, rfl⟩
abbrev main_v391 : Ref sig .tc := ⟨.hbm, 435, rfl⟩
abbrev main_v392 : Ref sig .tc := ⟨.hbm, 436, rfl⟩
abbrev main_v393 : Ref sig .tc := ⟨.hbm, 437, rfl⟩
abbrev main_v394 : Ref sig .tc := ⟨.hbm, 438, rfl⟩
abbrev main_cst_38 : Ref sig .tc := ⟨.hbm, 439, rfl⟩
abbrev main_v395 : Ref sig .tc := ⟨.hbm, 440, rfl⟩
abbrev main_v396 : Ref sig .tc := ⟨.hbm, 441, rfl⟩
abbrev main_v397 : Ref sig .tc := ⟨.hbm, 442, rfl⟩
abbrev main_v398 : Ref sig .tc := ⟨.hbm, 443, rfl⟩
abbrev main_cst_39 : Ref sig .tc := ⟨.hbm, 444, rfl⟩
abbrev main_v399 : Ref sig .tc := ⟨.hbm, 445, rfl⟩
abbrev main_v400 : Ref sig .tc := ⟨.hbm, 446, rfl⟩
abbrev main_v401 : Ref sig .tc := ⟨.hbm, 447, rfl⟩
abbrev main_v402 : Ref sig .tc := ⟨.hbm, 448, rfl⟩
abbrev main_v403 : Ref sig .tc := ⟨.hbm, 449, rfl⟩
abbrev main_v404 : Ref sig .tc := ⟨.hbm, 450, rfl⟩
abbrev main_v405 : Ref sig .tc := ⟨.hbm, 451, rfl⟩
abbrev main_v406 : Ref sig .tc := ⟨.hbm, 452, rfl⟩
abbrev main_v407 : Ref sig .tc := ⟨.hbm, 453, rfl⟩
abbrev main_v408 : Ref sig .tc := ⟨.hbm, 454, rfl⟩
abbrev main_v409 : Ref sig .tc := ⟨.hbm, 455, rfl⟩

abbrev nD : Nat := 1
abbrev τ : Topo := Topo.v7x

variable {F : FTy → Type} [FloatOps F]
-- ==== Dxn1.lean ====
abbrev S4096x10240 : Shape := ⟨2, ![4096, 10240]⟩
abbrev S4096x8x1280 : Shape := ⟨3, ![4096, 8, 1280]⟩
abbrev S8x4096x1280 : Shape := ⟨3, ![8, 4096, 1280]⟩
abbrev S4096x4096 : Shape := ⟨2, ![4096, 4096]⟩
abbrev S1024x2560 : Shape := ⟨2, ![1024, 2560]⟩
abbrev S2x1024x1280 : Shape := ⟨3, ![2, 1024, 1280]⟩
abbrev S1024x1024 : Shape := ⟨2, ![1024, 1024]⟩
abbrev S1024x1280 : Shape := ⟨2, ![1024, 1280]⟩
abbrev S1x1024x1280 : Shape := ⟨3, ![1, 1024, 1280]⟩

abbrev nBuf : Space → Nat
  | .hbm => 5
  | .vmem => 7
  | .smem => 0
  | _ => 0

abbrev bufTy : (tb : Table) → Fin (tcTables nBuf tb) → BufTy
  | .hbm, ⟨0, _⟩ => ⟨S4096x10240, .bf16⟩
  | .hbm, ⟨1, _⟩ => ⟨S4096x10240, .bf16⟩
  | .hbm, ⟨2, _⟩ => ⟨S4096x8x1280, .bf16⟩
  | .hbm, ⟨3, _⟩ => ⟨S8x4096x1280, .bf16⟩
  | .hbm, ⟨4, _⟩ => ⟨S4096x4096, .bf16⟩
  | .local _ .vmem, ⟨0, _⟩ => ⟨S1024x2560, .bf16⟩
  | .local _ .vmem, ⟨1, _⟩ => ⟨S1024x2560, .bf16⟩
  | .local _ .vmem, ⟨2, _⟩ => ⟨S2x1024x1280, .bf16⟩
  | .local _ .vmem, ⟨3, _⟩ => ⟨S2x1024x1280, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 4, 1], ![false, false, false, false]⟩

def k0_cond2 (i : grid0.Coords) : BitVec 1 :=
  let arg2 : BitVec 32 := BitVec.ofNat 32 (i 2).val
  let c3_i32 : BitVec 32 := 3#32
  let v3 : BitVec 1 := Scalar.cmpi .eq arg2 c3_i32
  let arg3 : BitVec 32 := BitVec.ofNat 32 (i 3).val
  let c0_i32_1 : BitVec 32 := 0#32
  let v4 : BitVec 1 := Scalar.cmpi .eq arg3 c0_i32_1
  let v5 : BitVec 1 := Scalar.andi v3 v4
  let v22 : BitVec 32 := Scalar.extui v5
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, false]

abbrev stage0_1 : Fin 2 → Memref sig .tc .vmem S2x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Dxn1RefIdeal.lean ====
abbrev S4096x10240 : Shape := ⟨2, ![4096, 10240]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x10240, .bf16⟩
  | .hbm, ⟨1, _⟩ => ⟨S4096x10240, .bf16⟩
  | .hbm, ⟨2, _⟩ => ⟨S_, .f32⟩
  | .hbm, ⟨3, _⟩ => ⟨S4096x4096, .f32⟩
  | .hbm, ⟨4, _⟩ => ⟨S4096x10240, .f32⟩
  | .hbm, ⟨5, _⟩ => ⟨S4096x10240, .f32⟩
  | .hbm, ⟨6, _⟩ => ⟨S4096x10240, .f32⟩
  | .hbm, ⟨7, _⟩ => ⟨S4096x4096, .f32⟩
  | .hbm, ⟨8, _⟩ => ⟨S4096x4096, .bf16⟩
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== H3.lean ====
abbrev S4096x11008 : Shape := ⟨2, ![4096, 11008]⟩
abbrev S11008x4096 : Shape := ⟨2, ![11008, 4096]⟩
abbrev S4096x4096 : Shape := ⟨2, ![4096, 4096]⟩
abbrev S4096x8x1376 : Shape := ⟨3, ![4096, 8, 1376]⟩
abbrev S8x4096x1376 : Shape := ⟨3, ![8, 4096, 1376]⟩
abbrev S8x1376x4096 : Shape := ⟨3, ![8, 1376, 4096]⟩
abbrev S2x1024x1376 : Shape := ⟨3, ![2, 1024, 1376]⟩
abbrev S2x1376x1024 : Shape := ⟨3, ![2, 1376, 1024]⟩
abbrev S1024x1024 : Shape := ⟨2, ![1024, 1024]⟩
abbrev S1x1024x1376 : Shape := ⟨3, ![1, 1024, 1376]⟩
abbrev S1024x1376 : Shape := ⟨2, ![1024, 1376]⟩
abbrev S1x1376x1024 : Shape := ⟨3, ![1, 1376, 1024]⟩
abbrev S1376x1024 : Shape := ⟨2, ![1376, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x11008, .bf16⟩
  | .hbm, ⟨1, _⟩ => ⟨S11008x4096, .bf16⟩
  | .hbm, ⟨2, _⟩ => ⟨S4096x4096, .f32⟩
  | .hbm, ⟨3, _⟩ => ⟨S4096x8x1376, .bf16⟩
  | .hbm, ⟨4, _⟩ => ⟨S8x4096x1376, .bf16⟩
  | .hbm, ⟨5, _⟩ => ⟨S8x1376x4096, .bf16⟩
  | .hbm, ⟨6, _⟩ => ⟨S4096x4096, .f32⟩
  | .local _ .vmem, ⟨0, _⟩ => ⟨S2x1024x1376, .bf16⟩
  | .local _ .vmem, ⟨1, _⟩ => ⟨S2x1024x1376, .bf16⟩
  | .local _ .vmem, ⟨2, _⟩ => ⟨S2x1376x1024, .bf16⟩
  | .local _ .vmem, ⟨3, _⟩ => ⟨S2x1376x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 4, 4, 1], ![false, false, false, false]⟩

def k0_cond2 (i : grid0.Coords) : BitVec 1 :=
  let arg2 : BitVec 32 := BitVec.ofNat 32 (i 2).val
  let c3_i32 : BitVec 32 := 3#32
  let v3 : BitVec 1 := Scalar.cmpi .eq arg2 c3_i32
  let arg3 : BitVec 32 := BitVec.ofNat 32 (i 3).val
  let c0_i32_1 : BitVec 32 := 0#32
  let v4 : BitVec 1 := Scalar.cmpi .eq arg3 c0_i32_1
  let v5 : BitVec 1 := Scalar.andi v3 v4
  let v24 : BitVec 32 := Scalar.extui v5
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S2x1024x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2x1376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== H3RefIdeal.lean ====
abbrev S4096x11008 : Shape := ⟨2, ![4096, 11008]⟩
abbrev S11008x4096 : Shape := ⟨2, ![11008, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S11008x4096, .bf16⟩
  | .hbm, ⟨2, _⟩ => ⟨S4096x4096, .f32⟩
  | .hbm, ⟨3, _⟩ => ⟨S4096x11008, .f32⟩
  | .hbm, ⟨4, _⟩ => ⟨S11008x4096, .f32⟩
  | .hbm, ⟨5, _⟩ => ⟨S4096x4096, .f32⟩
  | .hbm, ⟨6, _⟩ => ⟨S4096x4096, .f32⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proj.lean ====
abbrev S4096x4096 : Shape := ⟨2, ![4096, 4096]⟩
abbrev S4096x10240 : Shape := ⟨2, ![4096, 10240]⟩
abbrev S4096x8x1280 : Shape := ⟨3, ![4096, 8, 1280]⟩
abbrev S8x4096x1280 : Shape := ⟨3, ![8, 4096, 1280]⟩
abbrev S1024x4096 : Shape := ⟨2, ![1024, 4096]⟩
abbrev S1x4096x1280 : Shape := ⟨3, ![1, 4096, 1280]⟩
abbrev S1024x1280 : Shape := ⟨2, ![1024, 1280]⟩
abbrev S4096x1280 : Shape := ⟨2, ![4096, 1280]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x10240, .bf16⟩
  | .hbm, ⟨2, _⟩ => ⟨S4096x8x1280, .bf16⟩
  | .hbm, ⟨3, _⟩ => ⟨S8x4096x1280, .bf16⟩
  | .hbm, ⟨4, _⟩ => ⟨S4096x10240, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1280, .bf16⟩
  | .local _ .vmem, ⟨3, _⟩ => ⟨S1x4096x1280, .bf16⟩
  | .local _ .vmem, ⟨4, _⟩ => ⟨S1024x1280, .bf16⟩
  | .local _ .vmem, ⟨5, _⟩ => ⟨S1024x1280, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== ProjRefIdeal.lean ====
abbrev S4096x4096 : Shape := ⟨2, ![4096, 4096]⟩
abbrev S4096x10240 : Shape := ⟨2, ![4096, 10240]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x10240, .bf16⟩
  | .hbm, ⟨2, _⟩ => ⟨S4096x4096, .f32⟩
  | .hbm, ⟨3, _⟩ => ⟨S4096x10240, .f32⟩
  | .hbm, ⟨4, _⟩ => ⟨S4096x10240, .f32⟩
  | .hbm, ⟨5, _⟩ => ⟨S4096x10240, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gate.lean ====
abbrev S4096x11008 : Shape := ⟨2, ![4096, 11008]⟩
abbrev S4096x8x1376 : Shape := ⟨3, ![4096, 8, 1376]⟩
abbrev S8x4096x1376 : Shape := ⟨3, ![8, 4096, 1376]⟩
abbrev S11008x4096 : Shape := ⟨2, ![11008, 4096]⟩
abbrev S8x1376x4096 : Shape := ⟨3, ![8, 1376, 4096]⟩
abbrev S4096x4096 : Shape := ⟨2, ![4096, 4096]⟩
abbrev S2x1024x1376 : Shape := ⟨3, ![2, 1024, 1376]⟩
abbrev S2x1376x1024 : Shape := ⟨3, ![2, 1376, 1024]⟩
abbrev S1024x1024 : Shape := ⟨2, ![1024, 1024]⟩
abbrev S1x1024x1376 : Shape := ⟨3, ![1, 1024, 1376]⟩
abbrev S1024x1376 : Shape := ⟨2, ![1024, 1376]⟩
abbrev S1x1376x1024 : Shape := ⟨3, ![1, 1376, 1024]⟩
abbrev S1376x1024 : Shape := ⟨2, ![1376, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S4096x8x1376, .bf16⟩
  | .hbm, ⟨3, _⟩ => ⟨S8x4096x1376, .bf16⟩
  | .hbm, ⟨4, _⟩ => ⟨S11008x4096, .bf16⟩
  | .hbm, ⟨5, _⟩ => ⟨S8x1376x4096, .bf16⟩
  | .hbm, ⟨6, _⟩ => ⟨S4096x4096, .bf16⟩
  | .local _ .vmem, ⟨0, _⟩ => ⟨S2x1024x1376, .bf16⟩
  | .local _ .vmem, ⟨1, _⟩ => ⟨S2x1024x1376, .bf16⟩
  | .local _ .vmem, ⟨2, _⟩ => ⟨S2x1376x1024, .bf16⟩
  | .local _ .vmem, ⟨3, _⟩ => ⟨S2x1376x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 4, 1], ![false, false, false, false]⟩

def k0_cond2 (i : grid0.Coords) : BitVec 1 :=
  let arg2 : BitVec 32 := BitVec.ofNat 32 (i 2).val
  let c3_i32 : BitVec 32 := 3#32
  let v3 : BitVec 1 := Scalar.cmpi .eq arg2 c3_i32
  let arg3 : BitVec 32 := BitVec.ofNat 32 (i 3).val
  let c0_i32_1 : BitVec 32 := 0#32
  let v4 : BitVec 1 := Scalar.cmpi .eq arg3 c0_i32_1
  let v5 : BitVec 1 := Scalar.andi v3 v4
  let v24 : BitVec 32 := Scalar.extui v5
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S2x1024x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2x1376x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== GateRefIdeal.lean ====
abbrev S4096x11008 : Shape := ⟨2, ![4096, 11008]⟩
abbrev S_ : Shape := ⟨0, ![]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S_, .f32⟩
  | .hbm, ⟨3, _⟩ => ⟨S4096x4096, .f32⟩
  | .hbm, ⟨4, _⟩ => ⟨S4096x11008, .f32⟩
  | .hbm, ⟨5, _⟩ => ⟨S4096x11008, .f32⟩
  | .hbm, ⟨6, _⟩ => ⟨S4096x11008, .f32⟩
  | .hbm, ⟨7, _⟩ => ⟨S4096x4096, .f32⟩
  | .hbm, ⟨8, _⟩ => ⟨S4096x4096, .bf16⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Adam.lean ====
abbrev S4x4096x1280 : Shape := ⟨3, ![4, 4096, 1280]⟩
abbrev S1x4096x1280 : Shape := ⟨3, ![1, 4096, 1280]⟩
abbrev S4x128x1280 : Shape := ⟨3, ![4, 128, 1280]⟩
abbrev S1x128x1280 : Shape := ⟨3, ![1, 128, 1280]⟩
abbrev S128x1280 : Shape := ⟨2, ![128, 1280]⟩

abbrev nBuf : Space → Nat
  | .hbm => 8
  | .vmem => 16
  | .smem => 0
  | _ => 0

abbrev bufTy : (tb : Table) → Fin (tcTables nBuf tb) → BufTy
  | .hbm, ⟨0, _⟩ => ⟨S4x4096x1280, .bf16⟩
  | .hbm, ⟨1, _⟩ => ⟨S1x4096x1280, .f32⟩
  | .hbm, ⟨2, _⟩ => ⟨S1x4096x1280, .f32⟩
  | .hbm, ⟨3, _⟩ => ⟨S1x4096x1280, .f32⟩
  | .hbm, ⟨4, _⟩ => ⟨S1x4096x1280, .f32⟩
  | .hbm, ⟨5, _⟩ => ⟨S1x4096x1280, .f32⟩
  | .hbm, ⟨6, _⟩ => ⟨S1x4096x1280, .f32⟩
  | .hbm, ⟨7, _⟩ => ⟨S1x4096x1280, .f32⟩
  | .local _ .vmem, ⟨0, _⟩ => ⟨S4x128x1280, .bf16⟩
  | .local _ .vmem, ⟨1, _⟩ => ⟨S4x128x1280, .bf16⟩
  | .local _ .vmem, ⟨2, _⟩ => ⟨S1x128x1280, .f32⟩
  | .local _ .vmem, ⟨3, _⟩ => ⟨S1x128x1280, .f32⟩
  | .local _ .vmem, ⟨4, _⟩ => ⟨S1x128x1280, .f32⟩
  | .local _ .vmem, ⟨5, _⟩ => ⟨S1x128x1280, .f32⟩
  | .local _ .vmem, ⟨6, _⟩ => ⟨S1x128x1280, .f32⟩
  | .local _ .vmem, ⟨7, _⟩ => ⟨S1x128x1280, .f32⟩
  | .local _ .vmem, ⟨8, _⟩ => ⟨S1x128x1280, .f32⟩
  | .local _ .vmem, ⟨9, _⟩ => ⟨S1x128x1280, .f32⟩
  | .local _ .vmem, ⟨10, _⟩ => ⟨S1x128x1280, .f32⟩
  | .local _ .vmem, ⟨11, _⟩ => ⟨S1x128x1280, .f32⟩
  | .local _ .vmem, ⟨12, _⟩ => ⟨S1x128x1280, .f32⟩
  | .local _ .vmem, ⟨13, _⟩ => ⟨S1x128x1280, .f32⟩
  | .local _ .vmem, ⟨14, _⟩ => ⟨S1x128x1280, .f32⟩
  | .local _ .vmem, ⟨15, _⟩ => ⟨S1x128x1280, .f32⟩
  | _, _ => ⟨S4x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S4x4096x1280 : Shape := ⟨3, ![4, 4096, 1280]⟩
abbrev S1x4096x1280 : Shape := ⟨3, ![1, 4096, 1280]⟩
abbrev S_ : Shape := ⟨0, ![]⟩
abbrev S4096x1280 : Shape := ⟨2, ![4096, 1280]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1280, .bf16⟩
  | .hbm, ⟨1, _⟩ => ⟨S1x4096x1280, .f32⟩
  | .hbm, ⟨2, _⟩ => ⟨S1x4096x1280, .f32⟩
  | .hbm, ⟨3, _⟩ => ⟨S1x4096x1280, .f32⟩
  | .hbm, ⟨4, _⟩ => ⟨S4x4096x1280, .f32⟩
  | .hbm, ⟨5, _⟩ => ⟨S_, .f32⟩
  | .hbm, ⟨6, _⟩ => ⟨S4096x1280, .f32⟩
  | .hbm, ⟨7, _⟩ => ⟨S1x4096x1280, .f32⟩
  | .hbm, ⟨8, _⟩ => ⟨S_, .f32⟩
  | .hbm, ⟨9, _⟩ => ⟨S1x4096x1280, .f32⟩
  | .hbm, ⟨10, _⟩ => ⟨S1x4096x1280, .f32⟩
  | .hbm, ⟨11, _⟩ => ⟨S_, .f32⟩
  | .hbm, ⟨12, _⟩ => ⟨S1x4096x1280, .f32⟩
  | .hbm, ⟨13, _⟩ => ⟨S1x4096x1280, .f32⟩
  | .hbm, ⟨14, _⟩ => ⟨S1x4096x1280, .f32⟩
  | .hbm, ⟨15, _⟩ => ⟨S_, .f32⟩
  | .hbm, ⟨16, _⟩ => ⟨S1x4096x1280, .f32⟩
  | .hbm, ⟨17, _⟩ => ⟨S1x4096x1280, .f32⟩
  | .hbm, ⟨18, _⟩ => ⟨S1x4096x1280, .f32⟩
  | .hbm, ⟨19, _⟩ => ⟨S_, .f32⟩
  | .hbm, ⟨20, _⟩ => ⟨S1x4096x1280, .f32⟩
  | .hbm, ⟨21, _⟩ => ⟨S1x4096x1280, .f32⟩
  | .hbm, ⟨22, _⟩ => ⟨S1x4096x1280, .f32⟩
  | .hbm, ⟨23, _⟩ => ⟨S_, .f32⟩
  | .hbm, ⟨24, _⟩ => ⟨S1x4096x1280, .f32⟩
  | .hbm, ⟨25, _⟩ => ⟨S1x4096x1280, .f32⟩
  | .hbm, ⟨26, _⟩ => ⟨S_, .f32⟩
  | .hbm, ⟨27, _⟩ => ⟨S1x4096x1280, .f32⟩
  | .hbm, ⟨28, _⟩ => ⟨S1x4096x1280, .f32⟩
  | .hbm, ⟨29, _⟩ => ⟨S1x4096x1280, .f32⟩
  | .hbm, ⟨30, _⟩ => ⟨S_, .f32⟩
  | .hbm, ⟨31, _⟩ => ⟨S1x4096x1280, .f32⟩
  | .hbm, ⟨32, _⟩ => ⟨S1x4096x1280, .f32⟩
  | .hbm, ⟨33, _⟩ => ⟨S1x4096x1280, .f32⟩
  | .hbm, ⟨34, _⟩ => ⟨S_, .f32⟩
  | .hbm, ⟨35, _⟩ => ⟨S1x4096x1280, .f32⟩
  | .hbm, ⟨36, _⟩ => ⟨S1x4096x1280, .f32⟩
  | .hbm, ⟨37, _⟩ => ⟨S1x4096x1280, .f32⟩
  | .hbm, ⟨38, _⟩ => ⟨S_, .f32⟩
  | .hbm, ⟨39, _⟩ => ⟨S1x4096x1280, .f32⟩
  | .hbm, ⟨40, _⟩ => ⟨S1x4096x1280, .f32⟩
  | _, _ => ⟨S4x4096x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== DwIn.lean ====
abbrev S4096x4096 : Shape := ⟨2, ![4096, 4096]⟩
abbrev S4096x10240 : Shape := ⟨2, ![4096, 10240]⟩
abbrev S8x4096x1280 : Shape := ⟨3, ![8, 4096, 1280]⟩
abbrev S4096x512 : Shape := ⟨2, ![4096, 512]⟩
abbrev S4096x1280 : Shape := ⟨2, ![4096, 1280]⟩
abbrev S1x512x1280 : Shape := ⟨3, ![1, 512, 1280]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x10240, .bf16⟩
  | .hbm, ⟨2, _⟩ => ⟨S8x4096x1280, .bf16⟩
  | .local _ .vmem, ⟨0, _⟩ => ⟨S4096x512, .bf16⟩
  | .local _ .vmem, ⟨1, _⟩ => ⟨S4096x512, .bf16⟩
  | .local _ .vmem, ⟨2, _⟩ => ⟨S4096x1280, .bf16⟩
  | .local _ .vmem, ⟨3, _⟩ => ⟨S4096x1280, .bf16⟩
  | .local _ .vmem, ⟨4, _⟩ => ⟨S1x512x1280, .bf16⟩
  | .local _ .vmem, ⟨5, _⟩ => ⟨S1x512x1280, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4096x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwInRefIdeal.lean ====
abbrev S4096x4096 : Shape := ⟨2, ![4096, 4096]⟩
abbrev S4096x10240 : Shape := ⟨2, ![4096, 10240]⟩
abbrev S_ : Shape := ⟨0, ![]⟩
abbrev S10240x4096 : Shape := ⟨2, ![10240, 4096]⟩
abbrev S4096x8x1280 : Shape := ⟨3, ![4096, 8, 1280]⟩
abbrev S8x4096x1280 : Shape := ⟨3, ![8, 4096, 1280]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x10240, .bf16⟩
  | .hbm, ⟨2, _⟩ => ⟨S_, .f32⟩
  | .hbm, ⟨3, _⟩ => ⟨S4096x10240, .f32⟩
  | .hbm, ⟨4, _⟩ => ⟨S4096x4096, .f32⟩
  | .hbm, ⟨5, _⟩ => ⟨S4096x10240, .f32⟩
  | .hbm, ⟨6, _⟩ => ⟨S4096x10240, .f32⟩
  | .hbm, ⟨7, _⟩ => ⟨S10240x4096, .f32⟩
  | .hbm, ⟨8, _⟩ => ⟨S4096x10240, .f32⟩
  | .hbm, ⟨9, _⟩ => ⟨S4096x10240, .bf16⟩
  | .hbm, ⟨10, _⟩ => ⟨S4096x8x1280, .bf16⟩
  | .hbm, ⟨11, _⟩ => ⟨S8x4096x1280, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Q.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== QRefIdeal.lean ====
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== H2.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 4, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== H2RefIdeal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== H1.lean ====
abbrev S4096x4096 : Shape := ⟨2, ![4096, 4096]⟩
abbrev S4096x2x2048 : Shape := ⟨3, ![4096, 2, 2048]⟩
abbrev S2x4096x2048 : Shape := ⟨3, ![2, 4096, 2048]⟩
abbrev S2x2048x4096 : Shape := ⟨3, ![2, 2048, 4096]⟩
abbrev S2x1024x2048 : Shape := ⟨3, ![2, 1024, 2048]⟩
abbrev S2x2048x512 : Shape := ⟨3, ![2, 2048, 512]⟩
abbrev S1024x512 : Shape := ⟨2, ![1024, 512]⟩
abbrev S1x1024x2048 : Shape := ⟨3, ![1, 1024, 2048]⟩
abbrev S1024x2048 : Shape := ⟨2, ![1024, 2048]⟩
abbrev S1x2048x512 : Shape := ⟨3, ![1, 2048, 512]⟩
abbrev S2048x512 : Shape := ⟨2, ![2048, 512]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x2x2048, .bf16⟩
  | .hbm, ⟨4, _⟩ => ⟨S2x4096x2048, .bf16⟩
  | .hbm, ⟨5, _⟩ => ⟨S2x2048x4096, .bf16⟩
  | .hbm, ⟨6, _⟩ => ⟨S4096x4096, .f32⟩
  | .local _ .vmem, ⟨0, _⟩ => ⟨S2x1024x2048, .bf16⟩
  | .local _ .vmem, ⟨1, _⟩ => ⟨S2x1024x2048, .bf16⟩
  | .local _ .vmem, ⟨2, _⟩ => ⟨S2x2048x512, .bf16⟩
  | .local _ .vmem, ⟨3, _⟩ => ⟨S2x2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 8, 1, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S2x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S2x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]
-- ==== H1RefIdeal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Do.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== DoRefIdeal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dxn2.lean ====
abbrev S4096x4096 : Shape := ⟨2, ![4096, 4096]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Dxn2RefIdeal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwO.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== DwORefIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwQ.lean ====
abbrev S4096x4096 : Shape := ⟨2, ![4096, 4096]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 4, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== DwQRefIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwOut.lean ====
abbrev S4096x4096 : Shape := ⟨2, ![4096, 4096]⟩
abbrev S4096x2x2048 : Shape := ⟨3, ![4096, 2, 2048]⟩
abbrev S2x4096x2048 : Shape := ⟨3, ![2, 4096, 2048]⟩
abbrev S2x2048x4096 : Shape := ⟨3, ![2, 2048, 4096]⟩
abbrev S1x4096x1024 : Shape := ⟨3, ![1, 4096, 1024]⟩
abbrev S4096x512 : Shape := ⟨2, ![4096, 512]⟩
abbrev S1x1024x512 : Shape := ⟨3, ![1, 1024, 512]⟩
abbrev S4096x1024 : Shape := ⟨2, ![4096, 1024]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x2x2048, .bf16⟩
  | .hbm, ⟨3, _⟩ => ⟨S2x4096x2048, .bf16⟩
  | .hbm, ⟨4, _⟩ => ⟨S2x2048x4096, .bf16⟩
  | .local _ .vmem, ⟨0, _⟩ => ⟨S1x4096x1024, .bf16⟩
  | .local _ .vmem, ⟨1, _⟩ => ⟨S1x4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![2, 2, 8, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== DwOutRefIdeal.lean ====
abbrev S4096x4096 : Shape := ⟨2, ![4096, 4096]⟩
abbrev S_ : Shape := ⟨0, ![]⟩
abbrev S2x2048x4096 : Shape := ⟨3, ![2, 2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S2x2048x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Loss.lean ====
abbrev S4096x4096 : Shape := ⟨2, ![4096, 4096]⟩
abbrev S1x4096 : Shape := ⟨2, ![1, 4096]⟩
abbrev S1x128 : Shape := ⟨2, ![1, 128]⟩
abbrev S128x4096 : Shape := ⟨2, ![128, 4096]⟩
abbrev S128 : Shape := ⟨1, ![128]⟩
abbrev S128x1 : Shape := ⟨2, ![128, 1]⟩
abbrev S1 : Shape := ⟨1, ![1]⟩
abbrev S1x1 : Shape := ⟨2, ![1, 1]⟩
abbrev S4096 : Shape := ⟨1, ![4096]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .bf16⟩
  | .hbm, ⟨5, _⟩ => ⟨S1x128, .f32⟩
  | .hbm, ⟨6, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .bf16⟩
  | .local _ .vmem, ⟨8, _⟩ => ⟨S128x4096, .bf16⟩
  | .local _ .vmem, ⟨9, _⟩ => ⟨S1x128, .f32⟩
  | .local _ .vmem, ⟨10, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x4096, .f32⟩
  | .hbm, ⟨56, _⟩ => ⟨S4096x4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .bf16⟩
  | .hbm, ⟨69, _⟩ => ⟨S1x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== RmsMem.lean ====
abbrev S256x4096 : Shape := ⟨2, ![256, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 4
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S1x4096, .f32⟩
  | .hbm, ⟨3, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RmsMemRefIdeal.lean ====
abbrev S256x4096 : Shape := ⟨2, ![256, 4096]⟩
abbrev S1x4096 : Shape := ⟨2, ![1, 4096]⟩
abbrev S_ : Shape := ⟨0, ![]⟩
abbrev S256 : Shape := ⟨1, ![256]⟩
abbrev S256x1 : Shape := ⟨2, ![256, 1]⟩
abbrev S4096 : Shape := ⟨1, ![4096]⟩

abbrev nBuf : Space → Nat
  | .hbm => 45
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S1x4096, .f32⟩
  | .hbm, ⟨3, _⟩ => ⟨S256x4096, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x4096, .f32⟩
  | .hbm, ⟨19, _⟩ => ⟨S256x4096, .f32⟩
  | .hbm, ⟨20, _⟩ => ⟨S256x4096, .f32⟩
  | .hbm, ⟨21, _⟩ => ⟨S256x4096, .f32⟩
  | .hbm, ⟨22, _⟩ => ⟨S256x4096, .f32⟩
  | .hbm, ⟨23, _⟩ => ⟨S_, .f32⟩
  | .hbm, ⟨24, _⟩ => ⟨S4096, .f32⟩
  | .hbm, ⟨25, _⟩ => ⟨S1x4096, .f32⟩
  | .hbm, ⟨26, _⟩ => ⟨S256x4096, .f32⟩
  | .hbm, ⟨27, _⟩ => ⟨S256x4096, .f32⟩
  | .hbm, ⟨28, _⟩ => ⟨S256x4096, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x4096, .f32⟩
  | .hbm, ⟨33, _⟩ => ⟨S256x4096, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x4096, .f32⟩
  | .hbm, ⟨41, _⟩ => ⟨S256x4096, .f32⟩
  | .hbm, ⟨42, _⟩ => ⟨S256x4096, .f32⟩
  | .hbm, ⟨43, _⟩ => ⟨S256x4096, .f32⟩
  | .hbm, ⟨44, _⟩ => ⟨S256x4096, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== RmsFwd.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== AttnFwd.lean ====
abbrev S4096x4096 : Shape := ⟨2, ![4096, 4096]⟩
abbrev S256x4096 : Shape := ⟨2, ![256, 4096]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S256x4096, .bf16⟩
  | .hbm, ⟨2, _⟩ => ⟨S256x4096, .bf16⟩
  | .hbm, ⟨3, _⟩ => ⟨S4096x4096, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S4096x4096 : Shape := ⟨2, ![4096, 4096]⟩
abbrev S256x4096 : Shape := ⟨2, ![256, 4096]⟩
abbrev S1x4096x4096 : Shape := ⟨3, ![1, 4096, 4096]⟩
abbrev S1x256x4096 : Shape := ⟨3, ![1, 256, 4096]⟩
abbrev S1x4096x4x1024 : Shape := ⟨4, ![1, 4096, 4, 1024]⟩
abbrev S1x256x4x1024 : Shape := ⟨4, ![1, 256, 4, 1024]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x1024x4096 : Shape := ⟨4, ![1, 4, 1024, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S256x4096, .bf16⟩
  | .hbm, ⟨2, _⟩ => ⟨S256x4096, .bf16⟩
  | .hbm, ⟨3, _⟩ => ⟨S4096x4096, .f32⟩
  | .hbm, ⟨4, _⟩ => ⟨S1x4096x4096, .f32⟩
  | .hbm, ⟨5, _⟩ => ⟨S256x4096, .f32⟩
  | .hbm, ⟨6, _⟩ => ⟨S1x256x4096, .f32⟩
  | .hbm, ⟨7, _⟩ => ⟨S256x4096, .f32⟩
  | .hbm, ⟨8, _⟩ => ⟨S1x256x4096, .f32⟩
  | .hbm, ⟨9, _⟩ => ⟨S1x4096x4x1024, .f32⟩
  | .hbm, ⟨10, _⟩ => ⟨S1x256x4x1024, .f32⟩
  | .hbm, ⟨11, _⟩ => ⟨S1x256x4x1024, .f32⟩
  | .hbm, ⟨12, _⟩ => ⟨S1x4x4096x256, .f32⟩
  | .hbm, ⟨13, _⟩ => ⟨S_, .f32⟩
  | .hbm, ⟨14, _⟩ => ⟨S1x4x4096x256, .f32⟩
  | .hbm, ⟨15, _⟩ => ⟨S1x4x4096x256, .f32⟩
  | .hbm, ⟨16, _⟩ => ⟨S_, .f32⟩
  | .hbm, ⟨17, _⟩ => ⟨S1x4x4096, .f32⟩
  | .hbm, ⟨18, _⟩ => ⟨S_, .f32⟩
  | .hbm, ⟨19, _⟩ => ⟨S1x4x4096, .f32⟩
  | .hbm, ⟨20, _⟩ => ⟨S1x4x4096, .f32⟩
  | .hbm, ⟨21, _⟩ => ⟨S1x4x4096x1, .f32⟩
  | .hbm, ⟨22, _⟩ => ⟨S1x4x4096x256, .f32⟩
  | .hbm, ⟨23, _⟩ => ⟨S1x4x4096x256, .f32⟩
  | .hbm, ⟨24, _⟩ => ⟨S1x4x4096x256, .f32⟩
  | .hbm, ⟨25, _⟩ => ⟨S_, .f32⟩
  | .hbm, ⟨26, _⟩ => ⟨S1x4x4096, .f32⟩
  | .hbm, ⟨27, _⟩ => ⟨S1x4x4096x1, .f32⟩
  | .hbm, ⟨28, _⟩ => ⟨S1x4x4096x256, .f32⟩
  | .hbm, ⟨29, _⟩ => ⟨S1x4x4096x256, .f32⟩
  | .hbm, ⟨30, _⟩ => ⟨S1x4x1024x4096, .f32⟩
  | .hbm, ⟨31, _⟩ => ⟨S1x4096x4x1024, .f32⟩
  | .hbm, ⟨32, _⟩ => ⟨S1x4096x4096, .f32⟩
  | .hbm, ⟨33, _⟩ => ⟨S4096x4096, .f32⟩
  | .hbm, ⟨34, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== AdamSmall.lean ====
abbrev S8x4096 : Shape := ⟨2, ![8, 4096]⟩
abbrev S1x8x4096 : Shape := ⟨3, ![1, 8, 4096]⟩

abbrev nBuf : Space → Nat
  | .hbm => 9
  | .vmem => 8
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S8x4096, .f32⟩
  | .hbm, ⟨3, _⟩ => ⟨S8x4096, .f32⟩
  | .hbm, ⟨4, _⟩ => ⟨S1x8x4096, .f32⟩
  | .hbm, ⟨5, _⟩ => ⟨S8x4096, .f32⟩
  | .hbm, ⟨6, _⟩ => ⟨S8x4096, .f32⟩
  | .hbm, ⟨7, _⟩ => ⟨S8x4096, .f32⟩
  | .hbm, ⟨8, _⟩ => ⟨S8x4096, .f32⟩
  | .local _ .vmem, ⟨0, _⟩ => ⟨S1x8x4096, .f32⟩
  | .local _ .vmem, ⟨1, _⟩ => ⟨S8x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S8x4096, .f32⟩
  | .local _ .vmem, ⟨7, _⟩ => ⟨S8x4096, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S8x4096 : Shape := ⟨2, ![8, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S8x4096, .f32⟩
  | .hbm, ⟨15, _⟩ => ⟨S_, .f32⟩
  | .hbm, ⟨16, _⟩ => ⟨S8x4096, .f32⟩
  | .hbm, ⟨17, _⟩ => ⟨S8x4096, .f32⟩
  | .hbm, ⟨18, _⟩ => ⟨S8x4096, .f32⟩
  | .hbm, ⟨19, _⟩ => ⟨S_, .f32⟩
  | .hbm, ⟨20, _⟩ => ⟨S8x4096, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S4x512x4096 : Shape := ⟨3, ![4, 512, 4096]⟩
abbrev S1x512x4096 : Shape := ⟨3, ![1, 512, 4096]⟩
abbrev S4x64x4096 : Shape := ⟨3, ![4, 64, 4096]⟩
abbrev S1x64x4096 : Shape := ⟨3, ![1, 64, 4096]⟩
abbrev S64x4096 : Shape := ⟨2, ![64, 4096]⟩

abbrev nBuf : Space → Nat
  | .hbm => 8
  | .vmem => 16
  | .smem => 0
  | _ => 0

abbrev bufTy : (tb : Table) → Fin (tcTables nBuf tb) → BufTy
  | .hbm, ⟨0, _⟩ => ⟨S4x512x4096, .bf16⟩
  | .hbm, ⟨1, _⟩ => ⟨S1x512x4096, .f32⟩
  | .hbm, ⟨2, _⟩ => ⟨S1x512x4096, .f32⟩
  | .hbm, ⟨3, _⟩ => ⟨S1x512x4096, .f32⟩
  | .hbm, ⟨4, _⟩ => ⟨S1x512x4096, .f32⟩
  | .hbm, ⟨5, _⟩ => ⟨S1x512x4096, .f32⟩
  | .hbm, ⟨6, _⟩ => ⟨S1x512x4096, .f32⟩
  | .hbm, ⟨7, _⟩ => ⟨S1x512x4096, .f32⟩
  | .local _ .vmem, ⟨0, _⟩ => ⟨S4x64x4096, .bf16⟩
  | .local _ .vmem, ⟨1, _⟩ => ⟨S4x64x4096, .bf16⟩
  | .local _ .vmem, ⟨2, _⟩ => ⟨S1x64x4096, .f32⟩
  | .local _ .vmem, ⟨3, _⟩ => ⟨S1x64x4096, .f32⟩
  | .local _ .vmem, ⟨4, _⟩ => ⟨S1x64x4096, .f32⟩
  | .local _ .vmem, ⟨5, _⟩ => ⟨S1x64x4096, .f32⟩
  | .local _ .vmem, ⟨6, _⟩ => ⟨S1x64x4096, .f32⟩
  | .local _ .vmem, ⟨7, _⟩ => ⟨S1x64x4096, .f32⟩
  | .local _ .vmem, ⟨8, _⟩ => ⟨S1x64x4096, .f32⟩
  | .local _ .vmem, ⟨9, _⟩ => ⟨S1x64x4096, .f32⟩
  | .local _ .vmem, ⟨10, _⟩ => ⟨S1x64x4096, .f32⟩
  | .local _ .vmem, ⟨11, _⟩ => ⟨S1x64x4096, .f32⟩
  | .local _ .vmem, ⟨12, _⟩ => ⟨S1x64x4096, .f32⟩
  | .local _ .vmem, ⟨13, _⟩ => ⟨S1x64x4096, .f32⟩
  | .local _ .vmem, ⟨14, _⟩ => ⟨S1x64x4096, .f32⟩
  | .local _ .vmem, ⟨15, _⟩ => ⟨S1x64x4096, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S4x512x4096 : Shape := ⟨3, ![4, 512, 4096]⟩
abbrev S1x512x4096 : Shape := ⟨3, ![1, 512, 4096]⟩
abbrev S_ : Shape := ⟨0, ![]⟩
abbrev S512x4096 : Shape := ⟨2, ![512, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4x512x4096, .bf16⟩
  | .hbm, ⟨1, _⟩ => ⟨S1x512x4096, .f32⟩
  | .hbm, ⟨2, _⟩ => ⟨S1x512x4096, .f32⟩
  | .hbm, ⟨3, _⟩ => ⟨S1x512x4096, .f32⟩
  | .hbm, ⟨4, _⟩ => ⟨S4x512x4096, .f32⟩
  | .hbm, ⟨5, _⟩ => ⟨S_, .f32⟩
  | .hbm, ⟨6, _⟩ => ⟨S512x4096, .f32⟩
  | .hbm, ⟨7, _⟩ => ⟨S1x512x4096, .f32⟩
  | .hbm, ⟨8, _⟩ => ⟨S_, .f32⟩
  | .hbm, ⟨9, _⟩ => ⟨S1x512x4096, .f32⟩
  | .hbm, ⟨10, _⟩ => ⟨S1x512x4096, .f32⟩
  | .hbm, ⟨11, _⟩ => ⟨S_, .f32⟩
  | .hbm, ⟨12, _⟩ => ⟨S1x512x4096, .f32⟩
  | .hbm, ⟨13, _⟩ => ⟨S1x512x4096, .f32⟩
  | .hbm, ⟨14, _⟩ => ⟨S1x512x4096, .f32⟩
  | .hbm, ⟨15, _⟩ => ⟨S_, .f32⟩
  | .hbm, ⟨16, _⟩ => ⟨S1x512x4096, .f32⟩
  | .hbm, ⟨17, _⟩ => ⟨S1x512x4096, .f32⟩
  | .hbm, ⟨18, _⟩ => ⟨S1x512x4096, .f32⟩
  | .hbm, ⟨19, _⟩ => ⟨S_, .f32⟩
  | .hbm, ⟨20, _⟩ => ⟨S1x512x4096, .f32⟩
  | .hbm, ⟨21, _⟩ => ⟨S1x512x4096, .f32⟩
  | .hbm, ⟨22, _⟩ => ⟨S1x512x4096, .f32⟩
  | .hbm, ⟨23, _⟩ => ⟨S_, .f32⟩
  | .hbm, ⟨24, _⟩ => ⟨S1x512x4096, .f32⟩
  | .hbm, ⟨25, _⟩ => ⟨S1x512x4096, .f32⟩
  | .hbm, ⟨26, _⟩ => ⟨S_, .f32⟩
  | .hbm, ⟨27, _⟩ => ⟨S1x512x4096, .f32⟩
  | .hbm, ⟨28, _⟩ => ⟨S1x512x4096, .f32⟩
  | .hbm, ⟨29, _⟩ => ⟨S1x512x4096, .f32⟩
  | .hbm, ⟨30, _⟩ => ⟨S_, .f32⟩
  | .hbm, ⟨31, _⟩ => ⟨S1x512x4096, .f32⟩
  | .hbm, ⟨32, _⟩ => ⟨S1x512x4096, .f32⟩
  | .hbm, ⟨33, _⟩ => ⟨S1x512x4096, .f32⟩
  | .hbm, ⟨34, _⟩ => ⟨S_, .f32⟩
  | .hbm, ⟨35, _⟩ => ⟨S1x512x4096, .f32⟩
  | .hbm, ⟨36, _⟩ => ⟨S1x512x4096, .f32⟩
  | .hbm, ⟨37, _⟩ => ⟨S1x512x4096, .f32⟩
  | .hbm, ⟨38, _⟩ => ⟨S_, .f32⟩
  | .hbm, ⟨39, _⟩ => ⟨S1x512x4096, .f32⟩
  | .hbm, ⟨40, _⟩ => ⟨S1x512x4096, .f32⟩
  | _, _ => ⟨S4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamConvA.lean ====
abbrev S4x31x256 : Shape := ⟨3, ![4, 31, 256]⟩
abbrev S1x31x256 : Shape := ⟨3, ![1, 31, 256]⟩
abbrev S31x256 : Shape := ⟨2, ![31, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x31x256, .f32⟩
  | .hbm, ⟨1, _⟩ => ⟨S1x31x256, .f32⟩
  | .hbm, ⟨2, _⟩ => ⟨S1x31x256, .f32⟩
  | .hbm, ⟨3, _⟩ => ⟨S1x31x256, .f32⟩
  | .hbm, ⟨4, _⟩ => ⟨S1x31x256, .f32⟩
  | .hbm, ⟨5, _⟩ => ⟨S1x31x256, .f32⟩
  | .hbm, ⟨6, _⟩ => ⟨S1x31x256, .f32⟩
  | .hbm, ⟨7, _⟩ => ⟨S1x31x256, .f32⟩
  | .local _ .vmem, ⟨0, _⟩ => ⟨S4x31x256, .f32⟩
  | .local _ .vmem, ⟨1, _⟩ => ⟨S1x31x256, .f32⟩
  | .local _ .vmem, ⟨2, _⟩ => ⟨S1x31x256, .f32⟩
  | .local _ .vmem, ⟨3, _⟩ => ⟨S1x31x256, .f32⟩
  | .local _ .vmem, ⟨4, _⟩ => ⟨S1x31x256, .f32⟩
  | .local _ .vmem, ⟨5, _⟩ => ⟨S1x31x256, .f32⟩
  | .local _ .vmem, ⟨6, _⟩ => ⟨S1x31x256, .f32⟩
  | .local _ .vmem, ⟨7, _⟩ => ⟨S1x31x256, .f32⟩
  | _, _ => ⟨S4x31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x31x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvARefIdeal.lean ====
abbrev S4x31x256 : Shape := ⟨3, ![4, 31, 256]⟩
abbrev S1x31x256 : Shape := ⟨3, ![1, 31, 256]⟩
abbrev S_ : Shape := ⟨0, ![]⟩
abbrev S31x256 : Shape := ⟨2, ![31, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x31x256, .f32⟩
  | .hbm, ⟨1, _⟩ => ⟨S1x31x256, .f32⟩
  | .hbm, ⟨2, _⟩ => ⟨S1x31x256, .f32⟩
  | .hbm, ⟨3, _⟩ => ⟨S1x31x256, .f32⟩
  | .hbm, ⟨4, _⟩ => ⟨S_, .f32⟩
  | .hbm, ⟨5, _⟩ => ⟨S31x256, .f32⟩
  | .hbm, ⟨6, _⟩ => ⟨S1x31x256, .f32⟩
  | .hbm, ⟨7, _⟩ => ⟨S_, .f32⟩
  | .hbm, ⟨8, _⟩ => ⟨S1x31x256, .f32⟩
  | .hbm, ⟨9, _⟩ => ⟨S1x31x256, .f32⟩
  | .hbm, ⟨10, _⟩ => ⟨S_, .f32⟩
  | .hbm, ⟨11, _⟩ => ⟨S1x31x256, .f32⟩
  | .hbm, ⟨12, _⟩ => ⟨S1x31x256, .f32⟩
  | .hbm, ⟨13, _⟩ => ⟨S1x31x256, .f32⟩
  | .hbm, ⟨14, _⟩ => ⟨S_, .f32⟩
  | .hbm, ⟨15, _⟩ => ⟨S1x31x256, .f32⟩
  | .hbm, ⟨16, _⟩ => ⟨S1x31x256, .f32⟩
  | .hbm, ⟨17, _⟩ => ⟨S1x31x256, .f32⟩
  | .hbm, ⟨18, _⟩ => ⟨S_, .f32⟩
  | .hbm, ⟨19, _⟩ => ⟨S1x31x256, .f32⟩
  | .hbm, ⟨20, _⟩ => ⟨S1x31x256, .f32⟩
  | .hbm, ⟨21, _⟩ => ⟨S1x31x256, .f32⟩
  | .hbm, ⟨22, _⟩ => ⟨S_, .f32⟩
  | .hbm, ⟨23, _⟩ => ⟨S1x31x256, .f32⟩
  | .hbm, ⟨24, _⟩ => ⟨S1x31x256, .f32⟩
  | .hbm, ⟨25, _⟩ => ⟨S_, .f32⟩
  | .hbm, ⟨26, _⟩ => ⟨S1x31x256, .f32⟩
  | .hbm, ⟨27, _⟩ => ⟨S1x31x256, .f32⟩
  | .hbm, ⟨28, _⟩ => ⟨S1x31x256, .f32⟩
  | .hbm, ⟨29, _⟩ => ⟨S_, .f32⟩
  | .hbm, ⟨30, _⟩ => ⟨S1x31x256, .f32⟩
  | .hbm, ⟨31, _⟩ => ⟨S1x31x256, .f32⟩
  | .hbm, ⟨32, _⟩ => ⟨S1x31x256, .f32⟩
  | .hbm, ⟨33, _⟩ => ⟨S_, .f32⟩
  | .hbm, ⟨34, _⟩ => ⟨S1x31x256, .f32⟩
  | .hbm, ⟨35, _⟩ => ⟨S1x31x256, .f32⟩
  | .hbm, ⟨36, _⟩ => ⟨S1x31x256, .f32⟩
  | .hbm, ⟨37, _⟩ => ⟨S_, .f32⟩
  | .hbm, ⟨38, _⟩ => ⟨S1x31x256, .f32⟩
  | .hbm, ⟨39, _⟩ => ⟨S1x31x256, .f32⟩
  | _, _ => ⟨S4x31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConvB.lean ====
abbrev S4x3x256 : Shape := ⟨3, ![4, 3, 256]⟩
abbrev S1x3x256 : Shape := ⟨3, ![1, 3, 256]⟩
abbrev S3x256 : Shape := ⟨2, ![3, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x3x256, .f32⟩
  | .hbm, ⟨1, _⟩ => ⟨S1x3x256, .f32⟩
  | .hbm, ⟨2, _⟩ => ⟨S1x3x256, .f32⟩
  | .hbm, ⟨3, _⟩ => ⟨S1x3x256, .f32⟩
  | .hbm, ⟨4, _⟩ => ⟨S1x3x256, .f32⟩
  | .hbm, ⟨5, _⟩ => ⟨S1x3x256, .f32⟩
  | .hbm, ⟨6, _⟩ => ⟨S1x3x256, .f32⟩
  | .hbm, ⟨7, _⟩ => ⟨S1x3x256, .f32⟩
  | .local _ .vmem, ⟨0, _⟩ => ⟨S4x3x256, .f32⟩
  | .local _ .vmem, ⟨1, _⟩ => ⟨S1x3x256, .f32⟩
  | .local _ .vmem, ⟨2, _⟩ => ⟨S1x3x256, .f32⟩
  | .local _ .vmem, ⟨3, _⟩ => ⟨S1x3x256, .f32⟩
  | .local _ .vmem, ⟨4, _⟩ => ⟨S1x3x256, .f32⟩
  | .local _ .vmem, ⟨5, _⟩ => ⟨S1x3x256, .f32⟩
  | .local _ .vmem, ⟨6, _⟩ => ⟨S1x3x256, .f32⟩
  | .local _ .vmem, ⟨7, _⟩ => ⟨S1x3x256, .f32⟩
  | _, _ => ⟨S4x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvBRefIdeal.lean ====
abbrev S4x3x256 : Shape := ⟨3, ![4, 3, 256]⟩
abbrev S1x3x256 : Shape := ⟨3, ![1, 3, 256]⟩
abbrev S_ : Shape := ⟨0, ![]⟩
abbrev S3x256 : Shape := ⟨2, ![3, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x3x256, .f32⟩
  | .hbm, ⟨1, _⟩ => ⟨S1x3x256, .f32⟩
  | .hbm, ⟨2, _⟩ => ⟨S1x3x256, .f32⟩
  | .hbm, ⟨3, _⟩ => ⟨S1x3x256, .f32⟩
  | .hbm, ⟨4, _⟩ => ⟨S_, .f32⟩
  | .hbm, ⟨5, _⟩ => ⟨S3x256, .f32⟩
  | .hbm, ⟨6, _⟩ => ⟨S1x3x256, .f32⟩
  | .hbm, ⟨7, _⟩ => ⟨S_, .f32⟩
  | .hbm, ⟨8, _⟩ => ⟨S1x3x256, .f32⟩
  | .hbm, ⟨9, _⟩ => ⟨S1x3x256, .f32⟩
  | .hbm, ⟨10, _⟩ => ⟨S_, .f32⟩
  | .hbm, ⟨11, _⟩ => ⟨S1x3x256, .f32⟩
  | .hbm, ⟨12, _⟩ => ⟨S1x3x256, .f32⟩
  | .hbm, ⟨13, _⟩ => ⟨S1x3x256, .f32⟩
  | .hbm, ⟨14, _⟩ => ⟨S_, .f32⟩
  | .hbm, ⟨15, _⟩ => ⟨S1x3x256, .f32⟩
  | .hbm, ⟨16, _⟩ => ⟨S1x3x256, .f32⟩
  | .hbm, ⟨17, _⟩ => ⟨S1x3x256, .f32⟩
  | .hbm, ⟨18, _⟩ => ⟨S_, .f32⟩
  | .hbm, ⟨19, _⟩ => ⟨S1x3x256, .f32⟩
  | .hbm, ⟨20, _⟩ => ⟨S1x3x256, .f32⟩
  | .hbm, ⟨21, _⟩ => ⟨S1x3x256, .f32⟩
  | .hbm, ⟨22, _⟩ => ⟨S_, .f32⟩
  | .hbm, ⟨23, _⟩ => ⟨S1x3x256, .f32⟩
  | .hbm, ⟨24, _⟩ => ⟨S1x3x256, .f32⟩
  | .hbm, ⟨25, _⟩ => ⟨S_, .f32⟩
  | .hbm, ⟨26, _⟩ => ⟨S1x3x256, .f32⟩
  | .hbm, ⟨27, _⟩ => ⟨S1x3x256, .f32⟩
  | .hbm, ⟨28, _⟩ => ⟨S1x3x256, .f32⟩
  | .hbm, ⟨29, _⟩ => ⟨S_, .f32⟩
  | .hbm, ⟨30, _⟩ => ⟨S1x3x256, .f32⟩
  | .hbm, ⟨31, _⟩ => ⟨S1x3x256, .f32⟩
  | .hbm, ⟨32, _⟩ => ⟨S1x3x256, .f32⟩
  | .hbm, ⟨33, _⟩ => ⟨S_, .f32⟩
  | .hbm, ⟨34, _⟩ => ⟨S1x3x256, .f32⟩
  | .hbm, ⟨35, _⟩ => ⟨S1x3x256, .f32⟩
  | .hbm, ⟨36, _⟩ => ⟨S1x3x256, .f32⟩
  | .hbm, ⟨37, _⟩ => ⟨S_, .f32⟩
  | .hbm, ⟨38, _⟩ => ⟨S1x3x256, .f32⟩
  | .hbm, ⟨39, _⟩ => ⟨S1x3x256, .f32⟩
  | _, _ => ⟨S4x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamConvF.lean ====
abbrev S4x3x1376 : Shape := ⟨3, ![4, 3, 1376]⟩
abbrev S1x3x1376 : Shape := ⟨3, ![1, 3, 1376]⟩
abbrev S3x1376 : Shape := ⟨2, ![3, 1376]⟩

abbrev nBuf : Space → Nat
  | .hbm => 8
  | .vmem => 8
  | .smem => 0
  | _ => 0

abbrev bufTy : (tb : Table) → Fin (tcTables nBuf tb) → BufTy
  | .hbm, ⟨0, _⟩ => ⟨S4x3x1376, .f32⟩
  | .hbm, ⟨1, _⟩ => ⟨S1x3x1376, .f32⟩
  | .hbm, ⟨2, _⟩ => ⟨S1x3x1376, .f32⟩
  | .hbm, ⟨3, _⟩ => ⟨S1x3x1376, .f32⟩
  | .hbm, ⟨4, _⟩ => ⟨S1x3x1376, .f32⟩
  | .hbm, ⟨5, _⟩ => ⟨S1x3x1376, .f32⟩
  | .hbm, ⟨6, _⟩ => ⟨S1x3x1376, .f32⟩
  | .hbm, ⟨7, _⟩ => ⟨S1x3x1376, .f32⟩
  | .local _ .vmem, ⟨0, _⟩ => ⟨S4x3x1376, .f32⟩
  | .local _ .vmem, ⟨1, _⟩ => ⟨S1x3x1376, .f32⟩
  | .local _ .vmem, ⟨2, _⟩ => ⟨S1x3x1376, .f32⟩
  | .local _ .vmem, ⟨3, _⟩ => ⟨S1x3x1376, .f32⟩
  | .local _ .vmem, ⟨4, _⟩ => ⟨S1x3x1376, .f32⟩
  | .local _ .vmem, ⟨5, _⟩ => ⟨S1x3x1376, .f32⟩
  | .local _ .vmem, ⟨6, _⟩ => ⟨S1x3x1376, .f32⟩
  | .local _ .vmem, ⟨7, _⟩ => ⟨S1x3x1376, .f32⟩
  | _, _ => ⟨S4x3x1376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x3x1376 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x3x1376 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3x1376 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3x1376 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x3x1376 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x3x1376 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x3x1376 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x3x1376 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvFRefIdeal.lean ====
abbrev S4x3x1376 : Shape := ⟨3, ![4, 3, 1376]⟩
abbrev S1x3x1376 : Shape := ⟨3, ![1, 3, 1376]⟩
abbrev S_ : Shape := ⟨0, ![]⟩
abbrev S3x1376 : Shape := ⟨2, ![3, 1376]⟩

abbrev nBuf : Space → Nat
  | .hbm => 40
  | .vmem => 0
  | .smem => 0
  | _ => 0

abbrev bufTy : (tb : Table) → Fin (tcTables nBuf tb) → BufTy
  | .hbm, ⟨0, _⟩ => ⟨S4x3x1376, .f32⟩
  | .hbm, ⟨1, _⟩ => ⟨S1x3x1376, .f32⟩
  | .hbm, ⟨2, _⟩ => ⟨S1x3x1376, .f32⟩
  | .hbm, ⟨3, _⟩ => ⟨S1x3x1376, .f32⟩
  | .hbm, ⟨4, _⟩ => ⟨S_, .f32⟩
  | .hbm, ⟨5, _⟩ => ⟨S3x1376, .f32⟩
  | .hbm, ⟨6, _⟩ => ⟨S1x3x1376, .f32⟩
  | .hbm, ⟨7, _⟩ => ⟨S_, .f32⟩
  | .hbm, ⟨8, _⟩ => ⟨S1x3x1376, .f32⟩
  | .hbm, ⟨9, _⟩ => ⟨S1x3x1376, .f32⟩
  | .hbm, ⟨10, _⟩ => ⟨S_, .f32⟩
  | .hbm, ⟨11, _⟩ => ⟨S1x3x1376, .f32⟩
  | .hbm, ⟨12, _⟩ => ⟨S1x3x1376, .f32⟩
  | .hbm, ⟨13, _⟩ => ⟨S1x3x1376, .f32⟩
  | .hbm, ⟨14, _⟩ => ⟨S_, .f32⟩
  | .hbm, ⟨15, _⟩ => ⟨S1x3x1376, .f32⟩
  | .hbm, ⟨16, _⟩ => ⟨S1x3x1376, .f32⟩
  | .hbm, ⟨17, _⟩ => ⟨S1x3x1376, .f32⟩
  | .hbm, ⟨18, _⟩ => ⟨S_, .f32⟩
  | .hbm, ⟨19, _⟩ => ⟨S1x3x1376, .f32⟩
  | .hbm, ⟨20, _⟩ => ⟨S1x3x1376, .f32⟩
  | .hbm, ⟨21, _⟩ => ⟨S1x3x1376, .f32⟩
  | .hbm, ⟨22, _⟩ => ⟨S_, .f32⟩
  | .hbm, ⟨23, _⟩ => ⟨S1x3x1376, .f32⟩
  | .hbm, ⟨24, _⟩ => ⟨S1x3x1376, .f32⟩
  | .hbm, ⟨25, _⟩ => ⟨S_, .f32⟩
  | .hbm, ⟨26, _⟩ => ⟨S1x3x1376, .f32⟩
  | .hbm, ⟨27, _⟩ => ⟨S1x3x1376, .f32⟩
  | .hbm, ⟨28, _⟩ => ⟨S1x3x1376, .f32⟩
  | .hbm, ⟨29, _⟩ => ⟨S_, .f32⟩
  | .hbm, ⟨30, _⟩ => ⟨S1x3x1376, .f32⟩
  | .hbm, ⟨31, _⟩ => ⟨S1x3x1376, .f32⟩
  | .hbm, ⟨32, _⟩ => ⟨S1x3x1376, .f32⟩
  | .hbm, ⟨33, _⟩ => ⟨S_, .f32⟩
  | .hbm, ⟨34, _⟩ => ⟨S1x3x1376, .f32⟩
  | .hbm, ⟨35, _⟩ => ⟨S1x3x1376, .f32⟩
  | .hbm, ⟨36, _⟩ => ⟨S1x3x1376, .f32⟩
  | .hbm, ⟨37, _⟩ => ⟨S_, .f32⟩
  | .hbm, ⟨38, _⟩ => ⟨S1x3x1376, .f32⟩
  | .hbm, ⟨39, _⟩ => ⟨S1x3x1376, .f32⟩
  | _, _ => ⟨S4x3x1376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== MixFwd.lean ====
abbrev S4096x10240 : Shape := ⟨2, ![4096, 10240]⟩
abbrev S31x2048 : Shape := ⟨2, ![31, 2048]⟩
abbrev S1x2048 : Shape := ⟨2, ![1, 2048]⟩
abbrev S3x2048 : Shape := ⟨2, ![3, 2048]⟩
abbrev S2x4096x2048 : Shape := ⟨3, ![2, 4096, 2048]⟩
abbrev S4096x2048 : Shape := ⟨2, ![4096, 2048]⟩
abbrev S512x256 : Shape := ⟨2, ![512, 256]⟩
abbrev S32x256 : Shape := ⟨2, ![32, 256]⟩
abbrev S31x256 : Shape := ⟨2, ![31, 256]⟩
abbrev S1x256 : Shape := ⟨2, ![1, 256]⟩
abbrev S3x256 : Shape := ⟨2, ![3, 256]⟩
abbrev S2x512x256 : Shape := ⟨3, ![2, 512, 256]⟩
abbrev S544x256 : Shape := ⟨2, ![544, 256]⟩
abbrev S64x128 : Shape := ⟨2, ![64, 128]⟩
abbrev S96x128 : Shape := ⟨2, ![96, 128]⟩
abbrev S1x128 : Shape := ⟨2, ![1, 128]⟩
abbrev S64 : Shape := ⟨1, ![64]⟩
abbrev S64x1 : Shape := ⟨2, ![64, 1]⟩
abbrev S1x64x128 : Shape := ⟨3, ![1, 64, 128]⟩
abbrev S72x128 : Shape := ⟨2, ![72, 128]⟩

abbrev nBuf : Space → Nat
  | .hbm => 8
  | .vmem => 34
  | .smem => 0
  | _ => 0

abbrev bufTy : (tb : Table) → Fin (tcTables nBuf tb) → BufTy
  | .hbm, ⟨0, _⟩ => ⟨S4096x10240, .bf16⟩
  | .hbm, ⟨1, _⟩ => ⟨S31x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S3x2048, .f32⟩
  | .hbm, ⟨6, _⟩ => ⟨S2x4096x2048, .bf16⟩
  | .hbm, ⟨7, _⟩ => ⟨S4096x2048, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S32x256, .bf16⟩
  | .local _ .vmem, ⟨11, _⟩ => ⟨S32x256, .bf16⟩
  | .local _ .vmem, ⟨12, _⟩ => ⟨S32x256, .bf16⟩
  | .local _ .vmem, ⟨13, _⟩ => ⟨S32x256, .bf16⟩
  | .local _ .vmem, ⟨14, _⟩ => ⟨S32x256, .bf16⟩
  | .local _ .vmem, ⟨15, _⟩ => ⟨S32x256, .bf16⟩
  | .local _ .vmem, ⟨16, _⟩ => ⟨S32x256, .bf16⟩
  | .local _ .vmem, ⟨17, _⟩ => ⟨S32x256, .bf16⟩
  | .local _ .vmem, ⟨18, _⟩ => ⟨S31x256, .f32⟩
  | .local _ .vmem, ⟨19, _⟩ => ⟨S31x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S3x256, .f32⟩
  | .local _ .vmem, ⟨27, _⟩ => ⟨S3x256, .f32⟩
  | .local _ .vmem, ⟨28, _⟩ => ⟨S2x512x256, .bf16⟩
  | .local _ .vmem, ⟨29, _⟩ => ⟨S2x512x256, .bf16⟩
  | .local _ .vmem, ⟨30, _⟩ => ⟨S512x256, .f32⟩
  | .local _ .vmem, ⟨31, _⟩ => ⟨S512x256, .f32⟩
  | .local _ .vmem, ⟨32, _⟩ => ⟨S544x256, .f32⟩
  | .local _ .vmem, ⟨33, _⟩ => ⟨S544x256, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg1
  let c0_i32_1 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let v3 : BitVec 32 := Scalar.addi c24_i32 arg1
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let v3 : BitVec 32 := Scalar.addi c32_i32 arg1
  let c0_i32_0 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S31x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S3x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S2x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MixFwdRefIdeal.lean ====
abbrev S4096x10240 : Shape := ⟨2, ![4096, 10240]⟩
abbrev S31x2048 : Shape := ⟨2, ![31, 2048]⟩
abbrev S1x2048 : Shape := ⟨2, ![1, 2048]⟩
abbrev S3x2048 : Shape := ⟨2, ![3, 2048]⟩
abbrev S4096x2048 : Shape := ⟨2, ![4096, 2048]⟩
abbrev S_ : Shape := ⟨0, ![]⟩
abbrev S30x2048 : Shape := ⟨2, ![30, 2048]⟩
abbrev S4126x2048 : Shape := ⟨2, ![4126, 2048]⟩
abbrev S2048 : Shape := ⟨1, ![2048]⟩
abbrev S4096x16x128 : Shape := ⟨3, ![4096, 16, 128]⟩
abbrev S4096x16 : Shape := ⟨2, ![4096, 16]⟩
abbrev S4096x16x1 : Shape := ⟨3, ![4096, 16, 1]⟩
abbrev S2x2048 : Shape := ⟨2, ![2, 2048]⟩
abbrev S4098x2048 : Shape := ⟨2, ![4098, 2048]⟩
abbrev S1x4096x2048 : Shape := ⟨3, ![1, 4096, 2048]⟩
abbrev S2x4096x2048 : Shape := ⟨3, ![2, 4096, 2048]⟩

abbrev nBuf : Space → Nat
  | .hbm => 307
  | .vmem => 0
  | .smem => 0
  | _ => 0

abbrev hbmTy0_0 (i : Nat) : BufTy := match i % 128 with
  | 0 => ⟨S4096x10240, .bf16⟩
  | 1 => ⟨S31x2048, .f32⟩
  | 2 => ⟨S1x2048, .f32⟩
  | 3 => ⟨S1x2048, .f32⟩
  | 4 => ⟨S1x2048, .f32⟩
  | 5 => ⟨S3x2048, .f32⟩
  | 6 => ⟨S4096x10240, .f32⟩
  | 7 => ⟨S4096x2048, .f32⟩
  | 8 => ⟨S4096x2048, .f32⟩
  | 9 => ⟨S4096x2048, .f32⟩
  | 10 => ⟨S4096x2048, .f32⟩
  | 11 => ⟨S4096x2048, .f32⟩
  | 12 => ⟨S4096x2048, .f32⟩
  | 13 => ⟨S4096x2048, .f32⟩
  | 14 => ⟨S_, .f32⟩
  | 15 => ⟨S4096x2048, .f32⟩
  | 16 => ⟨S4096x2048, .f32⟩
  | 17 => ⟨S_, .f32⟩
  | 18 => ⟨S4096x2048, .f32⟩
  | 19 => ⟨S4096x2048, .f32⟩
  | 20 => ⟨S4096x2048, .f32⟩
  | 21 => ⟨S_, .f32⟩
  | 22 => ⟨S30x2048, .f32⟩
  | 23 => ⟨S4126x2048, .f32⟩
  | 24 => ⟨S4096x2048, .f32⟩
  | 25 => ⟨S1x2048, .f32⟩
  | 26 => ⟨S2048, .f32⟩
  | 27 => ⟨S1x2048, .f32⟩
  | 28 => ⟨S4096x2048, .f32⟩
  | 29 => ⟨S4096x2048, .f32⟩
  | 30 => ⟨S4096x2048, .f32⟩
  | 31 => ⟨S1x2048, .f32⟩
  | 32 => ⟨S2048, .f32⟩
  | 33 => ⟨S1x2048, .f32⟩
  | 34 => ⟨S4096x2048, .f32⟩
  | 35 => ⟨S4096x2048, .f32⟩
  | 36 => ⟨S4096x2048, .f32⟩
  | 37 => ⟨S4096x2048, .f32⟩
  | 38 => ⟨S1x2048, .f32⟩
  | 39 => ⟨S2048, .f32⟩
  | 40 => ⟨S1x2048, .f32⟩
  | 41 => ⟨S4096x2048, .f32⟩
  | 42 => ⟨S4096x2048, .f32⟩
  | 43 => ⟨S4096x2048, .f32⟩
  | 44 => ⟨S4096x2048, .f32⟩
  | 45 => ⟨S1x2048, .f32⟩
  | 46 => ⟨S2048, .f32⟩
  | 47 => ⟨S1x2048, .f32⟩
  | 48 => ⟨S4096x2048, .f32⟩
  | 49 => ⟨S4096x2048, .f32⟩
  | 50 => ⟨S4096x2048, .f32⟩
  | 51 => ⟨S4096x2048, .f32⟩
  | 52 => ⟨S1x2048, .f32⟩
  | 53 => ⟨S2048, .f32⟩
  | 54 => ⟨S1x2048, .f32⟩
  | 55 => ⟨S4096x2048, .f32⟩
  | 56 => ⟨S4096x2048, .f32⟩
  | 57 => ⟨S4096x2048, .f32⟩
  | 58 => ⟨S4096x2048, .f32⟩
  | 59 => ⟨S1x2048, .f32⟩
  | 60 => ⟨S2048, .f32⟩
  | 61 => ⟨S1x2048, .f32⟩
  | 62 => ⟨S4096x2048, .f32⟩
  | 63 => ⟨S4096x2048, .f32⟩
  | 64 => ⟨S4096x2048, .f32⟩
  | 65 => ⟨S4096x2048, .f32⟩
  | 66 => ⟨S1x2048, .f32⟩
  | 67 => ⟨S2048, .f32⟩
  | 68 => ⟨S1x2048, .f32⟩
  | 69 => ⟨S4096x2048, .f32⟩
  | 70 => ⟨S4096x2048, .f32⟩
  | 71 => ⟨S4096x2048, .f32⟩
  | 72 => ⟨S4096x2048, .f32⟩
  | 73 => ⟨S1x2048, .f32⟩
  | 74 => ⟨S2048, .f32⟩
  | 75 => ⟨S1x2048, .f32⟩
  | 76 => ⟨S4096x2048, .f32⟩
  | 77 => ⟨S4096x2048, .f32⟩
  | 78 => ⟨S4096x2048, .f32⟩
  | 79 => ⟨S4096x2048, .f32⟩
  | 80 => ⟨S1x2048, .f32⟩
  | 81 => ⟨S2048, .f32⟩
  | 82 => ⟨S1x2048, .f32⟩
  | 83 => ⟨S4096x2048, .f32⟩
  | 84 => ⟨S4096x2048, .f32⟩
  | 85 => ⟨S4096x2048, .f32⟩
  | 86 => ⟨S4096x2048, .f32⟩
  | 87 => ⟨S1x2048, .f32⟩
  | 88 => ⟨S2048, .f32⟩
  | 89 => ⟨S1x2048, .f32⟩
  | 90 => ⟨S4096x2048, .f32⟩
  | 91 => ⟨S4096x2048, .f32⟩
  | 92 => ⟨S4096x2048, .f32⟩
  | 93 => ⟨S4096x2048, .f32⟩
  | 94 => ⟨S1x2048, .f32⟩
  | 95 => ⟨S2048, .f32⟩
  | 96 => ⟨S1x2048, .f32⟩
  | 97 => ⟨S4096x2048, .f32⟩
  | 98 => ⟨S4096x2048, .f32⟩
  | 99 => ⟨S4096x2048, .f32⟩
  | 100 => ⟨S4096x2048, .f32⟩
  | 101 => ⟨S1x2048, .f32⟩
  | 102 => ⟨S2048, .f32⟩
  | 103 => ⟨S1x2048, .f32⟩
  | 104 => ⟨S4096x2048, .f32⟩
  | 105 => ⟨S4096x2048, .f32⟩
  | 106 => ⟨S4096x2048, .f32⟩
  | 107 => ⟨S4096x2048, .f32⟩
  | 108 => ⟨S1x2048, .f32⟩
  | 109 => ⟨S2048, .f32⟩
  | 110 => ⟨S1x2048, .f32⟩
  | 111 => ⟨S4096x2048, .f32⟩
  | 112 => ⟨S4096x2048, .f32⟩
  | 113 => ⟨S4096x2048, .f32⟩
  | 114 => ⟨S4096x2048, .f32⟩
  | 115 => ⟨S1x2048, .f32⟩
  | 116 => ⟨S2048, .f32⟩
  | 117 => ⟨S1x2048, .f32⟩
  | 118 => ⟨S4096x2048, .f32⟩
  | 119 => ⟨S4096x2048, .f32⟩
  | 120 => ⟨S4096x2048, .f32⟩
  | 121 => ⟨S4096x2048, .f32⟩
  | 122 => ⟨S1x2048, .f32⟩
  | 123 => ⟨S2048, .f32⟩
  | 124 => ⟨S1x2048, .f32⟩
  | 125 => ⟨S4096x2048, .f32⟩
  | 126 => ⟨S4096x2048, .f32⟩
  | 127 => ⟨S4096x2048, .f32⟩
  | _ => ⟨S4096x10240, .bf16⟩

abbrev hbmTy0_1 (i : Nat) : BufTy := match i % 128 with
  | 0 => ⟨S4096x2048, .f32⟩
  | 1 => ⟨S1x2048, .f32⟩
  | 2 => ⟨S2048, .f32⟩
  | 3 => ⟨S1x2048, .f32⟩
  | 4 => ⟨S4096x2048, .f32⟩
  | 5 => ⟨S4096x2048, .f32⟩
  | 6 => ⟨S4096x2048, .f32⟩
  | 7 => ⟨S4096x2048, .f32⟩
  | 8 => ⟨S1x2048, .f32⟩
  | 9 => ⟨S2048, .f32⟩
  | 10 => ⟨S1x2048, .f32⟩
  | 11 => ⟨S4096x2048, .f32⟩
  | 12 => ⟨S4096x2048, .f32⟩
  | 13 => ⟨S4096x2048, .f32⟩
  | 14 => ⟨S4096x2048, .f32⟩
  | 15 => ⟨S1x2048, .f32⟩
  | 16 => ⟨S2048, .f32⟩
  | 17 => ⟨S1x2048, .f32⟩
  | 18 => ⟨S4096x2048, .f32⟩
  | 19 => ⟨S4096x2048, .f32⟩
  | 20 => ⟨S4096x2048, .f32⟩
  | 21 => ⟨S4096x2048, .f32⟩
  | 22 => ⟨S1x2048, .f32⟩
  | 23 => ⟨S2048, .f32⟩
  | 24 => ⟨S1x2048, .f32⟩
  | 25 => ⟨S4096x2048, .f32⟩
  | 26 => ⟨S4096x2048, .f32⟩
  | 27 => ⟨S4096x2048, .f32⟩
  | 28 => ⟨S4096x2048, .f32⟩
  | 29 => ⟨S1x2048, .f32⟩
  | 30 => ⟨S2048, .f32⟩
  | 31 => ⟨S1x2048, .f32⟩
  | 32 => ⟨S4096x2048, .f32⟩
  | 33 => ⟨S4096x2048, .f32⟩
  | 34 => ⟨S4096x2048, .f32⟩
  | 35 => ⟨S4096x2048, .f32⟩
  | 36 => ⟨S1x2048, .f32⟩
  | 37 => ⟨S2048, .f32⟩
  | 38 => ⟨S1x2048, .f32⟩
  | 39 => ⟨S4096x2048, .f32⟩
  | 40 => ⟨S4096x2048, .f32⟩
  | 41 => ⟨S4096x2048, .f32⟩
  | 42 => ⟨S4096x2048, .f32⟩
  | 43 => ⟨S1x2048, .f32⟩
  | 44 => ⟨S2048, .f32⟩
  | 45 => ⟨S1x2048, .f32⟩
  | 46 => ⟨S4096x2048, .f32⟩
  | 47 => ⟨S4096x2048, .f32⟩
  | 48 => ⟨S4096x2048, .f32⟩
  | 49 => ⟨S4096x2048, .f32⟩
  | 50 => ⟨S1x2048, .f32⟩
  | 51 => ⟨S2048, .f32⟩
  | 52 => ⟨S1x2048, .f32⟩
  | 53 => ⟨S4096x2048, .f32⟩
  | 54 => ⟨S4096x2048, .f32⟩
  | 55 => ⟨S4096x2048, .f32⟩
  | 56 => ⟨S4096x2048, .f32⟩
  | 57 => ⟨S1x2048, .f32⟩
  | 58 => ⟨S2048, .f32⟩
  | 59 => ⟨S1x2048, .f32⟩
  | 60 => ⟨S4096x2048, .f32⟩
  | 61 => ⟨S4096x2048, .f32⟩
  | 62 => ⟨S4096x2048, .f32⟩
  | 63 => ⟨S4096x2048, .f32⟩
  | 64 => ⟨S1x2048, .f32⟩
  | 65 => ⟨S2048, .f32⟩
  | 66 => ⟨S1x2048, .f32⟩
  | 67 => ⟨S4096x2048, .f32⟩
  | 68 => ⟨S4096x2048, .f32⟩
  | 69 => ⟨S4096x2048, .f32⟩
  | 70 => ⟨S4096x2048, .f32⟩
  | 71 => ⟨S1x2048, .f32⟩
  | 72 => ⟨S2048, .f32⟩
  | 73 => ⟨S1x2048, .f32⟩
  | 74 => ⟨S4096x2048, .f32⟩
  | 75 => ⟨S4096x2048, .f32⟩
  | 76 => ⟨S4096x2048, .f32⟩
  | 77 => ⟨S4096x2048, .f32⟩
  | 78 => ⟨S1x2048, .f32⟩
  | 79 => ⟨S2048, .f32⟩
  | 80 => ⟨S1x2048, .f32⟩
  | 81 => ⟨S4096x2048, .f32⟩
  | 82 => ⟨S4096x2048, .f32⟩
  | 83 => ⟨S4096x2048, .f32⟩
  | 84 => ⟨S4096x2048, .f32⟩
  | 85 => ⟨S1x2048, .f32⟩
  | 86 => ⟨S2048, .f32⟩
  | 87 => ⟨S1x2048, .f32⟩
  | 88 => ⟨S4096x2048, .f32⟩
  | 89 => ⟨S4096x2048, .f32⟩
  | 90 => ⟨S4096x2048, .f32⟩
  | 91 => ⟨S4096x2048, .f32⟩
  | 92 => ⟨S1x2048, .f32⟩
  | 93 => ⟨S2048, .f32⟩
  | 94 => ⟨S1x2048, .f32⟩
  | 95 => ⟨S4096x2048, .f32⟩
  | 96 => ⟨S4096x2048, .f32⟩
  | 97 => ⟨S4096x2048, .f32⟩
  | 98 => ⟨S4096x2048, .f32⟩
  | 99 => ⟨S1x2048, .f32⟩
  | 100 => ⟨S2048, .f32⟩
  | 101 => ⟨S1x2048, .f32⟩
  | 102 => ⟨S4096x2048, .f32⟩
  | 103 => ⟨S4096x2048, .f32⟩
  | 104 => ⟨S4096x2048, .f32⟩
  | 105 => ⟨S4096x2048, .f32⟩
  | 106 => ⟨S1x2048, .f32⟩
  | 107 => ⟨S2048, .f32⟩
  | 108 => ⟨S1x2048, .f32⟩
  | 109 => ⟨S4096x2048, .f32⟩
  | 110 => ⟨S4096x2048, .f32⟩
  | 111 => ⟨S4096x2048, .f32⟩
  | 112 => ⟨S4096x2048, .f32⟩
  | 113 => ⟨S4096x2048, .f32⟩
  | 114 => ⟨S4096x16x128, .f32⟩
  | 115 => ⟨S_, .f32⟩
  | 116 => ⟨S4096x16, .f32⟩
  | 117 => ⟨S4096x16x1, .f32⟩
  | 118 => ⟨S_, .f32⟩
  | 119 => ⟨S4096x16x1, .f32⟩
  | 120 => ⟨S4096x16x1, .f32⟩
  | 121 => ⟨S4096x16x128, .f32⟩
  | 122 => ⟨S4096x16x128, .f32⟩
  | 123 => ⟨S4096x16x128, .f32⟩
  | 124 => ⟨S_, .f32⟩
  | 125 => ⟨S4096x16, .f32⟩
  | 126 => ⟨S4096x16x1, .f32⟩
  | 127 => ⟨S_, .f32⟩
  | _ => ⟨S4096x10240, .bf16⟩

abbrev hbmTy0_2 (i : Nat) : BufTy := match i % 128 with
  | 0 => ⟨S4096x16x1, .f32⟩
  | 1 => ⟨S4096x16x1, .f32⟩
  | 2 => ⟨S_, .f32⟩
  | 3 => ⟨S4096x16x1, .f32⟩
  | 4 => ⟨S4096x16x1, .f32⟩
  | 5 => ⟨S4096x16x1, .f32⟩
  | 6 => ⟨S4096x16x128, .f32⟩
  | 7 => ⟨S4096x16x128, .f32⟩
  | 8 => ⟨S4096x2048, .f32⟩
  | 9 => ⟨S4096x2048, .f32⟩
  | 10 => ⟨S4096x2048, .f32⟩
  | 11 => ⟨S4096x2048, .f32⟩
  | 12 => ⟨S4096x2048, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S_, .f32⟩
  | 19 => ⟨S4096x2048, .f32⟩
  | 20 => ⟨S4096x2048, .f32⟩
  | 21 => ⟨S4096x2048, .f32⟩
  | 22 => ⟨S4096x2048, .f32⟩
  | 23 => ⟨S_, .f32⟩
  | 24 => ⟨S2x2048, .f32⟩
  | 25 => ⟨S4098x2048, .f32⟩
  | 26 => ⟨S4096x2048, .f32⟩
  | 27 => ⟨S1x2048, .f32⟩
  | 28 => ⟨S2048, .f32⟩
  | 29 => ⟨S1x2048, .f32⟩
  | 30 => ⟨S4096x2048, .f32⟩
  | 31 => ⟨S4096x2048, .f32⟩
  | 32 => ⟨S4096x2048, .f32⟩
  | 33 => ⟨S1x2048, .f32⟩
  | 34 => ⟨S2048, .f32⟩
  | 35 => ⟨S1x2048, .f32⟩
  | 36 => ⟨S4096x2048, .f32⟩
  | 37 => ⟨S4096x2048, .f32⟩
  | 38 => ⟨S4096x2048, .f32⟩
  | 39 => ⟨S4096x2048, .f32⟩
  | 40 => ⟨S1x2048, .f32⟩
  | 41 => ⟨S2048, .f32⟩
  | 42 => ⟨S1x2048, .f32⟩
  | 43 => ⟨S4096x2048, .f32⟩
  | 44 => ⟨S4096x2048, .f32⟩
  | 45 => ⟨S4096x2048, .f32⟩
  | 46 => ⟨S4096x2048, .f32⟩
  | 47 => ⟨S1x4096x2048, .f32⟩
  | 48 => ⟨S1x4096x2048, .f32⟩
  | 49 => ⟨S2x4096x2048, .f32⟩
  | 50 => ⟨S2x4096x2048, .bf16⟩
  | _ => ⟨S4096x10240, .bf16⟩

abbrev hbmTy (i : Nat) : BufTy := match i / 128 with
  | 0 => hbmTy0_0 i
  | 1 => hbmTy0_1 i
  | 2 => hbmTy0_2 i
  | _ => ⟨S4096x10240, .bf16⟩

abbrev bufTy : (tb : Table) → Fin (tcTables nBuf tb) → BufTy
  | .hbm, ⟨i, _⟩ => hbmTy i
  | _, _ => ⟨S4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_cst_2 : Ref sig .tc := ⟨.hbm, 243, rfl⟩
abbrev main_v234 : Ref sig .tc := ⟨.hbm, 244, rfl⟩
abbrev main_v235 : Ref sig .tc := ⟨.hbm, 245, rfl⟩
abbrev main_cst_3 : Ref sig .tc := ⟨.hbm, 246, rfl⟩
abbrev main_v236 : Ref sig .tc := ⟨.hbm, 247, rfl⟩
abbrev main_v237 : Ref sig .tc := ⟨.hbm, 248, rfl⟩
abbrev main_v238 : Ref sig .tc := ⟨.hbm, 249, rfl⟩
abbrev main_v239 : Ref sig .tc := ⟨.hbm, 250, rfl⟩
abbrev main_v240 : Ref sig .tc := ⟨.hbm, 251, rfl⟩
abbrev main_cst_4 : Ref sig .tc := ⟨.hbm, 252, rfl⟩
abbrev main_v241 : Ref sig .tc := ⟨.hbm, 253, rfl⟩
abbrev main_v242 : Ref sig .tc := ⟨.hbm, 254, rfl⟩
abbrev main_cst_5 : Ref sig .tc := ⟨.hbm, 255, rfl⟩
abbrev main_v243 : Ref sig .tc := ⟨.hbm, 256, rfl⟩
abbrev main_v244 : Ref sig .tc := ⟨.hbm, 257, rfl⟩
abbrev main_cst_6 : Ref sig .tc := ⟨.hbm, 258, rfl⟩
abbrev main_v245 : Ref sig .tc := ⟨.hbm, 259, rfl⟩
abbrev main_v246 : Ref sig .tc := ⟨.hbm, 260, rfl⟩
abbrev main_v247 : Ref sig .tc := ⟨.hbm, 261, rfl⟩
abbrev main_v248 : Ref sig .tc := ⟨.hbm, 262, rfl⟩
abbrev main_v249 : Ref sig .tc := ⟨.hbm, 263, rfl⟩
abbrev main_v250 : Ref sig .tc := ⟨.hbm, 264, rfl⟩
abbrev main_v251 : Ref sig .tc := ⟨.hbm, 265, rfl⟩
abbrev main_v252 : Ref sig .tc := ⟨.hbm, 266, rfl⟩
abbrev main_v253 : Ref sig .tc := ⟨.hbm, 267, rfl⟩
abbrev main_v254 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v255 : Ref sig .tc := ⟨.hbm, 277, rfl⟩
abbrev main_v256 : Ref sig .tc := ⟨.hbm, 278, rfl⟩
abbrev main_cst_7 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_v260 : Ref sig .tc := ⟨.hbm, 283, rfl⟩
abbrev main_v261 : Ref sig .tc := ⟨.hbm, 284, rfl⟩
abbrev main_v262 : Ref sig .tc := ⟨.hbm, 285, rfl⟩
abbrev main_v263 : Ref sig .tc := ⟨.hbm, 286, rfl⟩
abbrev main_v264 : Ref sig .tc := ⟨.hbm, 287, rfl⟩
abbrev main_v265 : Ref sig .tc := ⟨.hbm, 288, rfl⟩
abbrev main_v266 : Ref sig .tc := ⟨.hbm, 289, rfl⟩
abbrev main_v267 : Ref sig .tc := ⟨.hbm, 290, rfl⟩
abbrev main_v268 : Ref sig .tc := ⟨.hbm, 291, rfl⟩
abbrev main_v269 : Ref sig .tc := ⟨.hbm, 292, rfl⟩
abbrev main_v270 : Ref sig .tc := ⟨.hbm, 293, rfl⟩
abbrev main_v271 : Ref sig .tc := ⟨.hbm, 294, rfl⟩
abbrev main_v272 : Ref sig .tc := ⟨.hbm, 295, rfl⟩
abbrev main_v273 : Ref sig .tc := ⟨.hbm, 296, rfl⟩
abbrev main_v274 : Ref sig .tc := ⟨.hbm, 297, rfl⟩
abbrev main_v275 : Ref sig .tc := ⟨.hbm, 298, rfl⟩
abbrev main_v276 : Ref sig .tc := ⟨.hbm, 299, rfl⟩
abbrev main_v277 : Ref sig .tc := ⟨.hbm, 300, rfl⟩
abbrev main_v278 : Ref sig .tc := ⟨.hbm, 301, rfl⟩
abbrev main_v279 : Ref sig .tc := ⟨.hbm, 302, rfl⟩
abbrev main_v280 : Ref sig .tc := ⟨.hbm, 303, rfl⟩
abbrev main_v281 : Ref sig .tc := ⟨.hbm, 304, rfl⟩
abbrev main_v282 : Ref sig .tc := ⟨.hbm, 305, rfl⟩
abbrev main_v283 : Ref sig .tc := ⟨.hbm, 306, rfl⟩

abbrev nD : Nat := 1
abbrev τ : Topo := Topo.v7x

variable {F : FTy → Type} [FloatOps F]
-- ==== FfnFwd.lean ====
abbrev S4096x11008 : Shape := ⟨2, ![4096, 11008]⟩
abbrev S3x11008 : Shape := ⟨2, ![3, 11008]⟩
abbrev S4096x8x1376 : Shape := ⟨3, ![4096, 8, 1376]⟩
abbrev S8x4096x1376 : Shape := ⟨3, ![8, 4096, 1376]⟩
abbrev S3x8x1376 : Shape := ⟨3, ![3, 8, 1376]⟩
abbrev S8x3x1376 : Shape := ⟨3, ![8, 3, 1376]⟩
abbrev S1x512x1376 : Shape := ⟨3, ![1, 512, 1376]⟩
abbrev S1x32x1376 : Shape := ⟨3, ![1, 32, 1376]⟩
abbrev S1x3x1376 : Shape := ⟨3, ![1, 3, 1376]⟩
abbrev S544x1376 : Shape := ⟨2, ![544, 1376]⟩
abbrev S512x1376 : Shape := ⟨2, ![512, 1376]⟩
abbrev S32x1376 : Shape := ⟨2, ![32, 1376]⟩
abbrev S72x128 : Shape := ⟨2, ![72, 128]⟩
abbrev S64x128 : Shape := ⟨2, ![64, 128]⟩
abbrev S1x1x128 : Shape := ⟨3, ![1, 1, 128]⟩
abbrev S1x128 : Shape := ⟨2, ![1, 128]⟩
abbrev S1x64x128 : Shape := ⟨3, ![1, 64, 128]⟩
abbrev S72x96 : Shape := ⟨2, ![72, 96]⟩
abbrev S64x96 : Shape := ⟨2, ![64, 96]⟩
abbrev S1x1x96 : Shape := ⟨3, ![1, 1, 96]⟩
abbrev S1x96 : Shape := ⟨2, ![1, 96]⟩
abbrev S1x64x96 : Shape := ⟨3, ![1, 64, 96]⟩

abbrev nBuf : Space → Nat
  | .hbm => 10
  | .vmem => 11
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S3x11008, .f32⟩
  | .hbm, ⟨3, _⟩ => ⟨S4096x8x1376, .bf16⟩
  | .hbm, ⟨4, _⟩ => ⟨S8x4096x1376, .bf16⟩
  | .hbm, ⟨5, _⟩ => ⟨S4096x8x1376, .bf16⟩
  | .hbm, ⟨6, _⟩ => ⟨S8x4096x1376, .bf16⟩
  | .hbm, ⟨7, _⟩ => ⟨S3x8x1376, .f32⟩
  | .hbm, ⟨8, _⟩ => ⟨S8x3x1376, .f32⟩
  | .hbm, ⟨9, _⟩ => ⟨S8x4096x1376, .bf16⟩
  | .local _ .vmem, ⟨0, _⟩ => ⟨S1x512x1376, .bf16⟩
  | .local _ .vmem, ⟨1, _⟩ => ⟨S1x512x1376, .bf16⟩
  | .local _ .vmem, ⟨2, _⟩ => ⟨S1x32x1376, .bf16⟩
  | .local _ .vmem, ⟨3, _⟩ => ⟨S1x32x1376, .bf16⟩
  | .local _ .vmem, ⟨4, _⟩ => ⟨S1x512x1376, .bf16⟩
  | .local _ .vmem, ⟨5, _⟩ => ⟨S1x512x1376, .bf16⟩
  | .local _ .vmem, ⟨6, _⟩ => ⟨S1x3x1376, .f32⟩
  | .local _ .vmem, ⟨7, _⟩ => ⟨S1x3x1376, .f32⟩
  | .local _ .vmem, ⟨8, _⟩ => ⟨S1x512x1376, .bf16⟩
  | .local _ .vmem, ⟨9, _⟩ => ⟨S1x512x1376, .bf16⟩
  | .local _ .vmem, ⟨10, _⟩ => ⟨S544x1376, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x1376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1376 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3x1376 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1376 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnFwdRefIdeal.lean ====
abbrev S4096x11008 : Shape := ⟨2, ![4096, 11008]⟩
abbrev S3x11008 : Shape := ⟨2, ![3, 11008]⟩
abbrev S_ : Shape := ⟨0, ![]⟩
abbrev S2x11008 : Shape := ⟨2, ![2, 11008]⟩
abbrev S4098x11008 : Shape := ⟨2, ![4098, 11008]⟩
abbrev S1x11008 : Shape := ⟨2, ![1, 11008]⟩
abbrev S11008 : Shape := ⟨1, ![11008]⟩
abbrev S4096x8x1376 : Shape := ⟨3, ![4096, 8, 1376]⟩
abbrev S8x4096x1376 : Shape := ⟨3, ![8, 4096, 1376]⟩

abbrev nBuf : Space → Nat
  | .hbm => 41
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .bf16⟩
  | .hbm, ⟨2, _⟩ => ⟨S3x11008, .f32⟩
  | .hbm, ⟨3, _⟩ => ⟨S4096x11008, .f32⟩
  | .hbm, ⟨4, _⟩ => ⟨S_, .f32⟩
  | .hbm, ⟨5, _⟩ => ⟨S2x11008, .f32⟩
  | .hbm, ⟨6, _⟩ => ⟨S4098x11008, .f32⟩
  | .hbm, ⟨7, _⟩ => ⟨S4096x11008, .f32⟩
  | .hbm, ⟨8, _⟩ => ⟨S1x11008, .f32⟩
  | .hbm, ⟨9, _⟩ => ⟨S11008, .f32⟩
  | .hbm, ⟨10, _⟩ => ⟨S1x11008, .f32⟩
  | .hbm, ⟨11, _⟩ => ⟨S4096x11008, .f32⟩
  | .hbm, ⟨12, _⟩ => ⟨S4096x11008, .f32⟩
  | .hbm, ⟨13, _⟩ => ⟨S4096x11008, .f32⟩
  | .hbm, ⟨14, _⟩ => ⟨S1x11008, .f32⟩
  | .hbm, ⟨15, _⟩ => ⟨S11008, .f32⟩
  | .hbm, ⟨16, _⟩ => ⟨S1x11008, .f32⟩
  | .hbm, ⟨17, _⟩ => ⟨S4096x11008, .f32⟩
  | .hbm, ⟨18, _⟩ => ⟨S4096x11008, .f32⟩
  | .hbm, ⟨19, _⟩ => ⟨S4096x11008, .f32⟩
  | .hbm, ⟨20, _⟩ => ⟨S4096x11008, .f32⟩
  | .hbm, ⟨21, _⟩ => ⟨S1x11008, .f32⟩
  | .hbm, ⟨22, _⟩ => ⟨S11008, .f32⟩
  | .hbm, ⟨23, _⟩ => ⟨S1x11008, .f32⟩
  | .hbm, ⟨24, _⟩ => ⟨S4096x11008, .f32⟩
  | .hbm, ⟨25, _⟩ => ⟨S4096x11008, .f32⟩
  | .hbm, ⟨26, _⟩ => ⟨S4096x11008, .f32⟩
  | .hbm, ⟨27, _⟩ => ⟨S4096x11008, .f32⟩
  | .hbm, ⟨28, _⟩ => ⟨S4096x11008, .f32⟩
  | .hbm, ⟨29, _⟩ => ⟨S_, .f32⟩
  | .hbm, ⟨30, _⟩ => ⟨S4096x11008, .f32⟩
  | .hbm, ⟨31, _⟩ => ⟨S4096x11008, .f32⟩
  | .hbm, ⟨32, _⟩ => ⟨S_, .f32⟩
  | .hbm, ⟨33, _⟩ => ⟨S4096x11008, .f32⟩
  | .hbm, ⟨34, _⟩ => ⟨S4096x11008, .f32⟩
  | .hbm, ⟨35, _⟩ => ⟨S4096x11008, .f32⟩
  | .hbm, ⟨36, _⟩ => ⟨S4096x11008, .f32⟩
  | .hbm, ⟨37, _⟩ => ⟨S4096x11008, .f32⟩
  | .hbm, ⟨38, _⟩ => ⟨S4096x11008, .bf16⟩
  | .hbm, ⟨39, _⟩ => ⟨S4096x8x1376, .bf16⟩
  | .hbm, ⟨40, _⟩ => ⟨S8x4096x1376, .bf16⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.AttnMath.lean ====
/-
  The mathematics of the attention gradient, one query row and one head at a time, over the extended reals.

  A query row `q`, the key rows `k`, the value rows `v` and the row `g` of the output's cotangent are functions on the
  1024 lanes of a head. `prob` is the row's softmax, `dscore` the gradient of the scores as the kernel writes it
  (`p · (dp − Σ dp · p)`, times the scale), `dscoreQ` as the derivative of the quotient `e / Σ e` writes it
  (`(dp / Σ − Σ dp · (1 / Σ²) · e) · e`, times the scale). `dscoreQ_eq` says the two agree when the query row and the key rows
  are finite: then every exponential and their sum are positive reals, over which multiplication distributes whatever the
  cotangent and the value rows hold.
-/
module

public import Idealize.ShloMosaic.PureOps.Ideal
public import Idealize.ShloMosaic.PureOps.Ideal.Laws
public import Mathlib.Data.EReal.Operations

@[expose] public section

noncomputable section

namespace Cert.AttnMath

open Idealize.ShloMosaic

/-- The scale of the scores, 1/32: the word both programs hold. -/
def scl : EReal := Ideal.ofBits .f32 0x3D000000#32

/-- What a row's maximum starts from: the word of −∞. -/
def low : EReal := Ideal.ofBits .f32 0xFF800000#32

theorem low_eq : low = ⊥ := by simp [low, Ideal.ofBits, Ideal.ieee]

theorem scl_real : ∃ r : ℝ, scl = (r : EReal) := by
  refine ⟨1 / 32, ?_⟩
  simp [scl, Ideal.ofBits, Ideal.ieee, -EReal.coe_mul]; norm_num

/-- A row of one head. -/
abbrev Row := Fin 1024 → EReal
/-- The 256 key or value rows of one head. -/
abbrev Rows := Fin 256 → Row

variable (q g : Row) (k v : Rows)

/-- The scaled score of the row against key `m`. -/
def score (m : Fin 256) : EReal := (∑ x, q x * k m x) * scl
/-- The greatest score. -/
def top : EReal := Finset.univ.fold max low fun m => score q k m
/-- The exponential of a score below the greatest. -/
def ex (m : Fin 256) : EReal := Ideal.exp (score q k m - top q k)
/-- The sum of the exponentials. -/
def tot : EReal := ∑ m, ex q k m
/-- The softmax. -/
def prob (m : Fin 256) : EReal := Ideal.div (ex q k m) (tot q k)
/-- The cotangent of the probability of key `m`. -/
def dprob (m : Fin 256) : EReal := ∑ x, g x * v m x
/-- The gradient of the score of key `m`, as the kernel writes it. -/
def dscore (m : Fin 256) : EReal :=
  prob q k m * (dprob g v m - ∑ n, dprob g v n * prob q k n) * scl
/-- The gradient of the score of key `m`, as the derivative of the quotient writes it. -/
def dscoreQ (m : Fin 256) : EReal :=
  (Ideal.div (dprob g v m) (tot q k)
    + -(∑ n, dprob g v n * Ideal.div 1 (tot q k * tot q k) * ex q k n)) * ex q k m * scl

/-! ## Finite rows give positive reals -/

/-- Neither infinity. -/
def Fin' (x : EReal) : Prop := x ≠ ⊥ ∧ x ≠ ⊤

theorem Fin'.lift {x : EReal} (h : Fin' x) : ∃ r : ℝ, x = (r : EReal) :=
  ⟨x.toReal, (EReal.coe_toReal h.2 h.1).symm⟩

theorem Fin'.coe (r : ℝ) : Fin' (r : EReal) := ⟨EReal.coe_ne_bot r, EReal.coe_ne_top r⟩

theorem Fin'.mul {x y : EReal} (hx : Fin' x) (hy : Fin' y) : Fin' (x * y) := by
  obtain ⟨a, rfl⟩ := hx.lift; obtain ⟨b, rfl⟩ := hy.lift
  rw [← EReal.coe_mul]; exact Fin'.coe _

theorem Fin'.add {x y : EReal} (hx : Fin' x) (hy : Fin' y) : Fin' (x + y) := by
  obtain ⟨a, rfl⟩ := hx.lift; obtain ⟨b, rfl⟩ := hy.lift
  rw [← EReal.coe_add]; exact Fin'.coe _

theorem Fin'.sum {ι : Type} (s : Finset ι) (f : ι → EReal) (h : ∀ i, Fin' (f i)) : Fin' (∑ i ∈ s, f i) := by
  classical
  induction s using Finset.induction_on with
  | empty => simpa using Fin'.coe 0
  | insert a s ha ih => rw [Finset.sum_insert ha]; exact (h a).add ih

theorem score_fin (hq : ∀ x, Fin' (q x)) (hk : ∀ m x, Fin' (k m x)) (m : Fin 256) : Fin' (score q k m) := by
  obtain ⟨r, hr⟩ := scl_real
  unfold score
  exact (Fin'.sum _ _ fun x => (hq x).mul (hk m x)).mul (hr ▸ Fin'.coe r)

theorem top_fin (hq : ∀ x, Fin' (q x)) (hk : ∀ m x, Fin' (k m x)) : Fin' (top q k) := by
  constructor
  · have h : score q k 0 ≤ top q k := (Finset.le_fold_max _).mpr (Or.inr ⟨0, Finset.mem_univ _, le_rfl⟩)
    intro e
    rw [e, le_bot_iff] at h
    exact (score_fin q k hq hk 0).1 h
  · have h : top q k < ⊤ := (Finset.fold_max_lt _).mpr
      ⟨by rw [low_eq]; exact bot_lt_top, fun m _ => lt_top_iff_ne_top.mpr (score_fin q k hq hk m).2⟩
    exact h.ne

theorem ex_pos (hq : ∀ x, Fin' (q x)) (hk : ∀ m x, Fin' (k m x)) (m : Fin 256) :
    ∃ a : ℝ, 0 < a ∧ ex q k m = (a : EReal) := by
  obtain ⟨s, hs⟩ := (score_fin q k hq hk m).lift
  obtain ⟨t, ht⟩ := (top_fin q k hq hk).lift
  refine ⟨Real.exp (s - t), Real.exp_pos _, ?_⟩
  rw [ex, hs, ht, ← EReal.coe_sub, Ideal.exp_coe]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A positive real distributes over any sum. -/
theorem mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

/-- The two spellings of the softmax's gradient are one, whatever the cotangents: the kernel's and the quotient's. -/
theorem dscoreQ_eq (hq : ∀ x, Fin' (q x)) (hk : ∀ m x, Fin' (k m x)) (m : Fin 256) :
    dscoreQ q g k v m = dscore q g k v m := by
  choose a ha he using ex_pos q k hq hk
  have hT : tot q k = ((∑ n, a n : ℝ) : EReal) := by
    rw [tot, ← coe_sum]; exact Finset.sum_congr rfl fun n _ => he n
  have hpos : 0 < ∑ n, a n := Finset.sum_pos (fun n _ => ha n) Finset.univ_nonempty
  unfold dscoreQ dscore
  congr 1
  simp only [prob, hT, he]
  generalize (∑ n, a n) = A at hpos
  generalize dprob g v = D
  have hA : A ≠ 0 := hpos.ne'
  have hc : 0 ≤ 1 / A := by positivity
  rw [← EReal.coe_mul, Ideal.div_coe hA, Ideal.div_coe hA, Ideal.div_coe (mul_ne_zero hA hA), one_mul]
  simp only [Ideal.div_coe hA]
  have hs : ∑ n, D n * ((1 / (A * A) : ℝ) : EReal) * ((a n : ℝ) : EReal)
      = ((1 / A : ℝ) : EReal) * ∑ n, D n * (((a n : ℝ) : EReal) * ((1 / A : ℝ) : EReal)) := by
    rw [mul_sum _ _ hc]
    refine Finset.sum_congr rfl fun n _ => ?_
    rw [show (1 / (A * A) : ℝ) = (1 / A) * (1 / A) by field_simp, EReal.coe_mul]
    ac_rfl
  rw [hs]
  generalize (∑ n, D n * (((a n : ℝ) : EReal) * ((1 / A : ℝ) : EReal))) = S
  rw [← mul_neg, mul_comm (D m), ← EReal.left_distrib_of_nonneg_of_ne_top (by exact_mod_cast hc) (EReal.coe_ne_top _),
    ← sub_eq_add_neg]
  ac_rfl

/-! ## Four heads side by side, `n` query rows -/

/-- The lanes of the head that column `c` lies in. -/
def lane (c : Fin 4096) (d : Fin 1024) : Fin 4096 := ⟨c.val / 1024 * 1024 + d.val, by omega⟩

theorem lane_mk (h d d' : ℕ) (hh : h < 4) (hd : d < 1024) (hd' : d' < 1024) :
    lane ⟨h * 1024 + d, by omega⟩ ⟨d', hd'⟩ = ⟨h * 1024 + d', by omega⟩ := by
  apply Fin.ext; show (h * 1024 + d) / 1024 * 1024 + d' = h * 1024 + d'; omega

/-- A matrix's rows, cut to the head that column `c` lies in. -/
def head {n : ℕ} (f : Fin n → Fin 4096 → EReal) (c : Fin 4096) : Fin n → Row := fun r d => f r (lane c d)

section
variable {n : ℕ} (Q G : Fin n → Fin 4096 → EReal) (K V : Fin 256 → Fin 4096 → EReal)

/-- The score gradient of row `r` and key `m`, in the head of column `c`. -/
def ds (c : Fin 4096) (r : Fin n) (m : Fin 256) : EReal := dscore (head Q c r) (head G c r) (head K c) (head V c) m
/-- The softmax of row `r` at key `m`, in the head of column `c`. -/
def pr (c : Fin 4096) (r : Fin n) (m : Fin 256) : EReal := prob (head Q c r) (head K c) m
/-- The gradient of the query row `r`, column `c`. -/
def dQ (r : Fin n) (c : Fin 4096) : EReal := ∑ m, ds Q G K V c r m * K m c
/-- The gradient of the key row `m`, column `c`. -/
def dK (m : Fin 256) (c : Fin 4096) : EReal := ∑ r, ds Q G K V c r m * Q r c
/-- The gradient of the value row `m`, column `c`. -/
def dV (m : Fin 256) (c : Fin 4096) : EReal := ∑ r, pr Q K c r m * G r c

end

/-! ## 4096 query rows in sixteen blocks of 256 -/

/-- Row `r` of block `s`. -/
def rowOf (s : Fin 16) (r : Fin 256) : Fin 4096 := ⟨s.val * 256 + r.val, by omega⟩

/-- The rows of block `s`. -/
def blk (f : Fin 4096 → Fin 4096 → EReal) (s : Fin 16) : Fin 256 → Fin 4096 → EReal := fun r c => f (rowOf s r) c

/-- A sum over the rows is the sum over the blocks of the sums over a block's rows. -/
theorem sum_blocks (f : Fin 4096 → EReal) : ∑ r, f r = ∑ s : Fin 16, ∑ r, f (rowOf s r) := by
  rw [← Fintype.sum_prod_type', ← (finProdFinEquiv (m := 16) (n := 256)).sum_comp f]
  refine Finset.sum_congr rfl fun x _ => congrArg f (Fin.ext ?_)
  show x.2.val + 256 * x.1.val = x.1.val * 256 + x.2.val
  omega

section
variable (Q G : Fin 4096 → Fin 4096 → EReal) (K V : Fin 256 → Fin 4096 → EReal)

theorem dQ_blk (s : Fin 16) (r : Fin 256) (c : Fin 4096) :
    dQ (blk Q s) (blk G s) K V r c = dQ Q G K V (rowOf s r) c := rfl

theorem dK_blk (m : Fin 256) (c : Fin 4096) :
    dK Q G K V m c = ∑ s : Fin 16, dK (blk Q s) (blk G s) K V m c := sum_blocks _

theorem dV_blk (m : Fin 256) (c : Fin 4096) :
    dV Q G K m c = ∑ s : Fin 16, dV (blk Q s) (blk G s) K m c := sum_blocks _

end

end Cert.AttnMath

end
-- ==== Proof.AttnBlock.lean ====
/-
  One grid point of the attention gradient: what the body's stored values are, entry by entry, in the terms of `AttnMath`.

  The body treats the four heads one after another on the same expressions, written once with the head's columns as
  argument (`dq_at`, `dk_at`, `dv_at`); that the other heads' expressions are those is by unfolding.
-/
module

public import proofs.«01_k».proof.Proof.AttnMath
public import proofs.«01_k».proof.Proof.Gen.KernelIdeal.Value
public import Idealize.ShloMosaic.Lib.Pointwise
public import Idealize.ShloMosaic.Lib.Pipeline.ReadBack

@[expose] public section

set_option maxRecDepth 16384

noncomputable section

namespace Cert.KernelIdeal.AttnBlock

open Cert.KernelIdeal Cert.KernelIdeal.Gen Cert.AttnMath Idealize.ShloMosaic

/-- The rows of a block of one head's columns. -/
abbrev rows (x : Vec Ideal S256x1024 .bf16) : Rows := fun r d => x (ix2 r d)

variable (q k g v : Vec Ideal S256x1024 .bf16) (a : Vec Ideal S256x1024 .f32)

theorem prob_at (r m : Fin 256) : k0_pay6 q k (ix2 r m) = prob (rows q r) (rows k) m := by
  unfold k0_pay6
  pointwise
  simp only [prob, tot, ex, top, score, scl, low, rows]

theorem dscore_at (r m : Fin 256) :
    k0_pay8 q k g v (ix2 r m) = dscore (rows q r) (rows g r) (rows k) (rows v) m := by
  unfold k0_pay8
  pointwise
  simp only [prob_at, dscore, dprob, scl, rows]

/-- The block of the query gradient. -/
theorem dq_at (r : Fin 256) (d : Fin 1024) :
    k0_pay10 k (k0_pay8 q k g v) (ix2 r d) = ∑ m, dscore (rows q r) (rows g r) (rows k) (rows v) m * k (ix2 m d) := by
  unfold k0_pay10 k0_pay9
  pointwise
  simp only [dscore_at]

/-- The accumulator of the value gradient after the point. -/
theorem dv_at (m : Fin 256) (d : Fin 1024) :
    k0_pay7 q k g a (ix2 m d) = a (ix2 m d) + ∑ r, prob (rows q r) (rows k) m * g (ix2 r d) := by
  unfold k0_pay7
  pointwise
  simp only [prob_at]

/-- The accumulator of the key gradient after the point. -/
theorem dk_at (m : Fin 256) (d : Fin 1024) :
    k0_pay11 q (k0_pay8 q k g v) a (ix2 m d)
      = a (ix2 m d) + ∑ r, dscore (rows q r) (rows g r) (rows k) (rows v) m * q (ix2 r d) := by
  unfold k0_pay11 k0_pay9
  pointwise
  simp only [dscore_at]

/-! ## The other heads' expressions are the first's -/

theorem pay15_eq : k0_pay15 k g (k0_pay12 q k) v = k0_pay10 k (k0_pay8 q k g v) := rfl
theorem pay13_eq : k0_pay13 q k g a = k0_pay7 q k g a := rfl
theorem pay16_eq : k0_pay16 q g (k0_pay12 q k) v a = k0_pay11 q (k0_pay8 q k g v) a := rfl
theorem pay20_eq : k0_pay20 g (k0_pay17 q k) (k0_pay18 q k) a = k0_pay7 q k g a := rfl
theorem pay22_eq : k0_pay22 k g (k0_pay17 q k) (k0_pay18 q k) v = k0_pay10 k (k0_pay8 q k g v) := rfl
theorem pay23_eq : k0_pay23 q g (k0_pay17 q k) (k0_pay18 q k) v a = k0_pay11 q (k0_pay8 q k g v) a := rfl
theorem pay25_eq : k0_pay25 q k g a = k0_pay7 q k g a := rfl
theorem pay27_eq : k0_pay27 q k g v = k0_pay10 k (k0_pay8 q k g v) := rfl
theorem pay1_eq : k0_pay1 a (k0_pay28 q k g v) = k0_pay11 q (k0_pay8 q k g v) a := rfl

end Cert.KernelIdeal.AttnBlock

end
-- ==== Proof.AttnPoint.lean ====
/-
  What one grid point of the attention gradient leaves: its block of the query gradient, and the two accumulators
  with the block's share of the key and value gradients added.

  A point stores each array as four pieces, one per head, over columns `1024·h …`. Each piece is the block function's
  restriction to those columns, so the pieces together are the function (`canon_heads`).
-/
module

public import proofs.«01_k».proof.Proof.AttnBlock

@[expose] public section

set_option maxRecDepth 16384

noncomputable section

namespace Cert.KernelIdeal.AttnPoint

open Cert.KernelIdeal Cert.KernelIdeal.Gen Cert.KernelIdeal.AttnBlock Cert.AttnMath Idealize.ShloMosaic

/-- An array of `n` rows of four heads, by row and column. -/
abbrev mat {n : ℕ} (x : (⟨2, ![n, 4096]⟩ : Shape).Idx → EReal) : Fin n → Fin 4096 → EReal := fun r c => x (ix2 r c)

/-- The columns from `o` on, as wide as a head. -/
abbrev cols (o : ℕ) (inb : ∀ a, ![0, o] a + ![256, 1024] a ≤ S256x4096.size a) : Rect S256x4096 :=
  Rect.unit ![0, o] ![256, 1024] inb

theorem col_lt (o : ℕ) (inb : ∀ a, ![0, o] a + ![256, 1024] a ≤ S256x4096.size a) (d : Fin 1024) : o + d.val < 4096 := by
  have h : o + 1024 ≤ 4096 := inb 1
  omega

theorem cols_emb (o : ℕ) (inb) (r : Fin 256) (d : Fin 1024) :
    (cols o inb).emb (ix2 r d) = ix2 r ⟨o + d.val, col_lt o inb d⟩ := by
  funext a; apply Fin.ext
  match a with
  | ⟨0, _⟩ => show 0 + 1 * r.val = r.val; omega
  | ⟨1, _⟩ => show o + 1 * d.val = o + d.val; omega

theorem ld_cols {e : EltTy} (x : Vec Ideal S256x4096 e) (o : ℕ) (inb) (r : Fin 256) (d : Fin 1024) :
    View.ld x (cols o inb) (ix2 r d) = x (ix2 r ⟨o + d.val, col_lt o inb d⟩) :=
  congrArg x (cols_emb o inb r d)

/-- A head's columns of a block are the block's rows cut to the head. -/
theorem rows_ld (x : Vec Ideal S256x4096 .bf16) (h o : ℕ) (ho : o = h * 1024) (inb) (d : Fin 1024) :
    rows (View.ld x (cols o inb)) = head (mat x) ⟨o + d.val, col_lt o inb d⟩ := by
  subst ho
  have hh : h < 4 := by have : h * 1024 + 1024 ≤ 4096 := inb 1; omega
  funext r d'
  show View.ld x (cols (h * 1024) inb) (ix2 r d') = x (ix2 r (lane _ d'))
  rw [ld_cols, lane_mk h d.val d'.val hh d.isLt d'.isLt]

/-- Four pieces, one per head, that agree with `G` leave `G`, whatever was stored before. -/
theorem canon_heads {e : EltTy} (G : Vec Ideal S256x4096 e) (w0 w1 w2 w3 : Vec Ideal S256x1024 e)
    (L : List (View.Piece (Elt Ideal) S256x4096 e)) (i0 i1 i2 i3)
    (h0 : ∀ r d, w0 (ix2 r d) = G (ix2 r ⟨0 + d.val, col_lt 0 i0 d⟩))
    (h1 : ∀ r d, w1 (ix2 r d) = G (ix2 r ⟨1024 + d.val, col_lt 1024 i1 d⟩))
    (h2 : ∀ r d, w2 (ix2 r d) = G (ix2 r ⟨2048 + d.val, col_lt 2048 i2 d⟩))
    (h3 : ∀ r d, w3 (ix2 r d) = G (ix2 r ⟨3072 + d.val, col_lt 3072 i3 d⟩)) :
    View.canon ((⟨cols 3072 i3, w3⟩ : View.Piece (Elt Ideal) S256x4096 e) :: ⟨cols 2048 i2, w2⟩ :: ⟨cols 1024 i1, w1⟩
      :: ⟨cols 0 i0, w0⟩ :: L) = G := by
  have one : ∀ (o : ℕ) (inb) (w : Vec Ideal S256x1024 e)
      (h : ∀ r d, w (ix2 r d) = G (ix2 r ⟨o + d.val, col_lt o inb d⟩)) (x : (cols o inb).shape.Idx),
      w x = G ((cols o inb).emb x) := by
    intro o inb w h x
    obtain ⟨r, d, rfl⟩ : ∃ (r : Fin 256) (d : Fin 1024), x = ix2 r d := ⟨x 0, x 1, eq_ix2 x⟩
    rw [cols_emb]; exact h r d
  funext y
  obtain ⟨r, c, rfl⟩ : ∃ (r : Fin 256) (c : Fin 4096), y = ix2 r c := ⟨y 0, y 1, eq_ix2 y⟩
  have mem : ∀ (o : ℕ) (inb), o ≤ c.val → c.val < o + 1024 → ix2 r c ∈ (cols o inb).set := by
    intro o inb ha hb
    refine Rect.mem_set_unit.mpr fun a => ?_
    match a with
    | ⟨0, _⟩ => exact ⟨Nat.zero_le _, by show r.val < 0 + 256; omega⟩
    | ⟨1, _⟩ => exact ⟨ha, hb⟩
  refine View.canon_append_of_piecesOf G L [(⟨cols 3072 i3, w3⟩ : View.Piece (Elt Ideal) S256x4096 e), ⟨cols 2048 i2, w2⟩, ⟨cols 1024 i1, w1⟩, ⟨cols 0 i0, w0⟩]
    ⟨one 3072 i3 w3 h3, one 2048 i2 w2 h2, one 1024 i1 w1 h1, one 0 i0 w0 h0, trivial⟩ _ ?_
  by_cases c3 : 3072 ≤ c.val
  · exact ⟨_, List.mem_cons_self, mem _ i3 c3 (by omega)⟩
  by_cases c2 : 2048 ≤ c.val
  · exact ⟨_, List.mem_cons_of_mem _ List.mem_cons_self, mem _ i2 c2 (by omega)⟩
  by_cases c1 : 1024 ≤ c.val
  · exact ⟨_, List.mem_cons_of_mem _ (List.mem_cons_of_mem _ List.mem_cons_self), mem _ i1 c1 (by omega)⟩
  exact ⟨_, List.mem_cons_of_mem _ (List.mem_cons_of_mem _ (List.mem_cons_of_mem _ List.mem_cons_self)),
    mem _ i0 (Nat.zero_le _) (by omega)⟩

section
variable (x0 x1 x2 x3 : Vec Ideal S256x4096 .bf16) (S : Vec Ideal S256x4096 .f32)

/-- The query gradient's block. -/
def bQ : Vec Ideal S256x4096 .bf16 := fun y => dQ (mat x0) (mat x1) (mat x2) (mat x3) (y 0) (y 1)
/-- The accumulator `S` with the block's share of the key gradient. -/
def bK : Vec Ideal S256x4096 .f32 := fun y => S y + dK (mat x0) (mat x1) (mat x2) (mat x3) (y 0) (y 1)
/-- The accumulator `S` with the block's share of the value gradient. -/
def bV : Vec Ideal S256x4096 .f32 := fun y => S y + dV (mat x0) (mat x1) (mat x2) (y 0) (y 1)

variable (h o : ℕ) (ho : o = h * 1024) (inb : ∀ a, ![0, o] a + ![256, 1024] a ≤ S256x4096.size a)
  (r : Fin 256) (d : Fin 1024)
include ho

theorem piece_dq :
    k0_pay10 (View.ld x2 (cols o inb)) (k0_pay8 (View.ld x0 (cols o inb)) (View.ld x2 (cols o inb)) (View.ld x1 (cols o inb))
      (View.ld x3 (cols o inb))) (ix2 r d) = bQ x0 x1 x2 x3 (ix2 r ⟨o + d.val, col_lt o inb d⟩) := by
  rw [dq_at]
  simp only [rows_ld _ h o ho inb d]
  exact Finset.sum_congr rfl fun m _ => congrArg (_ * ·) (ld_cols x2 o inb m d)

theorem piece_dk :
    k0_pay11 (View.ld x0 (cols o inb)) (k0_pay8 (View.ld x0 (cols o inb)) (View.ld x2 (cols o inb)) (View.ld x1 (cols o inb))
      (View.ld x3 (cols o inb))) (View.ld S (cols o inb)) (ix2 r d) = bK x0 x1 x2 x3 S (ix2 r ⟨o + d.val, col_lt o inb d⟩) := by
  rw [dk_at]
  simp only [rows_ld _ h o ho inb d]
  exact congrArg₂ (· + ·) (ld_cols S o inb r d) (Finset.sum_congr rfl fun m _ => congrArg (_ * ·) (ld_cols x0 o inb m d))

theorem piece_dv :
    k0_pay7 (View.ld x0 (cols o inb)) (View.ld x2 (cols o inb)) (View.ld x1 (cols o inb)) (View.ld S (cols o inb)) (ix2 r d)
      = bV x0 x1 x2 S (ix2 r ⟨o + d.val, col_lt o inb d⟩) := by
  rw [dv_at]
  simp only [rows_ld _ h o ho inb d]
  exact congrArg₂ (· + ·) (ld_cols S o inb r d) (Finset.sum_congr rfl fun m _ => congrArg (_ * ·) (ld_cols x1 o inb m d))

end

theorem off00 : (![0, 0] : Fin S256x4096.rank → ℕ) = fun _ => 0 := by
  funext a
  match a with
  | ⟨0, _⟩ => rfl
  | ⟨1, _⟩ => rfl

theorem pay2_at (x : Vec Ideal S256x4096 .f32) : k0_pay2 x = x := by
  funext y
  unfold k0_pay2
  pointwise

theorem pay3_at (x : Vec Ideal S256x4096 .f32) : k0_pay3 x = x := by
  funext y
  unfold k0_pay3
  pointwise

theorem pay4_at (y : S256x4096.Idx) : k0_pay4 (F := Ideal) y = 0 := by
  unfold k0_pay4
  pointwise

theorem pay5_at (y : S256x4096.Idx) : k0_pay5 (F := Ideal) y = 0 := by
  unfold k0_pay5
  pointwise

/-- Reading the whole buffer back after the four pieces finds what they leave. -/
theorem readback {e : EltTy} (v : View sig .tc .vmem S256x4096 e) (G : Vec Ideal S256x4096 e) (w0 w1 w2 w3 : Vec Ideal S256x1024 e)
    (i0 i1 i2 i3) (inb : ∀ a, ![0, 0] a + ![256, 4096] a ≤ S256x4096.size a)
    (h : View.canon ((⟨cols 3072 i3, w3⟩ : View.Piece (Elt Ideal) S256x4096 e) :: ⟨cols 2048 i2, w2⟩ :: ⟨cols 1024 i1, w1⟩
      :: ⟨cols 0 i0, w0⟩ :: []) = G) :
    v.readCov [(⟨cols 3072 i3, w3⟩ : View.Piece (Elt Ideal) S256x4096 e), ⟨cols 2048 i2, w2⟩, ⟨cols 1024 i1, w1⟩, ⟨cols 0 i0, w0⟩]
      (Rect.unit ![0, 0] ![256, 4096] inb).toLoadRect = G := by
  rw [View.readCov_eq_canon_ld v _ _ (View.cover_of_tiledL _ S256x1024.size (by sl_kernel_rfl)), h]
  exact View.ld_unit_zero off00 inb G

section
variable (x0 x1 x2 x3 : Vec Ideal S256x4096 .bf16) (S : Vec Ideal S256x4096 .f32)

/-- What the body stores of the query gradient over the columns from `o` on. -/
abbrev stQ (o : ℕ) (inb : ∀ a, ![0, o] a + ![256, 1024] a ≤ S256x4096.size a) : Vec Ideal S256x1024 .bf16 :=
  k0_pay10 (View.ld x2 (cols o inb)) (k0_pay8 (View.ld x0 (cols o inb)) (View.ld x2 (cols o inb)) (View.ld x1 (cols o inb))
    (View.ld x3 (cols o inb)))
/-- What it stores of the key gradient's accumulator there. -/
abbrev stK (o : ℕ) (inb : ∀ a, ![0, o] a + ![256, 1024] a ≤ S256x4096.size a) : Vec Ideal S256x1024 .f32 :=
  k0_pay11 (View.ld x0 (cols o inb)) (k0_pay8 (View.ld x0 (cols o inb)) (View.ld x2 (cols o inb)) (View.ld x1 (cols o inb))
    (View.ld x3 (cols o inb))) (View.ld S (cols o inb))
/-- What it stores of the value gradient's accumulator there. -/
abbrev stV (o : ℕ) (inb : ∀ a, ![0, o] a + ![256, 1024] a ≤ S256x4096.size a) : Vec Ideal S256x1024 .f32 :=
  k0_pay7 (View.ld x0 (cols o inb)) (View.ld x2 (cols o inb)) (View.ld x1 (cols o inb)) (View.ld S (cols o inb))

variable (i0 : ∀ a, ![0, 0] a + ![256, 1024] a ≤ S256x4096.size a) (i1 : ∀ a, ![0, 1024] a + ![256, 1024] a ≤ S256x4096.size a)
  (i2 : ∀ a, ![0, 2048] a + ![256, 1024] a ≤ S256x4096.size a) (i3 : ∀ a, ![0, 3072] a + ![256, 1024] a ≤ S256x4096.size a)

/-- Four pieces of the query gradient. -/
theorem heads_dq (L) : View.canon ((⟨cols 3072 i3, stQ x0 x1 x2 x3 3072 i3⟩ : View.Piece (Elt Ideal) S256x4096 .bf16)
      :: ⟨cols 2048 i2, stQ x0 x1 x2 x3 2048 i2⟩ :: ⟨cols 1024 i1, stQ x0 x1 x2 x3 1024 i1⟩
      :: ⟨cols 0 i0, stQ x0 x1 x2 x3 0 i0⟩ :: L) = bQ x0 x1 x2 x3 :=
  canon_heads _ _ _ _ _ L i0 i1 i2 i3 (piece_dq _ _ _ _ 0 _ rfl _) (piece_dq _ _ _ _ 1 _ rfl _)
    (piece_dq _ _ _ _ 2 _ rfl _) (piece_dq _ _ _ _ 3 _ rfl _)

/-- Four pieces of the key gradient's accumulator. -/
theorem heads_dk (L) : View.canon ((⟨cols 3072 i3, stK x0 x1 x2 x3 S 3072 i3⟩ : View.Piece (Elt Ideal) S256x4096 .f32)
      :: ⟨cols 2048 i2, stK x0 x1 x2 x3 S 2048 i2⟩ :: ⟨cols 1024 i1, stK x0 x1 x2 x3 S 1024 i1⟩
      :: ⟨cols 0 i0, stK x0 x1 x2 x3 S 0 i0⟩ :: L) = bK x0 x1 x2 x3 S :=
  canon_heads _ _ _ _ _ L i0 i1 i2 i3 (piece_dk _ _ _ _ _ 0 _ rfl _) (piece_dk _ _ _ _ _ 1 _ rfl _)
    (piece_dk _ _ _ _ _ 2 _ rfl _) (piece_dk _ _ _ _ _ 3 _ rfl _)

/-- Four pieces of the value gradient's accumulator. -/
theorem heads_dv (L) : View.canon ((⟨cols 3072 i3, stV x0 x1 x2 S 3072 i3⟩ : View.Piece (Elt Ideal) S256x4096 .f32)
      :: ⟨cols 2048 i2, stV x0 x1 x2 S 2048 i2⟩ :: ⟨cols 1024 i1, stV x0 x1 x2 S 1024 i1⟩
      :: ⟨cols 0 i0, stV x0 x1 x2 S 0 i0⟩ :: L) = bV x0 x1 x2 S :=
  canon_heads _ _ _ _ _ L i0 i1 i2 i3 (piece_dv _ _ _ _ 0 _ rfl _) (piece_dv _ _ _ _ 1 _ rfl _)
    (piece_dv _ _ _ _ 2 _ rfl _) (piece_dv _ _ _ _ 3 _ rfl _)

end

/-! ## The three cases of the body -/

section
variable (c : Dev nD) (i : grid0.Coords) (arg1 : Memref sig .tc .vmem S256x4096 .bf16) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x4096 .bf16) (harg7 : arg7.IsWhole) (arg8 : Memref sig .tc .vmem S256x4096 .f32) (harg8 : arg8.IsWhole) (arg9 : Memref sig .tc .vmem S256x4096 .f32) (harg9 : arg9.IsWhole)
variable (x0 x1 x2 x3 : Vec Ideal S256x4096 .bf16) (s0 s1 : Vec Ideal S256x4096 .f32)

/-- The first point: the accumulators start from zero. -/
theorem caseA (hc0 : cond0_0 i) (hc1 : ¬cond0_1 i) :
    out0_A_4 c i arg1 harg1 arg2 harg2 arg3 harg3 arg4 harg4 arg5 harg5 arg6 harg6 arg7 harg7 arg8 harg8
      arg9 harg9 hc0 hc1 x0 x1 x2 x3 = bQ x0 x1 x2 x3
    ∧ sout0_A_0 c i arg1 harg1 arg2 harg2 arg3 harg3 arg4 harg4 arg5 harg5 arg6 harg6 arg7 harg7 arg8 harg8
      arg9 harg9 hc0 hc1 x0 x1 x2 x3 = bK x0 x1 x2 x3 (k0_pay4 (F := Ideal))
    ∧ sout0_A_1 c i arg1 harg1 arg2 harg2 arg3 harg3 arg4 harg4 arg5 harg5 arg6 harg6 arg7 harg7 arg8 harg8
      arg9 harg9 hc0 hc1 x0 x1 x2 x3 = bV x0 x1 x2 (k0_pay5 (F := Ideal)) := by
  unfold out0_A_4 sout0_A_0 sout0_A_1
  rw [View.read_writes_eq_canon _ _ _ (cover0_A_4 c i arg1 harg1 arg2 harg2 arg3 harg3 arg4 harg4 arg5 harg5 arg6 harg6 arg7 harg7 arg8 harg8
      arg9 harg9 hc0 hc1 x0 x1 x2 x3),
    View.read_writes_eq_canon _ _ _ (scover0_A_0 c i arg1 harg1 arg2 harg2 arg3 harg3 arg4 harg4 arg5 harg5 arg6 harg6 arg7 harg7 arg8 harg8
      arg9 harg9 hc0 hc1 x0 x1 x2 x3),
    View.read_writes_eq_canon _ _ _ (scover0_A_1 c i arg1 harg1 arg2 harg2 arg3 harg3 arg4 harg4 arg5 harg5 arg6 harg6 arg7 harg7 arg8 harg8
      arg9 harg9 hc0 hc1 x0 x1 x2 x3)]
  unfold kernelRun0_A; dsimp only; sl_unfold_words
  simp (disch := decide) only [↓View.readCov_skip, ↓View.readCov_fill, View.readAt_eq_ld, harg1.read_unread, harg2.read_unread, harg3.read_unread,
    harg4.read_unread, harg8.read_unread, harg9.read_unread,
    pay16_eq, pay23_eq, pay1_eq, pay13_eq, pay20_eq, pay25_eq,
    pay15_eq, pay22_eq, pay27_eq]
  exact ⟨heads_dq .., heads_dk .., heads_dv ..⟩

/-- A point between the first and the last: the accumulators go on from what the point before left. -/
theorem caseB (hc0 : ¬cond0_0 i) (hc1 : ¬cond0_1 i) :
    out0_B_4 c i arg1 harg1 arg2 harg2 arg3 harg3 arg4 harg4 arg5 harg5 arg6 harg6 arg7 harg7 arg8 harg8
      arg9 harg9 hc0 hc1 x0 x1 x2 x3 s0 s1 = bQ x0 x1 x2 x3
    ∧ sout0_B_0 c i arg1 harg1 arg2 harg2 arg3 harg3 arg4 harg4 arg5 harg5 arg6 harg6 arg7 harg7 arg8 harg8
      arg9 harg9 hc0 hc1 x0 x1 x2 x3 s0 s1 = bK x0 x1 x2 x3 s0
    ∧ sout0_B_1 c i arg1 harg1 arg2 harg2 arg3 harg3 arg4 harg4 arg5 harg5 arg6 harg6 arg7 harg7 arg8 harg8
      arg9 harg9 hc0 hc1 x0 x1 x2 x3 s0 s1 = bV x0 x1 x2 s1 := by
  unfold out0_B_4 sout0_B_0 sout0_B_1
  rw [View.read_writes_eq_canon _ _ _ (cover0_B_4 c i arg1 harg1 arg2 harg2 arg3 harg3 arg4 harg4 arg5 harg5 arg6 harg6 arg7 harg7 arg8 harg8
      arg9 harg9 hc0 hc1 x0 x1 x2 x3 s0 s1),
    View.read_writes_eq_canon _ _ _ (scover0_B_0 c i arg1 harg1 arg2 harg2 arg3 harg3 arg4 harg4 arg5 harg5 arg6 harg6 arg7 harg7 arg8 harg8
      arg9 harg9 hc0 hc1 x0 x1 x2 x3 s0 s1),
    View.read_writes_eq_canon _ _ _ (scover0_B_1 c i arg1 harg1 arg2 harg2 arg3 harg3 arg4 harg4 arg5 harg5 arg6 harg6 arg7 harg7 arg8 harg8
      arg9 harg9 hc0 hc1 x0 x1 x2 x3 s0 s1)]
  unfold kernelRun0_B; dsimp only; sl_unfold_words
  simp only [View.readAt_eq_ld, harg1.read_unread, harg2.read_unread, harg3.read_unread,
    harg4.read_unread, harg8.read_unread, harg9.read_unread,
    pay16_eq, pay23_eq, pay1_eq, pay13_eq, pay20_eq, pay25_eq,
    pay15_eq, pay22_eq, pay27_eq]
  exact ⟨heads_dq .., heads_dk .., heads_dv ..⟩

/-- The last point: the two results are what the accumulators hold then. -/
theorem caseC (hc0 : ¬cond0_0 i) (hc1 : cond0_1 i) :
    out0_C_4 c i arg1 harg1 arg2 harg2 arg3 harg3 arg4 harg4 arg5 harg5 arg6 harg6 arg7 harg7 arg8 harg8
      arg9 harg9 hc0 hc1 x0 x1 x2 x3 s0 s1 = bQ x0 x1 x2 x3
    ∧ out0_C_5 c i arg1 harg1 arg2 harg2 arg3 harg3 arg4 harg4 arg5 harg5 arg6 harg6 arg7 harg7 arg8 harg8
      arg9 harg9 hc0 hc1 x0 x1 x2 x3 s0 s1 = bK x0 x1 x2 x3 s0
    ∧ out0_C_6 c i arg1 harg1 arg2 harg2 arg3 harg3 arg4 harg4 arg5 harg5 arg6 harg6 arg7 harg7 arg8 harg8
      arg9 harg9 hc0 hc1 x0 x1 x2 x3 s0 s1 = bV x0 x1 x2 s1 := by
  unfold out0_C_4 out0_C_5 out0_C_6
  rw [View.read_writes_eq_canon _ _ _ (cover0_C_4 c i arg1 harg1 arg2 harg2 arg3 harg3 arg4 harg4 arg5 harg5 arg6 harg6 arg7 harg7 arg8 harg8
      arg9 harg9 hc0 hc1 x0 x1 x2 x3 s0 s1),
    View.read_writes_eq_canon _ _ _ (cover0_C_5 c i arg1 harg1 arg2 harg2 arg3 harg3 arg4 harg4 arg5 harg5 arg6 harg6 arg7 harg7 arg8 harg8
      arg9 harg9 hc0 hc1 x0 x1 x2 x3 s0 s1),
    View.read_writes_eq_canon _ _ _ (cover0_C_6 c i arg1 harg1 arg2 harg2 arg3 harg3 arg4 harg4 arg5 harg5 arg6 harg6 arg7 harg7 arg8 harg8
      arg9 harg9 hc0 hc1 x0 x1 x2 x3 s0 s1)]
  unfold kernelRun0_C; dsimp only; sl_unfold_words
  simp only [View.readAt_eq_ld, harg1.read_unread, harg2.read_unread, harg3.read_unread,
    harg4.read_unread, harg8.read_unread, harg9.read_unread,
    pay16_eq, pay23_eq, pay1_eq, pay13_eq, pay20_eq, pay25_eq,
    pay15_eq, pay22_eq, pay27_eq]
  rw [View.canon_unit_zero off00, View.canon_unit_zero off00, pay2_at, pay3_at]
  exact ⟨heads_dq .., readback _ _ _ _ _ _ _ _ _ _ _ (heads_dk ..), readback _ _ _ _ _ _ _ _ _ _ _ (heads_dv ..)⟩

end

end Cert.KernelIdeal.AttnPoint

end
-- ==== Proof.AttnKernel.lean ====
/-
  What the attention gradient's launch leaves in its three result arrays, in the terms of `AttnMath`: point `t` works on the
  query rows `256·t …`, so the query gradient is written block by block, and the two accumulators after point `n` hold the sum of
  the shares of the blocks `0 … n` (`accs`, by induction on the points); the last point writes them out.
-/
module

public import proofs.«01_k».proof.Proof.AttnPoint

@[expose] public section

set_option maxRecDepth 16384

noncomputable section

namespace Cert.KernelIdeal.AttnKernel

open Cert.KernelIdeal Cert.KernelIdeal.Gen Cert.KernelIdeal.Value Cert.KernelIdeal.AttnPoint Cert.AttnMath Idealize.ShloMosaic
open Idealize.ShloMosaic.TcCoe

variable (m : (ℓ : Loc nD τ sig) → Buf (Elt Ideal) ℓ) (c : Dev nD)

/-- The queries. -/
abbrev aQ : Fin 4096 → Fin 4096 → EReal := mat (m ((c : Thread nD τ).loc main_arg0))
/-- The keys. -/
abbrev aK : Fin 256 → Fin 4096 → EReal := mat (m ((c : Thread nD τ).loc main_arg1))
/-- The values. -/
abbrev aV : Fin 256 → Fin 4096 → EReal := mat (m ((c : Thread nD τ).loc main_arg2))
/-- The cotangent of the attention's output. -/
abbrev aG : Fin 4096 → Fin 4096 → EReal := mat (m ((c : Thread nD τ).loc main_arg3))

/-- A point's number among the sixteen. -/
abbrev num (t : Fin cfg0.N) : Fin 16 := ⟨t.val, lt_of_lt_of_eq t.isLt N_0⟩

theorem idx_in : ∀ t : Fin cfg0.N, win0_0.index t 0 = t.val ∧ win0_0.index t 1 = 0 ∧ win0_1.index t 0 = t.val
    ∧ win0_1.index t 1 = 0 ∧ win0_2.index t 0 = 0 ∧ win0_2.index t 1 = 0 ∧ win0_3.index t 0 = 0 ∧ win0_3.index t 1 = 0 :=
  (by decide +kernel : ∀ t : Fin grid0.N, win0_0.index t 0 = t.val ∧ win0_0.index t 1 = 0 ∧ win0_1.index t 0 = t.val
    ∧ win0_1.index t 1 = 0 ∧ win0_2.index t 0 = 0 ∧ win0_2.index t 1 = 0 ∧ win0_3.index t 0 = 0 ∧ win0_3.index t 1 = 0)

theorem blk_q (t : Fin cfg0.N) : mat (iblk m c 0 t) = blk (aQ m c) (num t) := by
  funext r d
  show iblk m c 0 t (ix2 r d) = _
  unfold iblk
  rw [View.read_apply]
  show V m c main_arg0 _ = m ((c : Thread nD τ).loc main_arg0) (ix2 (rowOf (num t) r) d)
  unfold V
  congr 1
  funext a; apply Fin.ext
  match a with
  | ⟨0, _⟩ => show win0_0.index t 0 * 256 + 1 * r.val = t.val * 256 + r.val; rw [(idx_in t).1]; omega
  | ⟨1, _⟩ => show win0_0.index t 1 * 4096 + 1 * d.val = d.val; rw [(idx_in t).2.1]; omega

theorem blk_g (t : Fin cfg0.N) : mat (iblk m c 1 t) = blk (aG m c) (num t) := by
  funext r d
  show iblk m c 1 t (ix2 r d) = _
  unfold iblk
  rw [View.read_apply]
  show V m c main_arg3 _ = m ((c : Thread nD τ).loc main_arg3) (ix2 (rowOf (num t) r) d)
  unfold V
  congr 1
  funext a; apply Fin.ext
  match a with
  | ⟨0, _⟩ => show win0_1.index t 0 * 256 + 1 * r.val = t.val * 256 + r.val; rw [(idx_in t).2.2.1]; omega
  | ⟨1, _⟩ => show win0_1.index t 1 * 4096 + 1 * d.val = d.val; rw [(idx_in t).2.2.2.1]; omega

theorem blk_k (t : Fin cfg0.N) : mat (iblk m c 2 t) = aK m c := by
  funext r d
  show iblk m c 2 t (ix2 r d) = _
  unfold iblk
  rw [View.read_apply]
  show V m c main_arg1 _ = m ((c : Thread nD τ).loc main_arg1) (ix2 r d)
  unfold V
  congr 1
  funext a; apply Fin.ext
  match a with
  | ⟨0, _⟩ => show win0_2.index t 0 * 256 + 1 * r.val = r.val; rw [(idx_in t).2.2.2.2.1]; omega
  | ⟨1, _⟩ => show win0_2.index t 1 * 4096 + 1 * d.val = d.val; rw [(idx_in t).2.2.2.2.2.1]; omega

theorem blk_v (t : Fin cfg0.N) : mat (iblk m c 3 t) = aV m c := by
  funext r d
  show iblk m c 3 t (ix2 r d) = _
  unfold iblk
  rw [View.read_apply]
  show V m c main_arg2 _ = m ((c : Thread nD τ).loc main_arg2) (ix2 r d)
  unfold V
  congr 1
  funext a; apply Fin.ext
  match a with
  | ⟨0, _⟩ => show win0_3.index t 0 * 256 + 1 * r.val = r.val; rw [(idx_in t).2.2.2.2.2.2.1]; omega
  | ⟨1, _⟩ => show win0_3.index t 1 * 4096 + 1 * d.val = d.val; rw [(idx_in t).2.2.2.2.2.2.2]; omega

/-- Block `s`'s share of the key gradient. -/
abbrev shK (s : Fin 16) (y : S256x4096.Idx) : EReal := dK (blk (aQ m c) s) (blk (aG m c) s) (aK m c) (aV m c) (y 0) (y 1)
/-- Block `s`'s share of the value gradient. -/
abbrev shV (s : Fin 16) (y : S256x4096.Idx) : EReal := dV (blk (aQ m c) s) (blk (aG m c) s) (aK m c) (y 0) (y 1)
/-- Row block `s` of the query gradient. -/
abbrev shQ (s : Fin 16) (y : S256x4096.Idx) : EReal := dQ (blk (aQ m c) s) (blk (aG m c) s) (aK m c) (aV m c) (y 0) (y 1)

theorem bQ_at (t : Fin cfg0.N) : bQ (iblk m c 0 t) (iblk m c 1 t) (iblk m c 2 t) (iblk m c 3 t) = shQ m c (num t) := by
  unfold bQ; rw [blk_q, blk_g, blk_k, blk_v]

theorem bK_at (t : Fin cfg0.N) (S : Vec Ideal S256x4096 .f32) :
    bK (iblk m c 0 t) (iblk m c 1 t) (iblk m c 2 t) (iblk m c 3 t) S = fun y => S y + shK m c (num t) y := by
  unfold bK; rw [blk_q, blk_g, blk_k, blk_v]

theorem bV_at (t : Fin cfg0.N) (S : Vec Ideal S256x4096 .f32) :
    bV (iblk m c 0 t) (iblk m c 1 t) (iblk m c 2 t) S = fun y => S y + shV m c (num t) y := by
  unfold bV; rw [blk_q, blk_g, blk_k]

/-- What a sum over the points up to `n` adds up. -/
abbrev upTo (f : Fin 16 → EReal) (n : ℕ) : EReal := ∑ s ∈ Finset.univ.filter (fun s : Fin 16 => s.val ≤ n), f s

theorem upTo_zero (f : Fin 16 → EReal) : upTo f 0 = f 0 := by
  unfold upTo
  rw [show Finset.univ.filter (fun s : Fin 16 => s.val ≤ 0) = {0} by decide, Finset.sum_singleton]

theorem upTo_succ (f : Fin 16 → EReal) (n : ℕ) (h : n + 1 < 16) : upTo f (n + 1) = upTo f n + f ⟨n + 1, h⟩ := by
  unfold upTo
  rw [show Finset.univ.filter (fun s : Fin 16 => s.val ≤ n + 1)
      = insert ⟨n + 1, h⟩ (Finset.univ.filter (fun s : Fin 16 => s.val ≤ n)) by
    ext s; simp only [Finset.mem_filter, Finset.mem_univ, true_and, Finset.mem_insert, Fin.ext_iff]; omega]
  rw [Finset.sum_insert (by simp), add_comm]

theorem upTo_last (f : Fin 16 → EReal) : upTo f 15 = ∑ s, f s := by
  unfold upTo
  rw [Finset.filter_true_of_mem fun s _ => by omega]

/-- The first point. -/
theorem ptA (t : Fin cfg0.N) (h0 : t.val % 16 = 0) (h1 : ¬t.val % 16 = 15) :
    (outsAt0 m c t.val t.isLt).1 = shQ m c (num t)
    ∧ (outsAt0 m c t.val t.isLt).2.2.2.1 = (fun y => shK m c (num t) y)
    ∧ (outsAt0 m c t.val t.isLt).2.2.2.2 = (fun y => shV m c (num t) y) := by
  have e := caseA c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) scM0_0 (Memref.isWhole_whole _) scM0_1 (Memref.isWhole_whole _)
    (iblk m c 0 t) (iblk m c 1 t) (iblk m c 2 t) (iblk m c 3 t)
    ((hcond0_0 t).mpr h0) (fun h => h1 ((hcond0_1 t).mp h))
  rw [bQ_at, bK_at, bV_at] at e
  simp only [pay4_at, pay5_at, zero_add] at e
  rw [outsAt0_A m c t h0 h1]
  dsimp only
  exact ⟨e.1, e.2.1, e.2.2⟩

/-- A point after the first and before the last. -/
theorem ptB (t : Fin cfg0.N) (h0 : ¬t.val % 16 = 0) (h1 : ¬t.val % 16 = 15) (h' : t.val - 1 < cfg0.N) :
    (outsAt0 m c t.val t.isLt).1 = shQ m c (num t)
    ∧ (outsAt0 m c t.val t.isLt).2.2.2.1 = (fun y => (outsAt0 m c (t.val - 1) h').2.2.2.1 y + shK m c (num t) y)
    ∧ (outsAt0 m c t.val t.isLt).2.2.2.2 = (fun y => (outsAt0 m c (t.val - 1) h').2.2.2.2 y + shV m c (num t) y) := by
  have e := caseB c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) scM0_0 (Memref.isWhole_whole _) scM0_1 (Memref.isWhole_whole _)
    (iblk m c 0 t) (iblk m c 1 t) (iblk m c 2 t) (iblk m c 3 t)
    (outsAt0 m c (t.val - 1) h').2.2.2.1 (outsAt0 m c (t.val - 1) h').2.2.2.2
    (fun h => h0 ((hcond0_0 t).mp h)) (fun h => h1 ((hcond0_1 t).mp h))
  rw [bQ_at, bK_at, bV_at] at e
  rw [outsAt0_B m c t h0 h1]
  dsimp only
  refine ⟨e.1, e.2.1, e.2.2⟩

/-- The last point. -/
theorem ptC (t : Fin cfg0.N) (h0 : ¬t.val % 16 = 0) (h1 : t.val % 16 = 15) (h' : t.val - 1 < cfg0.N) :
    (outsAt0 m c t.val t.isLt).1 = shQ m c (num t)
    ∧ (outsAt0 m c t.val t.isLt).2.1 = (fun y => (outsAt0 m c (t.val - 1) h').2.2.2.1 y + shK m c (num t) y)
    ∧ (outsAt0 m c t.val t.isLt).2.2.1 = (fun y => (outsAt0 m c (t.val - 1) h').2.2.2.2 y + shV m c (num t) y) := by
  have e := caseC c (grid0.coords t) (ms0_0 t) (hs0_0 t) (ms0_1 t) (hs0_1 t) (ms0_2 t) (hs0_2 t) (ms0_3 t) (hs0_3 t) (ms0_4 t)
    (hs0_4 t) (ms0_5 t) (hs0_5 t) (ms0_6 t) (hs0_6 t) scM0_0 (Memref.isWhole_whole _) scM0_1 (Memref.isWhole_whole _)
    (iblk m c 0 t) (iblk m c 1 t) (iblk m c 2 t) (iblk m c 3 t)
    (outsAt0 m c (t.val - 1) h').2.2.2.1 (outsAt0 m c (t.val - 1) h').2.2.2.2
    (fun h => h0 ((hcond0_0 t).mp h)) ((hcond0_1 t).mpr h1)
  rw [bQ_at, bK_at, bV_at] at e
  rw [outsAt0_C m c t h0 h1]
  dsimp only
  exact ⟨e.1, e.2.1, e.2.2⟩

/-- The query gradient's block at every point. -/
theorem outQ (t : Fin cfg0.N) : (outsAt0 m c t.val t.isLt).1 = shQ m c (num t) := by
  have hN : t.val < 16 := lt_of_lt_of_eq t.isLt N_0
  have h' : t.val - 1 < cfg0.N := Nat.lt_of_le_of_lt (Nat.sub_le _ _) t.isLt
  by_cases h0 : t.val % 16 = 0
  · exact (ptA m c t h0 (by omega)).1
  · by_cases h1 : t.val % 16 = 15
    · exact (ptC m c t h0 h1 h').1
    · exact (ptB m c t h0 h1 h').1

/-- The accumulators after every point but the last. -/
theorem accs : ∀ (n : ℕ) (h : n < cfg0.N), n < 15 →
    (outsAt0 m c n h).2.2.2.1 = (fun y => upTo (fun s => shK m c s y) n)
    ∧ (outsAt0 m c n h).2.2.2.2 = (fun y => upTo (fun s => shV m c s y) n)
  | 0, h, _ => by
    obtain ⟨-, e0, e1⟩ := ptA m c ⟨0, h⟩ (by show 0 % 16 = 0; rfl) (by show ¬0 % 16 = 15; omega)
    refine ⟨e0.trans ?_, e1.trans ?_⟩ <;> (funext y; rw [upTo_zero]; rfl)
  | n + 1, h, hn => by
    obtain ⟨i0, i1⟩ := accs n (Nat.lt_of_succ_lt h) (by omega)
    obtain ⟨-, e0, e1⟩ := ptB m c ⟨n + 1, h⟩ (by show ¬(n + 1) % 16 = 0; omega) (by show ¬(n + 1) % 16 = 15; omega)
      (Nat.lt_of_succ_lt h)
    refine ⟨e0.trans ?_, e1.trans ?_⟩
    · funext y; rw [upTo_succ _ n (by omega)]; exact congrArg (· + _) (congrFun i0 y)
    · funext y; rw [upTo_succ _ n (by omega)]; exact congrArg (· + _) (congrFun i1 y)

/-- The two results the last point writes. -/
theorem outKV (t : Fin cfg0.N) (ht : t.val = 15) :
    (outsAt0 m c t.val t.isLt).2.1 = (fun y => dK (aQ m c) (aG m c) (aK m c) (aV m c) (y 0) (y 1))
    ∧ (outsAt0 m c t.val t.isLt).2.2.1 = (fun y => dV (aQ m c) (aG m c) (aK m c) (y 0) (y 1)) := by
  have h' : t.val - 1 < cfg0.N := Nat.lt_of_le_of_lt (Nat.sub_le _ _) t.isLt
  have hn : num t = ⟨14 + 1, by omega⟩ := Fin.ext ht
  obtain ⟨i0, i1⟩ := accs m c (t.val - 1) h' (by omega)
  obtain ⟨-, e0, e1⟩ := ptC m c t (by omega) (by omega) h'
  rw [i0, hn, show t.val - 1 = 14 by omega] at e0
  rw [i1, hn, show t.val - 1 = 14 by omega] at e1
  refine ⟨e0.trans ?_, e1.trans ?_⟩
  · funext y
    refine Eq.trans ?_ (dK_blk (aQ m c) (aG m c) (aK m c) (aV m c) (y 0) (y 1)).symm
    rw [← upTo_last, upTo_succ _ 14 (by omega)]
  · funext y
    refine Eq.trans ?_ (dV_blk (aQ m c) (aG m c) (aK m c) (y 0) (y 1)).symm
    rw [← upTo_last, upTo_succ _ 14 (by omega)]

/-- The query gradient's array. -/
theorem G4_eq : G4 m c = fun y => dQ (aQ m c) (aG m c) (aK m c) (aV m c) (y 0) (y 1) := by
  funext i
  have hi0 : (i 0).val < 4096 := (i 0).isLt
  have hi1 : (i 1).val < 4096 := (i 1).isLt
  have hp : pt4Of i = (i 0).val / 256 := by
    show 1 * ((i 0).val / 256 - 0) + 1 * ((i 1).val / 4096 - 0) = _
    omega
  have hlt : pt4Of i < cfg0.N := by rw [hp]; exact lt_of_lt_of_eq (by omega) N_0.symm
  unfold G4
  rw [dif_pos hlt, ← outsAt0_sweep m c _ hlt, outQ m c ⟨pt4Of i, hlt⟩]
  refine (dQ_blk _ _ _ _ _ _ _).trans (congrArg₂ (dQ (aQ m c) (aG m c) (aK m c) (aV m c)) (Fin.ext ?_) (Fin.ext ?_))
  · show pt4Of i * 256 + (i 0).val % 256 = (i 0).val
    rw [hp]; omega
  · show (i 1).val % 4096 = (i 1).val
    omega

/-- The key gradient's array. -/
theorem G5_eq : G5 m c = fun y => dK (aQ m c) (aG m c) (aK m c) (aV m c) (y 0) (y 1) := by
  rw [G5_last, ← outsAt0_sweep m c 15 (lt_of_lt_of_eq (by decide) N_0.symm)]
  exact (outKV m c ⟨15, lt_of_lt_of_eq (by decide) N_0.symm⟩ rfl).1

/-- The value gradient's array. -/
theorem G6_eq : G6 m c = fun y => dV (aQ m c) (aG m c) (aK m c) (y 0) (y 1) := by
  rw [G6_last, ← outsAt0_sweep m c 15 (lt_of_lt_of_eq (by decide) N_0.symm)]
  exact (outKV m c ⟨15, lt_of_lt_of_eq (by decide) N_0.symm⟩ rfl).2

end Cert.KernelIdeal.AttnKernel

end
-- ==== Proof.AttnRef.lean ====
/-
  What the reference of the attention gradient computes: each of its three results read at an index, in the terms of
  `AttnMath`. The derivative of the softmax is the derivative of a quotient there (`dscoreQ`), which is the kernel's
  form when the queries and the keys are finite; the last lines read that from the precondition.
-/
module

public import proofs.«01_k».proof.Proof.AttnMath
public import proofs.«01_k».proof.Proof.Gen.ReferenceIdeal.Read
public import Idealize.ShloMosaic.Lib.Pointwise
@[expose] public section
set_option maxRecDepth 16384
noncomputable section
namespace Cert.ReferenceIdeal.AttnRef
open Cert.ReferenceIdeal Cert.ReferenceIdeal.Gen Cert.ReferenceIdeal.Read Cert.AttnMath Idealize.ShloMosaic
variable (x0 x3 : Vec Ideal S4096x4096 .bf16) (x1 x2 : Vec Ideal S256x4096 .bf16)

/-- A matrix as a function of its row and column. -/
abbrev matr {n : ℕ} (x : (⟨2, ![n, 4096]⟩ : Shape).Idx → EReal) : Fin n → Fin 4096 → EReal := fun r c => x (ix2 r c)

/-- The column of lane `d` of head `h`. -/
abbrev colOf (h : Fin 4) (d : Fin 1024) : Fin 4096 := ⟨h.val * 1024 + d.val, by omega⟩

/-- The rows of `f`, cut to head `h`. -/
abbrev hd {n : ℕ} (f : Fin n → Fin 4096 → EReal) (h : Fin 4) : Fin n → Row := fun r d => f r (colOf h d)

theorem v12_at (y : S1x4x4096x256.Idx → EReal) (init : S_.Idx → EReal) (h : Fin 4) (r : Fin 4096) :
    Host.reduce max y init reducesTo_S1x4x4096x256_S1x4x4096_d3 h_S_ (ix3 0 h r)
      = Finset.univ.fold max (init (Shape.Idx.first h_S_)) (fun m => y (ix4 0 h r m)) := by
  pointwise
theorem v58_at (y : S1x4x4096x1.Idx → EReal) (h : Fin 4) (r : Fin 4096)  :
    Ideal.hostReduceAdd reducesTo_S1x4x4096x1_S4x4096_d0_3 y 0 (ix2 h r) = y (ix4 0 h r 0) := by
  unfold Ideal.hostReduceAdd
  rw [zero_add, Finset.sum_eq_single (ix4 0 h r 0)]
  · intro i hi hne
    exfalso; apply hne
    have e := (Finset.mem_filter.mp hi).2
    have e0 : i 1 = h := congrFun e 0
    have e1 : i 2 = r := congrFun e 1
    funext a
    match a with
    | 0 => exact Subsingleton.elim (α := Fin 1) _ _
    | 1 => exact e0
    | 2 => exact e1
    | 3 => exact Subsingleton.elim (α := Fin 1) _ _
  · intro hn
    exact absurd (Finset.mem_filter.mpr ⟨Finset.mem_univ _, by funext a; match a with | 0 => rfl | 1 => rfl⟩) hn

theorem v11_at (h : Fin 4) (r : Fin 4096) (m : Fin 256) :
    val_main_v11 (F := Ideal) x0 x1 (ix4 0 h r m) = score (hd (matr x0) h r) (hd (matr x1) h) m := by
  pointwise [val_main_v11, val_main_v10, val_main_v9, val_main_v6, val_main_v7, val_main_v1, val_main_v3, val_main_v0, val_main_v2, val_main_cst]
  simp only [score, scl]

theorem v45_at (h : Fin 4) (r : Fin 4096) (d : Fin 1024) :
    val_main_v45 (F := Ideal) x3 (ix4 0 r h d) = hd (matr x3) h r d := by
  pointwise [val_main_v45, val_main_v44, val_main_v43]

theorem v47_at (h : Fin 4) (r : Fin 4096) (m : Fin 256) :
    val_main_v47 (F := Ideal) x2 x3 (ix4 0 h r m) = dprob (hd (matr x3) h r) (hd (matr x2) h) m := by
  pointwise [val_main_v47, val_main_v46, val_main_v8, val_main_v5, val_main_v4]
  simp only [v45_at, dprob]

theorem v12_eq (h : Fin 4) (r : Fin 4096) :
    val_main_v12 (F := Ideal) x0 x1 (ix3 0 h r) = top (hd (matr x0) h r) (hd (matr x1) h) := by
  refine (v12_at (val_main_v11 (F := Ideal) x0 x1) (val_main_cst_0 (F := Ideal)) h r).trans ?_
  simp only [v11_at]
  rfl

theorem v19_at (h : Fin 4) (r : Fin 4096) :
    val_main_v19 (F := Ideal) x0 x1 (ix3 0 h r) = top (hd (matr x0) h r) (hd (matr x1) h) := by
  have e := v12_eq x0 x1 h r
  rw [val_main_v19_apply, e]
  pointwise [val_main_v18, val_main_cst_2]
  show max low _ = _
  rw [low_eq, max_eq_right bot_le]

theorem v32_at (h : Fin 4) (r : Fin 4096) (m : Fin 256) :
    val_main_v32 (F := Ideal) x0 x1 (ix4 0 h r m) = ex (hd (matr x0) h r) (hd (matr x1) h) m := by
  pointwise [val_main_v32, val_main_v31, val_main_v30, val_main_v29]
  rw [v11_at, v19_at]
  simp only [ex]

theorem v33_at (h : Fin 4) (r : Fin 4096) :
    val_main_v33 (F := Ideal) x0 x1 (ix3 0 h r) = tot (hd (matr x0) h r) (hd (matr x1) h) := by
  pointwise [val_main_v33, val_main_cst_8]
  simp only [v32_at, tot]

theorem v36_at (h : Fin 4) (r : Fin 4096) (m : Fin 256) :
    val_main_v36 (F := Ideal) x0 x1 (ix4 0 h r m) = prob (hd (matr x0) h r) (hd (matr x1) h) m := by
  pointwise [val_main_v36, val_main_v35, val_main_v34]
  rw [v32_at, v33_at]
  simp only [prob]
theorem v53_at (h : Fin 4) (r : Fin 4096) :
    val_main_v53 (F := Ideal) x0 x1 x2 x3 (ix3 0 h r)
      = ∑ n, dprob (hd (matr x3) h r) (hd (matr x2) h) n
          * Ideal.div 1 (tot (hd (matr x0) h r) (hd (matr x1) h) * tot (hd (matr x0) h r) (hd (matr x1) h))
          * ex (hd (matr x0) h r) (hd (matr x1) h) n := by
  pointwise [val_main_v53, val_main_v52, val_main_v51, val_main_v50, val_main_v39, val_main_v38, val_main_v37, val_main_v34, val_main_cst_9, val_main_cst_10]
  simp only [v32_at, v33_at, v47_at]

theorem v58_eq (h : Fin 4) (r : Fin 4096) :
    val_main_v58 (F := Ideal) x0 x1 x2 x3 (ix2 h r) = -val_main_v53 (F := Ideal) x0 x1 x2 x3 (ix3 0 h r) := by
  unfold val_main_v58
  simp only [Host.reduceAdd, Ideal.hostReduceAdd_def]
  rw [show val_main_cst_11 (F := Ideal) (Shape.Idx.first h_S_) = 0 by pointwise [val_main_cst_11], v58_at]
  pointwise [val_main_v55, val_main_v54]

theorem v64_at (h : Fin 4) (r : Fin 4096) (m : Fin 256) :
    val_main_v64 (F := Ideal) x0 x1 x2 x3 (ix4 0 h r m)
      = dscoreQ (hd (matr x0) h r) (hd (matr x3) h r) (hd (matr x1) h) (hd (matr x2) h) m := by
  pointwise [val_main_v64, val_main_v63, val_main_v62, val_main_v61, val_main_v60, val_main_v57, val_main_v59, val_main_v56, val_main_v55, val_main_v54, val_main_v34, val_main_cst_12]
  rw [v58_eq, v53_at, v47_at, v33_at, v32_at]
  simp only [dscoreQ, scl]

section
variable (h0 : ∀ r c, Fin' (x0 (ix2 r c))) (h1 : ∀ r c, Fin' (x1 (ix2 r c)))
include h0 h1

/-- The reference's score gradient is the kernel's. -/
theorem v64_ds (r : Fin 4096) (m : Fin 256) (c : Fin 4096) :
    val_main_v64 (F := Ideal) x0 x1 x2 x3 (ix4 0 ⟨c.val / 1024, by omega⟩ r m)
      = ds (matr x0) (matr x3) (matr x1) (matr x2) c r m := by
  rw [v64_at, dscoreQ_eq _ _ _ _ (fun x => h0 _ _) (fun m x => h1 _ _)]
  rfl

theorem v73_at (r : Fin 4096) (c : Fin 4096) :
    val_main_v73 (F := Ideal) x0 x1 x2 x3 (ix2 r c) = dQ (matr x0) (matr x3) (matr x1) (matr x2) r c := by
  pointwise [val_main_v73, val_main_v72, val_main_v71, val_main_v68, val_main_v67, val_main_v7, val_main_v3, val_main_v2]
  simp only [v64_ds x0 x3 x1 x2 h0 h1, dQ]

theorem v75_at (m : Fin 256) (c : Fin 4096) :
    val_main_v75 (F := Ideal) x0 x1 x2 x3 (ix2 m c) = dK (matr x0) (matr x3) (matr x1) (matr x2) m c := by
  pointwise [val_main_v75, val_main_v74, val_main_v70, val_main_v66, val_main_v65, val_main_v6, val_main_v1, val_main_v0]
  simp only [v64_ds x0 x3 x1 x2 h0 h1, dK]
end

theorem v77_at (m : Fin 256) (c : Fin 4096) :
    val_main_v77 (F := Ideal) x0 x1 x3 (ix2 m c) = dV (matr x0) (matr x3) (matr x1) m c := by
  pointwise [val_main_v77, val_main_v76, val_main_v69, val_main_v49, val_main_v48, val_main_v46]
  simp only [v36_at, dV]
  refine Finset.sum_congr rfl fun r _ => ?_
  rw [mul_comm, v45_at]
  exact congrArg (_ * ·) (congrArg (matr x3 r) (Fin.ext (Nat.div_add_mod' _ _)))

/-! ## The precondition -/

/-- The word of +∞. -/
theorem inf_eq : Ideal.ofBits .f32 0x7F800000#32 = ⊤ := by simp [Ideal.ofBits, Ideal.ieee]

/-- An absolute value below +∞ is that of a finite number. -/
theorem fin_of_abs {x : EReal} (h : Ideal.cmp .olt (max x (-x)) (Ideal.ofBits .f32 0x7F800000#32) = 1#1) : Fin' x := by
  have hlt : max x (-x) < ⊤ := by
    by_contra hn
    rw [inf_eq] at h
    simp [Ideal.cmp, hn] at h
  refine ⟨?_, ?_⟩ <;> rintro rfl <;> simp at hlt

end Cert.ReferenceIdeal.AttnRef
end
-- ==== Proof.AttnAlg.lean ====
/-
  The attention gradient: the kernel's three results are the reference's, when the queries and the keys are finite.
-/
module

public import proofs.«01_k».proof.Defs
public import proofs.«01_k».proof.Proof.AttnKernel
public import proofs.«01_k».proof.Proof.AttnRef
public import proofs.«01_k».proof.Proof.Gen.Kernel
public import proofs.«01_k».proof.Proof.Gen.ReferenceIdeal.Run

@[expose] public section

set_option maxRecDepth 16384

noncomputable section

namespace Cert.AttnAlg

open Idealize.ShloMosaic Idealize.SL.Sem Cert.AttnMath Cert.ReferenceIdeal.AttnRef

/-- The side conditions of the precondition's operations. -/
theorem preFacts : Cert.Pre_finite.Facts where
  bitsLt_bf16_f32 := by decide
  bcast_S_S4096x4096 := by decide
  bcast_S_S256x4096 := by decide

attribute [local instance] Cert.KernelIdeal.Gen.facts Cert.ReferenceIdeal.Gen.facts preFacts

/-- Under the precondition every entry of the queries is finite. -/
theorem fin_q (a0 a3 : Vec Ideal Cert.Pre_finite.S4096x4096 .bf16) (a1 a2 : Vec Ideal Cert.Pre_finite.S256x4096 .bf16)
    (h : (Cert.Pre_finite.fn (F := Ideal) a0 a1 a2 a3).1 = fun _ => 1#1) (r c : Fin 4096) : Fin' (a0 (ix2 r c)) :=
  fin_of_abs (congrFun h (ix2 r c))

/-- Under the precondition every entry of the keys is finite. -/
theorem fin_k (a0 a3 : Vec Ideal Cert.Pre_finite.S4096x4096 .bf16) (a1 a2 : Vec Ideal Cert.Pre_finite.S256x4096 .bf16)
    (h : (Cert.Pre_finite.fn (F := Ideal) a0 a1 a2 a3).2 = fun _ => 1#1) (r : Fin 256) (c : Fin 4096) :
    Fin' (a1 (ix2 r c)) :=
  fin_of_abs (congrFun h (ix2 r c))

/-- The claim. -/
theorem algebraic : Cert.algebraic_KernelIdeal_ReferenceIdeal_pre_finite := by
  intro m g m' g' hpre hargs
  refine ⟨fun c => Cert.KernelIdeal.Value.G4 m c, fun c => Cert.KernelIdeal.Value.G5 m c, fun c => Cert.KernelIdeal.Value.G6 m c,
    Cert.KernelIdeal.Value.run m g, ?_⟩
  refine (θ_run _ _ _).mono (fun r h c => ?_) (Cert.ReferenceIdeal.Value.run m' g')
  obtain ⟨e73, e75, e77, k0, k1, k2, k3⟩ := h c
  obtain ⟨a0, a1, a2, a3⟩ := hargs c
  have hq := fin_q _ _ _ _ (hpre c).1
  have hk := fin_k _ _ _ _ (hpre c).2
  refine ⟨e73.trans ?_, e75.trans ?_, e77.trans ?_, k0, k1, k2, k3⟩
  · rw [Cert.ReferenceIdeal.Read.val_main_v73_eq, a0, a1, a2, a3, show (fun c => Cert.KernelIdeal.Value.G4 m c) c = Cert.KernelIdeal.Value.G4 m c from rfl,
      Cert.KernelIdeal.AttnKernel.G4_eq]
    funext y
    conv_lhs => rw [← ix2_eta y]
    exact v73_at _ _ _ _ hq hk (y 0) (y 1)
  · rw [Cert.ReferenceIdeal.Read.val_main_v75_eq, a0, a1, a2, a3, show (fun c => Cert.KernelIdeal.Value.G5 m c) c = Cert.KernelIdeal.Value.G5 m c from rfl,
      Cert.KernelIdeal.AttnKernel.G5_eq]
    funext y
    conv_lhs => rw [← ix2_eta y]
    exact v75_at _ _ _ _ hq hk (y 0) (y 1)
  · refine (Cert.ReferenceIdeal.Read.val_main_v77_eq _ _ _).trans ?_
    rw [a0, a1, a3, show (fun c => Cert.KernelIdeal.Value.G6 m c) c = Cert.KernelIdeal.Value.G6 m c from rfl,
      Cert.KernelIdeal.AttnKernel.G6_eq]
    funext y
    conv_lhs => rw [← ix2_eta y]
    exact v77_at _ _ _ (y 0) (y 1)

/-- The reference runs, keeps its arguments, and holds no semaphore. -/
theorem frame_r : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run m g)

end Cert.AttnAlg

end
-- ==== Proof.MixRegion.lean ====
/-
  What the body of the mixer's gradient computes on one region of a block (64 rows by 128 channels): the two convolutions
  with the taps turned round, and the four gradients, read at a row and a channel.
-/
module

public import proofs.«01_k».proof.Defs
public import proofs.«01_k».proof.Proof.Gen.MixIdeal.Value
public import Idealize.ShloMosaic.Lib.Pointwise
public import Idealize.ShloMosaic.Lib.Pipeline.ValueKit.Basic
public import Idealize.ShloMosaic.Lib.Pipeline.ReadBack

@[expose] public section

set_option maxRecDepth 16384

noncomputable section

namespace Cert.MixRegion

open Cert.MixIdeal Cert.MixIdeal.Gen Idealize.ShloMosaic
open Idealize.ShloMosaic.TcCoe

/-! ## The operations of a region -/

/-- A tap's product: 64 rows of the window from row `o`, times the tap's row of weights. -/
abbrev term (v : FVec Ideal S96x128 .f32) (w : Vec Ideal S1x128 .f32) (o : ℕ) (h : S96x128.Slices ![o, 0] S64x128) :
    FVec Ideal S64x128 .f32 := mulf (extractStridedSlice S64x128 ![o, 0] v h) (broadcastTo S64x128 w broadcasts_S1x128_S64x128)

abbrev turned (n : BitVec 32) (v : FVec Ideal S96x128 .f32) : FVec Ideal S96x128 .f32 :=
  dynamicRotate 0 n none v rotates_S96x128_d0

/-- Three taps of one rotation added to a sum, and a fourth. -/
abbrev three (acc : FVec Ideal S64x128 .f32) (v : FVec Ideal S96x128 .f32) (w0 w1 w2 : Vec Ideal S1x128 .f32) : FVec Ideal S64x128 .f32 :=
  addf (addf (addf acc (term v w0 0 slices_S96x128_o0_0_S64x128)) (term v w1 8 slices_S96x128_o8_0_S64x128))
    (term v w2 16 slices_S96x128_o16_0_S64x128)

abbrev four (acc : FVec Ideal S64x128 .f32) (v : FVec Ideal S96x128 .f32) (w0 w1 w2 w3 : Vec Ideal S1x128 .f32) : FVec Ideal S64x128 .f32 :=
  addf (three acc v w0 w1 w2) (term v w3 24 slices_S96x128_o24_0_S64x128)

/-- The convolution of 31 taps on a region. -/
abbrev convA (v : Vec Ideal S96x128 .f32) (w : (k : ℕ) → k < 31 → Vec Ideal S1x128 .f32) : FVec Ideal S64x128 .f32 :=
  let s0 := addf (addf (addf (term v (w 30 (by decide)) 0 slices_S96x128_o0_0_S64x128) (term v (w 22 (by decide)) 8 slices_S96x128_o8_0_S64x128))
    (term v (w 14 (by decide)) 16 slices_S96x128_o16_0_S64x128)) (term v (w 6 (by decide)) 24 slices_S96x128_o24_0_S64x128)
  let s1 := four s0 (turned 95#32 v) (w 29 (by decide)) (w 21 (by decide)) (w 13 (by decide)) (w 5 (by decide))
  let s2 := four s1 (turned 94#32 v) (w 28 (by decide)) (w 20 (by decide)) (w 12 (by decide)) (w 4 (by decide))
  let s3 := four s2 (turned 93#32 v) (w 27 (by decide)) (w 19 (by decide)) (w 11 (by decide)) (w 3 (by decide))
  let s4 := four s3 (turned 92#32 v) (w 26 (by decide)) (w 18 (by decide)) (w 10 (by decide)) (w 2 (by decide))
  let s5 := four s4 (turned 91#32 v) (w 25 (by decide)) (w 17 (by decide)) (w 9 (by decide)) (w 1 (by decide))
  let s6 := four s5 (turned 90#32 v) (w 24 (by decide)) (w 16 (by decide)) (w 8 (by decide)) (w 0 (by decide))
  three s6 (turned 89#32 v) (w 23 (by decide)) (w 15 (by decide)) (w 7 (by decide))

abbrev termB (v : FVec Ideal S72x128 .f32) (w : Vec Ideal S1x128 .f32) : FVec Ideal S64x128 .f32 :=
  mulf (extractStridedSlice S64x128 ![0, 0] v slices_S72x128_o0_0_S64x128) (broadcastTo S64x128 w broadcasts_S1x128_S64x128)

/-- The convolution of 3 taps on a region. -/
abbrev convB (v : Vec Ideal S72x128 .f32) (w : (k : ℕ) → k < 3 → Vec Ideal S1x128 .f32) : FVec Ideal S64x128 .f32 :=
  addf (addf (termB v (w 2 (by decide))) (termB (dynamicRotate 0 71#32 none v rotates_S72x128_d0) (w 1 (by decide))))
    (termB (dynamicRotate 0 70#32 none v rotates_S72x128_d0) (w 0 (by decide)))

/-- The sigmoid of a region, through the hyperbolic tangent. -/
abbrev sigR (z : Vec Ideal S64x128 .bf16) : FVec Ideal S64x128 .f32 :=
  addf (mulf (broadcast S64x128 (Scalar.ofBits .f32 0x3F000000#32)) (tanh (mulf (broadcast S64x128 (Scalar.ofBits .f32 0x3F000000#32))
    (extf .f32 z bitsLt_bf16_f32)))) (broadcast S64x128 (Scalar.ofBits .f32 0x3F000000#32))

/-- The product of a region with a value of the projection, rounded. -/
abbrev outR (u : FVec Ideal S64x128 .f32) : FVec Ideal S64x128 .bf16 :=
  shapeCast S64x128 (truncf .bf16 u bitsLt_bf16_f32) shapeCasts_S64x128_S64x128

abbrev davR (u : FVec Ideal S64x128 .f32) (z : Vec Ideal S64x128 .bf16) : FVec Ideal S64x128 .bf16 := outR (mulf u (sigR z))

abbrev dagR (u : FVec Ideal S64x128 .f32) (a z : Vec Ideal S64x128 .bf16) : FVec Ideal S64x128 .bf16 :=
  outR (mulf (mulf u (extf .f32 a bitsLt_bf16_f32)) (mulf (sigR z) (subf (broadcast S64x128 (Scalar.ofBits .f32 0x3F800000#32)) (sigR z))))

abbrev prodR (u : FVec Ideal S64x128 .f32) (a : Vec Ideal S64x128 .bf16) : FVec Ideal S64x128 .bf16 :=
  outR (mulf u (extf .f32 a bitsLt_bf16_f32))

/-! ## Read at a row and a channel -/

/-- The sigmoid, through the hyperbolic tangent. -/
abbrev sig (z : EReal) : EReal := ((1 / 2 : ℝ) : EReal) * Ideal.tanh (((1 / 2 : ℝ) : EReal) * z) + ((1 / 2 : ℝ) : EReal)

theorem term_at (v : FVec Ideal S96x128 .f32) (w : Vec Ideal S1x128 .f32) (o : ℕ) (h) (i : Fin 64) (j : Fin 128) (ho : o + 64 ≤ 96) :
    term v w o h (ix2 i j) = v (ix2 (Fin.ofNat 96 (i.val + o)) j) * w (ix2 0 j) := by
  unfold term
  pointwise
  congr 3
  apply Fin.ext
  show o + i.val = (i.val + o) % 96
  omega

theorem turned_at (b : ℕ) (n : BitVec 32) (hn : n.toNat + b = 96) (hb : 0 < b) (v : FVec Ideal S96x128 .f32) (i : Fin 96) (j : Fin 128) :
    turned n v (ix2 i j) = v (ix2 (Fin.ofNat 96 (i.val + b)) j) := by
  unfold turned
  pointwise
  congr 2
  apply Fin.ext
  show (i.val + 96 - n.toNat % 96) % 96 = (i.val + b) % 96
  omega

theorem termB_at (v : FVec Ideal S72x128 .f32) (w : Vec Ideal S1x128 .f32) (i : Fin 64) (j : Fin 128) :
    termB v w (ix2 i j) = v (ix2 (Fin.ofNat 72 i.val) j) * w (ix2 0 j) := by
  unfold termB
  pointwise
  congr 3
  apply Fin.ext
  show i.val = i.val % 72
  omega

theorem turnedB_at (b : ℕ) (n : BitVec 32) (hn : n.toNat + b = 72) (hb : 0 < b) (v : FVec Ideal S72x128 .f32) (i : Fin 72) (j : Fin 128) :
    dynamicRotate 0 n none v rotates_S72x128_d0 (ix2 i j) = v (ix2 (Fin.ofNat 72 (i.val + b)) j) := by
  pointwise
  congr 2
  apply Fin.ext
  show (i.val + 72 - n.toNat % 72) % 72 = (i.val + b) % 72
  omega

theorem sum31 (f : Fin 31 → EReal) :
    f 0 + f 8 + f 16 + f 24 + f 1 + f 9 + f 17 + f 25 + f 2 + f 10 + f 18 + f 26 + f 3 + f 11 + f 19 + f 27 + f 4 + f 12 + f 20 + f 28
      + f 5 + f 13 + f 21 + f 29 + f 6 + f 14 + f 22 + f 30 + f 7 + f 15 + f 23 = ∑ k, f k := by
  simp only [Fin.sum_univ_castSucc, Fin.sum_univ_zero, zero_add]
  simp only [Fin.castSucc, Fin.castAdd, Fin.castLE, Fin.last]
  show _ = f 0 + f 1 + f 2 + f 3 + f 4 + f 5 + f 6 + f 7 + f 8 + f 9 + f 10 + f 11 + f 12 + f 13 + f 14 + f 15 + f 16 + f 17 + f 18 + f 19 + f 20
    + f 21 + f 22 + f 23 + f 24 + f 25 + f 26 + f 27 + f 28 + f 29 + f 30
  ac_rfl

/-- The convolution of 31 taps at a row and a channel of a region. -/
theorem convA_at (v : Vec Ideal S96x128 .f32) (w : (k : ℕ) → k < 31 → Vec Ideal S1x128 .f32) (i : Fin 64) (j : Fin 128) :
    convA v w (ix2 i j) = ∑ k : Fin 31, v (ix2 (Fin.ofNat 96 (i.val + k)) j) * w (30 - k) (by omega) (ix2 0 j) := by
  have r : ∀ (o : ℕ) (n : BitVec 32) (h) (u : Vec Ideal S1x128 .f32) (hn : n.toNat < 96) (hb : 0 < n.toNat) (ho : o + 64 ≤ 96),
      term (turned n v) u o h (ix2 i j) = v (ix2 (Fin.ofNat 96 (i.val + (o + (96 - n.toNat)))) j) * u (ix2 0 j) := by
    intro o n h u hn hb ho
    rw [term_at _ _ _ _ _ _ ho, turned_at (96 - n.toNat) n (by omega) (by omega)]
    congr 3
    apply Fin.ext
    show ((i.val + o) % 96 + (96 - n.toNat)) % 96 = (i.val + (o + (96 - n.toNat))) % 96
    omega
  rw [← sum31]
  unfold convA three four
  simp only [addf_apply]
  repeat rw [r]
  repeat rw [term_at]
  all_goals first | decide | rfl

/-- The convolution of 3 taps at a row and a channel of a region. -/
theorem convB_at (v : Vec Ideal S72x128 .f32) (w : (k : ℕ) → k < 3 → Vec Ideal S1x128 .f32) (i : Fin 64) (j : Fin 128) :
    convB v w (ix2 i j) = ∑ k : Fin 3, v (ix2 (Fin.ofNat 72 (i.val + k)) j) * w (2 - k) (by omega) (ix2 0 j) := by
  have r : ∀ (b : ℕ) (n : BitVec 32) (hn : n.toNat + b = 72) (hb : 0 < b) (u : Vec Ideal S1x128 .f32),
      termB (dynamicRotate 0 n none v rotates_S72x128_d0) u (ix2 i j) = v (ix2 (Fin.ofNat 72 (i.val + b)) j) * u (ix2 0 j) := by
    intro b n hn hb u
    rw [termB_at, turnedB_at b n hn hb]
    congr 3
    apply Fin.ext
    show (i.val % 72 + b) % 72 = (i.val + b) % 72
    omega
  rw [Fin.sum_univ_three]
  show termB _ _ _ + termB _ _ _ + termB _ _ _ = _
  rw [termB_at, r 1 71#32 (by decide) (by decide), r 2 70#32 (by decide) (by decide)]
  rfl

theorem half : Scalar.ofBits (F := Ideal) .f32 0x3F000000#32 = ((1 / 2 : ℝ) : EReal) := by
  show Ideal.ofBits .f32 0x3F000000#32 = _
  simp [Ideal.ofBits, Ideal.ieee, -EReal.coe_mul]; norm_num

theorem sigR_at (z : Vec Ideal S64x128 .bf16) (i : Fin 64) (j : Fin 128) : sigR z (ix2 i j) = sig (z (ix2 i j)) := by
  unfold sigR
  rw [half]
  pointwise

end Cert.MixRegion

end
-- ==== Proof.FfRegion.lean ====
/-
  What the body of the ConvFFN's gated convolution computes on one region of a block (64 rows by `d` features), read at a row
  and a feature.
-/
module

public import proofs.«01_k».proof.Defs
public import proofs.«01_k».proof.Proof.Gen.FfnFwdIdeal.Value
public import proofs.«01_k».proof.Proof.MixRegion
public import Idealize.ShloMosaic.Lib.Pointwise
public import Idealize.ShloMosaic.Lib.Pipeline.ValueKit.Basic
public import Idealize.ShloMosaic.Lib.Pipeline.ReadBack

@[expose] public section

set_option maxRecDepth 16384

noncomputable section

namespace Cert.FfRegion

open Cert.FfnFwdIdeal Cert.FfnFwdIdeal.Gen Idealize.ShloMosaic
open Idealize.ShloMosaic.TcCoe
open Cert.MixRegion (sig half)

/-- The facts of the shapes of a region of `d` features. -/
structure Width (d : ℕ) : Prop where
  sl : (⟨2, ![72, d]⟩ : Shape).Slices ![8, 0] ⟨2, ![64, d]⟩
  br : (⟨2, ![1, d]⟩ : Shape).Broadcasts ⟨2, ![64, d]⟩
  tap : (⟨3, ![1, 1, d]⟩ : Shape).ShapeCasts ⟨2, ![1, d]⟩
  rot : (⟨2, ![72, d]⟩ : Shape).Rotates 0 none
  inn : (⟨3, ![1, 64, d]⟩ : Shape).ShapeCasts ⟨2, ![64, d]⟩
  out : (⟨2, ![64, d]⟩ : Shape).ShapeCasts ⟨3, ![1, 64, d]⟩

theorem wide : Width 128 := ⟨slices_S72x128_o8_0_S64x128, broadcasts_S1x128_S64x128, shapeCasts_S1x1x128_S1x128,
  rotates_S72x128_d0, shapeCasts_S1x64x128_S64x128, shapeCasts_S64x128_S1x64x128⟩

theorem narrow : Width 96 := ⟨slices_S72x96_o8_0_S64x96, broadcasts_S1x96_S64x96, shapeCasts_S1x1x96_S1x96,
  rotates_S72x96_d0, shapeCasts_S1x64x96_S64x96, shapeCasts_S64x96_S1x64x96⟩

section
variable {d : ℕ} (W : Width d)

/-- A tap's product: 64 rows of the window, times the tap's row of weights. -/
abbrev term (v : FVec Ideal (⟨2, ![72, d]⟩ : Shape) .f32) (w : Vec Ideal (⟨3, ![1, 1, d]⟩ : Shape) .f32) :
    FVec Ideal (⟨2, ![64, d]⟩ : Shape) .f32 :=
  mulf (extractStridedSlice (⟨2, ![64, d]⟩ : Shape) ![8, 0] v W.sl)
    (broadcastTo (⟨2, ![64, d]⟩ : Shape) (shapeCast (⟨2, ![1, d]⟩ : Shape) w W.tap) W.br)

/-- The causal convolution of three taps on a region. -/
abbrev convR (v : Vec Ideal (⟨2, ![72, d]⟩ : Shape) .f32) (w : (k : ℕ) → k < 3 → Vec Ideal (⟨3, ![1, 1, d]⟩ : Shape) .f32) :
    FVec Ideal (⟨2, ![64, d]⟩ : Shape) .f32 :=
  addf (addf (term W v (w 2 (by decide))) (term W (dynamicRotate 0 1#32 none v W.rot) (w 1 (by decide))))
    (term W (dynamicRotate 0 2#32 none v W.rot) (w 0 (by decide)))

/-- The sigmoid of a region, through the hyperbolic tangent. -/
abbrev sigR {S : Shape} (z : FVec Ideal S .f32) : FVec Ideal S .f32 :=
  addf (mulf (broadcast S (Scalar.ofBits .f32 0x3F000000#32)) (tanh (mulf (broadcast S (Scalar.ofBits .f32 0x3F000000#32)) z)))
    (broadcast S (Scalar.ofBits .f32 0x3F000000#32))

/-- The output on a region. -/
abbrev actR (g : FVec Ideal (⟨2, ![64, d]⟩ : Shape) .f32) (u : Vec Ideal (⟨3, ![1, 64, d]⟩ : Shape) .bf16) :
    FVec Ideal (⟨3, ![1, 64, d]⟩ : Shape) .bf16 :=
  shapeCast (⟨3, ![1, 64, d]⟩ : Shape) (truncf .bf16 (mulf (mulf g (sigR g))
    (extf .f32 (shapeCast (⟨2, ![64, d]⟩ : Shape) u W.inn) bitsLt_bf16_f32)) bitsLt_bf16_f32) W.out

theorem row_at (w : Vec Ideal (⟨3, ![1, 1, d]⟩ : Shape) .f32) (i : Fin 64) (j : Fin d) :
    broadcastTo (⟨2, ![64, d]⟩ : Shape) (shapeCast (⟨2, ![1, d]⟩ : Shape) w W.tap) W.br (ix2 i j) = w (ix3 0 0 j) := by
  pointwise
  refine (shapeCast_dropUnit_apply ![1, d] w W.tap _).trans (congrArg w ?_)
  funext a
  match a with
  | ⟨0, _⟩ => rfl
  | ⟨1, _⟩ => exact Subsingleton.elim (α := Fin 1) _ _
  | ⟨2, _⟩ =>
    apply Fin.ext
    show (if h : d = 1 then (⟨0, _⟩ : Fin d) else ⟨j.val, _⟩).val = j.val
    split_ifs with h
    · show 0 = j.val
      omega
    · rfl

theorem inn_at (u : Vec Ideal (⟨3, ![1, 64, d]⟩ : Shape) .bf16) (i : Fin 64) (j : Fin d) :
    shapeCast (⟨2, ![64, d]⟩ : Shape) u W.inn (ix2 i j) = u (ix3 0 i j) := by
  refine (shapeCast_dropUnit_apply ![64, d] u W.inn _).trans (congrArg u ?_)
  funext a
  match a with
  | ⟨0, _⟩ => rfl
  | ⟨1, _⟩ => rfl
  | ⟨2, _⟩ => rfl

theorem term_at (v : FVec Ideal (⟨2, ![72, d]⟩ : Shape) .f32) (w : Vec Ideal (⟨3, ![1, 1, d]⟩ : Shape) .f32) (i : Fin 64) (j : Fin d) :
    term W v w (ix2 i j) = v (ix2 (Fin.ofNat 72 (i.val + 8)) j) * w (ix3 0 0 j) := by
  unfold term
  rw [mulf_apply, row_at W]
  refine congrArg (· * w (ix3 0 0 j)) (congrArg v ?_)
  funext a
  apply Fin.ext
  match a with
  | ⟨0, _⟩ => show 8 + i.val = (i.val + 8) % 72; omega
  | ⟨1, _⟩ => exact Nat.zero_add _

theorem turned_at (n : BitVec 32) (hn : n.toNat < 72) (v : FVec Ideal (⟨2, ![72, d]⟩ : Shape) .f32) (i : Fin 72) (j : Fin d) :
    dynamicRotate 0 n none v W.rot (ix2 i j) = v (ix2 (Fin.ofNat 72 (i.val + 72 - n.toNat)) j) := by
  pointwise
  refine congrArg v ?_
  funext a
  apply Fin.ext
  match a with
  | ⟨0, _⟩ => show (i.val + 72 - n.toNat % 72) % 72 = (i.val + 72 - n.toNat) % 72; omega
  | ⟨1, _⟩ => rfl

/-- The convolution at a row and a feature of a region. -/
theorem convR_at (v : Vec Ideal (⟨2, ![72, d]⟩ : Shape) .f32) (w : (k : ℕ) → k < 3 → Vec Ideal (⟨3, ![1, 1, d]⟩ : Shape) .f32)
    (i : Fin 64) (j : Fin d) :
    convR W v w (ix2 i j) = ∑ k : Fin 3, v (ix2 (Fin.ofNat 72 (i.val + (8 - k))) j) * w (2 - k) (by omega) (ix3 0 0 j) := by
  have r : ∀ (n : BitVec 32) (hn : n.toNat ≤ 8) (u : Vec Ideal (⟨3, ![1, 1, d]⟩ : Shape) .f32),
      term W (dynamicRotate 0 n none v W.rot) u (ix2 i j) = v (ix2 (Fin.ofNat 72 (i.val + (8 - n.toNat))) j) * u (ix3 0 0 j) := by
    intro n hn u
    rw [term_at, turned_at W n (by omega)]
    congr 3
    apply Fin.ext
    show ((i.val + 8) % 72 + 72 - n.toNat) % 72 = (i.val + (8 - n.toNat)) % 72
    omega
  rw [Fin.sum_univ_three]
  show term W _ _ _ + term W _ _ _ + term W _ _ _ = _
  rw [term_at, r 1#32 (by decide), r 2#32 (by decide)]
  rfl

theorem actR_at (g : FVec Ideal (⟨2, ![64, d]⟩ : Shape) .f32) (u : Vec Ideal (⟨3, ![1, 64, d]⟩ : Shape) .bf16) (i : Fin 64) (j : Fin d) :
    actR W g u (ix3 0 i j) = g (ix2 i j) * sig (g (ix2 i j)) * u (ix3 0 i j) := by
  unfold actR sigR
  rw [half]
  refine (shapeCast_addUnit_apply ![64, d] _ _ _).trans ?_
  have e : (fun a : Fin 2 => (ix3 (0 : Fin 1) i j) a.succ) = ix2 i j := by
    funext a
    match a with
    | ⟨0, _⟩ => rfl
    | ⟨1, _⟩ => rfl
  refine (congrArg _ e).trans ?_
  have eu := inn_at W u i j
  generalize shapeCast (⟨2, ![64, d]⟩ : Shape) u W.inn = u' at eu ⊢
  rw [← eu]
  pointwise
end

end Cert.FfRegion

end
-- ==== Proof.MixRef.lean ====
/-
  What the reference of the mixer's gradient computes, at a row and a channel: the derivative of a causal convolution is
  the convolution with the taps turned round, reading the rows ahead; the gates' derivatives multiply it.
-/
module

public import proofs.«01_k».proof.Defs
public import proofs.«01_k».proof.Proof.Gen.MixRefIdeal.Read
public import Idealize.ShloMosaic.Lib.Pointwise

@[expose] public section

set_option maxRecDepth 16384

noncomputable section

namespace Cert.MixRef

open Cert.MixRefIdeal Cert.MixRefIdeal.Gen Cert.MixRefIdeal.Read Idealize.ShloMosaic
open Idealize.ShloMosaic.TcCoe

/-- The contribution of the row `j` ahead of row `t` to the derivative of a causal convolution of `n + 1` taps. -/
def ahead {n : ℕ} (x : (⟨2, ![4096, 2048]⟩ : Shape).Idx → EReal) (w : (⟨2, ![n + 1, 2048]⟩ : Shape).Idx → EReal)
    (t : Fin 4096) (c : Fin 2048) (j : ℕ) : EReal :=
  if h : t.val + j < 4096 then x (ix2 ⟨t.val + j, h⟩ c) * w (ix2 (⟨n - j, by omega⟩ : Fin (n + 1)) c) else 0

/-- The derivative of a causal convolution of `n + 1` taps, at a row and a channel. -/
def adjoint {n : ℕ} (x : (⟨2, ![4096, 2048]⟩ : Shape).Idx → EReal) (w : (⟨2, ![n + 1, 2048]⟩ : Shape).Idx → EReal)
    (t : Fin 4096) (c : Fin 2048) : EReal := ∑ j ∈ Finset.range (n + 1), ahead x w t c j

/-- One tap of the derivative: the product with the tap, moved to the rows it came from, zero outside. -/
theorem tap_a (p q : ℕ) (hp : p ≤ 30) (x : Vec Ideal S4096x2048 .f32) (w : Vec Ideal S31x2048 .f32) (h0 h1 h2 h3 h4 h5 h6)
    (t : Fin 4096) (c : Fin 2048) (ht : 30 + t.val < 4126) :
    pad S4126x2048 ![p, 0] ![q, 0] ![0, 0] (mulf (F := Ideal) (φ := .f32) (shapeCast S4096x2048 x h0) (broadcastInDim S4096x2048 ![0, 1] h1
        (broadcastInDim S1x2048 ![1] h2 (shapeCast S2048 (extractStridedSlice S1x2048 ![p, 0] w h4) h3))))
        (constant S_ .f32 0x00000000#32) h5 h6 (ix2 (⟨30 + t.val, ht⟩ : Fin 4126) c) = ahead (n := 30) x w t c (30 - p) := by
  pointwise
  unfold ahead
  by_cases hl : t.val + (30 - p) < 4096
  · rw [dif_pos hl, dif_pos ⟨by omega, by omega⟩]
    congr 3 <;> congr 1 <;> omega
  · rw [dif_neg hl, dif_neg (by omega)]

theorem tap_b (p q : ℕ) (hp : p ≤ 2) (x : Vec Ideal S4096x2048 .f32) (w : Vec Ideal S3x2048 .f32) (h0 h1 h2 h3 h4 h5 h6)
    (t : Fin 4096) (c : Fin 2048) (ht : 2 + t.val < 4098) :
    pad S4098x2048 ![p, 0] ![q, 0] ![0, 0] (mulf (F := Ideal) (φ := .f32) (shapeCast S4096x2048 x h0) (broadcastInDim S4096x2048 ![0, 1] h1
        (broadcastInDim S1x2048 ![1] h2 (shapeCast S2048 (extractStridedSlice S1x2048 ![p, 0] w h4) h3))))
        (constant S_ .f32 0x00000000#32) h5 h6 (ix2 (⟨2 + t.val, ht⟩ : Fin 4098) c) = ahead (n := 2) x w t c (2 - p) := by
  pointwise
  unfold ahead
  by_cases hl : t.val + (2 - p) < 4096
  · rw [dif_pos hl, dif_pos ⟨by omega, by omega⟩]
    congr 3 <;> congr 1 <;> omega
  · rw [dif_neg hl, dif_neg (by omega)]

theorem val_402 (x : Vec Ideal S4096x2048 .f32) (w : Vec Ideal S31x2048 .f32) (t : Fin 4096) (c : Fin 2048) :
    val_main_v402 (F := Ideal) x w (ix2 t c) = adjoint (n := 30) x w t c := by
  have ht : 30 + t.val < 4126 := by omega
  simp only [
    val_main_v20, val_main_v21, val_main_v22, val_main_v26, val_main_v27, val_main_v28, val_main_v33, val_main_v34,
    val_main_v35, val_main_v40, val_main_v41, val_main_v42, val_main_v47, val_main_v48, val_main_v49, val_main_v54,
    val_main_v55, val_main_v56, val_main_v61, val_main_v62, val_main_v63, val_main_v68, val_main_v69, val_main_v70,
    val_main_v75, val_main_v76, val_main_v77, val_main_v82, val_main_v83, val_main_v84, val_main_v89, val_main_v90,
    val_main_v91, val_main_v96, val_main_v97, val_main_v98, val_main_v103, val_main_v104, val_main_v105,
    val_main_v110, val_main_v111, val_main_v112, val_main_v117, val_main_v118, val_main_v119, val_main_v124,
    val_main_v125, val_main_v126, val_main_v131, val_main_v132, val_main_v133, val_main_v138, val_main_v139,
    val_main_v140, val_main_v145, val_main_v146, val_main_v147, val_main_v152, val_main_v153, val_main_v154,
    val_main_v159, val_main_v160, val_main_v161, val_main_v166, val_main_v167, val_main_v168, val_main_v173,
    val_main_v174, val_main_v175, val_main_v180, val_main_v181, val_main_v182, val_main_v187, val_main_v188,
    val_main_v189, val_main_v194, val_main_v195, val_main_v196, val_main_v201, val_main_v202, val_main_v203,
    val_main_v208, val_main_v209, val_main_v210, val_main_v215, val_main_v216, val_main_v217, val_main_v222,
    val_main_v223, val_main_v224, val_main_v229, val_main_v230, val_main_v231, val_main_v276, val_main_v277,
    val_main_v278, val_main_v279, val_main_v280, val_main_v281, val_main_v282, val_main_v283, val_main_v284,
    val_main_v285, val_main_v286, val_main_v287, val_main_v288, val_main_v289, val_main_v290, val_main_v291,
    val_main_v292, val_main_v293, val_main_v294, val_main_v295, val_main_v296, val_main_v297, val_main_v298,
    val_main_v299, val_main_v300, val_main_v301, val_main_v302, val_main_v303, val_main_v304, val_main_v305,
    val_main_v306, val_main_v307, val_main_v308, val_main_v309, val_main_v310, val_main_v311, val_main_v312,
    val_main_v313, val_main_v314, val_main_v315, val_main_v316, val_main_v317, val_main_v318, val_main_v319,
    val_main_v320, val_main_v321, val_main_v322, val_main_v323, val_main_v324, val_main_v325, val_main_v326,
    val_main_v327, val_main_v328, val_main_v329, val_main_v330, val_main_v331, val_main_v332, val_main_v333,
    val_main_v334, val_main_v335, val_main_v336, val_main_v337, val_main_v338, val_main_v339, val_main_v340,
    val_main_v341, val_main_v342, val_main_v343, val_main_v344, val_main_v345, val_main_v346, val_main_v347,
    val_main_v348, val_main_v349, val_main_v350, val_main_v351, val_main_v352, val_main_v353, val_main_v354,
    val_main_v355, val_main_v356, val_main_v357, val_main_v358, val_main_v359, val_main_v360, val_main_v361,
    val_main_v362, val_main_v363, val_main_v364, val_main_v365, val_main_v366, val_main_v367, val_main_v368,
    val_main_v369, val_main_v370, val_main_v371, val_main_v372, val_main_v373, val_main_v374, val_main_v375,
    val_main_v376, val_main_v377, val_main_v378, val_main_v379, val_main_v380, val_main_v381, val_main_v382,
    val_main_v383, val_main_v384, val_main_v385, val_main_v386, val_main_v387, val_main_v388, val_main_v389,
    val_main_v390, val_main_v391, val_main_v392, val_main_v393, val_main_v394, val_main_v395, val_main_v396,
    val_main_v397, val_main_v398, val_main_v399, val_main_v400, val_main_v402, val_main_cst_9, val_main_cst_10,
    val_main_cst_11, val_main_cst_12, val_main_cst_13, val_main_cst_14, val_main_cst_15, val_main_cst_16,
    val_main_cst_17, val_main_cst_18, val_main_cst_19, val_main_cst_20, val_main_cst_21, val_main_cst_22,
    val_main_cst_23, val_main_cst_24, val_main_cst_25, val_main_cst_26, val_main_cst_27, val_main_cst_28,
    val_main_cst_29, val_main_cst_30, val_main_cst_31, val_main_cst_32, val_main_cst_33, val_main_cst_34,
    val_main_cst_35, val_main_cst_36, val_main_cst_37, val_main_cst_38, val_main_cst_39]
  refine (extractStridedSlice_apply _ _ _ _ (ix2 (⟨30 + t.val, ht⟩ : Fin 4126) c) ?_).trans ?_
  · intro a
    match a with
    | ⟨0, _⟩ => rfl
    | ⟨1, _⟩ => exact (Nat.zero_add _).symm
  · unfold adjoint
    simp only [addf_apply, Finset.sum_range_succ, Finset.sum_range_zero, zero_add]
    repeat rw [tap_a (x := x) (w := w)]
    all_goals first | rfl | decide

theorem val_273 (x : Vec Ideal S4096x2048 .f32) (w : Vec Ideal S3x2048 .f32) (t : Fin 4096) (c : Fin 2048) :
    val_main_v273 (F := Ideal) x w (ix2 t c) = adjoint (n := 2) x w t c := by
  have ht : 2 + t.val < 4098 := by omega
  simp only [
    val_main_v240, val_main_v241, val_main_v242, val_main_v246, val_main_v247, val_main_v248, val_main_v253,
    val_main_v254, val_main_v255, val_main_v259, val_main_v260, val_main_v261, val_main_v262, val_main_v263,
    val_main_v264, val_main_v265, val_main_v266, val_main_v267, val_main_v268, val_main_v269, val_main_v270,
    val_main_v271, val_main_v273, val_main_cst_6, val_main_cst_7, val_main_cst_8]
  refine (extractStridedSlice_apply _ _ _ _ (ix2 (⟨2 + t.val, ht⟩ : Fin 4098) c) ?_).trans ?_
  · intro a
    match a with
    | ⟨0, _⟩ => rfl
    | ⟨1, _⟩ => exact (Nat.zero_add _).symm
  · unfold adjoint
    simp only [addf_apply, Finset.sum_range_succ, Finset.sum_range_zero, zero_add]
    repeat rw [tap_b (x := x) (w := w)]
    all_goals first | rfl | decide

/-- The logistic function, as the reference computes it. -/
def logistic (z : EReal) : EReal := Ideal.div 1 (1 + Ideal.exp (-z))

/-- The derivative with respect to the first branch's values. -/
theorem val_406 (x0 : Vec Ideal S4096x2048 .f32) (x2 : Vec Ideal S4096x10240 .bf16) (x3 : Vec Ideal S31x2048 .f32)
    (t : Fin 4096) (c : Fin 2048) : val_main_v406 (F := Ideal) x0 x2 x3 (ix2 t c) =
      adjoint (n := 30) x0 x3 t c * logistic (x2 (ix2 t (⟨2048 + c.val, by omega⟩ : Fin 10240))) := by
  pointwise [val_main_v406, val_main_v404, val_main_v11, val_main_v10, val_main_v9, val_main_v8, val_main_v7, val_main_v6,
    val_main_v2, val_main_v0, val_main_cst, val_main_cst_0]
  rw [val_402]
  rfl

/-- The derivative with respect to the first branch's gate. -/
theorem val_407 (x0 : Vec Ideal S4096x2048 .f32) (x2 : Vec Ideal S4096x10240 .bf16) (x3 : Vec Ideal S31x2048 .f32)
    (t : Fin 4096) (c : Fin 2048) : val_main_v407 (F := Ideal) x0 x2 x3 (ix2 t c) =
      x2 (ix2 t (⟨c.val, by omega⟩ : Fin 10240)) * adjoint (n := 30) x0 x3 t c *
        (logistic (x2 (ix2 t (⟨2048 + c.val, by omega⟩ : Fin 10240))) *
          (1 - logistic (x2 (ix2 t (⟨2048 + c.val, by omega⟩ : Fin 10240))))) := by
  pointwise [val_main_v407, val_main_v405, val_main_v403, val_main_v14, val_main_v13, val_main_v12, val_main_v11, val_main_v10,
    val_main_v9, val_main_v8, val_main_v7, val_main_v6, val_main_v2, val_main_v1, val_main_v0, val_main_cst, val_main_cst_0,
    val_main_cst_1]
  rw [val_402]
  rfl

/-- The derivative with respect to the second branch's gate. -/
theorem val_408 (x1 : Vec Ideal S4096x2048 .f32) (x2 : Vec Ideal S4096x10240 .bf16) (x4 : Vec Ideal S3x2048 .f32)
    (t : Fin 4096) (c : Fin 2048) : val_main_v408 (F := Ideal) x1 x2 x4 (ix2 t c) =
      adjoint (n := 2) x1 x4 t c * x2 (ix2 t (⟨8192 + c.val, by omega⟩ : Fin 10240)) := by
  pointwise [val_main_v408, val_main_v274, val_main_v275, val_main_v5, val_main_v4, val_main_v0]
  rw [val_273]

/-- The derivative with respect to the second branch's values. -/
theorem val_409 (x1 : Vec Ideal S4096x2048 .f32) (x2 : Vec Ideal S4096x10240 .bf16) (x4 : Vec Ideal S3x2048 .f32)
    (t : Fin 4096) (c : Fin 2048) : val_main_v409 (F := Ideal) x1 x2 x4 (ix2 t c) =
      x2 (ix2 t (⟨6144 + c.val, by omega⟩ : Fin 10240)) * adjoint (n := 2) x1 x4 t c := by
  pointwise [val_main_v409, val_main_v274, val_main_v275, val_main_v5, val_main_v4, val_main_v0]
  rw [val_273]

end Cert.MixRef

end
-- ==== Proof.MfRef.lean ====
/-
  The forward pass of the mixer as the reference computes it, at a row and a channel.
-/
module

public import proofs.«01_k».proof.Defs
public import proofs.«01_k».proof.Proof.Gen.MixFwdRefIdeal.Read
public import proofs.«01_k».proof.Proof.MixRef
public import Idealize.ShloMosaic.Lib.Pointwise

@[expose] public section

set_option maxRecDepth 16384

noncomputable section

namespace Cert.MfRef

open Cert.MixFwdRefIdeal Cert.MixFwdRefIdeal.Gen Cert.MixFwdRefIdeal.Read Idealize.ShloMosaic
open Idealize.ShloMosaic.TcCoe

/-- What tap `j` of a causal convolution of `n + 1` taps adds at row `t`: the row `n - j` rows before, zero before the first. -/
def behind {n : ℕ} (x : (⟨2, ![4096, 2048]⟩ : Shape).Idx → EReal) (w : (⟨2, ![n + 1, 2048]⟩ : Shape).Idx → EReal)
    (t : Fin 4096) (c : Fin 2048) (j : ℕ) : EReal :=
  (if h : n ≤ t.val + j then x (ix2 (Fin.ofNat 4096 (t.val + j - n)) c) else 0) * w (ix2 (Fin.ofNat (n + 1) j) c)

/-- A causal convolution of `n + 1` taps, at a row and a channel. -/
def causal {n : ℕ} (x : (⟨2, ![4096, 2048]⟩ : Shape).Idx → EReal) (w : (⟨2, ![n + 1, 2048]⟩ : Shape).Idx → EReal)
    (t : Fin 4096) (c : Fin 2048) : EReal := ∑ j ∈ Finset.range (n + 1), behind x w t c j

theorem tap_a (p : ℕ) (hp : p ≤ 30) (z : Vec Ideal S30x2048 .f32) (hz : ∀ i j, z (ix2 i j) = 0) (x : Vec Ideal S4096x2048 .f32)
    (w : Vec Ideal S31x2048 .f32) (h0 h1 h2 h3 h4 h5) (t : Fin 4096) (c : Fin 2048) :
    mulf (F := Ideal) (φ := .f32) (extractStridedSlice S4096x2048 ![p, 0]
        (concatenate S4126x2048 0 [⟨S30x2048, z⟩, ⟨S4096x2048, x⟩] h0) h1)
      (broadcastInDim S4096x2048 ![0, 1] h2 (broadcastInDim S1x2048 ![1] h3
        (shapeCast S2048 (extractStridedSlice S1x2048 ![p, 0] w h5) h4))) (ix2 t c) = behind (n := 30) x w t c p := by
  pointwise
  unfold behind
  have ew : (⟨p, by omega⟩ : Fin (30 + 1)) = Fin.ofNat (30 + 1) p := Fin.ext (Nat.mod_eq_of_lt (by omega)).symm
  rw [← ew]
  refine congrArg (· * _) ?_
  by_cases hl : 30 ≤ t.val + p
  · rw [dif_pos hl, dif_neg (by omega)]
    refine congrArg x (congrArg (ix2 · c) (Fin.ext ?_))
    show p + t.val - 30 = (t.val + p - 30) % 4096
    omega
  · rw [dif_neg hl, dif_pos (by omega), hz]

theorem tap_b (p : ℕ) (hp : p ≤ 2) (z : Vec Ideal S2x2048 .f32) (hz : ∀ i j, z (ix2 i j) = 0) (x : Vec Ideal S4096x2048 .f32)
    (w : Vec Ideal S3x2048 .f32) (h0 h1 h2 h3 h4 h5) (t : Fin 4096) (c : Fin 2048) :
    mulf (F := Ideal) (φ := .f32) (extractStridedSlice S4096x2048 ![p, 0]
        (concatenate S4098x2048 0 [⟨S2x2048, z⟩, ⟨S4096x2048, x⟩] h0) h1)
      (broadcastInDim S4096x2048 ![0, 1] h2 (broadcastInDim S1x2048 ![1] h3
        (shapeCast S2048 (extractStridedSlice S1x2048 ![p, 0] w h5) h4))) (ix2 t c) = behind (n := 2) x w t c p := by
  pointwise
  unfold behind
  have ew : (⟨p, by omega⟩ : Fin (2 + 1)) = Fin.ofNat (2 + 1) p := Fin.ext (Nat.mod_eq_of_lt (by omega)).symm
  rw [← ew]
  refine congrArg (· * _) ?_
  by_cases hl : 2 ≤ t.val + p
  · rw [dif_pos hl, dif_neg (by omega)]
    refine congrArg x (congrArg (ix2 · c) (Fin.ext ?_))
    show p + t.val - 2 = (t.val + p - 2) % 4096
    omega
  · rw [dif_neg hl, dif_pos (by omega), hz]

theorem val_230 (x0 : Vec Ideal S4096x10240 .bf16) (x1 : Vec Ideal S31x2048 .f32) (t : Fin 4096) (c : Fin 2048) :
    val_main_v230 (F := Ideal) x0 x1 (ix2 t c) = causal (n := 30) (val_main_v12 (F := Ideal) x0) x1 t c := by
  have hz : ∀ i j, val_main_v13 (F := Ideal) (ix2 i j) = 0 := by
    intro i j
    pointwise [val_main_v13, val_main_cst_1]
  generalize hx : val_main_v12 (F := Ideal) x0 = x
  simp only [
    val_main_v14, val_main_v15, val_main_v16, val_main_v17, val_main_v18, val_main_v19, val_main_v20, val_main_v21,
    val_main_v22, val_main_v23, val_main_v24, val_main_v25, val_main_v26, val_main_v27, val_main_v28, val_main_v29,
    val_main_v30, val_main_v31, val_main_v32, val_main_v33, val_main_v34, val_main_v35, val_main_v36, val_main_v37,
    val_main_v38, val_main_v39, val_main_v40, val_main_v41, val_main_v42, val_main_v43, val_main_v44, val_main_v45,
    val_main_v46, val_main_v47, val_main_v48, val_main_v49, val_main_v50, val_main_v51, val_main_v52, val_main_v53,
    val_main_v54, val_main_v55, val_main_v56, val_main_v57, val_main_v58, val_main_v59, val_main_v60, val_main_v61,
    val_main_v62, val_main_v63, val_main_v64, val_main_v65, val_main_v66, val_main_v67, val_main_v68, val_main_v69,
    val_main_v70, val_main_v71, val_main_v72, val_main_v73, val_main_v74, val_main_v75, val_main_v76, val_main_v77,
    val_main_v78, val_main_v79, val_main_v80, val_main_v81, val_main_v82, val_main_v83, val_main_v84, val_main_v85,
    val_main_v86, val_main_v87, val_main_v88, val_main_v89, val_main_v90, val_main_v91, val_main_v92, val_main_v93,
    val_main_v94, val_main_v95, val_main_v96, val_main_v97, val_main_v98, val_main_v99, val_main_v100, val_main_v101,
    val_main_v102, val_main_v103, val_main_v104, val_main_v105, val_main_v106, val_main_v107, val_main_v108,
    val_main_v109, val_main_v110, val_main_v111, val_main_v112, val_main_v113, val_main_v114, val_main_v115,
    val_main_v116, val_main_v117, val_main_v118, val_main_v119, val_main_v120, val_main_v121, val_main_v122,
    val_main_v123, val_main_v124, val_main_v125, val_main_v126, val_main_v127, val_main_v128, val_main_v129,
    val_main_v130, val_main_v131, val_main_v132, val_main_v133, val_main_v134, val_main_v135, val_main_v136,
    val_main_v137, val_main_v138, val_main_v139, val_main_v140, val_main_v141, val_main_v142, val_main_v143,
    val_main_v144, val_main_v145, val_main_v146, val_main_v147, val_main_v148, val_main_v149, val_main_v150,
    val_main_v151, val_main_v152, val_main_v153, val_main_v154, val_main_v155, val_main_v156, val_main_v157,
    val_main_v158, val_main_v159, val_main_v160, val_main_v161, val_main_v162, val_main_v163, val_main_v164,
    val_main_v165, val_main_v166, val_main_v167, val_main_v168, val_main_v169, val_main_v170, val_main_v171,
    val_main_v172, val_main_v173, val_main_v174, val_main_v175, val_main_v176, val_main_v177, val_main_v178,
    val_main_v179, val_main_v180, val_main_v181, val_main_v182, val_main_v183, val_main_v184, val_main_v185,
    val_main_v186, val_main_v187, val_main_v188, val_main_v189, val_main_v190, val_main_v191, val_main_v192,
    val_main_v193, val_main_v194, val_main_v195, val_main_v196, val_main_v197, val_main_v198, val_main_v199,
    val_main_v200, val_main_v201, val_main_v202, val_main_v203, val_main_v204, val_main_v205, val_main_v206,
    val_main_v207, val_main_v208, val_main_v209, val_main_v210, val_main_v211, val_main_v212, val_main_v213,
    val_main_v214, val_main_v215, val_main_v216, val_main_v217, val_main_v218, val_main_v219, val_main_v220,
    val_main_v221, val_main_v222, val_main_v223, val_main_v224, val_main_v225, val_main_v226, val_main_v227,
    val_main_v228, val_main_v229, val_main_v230]
  rw [hx]
  unfold causal
  simp only [addf_apply, Finset.sum_range_succ, Finset.sum_range_zero, zero_add]
  repeat rw [tap_a _ _ _ hz x x1]
  all_goals first | rfl | decide

theorem val_278 (x0 : Vec Ideal S4096x10240 .bf16) (x5 : Vec Ideal S3x2048 .f32) (t : Fin 4096) (c : Fin 2048) :
    val_main_v278 (F := Ideal) x0 x5 (ix2 t c) = causal (n := 2) (val_main_v256 (F := Ideal) x0) x5 t c := by
  have hz : ∀ i j, val_main_v257 (F := Ideal) (ix2 i j) = 0 := by
    intro i j
    pointwise [val_main_v257, val_main_cst_7]
  generalize hx : val_main_v256 (F := Ideal) x0 = x
  simp only [
    val_main_v258, val_main_v259, val_main_v260, val_main_v261, val_main_v262, val_main_v263, val_main_v264,
    val_main_v265, val_main_v266, val_main_v267, val_main_v268, val_main_v269, val_main_v270, val_main_v271,
    val_main_v272, val_main_v273, val_main_v274, val_main_v275, val_main_v276, val_main_v277, val_main_v278]
  rw [hx]
  unfold causal
  simp only [addf_apply, Finset.sum_range_succ, Finset.sum_range_zero, zero_add]
  repeat rw [tap_b _ _ _ hz x x5]
  all_goals first | rfl | decide

/-! ## The branches -/

/-- The first branch's value, gated. -/
def gated (P : (⟨2, ![4096, 10240]⟩ : Shape).Idx → EReal) : (⟨2, ![4096, 2048]⟩ : Shape).Idx → EReal := fun y =>
  P (ix2 (y 0) (⟨(y 1).val, lt_of_lt_of_le (y 1).isLt (by decide)⟩ : Fin 10240)) *
    MixRef.logistic (P (ix2 (y 0) (Fin.ofNat 10240 (2048 + (y 1).val))))

/-- The second branch's product. -/
def product (P : (⟨2, ![4096, 10240]⟩ : Shape).Idx → EReal) : (⟨2, ![4096, 2048]⟩ : Shape).Idx → EReal := fun y =>
  P (ix2 (y 0) (Fin.ofNat 10240 (6144 + (y 1).val))) * P (ix2 (y 0) (Fin.ofNat 10240 (8192 + (y 1).val)))

theorem val_12 (x0 : Vec Ideal S4096x10240 .bf16) : val_main_v12 (F := Ideal) x0 = gated x0 := by
  funext y
  obtain ⟨i, j, rfl⟩ : ∃ (i : Fin 4096) (j : Fin 2048), y = ix2 i j := ⟨y 0, y 1, eq_ix2 y⟩
  pointwise [val_main_v12, val_main_v11, val_main_v10, val_main_v9, val_main_v8, val_main_v7, val_main_v6, val_main_v2,
    val_main_v1, val_main_v0, val_main_cst, val_main_cst_0]
  have e : (⟨2048 + j.val, by omega⟩ : Fin 10240) = Fin.ofNat 10240 (2048 + j.val) := Fin.ext (Nat.mod_eq_of_lt (by omega)).symm
  rw [e]
  rfl

theorem val_256 (x0 : Vec Ideal S4096x10240 .bf16) : val_main_v256 (F := Ideal) x0 = product x0 := by
  funext y
  obtain ⟨i, j, rfl⟩ : ∃ (i : Fin 4096) (j : Fin 2048), y = ix2 i j := ⟨y 0, y 1, eq_ix2 y⟩
  pointwise [val_main_v256, val_main_v4, val_main_v5, val_main_v0]
  have e : ∀ k, (h : k + 2048 ≤ 10240) → (⟨k + j.val, by omega⟩ : Fin 10240) = Fin.ofNat 10240 (k + j.val) :=
    fun k h => Fin.ext (Nat.mod_eq_of_lt (by omega)).symm
  rw [e 6144 (by decide), e 8192 (by decide)]
  rfl

/-- The first branch before its norm. -/
def first (P : (⟨2, ![4096, 10240]⟩ : Shape).Idx → EReal) (w : (⟨2, ![31, 2048]⟩ : Shape).Idx → EReal)
    (b : (⟨2, ![1, 2048]⟩ : Shape).Idx → EReal) (t : Fin 4096) (c : Fin 2048) : EReal :=
  causal (n := 30) (gated P) w t c + b (ix2 0 c)

theorem val_232 (x0 : Vec Ideal S4096x10240 .bf16) (x1 : Vec Ideal S31x2048 .f32) (x2 : Vec Ideal S1x2048 .f32)
    (t : Fin 4096) (c : Fin 2048) : val_main_v232 (F := Ideal) x0 x1 x2 (ix2 t c) = first x0 x1 x2 t c := by
  pointwise [val_main_v232, val_main_v231]
  rw [val_230, val_12]
  rfl

/-- A value of a group of 128 less the group's mean. -/
def centred (f : Fin 128 → EReal) (l : Fin 128) : EReal := f l - Ideal.div (∑ x, f x) (Ideal.ofBits .f32 0x43000000#32)

/-- The group's values normalised. -/
def normed (f : Fin 128 → EReal) (l : Fin 128) : EReal := centred f l * Ideal.rsqrt
  (Ideal.div (∑ x, centred f x * centred f x) (Ideal.ofBits .f32 0x43000000#32) + Ideal.ofBits .f32 0x358637BD#32)

/-- The group of 128 channels a channel lies in. -/
def group (f : Fin 2048 → EReal) (c : Fin 2048) (l : Fin 128) : EReal := f (Fin.ofNat 2048 (c.val / 128 * 128 + l.val))

/-- The first branch, normalised over its group, scaled and shifted. -/
def scaled (f : Fin 2048 → EReal) (g b : (⟨2, ![1, 2048]⟩ : Shape).Idx → EReal) (c : Fin 2048) : EReal :=
  normed (group f c) (Fin.ofNat 128 (c.val % 128)) * g (ix2 0 c) + b (ix2 0 c)

theorem val_249 (x0 : Vec Ideal S4096x10240 .bf16) (x1 : Vec Ideal S31x2048 .f32) (x2 : Vec Ideal S1x2048 .f32)
    (t : Fin 4096) (g : Fin 16) (l : Fin 128) : val_main_v249 (F := Ideal) x0 x1 x2 (ix3 t g l) =
      normed (fun l => first x0 x1 x2 t (⟨g.val * 128 + l.val, by omega⟩ : Fin 2048)) l := by
  pointwise [val_main_v249, val_main_v248, val_main_v247, val_main_v246, val_main_v245, val_main_v244, val_main_v243, val_main_v242,
    val_main_v241, val_main_v240, val_main_v239, val_main_v238, val_main_v237, val_main_v236, val_main_v235, val_main_v234, val_main_v233,
    val_main_cst_2, val_main_cst_3, val_main_cst_4, val_main_cst_5,
    val_main_cst_6]
  simp only [val_232]
  rfl

theorem val_255 (x0 : Vec Ideal S4096x10240 .bf16) (x1 : Vec Ideal S31x2048 .f32) (x2 x3 x4 : Vec Ideal S1x2048 .f32)
    (t : Fin 4096) (c : Fin 2048) : val_main_v255 (F := Ideal) x0 x1 x2 x3 x4 (ix2 t c) =
      scaled (first x0 x1 x2 t) x3 x4 c * MixRef.logistic (scaled (first x0 x1 x2 t) x3 x4 c) := by
  pointwise [val_main_v255, val_main_call0_v5, val_main_call0_v4, val_main_call0_v3, val_main_call0_v2, val_main_call0_v1,
    val_main_call0_v0, val_main_call0_cst, val_main_call0_cst_0, val_main_v254, val_main_v253, val_main_v252, val_main_v251, val_main_v250]
  rw [val_249]
  have e : (fun l : Fin 128 => first x0 x1 x2 t (⟨c.val / 128 * 128 + l.val, by omega⟩ : Fin 2048)) = group (first x0 x1 x2 t) c := by
    funext l
    exact congrArg (first x0 x1 x2 t) (Fin.ext (Nat.mod_eq_of_lt (by omega)).symm)
  have e' : (⟨c.val % 128, by omega⟩ : Fin 128) = Fin.ofNat 128 (c.val % 128) := Fin.ext (Nat.mod_mod _ _).symm
  simp only [e, e']
  rfl

theorem val_283_0 (x0 : Vec Ideal S4096x10240 .bf16) (x1 : Vec Ideal S31x2048 .f32) (x2 x3 x4 : Vec Ideal S1x2048 .f32) (x5 : Vec Ideal S3x2048 .f32)
    (t : Fin 4096) (c : Fin 2048) : val_main_v283 (F := Ideal) x0 x1 x2 x3 x4 x5 (ix3 0 t c) = val_main_v255 (F := Ideal) x0 x1 x2 x3 x4 (ix2 t c) := by
  pointwise [val_main_v283, val_main_v282, val_main_v280, val_main_v281]

theorem val_283_1 (x0 : Vec Ideal S4096x10240 .bf16) (x1 : Vec Ideal S31x2048 .f32) (x2 x3 x4 : Vec Ideal S1x2048 .f32) (x5 : Vec Ideal S3x2048 .f32)
    (t : Fin 4096) (c : Fin 2048) : val_main_v283 (F := Ideal) x0 x1 x2 x3 x4 x5 (ix3 1 t c) =
      x0 (ix2 t (Fin.ofNat 10240 (4096 + c.val))) * causal (n := 2) (product x0) x5 t c := by
  pointwise [val_main_v283, val_main_v282, val_main_v280, val_main_v281, val_main_v279, val_main_v3, val_main_v0]
  have e : (⟨4096 + c.val, by omega⟩ : Fin 10240) = Fin.ofNat 10240 (4096 + c.val) := Fin.ext (Nat.mod_eq_of_lt (by omega)).symm
  rw [e, val_278, val_256]

end Cert.MfRef

end
-- ==== Proof.MfRegion.lean ====
/-
  What the body of the mixer's forward pass computes on one region of a block (64 rows by 128 channels): the two causal
  convolutions, the norm over the 128 channels, and the two gates, read at a row and a channel.
-/
module

public import proofs.«01_k».proof.Defs
public import proofs.«01_k».proof.Proof.Gen.MixFwdIdeal.Value
public import proofs.«01_k».proof.Proof.MixRegion
public import proofs.«01_k».proof.Proof.MfRef
public import Idealize.ShloMosaic.Lib.Pointwise
public import Idealize.ShloMosaic.Lib.Pipeline.ValueKit.Basic
public import Idealize.ShloMosaic.Lib.Pipeline.ReadBack

@[expose] public section

set_option maxRecDepth 16384

noncomputable section

namespace Cert.MfRegion

open Cert.MixFwdIdeal Cert.MixFwdIdeal.Gen Idealize.ShloMosaic
open Idealize.ShloMosaic.TcCoe
open Cert.MixRegion (sig sum31 half)
open Cert.MfRef (normed centred)

/-! ## The operations of a region -/

/-- A row vector, over the region's rows. -/
abbrev rows (w : Vec Ideal S1x128 .f32) : FVec Ideal S64x128 .f32 := broadcastTo S64x128 w broadcasts_S1x128_S64x128

/-- A tap's product: 64 rows of the window from row `o`, times the tap's row of weights. -/
abbrev term (v : FVec Ideal S96x128 .f32) (w : Vec Ideal S1x128 .f32) (o : ℕ) (h : S96x128.Slices ![o, 0] S64x128) :
    FVec Ideal S64x128 .f32 := mulf (extractStridedSlice S64x128 ![o, 0] v h) (rows w)

abbrev turned (n : BitVec 32) (v : FVec Ideal S96x128 .f32) : FVec Ideal S96x128 .f32 :=
  dynamicRotate 0 n none v rotates_S96x128_d0

abbrev three (acc : FVec Ideal S64x128 .f32) (v : FVec Ideal S96x128 .f32) (w0 w1 w2 : Vec Ideal S1x128 .f32) : FVec Ideal S64x128 .f32 :=
  addf (addf (addf acc (term v w0 32 slices_S96x128_o32_0_S64x128)) (term v w1 24 slices_S96x128_o24_0_S64x128))
    (term v w2 16 slices_S96x128_o16_0_S64x128)

abbrev four (acc : FVec Ideal S64x128 .f32) (v : FVec Ideal S96x128 .f32) (w0 w1 w2 w3 : Vec Ideal S1x128 .f32) : FVec Ideal S64x128 .f32 :=
  addf (three acc v w0 w1 w2) (term v w3 8 slices_S96x128_o8_0_S64x128)

/-- The causal convolution of 31 taps on a region. -/
abbrev convA (v : Vec Ideal S96x128 .f32) (w : (k : ℕ) → k < 31 → Vec Ideal S1x128 .f32) : FVec Ideal S64x128 .f32 :=
  let s0 := addf (addf (addf (term v (w 30 (by decide)) 32 slices_S96x128_o32_0_S64x128) (term v (w 22 (by decide)) 24 slices_S96x128_o24_0_S64x128))
    (term v (w 14 (by decide)) 16 slices_S96x128_o16_0_S64x128)) (term v (w 6 (by decide)) 8 slices_S96x128_o8_0_S64x128)
  let s1 := four s0 (turned 1#32 v) (w 29 (by decide)) (w 21 (by decide)) (w 13 (by decide)) (w 5 (by decide))
  let s2 := four s1 (turned 2#32 v) (w 28 (by decide)) (w 20 (by decide)) (w 12 (by decide)) (w 4 (by decide))
  let s3 := four s2 (turned 3#32 v) (w 27 (by decide)) (w 19 (by decide)) (w 11 (by decide)) (w 3 (by decide))
  let s4 := four s3 (turned 4#32 v) (w 26 (by decide)) (w 18 (by decide)) (w 10 (by decide)) (w 2 (by decide))
  let s5 := four s4 (turned 5#32 v) (w 25 (by decide)) (w 17 (by decide)) (w 9 (by decide)) (w 1 (by decide))
  let s6 := four s5 (turned 6#32 v) (w 24 (by decide)) (w 16 (by decide)) (w 8 (by decide)) (w 0 (by decide))
  three s6 (turned 7#32 v) (w 23 (by decide)) (w 15 (by decide)) (w 7 (by decide))

abbrev termB (v : FVec Ideal S72x128 .f32) (w : Vec Ideal S1x128 .f32) : FVec Ideal S64x128 .f32 :=
  mulf (extractStridedSlice S64x128 ![8, 0] v slices_S72x128_o8_0_S64x128) (rows w)

/-- The causal convolution of 3 taps on a region. -/
abbrev convB (v : Vec Ideal S72x128 .f32) (w : (k : ℕ) → k < 3 → Vec Ideal S1x128 .f32) : FVec Ideal S64x128 .f32 :=
  addf (addf (termB v (w 2 (by decide))) (termB (dynamicRotate 0 1#32 none v rotates_S72x128_d0) (w 1 (by decide))))
    (termB (dynamicRotate 0 2#32 none v rotates_S72x128_d0) (w 0 (by decide)))

/-- The sigmoid of a region, through the hyperbolic tangent. -/
abbrev sigR {S : Shape} (z : FVec Ideal S .f32) : FVec Ideal S .f32 :=
  addf (mulf (broadcast S (Scalar.ofBits .f32 0x3F000000#32)) (tanh (mulf (broadcast S (Scalar.ofBits .f32 0x3F000000#32)) z)))
    (broadcast S (Scalar.ofBits .f32 0x3F000000#32))

/-- A region of the first branch's gated value, and of the second branch's product. -/
abbrev gatedR (a z : Vec Ideal S64x128 .bf16) : FVec Ideal S64x128 .f32 :=
  shapeCast S64x128 (mulf (extf .f32 a bitsLt_bf16_f32) (sigR (extf .f32 z bitsLt_bf16_f32))) shapeCasts_S64x128_S64x128

abbrev productR (a z : Vec Ideal S64x128 .bf16) : FVec Ideal S64x128 .f32 :=
  shapeCast S64x128 (mulf (extf .f32 a bitsLt_bf16_f32) (extf .f32 z bitsLt_bf16_f32)) shapeCasts_S64x128_S64x128

/-- The sum over the channels of a region's row, over 128. -/
abbrev meanR (u : FVec Ideal S64x128 .f32) : FVec Ideal S64x1 .f32 :=
  divf (shapeCast S64x1 (multiReduction .add [1] S64 u 0x00000000#32 reduces_S64x128_S64 (.inl rfl) rfl) shapeCasts_S64_S64x1)
    (broadcast S64x1 (Scalar.ofBits .f32 0x43000000#32))

abbrev centredR (u : FVec Ideal S64x128 .f32) : FVec Ideal S64x128 .f32 :=
  subf u (broadcastTo S64x128 (meanR u) broadcasts_S64x1_S64x128)

abbrev normedR (u : FVec Ideal S64x128 .f32) : FVec Ideal S64x128 .f32 :=
  mulf (centredR u) (broadcastTo S64x128 (rsqrt (addf (meanR (mulf (centredR u) (centredR u)))
    (broadcast S64x1 (Scalar.ofBits .f32 0x358637BD#32)))) broadcasts_S64x1_S64x128)

/-- The first branch's output on a region. -/
abbrev firstR (u : FVec Ideal S64x128 .f32) (g b : Vec Ideal S1x128 .f32) : FVec Ideal S1x64x128 .bf16 :=
  shapeCast S1x64x128 (truncf .bf16 (mulf (addf (mulf (normedR u) (rows g)) (rows b))
    (sigR (addf (mulf (normedR u) (rows g)) (rows b)))) bitsLt_bf16_f32) shapeCasts_S64x128_S1x64x128

/-- The second branch's output on a region. -/
abbrev secondR (u : FVec Ideal S64x128 .f32) (a : Vec Ideal S64x128 .bf16) : FVec Ideal S1x64x128 .bf16 :=
  shapeCast S1x64x128 (truncf .bf16 (mulf (extf .f32 a bitsLt_bf16_f32) u) bitsLt_bf16_f32) shapeCasts_S64x128_S1x64x128

/-! ## Read at a row and a channel -/

theorem term_at (v : FVec Ideal S96x128 .f32) (w : Vec Ideal S1x128 .f32) (o : ℕ) (h) (i : Fin 64) (j : Fin 128) (ho : o + 64 ≤ 96) :
    term v w o h (ix2 i j) = v (ix2 (Fin.ofNat 96 (i.val + o)) j) * w (ix2 0 j) := by
  unfold term rows
  pointwise
  congr 3
  apply Fin.ext
  show o + i.val = (i.val + o) % 96
  omega

theorem turned_at (n : BitVec 32) (hn : n.toNat < 96) (v : FVec Ideal S96x128 .f32) (i : Fin 96) (j : Fin 128) :
    turned n v (ix2 i j) = v (ix2 (Fin.ofNat 96 (i.val + 96 - n.toNat)) j) := by
  unfold turned
  pointwise
  congr 2
  apply Fin.ext
  show (i.val + 96 - n.toNat % 96) % 96 = (i.val + 96 - n.toNat) % 96
  omega

theorem termB_at (v : FVec Ideal S72x128 .f32) (w : Vec Ideal S1x128 .f32) (i : Fin 64) (j : Fin 128) :
    termB v w (ix2 i j) = v (ix2 (Fin.ofNat 72 (i.val + 8)) j) * w (ix2 0 j) := by
  unfold termB rows
  pointwise
  congr 3
  apply Fin.ext
  show 8 + i.val = (i.val + 8) % 72
  omega

theorem turnedB_at (n : BitVec 32) (hn : n.toNat < 72) (v : FVec Ideal S72x128 .f32) (i : Fin 72) (j : Fin 128) :
    dynamicRotate 0 n none v rotates_S72x128_d0 (ix2 i j) = v (ix2 (Fin.ofNat 72 (i.val + 72 - n.toNat)) j) := by
  pointwise
  congr 2
  apply Fin.ext
  show (i.val + 72 - n.toNat % 72) % 72 = (i.val + 72 - n.toNat) % 72
  omega

/-- The convolution of 31 taps at a row and a channel of a region. -/
theorem convA_at (v : Vec Ideal S96x128 .f32) (w : (k : ℕ) → k < 31 → Vec Ideal S1x128 .f32) (i : Fin 64) (j : Fin 128) :
    convA v w (ix2 i j) = ∑ k : Fin 31, v (ix2 (Fin.ofNat 96 (i.val + (32 - k))) j) * w (30 - k) (by omega) (ix2 0 j) := by
  have r : ∀ (o : ℕ) (n : BitVec 32) (h) (u : Vec Ideal S1x128 .f32) (hn : n.toNat ≤ o) (ho : o + 64 ≤ 96),
      term (turned n v) u o h (ix2 i j) = v (ix2 (Fin.ofNat 96 (i.val + (o - n.toNat))) j) * u (ix2 0 j) := by
    intro o n h u hn ho
    rw [term_at _ _ _ _ _ _ ho, turned_at n (by omega)]
    congr 3
    apply Fin.ext
    show ((i.val + o) % 96 + 96 - n.toNat) % 96 = (i.val + (o - n.toNat)) % 96
    omega
  rw [← sum31]
  unfold convA three four
  simp only [addf_apply]
  repeat rw [r]
  repeat rw [term_at]
  all_goals first | decide | rfl

/-- The convolution of 3 taps at a row and a channel of a region. -/
theorem convB_at (v : Vec Ideal S72x128 .f32) (w : (k : ℕ) → k < 3 → Vec Ideal S1x128 .f32) (i : Fin 64) (j : Fin 128) :
    convB v w (ix2 i j) = ∑ k : Fin 3, v (ix2 (Fin.ofNat 72 (i.val + (8 - k))) j) * w (2 - k) (by omega) (ix2 0 j) := by
  have r : ∀ (n : BitVec 32) (hn : n.toNat ≤ 8) (u : Vec Ideal S1x128 .f32),
      termB (dynamicRotate 0 n none v rotates_S72x128_d0) u (ix2 i j) = v (ix2 (Fin.ofNat 72 (i.val + (8 - n.toNat))) j) * u (ix2 0 j) := by
    intro n hn u
    rw [termB_at, turnedB_at n (by omega)]
    congr 3
    apply Fin.ext
    show ((i.val + 8) % 72 + 72 - n.toNat) % 72 = (i.val + (8 - n.toNat)) % 72
    omega
  rw [Fin.sum_univ_three]
  show termB _ _ _ + termB _ _ _ + termB _ _ _ = _
  rw [termB_at, r 1#32 (by decide), r 2#32 (by decide)]
  rfl

theorem gatedR_at (a z : Vec Ideal S64x128 .bf16) (i : Fin 64) (j : Fin 128) :
    gatedR a z (ix2 i j) = a (ix2 i j) * sig (z (ix2 i j)) := by
  unfold gatedR sigR
  rw [half]
  pointwise

theorem productR_at (a z : Vec Ideal S64x128 .bf16) (i : Fin 64) (j : Fin 128) :
    productR a z (ix2 i j) = a (ix2 i j) * z (ix2 i j) := by
  unfold productR
  pointwise

theorem centredR_at (u : FVec Ideal S64x128 .f32) (i : Fin 64) (j : Fin 128) :
    centredR u (ix2 i j) = centred (fun l => u (ix2 i l)) j := by
  unfold centredR meanR
  pointwise
  rfl

theorem normedR_at (u : FVec Ideal S64x128 .f32) (i : Fin 64) (j : Fin 128) :
    normedR u (ix2 i j) = normed (fun l => u (ix2 i l)) j := by
  unfold normedR
  have e := centredR_at u i
  generalize hc : centredR u = c at e ⊢
  unfold meanR
  pointwise
  simp only [e]
  rfl

theorem firstR_at (u : FVec Ideal S64x128 .f32) (g b : Vec Ideal S1x128 .f32) (i : Fin 64) (j : Fin 128) :
    firstR u g b (ix3 0 i j) = (normed (fun l => u (ix2 i l)) j * g (ix2 0 j) + b (ix2 0 j)) *
      sig (normed (fun l => u (ix2 i l)) j * g (ix2 0 j) + b (ix2 0 j)) := by
  unfold firstR sigR rows
  rw [half]
  have e := normedR_at u i j
  generalize normedR u = c at e ⊢
  rw [← e]
  pointwise

theorem secondR_at (u : FVec Ideal S64x128 .f32) (a : Vec Ideal S64x128 .bf16) (i : Fin 64) (j : Fin 128) :
    secondR u a (ix3 0 i j) = a (ix2 i j) * u (ix2 i j) := by
  unfold secondR
  pointwise

end Cert.MfRegion

end
-- ==== Proof.MfBlock.lean ====
/-
  What one grid point of the mixer's forward pass leaves in its two blocks, at a row and a channel: the regions the body
  stores are the regions of one function of the two windows, the taps and the projection's blocks.
-/
module

public import proofs.«01_k».proof.Proof.MfRegion

@[expose] public section

set_option maxRecDepth 16384

noncomputable section

namespace Cert.MfBlock

open Cert.MixFwdIdeal Cert.MixFwdIdeal.Gen Cert.MixFwdIdeal.Value Cert.MfRegion Idealize.ShloMosaic
open Idealize.ShloMosaic.TcCoe
open Cert.MixRegion (sig)
open Cert.MfRef (normed)

/-! ## The block as one function -/

/-- The 32 rows before a block and the block. -/
def window (h : FVec Ideal S32x256 .f32) (g : S512x256.Idx → EReal) : Vec Ideal S544x256 .f32 := fun y =>
  if (y 0).val < 32 then h (ix2 (Fin.ofNat 32 (y 0).val) (y 1)) else g (ix2 (Fin.ofNat 512 ((y 0).val - 32)) (y 1))

def gatedB (a z : Vec Ideal S512x256 .bf16) : S512x256.Idx → EReal := fun y => a y * sig (z y)

def productB (a z : Vec Ideal S512x256 .bf16) : S512x256.Idx → EReal := fun y => a y * z y

/-- The causal convolution of `n + 1` taps over a window, at a row and a channel of the block. -/
def conv {n : ℕ} (b : Vec Ideal S544x256 .f32) (w : Vec Ideal (⟨2, ![n + 1, 256]⟩ : Shape) .f32) (p : ℕ) (q : Fin 256) : EReal :=
  ∑ k : Fin (n + 1), b (ix2 (Fin.ofNat 544 (p + (32 - k))) q) * w (ix2 (Fin.ofNat (n + 1) (n - k)) q)

/-- The first branch before its norm. -/
def plain (b : Vec Ideal S544x256 .f32) (w : Vec Ideal S31x256 .f32) (cb : Vec Ideal S1x256 .f32) (p : ℕ) (q : Fin 256) : EReal :=
  conv (n := 30) b w p q + cb (ix2 0 q)

/-- The first branch normalised over its 128 channels, scaled and shifted. -/
def scaledB (b : Vec Ideal S544x256 .f32) (w : Vec Ideal S31x256 .f32) (cb g s : Vec Ideal S1x256 .f32) (p : ℕ) (q : Fin 256) : EReal :=
  normed (fun l => plain b w cb p (Fin.ofNat 256 (q.val / 128 * 128 + l.val))) (Fin.ofNat 128 (q.val % 128)) * g (ix2 0 q) + s (ix2 0 q)

abbrev block1 (b : Vec Ideal S544x256 .f32) (w : Vec Ideal S31x256 .f32) (cb : Vec Ideal S1x256 .f32) : Vec Ideal S512x256 .f32 :=
  fun y => plain b w cb (y 0).val (y 1)

def block0 (b b' : Vec Ideal S544x256 .f32) (w : Vec Ideal S31x256 .f32) (cb g s : Vec Ideal S1x256 .f32)
    (w' : Vec Ideal S3x256 .f32) (a : Vec Ideal S512x256 .bf16) : Vec Ideal S2x512x256 .bf16 := fun y =>
  if (y 0).val = 0 then scaledB b w cb g s (y 1).val (y 2) * sig (scaledB b w cb g s (y 1).val (y 2))
  else a (ix2 (y 1) (y 2)) * conv (n := 2) b' w' (y 1).val (y 2)

/-! ## A region of it -/

theorem inb2 (r c : ℕ) {R C : ℕ} {S : Fin 2 → ℕ} (h0 : r + R ≤ S 0) (h1 : c + C ≤ S 1) (a : Fin 2) :
    (![r, c] : Fin 2 → ℕ) a + (![R, C] : Fin 2 → ℕ) a ≤ S a := by
  match a with
  | ⟨0, _⟩ => exact h0
  | ⟨1, _⟩ => exact h1

theorem inb3 (s r c : ℕ) {R C : ℕ} {S : Fin 3 → ℕ} (h : s + 1 ≤ S 0) (h0 : r + R ≤ S 1) (h1 : c + C ≤ S 2) (a : Fin 3) :
    (![s, r, c] : Fin 3 → ℕ) a + (![1, R, C] : Fin 3 → ℕ) a ≤ S a := by
  match a with
  | ⟨0, _⟩ => exact h
  | ⟨1, _⟩ => exact h0
  | ⟨2, _⟩ => exact h1

section
variable (r c : ℕ) (h : r + 64 ≤ 512 ∧ c = c / 128 * 128 ∧ c + 128 ≤ 256)

/-- A region of the block, of the output, of a window; a tap's row of weights. -/
abbrev reg : Rect S512x256 := Rect.unit ![r, c] ![64, 128] (inb2 r c h.1 h.2.2)
abbrev regO (s : ℕ) (hs : s < 2) : Rect S2x512x256 := Rect.unit ![s, r, c] ![1, 64, 128] (inb3 s r c hs h.1 h.2.2)
abbrev regW : Rect S544x256 := Rect.unit ![r + 32, c] ![64, 128] (inb2 (r + 32) c (by show r + 32 + 64 ≤ 544; omega) h.2.2)
abbrev regA : Rect S544x256 := Rect.unit ![r, c] ![96, 128] (inb2 r c (by show r + 96 ≤ 544; omega) h.2.2)
abbrev regB : Rect S544x256 := Rect.unit ![r + 24, c] ![72, 128] (inb2 (r + 24) c (by show r + 24 + 72 ≤ 544; omega) h.2.2)
abbrev tapA (k : ℕ) (hk : k < 31) : Rect S31x256 := Rect.unit ![k, c] ![1, 128] (inb2 k c (by show k + 1 ≤ 31; omega) h.2.2)
abbrev tapB (k : ℕ) (hk : k < 3) : Rect S3x256 := Rect.unit ![k, c] ![1, 128] (inb2 k c (by show k + 1 ≤ 3; omega) h.2.2)
abbrev vec : Rect S1x256 := Rect.unit ![0, c] ![1, 128] (inb2 0 c (by show 0 + 1 ≤ 1; omega) h.2.2)

theorem emb_at (i : Fin 64) (j : Fin 128) :
    (reg r c h).emb (ix2 i j) = ix2 (⟨r + i.val, by omega⟩ : Fin 512) (⟨c + j.val, by omega⟩ : Fin 256) := by
  funext a
  apply Fin.ext
  match a with
  | ⟨0, _⟩ => show r + 1 * i.val = r + i.val; omega
  | ⟨1, _⟩ => show c + 1 * j.val = c + j.val; omega

theorem embO_at (s : ℕ) (hs : s < 2) (i : Fin 64) (j : Fin 128) :
    (regO r c h s hs).emb (ix3 0 i j) = ix3 (⟨s, hs⟩ : Fin 2) (⟨r + i.val, by omega⟩ : Fin 512) (⟨c + j.val, by omega⟩ : Fin 256) := by
  funext a
  apply Fin.ext
  match a with
  | ⟨0, _⟩ => show s + 1 * 0 = s; omega
  | ⟨1, _⟩ => show r + 1 * i.val = r + i.val; omega
  | ⟨2, _⟩ => show c + 1 * j.val = c + j.val; omega

theorem vec_at (w : Vec Ideal S1x256 .f32) (j : Fin 128) :
    View.ld w (vec r c h) (ix2 0 j) = w (ix2 0 (⟨c + j.val, by omega⟩ : Fin 256)) := by
  refine congrArg w ?_
  funext a
  apply Fin.ext
  match a with
  | ⟨0, _⟩ => rfl
  | ⟨1, _⟩ => show c + 1 * j.val = c + j.val; omega

theorem window_at (ha : FVec Ideal S32x256 .f32) (g : S512x256.Idx → EReal) (i : Fin 64) (j : Fin 128) :
    window ha g ((regW r c h).emb (ix2 i j)) = g ((reg r c h).emb (ix2 i j)) := by
  unfold window
  have e : ((regW r c h).emb (ix2 i j) 0).val = r + 32 + 1 * i.val := rfl
  rw [if_neg (by rw [e]; omega)]
  refine congrArg g ?_
  funext a
  apply Fin.ext
  match a with
  | ⟨0, _⟩ => show (r + 32 + 1 * i.val - 32) % 512 = r + 1 * i.val; omega
  | ⟨1, _⟩ => rfl

theorem region_gated (ha : FVec Ideal S32x256 .f32) (a z : Vec Ideal S512x256 .bf16) (x : S64x128.Idx) :
    gatedR (View.ld a (reg r c h)) (View.ld z (reg r c h)) x = window ha (gatedB a z) ((regW r c h).emb x) := by
  obtain ⟨i, j, rfl⟩ : ∃ (i : Fin 64) (j : Fin 128), x = ix2 i j := ⟨x 0, x 1, eq_ix2 x⟩
  rw [gatedR_at, window_at r c h]
  rfl

theorem region_product (ha : FVec Ideal S32x256 .f32) (a z : Vec Ideal S512x256 .bf16) (x : S64x128.Idx) :
    productR (View.ld a (reg r c h)) (View.ld z (reg r c h)) x = window ha (productB a z) ((regW r c h).emb x) := by
  obtain ⟨i, j, rfl⟩ : ∃ (i : Fin 64) (j : Fin 128), x = ix2 i j := ⟨x 0, x 1, eq_ix2 x⟩
  rw [productR_at, window_at r c h]
  rfl

theorem convA_ld (b : Vec Ideal S544x256 .f32) (w : Vec Ideal S31x256 .f32) (i : Fin 64) (j : Fin 128) :
    convA (View.ld b (regA r c h)) (fun k hk => View.ld w (tapA r c h k hk)) (ix2 i j)
      = conv (n := 30) b w (r + i.val) (⟨c + j.val, by omega⟩ : Fin 256) := by
  rw [convA_at]
  unfold conv
  refine Finset.sum_congr rfl fun k _ => ?_
  congr 1
  · refine congrArg b ?_
    funext a
    apply Fin.ext
    match a with
    | ⟨0, _⟩ => show r + 1 * ((i.val + (32 - k.val)) % 96) = (r + i.val + (32 - k.val)) % 544; omega
    | ⟨1, _⟩ => show c + 1 * j.val = _; exact (congrArg (c + ·) (Nat.one_mul _))
  · refine congrArg w ?_
    funext a
    apply Fin.ext
    match a with
    | ⟨0, _⟩ => show 30 - k.val + 1 * 0 = (30 - k.val) % 31; omega
    | ⟨1, _⟩ => show c + 1 * j.val = _; exact (congrArg (c + ·) (Nat.one_mul _))

theorem convB_ld (b : Vec Ideal S544x256 .f32) (w : Vec Ideal S3x256 .f32) (i : Fin 64) (j : Fin 128) :
    convB (View.ld b (regB r c h)) (fun k hk => View.ld w (tapB r c h k hk)) (ix2 i j)
      = conv (n := 2) b w (r + i.val) (⟨c + j.val, by omega⟩ : Fin 256) := by
  rw [convB_at]
  unfold conv
  refine Finset.sum_congr rfl fun k _ => ?_
  congr 1
  · refine congrArg b ?_
    funext a
    apply Fin.ext
    match a with
    | ⟨0, _⟩ => show r + 24 + 1 * ((i.val + (8 - k.val)) % 72) = (r + i.val + (32 - k.val)) % 544; omega
    | ⟨1, _⟩ => show c + 1 * j.val = _; exact (congrArg (c + ·) (Nat.one_mul _))
  · refine congrArg w ?_
    funext a
    apply Fin.ext
    match a with
    | ⟨0, _⟩ => show 2 - k.val + 1 * 0 = (2 - k.val) % 3; omega
    | ⟨1, _⟩ => show c + 1 * j.val = _; exact (congrArg (c + ·) (Nat.one_mul _))

/-- The convolution and its bias on a region. -/
abbrev plainR (b : Vec Ideal S544x256 .f32) (w : Vec Ideal S31x256 .f32) (cb : Vec Ideal S1x256 .f32) : FVec Ideal S64x128 .f32 :=
  addf (convA (View.ld b (regA r c h)) (fun k hk => View.ld w (tapA r c h k hk))) (rows (View.ld cb (vec r c h)))

theorem plainR_at (b : Vec Ideal S544x256 .f32) (w : Vec Ideal S31x256 .f32) (cb : Vec Ideal S1x256 .f32) (i : Fin 64) (j : Fin 128) :
    plainR r c h b w cb (ix2 i j) = plain b w cb (r + i.val) (⟨c + j.val, by omega⟩ : Fin 256) := by
  have e : ∀ (u : FVec Ideal S64x128 .f32) (v : Vec Ideal S1x128 .f32), addf u (rows v) (ix2 i j) = u (ix2 i j) + v (ix2 0 j) := by
    intro u v
    unfold rows
    pointwise
  refine (e _ _).trans ?_
  rw [convA_ld r c h b w, vec_at r c h]
  rfl

theorem region_plain (b : Vec Ideal S544x256 .f32) (w : Vec Ideal S31x256 .f32) (cb : Vec Ideal S1x256 .f32) (x : S64x128.Idx) :
    shapeCast S64x128 (plainR r c h b w cb) shapeCasts_S64x128_S64x128 x = block1 b w cb ((reg r c h).emb x) := by
  obtain ⟨i, j, rfl⟩ : ∃ (i : Fin 64) (j : Fin 128), x = ix2 i j := ⟨x 0, x 1, eq_ix2 x⟩
  have e : ∀ u : FVec Ideal S64x128 .f32, shapeCast S64x128 u shapeCasts_S64x128_S64x128 (ix2 i j) = u (ix2 i j) := by
    intro u
    pointwise
  rw [e, plainR_at r c h, emb_at r c h]
  rfl

theorem region_first (b b' : Vec Ideal S544x256 .f32) (w : Vec Ideal S31x256 .f32) (cb g s : Vec Ideal S1x256 .f32)
    (w' : Vec Ideal S3x256 .f32) (a : Vec Ideal S512x256 .bf16) (x : S1x64x128.Idx) :
    firstR (plainR r c h b w cb) (View.ld g (vec r c h)) (View.ld s (vec r c h)) x
      = block0 b b' w cb g s w' a ((regO r c h 0 (by decide)).emb x) := by
  obtain ⟨i, j, rfl⟩ : ∃ (i : Fin 64) (j : Fin 128), x = ix3 0 i j :=
    ⟨x 1, x 2, (eq_ix3 x).trans (congrArg (ix3 · (x 1) (x 2)) (Subsingleton.elim (α := Fin 1) _ _))⟩
  rw [firstR_at, embO_at r c h, vec_at r c h, vec_at r c h]
  have e : (fun l => plainR r c h b w cb (ix2 i l)) =
      fun l => plain b w cb (r + i.val) (Fin.ofNat 256 ((c + j.val) / 128 * 128 + l.val)) := by
    funext l
    rw [plainR_at r c h]
    refine congrArg (plain b w cb (r + i.val)) (Fin.ext ?_)
    show c + l.val = ((c + j.val) / 128 * 128 + l.val) % 256
    omega
  have e' : j = Fin.ofNat 128 ((c + j.val) % 128) := by
    apply Fin.ext
    show j.val = (c + j.val) % 128 % 128
    omega
  rw [e]
  have key : normed (fun l => plain b w cb (r + i.val) (Fin.ofNat 256 ((c + j.val) / 128 * 128 + l.val))) j
        * g (ix2 0 (⟨c + j.val, by omega⟩ : Fin 256)) + s (ix2 0 (⟨c + j.val, by omega⟩ : Fin 256))
      = scaledB b w cb g s (r + i.val) (⟨c + j.val, by omega⟩ : Fin 256) := by
    unfold scaledB
    rw [← e']
  rw [key]
  rfl

theorem region_second (b b' : Vec Ideal S544x256 .f32) (w : Vec Ideal S31x256 .f32) (cb g s : Vec Ideal S1x256 .f32)
    (w' : Vec Ideal S3x256 .f32) (a : Vec Ideal S512x256 .bf16) (x : S1x64x128.Idx) :
    secondR (convB (View.ld b' (regB r c h)) (fun k hk => View.ld w' (tapB r c h k hk))) (View.ld a (reg r c h)) x
      = block0 b b' w cb g s w' a ((regO r c h 1 (by decide)).emb x) := by
  obtain ⟨i, j, rfl⟩ : ∃ (i : Fin 64) (j : Fin 128), x = ix3 0 i j :=
    ⟨x 1, x 2, (eq_ix3 x).trans (congrArg (ix3 · (x 1) (x 2)) (Subsingleton.elim (α := Fin 1) _ _))⟩
  rw [secondR_at, convB_ld r c h, embO_at r c h]
  have e : View.ld a (reg r c h) (ix2 i j) = a (ix2 (⟨r + i.val, by omega⟩ : Fin 512) (⟨c + j.val, by omega⟩ : Fin 256)) :=
    congrArg a (emb_at r c h i j)
  rw [e]
  rfl
end

theorem region_halo (ha : FVec Ideal S32x256 .f32) (g : S512x256.Idx → EReal) (x : S32x256.Idx) :
    ha x = window ha g ((Rect.unit (s := S544x256) ![0, 0] ![32, 256] inb_S544x256_S32x256_0_0).emb x) := by
  obtain ⟨i, j, rfl⟩ : ∃ (i : Fin 32) (j : Fin 256), x = ix2 i j := ⟨x 0, x 1, eq_ix2 x⟩
  unfold window
  have e : ((Rect.unit (s := S544x256) ![0, 0] ![32, 256] inb_S544x256_S32x256_0_0).emb (ix2 i j) 0).val = 0 + 1 * i.val := rfl
  rw [if_pos (by rw [e]; omega)]
  refine congrArg ha ?_
  funext a
  apply Fin.ext
  match a with
  | ⟨0, _⟩ => show i.val = (0 + 1 * i.val) % 32; omega
  | ⟨1, _⟩ => show j.val = 0 + 1 * j.val; omega

variable (m : (ℓ : Loc nD τ sig) → Buf (Elt Ideal) ℓ) (c : Dev nD) (t : Fin cfg0.N)

/-- The window of the first branch's gated value: the 32 rows before the block, zero before the first, and the block's. -/
def bufA : Vec Ideal S544x256 .f32 := window (k0_pay2 (grid0.coords t) (iblk m c 5 t) (iblk m c 6 t)) (gatedB (iblk m c 0 t) (iblk m c 1 t))

theorem windowA (ha : FVec Ideal S32x256 .f32) (x z : Vec Ideal S512x256 .bf16) : View.canon
      [⟨Rect.unit (s := S544x256) ![480, 128] ![64, 128] inb_S544x256_S64x128_480_128, k0_pay57 (k0_pay54 (View.ld x (Rect.unit (s := S512x256) ![448, 128] ![64, 128] inb_S512x256_S64x128_448_128))) (k0_pay55 (View.ld z (Rect.unit (s := S512x256) ![448, 128] ![64, 128] inb_S512x256_S64x128_448_128))) k0_pay56⟩,
       ⟨Rect.unit (s := S544x256) ![416, 128] ![64, 128] inb_S544x256_S64x128_416_128, k0_pay52 (View.ld x (Rect.unit (s := S512x256) ![384, 128] ![64, 128] inb_S512x256_S64x128_384_128)) (View.ld z (Rect.unit (s := S512x256) ![384, 128] ![64, 128] inb_S512x256_S64x128_384_128))⟩,
       ⟨Rect.unit (s := S544x256) ![352, 128] ![64, 128] inb_S544x256_S64x128_352_128, k0_pay49 (View.ld x (Rect.unit (s := S512x256) ![320, 128] ![64, 128] inb_S512x256_S64x128_320_128)) (View.ld z (Rect.unit (s := S512x256) ![320, 128] ![64, 128] inb_S512x256_S64x128_320_128))⟩,
       ⟨Rect.unit (s := S544x256) ![288, 128] ![64, 128] inb_S544x256_S64x128_288_128, k0_pay47 (k0_pay44 (View.ld x (Rect.unit (s := S512x256) ![256, 128] ![64, 128] inb_S512x256_S64x128_256_128))) (k0_pay45 (View.ld z (Rect.unit (s := S512x256) ![256, 128] ![64, 128] inb_S512x256_S64x128_256_128))) k0_pay46⟩,
       ⟨Rect.unit (s := S544x256) ![224, 128] ![64, 128] inb_S544x256_S64x128_224_128, k0_pay42 (View.ld x (Rect.unit (s := S512x256) ![192, 128] ![64, 128] inb_S512x256_S64x128_192_128)) (View.ld z (Rect.unit (s := S512x256) ![192, 128] ![64, 128] inb_S512x256_S64x128_192_128))⟩,
       ⟨Rect.unit (s := S544x256) ![160, 128] ![64, 128] inb_S544x256_S64x128_160_128, k0_pay39 (View.ld x (Rect.unit (s := S512x256) ![128, 128] ![64, 128] inb_S512x256_S64x128_128_128)) (View.ld z (Rect.unit (s := S512x256) ![128, 128] ![64, 128] inb_S512x256_S64x128_128_128))⟩,
       ⟨Rect.unit (s := S544x256) ![96, 128] ![64, 128] inb_S544x256_S64x128_96_128, k0_pay37 (k0_pay34 (View.ld x (Rect.unit (s := S512x256) ![64, 128] ![64, 128] inb_S512x256_S64x128_64_128))) (k0_pay35 (View.ld z (Rect.unit (s := S512x256) ![64, 128] ![64, 128] inb_S512x256_S64x128_64_128))) k0_pay36⟩,
       ⟨Rect.unit (s := S544x256) ![32, 128] ![64, 128] inb_S544x256_S64x128_32_128, k0_pay32 (View.ld x (Rect.unit (s := S512x256) ![0, 128] ![64, 128] inb_S512x256_S64x128_0_128)) (View.ld z (Rect.unit (s := S512x256) ![0, 128] ![64, 128] inb_S512x256_S64x128_0_128))⟩,
       ⟨Rect.unit (s := S544x256) ![480, 0] ![64, 128] inb_S544x256_S64x128_480_0, k0_pay29 (View.ld x (Rect.unit (s := S512x256) ![448, 0] ![64, 128] inb_S512x256_S64x128_448_0)) (View.ld z (Rect.unit (s := S512x256) ![448, 0] ![64, 128] inb_S512x256_S64x128_448_0))⟩,
       ⟨Rect.unit (s := S544x256) ![416, 0] ![64, 128] inb_S544x256_S64x128_416_0, k0_pay27 (k0_pay24 (View.ld x (Rect.unit (s := S512x256) ![384, 0] ![64, 128] inb_S512x256_S64x128_384_0))) (k0_pay25 (View.ld z (Rect.unit (s := S512x256) ![384, 0] ![64, 128] inb_S512x256_S64x128_384_0))) k0_pay26⟩,
       ⟨Rect.unit (s := S544x256) ![352, 0] ![64, 128] inb_S544x256_S64x128_352_0, k0_pay22 (View.ld x (Rect.unit (s := S512x256) ![320, 0] ![64, 128] inb_S512x256_S64x128_320_0)) (View.ld z (Rect.unit (s := S512x256) ![320, 0] ![64, 128] inb_S512x256_S64x128_320_0))⟩,
       ⟨Rect.unit (s := S544x256) ![288, 0] ![64, 128] inb_S544x256_S64x128_288_0, k0_pay19 (View.ld x (Rect.unit (s := S512x256) ![256, 0] ![64, 128] inb_S512x256_S64x128_256_0)) (View.ld z (Rect.unit (s := S512x256) ![256, 0] ![64, 128] inb_S512x256_S64x128_256_0))⟩,
       ⟨Rect.unit (s := S544x256) ![224, 0] ![64, 128] inb_S544x256_S64x128_224_0, k0_pay17 (k0_pay14 (View.ld x (Rect.unit (s := S512x256) ![192, 0] ![64, 128] inb_S512x256_S64x128_192_0))) (k0_pay15 (View.ld z (Rect.unit (s := S512x256) ![192, 0] ![64, 128] inb_S512x256_S64x128_192_0))) k0_pay16⟩,
       ⟨Rect.unit (s := S544x256) ![160, 0] ![64, 128] inb_S544x256_S64x128_160_0, k0_pay12 (View.ld x (Rect.unit (s := S512x256) ![128, 0] ![64, 128] inb_S512x256_S64x128_128_0)) (View.ld z (Rect.unit (s := S512x256) ![128, 0] ![64, 128] inb_S512x256_S64x128_128_0))⟩,
       ⟨Rect.unit (s := S544x256) ![96, 0] ![64, 128] inb_S544x256_S64x128_96_0, k0_pay9 (View.ld x (Rect.unit (s := S512x256) ![64, 0] ![64, 128] inb_S512x256_S64x128_64_0)) (View.ld z (Rect.unit (s := S512x256) ![64, 0] ![64, 128] inb_S512x256_S64x128_64_0))⟩,
       ⟨Rect.unit (s := S544x256) ![32, 0] ![64, 128] inb_S544x256_S64x128_32_0, k0_pay7 (k0_pay4 (View.ld x (Rect.unit (s := S512x256) ![0, 0] ![64, 128] inb_S512x256_S64x128_0_0))) (k0_pay5 (View.ld z (Rect.unit (s := S512x256) ![0, 0] ![64, 128] inb_S512x256_S64x128_0_0))) k0_pay6⟩,
       ⟨Rect.unit (s := S544x256) ![0, 0] ![32, 256] inb_S544x256_S32x256_0_0, ha⟩] = window ha (gatedB x z) := by
  funext y
  refine View.canon_apply_of_pieces (window ha (gatedB x z)) _ ?_ y (View.cover_of_tiledBy _ ![32, 128] (by sl_kernel_rfl) y)
  refine View.PiecesOf.mem ?_
  exact ⟨fun i => region_gated 448 128 (by decide) ha x z i,
    fun i => region_gated 384 128 (by decide) ha x z i,
    fun i => region_gated 320 128 (by decide) ha x z i,
    fun i => region_gated 256 128 (by decide) ha x z i,
    fun i => region_gated 192 128 (by decide) ha x z i,
    fun i => region_gated 128 128 (by decide) ha x z i,
    fun i => region_gated 64 128 (by decide) ha x z i,
    fun i => region_gated 0 128 (by decide) ha x z i,
    fun i => region_gated 448 0 (by decide) ha x z i,
    fun i => region_gated 384 0 (by decide) ha x z i,
    fun i => region_gated 320 0 (by decide) ha x z i,
    fun i => region_gated 256 0 (by decide) ha x z i,
    fun i => region_gated 192 0 (by decide) ha x z i,
    fun i => region_gated 128 0 (by decide) ha x z i,
    fun i => region_gated 64 0 (by decide) ha x z i,
    fun i => region_gated 0 0 (by decide) ha x z i,
    fun i => region_halo _ _ i, trivial⟩

/-- The window of the second branch's product, likewise. -/
def bufB : Vec Ideal S544x256 .f32 := window (k0_pay3 (grid0.coords t) (iblk m c 7 t) (iblk m c 8 t)) (productB (iblk m c 3 t) (iblk m c 4 t))

theorem windowB (ha : FVec Ideal S32x256 .f32) (x z : Vec Ideal S512x256 .bf16) : View.canon
      [⟨Rect.unit (s := S544x256) ![480, 128] ![64, 128] inb_S544x256_S64x128_480_128, k0_pay58 (View.ld x (Rect.unit (s := S512x256) ![448, 128] ![64, 128] inb_S512x256_S64x128_448_128)) (View.ld z (Rect.unit (s := S512x256) ![448, 128] ![64, 128] inb_S512x256_S64x128_448_128))⟩,
       ⟨Rect.unit (s := S544x256) ![416, 128] ![64, 128] inb_S544x256_S64x128_416_128, k0_pay53 (View.ld x (Rect.unit (s := S512x256) ![384, 128] ![64, 128] inb_S512x256_S64x128_384_128)) (View.ld z (Rect.unit (s := S512x256) ![384, 128] ![64, 128] inb_S512x256_S64x128_384_128))⟩,
       ⟨Rect.unit (s := S544x256) ![352, 128] ![64, 128] inb_S544x256_S64x128_352_128, k0_pay51 (k0_pay50 (View.ld x (Rect.unit (s := S512x256) ![320, 128] ![64, 128] inb_S512x256_S64x128_320_128))) (View.ld z (Rect.unit (s := S512x256) ![320, 128] ![64, 128] inb_S512x256_S64x128_320_128))⟩,
       ⟨Rect.unit (s := S544x256) ![288, 128] ![64, 128] inb_S544x256_S64x128_288_128, k0_pay48 (View.ld x (Rect.unit (s := S512x256) ![256, 128] ![64, 128] inb_S512x256_S64x128_256_128)) (View.ld z (Rect.unit (s := S512x256) ![256, 128] ![64, 128] inb_S512x256_S64x128_256_128))⟩,
       ⟨Rect.unit (s := S544x256) ![224, 128] ![64, 128] inb_S544x256_S64x128_224_128, k0_pay43 (View.ld x (Rect.unit (s := S512x256) ![192, 128] ![64, 128] inb_S512x256_S64x128_192_128)) (View.ld z (Rect.unit (s := S512x256) ![192, 128] ![64, 128] inb_S512x256_S64x128_192_128))⟩,
       ⟨Rect.unit (s := S544x256) ![160, 128] ![64, 128] inb_S544x256_S64x128_160_128, k0_pay41 (k0_pay40 (View.ld x (Rect.unit (s := S512x256) ![128, 128] ![64, 128] inb_S512x256_S64x128_128_128))) (View.ld z (Rect.unit (s := S512x256) ![128, 128] ![64, 128] inb_S512x256_S64x128_128_128))⟩,
       ⟨Rect.unit (s := S544x256) ![96, 128] ![64, 128] inb_S544x256_S64x128_96_128, k0_pay38 (View.ld x (Rect.unit (s := S512x256) ![64, 128] ![64, 128] inb_S512x256_S64x128_64_128)) (View.ld z (Rect.unit (s := S512x256) ![64, 128] ![64, 128] inb_S512x256_S64x128_64_128))⟩,
       ⟨Rect.unit (s := S544x256) ![32, 128] ![64, 128] inb_S544x256_S64x128_32_128, k0_pay33 (View.ld x (Rect.unit (s := S512x256) ![0, 128] ![64, 128] inb_S512x256_S64x128_0_128)) (View.ld z (Rect.unit (s := S512x256) ![0, 128] ![64, 128] inb_S512x256_S64x128_0_128))⟩,
       ⟨Rect.unit (s := S544x256) ![480, 0] ![64, 128] inb_S544x256_S64x128_480_0, k0_pay31 (k0_pay30 (View.ld x (Rect.unit (s := S512x256) ![448, 0] ![64, 128] inb_S512x256_S64x128_448_0))) (View.ld z (Rect.unit (s := S512x256) ![448, 0] ![64, 128] inb_S512x256_S64x128_448_0))⟩,
       ⟨Rect.unit (s := S544x256) ![416, 0] ![64, 128] inb_S544x256_S64x128_416_0, k0_pay28 (View.ld x (Rect.unit (s := S512x256) ![384, 0] ![64, 128] inb_S512x256_S64x128_384_0)) (View.ld z (Rect.unit (s := S512x256) ![384, 0] ![64, 128] inb_S512x256_S64x128_384_0))⟩,
       ⟨Rect.unit (s := S544x256) ![352, 0] ![64, 128] inb_S544x256_S64x128_352_0, k0_pay23 (View.ld x (Rect.unit (s := S512x256) ![320, 0] ![64, 128] inb_S512x256_S64x128_320_0)) (View.ld z (Rect.unit (s := S512x256) ![320, 0] ![64, 128] inb_S512x256_S64x128_320_0))⟩,
       ⟨Rect.unit (s := S544x256) ![288, 0] ![64, 128] inb_S544x256_S64x128_288_0, k0_pay21 (k0_pay20 (View.ld x (Rect.unit (s := S512x256) ![256, 0] ![64, 128] inb_S512x256_S64x128_256_0))) (View.ld z (Rect.unit (s := S512x256) ![256, 0] ![64, 128] inb_S512x256_S64x128_256_0))⟩,
       ⟨Rect.unit (s := S544x256) ![224, 0] ![64, 128] inb_S544x256_S64x128_224_0, k0_pay18 (View.ld x (Rect.unit (s := S512x256) ![192, 0] ![64, 128] inb_S512x256_S64x128_192_0)) (View.ld z (Rect.unit (s := S512x256) ![192, 0] ![64, 128] inb_S512x256_S64x128_192_0))⟩,
       ⟨Rect.unit (s := S544x256) ![160, 0] ![64, 128] inb_S544x256_S64x128_160_0, k0_pay13 (View.ld x (Rect.unit (s := S512x256) ![128, 0] ![64, 128] inb_S512x256_S64x128_128_0)) (View.ld z (Rect.unit (s := S512x256) ![128, 0] ![64, 128] inb_S512x256_S64x128_128_0))⟩,
       ⟨Rect.unit (s := S544x256) ![96, 0] ![64, 128] inb_S544x256_S64x128_96_0, k0_pay11 (k0_pay10 (View.ld x (Rect.unit (s := S512x256) ![64, 0] ![64, 128] inb_S512x256_S64x128_64_0))) (View.ld z (Rect.unit (s := S512x256) ![64, 0] ![64, 128] inb_S512x256_S64x128_64_0))⟩,
       ⟨Rect.unit (s := S544x256) ![32, 0] ![64, 128] inb_S544x256_S64x128_32_0, k0_pay8 (View.ld x (Rect.unit (s := S512x256) ![0, 0] ![64, 128] inb_S512x256_S64x128_0_0)) (View.ld z (Rect.unit (s := S512x256) ![0, 0] ![64, 128] inb_S512x256_S64x128_0_0))⟩,
       ⟨Rect.unit (s := S544x256) ![0, 0] ![32, 256] inb_S544x256_S32x256_0_0, ha⟩] = window ha (productB x z) := by
  funext y
  refine View.canon_apply_of_pieces (window ha (productB x z)) _ ?_ y (View.cover_of_tiledBy _ ![32, 128] (by sl_kernel_rfl) y)
  refine View.PiecesOf.mem ?_
  exact ⟨fun i => region_product 448 128 (by decide) ha x z i,
    fun i => region_product 384 128 (by decide) ha x z i,
    fun i => region_product 320 128 (by decide) ha x z i,
    fun i => region_product 256 128 (by decide) ha x z i,
    fun i => region_product 192 128 (by decide) ha x z i,
    fun i => region_product 128 128 (by decide) ha x z i,
    fun i => region_product 64 128 (by decide) ha x z i,
    fun i => region_product 0 128 (by decide) ha x z i,
    fun i => region_product 448 0 (by decide) ha x z i,
    fun i => region_product 384 0 (by decide) ha x z i,
    fun i => region_product 320 0 (by decide) ha x z i,
    fun i => region_product 256 0 (by decide) ha x z i,
    fun i => region_product 192 0 (by decide) ha x z i,
    fun i => region_product 128 0 (by decide) ha x z i,
    fun i => region_product 64 0 (by decide) ha x z i,
    fun i => region_product 0 0 (by decide) ha x z i,
    fun i => region_halo _ _ i, trivial⟩

end Cert.MfBlock

end
-- ==== Proof.FfBlock.lean ====
/-
  What one grid point of the ConvFFN's gated convolution leaves in its block, at a row and a feature: the regions the body
  stores are the regions of one function of the window, the taps and the other projection's block.
-/
module

public import proofs.«01_k».proof.Proof.FfRegion
public import proofs.«01_k».proof.Proof.MfBlock

@[expose] public section

set_option maxRecDepth 16384

noncomputable section

namespace Cert.FfBlock

open Cert.FfnFwdIdeal Cert.FfnFwdIdeal.Gen Cert.FfnFwdIdeal.Value Cert.FfRegion Idealize.ShloMosaic
open Idealize.ShloMosaic.TcCoe
open Cert.MixRegion (sig)
open Cert.MfBlock (inb2 inb3)

/-! ## The block as one function -/

/-- The 32 rows before a block and the block. -/
def window (h : FVec Ideal S32x1376 .f32) (g : FVec Ideal S512x1376 .f32) : Vec Ideal S544x1376 .f32 := fun y =>
  if (y 0).val < 32 then h (ix2 (Fin.ofNat 32 (y 0).val) (y 1)) else g (ix2 (Fin.ofNat 512 ((y 0).val - 32)) (y 1))

/-- The causal convolution of three taps over a window, at a row and a feature of the block. -/
def conv (b : Vec Ideal S544x1376 .f32) (w : Vec Ideal S1x3x1376 .f32) (p : ℕ) (q : Fin 1376) : EReal :=
  ∑ k : Fin 3, b (ix2 (Fin.ofNat 544 (p + (32 - k))) q) * w (ix3 0 (Fin.ofNat 3 (2 - k)) q)

def block (b : Vec Ideal S544x1376 .f32) (w : Vec Ideal S1x3x1376 .f32) (u : Vec Ideal S1x512x1376 .bf16) : Vec Ideal S1x512x1376 .bf16 :=
  fun y => conv b w (y 1).val (y 2) * sig (conv b w (y 1).val (y 2)) * u (ix3 0 (y 1) (y 2))

/-! ## A region of it -/

section
variable {d : ℕ} (W : Width d) (r c : ℕ) (h : r + 64 ≤ 512 ∧ c + d ≤ 1376)

/-- A region of the block, of the window; a tap's row of weights. -/
abbrev regO : Rect S1x512x1376 := Rect.unit ![0, r, c] ![1, 64, d] (inb3 0 r c (by decide) h.1 h.2)
abbrev regB : Rect S544x1376 := Rect.unit ![r + 24, c] ![72, d] (inb2 (r + 24) c (by show r + 24 + 72 ≤ 544; omega) h.2)
abbrev tapR (k : ℕ) (hk : k < 3) : Rect S1x3x1376 := Rect.unit ![0, k, c] ![1, 1, d] (inb3 0 k c (by decide) (by show k + 1 ≤ 3; omega) h.2)

include W in
theorem embO_at (i : Fin 64) (j : Fin d) :
    (regO r c h).emb (ix3 0 i j) = ix3 (0 : Fin 1) (⟨r + i.val, by omega⟩ : Fin 512) (⟨c + j.val, by omega⟩ : Fin 1376) := by
  funext a
  apply Fin.ext
  match a with
  | ⟨0, _⟩ => rfl
  | ⟨1, _⟩ => show r + 1 * i.val = r + i.val; omega
  | ⟨2, _⟩ => show c + 1 * j.val = c + j.val; omega

theorem conv_ld (b : Vec Ideal S544x1376 .f32) (w : Vec Ideal S1x3x1376 .f32) (i : Fin 64) (j : Fin d) :
    convR W (View.ld b (regB r c h)) (fun k hk => View.ld w (tapR r c h k hk)) (ix2 i j)
      = conv b w (r + i.val) (⟨c + j.val, by omega⟩ : Fin 1376) := by
  rw [convR_at]
  unfold conv
  refine Finset.sum_congr rfl fun k _ => ?_
  refine congrArg₂ (· * ·) (congrArg b ?_) (congrArg w ?_)
  · funext a
    apply Fin.ext
    match a with
    | ⟨0, _⟩ => show r + 24 + 1 * ((i.val + (8 - k.val)) % 72) = (r + i.val + (32 - k.val)) % 544; omega
    | ⟨1, _⟩ => show c + 1 * j.val = _; exact (congrArg (c + ·) (Nat.one_mul _))
  · funext a
    apply Fin.ext
    match a with
    | ⟨0, _⟩ => rfl
    | ⟨1, _⟩ => show 2 - k.val + 1 * 0 = (2 - k.val) % 3; omega
    | ⟨2, _⟩ => show c + 1 * j.val = _; exact (congrArg (c + ·) (Nat.one_mul _))

theorem region (b : Vec Ideal S544x1376 .f32) (w : Vec Ideal S1x3x1376 .f32) (u : Vec Ideal S1x512x1376 .bf16)
    (x : (⟨3, ![1, 64, d]⟩ : Shape).Idx) :
    actR W (convR W (View.ld b (regB r c h)) (fun k hk => View.ld w (tapR r c h k hk))) (View.ld u (regO r c h)) x
      = block b w u ((regO r c h).emb x) := by
  obtain ⟨i, j, rfl⟩ : ∃ (i : Fin 64) (j : Fin d), x = ix3 0 i j :=
    ⟨x 1, x 2, (eq_ix3 x).trans (congrArg (ix3 · (x 1) (x 2)) (Subsingleton.elim (α := Fin 1) _ _))⟩
  rw [actR_at, conv_ld W r c h, embO_at W r c h]
  have e : View.ld u (regO r c h) (ix3 0 i j) = u (ix3 0 (⟨r + i.val, by omega⟩ : Fin 512) (⟨c + j.val, by omega⟩ : Fin 1376)) :=
    congrArg u (embO_at W r c h i j)
  rw [e]
  rfl
end

/-- The two stores into the window. -/
theorem window_eq (ha : FVec Ideal S32x1376 .f32) (g : FVec Ideal S512x1376 .f32) : View.canon
      [⟨Rect.unit (s := S544x1376) ![0, 0] ![32, 1376] inb_S544x1376_S32x1376_0_0, ha⟩,
       ⟨Rect.unit (s := S544x1376) ![32, 0] ![512, 1376] inb_S544x1376_S512x1376_32_0, g⟩] = window ha g := by
  funext y
  refine View.canon_apply_of_pieces (window ha g) _ ?_ y (View.cover_of_tiledBy _ ![32, 1376] (by sl_kernel_rfl) y)
  refine View.PiecesOf.mem ?_
  refine ⟨fun x => ?_, fun x => ?_, trivial⟩
  · obtain ⟨i, j, rfl⟩ : ∃ (i : Fin 32) (j : Fin 1376), x = ix2 i j := ⟨x 0, x 1, eq_ix2 x⟩
    unfold window
    have e : ((Rect.unit (s := S544x1376) ![0, 0] ![32, 1376] inb_S544x1376_S32x1376_0_0).emb (ix2 i j) 0).val = 0 + 1 * i.val := rfl
    rw [if_pos (by rw [e]; omega)]
    refine congrArg ha ?_
    funext a; apply Fin.ext
    match a with
    | ⟨0, _⟩ => show i.val = (0 + 1 * i.val) % 32; omega
    | ⟨1, _⟩ => show j.val = 0 + 1 * j.val; omega
  · obtain ⟨i, j, rfl⟩ : ∃ (i : Fin 512) (j : Fin 1376), x = ix2 i j := ⟨x 0, x 1, eq_ix2 x⟩
    unfold window
    have e : ((Rect.unit (s := S544x1376) ![32, 0] ![512, 1376] inb_S544x1376_S512x1376_32_0).emb (ix2 i j) 0).val = 32 + 1 * i.val := rfl
    rw [if_neg (by rw [e]; omega)]
    refine congrArg g ?_
    funext a; apply Fin.ext
    match a with
    | ⟨0, _⟩ => show i.val = (32 + 1 * i.val - 32) % 512; omega
    | ⟨1, _⟩ => show j.val = 0 + 1 * j.val; omega

variable (m : (ℓ : Loc nD τ sig) → Buf (Elt Ideal) ℓ) (c : Dev nD) (t : Fin cfg0.N)

/-- The window: the 32 rows before the block, zero before the first, and the block's. -/
def buf : Vec Ideal S544x1376 .f32 := window (k0_pay3 (grid0.coords t) (iblk m c 1 t)) (k0_pay2 (iblk m c 0 t))

end Cert.FfBlock

end
-- ==== Proof.FfOut.lean ====
/-
  What one grid point of the ConvFFN's gated convolution leaves in its output block.
-/
module

public import proofs.«01_k».proof.Proof.FfBlock

@[expose] public section

set_option maxRecDepth 16384

noncomputable section

namespace Cert.FfBlock

open Cert.FfnFwdIdeal Cert.FfnFwdIdeal.Gen Cert.FfnFwdIdeal.Value Cert.FfRegion Idealize.ShloMosaic
open Idealize.ShloMosaic.TcCoe

variable (m : (ℓ : Loc nD τ sig) → Buf (Elt Ideal) ℓ) (c : Dev nD) (t : Fin cfg0.N)

set_option maxHeartbeats 8000000 in
theorem out4 : outsAt0 m c t = block (buf m c t) (iblk m c 3 t) (iblk m c 2 t) := by
  have hcov := cover0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t)
  unfold outsAt0
  unfold out0_A_4
  refine (View.read_writes_eq_canon _ _ _ hcov).trans ?_
  funext y
  refine View.canon_apply_of_pieces (block (buf m c t) (iblk m c 3 t) (iblk m c 2 t)) _ ?_ y (hcov y)
  refine View.PiecesOf.mem ?_
  clear hcov
  unfold kernelRun0_A
  dsimp only
  sl_unfold_words
  simp (disch := decide) only [View.readAt_eq_ld, Memref.IsWhole.read_unread, View.readCov_eq_canon', View.ld_unit_lit]
  have ha : _ = buf m c t := window_eq (k0_pay3 (grid0.coords t) (iblk m c 1 t)) (k0_pay2 (iblk m c 0 t))
  simp only [ha]
  generalize buf m c t = b
  generalize iblk m c 3 t = w
  generalize iblk m c 2 t = u
  exact ⟨fun x => region narrow 448 1280 (by decide) b w u x,
    fun x => region narrow 384 1280 (by decide) b w u x,
    fun x => region narrow 320 1280 (by decide) b w u x,
    fun x => region narrow 256 1280 (by decide) b w u x,
    fun x => region narrow 192 1280 (by decide) b w u x,
    fun x => region narrow 128 1280 (by decide) b w u x,
    fun x => region narrow 64 1280 (by decide) b w u x,
    fun x => region narrow 0 1280 (by decide) b w u x,
    fun x => region wide 448 1152 (by decide) b w u x,
    fun x => region wide 384 1152 (by decide) b w u x,
    fun x => region wide 320 1152 (by decide) b w u x,
    fun x => region wide 256 1152 (by decide) b w u x,
    fun x => region wide 192 1152 (by decide) b w u x,
    fun x => region wide 128 1152 (by decide) b w u x,
    fun x => region wide 64 1152 (by decide) b w u x,
    fun x => region wide 0 1152 (by decide) b w u x,
    fun x => region wide 448 1024 (by decide) b w u x,
    fun x => region wide 384 1024 (by decide) b w u x,
    fun x => region wide 320 1024 (by decide) b w u x,
    fun x => region wide 256 1024 (by decide) b w u x,
    fun x => region wide 192 1024 (by decide) b w u x,
    fun x => region wide 128 1024 (by decide) b w u x,
    fun x => region wide 64 1024 (by decide) b w u x,
    fun x => region wide 0 1024 (by decide) b w u x,
    fun x => region wide 448 896 (by decide) b w u x,
    fun x => region wide 384 896 (by decide) b w u x,
    fun x => region wide 320 896 (by decide) b w u x,
    fun x => region wide 256 896 (by decide) b w u x,
    fun x => region wide 192 896 (by decide) b w u x,
    fun x => region wide 128 896 (by decide) b w u x,
    fun x => region wide 64 896 (by decide) b w u x,
    fun x => region wide 0 896 (by decide) b w u x,
    fun x => region wide 448 768 (by decide) b w u x,
    fun x => region wide 384 768 (by decide) b w u x,
    fun x => region wide 320 768 (by decide) b w u x,
    fun x => region wide 256 768 (by decide) b w u x,
    fun x => region wide 192 768 (by decide) b w u x,
    fun x => region wide 128 768 (by decide) b w u x,
    fun x => region wide 64 768 (by decide) b w u x,
    fun x => region wide 0 768 (by decide) b w u x,
    fun x => region wide 448 640 (by decide) b w u x,
    fun x => region wide 384 640 (by decide) b w u x,
    fun x => region wide 320 640 (by decide) b w u x,
    fun x => region wide 256 640 (by decide) b w u x,
    fun x => region wide 192 640 (by decide) b w u x,
    fun x => region wide 128 640 (by decide) b w u x,
    fun x => region wide 64 640 (by decide) b w u x,
    fun x => region wide 0 640 (by decide) b w u x,
    fun x => region wide 448 512 (by decide) b w u x,
    fun x => region wide 384 512 (by decide) b w u x,
    fun x => region wide 320 512 (by decide) b w u x,
    fun x => region wide 256 512 (by decide) b w u x,
    fun x => region wide 192 512 (by decide) b w u x,
    fun x => region wide 128 512 (by decide) b w u x,
    fun x => region wide 64 512 (by decide) b w u x,
    fun x => region wide 0 512 (by decide) b w u x,
    fun x => region wide 448 384 (by decide) b w u x,
    fun x => region wide 384 384 (by decide) b w u x,
    fun x => region wide 320 384 (by decide) b w u x,
    fun x => region wide 256 384 (by decide) b w u x,
    fun x => region wide 192 384 (by decide) b w u x,
    fun x => region wide 128 384 (by decide) b w u x,
    fun x => region wide 64 384 (by decide) b w u x,
    fun x => region wide 0 384 (by decide) b w u x,
    fun x => region wide 448 256 (by decide) b w u x,
    fun x => region wide 384 256 (by decide) b w u x,
    fun x => region wide 320 256 (by decide) b w u x,
    fun x => region wide 256 256 (by decide) b w u x,
    fun x => region wide 192 256 (by decide) b w u x,
    fun x => region wide 128 256 (by decide) b w u x,
    fun x => region wide 64 256 (by decide) b w u x,
    fun x => region wide 0 256 (by decide) b w u x,
    fun x => region wide 448 128 (by decide) b w u x,
    fun x => region wide 384 128 (by decide) b w u x,
    fun x => region wide 320 128 (by decide) b w u x,
    fun x => region wide 256 128 (by decide) b w u x,
    fun x => region wide 192 128 (by decide) b w u x,
    fun x => region wide 128 128 (by decide) b w u x,
    fun x => region wide 64 128 (by decide) b w u x,
    fun x => region wide 0 128 (by decide) b w u x,
    fun x => region wide 448 0 (by decide) b w u x,
    fun x => region wide 384 0 (by decide) b w u x,
    fun x => region wide 320 0 (by decide) b w u x,
    fun x => region wide 256 0 (by decide) b w u x,
    fun x => region wide 192 0 (by decide) b w u x,
    fun x => region wide 128 0 (by decide) b w u x,
    fun x => region wide 64 0 (by decide) b w u x,
    fun x => region wide 0 0 (by decide) b w u x, trivial⟩

end Cert.FfBlock

end
-- ==== Proof.FfRef.lean ====
/-
  The gated convolution of the ConvFFN as the reference computes it, at a row and a feature of a shard.
-/
module

public import proofs.«01_k».proof.Defs
public import proofs.«01_k».proof.Proof.Gen.FfnFwdRefIdeal.Read
public import proofs.«01_k».proof.Proof.MixRef
public import Idealize.ShloMosaic.Lib.Pointwise

@[expose] public section

set_option maxRecDepth 16384

noncomputable section

namespace Cert.FfRef

open Cert.FfnFwdRefIdeal Cert.FfnFwdRefIdeal.Gen Cert.FfnFwdRefIdeal.Read Idealize.ShloMosaic
open Idealize.ShloMosaic.TcCoe

/-- Feature `j` of shard `b`, among all the features. -/
abbrev feat (b : Fin 8) (j : Fin 1376) : Fin 11008 := ⟨b.val * 1376 + j.val, by omega⟩

/-- What tap `j` of three adds at row `t`: the row `2 - j` rows before, zero before the first. -/
def behind (x : (⟨2, ![4096, 11008]⟩ : Shape).Idx → EReal) (w : (⟨2, ![3, 11008]⟩ : Shape).Idx → EReal)
    (t : Fin 4096) (c : Fin 11008) (j : ℕ) : EReal :=
  (if h : 2 ≤ t.val + j then x (ix2 (Fin.ofNat 4096 (t.val + j - 2)) c) else 0) * w (ix2 (Fin.ofNat 3 j) c)

/-- The causal convolution of three taps, at a row and a feature. -/
def causal (x : (⟨2, ![4096, 11008]⟩ : Shape).Idx → EReal) (w : (⟨2, ![3, 11008]⟩ : Shape).Idx → EReal)
    (t : Fin 4096) (c : Fin 11008) : EReal := ∑ j ∈ Finset.range 3, behind x w t c j

/-- The convolution through the silu, times the other projection. -/
def act (x u : (⟨2, ![4096, 11008]⟩ : Shape).Idx → EReal) (w : (⟨2, ![3, 11008]⟩ : Shape).Idx → EReal)
    (t : Fin 4096) (c : Fin 11008) : EReal := causal x w t c * MixRef.logistic (causal x w t c) * u (ix2 t c)

theorem tap (p : ℕ) (hp : p ≤ 2) (z : Vec Ideal S2x11008 .f32) (hz : ∀ i j, z (ix2 i j) = 0) (x : Vec Ideal S4096x11008 .f32)
    (w : Vec Ideal S3x11008 .f32) (h0 h1 h2 h3 h4 h5) (t : Fin 4096) (c : Fin 11008) :
    mulf (F := Ideal) (φ := .f32) (extractStridedSlice S4096x11008 ![p, 0]
        (concatenate S4098x11008 0 [⟨S2x11008, z⟩, ⟨S4096x11008, x⟩] h0) h1)
      (broadcastInDim S4096x11008 ![0, 1] h2 (broadcastInDim S1x11008 ![1] h3
        (shapeCast S11008 (extractStridedSlice S1x11008 ![p, 0] w h5) h4))) (ix2 t c) = behind x w t c p := by
  pointwise
  unfold behind
  have ew : (⟨p, by omega⟩ : Fin 3) = Fin.ofNat 3 p := Fin.ext (Nat.mod_eq_of_lt (by omega)).symm
  rw [← ew]
  refine congrArg (· * _) ?_
  by_cases hl : 2 ≤ t.val + p
  · rw [dif_pos hl, dif_neg (by omega)]
    refine congrArg x (congrArg (ix2 · c) (Fin.ext ?_))
    show p + t.val - 2 = (t.val + p - 2) % 4096
    omega
  · rw [dif_neg hl, dif_pos (by omega), hz]

theorem val_22 (x0 : Vec Ideal S4096x11008 .bf16) (x2 : Vec Ideal S3x11008 .f32) (t : Fin 4096) (c : Fin 11008) :
    val_main_v22 (F := Ideal) x0 x2 (ix2 t c) = causal x0 x2 t c := by
  have hz : ∀ i j, val_main_v1 (F := Ideal) (ix2 i j) = 0 := by
    intro i j
    pointwise [val_main_v1, val_main_cst]
  have hx : val_main_v0 (F := Ideal) x0 = x0 := by
    funext y
    rfl
  simp only [val_main_v2, val_main_v3, val_main_v4, val_main_v5, val_main_v6, val_main_v7, val_main_v8, val_main_v9,
    val_main_v10, val_main_v11, val_main_v12, val_main_v13, val_main_v14, val_main_v15, val_main_v16, val_main_v17,
    val_main_v18, val_main_v19, val_main_v20, val_main_v21, val_main_v22]
  rw [hx]
  unfold causal
  simp only [addf_apply, Finset.sum_range_succ, Finset.sum_range_zero, zero_add]
  repeat rw [tap _ _ _ hz x0 x2]
  all_goals first | rfl | decide

theorem val_28 (x0 x1 : Vec Ideal S4096x11008 .bf16) (x2 : Vec Ideal S3x11008 .f32) (b : Fin 8) (t : Fin 4096) (j : Fin 1376) :
    val_main_v28 (F := Ideal) x0 x1 x2 (ix3 b t j) = act x0 x1 x2 t (feat b j) := by
  unfold act
  rw [← val_22]
  pointwise [val_main_v28, val_main_v27, val_main_v26, val_main_v25, val_main_v24, val_main_v23, val_main_call0_v5, val_main_call0_v4,
    val_main_call0_v3, val_main_call0_v2, val_main_call0_v1, val_main_call0_v0, val_main_call0_cst, val_main_call0_cst_0]
  rfl

end Cert.FfRef

end
-- ==== Proof.MixBlock.lean ====
/-
  What one grid point of the mixer's gradient leaves in its four blocks, at a row and a channel: the sixteen regions the
  body stores are the regions of one function of the two windows, the taps and the projection's blocks.
-/
module

public import proofs.«01_k».proof.Proof.MixRegion

@[expose] public section

set_option maxRecDepth 16384

noncomputable section

namespace Cert.MixBlock

open Cert.MixIdeal Cert.MixIdeal.Gen Cert.MixIdeal.Value Cert.MixRegion Idealize.ShloMosaic
open Idealize.ShloMosaic.TcCoe

/-! ## The block as one function -/

/-- The turned convolution of `n + 1` taps over a window, at a row and a channel of the block. -/
def conv {n : ℕ} (b : Vec Ideal S544x256 .f32) (w : Vec Ideal (⟨2, ![n + 1, 256]⟩ : Shape) .f32) (y : S512x256.Idx) : EReal :=
  ∑ k : Fin (n + 1), b (ix2 (Fin.ofNat 544 ((y 0).val + k)) (y 1)) * w (ix2 (Fin.ofNat (n + 1) (n - k)) (y 1))

abbrev gdav (b : Vec Ideal S544x256 .f32) (w : Vec Ideal S31x256 .f32) (z : Vec Ideal S512x256 .bf16) : Vec Ideal S512x256 .bf16 :=
  fun y => conv (n := 30) b w y * sig (z y)

abbrev gdag (b : Vec Ideal S544x256 .f32) (w : Vec Ideal S31x256 .f32) (a z : Vec Ideal S512x256 .bf16) : Vec Ideal S512x256 .bf16 :=
  fun y => conv (n := 30) b w y * a y * (sig (z y) * (1 - sig (z y)))

abbrev gprod (b : Vec Ideal S544x256 .f32) (w : Vec Ideal S3x256 .f32) (a : Vec Ideal S512x256 .bf16) : Vec Ideal S512x256 .bf16 :=
  fun y => conv (n := 2) b w y * a y

/-! ## A region of it -/

section
variable (r c : ℕ) (h : r + 64 ≤ 512 ∧ c + 128 ≤ 256)

theorem inb {R C : ℕ} {S : Fin 2 → ℕ} (h0 : r + R ≤ S 0) (h1 : c + C ≤ S 1) (a : Fin 2) :
    (![r, c] : Fin 2 → ℕ) a + (![R, C] : Fin 2 → ℕ) a ≤ S a := by
  match a with
  | ⟨0, _⟩ => exact h0
  | ⟨1, _⟩ => exact h1

/-- A region of the block, of the window, and a tap's row of weights. -/
abbrev reg : Rect S512x256 := Rect.unit ![r, c] ![64, 128] (inb r c h.1 h.2)
abbrev regA : Rect S544x256 :=
  Rect.unit ![r, c] ![96, 128] (inb r c (by show r + 96 ≤ 544; omega) h.2)
abbrev regB : Rect S544x256 :=
  Rect.unit ![r, c] ![72, 128] (inb r c (by show r + 72 ≤ 544; omega) h.2)
abbrev tapA (k : ℕ) (hk : k < 31) : Rect S31x256 :=
  Rect.unit ![k, c] ![1, 128] (inb k c (by show k + 1 ≤ 31; omega) h.2)
abbrev tapB (k : ℕ) (hk : k < 3) : Rect S3x256 :=
  Rect.unit ![k, c] ![1, 128] (inb k c (by show k + 1 ≤ 3; omega) h.2)

theorem emb_at (i : Fin 64) (j : Fin 128) :
    (reg r c h).emb (ix2 i j) = ix2 (⟨r + i.val, by omega⟩ : Fin 512) (⟨c + j.val, by omega⟩ : Fin 256) := by
  funext a
  apply Fin.ext
  match a with
  | ⟨0, _⟩ => show r + 1 * i.val = r + i.val; omega
  | ⟨1, _⟩ => show c + 1 * j.val = c + j.val; omega

theorem convA_ld (b : Vec Ideal S544x256 .f32) (w : Vec Ideal S31x256 .f32) (i : Fin 64) (j : Fin 128) :
    convA (View.ld b (regA r c h))
      (fun k hk => View.ld w (tapA r c h k hk)) (ix2 i j)
      = conv (n := 30) b w ((reg r c h).emb (ix2 i j)) := by
  rw [convA_at, emb_at r c h]
  unfold conv
  refine Finset.sum_congr rfl fun k _ => ?_
  congr 1
  · refine congrArg b ?_
    funext a
    apply Fin.ext
    match a with
    | ⟨0, _⟩ => show r + 1 * ((i.val + k.val) % 96) = (r + i.val + k.val) % 544; omega
    | ⟨1, _⟩ => show c + 1 * j.val = _; exact (congrArg (c + ·) (Nat.one_mul _))
  · refine congrArg w ?_
    funext a
    apply Fin.ext
    match a with
    | ⟨0, _⟩ => show 30 - k.val + 1 * 0 = (30 - k.val) % 31; omega
    | ⟨1, _⟩ => show c + 1 * j.val = _; exact (congrArg (c + ·) (Nat.one_mul _))

theorem convB_ld (b : Vec Ideal S544x256 .f32) (w : Vec Ideal S3x256 .f32) (i : Fin 64) (j : Fin 128) :
    convB (View.ld b (regB r c h))
      (fun k hk => View.ld w (tapB r c h k hk)) (ix2 i j)
      = conv (n := 2) b w ((reg r c h).emb (ix2 i j)) := by
  rw [convB_at, emb_at r c h]
  unfold conv
  refine Finset.sum_congr rfl fun k _ => ?_
  congr 1
  · refine congrArg b ?_
    funext a
    apply Fin.ext
    match a with
    | ⟨0, _⟩ => show r + 1 * ((i.val + k.val) % 72) = (r + i.val + k.val) % 544; omega
    | ⟨1, _⟩ => show c + 1 * j.val = _; exact (congrArg (c + ·) (Nat.one_mul _))
  · refine congrArg w ?_
    funext a
    apply Fin.ext
    match a with
    | ⟨0, _⟩ => show 2 - k.val + 1 * 0 = (2 - k.val) % 3; omega
    | ⟨1, _⟩ => show c + 1 * j.val = _; exact (congrArg (c + ·) (Nat.one_mul _))

/-- A region of a product with the second branch's gradient. -/
theorem region_prod (b : Vec Ideal S544x256 .f32) (w : Vec Ideal S3x256 .f32) (a : Vec Ideal S512x256 .bf16)
    (x : S64x128.Idx) :
    prodR (convB (View.ld b (regB r c h))
        (fun k hk => View.ld w (tapB r c h k hk)))
      (View.ld a (reg r c h)) x
      = gprod b w a ((reg r c h).emb x) := by
  obtain ⟨i, j, rfl⟩ : ∃ (i : Fin 64) (j : Fin 128), x = ix2 i j := ⟨x 0, x 1, eq_ix2 x⟩
  have e : ∀ u v : FVec Ideal S64x128 .f32, outR (mulf u v) (ix2 i j) = u (ix2 i j) * v (ix2 i j) := by
    intro u v
    unfold outR
    pointwise
  refine (e _ _).trans ?_
  rw [convB_ld r c h b w]
  rfl

theorem region_dav (b : Vec Ideal S544x256 .f32) (w : Vec Ideal S31x256 .f32) (z : Vec Ideal S512x256 .bf16)
    (x : S64x128.Idx) :
    davR (convA (View.ld b (regA r c h))
        (fun k hk => View.ld w (tapA r c h k hk)))
      (View.ld z (reg r c h)) x
      = gdav b w z ((reg r c h).emb x) := by
  obtain ⟨i, j, rfl⟩ : ∃ (i : Fin 64) (j : Fin 128), x = ix2 i j := ⟨x 0, x 1, eq_ix2 x⟩
  have e : ∀ u v : FVec Ideal S64x128 .f32, outR (mulf u v) (ix2 i j) = u (ix2 i j) * v (ix2 i j) := by
    intro u v
    unfold outR
    pointwise
  refine (e _ _).trans ?_
  rw [convA_ld r c h b w, sigR_at]
  rfl

theorem region_dag (b : Vec Ideal S544x256 .f32) (w : Vec Ideal S31x256 .f32) (a z : Vec Ideal S512x256 .bf16)
    (x : S64x128.Idx) :
    dagR (convA (View.ld b (regA r c h))
        (fun k hk => View.ld w (tapA r c h k hk)))
      (View.ld a (reg r c h)) (View.ld z (reg r c h)) x
      = gdag b w a z ((reg r c h).emb x) := by
  obtain ⟨i, j, rfl⟩ : ∃ (i : Fin 64) (j : Fin 128), x = ix2 i j := ⟨x 0, x 1, eq_ix2 x⟩
  have e : ∀ u v s : FVec Ideal S64x128 .f32, outR (mulf (mulf u v) (mulf s (subf (broadcast S64x128 (Scalar.ofBits .f32 0x3F800000#32)) s))) (ix2 i j)
      = u (ix2 i j) * v (ix2 i j) * (s (ix2 i j) * (1 - s (ix2 i j))) := by
    intro u v s
    unfold outR
    pointwise
  refine (e _ _ _).trans ?_
  rw [convA_ld r c h b w, sigR_at]
  rfl
end

variable (m : (ℓ : Loc nD τ sig) → Buf (Elt Ideal) ℓ) (c : Dev nD) (t : Fin cfg0.N)

/-- The window of the second branch's cotangent: the block's rows and the 32 rows after them, zero after the last. -/
def bufB : Vec Ideal S544x256 .f32 := View.canon
  [⟨Rect.unit (s := S544x256) ![512, 0] S32x256.size inb_S544x256_S32x256_512_0, k0_pay6 (grid0.coords t) (iblk m c 3 t)⟩,
   ⟨Rect.unit (s := S544x256) ![0, 0] S512x256.size inb_S544x256_S512x256_0_0, k0_pay5 (iblk m c 2 t)⟩]

def bufA : Vec Ideal S544x256 .f32 := View.canon
  [⟨Rect.unit (s := S544x256) ![512, 0] S32x256.size inb_S544x256_S32x256_512_0, k0_pay4 (grid0.coords t) (iblk m c 1 t)⟩,
   ⟨Rect.unit (s := S544x256) ![0, 0] S512x256.size inb_S544x256_S512x256_0_0, k0_pay3 (iblk m c 0 t)⟩]

theorem bufB_eq : View.canon
      [⟨Rect.unit (s := S544x256) ![512, 0] S32x256.size inb_S544x256_S32x256_512_0, k0_pay6 (grid0.coords t) (iblk m c 3 t)⟩,
       ⟨Rect.unit (s := S544x256) ![0, 0] S512x256.size inb_S544x256_S512x256_0_0, k0_pay5 (iblk m c 2 t)⟩] = bufB m c t := rfl

theorem bufA_eq : View.canon
      [⟨Rect.unit (s := S544x256) ![512, 0] S32x256.size inb_S544x256_S32x256_512_0, k0_pay4 (grid0.coords t) (iblk m c 1 t)⟩,
       ⟨Rect.unit (s := S544x256) ![0, 0] S512x256.size inb_S544x256_S512x256_0_0, k0_pay3 (iblk m c 0 t)⟩] = bufA m c t := rfl

/-- The gradient of the first branch's value. -/
theorem out10 : (outsAt0 m c t).1 = gdav (bufA m c t) (iblk m c 8 t) (iblk m c 5 t) := by
  have hcov := cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
  unfold outsAt0
  dsimp only
  unfold out0_A_10
  refine (View.read_writes_eq_canon _ _ _ hcov).trans ?_
  funext y
  refine View.canon_apply_of_pieces (gdav (bufA m c t) (iblk m c 8 t) (iblk m c 5 t)) _ ?_ y (hcov y)
  refine View.PiecesOf.mem ?_
  clear hcov
  unfold kernelRun0_A
  dsimp only
  sl_unfold_words
  simp (disch := decide) only [View.readAt_eq_ld, Memref.IsWhole.read_unread, View.readCov_eq_canon', View.ld_unit_lit]
  have hb := bufA_eq m c t
  simp only [hb]
  generalize bufA m c t = b
  generalize iblk m c 8 t = w
  generalize iblk m c 5 t = a
  exact ⟨fun x => region_dav 448 128 (by decide) b w a x,
    fun x => region_dav 384 128 (by decide) b w a x,
    fun x => region_dav 320 128 (by decide) b w a x,
    fun x => region_dav 256 128 (by decide) b w a x,
    fun x => region_dav 192 128 (by decide) b w a x,
    fun x => region_dav 128 128 (by decide) b w a x,
    fun x => region_dav 64 128 (by decide) b w a x,
    fun x => region_dav 0 128 (by decide) b w a x,
    fun x => region_dav 448 0 (by decide) b w a x,
    fun x => region_dav 384 0 (by decide) b w a x,
    fun x => region_dav 320 0 (by decide) b w a x,
    fun x => region_dav 256 0 (by decide) b w a x,
    fun x => region_dav 192 0 (by decide) b w a x,
    fun x => region_dav 128 0 (by decide) b w a x,
    fun x => region_dav 64 0 (by decide) b w a x,
    fun x => region_dav 0 0 (by decide) b w a x, trivial⟩

/-- The gradient of the first branch's gate. -/
theorem out11 : (outsAt0 m c t).2.1 = gdag (bufA m c t) (iblk m c 8 t) (iblk m c 4 t) (iblk m c 5 t) := by
  have hcov := cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
  unfold outsAt0
  dsimp only
  unfold out0_A_11
  refine (View.read_writes_eq_canon _ _ _ hcov).trans ?_
  funext y
  refine View.canon_apply_of_pieces (gdag (bufA m c t) (iblk m c 8 t) (iblk m c 4 t) (iblk m c 5 t)) _ ?_ y (hcov y)
  refine View.PiecesOf.mem ?_
  clear hcov
  unfold kernelRun0_A
  dsimp only
  sl_unfold_words
  simp (disch := decide) only [View.readAt_eq_ld, Memref.IsWhole.read_unread, View.readCov_eq_canon', View.ld_unit_lit]
  have hb := bufA_eq m c t
  simp only [hb]
  generalize bufA m c t = b
  generalize iblk m c 8 t = w
  generalize iblk m c 4 t = a
  generalize iblk m c 5 t = z
  exact ⟨fun x => region_dag 448 128 (by decide) b w a z x,
    fun x => region_dag 384 128 (by decide) b w a z x,
    fun x => region_dag 320 128 (by decide) b w a z x,
    fun x => region_dag 256 128 (by decide) b w a z x,
    fun x => region_dag 192 128 (by decide) b w a z x,
    fun x => region_dag 128 128 (by decide) b w a z x,
    fun x => region_dag 64 128 (by decide) b w a z x,
    fun x => region_dag 0 128 (by decide) b w a z x,
    fun x => region_dag 448 0 (by decide) b w a z x,
    fun x => region_dag 384 0 (by decide) b w a z x,
    fun x => region_dag 320 0 (by decide) b w a z x,
    fun x => region_dag 256 0 (by decide) b w a z x,
    fun x => region_dag 192 0 (by decide) b w a z x,
    fun x => region_dag 128 0 (by decide) b w a z x,
    fun x => region_dag 64 0 (by decide) b w a z x,
    fun x => region_dag 0 0 (by decide) b w a z x, trivial⟩

/-- The gradient of the second branch's gate. -/
theorem out12 : (outsAt0 m c t).2.2.1 = gprod (bufB m c t) (iblk m c 9 t) (iblk m c 7 t) := by
  have hcov := cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
  unfold outsAt0
  dsimp only
  unfold out0_A_12
  refine (View.read_writes_eq_canon _ _ _ hcov).trans ?_
  funext y
  refine View.canon_apply_of_pieces (gprod (bufB m c t) (iblk m c 9 t) (iblk m c 7 t)) _ ?_ y (hcov y)
  refine View.PiecesOf.mem ?_
  clear hcov
  unfold kernelRun0_A
  dsimp only
  sl_unfold_words
  simp (disch := decide) only [View.readAt_eq_ld, Memref.IsWhole.read_unread, View.readCov_eq_canon', View.ld_unit_lit]
  have hb := bufB_eq m c t
  simp only [hb]
  generalize bufB m c t = b
  generalize iblk m c 9 t = w
  generalize iblk m c 7 t = a
  exact ⟨fun x => region_prod 448 128 (by decide) b w a x,
    fun x => region_prod 384 128 (by decide) b w a x,
    fun x => region_prod 320 128 (by decide) b w a x,
    fun x => region_prod 256 128 (by decide) b w a x,
    fun x => region_prod 192 128 (by decide) b w a x,
    fun x => region_prod 128 128 (by decide) b w a x,
    fun x => region_prod 64 128 (by decide) b w a x,
    fun x => region_prod 0 128 (by decide) b w a x,
    fun x => region_prod 448 0 (by decide) b w a x,
    fun x => region_prod 384 0 (by decide) b w a x,
    fun x => region_prod 320 0 (by decide) b w a x,
    fun x => region_prod 256 0 (by decide) b w a x,
    fun x => region_prod 192 0 (by decide) b w a x,
    fun x => region_prod 128 0 (by decide) b w a x,
    fun x => region_prod 64 0 (by decide) b w a x,
    fun x => region_prod 0 0 (by decide) b w a x, trivial⟩

/-- The gradient of the second branch's value. -/
theorem out13 : (outsAt0 m c t).2.2.2 = gprod (bufB m c t) (iblk m c 9 t) (iblk m c 6 t) := by
  have hcov := cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t)
  unfold outsAt0
  dsimp only
  unfold out0_A_13
  refine (View.read_writes_eq_canon _ _ _ hcov).trans ?_
  funext y
  refine View.canon_apply_of_pieces (gprod (bufB m c t) (iblk m c 9 t) (iblk m c 6 t)) _ ?_ y (hcov y)
  refine View.PiecesOf.mem ?_
  clear hcov
  unfold kernelRun0_A
  dsimp only
  sl_unfold_words
  simp (disch := decide) only [View.readAt_eq_ld, Memref.IsWhole.read_unread, View.readCov_eq_canon', View.ld_unit_lit]
  have hb := bufB_eq m c t
  simp only [hb]
  generalize bufB m c t = b
  generalize iblk m c 9 t = w
  generalize iblk m c 6 t = a
  exact ⟨fun x => region_prod 448 128 (by decide) b w a x,
    fun x => region_prod 384 128 (by decide) b w a x,
    fun x => region_prod 320 128 (by decide) b w a x,
    fun x => region_prod 256 128 (by decide) b w a x,
    fun x => region_prod 192 128 (by decide) b w a x,
    fun x => region_prod 128 128 (by decide) b w a x,
    fun x => region_prod 64 128 (by decide) b w a x,
    fun x => region_prod 0 128 (by decide) b w a x,
    fun x => region_prod 448 0 (by decide) b w a x,
    fun x => region_prod 384 0 (by decide) b w a x,
    fun x => region_prod 320 0 (by decide) b w a x,
    fun x => region_prod 256 0 (by decide) b w a x,
    fun x => region_prod 192 0 (by decide) b w a x,
    fun x => region_prod 128 0 (by decide) b w a x,
    fun x => region_prod 64 0 (by decide) b w a x,
    fun x => region_prod 0 0 (by decide) b w a x, trivial⟩

end Cert.MixBlock

end
-- ==== Proof.MixKernel.lean ====
/-
  The mixer's gradient, kernel against reference: the block's window holds the cotangent's rows at the block's place and
  zero beyond the sequence, so the turned convolution is the causal convolution's derivative; the sigmoid through the
  hyperbolic tangent is the logistic function.
-/
module

public import proofs.«01_k».proof.Proof.MixBlock
public import proofs.«01_k».proof.Proof.MixRef

@[expose] public section

set_option maxRecDepth 16384

noncomputable section

namespace Cert.MixKernel

open Cert.MixIdeal Cert.MixIdeal.Gen Cert.MixIdeal.Value Cert.MixRegion Cert.MixBlock Cert.MixRef Idealize.ShloMosaic
open Idealize.ShloMosaic.TcCoe

/-! ## The sigmoid -/

theorem tanh_real (x : ℝ) : 1 / 2 * Real.tanh (1 / 2 * x) + 1 / 2 = (1 + Real.exp (-x))⁻¹ := by
  have e1 : Real.exp (-x) = Real.exp (-(1 / 2 * x)) * Real.exp (-(1 / 2 * x)) := by
    rw [← Real.exp_add]; congr 1; ring
  have e2 : Real.exp (1 / 2 * x) = (Real.exp (-(1 / 2 * x)))⁻¹ := by rw [← Real.exp_neg, neg_neg]
  rw [Real.tanh_eq_sinh_div_cosh, Real.sinh_eq, Real.cosh_eq, e1, e2]
  have hp : 0 < Real.exp (-(1 / 2 * x)) := Real.exp_pos _
  generalize Real.exp (-(1 / 2 * x)) = y at hp
  field_simp
  ring

theorem sig_eq (z : EReal) : MixRegion.sig z = logistic z := by
  have h : (0 : ℝ) < 1 / 2 := by norm_num
  refine Eq.trans ?_ (show Ideal.logistic z = logistic z from rfl)
  unfold MixRegion.sig
  induction z using EReal.rec with
  | bot =>
    rw [EReal.coe_mul_bot_of_pos h, Ideal.tanh_bot, Ideal.logistic_bot,
      show (-1 : EReal) = ((-1 : ℝ) : EReal) by simp, ← EReal.coe_mul, ← EReal.coe_add]
    norm_num
  | top =>
    rw [EReal.coe_mul_top_of_pos h, Ideal.tanh_top, Ideal.logistic_top,
      show (1 : EReal) = ((1 : ℝ) : EReal) by simp, ← EReal.coe_mul, ← EReal.coe_add]
    norm_num
  | coe x =>
    rw [← EReal.coe_mul, Ideal.tanh_coe, Ideal.logistic_coe, ← EReal.coe_mul, ← EReal.coe_add, tanh_real]

/-! ## The window of a block -/

variable (m : (ℓ : Loc nD τ sig) → Buf (Elt Ideal) ℓ) (c : Dev nD) (t : Fin cfg0.N)

abbrev aU : Vec Ideal S4096x2048 .f32 := m ((c : Thread nD τ).loc main_arg0)
abbrev aV : Vec Ideal S4096x2048 .f32 := m ((c : Thread nD τ).loc main_arg1)
abbrev aP : Vec Ideal S4096x10240 .bf16 := m ((c : Thread nD τ).loc main_arg2)
abbrev aA : Vec Ideal S31x2048 .f32 := m ((c : Thread nD τ).loc main_arg3)
abbrev aB : Vec Ideal S3x2048 .f32 := m ((c : Thread nD τ).loc main_arg4)

theorem coords_t : ∀ t : Fin cfg0.N, (grid0.coords t 0).val = t.val / 8 :=
  (by decide +kernel : ∀ t : Fin grid0.N, (grid0.coords t 0).val = t.val / 8)

theorem idx_x : ∀ t : Fin cfg0.N, (win0_0.index t 0 = t.val / 8 ∧ win0_0.index t 1 = t.val % 8)
    ∧ (win0_1.index t 0 = min ((t.val / 8 + 1) * 16) 127 ∧ win0_1.index t 1 = t.val % 8)
    ∧ (win0_2.index t 0 = t.val / 8 ∧ win0_2.index t 1 = t.val % 8)
    ∧ (win0_3.index t 0 = min ((t.val / 8 + 1) * 16) 127 ∧ win0_3.index t 1 = t.val % 8) :=
  (by decide +kernel : ∀ t : Fin grid0.N, (win0_0.index t 0 = t.val / 8 ∧ win0_0.index t 1 = t.val % 8)
    ∧ (win0_1.index t 0 = min ((t.val / 8 + 1) * 16) 127 ∧ win0_1.index t 1 = t.val % 8)
    ∧ (win0_2.index t 0 = t.val / 8 ∧ win0_2.index t 1 = t.val % 8)
    ∧ (win0_3.index t 0 = min ((t.val / 8 + 1) * 16) 127 ∧ win0_3.index t 1 = t.val % 8))

theorem idx_p : ∀ t : Fin cfg0.N, (win0_4.index t 0 = t.val / 8 ∧ win0_4.index t 1 = t.val % 8)
    ∧ (win0_5.index t 0 = t.val / 8 ∧ win0_5.index t 1 = 8 + t.val % 8)
    ∧ (win0_6.index t 0 = t.val / 8 ∧ win0_6.index t 1 = 24 + t.val % 8)
    ∧ (win0_7.index t 0 = t.val / 8 ∧ win0_7.index t 1 = 32 + t.val % 8)
    ∧ (win0_8.index t 0 = 0 ∧ win0_8.index t 1 = t.val % 8)
    ∧ (win0_9.index t 0 = 0 ∧ win0_9.index t 1 = t.val % 8) :=
  (by decide +kernel : ∀ t : Fin grid0.N, (win0_4.index t 0 = t.val / 8 ∧ win0_4.index t 1 = t.val % 8)
    ∧ (win0_5.index t 0 = t.val / 8 ∧ win0_5.index t 1 = 8 + t.val % 8)
    ∧ (win0_6.index t 0 = t.val / 8 ∧ win0_6.index t 1 = 24 + t.val % 8)
    ∧ (win0_7.index t 0 = t.val / 8 ∧ win0_7.index t 1 = 32 + t.val % 8)
    ∧ (win0_8.index t 0 = 0 ∧ win0_8.index t 1 = t.val % 8)
    ∧ (win0_9.index t 0 = 0 ∧ win0_9.index t 1 = t.val % 8))

theorem idx_o : ∀ t : Fin cfg0.N, (win0_10.index t 0 = t.val / 8 ∧ win0_10.index t 1 = t.val % 8)
    ∧ (win0_11.index t 0 = t.val / 8 ∧ win0_11.index t 1 = t.val % 8)
    ∧ (win0_12.index t 0 = t.val / 8 ∧ win0_12.index t 1 = t.val % 8)
    ∧ (win0_13.index t 0 = t.val / 8 ∧ win0_13.index t 1 = t.val % 8) :=
  (by decide +kernel : ∀ t : Fin grid0.N, (win0_10.index t 0 = t.val / 8 ∧ win0_10.index t 1 = t.val % 8)
    ∧ (win0_11.index t 0 = t.val / 8 ∧ win0_11.index t 1 = t.val % 8)
    ∧ (win0_12.index t 0 = t.val / 8 ∧ win0_12.index t 1 = t.val % 8)
    ∧ (win0_13.index t 0 = t.val / 8 ∧ win0_13.index t 1 = t.val % 8))

/-- A block and the 32 rows after it, one above the other. -/
def stack (lo : Vec Ideal S512x256 .f32) (hi : Vec Ideal S32x256 .f32) : Vec Ideal S544x256 .f32 := View.canon
  [⟨Rect.unit (s := S544x256) ![512, 0] S32x256.size inb_S544x256_S32x256_512_0, k0_pay4 (grid0.coords t) hi⟩,
   ⟨Rect.unit (s := S544x256) ![0, 0] S512x256.size inb_S544x256_S512x256_0_0, k0_pay3 lo⟩]

theorem pay3_at (lo : Vec Ideal S512x256 .f32) (i : Fin 512) (j : Fin 256) : k0_pay3 lo (ix2 i j) = lo (ix2 i j) := by
  unfold k0_pay3
  pointwise

theorem pay4_at (hi : Vec Ideal S32x256 .f32) (i : Fin 32) (j : Fin 256) :
    k0_pay4 (grid0.coords t) hi (ix2 i j) = if t.val / 8 = 7 then 0 else hi (ix2 i j) := by
  have ht : t.val < 64 := lt_of_lt_of_eq t.isLt N_0
  unfold k0_pay4
  rw [coords_t t]
  have hc : Scalar.cmpi (w := 32) .eq (BitVec.ofNat 32 (t.val / 8)) 7#32 = if t.val / 8 = 7 then 1#1 else 0#1 := by
    have : ∀ k : Fin 8, Scalar.cmpi (w := 32) .eq (BitVec.ofNat 32 k.val) 7#32 = if k.val = 7 then 1#1 else 0#1 := by decide
    exact this ⟨t.val / 8, by omega⟩
  rw [hc]
  split_ifs
  · pointwise
  · pointwise

/-- The rectangles of the two parts. -/
abbrev lower : Rect S544x256 := Rect.unit (s := S544x256) ![512, 0] S32x256.size inb_S544x256_S32x256_512_0
abbrev upper : Rect S544x256 := Rect.unit (s := S544x256) ![0, 0] S512x256.size inb_S544x256_S512x256_0_0

theorem lower_emb (p : Fin 544) (hp : ¬ p.val < 512) (q : Fin 256) :
    (ix2 p q : S544x256.Idx) = lower.emb (ix2 (⟨p.val - 512, by omega⟩ : Fin 32) q) := by
  funext a; apply Fin.ext
  match a with
  | ⟨0, _⟩ => show p.val = 512 + 1 * (p.val - 512); omega
  | ⟨1, _⟩ => show q.val = 0 + 1 * q.val; omega

theorem upper_emb (p : Fin 544) (hp : p.val < 512) (q : Fin 256) :
    (ix2 p q : S544x256.Idx) = upper.emb (ix2 (⟨p.val, hp⟩ : Fin 512) q) := by
  funext a; apply Fin.ext
  match a with
  | ⟨0, _⟩ => show p.val = 0 + 1 * p.val; omega
  | ⟨1, _⟩ => show q.val = 0 + 1 * q.val; omega

theorem not_lower (p : Fin 544) (hp : p.val < 512) (q : Fin 256) : (ix2 p q : S544x256.Idx) ∉ lower.set := by
  intro hz
  have h0 : 512 ≤ p.val := (Rect.mem_set_unit.1 hz 0).1
  omega

/-- Two parts, one above the other, at a row and a channel. -/
theorem canon_lower (u : Vec Ideal S32x256 .f32) (v : Vec Ideal S512x256 .f32) (p : Fin 544) (hp : ¬ p.val < 512) (q : Fin 256) :
    View.canon (Val := Elt Ideal) (e := .f32) [⟨lower, u⟩, ⟨upper, v⟩] (ix2 p q) = u (ix2 (⟨p.val - 512, by omega⟩ : Fin 32) q) := by
  rw [lower_emb p hp q]
  exact View.canon_cons_emb lower u _ _

theorem canon_upper (u : Vec Ideal S32x256 .f32) (v : Vec Ideal S512x256 .f32) (p : Fin 544) (hp : p.val < 512) (q : Fin 256) :
    View.canon (Val := Elt Ideal) (e := .f32) [⟨lower, u⟩, ⟨upper, v⟩] (ix2 p q) = v (ix2 (⟨p.val, hp⟩ : Fin 512) q) := by
  refine (View.canon_cons_of_not_mem (⟨lower, u⟩ : View.Piece (Elt Ideal) S544x256 .f32) _ (not_lower p hp q)).trans ?_
  rw [upper_emb p hp q]
  exact View.canon_cons_emb upper v _ _

/-- The window at a row and a channel, in the cotangent's own rows. -/
theorem stack_at (lo : Vec Ideal S512x256 .f32) (hi : Vec Ideal S32x256 .f32) (x : Vec Ideal S4096x2048 .f32) (q : Fin 256) (cc : Fin 2048)
    (hlo : ∀ (i : Fin 512) (R : Fin 4096), t.val / 8 * 512 + i.val = R.val → lo (ix2 i q) = x (ix2 R cc))
    (hhi : ∀ (i : Fin 32) (R : Fin 4096), t.val / 8 * 512 + 512 + i.val = R.val → hi (ix2 i q) = x (ix2 R cc)) (p : Fin 544) :
    stack t lo hi (ix2 p q) = if h : t.val / 8 * 512 + p.val < 4096 then x (ix2 ⟨t.val / 8 * 512 + p.val, h⟩ cc) else 0 := by
  have ht : t.val < 64 := lt_of_lt_of_eq t.isLt N_0
  by_cases hp : p.val < 512
  · refine (canon_upper _ _ p hp q).trans ?_
    refine (pay3_at _ _ _).trans ?_
    rw [dif_pos (by omega)]
    exact hlo _ _ rfl
  · refine (canon_lower _ _ p hp q).trans ?_
    refine (pay4_at _ _ _ _).trans ?_
    by_cases h7 : t.val / 8 = 7
    · rw [if_pos h7, dif_neg (by omega)]
    · rw [if_neg h7, dif_pos (by omega)]
      exact hhi _ _ (by show _ + 512 + (p.val - 512) = _ + p.val; omega)

/-- The turned convolution over such a window is the causal convolution's derivative. -/
theorem conv_adjoint {n : ℕ} (hn : n ≤ 30) (b : Vec Ideal S544x256 .f32) (w : Vec Ideal (⟨2, ![n + 1, 256]⟩ : Shape) .f32)
    (x : Vec Ideal S4096x2048 .f32) (W : Vec Ideal (⟨2, ![n + 1, 2048]⟩ : Shape) .f32) (q : Fin 256) (cc : Fin 2048) (base : ℕ)
    (hb : ∀ p : Fin 544, b (ix2 p q) = if h : base + p.val < 4096 then x (ix2 ⟨base + p.val, h⟩ cc) else 0)
    (hw : ∀ k : Fin (n + 1), w (ix2 k q) = W (ix2 k cc)) (i : Fin 512) (R : Fin 4096) (hR : base + i.val = R.val) :
    conv b w (ix2 i q) = adjoint x W R cc := by
  unfold conv adjoint
  rw [Finset.sum_range]
  refine Finset.sum_congr rfl fun k _ => ?_
  have hk := k.isLt
  have hf : (Fin.ofNat (n + 1) (n - k.val)) = ⟨n - k.val, by omega⟩ := Fin.ext (Nat.mod_eq_of_lt (by omega))
  unfold ahead
  rw [← hf]
  refine (congrArg₂ (· * ·) (hb _) (hw _)).trans ?_
  by_cases h : R.val + k.val < 4096
  · rw [dif_pos h, dif_pos (by show base + (i.val + k.val) % 544 < 4096; omega)]
    congr 3
    apply Fin.ext
    show base + (i.val + k.val) % 544 = R.val + k.val
    omega
  · rw [dif_neg h, dif_neg (by show ¬ base + (i.val + k.val) % 544 < 4096; omega), zero_mul]

theorem bufA_eq_stack : bufA m c t = stack t (iblk m c 0 t) (iblk m c 1 t) := rfl
theorem bufB_eq_stack : bufB m c t = stack t (iblk m c 2 t) (iblk m c 3 t) := rfl

section
variable (i : Fin 512) (q : Fin 256) (R : Fin 4096) (cc : Fin 2048)
  (hR : t.val / 8 * 512 + i.val = R.val) (hc : t.val % 8 * 256 + q.val = cc.val)
include hc

theorem blk0 (i : Fin 512) (R : Fin 4096) (hR : t.val / 8 * 512 + i.val = R.val) : iblk m c 0 t (ix2 i q) = aU m c (ix2 R cc) := by
  unfold iblk
  rw [View.read_apply]
  obtain ⟨⟨e0, e1⟩, -⟩ := idx_x t
  refine (congrFun (V_main_arg0 m c) _).trans (congrArg (aU m c) ?_)
  funext a; apply Fin.ext
  match a with
  | ⟨0, _⟩ => show win0_0.index t 0 * 512 + 1 * i.val = R.val; omega
  | ⟨1, _⟩ => show win0_0.index t 1 * 256 + 1 * q.val = cc.val; omega

theorem blk1 (i : Fin 32) (R : Fin 4096) (hR : t.val / 8 * 512 + 512 + i.val = R.val) : iblk m c 1 t (ix2 i q) = aU m c (ix2 R cc) := by
  unfold iblk
  rw [View.read_apply]
  obtain ⟨-, ⟨e0, e1⟩, -⟩ := idx_x t
  refine (congrFun (V_main_arg0 m c) _).trans (congrArg (aU m c) ?_)
  funext a; apply Fin.ext
  match a with
  | ⟨0, _⟩ => show win0_1.index t 0 * 32 + 1 * i.val = R.val; omega
  | ⟨1, _⟩ => show win0_1.index t 1 * 256 + 1 * q.val = cc.val; omega

theorem blk2 (i : Fin 512) (R : Fin 4096) (hR : t.val / 8 * 512 + i.val = R.val) : iblk m c 2 t (ix2 i q) = aV m c (ix2 R cc) := by
  unfold iblk
  rw [View.read_apply]
  obtain ⟨-, -, ⟨e0, e1⟩, -⟩ := idx_x t
  refine (congrFun (V_main_arg1 m c) _).trans (congrArg (aV m c) ?_)
  funext a; apply Fin.ext
  match a with
  | ⟨0, _⟩ => show win0_2.index t 0 * 512 + 1 * i.val = R.val; omega
  | ⟨1, _⟩ => show win0_2.index t 1 * 256 + 1 * q.val = cc.val; omega

theorem blk3 (i : Fin 32) (R : Fin 4096) (hR : t.val / 8 * 512 + 512 + i.val = R.val) : iblk m c 3 t (ix2 i q) = aV m c (ix2 R cc) := by
  unfold iblk
  rw [View.read_apply]
  obtain ⟨-, -, -, e0, e1⟩ := idx_x t
  refine (congrFun (V_main_arg1 m c) _).trans (congrArg (aV m c) ?_)
  funext a; apply Fin.ext
  match a with
  | ⟨0, _⟩ => show win0_3.index t 0 * 32 + 1 * i.val = R.val; omega
  | ⟨1, _⟩ => show win0_3.index t 1 * 256 + 1 * q.val = cc.val; omega

theorem blk8 (k : Fin 31) : iblk m c 8 t (ix2 k q) = aA m c (ix2 k cc) := by
  unfold iblk
  rw [View.read_apply]
  obtain ⟨-, -, -, -, ⟨e0, e1⟩, -⟩ := idx_p t
  refine (congrFun (V_main_arg3 m c) _).trans (congrArg (aA m c) ?_)
  funext a; apply Fin.ext
  match a with
  | ⟨0, _⟩ => show win0_8.index t 0 * 31 + 1 * k.val = k.val; omega
  | ⟨1, _⟩ => show win0_8.index t 1 * 256 + 1 * q.val = cc.val; omega

theorem blk9 (k : Fin 3) : iblk m c 9 t (ix2 k q) = aB m c (ix2 k cc) := by
  unfold iblk
  rw [View.read_apply]
  obtain ⟨-, -, -, -, -, e0, e1⟩ := idx_p t
  refine (congrFun (V_main_arg4 m c) _).trans (congrArg (aB m c) ?_)
  funext a; apply Fin.ext
  match a with
  | ⟨0, _⟩ => show win0_9.index t 0 * 3 + 1 * k.val = k.val; omega
  | ⟨1, _⟩ => show win0_9.index t 1 * 256 + 1 * q.val = cc.val; omega

include hR

theorem blk4 : iblk m c 4 t (ix2 i q) = aP m c (ix2 R (⟨cc.val, by omega⟩ : Fin 10240)) := by
  unfold iblk
  rw [View.read_apply]
  obtain ⟨⟨e0, e1⟩, -⟩ := idx_p t
  refine (congrFun (V_main_arg2 m c) _).trans (congrArg (aP m c) ?_)
  funext a; apply Fin.ext
  match a with
  | ⟨0, _⟩ => show win0_4.index t 0 * 512 + 1 * i.val = R.val; omega
  | ⟨1, _⟩ => show win0_4.index t 1 * 256 + 1 * q.val = cc.val; omega

theorem blk5 : iblk m c 5 t (ix2 i q) = aP m c (ix2 R (⟨2048 + cc.val, by omega⟩ : Fin 10240)) := by
  unfold iblk
  rw [View.read_apply]
  obtain ⟨-, ⟨e0, e1⟩, -⟩ := idx_p t
  refine (congrFun (V_main_arg2 m c) _).trans (congrArg (aP m c) ?_)
  funext a; apply Fin.ext
  match a with
  | ⟨0, _⟩ => show win0_5.index t 0 * 512 + 1 * i.val = R.val; omega
  | ⟨1, _⟩ => show win0_5.index t 1 * 256 + 1 * q.val = 2048 + cc.val; omega

theorem blk6 : iblk m c 6 t (ix2 i q) = aP m c (ix2 R (⟨6144 + cc.val, by omega⟩ : Fin 10240)) := by
  unfold iblk
  rw [View.read_apply]
  obtain ⟨-, -, ⟨e0, e1⟩, -⟩ := idx_p t
  refine (congrFun (V_main_arg2 m c) _).trans (congrArg (aP m c) ?_)
  funext a; apply Fin.ext
  match a with
  | ⟨0, _⟩ => show win0_6.index t 0 * 512 + 1 * i.val = R.val; omega
  | ⟨1, _⟩ => show win0_6.index t 1 * 256 + 1 * q.val = 6144 + cc.val; omega

theorem blk7 : iblk m c 7 t (ix2 i q) = aP m c (ix2 R (⟨8192 + cc.val, by omega⟩ : Fin 10240)) := by
  unfold iblk
  rw [View.read_apply]
  obtain ⟨-, -, -, ⟨e0, e1⟩, -⟩ := idx_p t
  refine (congrFun (V_main_arg2 m c) _).trans (congrArg (aP m c) ?_)
  funext a; apply Fin.ext
  match a with
  | ⟨0, _⟩ => show win0_7.index t 0 * 512 + 1 * i.val = R.val; omega
  | ⟨1, _⟩ => show win0_7.index t 1 * 256 + 1 * q.val = 8192 + cc.val; omega

/-- The first branch's convolution, and the second's, at the block's row and channel. -/
theorem conv_a : conv (n := 30) (bufA m c t) (iblk m c 8 t) (ix2 i q) = adjoint (n := 30) (aU m c) (aA m c) R cc := by
  refine conv_adjoint (le_refl _) _ _ _ _ q cc (t.val / 8 * 512) (fun p => ?_) (fun k => blk8 m c t q cc hc k) i R hR
  rw [bufA_eq_stack]
  exact stack_at t _ _ _ q cc (fun i R => blk0 m c t q cc hc i R) (fun i R => blk1 m c t q cc hc i R) p

theorem conv_b : conv (n := 2) (bufB m c t) (iblk m c 9 t) (ix2 i q) = adjoint (n := 2) (aV m c) (aB m c) R cc := by
  refine conv_adjoint (by norm_num) _ _ _ _ q cc (t.val / 8 * 512) (fun p => ?_) (fun k => blk9 m c t q cc hc k) i R hR
  rw [bufB_eq_stack]
  exact stack_at t _ _ _ q cc (fun i R => blk2 m c t q cc hc i R) (fun i R => blk3 m c t q cc hc i R) p

end

end Cert.MixKernel

end
-- ==== Proof.FfKernel.lean ====
/-
  What the ConvFFN's gated convolution computes, matched with the reference: the window holds the rows before the block, so
  the convolution over it is the causal convolution over the whole sequence.
-/
module

public import proofs.«01_k».proof.Proof.FfBlock
public import proofs.«01_k».proof.Proof.FfRef
public import proofs.«01_k».proof.Proof.MixKernel

@[expose] public section

set_option maxRecDepth 16384

noncomputable section

namespace Cert.FfKernel

open Cert.FfnFwdIdeal Cert.FfnFwdIdeal.Gen Cert.FfnFwdIdeal.Value Cert.FfBlock Cert.FfRef Idealize.ShloMosaic Idealize.SL.Sem
open Idealize.ShloMosaic.TcCoe
open Cert.MixRegion (sig)
open Cert.MixKernel (sig_eq)

variable (m : (ℓ : Loc nD τ sig) → Buf (Elt Ideal) ℓ) (c : Dev nD) (t : Fin cfg0.N)

/-- The gate's projection, the other projection, the taps. -/
abbrev aG : Vec Ideal S4096x11008 .bf16 := m ((c : Thread nD τ).loc main_arg0)
abbrev aU : Vec Ideal S4096x11008 .bf16 := m ((c : Thread nD τ).loc main_arg1)
abbrev aW : Vec Ideal S3x11008 .f32 := m ((c : Thread nD τ).loc main_arg2)

/-! ## The blocks of the arrays -/

/-- The arrays are cut into their shards before the launch. -/
theorem V_v1 (b : Fin 8) (k : Fin 4096) (j : Fin 1376) : V m c main_v1 (ix3 b k j) = aG m c (ix2 k (feat b j)) := by
  have e : V m c main_v1 = transpose S8x4096x1376 [1, 0, 2] (shapeCast S4096x8x1376 (aG m c) shapeCasts_S4096x11008_S4096x8x1376)
      transposes_S4096x8x1376_S8x4096x1376_1_0_2 := by
    unfold V
    after_results <;> rfl
  rw [e]
  pointwise

theorem V_v3 (b : Fin 8) (k : Fin 4096) (j : Fin 1376) : V m c main_v3 (ix3 b k j) = aU m c (ix2 k (feat b j)) := by
  have e : V m c main_v3 = transpose S8x4096x1376 [1, 0, 2] (shapeCast S4096x8x1376 (aU m c) shapeCasts_S4096x11008_S4096x8x1376)
      transposes_S4096x8x1376_S8x4096x1376_1_0_2 := by
    unfold V
    after_results <;> rfl
  rw [e]
  pointwise

theorem V_v5 (b : Fin 8) (k : Fin 3) (j : Fin 1376) : V m c main_v5 (ix3 b k j) = aW m c (ix2 k (feat b j)) := by
  have e : V m c main_v5 = transpose S8x3x1376 [1, 0, 2] (shapeCast S3x8x1376 (aW m c) shapeCasts_S3x11008_S3x8x1376)
      transposes_S3x8x1376_S8x3x1376_1_0_2 := by
    unfold V
    after_results <;> rfl
  rw [e]
  pointwise

theorem coords_t : ∀ t : Fin cfg0.N, (grid0.coords t 1).val = t.val % 8 :=
  (by decide +kernel : ∀ t : Fin grid0.N, (grid0.coords t 1).val = t.val % 8)

theorem idx_w : ∀ t : Fin cfg0.N, (win0_0.index t 0 = t.val / 8 ∧ win0_0.index t 1 = t.val % 8 ∧ win0_0.index t 2 = 0)
    ∧ (win0_1.index t 0 = t.val / 8 ∧ win0_1.index t 1 = t.val % 8 * 16 - 1 ∧ win0_1.index t 2 = 0)
    ∧ (win0_2.index t 0 = t.val / 8 ∧ win0_2.index t 1 = t.val % 8 ∧ win0_2.index t 2 = 0)
    ∧ (win0_3.index t 0 = t.val / 8 ∧ win0_3.index t 1 = 0 ∧ win0_3.index t 2 = 0)
    ∧ (win0_4.index t 0 = t.val / 8 ∧ win0_4.index t 1 = t.val % 8 ∧ win0_4.index t 2 = 0) :=
  (by decide +kernel : ∀ t : Fin grid0.N, (win0_0.index t 0 = t.val / 8 ∧ win0_0.index t 1 = t.val % 8 ∧ win0_0.index t 2 = 0)
    ∧ (win0_1.index t 0 = t.val / 8 ∧ win0_1.index t 1 = t.val % 8 * 16 - 1 ∧ win0_1.index t 2 = 0)
    ∧ (win0_2.index t 0 = t.val / 8 ∧ win0_2.index t 1 = t.val % 8 ∧ win0_2.index t 2 = 0)
    ∧ (win0_3.index t 0 = t.val / 8 ∧ win0_3.index t 1 = 0 ∧ win0_3.index t 2 = 0)
    ∧ (win0_4.index t 0 = t.val / 8 ∧ win0_4.index t 1 = t.val % 8 ∧ win0_4.index t 2 = 0))

section
variable (b : Fin 8) (hb : t.val / 8 = b.val) (q : Fin 1376)
include hb

theorem blk0 (i : Fin 512) (R : Fin 4096) (hR : t.val % 8 * 512 + i.val = R.val) :
    iblk m c 0 t (ix3 0 i q) = aG m c (ix2 R (feat b q)) := by
  unfold iblk
  rw [View.read_apply, ← V_v1]
  obtain ⟨⟨e0, e1, e2⟩, -⟩ := idx_w t
  show V m c main_v1 _ = _
  congr 1
  funext a; apply Fin.ext
  match a with
  | ⟨0, _⟩ => show win0_0.index t 0 * 1 + 1 * 0 = b.val; omega
  | ⟨1, _⟩ => show win0_0.index t 1 * 512 + 1 * i.val = R.val; omega
  | ⟨2, _⟩ => show win0_0.index t 2 * 1376 + 1 * q.val = q.val; omega

theorem blk1 (h0 : 0 < t.val % 8) (i : Fin 32) (R : Fin 4096) (hR : t.val % 8 * 512 + i.val = R.val + 32) :
    iblk m c 1 t (ix3 0 i q) = aG m c (ix2 R (feat b q)) := by
  unfold iblk
  rw [View.read_apply, ← V_v1]
  obtain ⟨-, ⟨e0, e1, e2⟩, -⟩ := idx_w t
  show V m c main_v1 _ = _
  congr 1
  funext a; apply Fin.ext
  match a with
  | ⟨0, _⟩ => show win0_1.index t 0 * 1 + 1 * 0 = b.val; omega
  | ⟨1, _⟩ => show win0_1.index t 1 * 32 + 1 * i.val = R.val; omega
  | ⟨2, _⟩ => show win0_1.index t 2 * 1376 + 1 * q.val = q.val; omega

theorem blk2 (i : Fin 512) (R : Fin 4096) (hR : t.val % 8 * 512 + i.val = R.val) :
    iblk m c 2 t (ix3 0 i q) = aU m c (ix2 R (feat b q)) := by
  unfold iblk
  rw [View.read_apply, ← V_v3]
  obtain ⟨-, -, ⟨e0, e1, e2⟩, -⟩ := idx_w t
  show V m c main_v3 _ = _
  congr 1
  funext a; apply Fin.ext
  match a with
  | ⟨0, _⟩ => show win0_2.index t 0 * 1 + 1 * 0 = b.val; omega
  | ⟨1, _⟩ => show win0_2.index t 1 * 512 + 1 * i.val = R.val; omega
  | ⟨2, _⟩ => show win0_2.index t 2 * 1376 + 1 * q.val = q.val; omega

theorem blk3 (k : Fin 3) : iblk m c 3 t (ix3 0 k q) = aW m c (ix2 k (feat b q)) := by
  unfold iblk
  rw [View.read_apply, ← V_v5]
  obtain ⟨-, -, -, ⟨e0, e1, e2⟩, -⟩ := idx_w t
  show V m c main_v5 _ = _
  congr 1
  funext a; apply Fin.ext
  match a with
  | ⟨0, _⟩ => show win0_3.index t 0 * 1 + 1 * 0 = b.val; omega
  | ⟨1, _⟩ => show win0_3.index t 1 * 3 + 1 * k.val = k.val; omega
  | ⟨2, _⟩ => show win0_3.index t 2 * 1376 + 1 * q.val = q.val; omega
end

/-! ## The window -/

theorem pay2_at (a : Vec Ideal S1x512x1376 .bf16) (i : Fin 512) (j : Fin 1376) : k0_pay2 a (ix2 i j) = a (ix3 0 i j) := by
  unfold k0_pay2
  pointwise

theorem first_tile : Scalar.cmpi (w := 32) .eq (BitVec.ofNat 32 (t.val % 8)) 0#32 = if t.val % 8 = 0 then 1#1 else 0#1 := by
  have : ∀ k : Fin 8, Scalar.cmpi (w := 32) .eq (BitVec.ofNat 32 k.val) 0#32 = if k.val = 0 then 1#1 else 0#1 := by decide
  exact this ⟨t.val % 8, by omega⟩

theorem pay3_at (a : Vec Ideal S1x32x1376 .bf16) (i : Fin 32) (j : Fin 1376) :
    k0_pay3 (grid0.coords t) a (ix2 i j) = if t.val % 8 = 0 then 0 else a (ix3 0 i j) := by
  unfold k0_pay3
  rw [coords_t t, first_tile t]
  split_ifs
  · pointwise
  · pointwise

/-- The window at a row and a feature, in the sequence's own rows. -/
theorem buf_at (b : Fin 8) (hb : t.val / 8 = b.val) (q : Fin 1376) (p : Fin 544) : buf m c t (ix2 p q)
    = if 32 ≤ t.val % 8 * 512 + p.val then aG m c (ix2 (Fin.ofNat 4096 (t.val % 8 * 512 + p.val - 32)) (feat b q)) else 0 := by
  unfold buf window
  by_cases hp : p.val < 32
  · refine (if_pos hp).trans ((pay3_at t _ _ q).trans ?_)
    by_cases hz : t.val % 8 = 0
    · rw [if_pos hz, if_neg (by omega)]
    · rw [if_neg hz, if_pos (by omega)]
      refine blk1 m c t b hb q (by omega) _ _ ?_
      show t.val % 8 * 512 + p.val % 32 = (t.val % 8 * 512 + p.val - 32) % 4096 + 32
      omega
  · refine (if_neg hp).trans ((pay2_at _ _ q).trans ?_)
    rw [if_pos (by omega)]
    refine blk0 m c t b hb q _ _ ?_
    show t.val % 8 * 512 + (p.val - 32) % 512 = (t.val % 8 * 512 + p.val - 32) % 4096
    omega

/-- The convolution over the window is the causal convolution over the sequence. -/
theorem conv_causal (b : Fin 8) (hb : t.val / 8 = b.val) (q : Fin 1376) (i : ℕ) (hi : i < 512) (R : Fin 4096)
    (hR : t.val % 8 * 512 + i = R.val) : conv (buf m c t) (iblk m c 3 t) i q = causal (aG m c) (aW m c) R (feat b q) := by
  unfold conv causal
  rw [Finset.sum_range, ← Equiv.sum_comp Fin.revPerm]
  refine Finset.sum_congr rfl fun k _ => ?_
  have hk := k.isLt
  have hv : (Fin.revPerm k).val = 2 - k.val := by
    rw [Fin.revPerm_apply, Fin.val_rev]
    omega
  unfold behind
  rw [hv]
  refine congrArg₂ (· * ·) ((buf_at m c t b hb q _).trans ?_)
    ((blk3 m c t b hb q _).trans (congrArg (fun d => aW m c (ix2 d (feat b q))) (congrArg (Fin.ofNat 3) (by omega))))
  have e : (Fin.ofNat 544 (i + (32 - (2 - k.val)))).val = i + (32 - (2 - k.val)) := Nat.mod_eq_of_lt (by omega)
  rw [e]
  by_cases h : 2 ≤ R.val + k.val
  · rw [if_pos (by omega), dif_pos h]
    refine congrArg (aG m c) (congrArg (ix2 · (feat b q)) (congrArg (Fin.ofNat 4096) ?_))
    omega
  · rw [if_neg (by omega), dif_neg h]

theorem block_at (b : Fin 8) (hb : t.val / 8 = b.val) (q : Fin 1376) (i : Fin 512) (R : Fin 4096) (hR : t.val % 8 * 512 + i.val = R.val) :
    block (buf m c t) (iblk m c 3 t) (iblk m c 2 t) (ix3 0 i q) = act (aG m c) (aU m c) (aW m c) R (feat b q) := by
  have e := conv_causal m c t b hb q i.val i.isLt R hR
  unfold block act
  rw [← sig_eq]
  exact congrArg₂ (· * ·) (congrArg₂ (· * ·) e (congrArg sig e)) (blk2 m c t b hb q i R hR)

end Cert.FfKernel

end
-- ==== Proof.ProdFfnFwd.lean ====
/-
  The claim of the ConvFFN's gated convolution: the array the launch leaves is the result of the reference.
-/
module

public import proofs.«01_k».proof.Proof.FfOut
public import proofs.«01_k».proof.Proof.FfKernel
public import proofs.«01_k».proof.Proof.Gen.FfnFwdRefIdeal.Run

@[expose] public section

set_option maxRecDepth 16384

noncomputable section

namespace Cert.ProdFfnFwd

open Cert.FfnFwdIdeal Cert.FfnFwdIdeal.Gen Cert.FfnFwdIdeal.Value Cert.FfBlock Cert.FfRef Cert.FfKernel Idealize.ShloMosaic
open Idealize.ShloMosaic.TcCoe

section
variable (m : (ℓ : Loc nD τ sig) → Buf (Elt Ideal) ℓ) (c : Dev nD)

/-- What the launch leaves. -/
theorem final (b : Fin 8) (R : Fin 4096) (q : Fin 1376) :
    (dats m 0 c).arrAt 4 cfg0.N (ix3 b R q) = act (aG m c) (aU m c) (aW m c) R (feat b q) := by
  obtain ⟨t, ht⟩ : ∃ t : Fin cfg0.N, t.val = b.val * 8 + R.val / 512 :=
    ⟨⟨b.val * 8 + R.val / 512, lt_of_lt_of_eq (by omega) N_0.symm⟩, rfl⟩
  obtain ⟨i, hi'⟩ : ∃ i : Fin 512, i.val = R.val % 512 := ⟨⟨R.val % 512, Nat.mod_lt _ (by norm_num)⟩, rfl⟩
  have e := congrFun (blocks4 m c t (flush0_4 t)) (ix3 0 i q)
  rw [View.read_apply, flushed4, out4] at e
  obtain ⟨-, -, -, -, e0, e1, e2⟩ := idx_w t
  have hi : ((cfg0.win 4).blk t).view.emb (ix3 0 i q) = ix3 b R q := by
    funext a; apply Fin.ext
    match a with
    | ⟨0, _⟩ => show win0_4.index t 0 * 1 + 1 * 0 = b.val; omega
    | ⟨1, _⟩ => show win0_4.index t 1 * 512 + 1 * i.val = R.val; omega
    | ⟨2, _⟩ => show win0_4.index t 2 * 1376 + 1 * q.val = q.val; omega
  rw [← hi]
  refine e.trans ?_
  exact block_at m c t b (by omega) q i R (by omega)
end

attribute [local instance] Cert.FfnFwdIdeal.Gen.facts Cert.FfnFwdRefIdeal.Gen.facts

/-- The claim. -/
theorem algebraic : Cert.algebraic_FfnFwdIdeal_FfnFwdRefIdeal := by
  intro m g m' g' _ hargs
  refine ⟨fun c => (dats m 0 c).arrAt 4 cfg0.N, run_blocks m g, ?_⟩
  refine (θ_run _ _ _).mono (fun r h c => ?_) (Cert.FfnFwdRefIdeal.Value.run m' g')
  obtain ⟨e0, ks⟩ := h c
  obtain ⟨a0, a1, a2⟩ := hargs c
  refine ⟨e0.trans ?_, ks⟩
  rw [Cert.FfnFwdRefIdeal.Read.val_main_v28_eq, a0, a1, a2]
  funext i
  rw [ValueIdx.eq_ix3 i]
  exact (val_28 _ _ _ _ _ _).trans (final m c _ _ _).symm

/-- The reference runs, keeps its arguments, and holds no semaphore. -/
theorem frame_r : Cert.quiescent_FfnFwdRefIdeal := by
  intro m g _
  exact (θ_run Cert.FfnFwdRefIdeal.defs _ _).mono (fun r h => ⟨fun c => (h c).2, sem_eq_zero_of_no_sems (by decide) r.2⟩)
    (Cert.FfnFwdRefIdeal.Value.run m g)

end Cert.ProdFfnFwd

end
-- ==== Proof.MfOut.lean ====
/-
  What one grid point of the mixer's forward pass leaves in its two output blocks.
-/
module

public import proofs.«01_k».proof.Proof.MfBlock

@[expose] public section

set_option maxRecDepth 16384

noncomputable section

namespace Cert.MfBlock

open Cert.MixFwdIdeal Cert.MixFwdIdeal.Gen Cert.MixFwdIdeal.Value Cert.MfRegion Idealize.ShloMosaic
open Idealize.ShloMosaic.TcCoe

variable (m : (ℓ : Loc nD τ sig) → Buf (Elt Ideal) ℓ) (c : Dev nD) (t : Fin cfg0.N)

theorem out15 : (outsAt0 m c t).2 = block1 (bufA m c t) (iblk m c 9 t) (iblk m c 10 t) := by
  have hcov := cover0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  unfold outsAt0
  dsimp only
  unfold out0_A_15
  refine (View.read_writes_eq_canon _ _ _ hcov).trans ?_
  funext y
  refine View.canon_apply_of_pieces (block1 (bufA m c t) (iblk m c 9 t) (iblk m c 10 t)) _ ?_ y (hcov y)
  refine View.PiecesOf.mem ?_
  clear hcov
  unfold kernelRun0_A
  dsimp only
  sl_unfold_words
  simp (disch := decide) only [View.readAt_eq_ld, Memref.IsWhole.read_unread, View.readCov_eq_canon', View.ld_unit_lit]
  have ha : _ = bufA m c t := windowA (k0_pay2 (grid0.coords t) (iblk m c 5 t) (iblk m c 6 t)) (iblk m c 0 t) (iblk m c 1 t)
  simp only [ha]
  generalize bufA m c t = b
  generalize iblk m c 9 t = w
  generalize iblk m c 10 t = cb
  exact ⟨fun x => region_plain 448 128 (by decide) b w cb x,
    fun x => region_plain 384 128 (by decide) b w cb x,
    fun x => region_plain 320 128 (by decide) b w cb x,
    fun x => region_plain 256 128 (by decide) b w cb x,
    fun x => region_plain 192 128 (by decide) b w cb x,
    fun x => region_plain 128 128 (by decide) b w cb x,
    fun x => region_plain 64 128 (by decide) b w cb x,
    fun x => region_plain 0 128 (by decide) b w cb x,
    fun x => region_plain 448 0 (by decide) b w cb x,
    fun x => region_plain 384 0 (by decide) b w cb x,
    fun x => region_plain 320 0 (by decide) b w cb x,
    fun x => region_plain 256 0 (by decide) b w cb x,
    fun x => region_plain 192 0 (by decide) b w cb x,
    fun x => region_plain 128 0 (by decide) b w cb x,
    fun x => region_plain 64 0 (by decide) b w cb x,
    fun x => region_plain 0 0 (by decide) b w cb x, trivial⟩

set_option maxHeartbeats 4000000 in
theorem out14 : (outsAt0 m c t).1 = block0 (bufA m c t) (bufB m c t) (iblk m c 9 t) (iblk m c 10 t) (iblk m c 11 t) (iblk m c 12 t) (iblk m c 13 t) (iblk m c 2 t) := by
  have hcov := cover0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
  unfold outsAt0
  dsimp only
  unfold out0_A_14
  refine (View.read_writes_eq_canon _ _ _ hcov).trans ?_
  funext y
  refine View.canon_apply_of_pieces (block0 (bufA m c t) (bufB m c t) (iblk m c 9 t) (iblk m c 10 t) (iblk m c 11 t) (iblk m c 12 t) (iblk m c 13 t) (iblk m c 2 t)) _ ?_ y (hcov y)
  refine View.PiecesOf.mem ?_
  clear hcov
  unfold kernelRun0_A
  dsimp only
  sl_unfold_words
  simp (disch := decide) only [View.readAt_eq_ld, Memref.IsWhole.read_unread, View.readCov_eq_canon', View.ld_unit_lit]
  have ha : _ = bufA m c t := windowA (k0_pay2 (grid0.coords t) (iblk m c 5 t) (iblk m c 6 t)) (iblk m c 0 t) (iblk m c 1 t)
  have hb : _ = bufB m c t := windowB (k0_pay3 (grid0.coords t) (iblk m c 7 t) (iblk m c 8 t)) (iblk m c 3 t) (iblk m c 4 t)
  simp only [ha, hb]
  generalize bufA m c t = b
  generalize bufB m c t = b'
  generalize iblk m c 9 t = w
  generalize iblk m c 10 t = cb
  generalize iblk m c 11 t = g
  generalize iblk m c 12 t = s
  generalize iblk m c 13 t = w'
  generalize iblk m c 2 t = a
  exact ⟨fun x => region_second 448 128 (by decide) b b' w cb g s w' a x,
    fun x => region_first 448 128 (by decide) b b' w cb g s w' a x,
    fun x => region_second 384 128 (by decide) b b' w cb g s w' a x,
    fun x => region_first 384 128 (by decide) b b' w cb g s w' a x,
    fun x => region_second 320 128 (by decide) b b' w cb g s w' a x,
    fun x => region_first 320 128 (by decide) b b' w cb g s w' a x,
    fun x => region_second 256 128 (by decide) b b' w cb g s w' a x,
    fun x => region_first 256 128 (by decide) b b' w cb g s w' a x,
    fun x => region_second 192 128 (by decide) b b' w cb g s w' a x,
    fun x => region_first 192 128 (by decide) b b' w cb g s w' a x,
    fun x => region_second 128 128 (by decide) b b' w cb g s w' a x,
    fun x => region_first 128 128 (by decide) b b' w cb g s w' a x,
    fun x => region_second 64 128 (by decide) b b' w cb g s w' a x,
    fun x => region_first 64 128 (by decide) b b' w cb g s w' a x,
    fun x => region_second 0 128 (by decide) b b' w cb g s w' a x,
    fun x => region_first 0 128 (by decide) b b' w cb g s w' a x,
    fun x => region_second 448 0 (by decide) b b' w cb g s w' a x,
    fun x => region_first 448 0 (by decide) b b' w cb g s w' a x,
    fun x => region_second 384 0 (by decide) b b' w cb g s w' a x,
    fun x => region_first 384 0 (by decide) b b' w cb g s w' a x,
    fun x => region_second 320 0 (by decide) b b' w cb g s w' a x,
    fun x => region_first 320 0 (by decide) b b' w cb g s w' a x,
    fun x => region_second 256 0 (by decide) b b' w cb g s w' a x,
    fun x => region_first 256 0 (by decide) b b' w cb g s w' a x,
    fun x => region_second 192 0 (by decide) b b' w cb g s w' a x,
    fun x => region_first 192 0 (by decide) b b' w cb g s w' a x,
    fun x => region_second 128 0 (by decide) b b' w cb g s w' a x,
    fun x => region_first 128 0 (by decide) b b' w cb g s w' a x,
    fun x => region_second 64 0 (by decide) b b' w cb g s w' a x,
    fun x => region_first 64 0 (by decide) b b' w cb g s w' a x,
    fun x => region_second 0 0 (by decide) b b' w cb g s w' a x,
    fun x => region_first 0 0 (by decide) b b' w cb g s w' a x, trivial⟩

end Cert.MfBlock

end
-- ==== Proof.MfKernel.lean ====
/-
  What the mixer's forward pass computes, matched with the reference: the windows hold the rows before the block, so the
  convolutions over them are the causal convolutions over the whole sequence.
-/
module

public import proofs.«01_k».proof.Proof.MfBlock
public import proofs.«01_k».proof.Proof.MfRef
public import proofs.«01_k».proof.Proof.MixKernel

@[expose] public section

set_option maxRecDepth 16384

noncomputable section

namespace Cert.MfKernel

open Cert.MixFwdIdeal Cert.MixFwdIdeal.Gen Cert.MixFwdIdeal.Value Cert.MfRegion Cert.MfBlock Cert.MfRef Idealize.ShloMosaic
open Idealize.ShloMosaic.TcCoe
open Cert.MixRegion (sig half)
open Cert.MixKernel (sig_eq)

variable (m : (ℓ : Loc nD τ sig) → Buf (Elt Ideal) ℓ) (c : Dev nD) (t : Fin cfg0.N)

abbrev aP : Vec Ideal S4096x10240 .bf16 := m ((c : Thread nD τ).loc main_arg0)
abbrev aA : Vec Ideal S31x2048 .f32 := m ((c : Thread nD τ).loc main_arg1)
abbrev aC : Vec Ideal S1x2048 .f32 := m ((c : Thread nD τ).loc main_arg2)
abbrev aG : Vec Ideal S1x2048 .f32 := m ((c : Thread nD τ).loc main_arg3)
abbrev aL : Vec Ideal S1x2048 .f32 := m ((c : Thread nD τ).loc main_arg4)
abbrev aB : Vec Ideal S3x2048 .f32 := m ((c : Thread nD τ).loc main_arg5)

/-! ## The blocks of the arrays -/

theorem coords_t : ∀ t : Fin cfg0.N, (grid0.coords t 0).val = t.val / 8 :=
  (by decide +kernel : ∀ t : Fin grid0.N, (grid0.coords t 0).val = t.val / 8)

theorem idx_p : ∀ t : Fin cfg0.N, (win0_0.index t 0 = t.val / 8 ∧ win0_0.index t 1 = t.val % 8)
    ∧ (win0_1.index t 0 = t.val / 8 ∧ win0_1.index t 1 = 8 + t.val % 8)
    ∧ (win0_2.index t 0 = t.val / 8 ∧ win0_2.index t 1 = 16 + t.val % 8)
    ∧ (win0_3.index t 0 = t.val / 8 ∧ win0_3.index t 1 = 24 + t.val % 8)
    ∧ (win0_4.index t 0 = t.val / 8 ∧ win0_4.index t 1 = 32 + t.val % 8) :=
  (by decide +kernel : ∀ t : Fin grid0.N, (win0_0.index t 0 = t.val / 8 ∧ win0_0.index t 1 = t.val % 8)
    ∧ (win0_1.index t 0 = t.val / 8 ∧ win0_1.index t 1 = 8 + t.val % 8)
    ∧ (win0_2.index t 0 = t.val / 8 ∧ win0_2.index t 1 = 16 + t.val % 8)
    ∧ (win0_3.index t 0 = t.val / 8 ∧ win0_3.index t 1 = 24 + t.val % 8)
    ∧ (win0_4.index t 0 = t.val / 8 ∧ win0_4.index t 1 = 32 + t.val % 8))

theorem idx_h : ∀ t : Fin cfg0.N, (win0_5.index t 0 = t.val / 8 * 16 - 1 ∧ win0_5.index t 1 = t.val % 8)
    ∧ (win0_6.index t 0 = t.val / 8 * 16 - 1 ∧ win0_6.index t 1 = 8 + t.val % 8)
    ∧ (win0_7.index t 0 = t.val / 8 * 16 - 1 ∧ win0_7.index t 1 = 24 + t.val % 8)
    ∧ (win0_8.index t 0 = t.val / 8 * 16 - 1 ∧ win0_8.index t 1 = 32 + t.val % 8) :=
  (by decide +kernel : ∀ t : Fin grid0.N, (win0_5.index t 0 = t.val / 8 * 16 - 1 ∧ win0_5.index t 1 = t.val % 8)
    ∧ (win0_6.index t 0 = t.val / 8 * 16 - 1 ∧ win0_6.index t 1 = 8 + t.val % 8)
    ∧ (win0_7.index t 0 = t.val / 8 * 16 - 1 ∧ win0_7.index t 1 = 24 + t.val % 8)
    ∧ (win0_8.index t 0 = t.val / 8 * 16 - 1 ∧ win0_8.index t 1 = 32 + t.val % 8))

theorem idx_w : ∀ t : Fin cfg0.N, (win0_9.index t 0 = 0 ∧ win0_9.index t 1 = t.val % 8)
    ∧ (win0_10.index t 0 = 0 ∧ win0_10.index t 1 = t.val % 8)
    ∧ (win0_11.index t 0 = 0 ∧ win0_11.index t 1 = t.val % 8)
    ∧ (win0_12.index t 0 = 0 ∧ win0_12.index t 1 = t.val % 8)
    ∧ (win0_13.index t 0 = 0 ∧ win0_13.index t 1 = t.val % 8) :=
  (by decide +kernel : ∀ t : Fin grid0.N, (win0_9.index t 0 = 0 ∧ win0_9.index t 1 = t.val % 8)
    ∧ (win0_10.index t 0 = 0 ∧ win0_10.index t 1 = t.val % 8)
    ∧ (win0_11.index t 0 = 0 ∧ win0_11.index t 1 = t.val % 8)
    ∧ (win0_12.index t 0 = 0 ∧ win0_12.index t 1 = t.val % 8)
    ∧ (win0_13.index t 0 = 0 ∧ win0_13.index t 1 = t.val % 8))

theorem idx_o : ∀ t : Fin cfg0.N, (win0_14.index t 0 = 0 ∧ win0_14.index t 1 = t.val / 8 ∧ win0_14.index t 2 = t.val % 8)
    ∧ (win0_15.index t 0 = t.val / 8 ∧ win0_15.index t 1 = t.val % 8) :=
  (by decide +kernel : ∀ t : Fin grid0.N, (win0_14.index t 0 = 0 ∧ win0_14.index t 1 = t.val / 8 ∧ win0_14.index t 2 = t.val % 8)
    ∧ (win0_15.index t 0 = t.val / 8 ∧ win0_15.index t 1 = t.val % 8))

section
variable (q : Fin 256) (cc : Fin 2048) (hc : t.val % 8 * 256 + q.val = cc.val)
include hc

theorem blk0 (i : Fin 512) (R : Fin 4096) (hR : t.val / 8 * 512 + i.val = R.val) : iblk m c 0 t (ix2 i q) = aP m c (ix2 R (⟨cc.val, by omega⟩ : Fin 10240)) := by
  unfold iblk
  rw [View.read_apply]
  obtain ⟨⟨e0, e1⟩, -⟩ := idx_p t
  refine (congrFun (V_main_arg0 m c) _).trans (congrArg (aP m c) ?_)
  funext a; apply Fin.ext
  match a with
  | ⟨0, _⟩ => show win0_0.index t 0 * 512 + 1 * i.val = R.val; omega
  | ⟨1, _⟩ => show win0_0.index t 1 * 256 + 1 * q.val = cc.val; omega

theorem blk1 (i : Fin 512) (R : Fin 4096) (hR : t.val / 8 * 512 + i.val = R.val) : iblk m c 1 t (ix2 i q) = aP m c (ix2 R (⟨2048 + cc.val, by omega⟩ : Fin 10240)) := by
  unfold iblk
  rw [View.read_apply]
  obtain ⟨-, ⟨e0, e1⟩, -⟩ := idx_p t
  refine (congrFun (V_main_arg0 m c) _).trans (congrArg (aP m c) ?_)
  funext a; apply Fin.ext
  match a with
  | ⟨0, _⟩ => show win0_1.index t 0 * 512 + 1 * i.val = R.val; omega
  | ⟨1, _⟩ => show win0_1.index t 1 * 256 + 1 * q.val = 2048 + cc.val; omega

theorem blk2 (i : Fin 512) (R : Fin 4096) (hR : t.val / 8 * 512 + i.val = R.val) : iblk m c 2 t (ix2 i q) = aP m c (ix2 R (⟨4096 + cc.val, by omega⟩ : Fin 10240)) := by
  unfold iblk
  rw [View.read_apply]
  obtain ⟨-, -, ⟨e0, e1⟩, -⟩ := idx_p t
  refine (congrFun (V_main_arg0 m c) _).trans (congrArg (aP m c) ?_)
  funext a; apply Fin.ext
  match a with
  | ⟨0, _⟩ => show win0_2.index t 0 * 512 + 1 * i.val = R.val; omega
  | ⟨1, _⟩ => show win0_2.index t 1 * 256 + 1 * q.val = 4096 + cc.val; omega

theorem blk3 (i : Fin 512) (R : Fin 4096) (hR : t.val / 8 * 512 + i.val = R.val) : iblk m c 3 t (ix2 i q) = aP m c (ix2 R (⟨6144 + cc.val, by omega⟩ : Fin 10240)) := by
  unfold iblk
  rw [View.read_apply]
  obtain ⟨-, -, -, ⟨e0, e1⟩, -⟩ := idx_p t
  refine (congrFun (V_main_arg0 m c) _).trans (congrArg (aP m c) ?_)
  funext a; apply Fin.ext
  match a with
  | ⟨0, _⟩ => show win0_3.index t 0 * 512 + 1 * i.val = R.val; omega
  | ⟨1, _⟩ => show win0_3.index t 1 * 256 + 1 * q.val = 6144 + cc.val; omega

theorem blk4 (i : Fin 512) (R : Fin 4096) (hR : t.val / 8 * 512 + i.val = R.val) : iblk m c 4 t (ix2 i q) = aP m c (ix2 R (⟨8192 + cc.val, by omega⟩ : Fin 10240)) := by
  unfold iblk
  rw [View.read_apply]
  obtain ⟨-, -, -, -, e0, e1⟩ := idx_p t
  refine (congrFun (V_main_arg0 m c) _).trans (congrArg (aP m c) ?_)
  funext a; apply Fin.ext
  match a with
  | ⟨0, _⟩ => show win0_4.index t 0 * 512 + 1 * i.val = R.val; omega
  | ⟨1, _⟩ => show win0_4.index t 1 * 256 + 1 * q.val = 8192 + cc.val; omega

theorem blk5 (h0 : 0 < t.val / 8) (i : Fin 32) (R : Fin 4096) (hR : t.val / 8 * 512 + i.val = R.val + 32) : iblk m c 5 t (ix2 i q) = aP m c (ix2 R (⟨cc.val, by omega⟩ : Fin 10240)) := by
  unfold iblk
  rw [View.read_apply]
  obtain ⟨⟨e0, e1⟩, -⟩ := idx_h t
  refine (congrFun (V_main_arg0 m c) _).trans (congrArg (aP m c) ?_)
  funext a; apply Fin.ext
  match a with
  | ⟨0, _⟩ => show win0_5.index t 0 * 32 + 1 * i.val = R.val; omega
  | ⟨1, _⟩ => show win0_5.index t 1 * 256 + 1 * q.val = cc.val; omega

theorem blk6 (h0 : 0 < t.val / 8) (i : Fin 32) (R : Fin 4096) (hR : t.val / 8 * 512 + i.val = R.val + 32) : iblk m c 6 t (ix2 i q) = aP m c (ix2 R (⟨2048 + cc.val, by omega⟩ : Fin 10240)) := by
  unfold iblk
  rw [View.read_apply]
  obtain ⟨-, ⟨e0, e1⟩, -⟩ := idx_h t
  refine (congrFun (V_main_arg0 m c) _).trans (congrArg (aP m c) ?_)
  funext a; apply Fin.ext
  match a with
  | ⟨0, _⟩ => show win0_6.index t 0 * 32 + 1 * i.val = R.val; omega
  | ⟨1, _⟩ => show win0_6.index t 1 * 256 + 1 * q.val = 2048 + cc.val; omega

theorem blk7 (h0 : 0 < t.val / 8) (i : Fin 32) (R : Fin 4096) (hR : t.val / 8 * 512 + i.val = R.val + 32) : iblk m c 7 t (ix2 i q) = aP m c (ix2 R (⟨6144 + cc.val, by omega⟩ : Fin 10240)) := by
  unfold iblk
  rw [View.read_apply]
  obtain ⟨-, -, ⟨e0, e1⟩, -⟩ := idx_h t
  refine (congrFun (V_main_arg0 m c) _).trans (congrArg (aP m c) ?_)
  funext a; apply Fin.ext
  match a with
  | ⟨0, _⟩ => show win0_7.index t 0 * 32 + 1 * i.val = R.val; omega
  | ⟨1, _⟩ => show win0_7.index t 1 * 256 + 1 * q.val = 6144 + cc.val; omega

theorem blk8 (h0 : 0 < t.val / 8) (i : Fin 32) (R : Fin 4096) (hR : t.val / 8 * 512 + i.val = R.val + 32) : iblk m c 8 t (ix2 i q) = aP m c (ix2 R (⟨8192 + cc.val, by omega⟩ : Fin 10240)) := by
  unfold iblk
  rw [View.read_apply]
  obtain ⟨-, -, -, e0, e1⟩ := idx_h t
  refine (congrFun (V_main_arg0 m c) _).trans (congrArg (aP m c) ?_)
  funext a; apply Fin.ext
  match a with
  | ⟨0, _⟩ => show win0_8.index t 0 * 32 + 1 * i.val = R.val; omega
  | ⟨1, _⟩ => show win0_8.index t 1 * 256 + 1 * q.val = 8192 + cc.val; omega

theorem blk9 (k : Fin 31) : iblk m c 9 t (ix2 k q) = aA m c (ix2 k cc) := by
  unfold iblk
  rw [View.read_apply]
  obtain ⟨⟨e0, e1⟩, -⟩ := idx_w t
  refine (congrFun (V_main_arg1 m c) _).trans (congrArg (aA m c) ?_)
  funext a; apply Fin.ext
  match a with
  | ⟨0, _⟩ => show win0_9.index t 0 * 31 + 1 * k.val = k.val; omega
  | ⟨1, _⟩ => show win0_9.index t 1 * 256 + 1 * q.val = cc.val; omega

theorem blk10 (k : Fin 1) : iblk m c 10 t (ix2 k q) = aC m c (ix2 k cc) := by
  unfold iblk
  rw [View.read_apply]
  obtain ⟨-, ⟨e0, e1⟩, -⟩ := idx_w t
  refine (congrFun (V_main_arg2 m c) _).trans (congrArg (aC m c) ?_)
  funext a; apply Fin.ext
  match a with
  | ⟨0, _⟩ => show win0_10.index t 0 * 1 + 1 * k.val = k.val; omega
  | ⟨1, _⟩ => show win0_10.index t 1 * 256 + 1 * q.val = cc.val; omega

theorem blk11 (k : Fin 1) : iblk m c 11 t (ix2 k q) = aG m c (ix2 k cc) := by
  unfold iblk
  rw [View.read_apply]
  obtain ⟨-, -, ⟨e0, e1⟩, -⟩ := idx_w t
  refine (congrFun (V_main_arg3 m c) _).trans (congrArg (aG m c) ?_)
  funext a; apply Fin.ext
  match a with
  | ⟨0, _⟩ => show win0_11.index t 0 * 1 + 1 * k.val = k.val; omega
  | ⟨1, _⟩ => show win0_11.index t 1 * 256 + 1 * q.val = cc.val; omega

theorem blk12 (k : Fin 1) : iblk m c 12 t (ix2 k q) = aL m c (ix2 k cc) := by
  unfold iblk
  rw [View.read_apply]
  obtain ⟨-, -, -, ⟨e0, e1⟩, -⟩ := idx_w t
  refine (congrFun (V_main_arg4 m c) _).trans (congrArg (aL m c) ?_)
  funext a; apply Fin.ext
  match a with
  | ⟨0, _⟩ => show win0_12.index t 0 * 1 + 1 * k.val = k.val; omega
  | ⟨1, _⟩ => show win0_12.index t 1 * 256 + 1 * q.val = cc.val; omega

theorem blk13 (k : Fin 3) : iblk m c 13 t (ix2 k q) = aB m c (ix2 k cc) := by
  unfold iblk
  rw [View.read_apply]
  obtain ⟨-, -, -, -, e0, e1⟩ := idx_w t
  refine (congrFun (V_main_arg5 m c) _).trans (congrArg (aB m c) ?_)
  funext a; apply Fin.ext
  match a with
  | ⟨0, _⟩ => show win0_13.index t 0 * 3 + 1 * k.val = k.val; omega
  | ⟨1, _⟩ => show win0_13.index t 1 * 256 + 1 * q.val = cc.val; omega

end

/-! ## The rows before the block -/

theorem first_tile : Scalar.cmpi (w := 32) .eq (BitVec.ofNat 32 (t.val / 8)) 0#32 = if t.val / 8 = 0 then 1#1 else 0#1 := by
  have ht : t.val < 64 := lt_of_lt_of_eq t.isLt N_0
  have : ∀ k : Fin 8, Scalar.cmpi (w := 32) .eq (BitVec.ofNat 32 k.val) 0#32 = if k.val = 0 then 1#1 else 0#1 := by decide
  exact this ⟨t.val / 8, by omega⟩

theorem pay2_at (a z : Vec Ideal S32x256 .bf16) (i : Fin 32) (j : Fin 256) :
    k0_pay2 (grid0.coords t) a z (ix2 i j) = if t.val / 8 = 0 then 0 else a (ix2 i j) * sig (z (ix2 i j)) := by
  unfold k0_pay2
  rw [coords_t t, first_tile t]
  rw [half]
  split_ifs
  · pointwise
  · pointwise

theorem pay3_at (a z : Vec Ideal S32x256 .bf16) (i : Fin 32) (j : Fin 256) :
    k0_pay3 (grid0.coords t) a z (ix2 i j) = if t.val / 8 = 0 then 0 else a (ix2 i j) * z (ix2 i j) := by
  unfold k0_pay3
  rw [coords_t t, first_tile t]
  split_ifs
  · pointwise
  · pointwise

/-- The window at a row and a channel, in the sequence's own rows. -/
theorem window_seq (ha : FVec Ideal S32x256 .f32) (g : S512x256.Idx → EReal) (x : S4096x2048.Idx → EReal) (q : Fin 256) (cc : Fin 2048)
    (hg : ∀ (i : Fin 512) (R : Fin 4096), t.val / 8 * 512 + i.val = R.val → g (ix2 i q) = x (ix2 R cc))
    (h0 : t.val / 8 = 0 → ∀ i : Fin 32, ha (ix2 i q) = 0)
    (h1 : 0 < t.val / 8 → ∀ (i : Fin 32) (R : Fin 4096), t.val / 8 * 512 + i.val = R.val + 32 → ha (ix2 i q) = x (ix2 R cc)) (p : Fin 544) :
    window ha g (ix2 p q) = if 32 ≤ t.val / 8 * 512 + p.val then x (ix2 (Fin.ofNat 4096 (t.val / 8 * 512 + p.val - 32)) cc) else 0 := by
  have ht : t.val < 64 := lt_of_lt_of_eq t.isLt N_0
  unfold window
  by_cases hp : p.val < 32
  · refine (if_pos hp).trans ?_
    by_cases hz : t.val / 8 = 0
    · rw [if_neg (by omega)]
      exact h0 hz _
    · rw [if_pos (by omega)]
      refine h1 (by omega) _ _ ?_
      show t.val / 8 * 512 + p.val % 32 = (t.val / 8 * 512 + p.val - 32) % 4096 + 32
      omega
  · refine (if_neg hp).trans ?_
    rw [if_pos (by omega)]
    refine hg _ _ ?_
    show t.val / 8 * 512 + (p.val - 32) % 512 = (t.val / 8 * 512 + p.val - 32) % 4096
    omega

/-- A convolution over such a window is the causal convolution over the sequence. -/
theorem conv_causal {n : ℕ} (hn : n ≤ 30) (b : Vec Ideal S544x256 .f32) (w : Vec Ideal (⟨2, ![n + 1, 256]⟩ : Shape) .f32)
    (x : S4096x2048.Idx → EReal) (W : Vec Ideal (⟨2, ![n + 1, 2048]⟩ : Shape) .f32) (q : Fin 256) (cc : Fin 2048) (base : ℕ)
    (hb : ∀ p : Fin 544, b (ix2 p q) = if 32 ≤ base + p.val then x (ix2 (Fin.ofNat 4096 (base + p.val - 32)) cc) else 0)
    (hw : ∀ k : Fin (n + 1), w (ix2 k q) = W (ix2 k cc)) (i : ℕ) (hi : i < 512) (R : Fin 4096) (hR : base + i = R.val) :
    conv b w i q = causal x W R cc := by
  unfold conv causal
  rw [Finset.sum_range, ← Equiv.sum_comp Fin.revPerm]
  refine Finset.sum_congr rfl fun k _ => ?_
  have hk := k.isLt
  have hv : (Fin.revPerm k).val = n - k.val := by
    rw [Fin.revPerm_apply, Fin.val_rev]
    omega
  unfold behind
  rw [hv]
  refine congrArg₂ (· * ·) ((hb _).trans ?_) ((hw _).trans (congrArg (fun d => W (ix2 d cc)) (congrArg (Fin.ofNat (n + 1)) (by omega))))
  have e : (Fin.ofNat 544 (i + (32 - (n - k.val)))).val = i + (32 - (n - k.val)) := Nat.mod_eq_of_lt (by omega)
  rw [e]
  by_cases h : n ≤ R.val + k.val
  · rw [if_pos (by omega), dif_pos h]
    refine congrArg x (congrArg (ix2 · cc) (congrArg (Fin.ofNat 4096) ?_))
    omega
  · rw [if_neg (by omega), dif_neg h]

section
variable (i : ℕ) (hi : i < 512) (R : Fin 4096) (hR : t.val / 8 * 512 + i = R.val)
include hi hR

theorem plain_at (q : Fin 256) (cc : Fin 2048) (hc : t.val % 8 * 256 + q.val = cc.val) :
    plain (bufA m c t) (iblk m c 9 t) (iblk m c 10 t) i q = first (aP m c) (aA m c) (aC m c) R cc := by
  unfold plain first
  have eC : iblk m c 10 t (ix2 0 q) = aC m c (ix2 0 cc) := blk10 m c t q cc hc 0
  refine congrArg₂ (· + ·) ?_ eC
  refine conv_causal (n := 30) (le_refl _) _ _ _ _ q cc (t.val / 8 * 512) (fun p => ?_) (fun k => blk9 m c t q cc hc k) i hi R hR
  refine window_seq t _ _ _ q cc (fun i R h => ?_) (fun h i => ?_) (fun h i R hR => ?_) p
  · unfold gatedB
    rw [sig_eq]
    refine congrArg₂ (· * ·) (blk0 m c t q cc hc i R h) (congrArg MixRef.logistic ((blk1 m c t q cc hc i R h).trans (congrArg (fun d => aP m c (ix2 R d)) (Fin.ext ?_))))
    exact (Nat.mod_eq_of_lt (show 2048 + cc.val < 10240 by omega)).symm
  · refine (pay2_at t _ _ i q).trans (if_pos h)
  · refine (pay2_at t _ _ i q).trans ((if_neg (by omega)).trans ?_)
    rw [sig_eq]
    refine congrArg₂ (· * ·) (blk5 m c t q cc hc h i R hR) (congrArg MixRef.logistic ((blk6 m c t q cc hc h i R hR).trans (congrArg (fun d => aP m c (ix2 R d)) (Fin.ext ?_))))
    exact (Nat.mod_eq_of_lt (show 2048 + cc.val < 10240 by omega)).symm

theorem short_at (q : Fin 256) (cc : Fin 2048) (hc : t.val % 8 * 256 + q.val = cc.val) :
    conv (n := 2) (bufB m c t) (iblk m c 13 t) i q = causal (n := 2) (product (aP m c)) (aB m c) R cc := by
  have e : ∀ k, (h : k + 2048 ≤ 10240) → (⟨k + cc.val, by omega⟩ : Fin 10240) = Fin.ofNat 10240 (k + cc.val) :=
    fun k h => Fin.ext (Nat.mod_eq_of_lt (by omega)).symm
  have e1 := e 6144 (by decide)
  have e2 := e 8192 (by decide)
  refine conv_causal (n := 2) (by norm_num) _ _ _ _ q cc (t.val / 8 * 512) (fun p => ?_) (fun k => blk13 m c t q cc hc k) i hi R hR
  refine window_seq t _ _ _ q cc (fun i R h => ?_) (fun h i => ?_) (fun h i R hR => ?_) p
  · exact congrArg₂ (· * ·) ((blk3 m c t q cc hc i R h).trans (congrArg (fun d => aP m c (ix2 R d)) e1))
      ((blk4 m c t q cc hc i R h).trans (congrArg (fun d => aP m c (ix2 R d)) e2))
  · refine (pay3_at t _ _ i q).trans (if_pos h)
  · refine (pay3_at t _ _ i q).trans ((if_neg (by omega)).trans ?_)
    exact congrArg₂ (· * ·) ((blk7 m c t q cc hc h i R hR).trans (congrArg (fun d => aP m c (ix2 R d)) e1))
      ((blk8 m c t q cc hc h i R hR).trans (congrArg (fun d => aP m c (ix2 R d)) e2))

theorem scaled_at (q : Fin 256) (cc : Fin 2048) (hc : t.val % 8 * 256 + q.val = cc.val) :
    scaledB (bufA m c t) (iblk m c 9 t) (iblk m c 10 t) (iblk m c 11 t) (iblk m c 12 t) i q
      = scaled (first (aP m c) (aA m c) (aC m c) R) (aG m c) (aL m c) cc := by
  unfold scaledB scaled
  have eG : iblk m c 11 t (ix2 0 q) = aG m c (ix2 0 cc) := blk11 m c t q cc hc 0
  have eL : iblk m c 12 t (ix2 0 q) = aL m c (ix2 0 cc) := blk12 m c t q cc hc 0
  have ef : (fun l : Fin 128 => plain (bufA m c t) (iblk m c 9 t) (iblk m c 10 t) i (Fin.ofNat 256 (q.val / 128 * 128 + l.val)))
      = group (first (aP m c) (aA m c) (aC m c) R) cc := by
    funext l
    refine plain_at m c t i hi R hR _ _ ?_
    show t.val % 8 * 256 + (q.val / 128 * 128 + l.val) % 256 = (cc.val / 128 * 128 + l.val) % 2048
    omega
  have el : q.val % 128 = cc.val % 128 := by omega
  refine congrArg₂ (· + ·) (congrArg₂ (· * ·) ?_ eG) eL
  exact congrArg₂ normed ef (congrArg (Fin.ofNat 128) el)
end

end Cert.MfKernel

end
-- ==== Proof.ProdMixFwd.lean ====
/-
  The claim of the mixer's forward pass: the two arrays the launch leaves are the two results of the reference.
-/
module

public import proofs.«01_k».proof.Proof.MfOut
public import proofs.«01_k».proof.Proof.MfKernel
public import proofs.«01_k».proof.Proof.Gen.MixFwdRefIdeal.Run

@[expose] public section

set_option maxRecDepth 16384

noncomputable section

namespace Cert.ProdMixFwd

open Cert.MixFwdIdeal Cert.MixFwdIdeal.Gen Cert.MixFwdIdeal.Value Cert.MfBlock Cert.MfRef Cert.MfKernel Idealize.ShloMosaic
open Idealize.ShloMosaic.TcCoe
open Cert.MixKernel (sig_eq)

section
variable (m : (ℓ : Loc nD τ sig) → Buf (Elt Ideal) ℓ) (c : Dev nD)

/-- The grid point whose block holds a row and a channel. -/
theorem point (R : Fin 4096) (cc : Fin 2048) : ∃ t : Fin cfg0.N, t.val / 8 * 512 + R.val % 512 = R.val
    ∧ t.val % 8 * 256 + cc.val % 256 = cc.val :=
  ⟨⟨R.val / 512 * 8 + cc.val / 256, lt_of_lt_of_eq (by omega) N_0.symm⟩,
    by show (R.val / 512 * 8 + cc.val / 256) / 8 * 512 + R.val % 512 = R.val; omega,
    by show (R.val / 512 * 8 + cc.val / 256) % 8 * 256 + cc.val % 256 = cc.val; omega⟩

/-- A row and a channel, inside the block. -/
abbrev row (R : Fin 4096) : Fin 512 := ⟨R.val % 512, Nat.mod_lt _ (by norm_num)⟩
abbrev chan (cc : Fin 2048) : Fin 256 := ⟨cc.val % 256, Nat.mod_lt _ (by norm_num)⟩

/-- The first branch before its norm, at a row and a channel. -/
theorem final15 (R : Fin 4096) (cc : Fin 2048) : (dats m 0 c).arrAt 15 cfg0.N (ix2 R cc)
    = Cert.MixFwdRefIdeal.Read.val_main_v232 (F := Ideal) (aP m c) (aA m c) (aC m c) (ix2 R cc) := by
  obtain ⟨t, hR, hc⟩ := point R cc
  have e := congrFun (blocks15 m c t (flush0_15 t)) (ix2 (row R) (chan cc))
  rw [View.read_apply, flushed15, out15] at e
  have hi : ((cfg0.win 15).blk t).view.emb (ix2 (row R) (chan cc)) = ix2 R cc := by
    obtain ⟨-, e0, e1⟩ := idx_o t
    funext a; apply Fin.ext
    match a with
    | ⟨0, _⟩ => show win0_15.index t 0 * 512 + 1 * (R.val % 512) = R.val; omega
    | ⟨1, _⟩ => show win0_15.index t 1 * 256 + 1 * (cc.val % 256) = cc.val; omega
  rw [val_232, ← hi]
  refine e.trans ?_
  exact plain_at m c t (R.val % 512) (Nat.mod_lt _ (by norm_num)) R hR (chan cc) cc hc

/-- The two branches, at a row and a channel. -/
theorem final14 (s : Fin 2) (R : Fin 4096) (cc : Fin 2048) : (dats m 0 c).arrAt 14 cfg0.N (ix3 s R cc)
    = Cert.MixFwdRefIdeal.Read.val_main_v283 (F := Ideal) (aP m c) (aA m c) (aC m c) (aG m c) (aL m c) (aB m c) (ix3 s R cc) := by
  obtain ⟨t, hR, hc⟩ := point R cc
  have e := congrFun (blocks14 m c t (flush0_14 t)) (ix3 s (row R) (chan cc))
  rw [View.read_apply, flushed14, out14] at e
  have hi : ((cfg0.win 14).blk t).view.emb (ix3 s (row R) (chan cc)) = ix3 s R cc := by
    obtain ⟨⟨e0, e1, e2⟩, -⟩ := idx_o t
    funext a; apply Fin.ext
    match a with
    | ⟨0, _⟩ => show win0_14.index t 0 * 2 + 1 * s.val = s.val; omega
    | ⟨1, _⟩ => show win0_14.index t 1 * 512 + 1 * (R.val % 512) = R.val; omega
    | ⟨2, _⟩ => show win0_14.index t 2 * 256 + 1 * (cc.val % 256) = cc.val; omega
  rw [← hi]
  refine e.trans ?_
  rw [hi]
  have hr : R.val % 512 < 512 := Nat.mod_lt _ (by norm_num)
  clear e hi
  rcases (by omega : s = 0 ∨ s = 1) with rfl | rfl
  · refine Eq.trans ?_ ((val_283_0 _ _ _ _ _ _ R cc).trans (val_255 _ _ _ _ _ R cc)).symm
    have es := scaled_at m c t (R.val % 512) hr R hR (chan cc) cc hc
    unfold block0
    refine (if_pos rfl).trans ?_
    rw [sig_eq]
    exact congrArg₂ (· * ·) es (congrArg MixRef.logistic es)
  · refine Eq.trans ?_ (val_283_1 _ _ _ _ _ _ R cc).symm
    unfold block0
    refine (if_neg (by exact (by decide : ¬ (1 : Fin 2).val = 0))).trans ?_
    refine congrArg₂ (· * ·) ((blk2 m c t (chan cc) cc hc (row R) R hR).trans (congrArg (fun d => aP m c (ix2 R d)) (Fin.ext ?_)))
      (short_at m c t (R.val % 512) hr R hR (chan cc) cc hc)
    exact (Nat.mod_eq_of_lt (show 4096 + cc.val < 10240 by omega)).symm

end

attribute [local instance] Cert.MixFwdIdeal.Gen.facts Cert.MixFwdRefIdeal.Gen.facts

/-- The claim. -/
theorem algebraic : Cert.algebraic_MixFwdIdeal_MixFwdRefIdeal := by
  intro m g m' g' _ hargs
  refine ⟨fun c => (dats m 0 c).arrAt 14 cfg0.N, fun c => (dats m 0 c).arrAt 15 cfg0.N, run_blocks m g, ?_⟩
  refine (θ_run _ _ _).mono (fun r h c => ?_) (Cert.MixFwdRefIdeal.Value.run m' g')
  obtain ⟨e0, e1, ks⟩ := h c
  obtain ⟨a0, a1, a2, a3, a4, a5⟩ := hargs c
  have b0 : StableHlo.launchContents m' c (Proc.devRef .tc Cert.MixFwdRefIdeal.main_arg0) = m ((c.tc : Thread _ _).loc main_arg0) := a0
  have b1 : StableHlo.launchContents m' c (Proc.devRef .tc Cert.MixFwdRefIdeal.main_arg1) = m ((c.tc : Thread _ _).loc main_arg1) := a1
  have b2 : StableHlo.launchContents m' c (Proc.devRef .tc Cert.MixFwdRefIdeal.main_arg2) = m ((c.tc : Thread _ _).loc main_arg2) := a2
  have b3 : StableHlo.launchContents m' c (Proc.devRef .tc Cert.MixFwdRefIdeal.main_arg3) = m ((c.tc : Thread _ _).loc main_arg3) := a3
  have b4 : StableHlo.launchContents m' c (Proc.devRef .tc Cert.MixFwdRefIdeal.main_arg4) = m ((c.tc : Thread _ _).loc main_arg4) := a4
  have b5 : StableHlo.launchContents m' c (Proc.devRef .tc Cert.MixFwdRefIdeal.main_arg5) = m ((c.tc : Thread _ _).loc main_arg5) := a5
  refine ⟨e0.trans ?_, e1.trans ?_, ks⟩
  · rw [Cert.MixFwdRefIdeal.Read.val_main_v283_eq, b0, b1, b2, b3, b4, b5]
    funext i
    rw [ValueIdx.eq_ix3 i]
    exact (final14 m c _ _ _).symm
  · rw [Cert.MixFwdRefIdeal.Read.val_main_v232_eq, b0, b1, b2]
    funext i
    rw [ValueIdx.eq_ix2 i]
    exact (final15 m c _ _).symm

/-- The reference runs, keeps its arguments, and holds no semaphore. -/
theorem frame_r : Cert.quiescent_MixFwdRefIdeal := by
  intro m g _
  exact (θ_run Cert.MixFwdRefIdeal.defs _ _).mono (fun r h => ⟨fun c => (h c).2.2, sem_eq_zero_of_no_sems (by decide) r.2⟩)
    (Cert.MixFwdRefIdeal.Value.run m g)

end Cert.ProdMixFwd

end
-- ==== Proof.ProdDw.lean ====
/-
  The weight gradient of the down projection, `fᵀ · ct`: what its launch leaves is, at row `r` of shard `b` and column `c`,
  the sum over the tokens of `f`'s column `1376·b + r` times `ct`'s column `c`; the derivative the reference takes is the
  same sum with its factors exchanged.
-/
module

public import proofs.«01_k».proof.Defs
public import proofs.«01_k».proof.Proof.Gen.DwDownIdeal.Value
public import proofs.«01_k».proof.Proof.Gen.DwDownRefIdeal.Read
public import Idealize.ShloMosaic.Lib.Pointwise
public import Idealize.ShloMosaic.Lib.Pipeline.ValueKit.Basic

@[expose] public section

set_option maxRecDepth 16384

noncomputable section

namespace Cert.ProdDw

open Cert.DwDownIdeal Cert.DwDownIdeal.Gen Cert.DwDownIdeal.Value Idealize.ShloMosaic Idealize.SL.Sem
open Idealize.ShloMosaic.TcCoe

/-- Column `r` of shard `b`, among all the columns. -/
abbrev feat (b : Fin 8) (r : Fin 1376) : Fin 11008 := ⟨b.val * 1376 + r.val, by omega⟩

/-- What one point computes. -/
theorem pay_at (x : Vec Ideal S1x4096x1376 .bf16) (y : Vec Ideal S4096x512 .bf16) (a : Fin 1) (r : Fin 1376) (c : Fin 512) :
    k0_pay1 x y (ix3 a r c) = ∑ k : Fin 4096, x (ix3 0 k r) * y (ix2 k c) := by
  unfold k0_pay1
  pointwise

section
variable (m : (ℓ : Loc nD τ sig) → Buf (Elt Ideal) ℓ) (c : Dev nD)

/-- The activations, by token and feature. -/
abbrev aF : Vec Ideal S4096x11008 .bf16 := m ((c : Thread nD τ).loc main_arg0)
/-- The cotangent, by token and column. -/
abbrev aC : Vec Ideal S4096x4096 .bf16 := m ((c : Thread nD τ).loc main_arg1)

/-- The activations are laid out shard by shard before the launch. -/
theorem V_v1 (b : Fin 8) (k : Fin 4096) (r : Fin 1376) : V m c main_v1 (ix3 b k r) = aF m c (ix2 k (feat b r)) := by
  have e : V m c main_v1 = transpose S8x4096x1376 [1, 0, 2] (shapeCast S4096x8x1376 (aF m c) shapeCasts_S4096x11008_S4096x8x1376)
      transposes_S4096x8x1376_S8x4096x1376_1_0_2 := by
    unfold V
    after_results <;> rfl
  rw [e]
  pointwise

theorem idx_w : ∀ t : Fin cfg0.N, win0_0.index t 0 = t.val / 8 ∧ win0_0.index t 1 = 0 ∧ win0_0.index t 2 = 0
    ∧ win0_1.index t 0 = 0 ∧ win0_1.index t 1 = t.val % 8
    ∧ win0_2.index t 0 = t.val / 8 ∧ win0_2.index t 1 = 0 ∧ win0_2.index t 2 = t.val % 8 :=
  (by decide +kernel : ∀ t : Fin grid0.N, win0_0.index t 0 = t.val / 8 ∧ win0_0.index t 1 = 0 ∧ win0_0.index t 2 = 0
    ∧ win0_1.index t 0 = 0 ∧ win0_1.index t 1 = t.val % 8
    ∧ win0_2.index t 0 = t.val / 8 ∧ win0_2.index t 1 = 0 ∧ win0_2.index t 2 = t.val % 8)

theorem blk_f (t : Fin cfg0.N) (b : Fin 8) (hb : t.val / 8 = b.val) (k : Fin 4096) (r : Fin 1376) :
    iblk m c 0 t (ix3 0 k r) = aF m c (ix2 k (feat b r)) := by
  unfold iblk
  rw [View.read_apply, ← V_v1]
  show V m c main_v1 _ = _
  congr 1
  funext a; apply Fin.ext
  match a with
  | ⟨0, _⟩ => show win0_0.index t 0 * 1 + 1 * 0 = b.val; rw [(idx_w t).1]; omega
  | ⟨1, _⟩ => show win0_0.index t 1 * 4096 + 1 * k.val = k.val; rw [(idx_w t).2.1]; omega
  | ⟨2, _⟩ => show win0_0.index t 2 * 1376 + 1 * r.val = r.val; rw [(idx_w t).2.2.1]; omega

theorem blk_c (t : Fin cfg0.N) (k : Fin 4096) (j : Fin 512) (cc : Fin 4096) (hc : t.val % 8 * 512 + j.val = cc.val) :
    iblk m c 1 t (ix2 k j) = aC m c (ix2 k cc) := by
  unfold iblk
  rw [View.read_apply]
  obtain ⟨-, -, -, e0, e1, -⟩ := idx_w t
  refine (congrFun (V_main_arg1 m c) _).trans ?_
  refine congrArg (aC m c) ?_
  funext a; apply Fin.ext
  match a with
  | ⟨0, _⟩ => show win0_1.index t 0 * 4096 + 1 * k.val = k.val; omega
  | ⟨1, _⟩ => show win0_1.index t 1 * 512 + 1 * j.val = cc.val; omega

/-- What the launch leaves. -/
theorem final (b : Fin 8) (r : Fin 1376) (cc : Fin 4096) :
    (dats m 0 c).arrAt 2 cfg0.N (ix3 b r cc) = ∑ k : Fin 4096, aF m c (ix2 k (feat b r)) * aC m c (ix2 k cc) := by
  obtain ⟨t, ht⟩ : ∃ t : Fin cfg0.N, t.val = b.val * 8 + cc.val / 512 :=
    ⟨⟨b.val * 8 + cc.val / 512, lt_of_lt_of_eq (by omega) N_0.symm⟩, rfl⟩
  have e := congrFun (blocks2 m c t (flush0_2 t)) (ix3 0 r ⟨cc.val % 512, Nat.mod_lt _ (by norm_num)⟩)
  rw [View.read_apply, flushed2] at e
  have hi : ((cfg0.win 2).blk t).view.emb (ix3 0 r ⟨cc.val % 512, Nat.mod_lt _ (by norm_num)⟩) = ix3 b r cc := by
    funext a; apply Fin.ext
    match a with
    | ⟨0, _⟩ => show win0_2.index t 0 * 1 + 1 * 0 = b.val; rw [(idx_w t).2.2.2.2.2.1]; omega
    | ⟨1, _⟩ => show win0_2.index t 1 * 1376 + 1 * r.val = r.val; rw [(idx_w t).2.2.2.2.2.2.1]; omega
    | ⟨2, _⟩ => show win0_2.index t 2 * 512 + 1 * (cc.val % 512) = cc.val; rw [(idx_w t).2.2.2.2.2.2.2]; omega
  rw [← hi]
  refine e.trans ?_
  show out0_2 (iblk m c 0 t) (iblk m c 1 t) (ix3 0 r ⟨cc.val % 512, Nat.mod_lt _ (by norm_num)⟩) = _
  unfold out0_2 r0_0 r0_1 r0_2
  rw [View.canon_cons_unit_lit _ _ _ (by decide), View.ld_unit_lit _ _ (by decide), View.ld_unit_lit _ _ (by decide), pay_at]
  refine Finset.sum_congr rfl fun k _ => ?_
  rw [blk_f m c t b (by omega), blk_c m c t k ⟨cc.val % 512, Nat.mod_lt _ (by norm_num)⟩ cc (by show t.val % 8 * 512 + cc.val % 512 = cc.val; omega)]
end

/-- What the reference computes. -/
theorem ref_at (f : Vec Ideal S4096x11008 .bf16) (ct : Vec Ideal S4096x4096 .bf16) (b : Fin 8) (r : Fin 1376) (cc : Fin 4096) :
    Cert.DwDownRefIdeal.Read.val_main_v7 (F := Ideal) f ct (ix3 b r cc) = ∑ k : Fin 4096, f (ix2 k (feat b r)) * ct (ix2 k cc) := by
  rw [show (∑ k : Fin 4096, f (ix2 k (feat b r)) * ct (ix2 k cc)) = ∑ k : Fin 4096, ct (ix2 k cc) * f (ix2 k (feat b r)) from
    Finset.sum_congr rfl fun k _ => mul_comm _ _]
  pointwise [Cert.DwDownRefIdeal.Read.val_main_v7, Cert.DwDownRefIdeal.Read.val_main_v6, Cert.DwDownRefIdeal.Read.val_main_v5, Cert.DwDownRefIdeal.Read.val_main_v4, Cert.DwDownRefIdeal.Read.val_main_v3, Cert.DwDownRefIdeal.Read.val_main_v1]

attribute [local instance] Cert.DwDownIdeal.Gen.facts Cert.DwDownRefIdeal.Gen.facts

/-- The claim. -/
theorem algebraic : Cert.algebraic_DwDownIdeal_DwDownRefIdeal := by
  intro m g m' g' _ hargs
  refine ⟨fun c => (dats m 0 c).arrAt 2 cfg0.N, run_blocks m g, ?_⟩
  refine (θ_run _ _ _).mono (fun r h c => ?_) (Cert.DwDownRefIdeal.Value.run m' g')
  obtain ⟨e, k0, k1⟩ := h c
  obtain ⟨a0, a1⟩ := hargs c
  refine ⟨e.trans ?_, k0, k1⟩
  rw [Cert.DwDownRefIdeal.Read.val_main_v7_eq, a0, a1]
  funext y
  rw [ValueIdx.eq_ix3 y]
  exact (ref_at _ _ _ _ _).trans (final m c _ _ _).symm

/-- The reference runs, keeps its arguments, and holds no semaphore. -/
theorem frame_r : Cert.quiescent_DwDownRefIdeal := by
  intro m g _
  exact (θ_run Cert.DwDownRefIdeal.defs _ _).mono (fun r h => ⟨fun c => (h c).2, sem_eq_zero_of_no_sems (by decide) r.2⟩)
    (Cert.DwDownRefIdeal.Value.run m g)

end Cert.ProdDw

end
-- ==== Proof.ProdDf.lean ====
/-
  The gradient that the down projection hands back to its activations, `ct · wᵀ`: what its launch leaves is, for token `r` and
  feature `j` of shard `b`, the sum over the columns of `ct`'s row `r` times the weight's row `1376·b + j`.
-/
module

public import proofs.«01_k».proof.Defs
public import proofs.«01_k».proof.Proof.Gen.DfIdeal.Value
public import proofs.«01_k».proof.Proof.Gen.DfRefIdeal.Read
public import Idealize.ShloMosaic.Lib.Pointwise
public import Idealize.ShloMosaic.Lib.Pipeline.ValueKit.Basic

@[expose] public section

set_option maxRecDepth 16384

noncomputable section

namespace Cert.ProdDf

open Cert.DfIdeal Cert.DfIdeal.Gen Cert.DfIdeal.Value Idealize.ShloMosaic Idealize.SL.Sem
open Idealize.ShloMosaic.TcCoe

/-- Feature `j` of shard `b`, among all the features. -/
abbrev feat (b : Fin 8) (j : Fin 1376) : Fin 11008 := ⟨b.val * 1376 + j.val, by omega⟩

/-- What one point computes. -/
theorem pay_at (x : Vec Ideal S1024x4096 .bf16) (y : Vec Ideal S1x1376x4096 .bf16) (a : Fin 1) (r : Fin 1024) (j : Fin 1376) :
    k0_pay1 x y (ix3 a r j) = ∑ k : Fin 4096, x (ix2 r k) * y (ix3 0 j k) := by
  unfold k0_pay1
  pointwise

section
variable (m : (ℓ : Loc nD τ sig) → Buf (Elt Ideal) ℓ) (c : Dev nD)

/-- The cotangent, by token and column. -/
abbrev aC : Vec Ideal S4096x4096 .bf16 := m ((c : Thread nD τ).loc main_arg0)
/-- The weight, by feature and column. -/
abbrev aW : Vec Ideal S11008x4096 .bf16 := m ((c : Thread nD τ).loc main_arg1)

/-- The weight is cut into its shards before the launch. -/
theorem V_v0 (b : Fin 8) (j : Fin 1376) (k : Fin 4096) : V m c main_v0 (ix3 b j k) = aW m c (ix2 (feat b j) k) := by
  have e : V m c main_v0 = shapeCast S8x1376x4096 (aW m c) shapeCasts_S11008x4096_S8x1376x4096 := by
    unfold V
    after_results <;> rfl
  rw [e]
  pointwise

theorem idx_w : ∀ t : Fin cfg0.N, win0_0.index t 0 = t.val % 4 ∧ win0_0.index t 1 = 0
    ∧ win0_1.index t 0 = t.val / 4 ∧ win0_1.index t 1 = 0 ∧ win0_1.index t 2 = 0
    ∧ win0_2.index t 0 = t.val / 4 ∧ win0_2.index t 1 = t.val % 4 ∧ win0_2.index t 2 = 0 :=
  (by decide +kernel : ∀ t : Fin grid0.N, win0_0.index t 0 = t.val % 4 ∧ win0_0.index t 1 = 0
    ∧ win0_1.index t 0 = t.val / 4 ∧ win0_1.index t 1 = 0 ∧ win0_1.index t 2 = 0
    ∧ win0_2.index t 0 = t.val / 4 ∧ win0_2.index t 1 = t.val % 4 ∧ win0_2.index t 2 = 0)

theorem blk_c (t : Fin cfg0.N) (i : Fin 1024) (r : Fin 4096) (hr : t.val % 4 * 1024 + i.val = r.val) (k : Fin 4096) :
    iblk m c 0 t (ix2 i k) = aC m c (ix2 r k) := by
  unfold iblk
  rw [View.read_apply]
  obtain ⟨e0, e1, -⟩ := idx_w t
  refine (congrFun (V_main_arg0 m c) _).trans ?_
  refine congrArg (aC m c) ?_
  funext a; apply Fin.ext
  match a with
  | ⟨0, _⟩ => show win0_0.index t 0 * 1024 + 1 * i.val = r.val; omega
  | ⟨1, _⟩ => show win0_0.index t 1 * 4096 + 1 * k.val = k.val; omega

theorem blk_w (t : Fin cfg0.N) (b : Fin 8) (hb : t.val / 4 = b.val) (j : Fin 1376) (k : Fin 4096) :
    iblk m c 1 t (ix3 0 j k) = aW m c (ix2 (feat b j) k) := by
  unfold iblk
  rw [View.read_apply, ← V_v0]
  obtain ⟨-, -, e0, e1, e2, -⟩ := idx_w t
  show V m c main_v0 _ = _
  congr 1
  funext a; apply Fin.ext
  match a with
  | ⟨0, _⟩ => show win0_1.index t 0 * 1 + 1 * 0 = b.val; omega
  | ⟨1, _⟩ => show win0_1.index t 1 * 1376 + 1 * j.val = j.val; omega
  | ⟨2, _⟩ => show win0_1.index t 2 * 4096 + 1 * k.val = k.val; omega

/-- What the launch leaves. -/
theorem final (b : Fin 8) (r : Fin 4096) (j : Fin 1376) :
    (dats m 0 c).arrAt 2 cfg0.N (ix3 b r j) = ∑ k : Fin 4096, aC m c (ix2 r k) * aW m c (ix2 (feat b j) k) := by
  obtain ⟨t, ht⟩ : ∃ t : Fin cfg0.N, t.val = b.val * 4 + r.val / 1024 :=
    ⟨⟨b.val * 4 + r.val / 1024, lt_of_lt_of_eq (by omega) N_0.symm⟩, rfl⟩
  obtain ⟨i, hi'⟩ : ∃ i : Fin 1024, i.val = r.val % 1024 := ⟨⟨r.val % 1024, Nat.mod_lt _ (by norm_num)⟩, rfl⟩
  have e := congrFun (blocks2 m c t (flush0_2 t)) (ix3 0 i j)
  rw [View.read_apply, flushed2] at e
  obtain ⟨-, -, -, -, -, e0, e1, e2⟩ := idx_w t
  have hi : ((cfg0.win 2).blk t).view.emb (ix3 0 i j) = ix3 b r j := by
    funext a; apply Fin.ext
    match a with
    | ⟨0, _⟩ => show win0_2.index t 0 * 1 + 1 * 0 = b.val; omega
    | ⟨1, _⟩ => show win0_2.index t 1 * 1024 + 1 * i.val = r.val; omega
    | ⟨2, _⟩ => show win0_2.index t 2 * 1376 + 1 * j.val = j.val; omega
  rw [← hi]
  refine e.trans ?_
  show out0_2 (iblk m c 0 t) (iblk m c 1 t) (ix3 0 i j) = _
  unfold out0_2 r0_0 r0_1 r0_2
  rw [View.canon_cons_unit_lit _ _ _ (by decide), View.ld_unit_lit _ _ (by decide), View.ld_unit_lit _ _ (by decide), pay_at]
  refine Finset.sum_congr rfl fun k _ => ?_
  rw [blk_c m c t i r (by omega), blk_w m c t b (by omega)]
end

/-- What the reference computes. -/
theorem ref_at (ct : Vec Ideal S4096x4096 .bf16) (w : Vec Ideal S11008x4096 .bf16) (b : Fin 8) (r : Fin 4096) (j : Fin 1376) :
    Cert.DfRefIdeal.Read.val_main_v7 (F := Ideal) ct w (ix3 b r j) = ∑ k : Fin 4096, ct (ix2 r k) * w (ix2 (feat b j) k) := by
  pointwise [Cert.DfRefIdeal.Read.val_main_v7, Cert.DfRefIdeal.Read.val_main_v6, Cert.DfRefIdeal.Read.val_main_v5,
    Cert.DfRefIdeal.Read.val_main_v4, Cert.DfRefIdeal.Read.val_main_v3, Cert.DfRefIdeal.Read.val_main_v1]

attribute [local instance] Cert.DfIdeal.Gen.facts Cert.DfRefIdeal.Gen.facts

/-- The claim. -/
theorem algebraic : Cert.algebraic_DfIdeal_DfRefIdeal := by
  intro m g m' g' _ hargs
  refine ⟨fun c => (dats m 0 c).arrAt 2 cfg0.N, run_blocks m g, ?_⟩
  refine (θ_run _ _ _).mono (fun r h c => ?_) (Cert.DfRefIdeal.Value.run m' g')
  obtain ⟨e, k0, k1⟩ := h c
  obtain ⟨a0, a1⟩ := hargs c
  refine ⟨e.trans ?_, k0, k1⟩
  rw [Cert.DfRefIdeal.Read.val_main_v7_eq, a0, a1]
  funext y
  rw [ValueIdx.eq_ix3 y]
  exact (ref_at _ _ _ _ _).trans (final m c _ _ _).symm

/-- The reference runs, keeps its arguments, and holds no semaphore. -/
theorem frame_r : Cert.quiescent_DfRefIdeal := by
  intro m g _
  exact (θ_run Cert.DfRefIdeal.defs _ _).mono (fun r h => ⟨fun c => (h c).2, sem_eq_zero_of_no_sems (by decide) r.2⟩)
    (Cert.DfRefIdeal.Value.run m g)

end Cert.ProdDf

end
-- ==== Proof.ProdDxn3Point.lean ====
/-
  What one grid point of the gradient through the up projection leaves: the accumulator with two shards' products added,
  and at a run's last point the accumulator with the residual added.
-/
module

public import proofs.«01_k».proof.Defs
public import proofs.«01_k».proof.Proof.Gen.Dxn3Ideal.Value
public import Idealize.ShloMosaic.Lib.Pointwise
public import Idealize.ShloMosaic.Lib.Pipeline.ValueKit.Basic
public import Idealize.ShloMosaic.Lib.Pipeline.ReadBack

@[expose] public section

set_option maxRecDepth 16384

noncomputable section

namespace Cert.ProdDxn3

open Cert.Dxn3Ideal Cert.Dxn3Ideal.Gen Cert.Dxn3Ideal.Value Idealize.ShloMosaic
open Idealize.ShloMosaic.TcCoe

/-- Shard `g`'s product at a row and a column of the block. -/
abbrev part (x : Vec Ideal S2x1024x1376 .bf16) (w : Vec Ideal S2x1376x1024 .bf16) (g : Fin 2) (y : S1024x1024.Idx) : EReal :=
  ∑ k : Fin 1376, x (ix3 g (y 0) k) * w (ix3 g k (y 1))

/-- The two shards' products, added to what the accumulator held. -/
abbrev add2 (x : Vec Ideal S2x1024x1376 .bf16) (w : Vec Ideal S2x1376x1024 .bf16) (s : Vec Ideal S1024x1024 .f32) :
    Vec Ideal S1024x1024 .f32 := fun y => s y + (part x w 0 y + part x w 1 y)

theorem pay2_at (s : Vec Ideal S1024x1024 .f32) (a a' : Vec Ideal S1x1024x1376 .bf16) (b b' : Vec Ideal S1x1376x1024 .bf16)
    (r c : Fin 1024) : k0_pay2 s a b a' b' (ix2 r c) =
      s (ix2 r c) + ((∑ k : Fin 1376, a (ix3 0 r k) * b (ix3 0 k c)) + ∑ k : Fin 1376, a' (ix3 0 r k) * b' (ix3 0 k c)) := by
  unfold k0_pay2
  pointwise

theorem pay1_at (r c : Fin 1024) : (k0_pay1 (F := Ideal)) (ix2 r c) = 0 := by
  unfold k0_pay1
  pointwise

theorem pay3_at (s : Vec Ideal S1024x1024 .f32) (x : Vec Ideal S1024x1024 .bf16) (r c : Fin 1024) :
    k0_pay3 s x (ix2 r c) = s (ix2 r c) + x (ix2 r c) := by
  unfold k0_pay3
  pointwise

/-- A shard's slice of a block of two. -/
theorem ld_x (x : Vec Ideal S2x1024x1376 .bf16) (g : Fin 2) (o : ℕ) (ho : o = g.val) (inb) (r : Fin 1024) (k : Fin 1376) :
    View.ld x (Rect.unit (s := S2x1024x1376) ![o, 0, 0] S1x1024x1376.size inb) (ix3 0 r k) = x (ix3 g r k) := by
  refine congrArg x ?_
  funext a; apply Fin.ext
  match a with
  | ⟨0, _⟩ => show o + 1 * 0 = g.val; omega
  | ⟨1, _⟩ => show 0 + 1 * r.val = r.val; omega
  | ⟨2, _⟩ => show 0 + 1 * k.val = k.val; omega

theorem ld_w (x : Vec Ideal S2x1376x1024 .bf16) (g : Fin 2) (o : ℕ) (ho : o = g.val) (inb) (k : Fin 1376) (r : Fin 1024) :
    View.ld x (Rect.unit (s := S2x1376x1024) ![o, 0, 0] S1x1376x1024.size inb) (ix3 0 k r) = x (ix3 g k r) := by
  refine congrArg x ?_
  funext a; apply Fin.ext
  match a with
  | ⟨0, _⟩ => show o + 1 * 0 = g.val; omega
  | ⟨1, _⟩ => show 0 + 1 * k.val = k.val; omega
  | ⟨2, _⟩ => show 0 + 1 * r.val = r.val; omega

theorem pay2_ld (s : Vec Ideal S1024x1024 .f32) (x : Vec Ideal S2x1024x1376 .bf16) (w : Vec Ideal S2x1376x1024 .bf16) (i0 i1 j0 j1) :
    k0_pay2 s (View.ld x (Rect.unit (s := S2x1024x1376) ![0, 0, 0] S1x1024x1376.size i0))
      (View.ld w (Rect.unit (s := S2x1376x1024) ![0, 0, 0] S1x1376x1024.size j0))
      (View.ld x (Rect.unit (s := S2x1024x1376) ![1, 0, 0] S1x1024x1376.size i1))
      (View.ld w (Rect.unit (s := S2x1376x1024) ![1, 0, 0] S1x1376x1024.size j1)) = add2 x w s := by
  funext y
  obtain ⟨r, c, rfl⟩ : ∃ (r c : Fin 1024), y = ix2 r c := ⟨y 0, y 1, eq_ix2 y⟩
  rw [pay2_at]
  simp only [ld_x x 0 0 rfl, ld_x x 1 1 rfl, ld_w w 0 0 rfl, ld_w w 1 1 rfl]
  rfl

section
variable (c : Dev nD) (i : grid0.Coords) (arg4 : Memref sig .tc .vmem S2x1024x1376 .bf16) (harg4 : arg4.IsWhole) (arg5 : Memref sig .tc .vmem S2x1376x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole)
variable (x0 : Vec Ideal S2x1024x1376 .bf16) (x1 : Vec Ideal S2x1376x1024 .bf16) (x2 : Vec Ideal S1024x1024 .bf16) (s : Vec Ideal S1024x1024 .f32)

/-- A run's first point: the accumulator starts from zero. -/
theorem caseA (hc0 : cond0_0 i) (hc1 : ¬cond0_1 i) :
    sout0_A_0 c i arg4 harg4 arg5 harg5 arg6 harg6 arg7 harg7 arg8 harg8 hc0 hc1 x0 x1 x2 = add2 x0 x1 (fun _ => 0) := by
  unfold sout0_A_0
  rw [View.read_writes_eq_canon _ _ _ (scover0_A_0 c i arg4 harg4 arg5 harg5 arg6 harg6 arg7 harg7 arg8 harg8 hc0 hc1 x0 x1 x2)]
  unfold kernelRun0_A; dsimp only; sl_unfold_words
  simp (disch := decide) only [↓View.readCov_skip, ↓View.readCov_fill, View.readAt_eq_ld, harg4.read_unread, harg5.read_unread,
    harg6.read_unread, harg8.read_unread]
  rw [View.canon_cons_unit_lit _ _ _ (by decide)]
  refine (pay2_ld _ _ _ _ _ _ _).trans ?_
  refine congrArg (add2 x0 x1) ?_
  rw [View.ld_unit_lit _ _ (by decide)]
  funext y
  obtain ⟨r, c, rfl⟩ : ∃ (r c : Fin 1024), y = ix2 r c := ⟨y 0, y 1, eq_ix2 y⟩
  exact pay1_at r c

/-- A point between. -/
theorem caseB (hc0 : ¬cond0_0 i) (hc1 : ¬cond0_1 i) :
    sout0_B_0 c i arg4 harg4 arg5 harg5 arg6 harg6 arg7 harg7 arg8 harg8 hc0 hc1 x0 x1 x2 s = add2 x0 x1 s := by
  unfold sout0_B_0
  rw [View.read_writes_eq_canon _ _ _ (scover0_B_0 c i arg4 harg4 arg5 harg5 arg6 harg6 arg7 harg7 arg8 harg8 hc0 hc1 x0 x1 x2 s)]
  unfold kernelRun0_B; dsimp only; sl_unfold_words
  simp only [View.readAt_eq_ld, harg4.read_unread, harg5.read_unread, harg6.read_unread, harg8.read_unread]
  rw [View.canon_cons_unit_lit _ _ _ (by decide), View.ld_unit_lit _ _ (by decide)]
  exact pay2_ld _ _ _ _ _ _ _

/-- A run's last point: the accumulator with the residual. -/
theorem caseC (hc0 : ¬cond0_0 i) (hc1 : cond0_1 i) :
    out0_C_3 c i arg4 harg4 arg5 harg5 arg6 harg6 arg7 harg7 arg8 harg8 hc0 hc1 x0 x1 x2 s
      = (fun y => add2 x0 x1 s y + x2 y) := by
  unfold out0_C_3
  rw [View.read_writes_eq_canon _ _ _ (cover0_C_3 c i arg4 harg4 arg5 harg5 arg6 harg6 arg7 harg7 arg8 harg8 hc0 hc1 x0 x1 x2 s)]
  unfold kernelRun0_C; dsimp only; sl_unfold_words
  simp only [View.readAt_eq_ld, harg4.read_unread, harg5.read_unread, harg6.read_unread, harg8.read_unread]
  rw [View.canon_cons_unit_lit _ _ _ (by decide)]
  rw [View.readCov_unit_lit _ _ _ (by decide), View.ld_unit_lit _ x2 (by decide), View.ld_unit_lit _ s (by decide)]
  funext y
  obtain ⟨r, c, rfl⟩ : ∃ (r c : Fin 1024), y = ix2 r c := ⟨y 0, y 1, eq_ix2 y⟩
  refine (pay3_at _ _ r c).trans ?_
  exact congrArg (· + _) (congrFun (pay2_ld _ _ _ _ _ _ _) (ix2 r c))

end

end Cert.ProdDxn3

end
-- ==== Proof.ProdDxn3.lean ====
/-
  The gradient through the up projection, added to what the gate's projection gave: a run of four points adds the products
  of all eight shards, two by two, and its last point adds the residual and writes the block. A sum over the features is
  the sum over the shards of the sums over a shard's features (`sum_shards`).
-/
module

public import proofs.«01_k».proof.Proof.ProdDxn3Point
public import proofs.«01_k».proof.Proof.Gen.Dxn3RefIdeal.Read

@[expose] public section

set_option maxRecDepth 16384

noncomputable section

namespace Cert.ProdDxn3

open Cert.Dxn3Ideal Cert.Dxn3Ideal.Gen Cert.Dxn3Ideal.Value Idealize.ShloMosaic Idealize.SL.Sem
open Idealize.ShloMosaic.TcCoe

/-- Feature `k` of shard `u`, among all the features. -/
abbrev feat (u : Fin 8) (k : Fin 1376) : Fin 11008 := ⟨u.val * 1376 + k.val, by omega⟩

theorem sum_shards (f : Fin 11008 → EReal) : ∑ j, f j = ∑ u : Fin 8, ∑ k, f (feat u k) := by
  rw [← Fintype.sum_prod_type', ← (finProdFinEquiv (m := 8) (n := 1376)).sum_comp f]
  refine Finset.sum_congr rfl fun x _ => congrArg f (Fin.ext ?_)
  show x.2.val + 1376 * x.1.val = x.1.val * 1376 + x.2.val
  omega

section
variable (m : (ℓ : Loc nD τ sig) → Buf (Elt Ideal) ℓ) (c : Dev nD)

/-- The up projection's cotangent, by token and feature. -/
abbrev aU : Vec Ideal S4096x11008 .bf16 := m ((c : Thread nD τ).loc main_arg0)
/-- The up projection's weight, by column and feature. -/
abbrev aW : Vec Ideal S4096x11008 .bf16 := m ((c : Thread nD τ).loc main_arg1)
/-- The residual, by token and column. -/
abbrev aR : Vec Ideal S4096x4096 .bf16 := m ((c : Thread nD τ).loc main_arg2)

theorem V_v1 (u : Fin 8) (r : Fin 4096) (k : Fin 1376) : V m c main_v1 (ix3 u r k) = aU m c (ix2 r (feat u k)) := by
  have e : V m c main_v1 = transpose S8x4096x1376 [1, 0, 2] (shapeCast S4096x8x1376 (aU m c) shapeCasts_S4096x11008_S4096x8x1376)
      transposes_S4096x8x1376_S8x4096x1376_1_0_2 := by
    unfold V
    after_results <;> rfl
  rw [e]
  pointwise

theorem V_v3 (u : Fin 8) (k : Fin 1376) (r : Fin 4096) : V m c main_v3 (ix3 u k r) = aW m c (ix2 r (feat u k)) := by
  have e : V m c main_v3 = shapeCast S8x1376x4096 (transpose S11008x4096 [1, 0] (aW m c) transposes_S4096x11008_S11008x4096_1_0)
      shapeCasts_S11008x4096_S8x1376x4096 := by
    unfold V
    after_results <;> rfl
  rw [e]
  pointwise

theorem idx_w : ∀ t : Fin cfg0.N, (win0_0.index t 0 = t.val % 4 ∧ win0_0.index t 1 = t.val / 16 ∧ win0_0.index t 2 = 0)
    ∧ (win0_1.index t 0 = t.val % 4 ∧ win0_1.index t 1 = 0 ∧ win0_1.index t 2 = t.val / 4 % 4)
    ∧ win0_2.index t 0 = t.val / 16 ∧ win0_2.index t 1 = t.val / 4 % 4 :=
  (by decide +kernel : ∀ t : Fin grid0.N,
    (win0_0.index t 0 = t.val % 4 ∧ win0_0.index t 1 = t.val / 16 ∧ win0_0.index t 2 = 0)
    ∧ (win0_1.index t 0 = t.val % 4 ∧ win0_1.index t 1 = 0 ∧ win0_1.index t 2 = t.val / 4 % 4)
    ∧ win0_2.index t 0 = t.val / 16 ∧ win0_2.index t 1 = t.val / 4 % 4)

theorem blk_u (t : Fin cfg0.N) (g : Fin 2) (u : Fin 8) (hu : t.val % 4 * 2 + g.val = u.val)
    (i : Fin 1024) (r : Fin 4096) (hr : t.val / 16 * 1024 + i.val = r.val) (k : Fin 1376) :
    iblk m c 0 t (ix3 g i k) = aU m c (ix2 r (feat u k)) := by
  unfold iblk
  rw [View.read_apply, ← V_v1]
  obtain ⟨⟨e0, e1, e2⟩, -, -, -⟩ := idx_w t
  show V m c main_v1 _ = _
  congr 1
  funext a; apply Fin.ext
  match a with
  | ⟨0, _⟩ => show win0_0.index t 0 * 2 + 1 * g.val = u.val; omega
  | ⟨1, _⟩ => show win0_0.index t 1 * 1024 + 1 * i.val = r.val; omega
  | ⟨2, _⟩ => show win0_0.index t 2 * 1376 + 1 * k.val = k.val; omega

theorem blk_w (t : Fin cfg0.N) (g : Fin 2) (u : Fin 8) (hu : t.val % 4 * 2 + g.val = u.val)
    (j : Fin 1024) (cc : Fin 4096) (hc : t.val / 4 % 4 * 1024 + j.val = cc.val) (k : Fin 1376) :
    iblk m c 1 t (ix3 g k j) = aW m c (ix2 cc (feat u k)) := by
  unfold iblk
  rw [View.read_apply, ← V_v3]
  obtain ⟨-, ⟨e0, e1, e2⟩, -, -⟩ := idx_w t
  show V m c main_v3 _ = _
  congr 1
  funext a; apply Fin.ext
  match a with
  | ⟨0, _⟩ => show win0_1.index t 0 * 2 + 1 * g.val = u.val; omega
  | ⟨1, _⟩ => show win0_1.index t 1 * 1376 + 1 * k.val = k.val; omega
  | ⟨2, _⟩ => show win0_1.index t 2 * 1024 + 1 * j.val = cc.val; omega

theorem blk_r (t : Fin cfg0.N) (i : Fin 1024) (r : Fin 4096) (hr : t.val / 16 * 1024 + i.val = r.val)
    (j : Fin 1024) (cc : Fin 4096) (hc : t.val / 4 % 4 * 1024 + j.val = cc.val) :
    iblk m c 2 t (ix2 i j) = aR m c (ix2 r cc) := by
  unfold iblk
  rw [View.read_apply]
  obtain ⟨-, -, e0, e1⟩ := idx_w t
  refine (congrFun (V_main_arg2 m c) _).trans ?_
  refine congrArg (aR m c) ?_
  funext a; apply Fin.ext
  match a with
  | ⟨0, _⟩ => show win0_2.index t 0 * 1024 + 1 * i.val = r.val; omega
  | ⟨1, _⟩ => show win0_2.index t 1 * 1024 + 1 * j.val = cc.val; omega

/-- Shard `u`'s product at a row and a column. -/
abbrev sh (r cc : Fin 4096) (u : Fin 8) : EReal := ∑ k : Fin 1376, aU m c (ix2 r (feat u k)) * aW m c (ix2 cc (feat u k))

/-- A shard's product at a point is that shard's part of the sum. -/
theorem part_eq (t : Fin cfg0.N) (g : Fin 2) (u : Fin 8) (hu : t.val % 4 * 2 + g.val = u.val)
    (i : Fin 1024) (r : Fin 4096) (hr : t.val / 16 * 1024 + i.val = r.val)
    (j : Fin 1024) (cc : Fin 4096) (hc : t.val / 4 % 4 * 1024 + j.val = cc.val) :
    part (iblk m c 0 t) (iblk m c 1 t) g (ix2 i j) = sh m c r cc u :=
  Finset.sum_congr rfl fun k _ => congrArg₂ (· * ·) (blk_u m c t g u hu i r hr k) (blk_w m c t g u hu j cc hc k)

/-! ## The points of a run -/

theorem ptA (t : Fin cfg0.N) (h0 : t.val % 4 = 0) :
    (outsAt0 m c t.val t.isLt).2 = add2 (iblk m c 0 t) (iblk m c 1 t) (fun _ => 0) := by
  have h1 : ¬t.val % 4 = 3 := by omega
  have e := caseA c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t) ((hcond0_0 t).mpr h0) (fun h => h1 ((hcond0_1 t).mp h))
  rw [outsAt0_A m c t h0 h1]
  dsimp only
  exact e

theorem ptB (t : Fin cfg0.N) (h0 : ¬t.val % 4 = 0) (h1 : ¬t.val % 4 = 3) (h' : t.val - 1 < cfg0.N) :
    (outsAt0 m c t.val t.isLt).2 = add2 (iblk m c 0 t) (iblk m c 1 t) (outsAt0 m c (t.val - 1) h').2 := by
  have e := caseB c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t) (outsAt0 m c (t.val - 1) h').2
    (fun h => h0 ((hcond0_0 t).mp h)) (fun h => h1 ((hcond0_1 t).mp h))
  rw [outsAt0_B m c t h0 h1]
  dsimp only
  exact e

theorem ptC (t : Fin cfg0.N) (h1 : t.val % 4 = 3) (h' : t.val - 1 < cfg0.N) :
    (outsAt0 m c t.val t.isLt).1 = fun y => add2 (iblk m c 0 t) (iblk m c 1 t) (outsAt0 m c (t.val - 1) h').2 y + iblk m c 2 t y := by
  have h0 : ¬t.val % 4 = 0 := by omega
  have e := caseC c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t) (outsAt0 m c (t.val - 1) h').2
    (fun h => h0 ((hcond0_0 t).mp h)) ((hcond0_1 t).mpr h1)
  rw [outsAt0_C m c t h0 h1]
  dsimp only
  exact e

/-- What a run writes: all the shards' products and the residual. -/
theorem run_end (t : Fin cfg0.N) (h1 : t.val % 4 = 3) (i : Fin 1024) (r : Fin 4096) (hr : t.val / 16 * 1024 + i.val = r.val)
    (j : Fin 1024) (cc : Fin 4096) (hc : t.val / 4 % 4 * 1024 + j.val = cc.val) :
    (outsAt0 m c t.val t.isLt).1 (ix2 i j) = (∑ u, sh m c r cc u) + aR m c (ix2 r cc) := by
  have hN := t.isLt
  have p : ∀ (s : Fin cfg0.N) (q : ℕ) (hq : s.val + q = t.val) (hq' : q < 4) (g : Fin 2) (u : Fin 8)
      (hu : (3 - q) * 2 + g.val = u.val), part (iblk m c 0 s) (iblk m c 1 s) g (ix2 i j) = sh m c r cc u :=
    fun s q hq hq' g u hu => part_eq m c s g u (by omega) i r (by omega) j cc (by omega)
  obtain ⟨t2, e2⟩ : ∃ s : Fin cfg0.N, s.val = t.val - 1 := ⟨⟨t.val - 1, by omega⟩, rfl⟩
  obtain ⟨t1, e1⟩ : ∃ s : Fin cfg0.N, s.val = t2.val - 1 := ⟨⟨t2.val - 1, by omega⟩, rfl⟩
  obtain ⟨t0, e0⟩ : ∃ s : Fin cfg0.N, s.val = t1.val - 1 := ⟨⟨t1.val - 1, by omega⟩, rfl⟩
  have a0 := ptA m c t0 (by omega)
  have a1 := ptB m c t1 (by omega) (by omega) (by omega)
  have a2 := ptB m c t2 (by omega) (by omega) (by omega)
  have a3 := ptC m c t h1 (by omega)
  simp only [← e0, a0] at a1
  simp only [← e1, a1] at a2
  simp only [← e2, a2] at a3
  rw [a3, Fin.sum_univ_eight]
  show ((((0 + (_ + _)) + (_ + _)) + (_ + _)) + (_ + _)) + _ = _
  rw [p t0 3 (by omega) (by omega) 0 0 rfl, p t0 3 (by omega) (by omega) 1 1 rfl, p t1 2 (by omega) (by omega) 0 2 rfl,
    p t1 2 (by omega) (by omega) 1 3 rfl, p t2 1 (by omega) (by omega) 0 4 rfl, p t2 1 (by omega) (by omega) 1 5 rfl,
    p t 0 (by omega) (by omega) 0 6 rfl, p t 0 (by omega) (by omega) 1 7 rfl, blk_r m c t i r hr j cc hc, zero_add]
  simp only [add_assoc]

/-- What the launch leaves. -/
theorem final (r cc : Fin 4096) : G3 m c (ix2 r cc) = (∑ u, sh m c r cc u) + aR m c (ix2 r cc) := by
  have hp : pt3Of (ix2 r cc) = 4 * (4 * (r.val / 1024) + cc.val / 1024) + 3 := by
    show 4 * (4 * (r.val / 1024 - 0) + 1 * (cc.val / 1024 - 0)) + 3 = _
    omega
  have hlt : pt3Of (ix2 r cc) < cfg0.N := by rw [hp]; exact lt_of_lt_of_eq (by omega) N_0.symm
  have hl : loc3Of (ix2 r cc) = ix2 ⟨r.val % 1024, Nat.mod_lt _ (by norm_num)⟩ ⟨cc.val % 1024, Nat.mod_lt _ (by norm_num)⟩ := by
    funext a; match a with
    | ⟨0, _⟩ => rfl
    | ⟨1, _⟩ => rfl
  unfold G3
  rw [dif_pos hlt, ← outsAt0_sweep m c _ hlt, hl]
  refine run_end m c ⟨pt3Of (ix2 r cc), hlt⟩ ?_ _ r ?_ _ cc ?_
  · show pt3Of (ix2 r cc) % 4 = 3; omega
  · show pt3Of (ix2 r cc) / 16 * 1024 + r.val % 1024 = r.val; omega
  · show pt3Of (ix2 r cc) / 4 % 4 * 1024 + cc.val % 1024 = cc.val; omega
end

/-- What the reference computes. -/
theorem ref_at (a w : Vec Ideal S4096x11008 .bf16) (x : Vec Ideal S4096x4096 .bf16) (r cc : Fin 4096) :
    Cert.Dxn3RefIdeal.Read.val_main_v7 (F := Ideal) a w x (ix2 r cc)
      = x (ix2 r cc) + ∑ j : Fin 11008, a (ix2 r j) * w (ix2 cc j) := by
  pointwise [Cert.Dxn3RefIdeal.Read.val_main_v7, Cert.Dxn3RefIdeal.Read.val_main_v6, Cert.Dxn3RefIdeal.Read.val_main_v5,
    Cert.Dxn3RefIdeal.Read.val_main_v4, Cert.Dxn3RefIdeal.Read.val_main_v3, Cert.Dxn3RefIdeal.Read.val_main_v1]

attribute [local instance] Cert.Dxn3Ideal.Gen.facts Cert.Dxn3RefIdeal.Gen.facts

/-- The claim. -/
theorem algebraic : Cert.algebraic_Dxn3Ideal_Dxn3RefIdeal := by
  intro m g m' g' _ hargs
  refine ⟨fun c => G3 m c, Cert.Dxn3Ideal.Value.run m g, ?_⟩
  refine (θ_run _ _ _).mono (fun r h c => ?_) (Cert.Dxn3RefIdeal.Value.run m' g')
  obtain ⟨e, k⟩ := h c
  obtain ⟨a0, a1, a2⟩ := hargs c
  refine ⟨e.trans ?_, k⟩
  rw [Cert.Dxn3RefIdeal.Read.val_main_v7_eq, a0, a1, a2]
  funext y
  obtain ⟨i, j, rfl⟩ : ∃ (i j : Fin 4096), y = ix2 i j := ⟨y 0, y 1, eq_ix2 y⟩
  refine (ref_at _ _ _ _ _).trans (Eq.trans ?_ (final m c i j).symm)
  rw [sum_shards, add_comm]

/-- The reference runs, keeps its arguments, and holds no semaphore. -/
theorem frame_r : Cert.quiescent_Dxn3RefIdeal := by
  intro m g _
  exact (θ_run Cert.Dxn3RefIdeal.defs _ _).mono (fun r h => ⟨fun c => (h c).2, sem_eq_zero_of_no_sems (by decide) r.2⟩)
    (Cert.Dxn3RefIdeal.Value.run m g)

end Cert.ProdDxn3

end
-- ==== Proof.MixAlg.lean ====
/-
  The claim of the mixer's gradient: the four arrays the launch leaves are the four derivatives of the reference.
-/
module

public import proofs.«01_k».proof.Proof.MixKernel
public import proofs.«01_k».proof.Proof.Gen.MixRefIdeal.Run

@[expose] public section

set_option maxRecDepth 16384

noncomputable section

namespace Cert.MixAlg

open Cert.MixIdeal Cert.MixIdeal.Gen Cert.MixIdeal.Value Cert.MixRegion Cert.MixBlock Cert.MixRef Cert.MixKernel Idealize.ShloMosaic
open Idealize.ShloMosaic.TcCoe

section
variable (m : (ℓ : Loc nD τ sig) → Buf (Elt Ideal) ℓ) (c : Dev nD)

/-- The grid point whose block holds a row and a channel. -/
theorem point (R : Fin 4096) (cc : Fin 2048) : ∃ t : Fin cfg0.N, t.val / 8 * 512 + R.val % 512 = R.val
    ∧ t.val % 8 * 256 + cc.val % 256 = cc.val :=
  ⟨⟨R.val / 512 * 8 + cc.val / 256, lt_of_lt_of_eq (by omega) N_0.symm⟩,
    by show (R.val / 512 * 8 + cc.val / 256) / 8 * 512 + R.val % 512 = R.val; omega,
    by show (R.val / 512 * 8 + cc.val / 256) % 8 * 256 + cc.val % 256 = cc.val; omega⟩

/-- A row and a channel, inside the block. -/
abbrev inside (R : Fin 4096) (cc : Fin 2048) : S512x256.Idx :=
  ix2 (⟨R.val % 512, Nat.mod_lt _ (by norm_num)⟩ : Fin 512) (⟨cc.val % 256, Nat.mod_lt _ (by norm_num)⟩ : Fin 256)

/-- The gradient of the first branch's value, at a row and a channel. -/
theorem final10 (R : Fin 4096) (cc : Fin 2048) : (dats m 0 c).arrAt 10 cfg0.N (ix2 R cc) = Cert.MixRefIdeal.Read.val_main_v406 (F := Ideal) (aU m c) (aP m c) (aA m c) (ix2 R cc) := by
  obtain ⟨t, hR, hc⟩ := point R cc
  have e := congrFun (blocks10 m c t (flush0_10 t)) (inside R cc)
  rw [View.read_apply, flushed10, out10] at e
  have hi : ((cfg0.win 10).blk t).view.emb (inside R cc) = ix2 R cc := by
    obtain ⟨⟨e0, e1⟩, -⟩ := idx_o t
    funext a; apply Fin.ext
    match a with
    | ⟨0, _⟩ => show win0_10.index t 0 * 512 + 1 * (R.val % 512) = R.val; omega
    | ⟨1, _⟩ => show win0_10.index t 1 * 256 + 1 * (cc.val % 256) = cc.val; omega
  rw [val_406, ← hi]
  refine e.trans ?_
  show conv (n := 30) _ _ (inside R cc) * MixRegion.sig (iblk m c 5 t (inside R cc)) = _
  rw [conv_a m c t _ _ R cc hR hc, blk5 m c t _ _ R cc hR hc, sig_eq]

/-- The gradient of the first branch's gate, at a row and a channel. -/
theorem final11 (R : Fin 4096) (cc : Fin 2048) : (dats m 0 c).arrAt 11 cfg0.N (ix2 R cc) = Cert.MixRefIdeal.Read.val_main_v407 (F := Ideal) (aU m c) (aP m c) (aA m c) (ix2 R cc) := by
  obtain ⟨t, hR, hc⟩ := point R cc
  have e := congrFun (blocks11 m c t (flush0_11 t)) (inside R cc)
  rw [View.read_apply, flushed11, out11] at e
  have hi : ((cfg0.win 11).blk t).view.emb (inside R cc) = ix2 R cc := by
    obtain ⟨-, ⟨e0, e1⟩, -⟩ := idx_o t
    funext a; apply Fin.ext
    match a with
    | ⟨0, _⟩ => show win0_11.index t 0 * 512 + 1 * (R.val % 512) = R.val; omega
    | ⟨1, _⟩ => show win0_11.index t 1 * 256 + 1 * (cc.val % 256) = cc.val; omega
  rw [val_407, ← hi]
  refine e.trans ?_
  show conv (n := 30) _ _ (inside R cc) * iblk m c 4 t (inside R cc) *
    (MixRegion.sig (iblk m c 5 t (inside R cc)) * (1 - MixRegion.sig (iblk m c 5 t (inside R cc)))) = _
  rw [conv_a m c t _ _ R cc hR hc, blk4 m c t _ _ R cc hR hc, blk5 m c t _ _ R cc hR hc, sig_eq, mul_comm (adjoint _ _ _ _)]

/-- The gradient of the second branch's gate, at a row and a channel. -/
theorem final12 (R : Fin 4096) (cc : Fin 2048) : (dats m 0 c).arrAt 12 cfg0.N (ix2 R cc) = Cert.MixRefIdeal.Read.val_main_v408 (F := Ideal) (aV m c) (aP m c) (aB m c) (ix2 R cc) := by
  obtain ⟨t, hR, hc⟩ := point R cc
  have e := congrFun (blocks12 m c t (flush0_12 t)) (inside R cc)
  rw [View.read_apply, flushed12, out12] at e
  have hi : ((cfg0.win 12).blk t).view.emb (inside R cc) = ix2 R cc := by
    obtain ⟨-, -, ⟨e0, e1⟩, -⟩ := idx_o t
    funext a; apply Fin.ext
    match a with
    | ⟨0, _⟩ => show win0_12.index t 0 * 512 + 1 * (R.val % 512) = R.val; omega
    | ⟨1, _⟩ => show win0_12.index t 1 * 256 + 1 * (cc.val % 256) = cc.val; omega
  rw [val_408, ← hi]
  refine e.trans ?_
  show conv (n := 2) _ _ (inside R cc) * iblk m c 7 t (inside R cc) = _
  rw [conv_b m c t _ _ R cc hR hc, blk7 m c t _ _ R cc hR hc]

/-- The gradient of the second branch's value, at a row and a channel. -/
theorem final13 (R : Fin 4096) (cc : Fin 2048) : (dats m 0 c).arrAt 13 cfg0.N (ix2 R cc) = Cert.MixRefIdeal.Read.val_main_v409 (F := Ideal) (aV m c) (aP m c) (aB m c) (ix2 R cc) := by
  obtain ⟨t, hR, hc⟩ := point R cc
  have e := congrFun (blocks13 m c t (flush0_13 t)) (inside R cc)
  rw [View.read_apply, flushed13, out13] at e
  have hi : ((cfg0.win 13).blk t).view.emb (inside R cc) = ix2 R cc := by
    obtain ⟨-, -, -, e0, e1⟩ := idx_o t
    funext a; apply Fin.ext
    match a with
    | ⟨0, _⟩ => show win0_13.index t 0 * 512 + 1 * (R.val % 512) = R.val; omega
    | ⟨1, _⟩ => show win0_13.index t 1 * 256 + 1 * (cc.val % 256) = cc.val; omega
  rw [val_409, ← hi]
  refine e.trans ?_
  show conv (n := 2) _ _ (inside R cc) * iblk m c 6 t (inside R cc) = _
  rw [conv_b m c t _ _ R cc hR hc, blk6 m c t _ _ R cc hR hc, mul_comm (adjoint _ _ _ _)]

end

attribute [local instance] Cert.MixIdeal.Gen.facts Cert.MixRefIdeal.Gen.facts

/-- The claim. -/
theorem algebraic : Cert.algebraic_MixIdeal_MixRefIdeal := by
  intro m g m' g' _ hargs
  refine ⟨fun c => (dats m 0 c).arrAt 10 cfg0.N, fun c => (dats m 0 c).arrAt 11 cfg0.N, fun c => (dats m 0 c).arrAt 12 cfg0.N,
    fun c => (dats m 0 c).arrAt 13 cfg0.N, run_blocks m g, ?_⟩
  refine (θ_run _ _ _).mono (fun r h c => ?_) (Cert.MixRefIdeal.Value.run m' g')
  obtain ⟨e0, e1, e2, e3, ks⟩ := h c
  obtain ⟨a0, a1, a2, a3, a4⟩ := hargs c
  have two : ∀ (x y : S4096x2048.Idx → EReal), (∀ R cc, y (ix2 R cc) = x (ix2 R cc)) → x = y := fun x y h => by
    funext i
    rw [ValueIdx.eq_ix2 i]
    exact (h _ _).symm
  have b0 : StableHlo.launchContents m' c (Proc.devRef .tc Cert.MixRefIdeal.main_arg0) = m ((c.tc : Thread _ _).loc main_arg0) := a0
  have b1 : StableHlo.launchContents m' c (Proc.devRef .tc Cert.MixRefIdeal.main_arg1) = m ((c.tc : Thread _ _).loc main_arg1) := a1
  have b2 : StableHlo.launchContents m' c (Proc.devRef .tc Cert.MixRefIdeal.main_arg2) = m ((c.tc : Thread _ _).loc main_arg2) := a2
  have b3 : StableHlo.launchContents m' c (Proc.devRef .tc Cert.MixRefIdeal.main_arg3) = m ((c.tc : Thread _ _).loc main_arg3) := a3
  have b4 : StableHlo.launchContents m' c (Proc.devRef .tc Cert.MixRefIdeal.main_arg4) = m ((c.tc : Thread _ _).loc main_arg4) := a4
  refine ⟨e0.trans ?_, e1.trans ?_, e2.trans ?_, e3.trans ?_, ks⟩
  · rw [Cert.MixRefIdeal.Read.val_main_v406_eq, b0, b2, b3]
    exact two _ _ (final10 m c)
  · rw [Cert.MixRefIdeal.Read.val_main_v407_eq, b0, b2, b3]
    exact two _ _ (final11 m c)
  · rw [Cert.MixRefIdeal.Read.val_main_v408_eq, b1, b2, b4]
    exact two _ _ (final12 m c)
  · rw [Cert.MixRefIdeal.Read.val_main_v409_eq, b1, b2, b4]
    exact two _ _ (final13 m c)

/-- The reference runs, keeps its arguments, and holds no semaphore. -/
theorem frame_r : Cert.quiescent_MixRefIdeal := by
  intro m g _
  exact (θ_run Cert.MixRefIdeal.defs _ _).mono (fun r h => ⟨fun c => (h c).2.2.2.2, sem_eq_zero_of_no_sems (by decide) r.2⟩)
    (Cert.MixRefIdeal.Value.run m g)

end Cert.MixAlg

end
-- ==== Proof.ProdDxn1.lean ====
/-
  The gradient through the mixer's first projection: a run of four points adds the products of all eight shards, two by two, and
  its last point writes the block.
-/
module

public import proofs.«01_k».proof.Defs
public import proofs.«01_k».proof.Proof.Gen.Dxn1Ideal.Value
public import proofs.«01_k».proof.Proof.Gen.Dxn1RefIdeal.Run
public import proofs.«01_k».proof.Proof.Gen.Dxn1RefIdeal.Read
public import Idealize.ShloMosaic.Lib.Pointwise
public import Idealize.ShloMosaic.Lib.Pipeline.ValueKit.Basic
public import Idealize.ShloMosaic.Lib.Pipeline.ReadBack

@[expose] public section

set_option maxRecDepth 16384

noncomputable section

namespace Cert.ProdDxn1

open Cert.Dxn1Ideal Cert.Dxn1Ideal.Gen Cert.Dxn1Ideal.Value Idealize.ShloMosaic Idealize.SL.Sem
open Idealize.ShloMosaic.TcCoe

/-- Column `k` of shard `g`, in a block of two. -/
abbrev col (g : Fin 2) (k : Fin 1280) : Fin 2560 := ⟨g.val * 1280 + k.val, by omega⟩

/-- Shard `g`'s product at a row and a column of the block. -/
abbrev part (x : Vec Ideal S1024x2560 .bf16) (w : Vec Ideal S2x1024x1280 .bf16) (g : Fin 2) (y : S1024x1024.Idx) : EReal :=
  ∑ k : Fin 1280, x (ix2 (y 0) (col g k)) * w (ix3 g (y 1) k)

/-- The two shards' products, added to what the accumulator held. -/
abbrev add2 (x : Vec Ideal S1024x2560 .bf16) (w : Vec Ideal S2x1024x1280 .bf16) (s : Vec Ideal S1024x1024 .f32) :
    Vec Ideal S1024x1024 .f32 := fun y => s y + (part x w 0 y + part x w 1 y)

theorem pay2_at (s : Vec Ideal S1024x1024 .f32) (a a' : Vec Ideal S1024x1280 .bf16) (b b' : Vec Ideal S1x1024x1280 .bf16)
    (r c : Fin 1024) : k0_pay2 s a b a' b' (ix2 r c) =
      s (ix2 r c) + ((∑ k : Fin 1280, a (ix2 r k) * b (ix3 0 c k)) + ∑ k : Fin 1280, a' (ix2 r k) * b' (ix3 0 c k)) := by
  unfold k0_pay2
  pointwise

theorem pay1_at (r c : Fin 1024) : (k0_pay1 (F := Ideal)) (ix2 r c) = 0 := by
  unfold k0_pay1
  pointwise

theorem pay3_at (s : Vec Ideal S1024x1024 .f32) (r c : Fin 1024) :
    k0_pay3 s (ix2 r c) = s (ix2 r c) := by
  unfold k0_pay3
  pointwise

/-- A shard's slice of a block of two. -/
theorem ld_x (x : Vec Ideal S1024x2560 .bf16) (g : Fin 2) (o : ℕ) (ho : o = g.val * 1280) (inb) (r : Fin 1024) (k : Fin 1280) :
    View.ld x (Rect.unit (s := S1024x2560) ![0, o] S1024x1280.size inb) (ix2 r k) = x (ix2 r (col g k)) := by
  refine congrArg x ?_
  funext a; apply Fin.ext
  match a with
  | ⟨0, _⟩ => show 0 + 1 * r.val = r.val; omega
  | ⟨1, _⟩ => show o + 1 * k.val = g.val * 1280 + k.val; omega

theorem ld_w (x : Vec Ideal S2x1024x1280 .bf16) (g : Fin 2) (o : ℕ) (ho : o = g.val) (inb) (r : Fin 1024) (k : Fin 1280) :
    View.ld x (Rect.unit (s := S2x1024x1280) ![o, 0, 0] S1x1024x1280.size inb) (ix3 0 r k) = x (ix3 g r k) := by
  refine congrArg x ?_
  funext a; apply Fin.ext
  match a with
  | ⟨0, _⟩ => show o + 1 * 0 = g.val; omega
  | ⟨1, _⟩ => show 0 + 1 * r.val = r.val; omega
  | ⟨2, _⟩ => show 0 + 1 * k.val = k.val; omega

theorem pay2_ld (s : Vec Ideal S1024x1024 .f32) (x : Vec Ideal S1024x2560 .bf16) (w : Vec Ideal S2x1024x1280 .bf16) (i0 i1 j0 j1) :
    k0_pay2 s (View.ld x (Rect.unit (s := S1024x2560) ![0, 0] S1024x1280.size i0))
      (View.ld w (Rect.unit (s := S2x1024x1280) ![0, 0, 0] S1x1024x1280.size j0))
      (View.ld x (Rect.unit (s := S1024x2560) ![0, 1280] S1024x1280.size i1))
      (View.ld w (Rect.unit (s := S2x1024x1280) ![1, 0, 0] S1x1024x1280.size j1)) = add2 x w s := by
  funext y
  obtain ⟨r, c, rfl⟩ : ∃ (r c : Fin 1024), y = ix2 r c := ⟨y 0, y 1, eq_ix2 y⟩
  rw [pay2_at]
  simp only [ld_x x 0 0 rfl, ld_x x 1 1280 rfl, ld_w w 0 0 rfl, ld_w w 1 1 rfl]
  rfl

section
variable (c : Dev nD) (i : grid0.Coords) (arg4 : Memref sig .tc .vmem S1024x2560 .bf16) (harg4 : arg4.IsWhole) (arg5 : Memref sig .tc .vmem S2x1024x1280 .bf16) (harg5 : arg5.IsWhole) (arg6 : Memref sig .tc .vmem S1024x1024 .bf16) (harg6 : arg6.IsWhole) (arg7 : Memref sig .tc .vmem S1024x1024 .f32) (harg7 : arg7.IsWhole)
variable (x0 : Vec Ideal S1024x2560 .bf16) (x1 : Vec Ideal S2x1024x1280 .bf16) (s : Vec Ideal S1024x1024 .f32)

/-- A run's first point: the accumulator starts from zero. -/
theorem caseA (hc0 : cond0_0 i) (hc1 : ¬cond0_1 i) :
    sout0_A_0 c i arg4 harg4 arg5 harg5 arg6 harg6 arg7 harg7 hc0 hc1 x0 x1 = add2 x0 x1 (fun _ => 0) := by
  unfold sout0_A_0
  rw [View.read_writes_eq_canon _ _ _ (scover0_A_0 c i arg4 harg4 arg5 harg5 arg6 harg6 arg7 harg7 hc0 hc1 x0 x1)]
  unfold kernelRun0_A; dsimp only; sl_unfold_words
  simp (disch := decide) only [↓View.readCov_skip, ↓View.readCov_fill, View.readAt_eq_ld, harg4.read_unread, harg5.read_unread, harg7.read_unread]
  rw [View.canon_cons_unit_lit _ _ _ (by decide)]
  refine (pay2_ld _ _ _ _ _ _ _).trans ?_
  refine congrArg (add2 x0 x1) ?_
  rw [View.ld_unit_lit _ _ (by decide)]
  funext y
  obtain ⟨r, c, rfl⟩ : ∃ (r c : Fin 1024), y = ix2 r c := ⟨y 0, y 1, eq_ix2 y⟩
  exact pay1_at r c

/-- A point between. -/
theorem caseB (hc0 : ¬cond0_0 i) (hc1 : ¬cond0_1 i) :
    sout0_B_0 c i arg4 harg4 arg5 harg5 arg6 harg6 arg7 harg7 hc0 hc1 x0 x1 s = add2 x0 x1 s := by
  unfold sout0_B_0
  rw [View.read_writes_eq_canon _ _ _ (scover0_B_0 c i arg4 harg4 arg5 harg5 arg6 harg6 arg7 harg7 hc0 hc1 x0 x1 s)]
  unfold kernelRun0_B; dsimp only; sl_unfold_words
  simp only [View.readAt_eq_ld, harg4.read_unread, harg5.read_unread, harg7.read_unread]
  rw [View.canon_cons_unit_lit _ _ _ (by decide), View.ld_unit_lit _ _ (by decide)]
  exact pay2_ld _ _ _ _ _ _ _

/-- A run's last point: the accumulator. -/
theorem caseC (hc0 : ¬cond0_0 i) (hc1 : cond0_1 i) :
    out0_C_2 c i arg4 harg4 arg5 harg5 arg6 harg6 arg7 harg7 hc0 hc1 x0 x1 s
      = add2 x0 x1 s := by
  unfold out0_C_2
  rw [View.read_writes_eq_canon _ _ _ (cover0_C_2 c i arg4 harg4 arg5 harg5 arg6 harg6 arg7 harg7 hc0 hc1 x0 x1 s)]
  unfold kernelRun0_C; dsimp only; sl_unfold_words
  simp only [View.readAt_eq_ld, harg4.read_unread, harg5.read_unread, harg7.read_unread]
  rw [View.canon_cons_unit_lit _ _ _ (by decide)]
  rw [View.readCov_unit_lit _ _ _ (by decide), View.ld_unit_lit _ s (by decide)]
  funext y
  obtain ⟨r, c, rfl⟩ : ∃ (r c : Fin 1024), y = ix2 r c := ⟨y 0, y 1, eq_ix2 y⟩
  refine (pay3_at _ r c).trans ?_
  exact congrFun (pay2_ld _ _ _ _ _ _ _) (ix2 r c)

end

/-- Column `k` of shard `u`, among all the columns. -/
abbrev feat (u : Fin 8) (k : Fin 1280) : Fin 10240 := ⟨u.val * 1280 + k.val, by omega⟩

theorem sum_shards (f : Fin 10240 → EReal) : ∑ j, f j = ∑ u : Fin 8, ∑ k, f (feat u k) := by
  rw [← Fintype.sum_prod_type', ← (finProdFinEquiv (m := 8) (n := 1280)).sum_comp f]
  refine Finset.sum_congr rfl fun x _ => congrArg f (Fin.ext ?_)
  show x.2.val + 1280 * x.1.val = x.1.val * 1280 + x.2.val
  omega

section
variable (m : (ℓ : Loc nD τ sig) → Buf (Elt Ideal) ℓ) (c : Dev nD)

/-- The projection's cotangent, by token and column. -/
abbrev aU : Vec Ideal S4096x10240 .bf16 := m ((c : Thread nD τ).loc main_arg0)
/-- The projection's weight, by channel and column. -/
abbrev aW : Vec Ideal S4096x10240 .bf16 := m ((c : Thread nD τ).loc main_arg1)

theorem V_v1 (u : Fin 8) (r : Fin 4096) (k : Fin 1280) : V m c main_v1 (ix3 u r k) = aW m c (ix2 r (feat u k)) := by
  have e : V m c main_v1 = transpose S8x4096x1280 [1, 0, 2] (shapeCast S4096x8x1280 (aW m c) shapeCasts_S4096x10240_S4096x8x1280)
      transposes_S4096x8x1280_S8x4096x1280_1_0_2 := by
    unfold V
    after_results <;> rfl
  rw [e]
  pointwise

theorem idx_w : ∀ t : Fin cfg0.N, (win0_0.index t 0 = t.val / 16 ∧ win0_0.index t 1 = t.val % 4)
    ∧ (win0_1.index t 0 = t.val % 4 ∧ win0_1.index t 1 = t.val / 4 % 4 ∧ win0_1.index t 2 = 0) :=
  (by decide +kernel : ∀ t : Fin grid0.N, (win0_0.index t 0 = t.val / 16 ∧ win0_0.index t 1 = t.val % 4)
    ∧ (win0_1.index t 0 = t.val % 4 ∧ win0_1.index t 1 = t.val / 4 % 4 ∧ win0_1.index t 2 = 0))

theorem blk_u (t : Fin cfg0.N) (g : Fin 2) (u : Fin 8) (hu : t.val % 4 * 2 + g.val = u.val)
    (i : Fin 1024) (r : Fin 4096) (hr : t.val / 16 * 1024 + i.val = r.val) (k : Fin 1280) :
    iblk m c 0 t (ix2 i (col g k)) = aU m c (ix2 r (feat u k)) := by
  unfold iblk
  rw [View.read_apply]
  obtain ⟨⟨e0, e1⟩, -⟩ := idx_w t
  refine (congrFun (V_main_arg0 m c) _).trans (congrArg (aU m c) ?_)
  funext a; apply Fin.ext
  match a with
  | ⟨0, _⟩ => show win0_0.index t 0 * 1024 + 1 * i.val = r.val; omega
  | ⟨1, _⟩ => show win0_0.index t 1 * 2560 + 1 * (g.val * 1280 + k.val) = u.val * 1280 + k.val; omega

theorem blk_w (t : Fin cfg0.N) (g : Fin 2) (u : Fin 8) (hu : t.val % 4 * 2 + g.val = u.val)
    (j : Fin 1024) (cc : Fin 4096) (hc : t.val / 4 % 4 * 1024 + j.val = cc.val) (k : Fin 1280) :
    iblk m c 1 t (ix3 g j k) = aW m c (ix2 cc (feat u k)) := by
  unfold iblk
  rw [View.read_apply, ← V_v1]
  obtain ⟨-, e0, e1, e2⟩ := idx_w t
  show V m c main_v1 _ = _
  congr 1
  funext a; apply Fin.ext
  match a with
  | ⟨0, _⟩ => show win0_1.index t 0 * 2 + 1 * g.val = u.val; omega
  | ⟨1, _⟩ => show win0_1.index t 1 * 1024 + 1 * j.val = cc.val; omega
  | ⟨2, _⟩ => show win0_1.index t 2 * 1280 + 1 * k.val = k.val; omega

/-- Shard `u`'s product at a row and a column. -/
abbrev sh (r cc : Fin 4096) (u : Fin 8) : EReal := ∑ k : Fin 1280, aU m c (ix2 r (feat u k)) * aW m c (ix2 cc (feat u k))

/-- A shard's product at a point is that shard's part of the sum. -/
theorem part_eq (t : Fin cfg0.N) (g : Fin 2) (u : Fin 8) (hu : t.val % 4 * 2 + g.val = u.val)
    (i : Fin 1024) (r : Fin 4096) (hr : t.val / 16 * 1024 + i.val = r.val)
    (j : Fin 1024) (cc : Fin 4096) (hc : t.val / 4 % 4 * 1024 + j.val = cc.val) :
    part (iblk m c 0 t) (iblk m c 1 t) g (ix2 i j) = sh m c r cc u :=
  Finset.sum_congr rfl fun k _ => congrArg₂ (· * ·) (blk_u m c t g u hu i r hr k) (blk_w m c t g u hu j cc hc k)

/-! ## The points of a run -/

theorem ptA (t : Fin cfg0.N) (h0 : t.val % 4 = 0) :
    (outsAt0 m c t.val t.isLt).2 = add2 (iblk m c 0 t) (iblk m c 1 t) (fun _ => 0) := by
  have h1 : ¬t.val % 4 = 3 := by omega
  have e := caseA c (grid0.coords t) (ms0_0 t) (hs0_0 t) (ms0_1 t) (hs0_1 t) (ms0_2 t) (hs0_2 t) scM0_0
    (Memref.isWhole_whole _) (iblk m c 0 t) (iblk m c 1 t) ((hcond0_0 t).mpr h0) (fun h => h1 ((hcond0_1 t).mp h))
  rw [outsAt0_A m c t h0 h1]
  dsimp only
  exact e

theorem ptB (t : Fin cfg0.N) (h0 : ¬t.val % 4 = 0) (h1 : ¬t.val % 4 = 3) (h' : t.val - 1 < cfg0.N) :
    (outsAt0 m c t.val t.isLt).2 = add2 (iblk m c 0 t) (iblk m c 1 t) (outsAt0 m c (t.val - 1) h').2 := by
  have e := caseB c (grid0.coords t) (ms0_0 t) (hs0_0 t) (ms0_1 t) (hs0_1 t) (ms0_2 t) (hs0_2 t) scM0_0
    (Memref.isWhole_whole _) (iblk m c 0 t) (iblk m c 1 t) (outsAt0 m c (t.val - 1) h').2
    (fun h => h0 ((hcond0_0 t).mp h)) (fun h => h1 ((hcond0_1 t).mp h))
  rw [outsAt0_B m c t h0 h1]
  dsimp only
  exact e

theorem ptC (t : Fin cfg0.N) (h1 : t.val % 4 = 3) (h' : t.val - 1 < cfg0.N) :
    (outsAt0 m c t.val t.isLt).1 = add2 (iblk m c 0 t) (iblk m c 1 t) (outsAt0 m c (t.val - 1) h').2 := by
  have h0 : ¬t.val % 4 = 0 := by omega
  have e := caseC c (grid0.coords t) (ms0_0 t) (hs0_0 t) (ms0_1 t) (hs0_1 t) (ms0_2 t) (hs0_2 t) scM0_0
    (Memref.isWhole_whole _) (iblk m c 0 t) (iblk m c 1 t) (outsAt0 m c (t.val - 1) h').2
    (fun h => h0 ((hcond0_0 t).mp h)) ((hcond0_1 t).mpr h1)
  rw [outsAt0_C m c t h0 h1]
  dsimp only
  exact e

/-- What a run writes: all the shards' products. -/
theorem run_end (t : Fin cfg0.N) (h1 : t.val % 4 = 3) (i : Fin 1024) (r : Fin 4096) (hr : t.val / 16 * 1024 + i.val = r.val)
    (j : Fin 1024) (cc : Fin 4096) (hc : t.val / 4 % 4 * 1024 + j.val = cc.val) :
    (outsAt0 m c t.val t.isLt).1 (ix2 i j) = ∑ u, sh m c r cc u := by
  have hN := t.isLt
  have p : ∀ (s : Fin cfg0.N) (q : ℕ) (hq : s.val + q = t.val) (hq' : q < 4) (g : Fin 2) (u : Fin 8)
      (hu : (3 - q) * 2 + g.val = u.val), part (iblk m c 0 s) (iblk m c 1 s) g (ix2 i j) = sh m c r cc u :=
    fun s q hq hq' g u hu => part_eq m c s g u (by omega) i r (by omega) j cc (by omega)
  obtain ⟨t2, e2⟩ : ∃ s : Fin cfg0.N, s.val = t.val - 1 := ⟨⟨t.val - 1, by omega⟩, rfl⟩
  obtain ⟨t1, e1⟩ : ∃ s : Fin cfg0.N, s.val = t2.val - 1 := ⟨⟨t2.val - 1, by omega⟩, rfl⟩
  obtain ⟨t0, e0⟩ : ∃ s : Fin cfg0.N, s.val = t1.val - 1 := ⟨⟨t1.val - 1, by omega⟩, rfl⟩
  have a0 := ptA m c t0 (by omega)
  have a1 := ptB m c t1 (by omega) (by omega) (by omega)
  have a2 := ptB m c t2 (by omega) (by omega) (by omega)
  have a3 := ptC m c t h1 (by omega)
  simp only [← e0, a0] at a1
  simp only [← e1, a1] at a2
  simp only [← e2, a2] at a3
  rw [a3, Fin.sum_univ_eight]
  show ((((0 + (_ + _)) + (_ + _)) + (_ + _)) + (_ + _)) = _
  rw [p t0 3 (by omega) (by omega) 0 0 rfl, p t0 3 (by omega) (by omega) 1 1 rfl, p t1 2 (by omega) (by omega) 0 2 rfl,
    p t1 2 (by omega) (by omega) 1 3 rfl, p t2 1 (by omega) (by omega) 0 4 rfl, p t2 1 (by omega) (by omega) 1 5 rfl,
    p t 0 (by omega) (by omega) 0 6 rfl, p t 0 (by omega) (by omega) 1 7 rfl, zero_add]
  simp only [add_assoc]

/-- What the launch leaves. -/
theorem final (r cc : Fin 4096) : G2 m c (ix2 r cc) = ∑ u, sh m c r cc u := by
  have hp : pt2Of (ix2 r cc) = 4 * (4 * (r.val / 1024) + cc.val / 1024) + 3 := by
    show 4 * (4 * (r.val / 1024 - 0) + 1 * (cc.val / 1024 - 0)) + 3 = _
    omega
  have hlt : pt2Of (ix2 r cc) < cfg0.N := by rw [hp]; exact lt_of_lt_of_eq (by omega) N_0.symm
  have hl : loc2Of (ix2 r cc) = ix2 ⟨r.val % 1024, Nat.mod_lt _ (by norm_num)⟩ ⟨cc.val % 1024, Nat.mod_lt _ (by norm_num)⟩ := by
    funext a; match a with
    | ⟨0, _⟩ => rfl
    | ⟨1, _⟩ => rfl
  unfold G2
  rw [dif_pos hlt, ← outsAt0_sweep m c _ hlt, hl]
  refine run_end m c ⟨pt2Of (ix2 r cc), hlt⟩ ?_ _ r ?_ _ cc ?_
  · show pt2Of (ix2 r cc) % 4 = 3; omega
  · show pt2Of (ix2 r cc) / 16 * 1024 + r.val % 1024 = r.val; omega
  · show pt2Of (ix2 r cc) / 4 % 4 * 1024 + cc.val % 1024 = cc.val; omega
end

/-- What the reference computes. -/
theorem ref_at (a w : Vec Ideal S4096x10240 .bf16) (r cc : Fin 4096) :
    Cert.Dxn1RefIdeal.Read.val_main_v5 (F := Ideal) a w (ix2 r cc)
      = ∑ j : Fin 10240, a (ix2 r j) * w (ix2 cc j) := by
  pointwise [Cert.Dxn1RefIdeal.Read.val_main_v5, Cert.Dxn1RefIdeal.Read.val_main_v4, Cert.Dxn1RefIdeal.Read.val_main_v3, Cert.Dxn1RefIdeal.Read.val_main_v2, Cert.Dxn1RefIdeal.Read.val_main_v1]

attribute [local instance] Cert.Dxn1Ideal.Gen.facts Cert.Dxn1RefIdeal.Gen.facts

/-- The claim. -/
theorem algebraic : Cert.algebraic_Dxn1Ideal_Dxn1RefIdeal := by
  intro m g m' g' _ hargs
  refine ⟨fun c => G2 m c, Cert.Dxn1Ideal.Value.run m g, ?_⟩
  refine (θ_run _ _ _).mono (fun r h c => ?_) (Cert.Dxn1RefIdeal.Value.run m' g')
  obtain ⟨e, k⟩ := h c
  obtain ⟨a0, a1⟩ := hargs c
  refine ⟨e.trans ?_, k⟩
  rw [Cert.Dxn1RefIdeal.Read.val_main_v5_eq, a0, a1]
  funext y
  obtain ⟨i, j, rfl⟩ : ∃ (i j : Fin 4096), y = ix2 i j := ⟨y 0, y 1, eq_ix2 y⟩
  refine (ref_at _ _ _ _).trans (Eq.trans ?_ (final m c i j).symm)
  rw [sum_shards]

/-- The reference runs, keeps its arguments, and holds no semaphore. -/
theorem frame_r : Cert.quiescent_Dxn1RefIdeal := by
  intro m g _
  exact (θ_run Cert.Dxn1RefIdeal.defs _ _).mono (fun r h => ⟨fun c => (h c).2, sem_eq_zero_of_no_sems (by decide) r.2⟩)
    (Cert.Dxn1RefIdeal.Value.run m g)

end Cert.ProdDxn1

end
-- ==== Proof.ProdH3.lean ====
/-
  The down projection with its residual: a run of four points adds the products of all eight shards, two by two, and its
  last point adds the residual and writes the block.
-/
module

public import proofs.«01_k».proof.Defs
public import proofs.«01_k».proof.Proof.ProdDxn3
public import proofs.«01_k».proof.Proof.Gen.H3Ideal.Value
public import proofs.«01_k».proof.Proof.Gen.H3RefIdeal.Run
public import proofs.«01_k».proof.Proof.Gen.H3RefIdeal.Read
public import Idealize.ShloMosaic.Lib.Pointwise
public import Idealize.ShloMosaic.Lib.Pipeline.ValueKit.Basic
public import Idealize.ShloMosaic.Lib.Pipeline.ReadBack

@[expose] public section

set_option maxRecDepth 16384

noncomputable section

namespace Cert.ProdH3

open Cert.H3Ideal Cert.H3Ideal.Gen Cert.H3Ideal.Value Cert.ProdDxn3 Idealize.ShloMosaic Idealize.SL.Sem
open Idealize.ShloMosaic.TcCoe

/-- Shard `g`'s product at a row and a column of the block. -/
abbrev part (x : Vec Ideal S2x1024x1376 .bf16) (w : Vec Ideal S2x1376x1024 .bf16) (g : Fin 2) (y : S1024x1024.Idx) : EReal :=
  ∑ k : Fin 1376, x (ix3 g (y 0) k) * w (ix3 g k (y 1))

/-- The two shards' products, added to what the accumulator held. -/
abbrev add2 (x : Vec Ideal S2x1024x1376 .bf16) (w : Vec Ideal S2x1376x1024 .bf16) (s : Vec Ideal S1024x1024 .f32) :
    Vec Ideal S1024x1024 .f32 := fun y => s y + (part x w 0 y + part x w 1 y)

theorem pay2_at (s : Vec Ideal S1024x1024 .f32) (a a' : Vec Ideal S1x1024x1376 .bf16) (b b' : Vec Ideal S1x1376x1024 .bf16)
    (r c : Fin 1024) : k0_pay2 s a b a' b' (ix2 r c) =
      s (ix2 r c) + ((∑ k : Fin 1376, a (ix3 0 r k) * b (ix3 0 k c)) + ∑ k : Fin 1376, a' (ix3 0 r k) * b' (ix3 0 k c)) := by
  unfold k0_pay2
  pointwise

theorem pay1_at (r c : Fin 1024) : (k0_pay1 (F := Ideal)) (ix2 r c) = 0 := by
  unfold k0_pay1
  pointwise

theorem pay3_at (s : Vec Ideal S1024x1024 .f32) (x : Vec Ideal S1024x1024 .f32) (r c : Fin 1024) :
    k0_pay3 s x (ix2 r c) = s (ix2 r c) + x (ix2 r c) := by
  unfold k0_pay3
  pointwise

/-- A shard's slice of a block of two. -/
theorem ld_x (x : Vec Ideal S2x1024x1376 .bf16) (g : Fin 2) (o : ℕ) (ho : o = g.val) (inb) (r : Fin 1024) (k : Fin 1376) :
    View.ld x (Rect.unit (s := S2x1024x1376) ![o, 0, 0] S1x1024x1376.size inb) (ix3 0 r k) = x (ix3 g r k) := by
  refine congrArg x ?_
  funext a; apply Fin.ext
  match a with
  | ⟨0, _⟩ => show o + 1 * 0 = g.val; omega
  | ⟨1, _⟩ => show 0 + 1 * r.val = r.val; omega
  | ⟨2, _⟩ => show 0 + 1 * k.val = k.val; omega

theorem ld_w (x : Vec Ideal S2x1376x1024 .bf16) (g : Fin 2) (o : ℕ) (ho : o = g.val) (inb) (k : Fin 1376) (r : Fin 1024) :
    View.ld x (Rect.unit (s := S2x1376x1024) ![o, 0, 0] S1x1376x1024.size inb) (ix3 0 k r) = x (ix3 g k r) := by
  refine congrArg x ?_
  funext a; apply Fin.ext
  match a with
  | ⟨0, _⟩ => show o + 1 * 0 = g.val; omega
  | ⟨1, _⟩ => show 0 + 1 * k.val = k.val; omega
  | ⟨2, _⟩ => show 0 + 1 * r.val = r.val; omega

theorem pay2_ld (s : Vec Ideal S1024x1024 .f32) (x : Vec Ideal S2x1024x1376 .bf16) (w : Vec Ideal S2x1376x1024 .bf16) (i0 i1 j0 j1) :
    k0_pay2 s (View.ld x (Rect.unit (s := S2x1024x1376) ![0, 0, 0] S1x1024x1376.size i0))
      (View.ld w (Rect.unit (s := S2x1376x1024) ![0, 0, 0] S1x1376x1024.size j0))
      (View.ld x (Rect.unit (s := S2x1024x1376) ![1, 0, 0] S1x1024x1376.size i1))
      (View.ld w (Rect.unit (s := S2x1376x1024) ![1, 0, 0] S1x1376x1024.size j1)) = add2 x w s := by
  funext y
  obtain ⟨r, c, rfl⟩ : ∃ (r c : Fin 1024), y = ix2 r c := ⟨y 0, y 1, eq_ix2 y⟩
  rw [pay2_at]
  simp only [ld_x x 0 0 rfl, ld_x x 1 1 rfl, ld_w w 0 0 rfl, ld_w w 1 1 rfl]
  rfl

section
variable (c : Dev nD) (i : grid0.Coords) (arg4 : Memref sig .tc .vmem S2x1024x1376 .bf16) (harg4 : arg4.IsWhole) (arg5 : Memref sig .tc .vmem S2x1376x1024 .bf16) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024x1024 .f32) (harg8 : arg8.IsWhole)
variable (x0 : Vec Ideal S2x1024x1376 .bf16) (x1 : Vec Ideal S2x1376x1024 .bf16) (x2 : Vec Ideal S1024x1024 .f32) (s : Vec Ideal S1024x1024 .f32)

/-- A run's first point: the accumulator starts from zero. -/
theorem caseA (hc0 : cond0_0 i) (hc1 : ¬cond0_1 i) :
    sout0_A_0 c i arg4 harg4 arg5 harg5 arg6 harg6 arg7 harg7 arg8 harg8 hc0 hc1 x0 x1 x2 = add2 x0 x1 (fun _ => 0) := by
  unfold sout0_A_0
  rw [View.read_writes_eq_canon _ _ _ (scover0_A_0 c i arg4 harg4 arg5 harg5 arg6 harg6 arg7 harg7 arg8 harg8 hc0 hc1 x0 x1 x2)]
  unfold kernelRun0_A; dsimp only; sl_unfold_words
  simp (disch := decide) only [↓View.readCov_skip, ↓View.readCov_fill, View.readAt_eq_ld, harg4.read_unread, harg5.read_unread,
    harg6.read_unread, harg8.read_unread]
  rw [View.canon_cons_unit_lit _ _ _ (by decide)]
  refine (pay2_ld _ _ _ _ _ _ _).trans ?_
  refine congrArg (add2 x0 x1) ?_
  rw [View.ld_unit_lit _ _ (by decide)]
  funext y
  obtain ⟨r, c, rfl⟩ : ∃ (r c : Fin 1024), y = ix2 r c := ⟨y 0, y 1, eq_ix2 y⟩
  exact pay1_at r c

/-- A point between. -/
theorem caseB (hc0 : ¬cond0_0 i) (hc1 : ¬cond0_1 i) :
    sout0_B_0 c i arg4 harg4 arg5 harg5 arg6 harg6 arg7 harg7 arg8 harg8 hc0 hc1 x0 x1 x2 s = add2 x0 x1 s := by
  unfold sout0_B_0
  rw [View.read_writes_eq_canon _ _ _ (scover0_B_0 c i arg4 harg4 arg5 harg5 arg6 harg6 arg7 harg7 arg8 harg8 hc0 hc1 x0 x1 x2 s)]
  unfold kernelRun0_B; dsimp only; sl_unfold_words
  simp only [View.readAt_eq_ld, harg4.read_unread, harg5.read_unread, harg6.read_unread, harg8.read_unread]
  rw [View.canon_cons_unit_lit _ _ _ (by decide), View.ld_unit_lit _ _ (by decide)]
  exact pay2_ld _ _ _ _ _ _ _

/-- A run's last point: the accumulator with the residual. -/
theorem caseC (hc0 : ¬cond0_0 i) (hc1 : cond0_1 i) :
    out0_C_3 c i arg4 harg4 arg5 harg5 arg6 harg6 arg7 harg7 arg8 harg8 hc0 hc1 x0 x1 x2 s
      = (fun y => add2 x0 x1 s y + x2 y) := by
  unfold out0_C_3
  rw [View.read_writes_eq_canon _ _ _ (cover0_C_3 c i arg4 harg4 arg5 harg5 arg6 harg6 arg7 harg7 arg8 harg8 hc0 hc1 x0 x1 x2 s)]
  unfold kernelRun0_C; dsimp only; sl_unfold_words
  simp only [View.readAt_eq_ld, harg4.read_unread, harg5.read_unread, harg6.read_unread, harg8.read_unread]
  rw [View.canon_cons_unit_lit _ _ _ (by decide)]
  rw [View.readCov_unit_lit _ _ _ (by decide), View.ld_unit_lit _ x2 (by decide), View.ld_unit_lit _ s (by decide)]
  funext y
  obtain ⟨r, c, rfl⟩ : ∃ (r c : Fin 1024), y = ix2 r c := ⟨y 0, y 1, eq_ix2 y⟩
  refine (pay3_at _ _ r c).trans ?_
  exact congrArg (· + _) (congrFun (pay2_ld _ _ _ _ _ _ _) (ix2 r c))

end

section
variable (m : (ℓ : Loc nD τ sig) → Buf (Elt Ideal) ℓ) (c : Dev nD)

/-- The activations, by token and feature. -/
abbrev aU : Vec Ideal S4096x11008 .bf16 := m ((c : Thread nD τ).loc main_arg0)
/-- The down projection's weight, by feature and column. -/
abbrev aW : Vec Ideal S11008x4096 .bf16 := m ((c : Thread nD τ).loc main_arg1)
/-- The residual, by token and column. -/
abbrev aR : Vec Ideal S4096x4096 .f32 := m ((c : Thread nD τ).loc main_arg2)

theorem V_v1 (u : Fin 8) (r : Fin 4096) (k : Fin 1376) : V m c main_v1 (ix3 u r k) = aU m c (ix2 r (feat u k)) := by
  have e : V m c main_v1 = transpose S8x4096x1376 [1, 0, 2] (shapeCast S4096x8x1376 (aU m c) shapeCasts_S4096x11008_S4096x8x1376)
      transposes_S4096x8x1376_S8x4096x1376_1_0_2 := by
    unfold V
    after_results <;> rfl
  rw [e]
  pointwise

theorem V_v2 (u : Fin 8) (k : Fin 1376) (r : Fin 4096) : V m c main_v2 (ix3 u k r) = aW m c (ix2 (feat u k) r) := by
  have e : V m c main_v2 = shapeCast S8x1376x4096 (aW m c) shapeCasts_S11008x4096_S8x1376x4096 := by
    unfold V
    after_results <;> rfl
  rw [e]
  pointwise

theorem idx_w : ∀ t : Fin cfg0.N, (win0_0.index t 0 = t.val % 4 ∧ win0_0.index t 1 = t.val / 16 ∧ win0_0.index t 2 = 0)
    ∧ (win0_1.index t 0 = t.val % 4 ∧ win0_1.index t 1 = 0 ∧ win0_1.index t 2 = t.val / 4 % 4)
    ∧ win0_2.index t 0 = t.val / 16 ∧ win0_2.index t 1 = t.val / 4 % 4 :=
  (by decide +kernel : ∀ t : Fin grid0.N,
    (win0_0.index t 0 = t.val % 4 ∧ win0_0.index t 1 = t.val / 16 ∧ win0_0.index t 2 = 0)
    ∧ (win0_1.index t 0 = t.val % 4 ∧ win0_1.index t 1 = 0 ∧ win0_1.index t 2 = t.val / 4 % 4)
    ∧ win0_2.index t 0 = t.val / 16 ∧ win0_2.index t 1 = t.val / 4 % 4)

theorem blk_u (t : Fin cfg0.N) (g : Fin 2) (u : Fin 8) (hu : t.val % 4 * 2 + g.val = u.val)
    (i : Fin 1024) (r : Fin 4096) (hr : t.val / 16 * 1024 + i.val = r.val) (k : Fin 1376) :
    iblk m c 0 t (ix3 g i k) = aU m c (ix2 r (feat u k)) := by
  unfold iblk
  rw [View.read_apply, ← V_v1]
  obtain ⟨⟨e0, e1, e2⟩, -, -, -⟩ := idx_w t
  show V m c main_v1 _ = _
  congr 1
  funext a; apply Fin.ext
  match a with
  | ⟨0, _⟩ => show win0_0.index t 0 * 2 + 1 * g.val = u.val; omega
  | ⟨1, _⟩ => show win0_0.index t 1 * 1024 + 1 * i.val = r.val; omega
  | ⟨2, _⟩ => show win0_0.index t 2 * 1376 + 1 * k.val = k.val; omega

theorem blk_w (t : Fin cfg0.N) (g : Fin 2) (u : Fin 8) (hu : t.val % 4 * 2 + g.val = u.val)
    (j : Fin 1024) (cc : Fin 4096) (hc : t.val / 4 % 4 * 1024 + j.val = cc.val) (k : Fin 1376) :
    iblk m c 1 t (ix3 g k j) = aW m c (ix2 (feat u k) cc) := by
  unfold iblk
  rw [View.read_apply, ← V_v2]
  obtain ⟨-, ⟨e0, e1, e2⟩, -, -⟩ := idx_w t
  show V m c main_v2 _ = _
  congr 1
  funext a; apply Fin.ext
  match a with
  | ⟨0, _⟩ => show win0_1.index t 0 * 2 + 1 * g.val = u.val; omega
  | ⟨1, _⟩ => show win0_1.index t 1 * 1376 + 1 * k.val = k.val; omega
  | ⟨2, _⟩ => show win0_1.index t 2 * 1024 + 1 * j.val = cc.val; omega

theorem blk_r (t : Fin cfg0.N) (i : Fin 1024) (r : Fin 4096) (hr : t.val / 16 * 1024 + i.val = r.val)
    (j : Fin 1024) (cc : Fin 4096) (hc : t.val / 4 % 4 * 1024 + j.val = cc.val) :
    iblk m c 2 t (ix2 i j) = aR m c (ix2 r cc) := by
  unfold iblk
  rw [View.read_apply]
  obtain ⟨-, -, e0, e1⟩ := idx_w t
  refine (congrFun (V_main_arg2 m c) _).trans ?_
  refine congrArg (aR m c) ?_
  funext a; apply Fin.ext
  match a with
  | ⟨0, _⟩ => show win0_2.index t 0 * 1024 + 1 * i.val = r.val; omega
  | ⟨1, _⟩ => show win0_2.index t 1 * 1024 + 1 * j.val = cc.val; omega

/-- Shard `u`'s product at a row and a column. -/
abbrev sh (r cc : Fin 4096) (u : Fin 8) : EReal := ∑ k : Fin 1376, aU m c (ix2 r (feat u k)) * aW m c (ix2 (feat u k) cc)

/-- A shard's product at a point is that shard's part of the sum. -/
theorem part_eq (t : Fin cfg0.N) (g : Fin 2) (u : Fin 8) (hu : t.val % 4 * 2 + g.val = u.val)
    (i : Fin 1024) (r : Fin 4096) (hr : t.val / 16 * 1024 + i.val = r.val)
    (j : Fin 1024) (cc : Fin 4096) (hc : t.val / 4 % 4 * 1024 + j.val = cc.val) :
    part (iblk m c 0 t) (iblk m c 1 t) g (ix2 i j) = sh m c r cc u :=
  Finset.sum_congr rfl fun k _ => congrArg₂ (· * ·) (blk_u m c t g u hu i r hr k) (blk_w m c t g u hu j cc hc k)

/-! ## The points of a run -/

theorem ptA (t : Fin cfg0.N) (h0 : t.val % 4 = 0) :
    (outsAt0 m c t.val t.isLt).2 = add2 (iblk m c 0 t) (iblk m c 1 t) (fun _ => 0) := by
  have h1 : ¬t.val % 4 = 3 := by omega
  have e := caseA c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t) ((hcond0_0 t).mpr h0) (fun h => h1 ((hcond0_1 t).mp h))
  rw [outsAt0_A m c t h0 h1]
  dsimp only
  exact e

theorem ptB (t : Fin cfg0.N) (h0 : ¬t.val % 4 = 0) (h1 : ¬t.val % 4 = 3) (h' : t.val - 1 < cfg0.N) :
    (outsAt0 m c t.val t.isLt).2 = add2 (iblk m c 0 t) (iblk m c 1 t) (outsAt0 m c (t.val - 1) h').2 := by
  have e := caseB c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t) (outsAt0 m c (t.val - 1) h').2
    (fun h => h0 ((hcond0_0 t).mp h)) (fun h => h1 ((hcond0_1 t).mp h))
  rw [outsAt0_B m c t h0 h1]
  dsimp only
  exact e

theorem ptC (t : Fin cfg0.N) (h1 : t.val % 4 = 3) (h' : t.val - 1 < cfg0.N) :
    (outsAt0 m c t.val t.isLt).1 = fun y => add2 (iblk m c 0 t) (iblk m c 1 t) (outsAt0 m c (t.val - 1) h').2 y + iblk m c 2 t y := by
  have h0 : ¬t.val % 4 = 0 := by omega
  have e := caseC c (grid0.coords t) (ms0_0 t) (hs0_0 t) (ms0_1 t) (hs0_1 t) (ms0_2 t) (hs0_2 t) (ms0_3 t) (hs0_3 t) scM0_0
    (Memref.isWhole_whole _) (iblk m c 0 t) (iblk m c 1 t) (iblk m c 2 t) (outsAt0 m c (t.val - 1) h').2
    (fun h => h0 ((hcond0_0 t).mp h)) ((hcond0_1 t).mpr h1)
  rw [outsAt0_C m c t h0 h1]
  dsimp only
  exact e

/-- What a run writes: all the shards' products and the residual. -/
theorem run_end (t : Fin cfg0.N) (h1 : t.val % 4 = 3) (i : Fin 1024) (r : Fin 4096) (hr : t.val / 16 * 1024 + i.val = r.val)
    (j : Fin 1024) (cc : Fin 4096) (hc : t.val / 4 % 4 * 1024 + j.val = cc.val) :
    (outsAt0 m c t.val t.isLt).1 (ix2 i j) = (∑ u, sh m c r cc u) + aR m c (ix2 r cc) := by
  have hN := t.isLt
  have p : ∀ (s : Fin cfg0.N) (q : ℕ) (hq : s.val + q = t.val) (hq' : q < 4) (g : Fin 2) (u : Fin 8)
      (hu : (3 - q) * 2 + g.val = u.val), part (iblk m c 0 s) (iblk m c 1 s) g (ix2 i j) = sh m c r cc u :=
    fun s q hq hq' g u hu => part_eq m c s g u (by omega) i r (by omega) j cc (by omega)
  obtain ⟨t2, e2⟩ : ∃ s : Fin cfg0.N, s.val = t.val - 1 := ⟨⟨t.val - 1, by omega⟩, rfl⟩
  obtain ⟨t1, e1⟩ : ∃ s : Fin cfg0.N, s.val = t2.val - 1 := ⟨⟨t2.val - 1, by omega⟩, rfl⟩
  obtain ⟨t0, e0⟩ : ∃ s : Fin cfg0.N, s.val = t1.val - 1 := ⟨⟨t1.val - 1, by omega⟩, rfl⟩
  have a0 := ptA m c t0 (by omega)
  have a1 := ptB m c t1 (by omega) (by omega) (by omega)
  have a2 := ptB m c t2 (by omega) (by omega) (by omega)
  have a3 := ptC m c t h1 (by omega)
  simp only [← e0, a0] at a1
  simp only [← e1, a1] at a2
  simp only [← e2, a2] at a3
  rw [a3, Fin.sum_univ_eight]
  show ((((0 + (_ + _)) + (_ + _)) + (_ + _)) + (_ + _)) + _ = _
  rw [p t0 3 (by omega) (by omega) 0 0 rfl, p t0 3 (by omega) (by omega) 1 1 rfl, p t1 2 (by omega) (by omega) 0 2 rfl,
    p t1 2 (by omega) (by omega) 1 3 rfl, p t2 1 (by omega) (by omega) 0 4 rfl, p t2 1 (by omega) (by omega) 1 5 rfl,
    p t 0 (by omega) (by omega) 0 6 rfl, p t 0 (by omega) (by omega) 1 7 rfl, blk_r m c t i r hr j cc hc, zero_add]
  simp only [add_assoc]

/-- What the launch leaves. -/
theorem final (r cc : Fin 4096) : G3 m c (ix2 r cc) = (∑ u, sh m c r cc u) + aR m c (ix2 r cc) := by
  have hp : pt3Of (ix2 r cc) = 4 * (4 * (r.val / 1024) + cc.val / 1024) + 3 := by
    show 4 * (4 * (r.val / 1024 - 0) + 1 * (cc.val / 1024 - 0)) + 3 = _
    omega
  have hlt : pt3Of (ix2 r cc) < cfg0.N := by rw [hp]; exact lt_of_lt_of_eq (by omega) N_0.symm
  have hl : loc3Of (ix2 r cc) = ix2 ⟨r.val % 1024, Nat.mod_lt _ (by norm_num)⟩ ⟨cc.val % 1024, Nat.mod_lt _ (by norm_num)⟩ := by
    funext a; match a with
    | ⟨0, _⟩ => rfl
    | ⟨1, _⟩ => rfl
  unfold G3
  rw [dif_pos hlt, ← outsAt0_sweep m c _ hlt, hl]
  refine run_end m c ⟨pt3Of (ix2 r cc), hlt⟩ ?_ _ r ?_ _ cc ?_
  · show pt3Of (ix2 r cc) % 4 = 3; omega
  · show pt3Of (ix2 r cc) / 16 * 1024 + r.val % 1024 = r.val; omega
  · show pt3Of (ix2 r cc) / 4 % 4 * 1024 + cc.val % 1024 = cc.val; omega
end

/-- What the reference computes. -/
theorem ref_at (a : Vec Ideal S4096x11008 .bf16) (w : Vec Ideal S11008x4096 .bf16) (x : Vec Ideal S4096x4096 .f32) (r cc : Fin 4096) :
    Cert.H3RefIdeal.Read.val_main_v3 (F := Ideal) a w x (ix2 r cc)
      = x (ix2 r cc) + ∑ j : Fin 11008, a (ix2 r j) * w (ix2 j cc) := by
  pointwise [Cert.H3RefIdeal.Read.val_main_v3, Cert.H3RefIdeal.Read.val_main_v2, Cert.H3RefIdeal.Read.val_main_v1,
    Cert.H3RefIdeal.Read.val_main_v0]

attribute [local instance] Cert.H3Ideal.Gen.facts Cert.H3RefIdeal.Gen.facts

/-- The claim. -/
theorem algebraic : Cert.algebraic_H3Ideal_H3RefIdeal := by
  intro m g m' g' _ hargs
  refine ⟨fun c => G3 m c, Cert.H3Ideal.Value.run m g, ?_⟩
  refine (θ_run _ _ _).mono (fun r h c => ?_) (Cert.H3RefIdeal.Value.run m' g')
  obtain ⟨e, k⟩ := h c
  obtain ⟨a0, a1, a2⟩ := hargs c
  refine ⟨e.trans ?_, k⟩
  rw [Cert.H3RefIdeal.Read.val_main_v3_eq, a0, a1, a2]
  funext y
  obtain ⟨i, j, rfl⟩ : ∃ (i j : Fin 4096), y = ix2 i j := ⟨y 0, y 1, eq_ix2 y⟩
  refine (ref_at _ _ _ _ _).trans (Eq.trans ?_ (final m c i j).symm)
  rw [sum_shards, add_comm]

/-- The reference runs, keeps its arguments, and holds no semaphore. -/
theorem frame_r : Cert.quiescent_H3RefIdeal := by
  intro m g _
  exact (θ_run Cert.H3RefIdeal.defs _ _).mono (fun r h => ⟨fun c => (h c).2, sem_eq_zero_of_no_sems (by decide) r.2⟩)
    (Cert.H3RefIdeal.Value.run m g)

end Cert.ProdH3

end
-- ==== Proof.ProdProj.lean ====
/-
The mixer's first projection. Each point of the launch takes a thousand rows of the activations and one of the
eight shards of the weight, and puts their product into that shard's columns of the result.
-/
module

public import proofs.«01_k».proof.Defs
public import proofs.«01_k».proof.Proof.Gen.ProjIdeal.Value
public import proofs.«01_k».proof.Proof.Gen.ProjRefIdeal.Read
public import Idealize.ShloMosaic.Lib.Pointwise
public import Idealize.ShloMosaic.Lib.Pipeline.ValueKit.Basic

@[expose] public section

set_option maxRecDepth 16384

noncomputable section

namespace Cert.ProdProj

open Cert.ProjIdeal Cert.ProjIdeal.Gen Cert.ProjIdeal.Value Idealize.ShloMosaic Idealize.SL.Sem
open Idealize.ShloMosaic.TcCoe

/-- Column `j` of shard `b`, among all the columns. -/
abbrev col (b : Fin 8) (j : Fin 1280) : Fin 10240 := ⟨b.val * 1280 + j.val, by omega⟩

/-- What one point computes. -/
theorem pay_at (x : Vec Ideal S1024x4096 .bf16) (y : Vec Ideal S1x4096x1280 .bf16) (r : Fin 1024) (j : Fin 1280) :
    k0_pay1 x y (ix2 r j) = ∑ k : Fin 4096, x (ix2 r k) * y (ix3 0 k j) := by
  unfold k0_pay1
  pointwise

section
variable (m : (ℓ : Loc nD τ sig) → Buf (Elt Ideal) ℓ) (c : Dev nD)

/-- The activations, by token and channel. -/
abbrev aX : Vec Ideal S4096x4096 .bf16 := m ((c : Thread nD τ).loc main_arg0)
/-- The weight, by channel and column. -/
abbrev aW : Vec Ideal S4096x10240 .bf16 := m ((c : Thread nD τ).loc main_arg1)

/-- The weight is cut into its shards before the launch. -/
theorem V_v1 (b : Fin 8) (k : Fin 4096) (j : Fin 1280) : V m c main_v1 (ix3 b k j) = aW m c (ix2 k (col b j)) := by
  have e : V m c main_v1 = transpose S8x4096x1280 [1, 0, 2] (shapeCast S4096x8x1280 (aW m c) shapeCasts_S4096x10240_S4096x8x1280)
      transposes_S4096x8x1280_S8x4096x1280_1_0_2 := by
    unfold V
    after_results <;> rfl
  rw [e]
  pointwise

theorem idx_w : ∀ t : Fin cfg0.N, win0_0.index t 0 = t.val % 4 ∧ win0_0.index t 1 = 0
    ∧ win0_1.index t 0 = t.val / 4 ∧ win0_1.index t 1 = 0 ∧ win0_1.index t 2 = 0
    ∧ win0_2.index t 0 = t.val % 4 ∧ win0_2.index t 1 = t.val / 4 :=
  (by decide +kernel : ∀ t : Fin grid0.N, win0_0.index t 0 = t.val % 4 ∧ win0_0.index t 1 = 0
    ∧ win0_1.index t 0 = t.val / 4 ∧ win0_1.index t 1 = 0 ∧ win0_1.index t 2 = 0
    ∧ win0_2.index t 0 = t.val % 4 ∧ win0_2.index t 1 = t.val / 4)

theorem blk_x (t : Fin cfg0.N) (i : Fin 1024) (r : Fin 4096) (hr : t.val % 4 * 1024 + i.val = r.val) (k : Fin 4096) :
    iblk m c 0 t (ix2 i k) = aX m c (ix2 r k) := by
  unfold iblk
  rw [View.read_apply]
  obtain ⟨e0, e1, -⟩ := idx_w t
  refine (congrFun (V_main_arg0 m c) _).trans ?_
  refine congrArg (aX m c) ?_
  funext a; apply Fin.ext
  match a with
  | ⟨0, _⟩ => show win0_0.index t 0 * 1024 + 1 * i.val = r.val; omega
  | ⟨1, _⟩ => show win0_0.index t 1 * 4096 + 1 * k.val = k.val; omega

theorem blk_w (t : Fin cfg0.N) (b : Fin 8) (hb : t.val / 4 = b.val) (k : Fin 4096) (j : Fin 1280) :
    iblk m c 1 t (ix3 0 k j) = aW m c (ix2 k (col b j)) := by
  unfold iblk
  rw [View.read_apply, ← V_v1]
  obtain ⟨-, -, e0, e1, e2, -⟩ := idx_w t
  show V m c main_v1 _ = _
  congr 1
  funext a; apply Fin.ext
  match a with
  | ⟨0, _⟩ => show win0_1.index t 0 * 1 + 1 * 0 = b.val; omega
  | ⟨1, _⟩ => show win0_1.index t 1 * 4096 + 1 * k.val = k.val; omega
  | ⟨2, _⟩ => show win0_1.index t 2 * 1280 + 1 * j.val = j.val; omega

/-- What the launch leaves. -/
theorem final (r : Fin 4096) (n : Fin 10240) :
    (dats m 0 c).arrAt 2 cfg0.N (ix2 r n) = ∑ k : Fin 4096, aX m c (ix2 r k) * aW m c (ix2 k n) := by
  obtain ⟨t, ht⟩ : ∃ t : Fin cfg0.N, t.val = n.val / 1280 * 4 + r.val / 1024 :=
    ⟨⟨n.val / 1280 * 4 + r.val / 1024, lt_of_lt_of_eq (by omega) N_0.symm⟩, rfl⟩
  obtain ⟨b, hb⟩ : ∃ b : Fin 8, b.val = n.val / 1280 := ⟨⟨n.val / 1280, by omega⟩, rfl⟩
  obtain ⟨i, hi'⟩ : ∃ i : Fin 1024, i.val = r.val % 1024 := ⟨⟨r.val % 1024, Nat.mod_lt _ (by norm_num)⟩, rfl⟩
  obtain ⟨j, hj⟩ : ∃ j : Fin 1280, j.val = n.val % 1280 := ⟨⟨n.val % 1280, Nat.mod_lt _ (by norm_num)⟩, rfl⟩
  have hn : n = col b j := Fin.ext (by show n.val = b.val * 1280 + j.val; omega)
  have e := congrFun (blocks2 m c t (flush0_2 t)) (ix2 i j)
  rw [View.read_apply, flushed2] at e
  obtain ⟨-, -, -, -, -, e0, e1⟩ := idx_w t
  have hi : ((cfg0.win 2).blk t).view.emb (ix2 i j) = ix2 r n := by
    funext a; apply Fin.ext
    match a with
    | ⟨0, _⟩ => show win0_2.index t 0 * 1024 + 1 * i.val = r.val; omega
    | ⟨1, _⟩ => show win0_2.index t 1 * 1280 + 1 * j.val = n.val; omega
  rw [← hi]
  refine e.trans ?_
  show out0_2 (iblk m c 0 t) (iblk m c 1 t) (ix2 i j) = _
  unfold out0_2 r0_0 r0_1 r0_2
  rw [View.canon_cons_unit_lit _ _ _ (by decide), View.ld_unit_lit _ _ (by decide), View.ld_unit_lit _ _ (by decide), pay_at]
  refine Finset.sum_congr rfl fun k _ => ?_
  rw [blk_x m c t i r (by omega), blk_w m c t b (by omega), hn]
end

/-- What the reference computes. -/
theorem ref_at (x : Vec Ideal S4096x4096 .bf16) (w : Vec Ideal S4096x10240 .bf16) (r : Fin 4096) (n : Fin 10240) :
    Cert.ProjRefIdeal.Read.val_main_v3 (F := Ideal) x w (ix2 r n) = ∑ k : Fin 4096, x (ix2 r k) * w (ix2 k n) := by
  pointwise [Cert.ProjRefIdeal.Read.val_main_v3, Cert.ProjRefIdeal.Read.val_main_v2, Cert.ProjRefIdeal.Read.val_main_v1,
    Cert.ProjRefIdeal.Read.val_main_v0]

attribute [local instance] Cert.ProjIdeal.Gen.facts Cert.ProjRefIdeal.Gen.facts

/-- The claim. -/
theorem algebraic : Cert.algebraic_ProjIdeal_ProjRefIdeal := by
  intro m g m' g' _ hargs
  refine ⟨fun c => (dats m 0 c).arrAt 2 cfg0.N, run_blocks m g, ?_⟩
  refine (θ_run _ _ _).mono (fun r h c => ?_) (Cert.ProjRefIdeal.Value.run m' g')
  obtain ⟨e, k0, k1⟩ := h c
  obtain ⟨a0, a1⟩ := hargs c
  refine ⟨e.trans ?_, k0, k1⟩
  rw [Cert.ProjRefIdeal.Read.val_main_v3_eq, a0, a1]
  funext y
  rw [ValueIdx.eq_ix2 y]
  exact (ref_at _ _ _ _).trans (final m c _ _).symm

/-- The reference runs, keeps its arguments, and holds no semaphore. -/
theorem frame_r : Cert.quiescent_ProjRefIdeal := by
  intro m g _
  exact (θ_run Cert.ProjRefIdeal.defs _ _).mono (fun r h => ⟨fun c => (h c).2, sem_eq_zero_of_no_sems (by decide) r.2⟩)
    (Cert.ProjRefIdeal.Value.run m g)

end Cert.ProdProj

end
-- ==== Proof.ProdGate.lean ====
/-
  The gradient through the gate's projection: a run of four points adds the products of all eight shards, two by two, and
  its last point writes the block.
-/
module

public import proofs.«01_k».proof.Defs
public import proofs.«01_k».proof.Proof.ProdDxn3
public import proofs.«01_k».proof.Proof.Gen.GateIdeal.Value
public import proofs.«01_k».proof.Proof.Gen.GateRefIdeal.Run
public import proofs.«01_k».proof.Proof.Gen.GateRefIdeal.Read
public import Idealize.ShloMosaic.Lib.Pointwise
public import Idealize.ShloMosaic.Lib.Pipeline.ValueKit.Basic
public import Idealize.ShloMosaic.Lib.Pipeline.ReadBack

@[expose] public section

set_option maxRecDepth 16384

noncomputable section

namespace Cert.ProdGate

open Cert.GateIdeal Cert.GateIdeal.Gen Cert.GateIdeal.Value Cert.ProdDxn3 Idealize.ShloMosaic Idealize.SL.Sem
open Idealize.ShloMosaic.TcCoe

/-- Shard `g`'s product at a row and a column of the block. -/
abbrev part (x : Vec Ideal S2x1024x1376 .bf16) (w : Vec Ideal S2x1376x1024 .bf16) (g : Fin 2) (y : S1024x1024.Idx) : EReal :=
  ∑ k : Fin 1376, x (ix3 g (y 0) k) * w (ix3 g k (y 1))

/-- The two shards' products, added to what the accumulator held. -/
abbrev add2 (x : Vec Ideal S2x1024x1376 .bf16) (w : Vec Ideal S2x1376x1024 .bf16) (s : Vec Ideal S1024x1024 .f32) :
    Vec Ideal S1024x1024 .f32 := fun y => s y + (part x w 0 y + part x w 1 y)

theorem pay2_at (s : Vec Ideal S1024x1024 .f32) (a a' : Vec Ideal S1x1024x1376 .bf16) (b b' : Vec Ideal S1x1376x1024 .bf16)
    (r c : Fin 1024) : k0_pay2 s a b a' b' (ix2 r c) =
      s (ix2 r c) + ((∑ k : Fin 1376, a (ix3 0 r k) * b (ix3 0 k c)) + ∑ k : Fin 1376, a' (ix3 0 r k) * b' (ix3 0 k c)) := by
  unfold k0_pay2
  pointwise

theorem pay1_at (r c : Fin 1024) : (k0_pay1 (F := Ideal)) (ix2 r c) = 0 := by
  unfold k0_pay1
  pointwise

theorem pay3_at (s : Vec Ideal S1024x1024 .f32) (r c : Fin 1024) :
    k0_pay3 s (ix2 r c) = s (ix2 r c) := by
  unfold k0_pay3
  pointwise

/-- A shard's slice of a block of two. -/
theorem ld_x (x : Vec Ideal S2x1024x1376 .bf16) (g : Fin 2) (o : ℕ) (ho : o = g.val) (inb) (r : Fin 1024) (k : Fin 1376) :
    View.ld x (Rect.unit (s := S2x1024x1376) ![o, 0, 0] S1x1024x1376.size inb) (ix3 0 r k) = x (ix3 g r k) := by
  refine congrArg x ?_
  funext a; apply Fin.ext
  match a with
  | ⟨0, _⟩ => show o + 1 * 0 = g.val; omega
  | ⟨1, _⟩ => show 0 + 1 * r.val = r.val; omega
  | ⟨2, _⟩ => show 0 + 1 * k.val = k.val; omega

theorem ld_w (x : Vec Ideal S2x1376x1024 .bf16) (g : Fin 2) (o : ℕ) (ho : o = g.val) (inb) (k : Fin 1376) (r : Fin 1024) :
    View.ld x (Rect.unit (s := S2x1376x1024) ![o, 0, 0] S1x1376x1024.size inb) (ix3 0 k r) = x (ix3 g k r) := by
  refine congrArg x ?_
  funext a; apply Fin.ext
  match a with
  | ⟨0, _⟩ => show o + 1 * 0 = g.val; omega
  | ⟨1, _⟩ => show 0 + 1 * k.val = k.val; omega
  | ⟨2, _⟩ => show 0 + 1 * r.val = r.val; omega

theorem pay2_ld (s : Vec Ideal S1024x1024 .f32) (x : Vec Ideal S2x1024x1376 .bf16) (w : Vec Ideal S2x1376x1024 .bf16) (i0 i1 j0 j1) :
    k0_pay2 s (View.ld x (Rect.unit (s := S2x1024x1376) ![0, 0, 0] S1x1024x1376.size i0))
      (View.ld w (Rect.unit (s := S2x1376x1024) ![0, 0, 0] S1x1376x1024.size j0))
      (View.ld x (Rect.unit (s := S2x1024x1376) ![1, 0, 0] S1x1024x1376.size i1))
      (View.ld w (Rect.unit (s := S2x1376x1024) ![1, 0, 0] S1x1376x1024.size j1)) = add2 x w s := by
  funext y
  obtain ⟨r, c, rfl⟩ : ∃ (r c : Fin 1024), y = ix2 r c := ⟨y 0, y 1, eq_ix2 y⟩
  rw [pay2_at]
  simp only [ld_x x 0 0 rfl, ld_x x 1 1 rfl, ld_w w 0 0 rfl, ld_w w 1 1 rfl]
  rfl

section
variable (c : Dev nD) (i : grid0.Coords) (arg4 : Memref sig .tc .vmem S2x1024x1376 .bf16) (harg4 : arg4.IsWhole) (arg5 : Memref sig .tc .vmem S2x1376x1024 .bf16) (harg5 : arg5.IsWhole) (arg6 : Memref sig .tc .vmem S1024x1024 .bf16) (harg6 : arg6.IsWhole) (arg7 : Memref sig .tc .vmem S1024x1024 .f32) (harg7 : arg7.IsWhole)
variable (x0 : Vec Ideal S2x1024x1376 .bf16) (x1 : Vec Ideal S2x1376x1024 .bf16) (s : Vec Ideal S1024x1024 .f32)

/-- A run's first point: the accumulator starts from zero. -/
theorem caseA (hc0 : cond0_0 i) (hc1 : ¬cond0_1 i) :
    sout0_A_0 c i arg4 harg4 arg5 harg5 arg6 harg6 arg7 harg7 hc0 hc1 x0 x1 = add2 x0 x1 (fun _ => 0) := by
  unfold sout0_A_0
  rw [View.read_writes_eq_canon _ _ _ (scover0_A_0 c i arg4 harg4 arg5 harg5 arg6 harg6 arg7 harg7 hc0 hc1 x0 x1)]
  unfold kernelRun0_A; dsimp only; sl_unfold_words
  simp (disch := decide) only [↓View.readCov_skip, ↓View.readCov_fill, View.readAt_eq_ld, harg4.read_unread, harg5.read_unread, harg7.read_unread]
  rw [View.canon_cons_unit_lit _ _ _ (by decide)]
  refine (pay2_ld _ _ _ _ _ _ _).trans ?_
  refine congrArg (add2 x0 x1) ?_
  rw [View.ld_unit_lit _ _ (by decide)]
  funext y
  obtain ⟨r, c, rfl⟩ : ∃ (r c : Fin 1024), y = ix2 r c := ⟨y 0, y 1, eq_ix2 y⟩
  exact pay1_at r c

/-- A point between. -/
theorem caseB (hc0 : ¬cond0_0 i) (hc1 : ¬cond0_1 i) :
    sout0_B_0 c i arg4 harg4 arg5 harg5 arg6 harg6 arg7 harg7 hc0 hc1 x0 x1 s = add2 x0 x1 s := by
  unfold sout0_B_0
  rw [View.read_writes_eq_canon _ _ _ (scover0_B_0 c i arg4 harg4 arg5 harg5 arg6 harg6 arg7 harg7 hc0 hc1 x0 x1 s)]
  unfold kernelRun0_B; dsimp only; sl_unfold_words
  simp only [View.readAt_eq_ld, harg4.read_unread, harg5.read_unread, harg7.read_unread]
  rw [View.canon_cons_unit_lit _ _ _ (by decide), View.ld_unit_lit _ _ (by decide)]
  exact pay2_ld _ _ _ _ _ _ _

/-- A run's last point: the accumulator. -/
theorem caseC (hc0 : ¬cond0_0 i) (hc1 : cond0_1 i) :
    out0_C_2 c i arg4 harg4 arg5 harg5 arg6 harg6 arg7 harg7 hc0 hc1 x0 x1 s
      = add2 x0 x1 s := by
  unfold out0_C_2
  rw [View.read_writes_eq_canon _ _ _ (cover0_C_2 c i arg4 harg4 arg5 harg5 arg6 harg6 arg7 harg7 hc0 hc1 x0 x1 s)]
  unfold kernelRun0_C; dsimp only; sl_unfold_words
  simp only [View.readAt_eq_ld, harg4.read_unread, harg5.read_unread, harg7.read_unread]
  rw [View.canon_cons_unit_lit _ _ _ (by decide)]
  rw [View.readCov_unit_lit _ _ _ (by decide), View.ld_unit_lit _ s (by decide)]
  funext y
  obtain ⟨r, c, rfl⟩ : ∃ (r c : Fin 1024), y = ix2 r c := ⟨y 0, y 1, eq_ix2 y⟩
  refine (pay3_at _ r c).trans ?_
  exact congrFun (pay2_ld _ _ _ _ _ _ _) (ix2 r c)

end

section
variable (m : (ℓ : Loc nD τ sig) → Buf (Elt Ideal) ℓ) (c : Dev nD)

/-- The gate projection's cotangent, by token and feature. -/
abbrev aU : Vec Ideal S4096x11008 .bf16 := m ((c : Thread nD τ).loc main_arg0)
/-- The gate projection's weight, by column and feature. -/
abbrev aW : Vec Ideal S4096x11008 .bf16 := m ((c : Thread nD τ).loc main_arg1)

theorem V_v1 (u : Fin 8) (r : Fin 4096) (k : Fin 1376) : V m c main_v1 (ix3 u r k) = aU m c (ix2 r (feat u k)) := by
  have e : V m c main_v1 = transpose S8x4096x1376 [1, 0, 2] (shapeCast S4096x8x1376 (aU m c) shapeCasts_S4096x11008_S4096x8x1376)
      transposes_S4096x8x1376_S8x4096x1376_1_0_2 := by
    unfold V
    after_results <;> rfl
  rw [e]
  pointwise

theorem V_v3 (u : Fin 8) (k : Fin 1376) (r : Fin 4096) : V m c main_v3 (ix3 u k r) = aW m c (ix2 r (feat u k)) := by
  have e : V m c main_v3 = shapeCast S8x1376x4096 (transpose S11008x4096 [1, 0] (aW m c) transposes_S4096x11008_S11008x4096_1_0)
      shapeCasts_S11008x4096_S8x1376x4096 := by
    unfold V
    after_results <;> rfl
  rw [e]
  pointwise

theorem idx_w : ∀ t : Fin cfg0.N, (win0_0.index t 0 = t.val % 4 ∧ win0_0.index t 1 = t.val / 16 ∧ win0_0.index t 2 = 0)
    ∧ (win0_1.index t 0 = t.val % 4 ∧ win0_1.index t 1 = 0 ∧ win0_1.index t 2 = t.val / 4 % 4) :=
  (by decide +kernel : ∀ t : Fin grid0.N,
    (win0_0.index t 0 = t.val % 4 ∧ win0_0.index t 1 = t.val / 16 ∧ win0_0.index t 2 = 0)
    ∧ (win0_1.index t 0 = t.val % 4 ∧ win0_1.index t 1 = 0 ∧ win0_1.index t 2 = t.val / 4 % 4))

theorem blk_u (t : Fin cfg0.N) (g : Fin 2) (u : Fin 8) (hu : t.val % 4 * 2 + g.val = u.val)
    (i : Fin 1024) (r : Fin 4096) (hr : t.val / 16 * 1024 + i.val = r.val) (k : Fin 1376) :
    iblk m c 0 t (ix3 g i k) = aU m c (ix2 r (feat u k)) := by
  unfold iblk
  rw [View.read_apply, ← V_v1]
  obtain ⟨⟨e0, e1, e2⟩, -⟩ := idx_w t
  show V m c main_v1 _ = _
  congr 1
  funext a; apply Fin.ext
  match a with
  | ⟨0, _⟩ => show win0_0.index t 0 * 2 + 1 * g.val = u.val; omega
  | ⟨1, _⟩ => show win0_0.index t 1 * 1024 + 1 * i.val = r.val; omega
  | ⟨2, _⟩ => show win0_0.index t 2 * 1376 + 1 * k.val = k.val; omega

theorem blk_w (t : Fin cfg0.N) (g : Fin 2) (u : Fin 8) (hu : t.val % 4 * 2 + g.val = u.val)
    (j : Fin 1024) (cc : Fin 4096) (hc : t.val / 4 % 4 * 1024 + j.val = cc.val) (k : Fin 1376) :
    iblk m c 1 t (ix3 g k j) = aW m c (ix2 cc (feat u k)) := by
  unfold iblk
  rw [View.read_apply, ← V_v3]
  obtain ⟨-, e0, e1, e2⟩ := idx_w t
  show V m c main_v3 _ = _
  congr 1
  funext a; apply Fin.ext
  match a with
  | ⟨0, _⟩ => show win0_1.index t 0 * 2 + 1 * g.val = u.val; omega
  | ⟨1, _⟩ => show win0_1.index t 1 * 1376 + 1 * k.val = k.val; omega
  | ⟨2, _⟩ => show win0_1.index t 2 * 1024 + 1 * j.val = cc.val; omega

/-- Shard `u`'s product at a row and a column. -/
abbrev sh (r cc : Fin 4096) (u : Fin 8) : EReal := ∑ k : Fin 1376, aU m c (ix2 r (feat u k)) * aW m c (ix2 cc (feat u k))

/-- A shard's product at a point is that shard's part of the sum. -/
theorem part_eq (t : Fin cfg0.N) (g : Fin 2) (u : Fin 8) (hu : t.val % 4 * 2 + g.val = u.val)
    (i : Fin 1024) (r : Fin 4096) (hr : t.val / 16 * 1024 + i.val = r.val)
    (j : Fin 1024) (cc : Fin 4096) (hc : t.val / 4 % 4 * 1024 + j.val = cc.val) :
    part (iblk m c 0 t) (iblk m c 1 t) g (ix2 i j) = sh m c r cc u :=
  Finset.sum_congr rfl fun k _ => congrArg₂ (· * ·) (blk_u m c t g u hu i r hr k) (blk_w m c t g u hu j cc hc k)

/-! ## The points of a run -/

theorem ptA (t : Fin cfg0.N) (h0 : t.val % 4 = 0) :
    (outsAt0 m c t.val t.isLt).2 = add2 (iblk m c 0 t) (iblk m c 1 t) (fun _ => 0) := by
  have h1 : ¬t.val % 4 = 3 := by omega
  have e := caseA c (grid0.coords t) (ms0_0 t) (hs0_0 t) (ms0_1 t) (hs0_1 t) (ms0_2 t) (hs0_2 t) scM0_0
    (Memref.isWhole_whole _) (iblk m c 0 t) (iblk m c 1 t) ((hcond0_0 t).mpr h0) (fun h => h1 ((hcond0_1 t).mp h))
  rw [outsAt0_A m c t h0 h1]
  dsimp only
  exact e

theorem ptB (t : Fin cfg0.N) (h0 : ¬t.val % 4 = 0) (h1 : ¬t.val % 4 = 3) (h' : t.val - 1 < cfg0.N) :
    (outsAt0 m c t.val t.isLt).2 = add2 (iblk m c 0 t) (iblk m c 1 t) (outsAt0 m c (t.val - 1) h').2 := by
  have e := caseB c (grid0.coords t) (ms0_0 t) (hs0_0 t) (ms0_1 t) (hs0_1 t) (ms0_2 t) (hs0_2 t) scM0_0
    (Memref.isWhole_whole _) (iblk m c 0 t) (iblk m c 1 t) (outsAt0 m c (t.val - 1) h').2
    (fun h => h0 ((hcond0_0 t).mp h)) (fun h => h1 ((hcond0_1 t).mp h))
  rw [outsAt0_B m c t h0 h1]
  dsimp only
  exact e

theorem ptC (t : Fin cfg0.N) (h1 : t.val % 4 = 3) (h' : t.val - 1 < cfg0.N) :
    (outsAt0 m c t.val t.isLt).1 = add2 (iblk m c 0 t) (iblk m c 1 t) (outsAt0 m c (t.val - 1) h').2 := by
  have h0 : ¬t.val % 4 = 0 := by omega
  have e := caseC c (grid0.coords t) (ms0_0 t) (hs0_0 t) (ms0_1 t) (hs0_1 t) (ms0_2 t) (hs0_2 t) scM0_0
    (Memref.isWhole_whole _) (iblk m c 0 t) (iblk m c 1 t) (outsAt0 m c (t.val - 1) h').2
    (fun h => h0 ((hcond0_0 t).mp h)) ((hcond0_1 t).mpr h1)
  rw [outsAt0_C m c t h0 h1]
  dsimp only
  exact e

/-- What a run writes: all the shards' products. -/
theorem run_end (t : Fin cfg0.N) (h1 : t.val % 4 = 3) (i : Fin 1024) (r : Fin 4096) (hr : t.val / 16 * 1024 + i.val = r.val)
    (j : Fin 1024) (cc : Fin 4096) (hc : t.val / 4 % 4 * 1024 + j.val = cc.val) :
    (outsAt0 m c t.val t.isLt).1 (ix2 i j) = ∑ u, sh m c r cc u := by
  have hN := t.isLt
  have p : ∀ (s : Fin cfg0.N) (q : ℕ) (hq : s.val + q = t.val) (hq' : q < 4) (g : Fin 2) (u : Fin 8)
      (hu : (3 - q) * 2 + g.val = u.val), part (iblk m c 0 s) (iblk m c 1 s) g (ix2 i j) = sh m c r cc u :=
    fun s q hq hq' g u hu => part_eq m c s g u (by omega) i r (by omega) j cc (by omega)
  obtain ⟨t2, e2⟩ : ∃ s : Fin cfg0.N, s.val = t.val - 1 := ⟨⟨t.val - 1, by omega⟩, rfl⟩
  obtain ⟨t1, e1⟩ : ∃ s : Fin cfg0.N, s.val = t2.val - 1 := ⟨⟨t2.val - 1, by omega⟩, rfl⟩
  obtain ⟨t0, e0⟩ : ∃ s : Fin cfg0.N, s.val = t1.val - 1 := ⟨⟨t1.val - 1, by omega⟩, rfl⟩
  have a0 := ptA m c t0 (by omega)
  have a1 := ptB m c t1 (by omega) (by omega) (by omega)
  have a2 := ptB m c t2 (by omega) (by omega) (by omega)
  have a3 := ptC m c t h1 (by omega)
  simp only [← e0, a0] at a1
  simp only [← e1, a1] at a2
  simp only [← e2, a2] at a3
  rw [a3, Fin.sum_univ_eight]
  show ((((0 + (_ + _)) + (_ + _)) + (_ + _)) + (_ + _)) = _
  rw [p t0 3 (by omega) (by omega) 0 0 rfl, p t0 3 (by omega) (by omega) 1 1 rfl, p t1 2 (by omega) (by omega) 0 2 rfl,
    p t1 2 (by omega) (by omega) 1 3 rfl, p t2 1 (by omega) (by omega) 0 4 rfl, p t2 1 (by omega) (by omega) 1 5 rfl,
    p t 0 (by omega) (by omega) 0 6 rfl, p t 0 (by omega) (by omega) 1 7 rfl, zero_add]
  simp only [add_assoc]

/-- What the launch leaves. -/
theorem final (r cc : Fin 4096) : G2 m c (ix2 r cc) = ∑ u, sh m c r cc u := by
  have hp : pt2Of (ix2 r cc) = 4 * (4 * (r.val / 1024) + cc.val / 1024) + 3 := by
    show 4 * (4 * (r.val / 1024 - 0) + 1 * (cc.val / 1024 - 0)) + 3 = _
    omega
  have hlt : pt2Of (ix2 r cc) < cfg0.N := by rw [hp]; exact lt_of_lt_of_eq (by omega) N_0.symm
  have hl : loc2Of (ix2 r cc) = ix2 ⟨r.val % 1024, Nat.mod_lt _ (by norm_num)⟩ ⟨cc.val % 1024, Nat.mod_lt _ (by norm_num)⟩ := by
    funext a; match a with
    | ⟨0, _⟩ => rfl
    | ⟨1, _⟩ => rfl
  unfold G2
  rw [dif_pos hlt, ← outsAt0_sweep m c _ hlt, hl]
  refine run_end m c ⟨pt2Of (ix2 r cc), hlt⟩ ?_ _ r ?_ _ cc ?_
  · show pt2Of (ix2 r cc) % 4 = 3; omega
  · show pt2Of (ix2 r cc) / 16 * 1024 + r.val % 1024 = r.val; omega
  · show pt2Of (ix2 r cc) / 4 % 4 * 1024 + cc.val % 1024 = cc.val; omega
end

/-- What the reference computes. -/
theorem ref_at (a w : Vec Ideal S4096x11008 .bf16) (r cc : Fin 4096) :
    Cert.GateRefIdeal.Read.val_main_v5 (F := Ideal) a w (ix2 r cc)
      = ∑ j : Fin 11008, a (ix2 r j) * w (ix2 cc j) := by
  pointwise [Cert.GateRefIdeal.Read.val_main_v5, Cert.GateRefIdeal.Read.val_main_v4, Cert.GateRefIdeal.Read.val_main_v3, Cert.GateRefIdeal.Read.val_main_v2, Cert.GateRefIdeal.Read.val_main_v1]

attribute [local instance] Cert.GateIdeal.Gen.facts Cert.GateRefIdeal.Gen.facts

/-- The claim. -/
theorem algebraic : Cert.algebraic_GateIdeal_GateRefIdeal := by
  intro m g m' g' _ hargs
  refine ⟨fun c => G2 m c, Cert.GateIdeal.Value.run m g, ?_⟩
  refine (θ_run _ _ _).mono (fun r h c => ?_) (Cert.GateRefIdeal.Value.run m' g')
  obtain ⟨e, k⟩ := h c
  obtain ⟨a0, a1⟩ := hargs c
  refine ⟨e.trans ?_, k⟩
  rw [Cert.GateRefIdeal.Read.val_main_v5_eq, a0, a1]
  funext y
  obtain ⟨i, j, rfl⟩ : ∃ (i j : Fin 4096), y = ix2 i j := ⟨y 0, y 1, eq_ix2 y⟩
  refine (ref_at _ _ _ _).trans (Eq.trans ?_ (final m c i j).symm)
  rw [sum_shards]

/-- The reference runs, keeps its arguments, and holds no semaphore. -/
theorem frame_r : Cert.quiescent_GateRefIdeal := by
  intro m g _
  exact (θ_run Cert.GateRefIdeal.defs _ _).mono (fun r h => ⟨fun c => (h c).2, sem_eq_zero_of_no_sems (by decide) r.2⟩)
    (Cert.GateRefIdeal.Value.run m g)

end Cert.ProdGate

end
-- ==== Proof.ProdAdam.lean ====
/-
The optimiser's update of the first projection's weight. A point of the launch takes 128 rows: it sums the chips'
four partial gradients, moves the two moments, and divides them. Every step is taken entry by entry, so the proof
reads one entry of the kernel's four results and one entry of the reference's, and finds the same expression; only
the sum over the chips is written in another way.
-/
module

public import proofs.«01_k».proof.Defs
public import proofs.«01_k».proof.Proof.Gen.AdamIdeal.Value
public import proofs.«01_k».proof.Proof.Gen.AdamRefIdeal.Read
public import Idealize.ShloMosaic.Lib.Pointwise
public import Idealize.ShloMosaic.Lib.Pipeline.ValueKit.Basic

@[expose] public section

set_option maxRecDepth 16384

noncomputable section

namespace Cert.ProdAdam

open Cert.AdamIdeal Cert.AdamIdeal.Gen Cert.AdamIdeal.Value Idealize.ShloMosaic Idealize.SL.Sem
open Idealize.ShloMosaic.TcCoe
open Cert.AdamRefIdeal.Read

section
variable (x : Vec Ideal S4x128x1280 .bf16) (w mm vv : Vec Ideal S1x128x1280 .f32)
  (X : Vec Ideal S4x4096x1280 .bf16) (W M N : Vec Ideal S1x4096x1280 .f32) (i : Fin 128) (j : Fin 1280) (r : Fin 4096)
  (hx : ∀ g : Fin 4, x (ix3 g i j) = X (ix3 g r j)) (hw : w (ix3 0 i j) = W (ix3 0 r j))
  (hm : mm (ix3 0 i j) = M (ix3 0 r j)) (hv : vv (ix3 0 i j) = N (ix3 0 r j))

/-- The sum of the chips' partial gradients, in the kernel and in the reference. -/
theorem k_g : k0_pay10 x w mm vv (ix2 i j) = x (ix3 0 i j) + x (ix3 1 i j) + x (ix3 2 i j) + x (ix3 3 i j) := by
  unfold k0_pay10 k0_pay5
  pointwise

theorem r_g : val_main_v2 (F := Ideal) X (ix3 0 r j) = X (ix3 0 r j) + X (ix3 1 r j) + X (ix3 2 r j) + X (ix3 3 r j) := by
  pointwise [val_main_v2, val_main_v1, val_main_v0, val_main_cst]
  exact Fin.sum_univ_four _

include hx in
theorem same_g : k0_pay10 x w mm vv (ix2 i j) = val_main_v2 (F := Ideal) X (ix3 0 r j) := by
  rw [k_g, r_g]; simp only [hx]

include hx in
theorem out4 : out0_4 x w mm vv (ix3 0 i j) = val_main_v2 (F := Ideal) X (ix3 0 r j) := by
  rw [← same_g x w mm vv X i j r hx]
  unfold out0_4
  rw [View.canon_cons_unit_lit _ _ _ (by decide)]
  unfold k0_pay6
  pointwise
  rfl

include hx hm in
/-- The first moment. -/
theorem same_m : k0_pay11 x w mm vv (ix2 i j) = val_main_v7 (F := Ideal) X M (ix3 0 r j) := by
  have e := same_g x w mm vv X i j r hx
  unfold k0_pay10 at e
  unfold k0_pay11 k0_pay8 r0_4
  rw [View.ld_unit_lit _ _ (by decide)]
  unfold val_main_v7 val_main_v6
  pointwise [val_main_v4, val_main_v3, val_main_v5, val_main_cst_0, val_main_cst_1]
  rw [e, hm]

include hx hv in
/-- The second moment. -/
theorem same_v : k0_pay1 (k0_pay10 x w mm vv) (k0_pay12 x w mm vv) (ix2 i j) = val_main_v13 (F := Ideal) X N (ix3 0 r j) := by
  have e := same_g x w mm vv X i j r hx
  unfold k0_pay12 k0_pay9 k0_pay1 r0_4
  rw [View.ld_unit_lit _ _ (by decide)]
  unfold val_main_v13 val_main_v12 val_main_v10
  pointwise [val_main_v9, val_main_v8, val_main_v11, val_main_cst_2, val_main_cst_3]
  rw [e, hv]

include hx hm in
theorem out6 : out0_6 x w mm vv (ix3 0 i j) = val_main_v7 (F := Ideal) X M (ix3 0 r j) := by
  rw [← same_m x w mm vv X M i j r hx hm]
  unfold out0_6
  rw [View.canon_cons_unit_lit _ _ _ (by decide)]
  unfold k0_pay3
  pointwise

include hx hv in
theorem out7 : out0_7 x w mm vv (ix3 0 i j) = val_main_v13 (F := Ideal) X N (ix3 0 r j) := by
  rw [← same_v x w mm vv X N i j r hx hv]
  unfold out0_7
  rw [View.canon_cons_unit_lit _ _ _ (by decide)]
  unfold k0_pay4
  pointwise

include hx hw hm hv in
theorem out5 : out0_5 x w mm vv (ix3 0 i j) = val_main_v26 (F := Ideal) X W M N (ix3 0 r j) := by
  have em := same_m x w mm vv X M i j r hx hm
  have ev := same_v x w mm vv X N i j r hx hv
  unfold out0_5
  rw [View.canon_cons_unit_lit _ _ _ (by decide)]
  unfold k0_pay2 k0_pay7 r0_4
  rw [View.ld_unit_lit _ _ (by decide)]
  generalize k0_pay1 (k0_pay10 x w mm vv) (k0_pay12 x w mm vv) = v' at *
  generalize k0_pay11 x w mm vv = m' at *
  unfold val_main_v26 val_main_v24 val_main_v23 val_main_v21 val_main_v20 val_main_v18 val_main_v17 val_main_v15
  pointwise [val_main_v14, val_main_v16, val_main_v19, val_main_v22, val_main_v25, val_main_cst_4, val_main_cst_5,
    val_main_cst_6, val_main_cst_7, val_main_cst_8]
  rw [em, ev, hw]
end

section
variable (m : (ℓ : Loc nD τ sig) → Buf (Elt Ideal) ℓ) (c : Dev nD)

/-- The chips' partial gradients. -/
abbrev aP : Vec Ideal S4x4096x1280 .bf16 := m ((c : Thread nD τ).loc main_arg0)
/-- The weight. -/
abbrev aW : Vec Ideal S1x4096x1280 .f32 := m ((c : Thread nD τ).loc main_arg1)
/-- The two moments. -/
abbrev aM : Vec Ideal S1x4096x1280 .f32 := m ((c : Thread nD τ).loc main_arg2)
abbrev aN : Vec Ideal S1x4096x1280 .f32 := m ((c : Thread nD τ).loc main_arg3)

/-- The point that takes row `r`, and the row within it. -/
theorem point (r : Fin 4096) : ∃ (t : Fin cfg0.N) (i : Fin 128), t.val * 128 + i.val = r.val :=
  ⟨⟨r.val / 128, lt_of_lt_of_eq (by omega) N_0.symm⟩, ⟨r.val % 128, Nat.mod_lt _ (by norm_num)⟩,
    by show r.val / 128 * 128 + r.val % 128 = r.val; omega⟩

theorem idx_o0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

theorem idx_o1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

theorem idx_o2 : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)

theorem idx_o3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)

theorem idx_o4 : ∀ t : Fin cfg0.N, win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0)

theorem idx_o5 : ∀ t : Fin cfg0.N, win0_5.index t 0 = 0 ∧ win0_5.index t 1 = t.val ∧ win0_5.index t 2 = 0 :=
  (by decide +kernel : ∀ t : Fin grid0.N, win0_5.index t 0 = 0 ∧ win0_5.index t 1 = t.val ∧ win0_5.index t 2 = 0)

theorem idx_o6 : ∀ t : Fin cfg0.N, win0_6.index t 0 = 0 ∧ win0_6.index t 1 = t.val ∧ win0_6.index t 2 = 0 :=
  (by decide +kernel : ∀ t : Fin grid0.N, win0_6.index t 0 = 0 ∧ win0_6.index t 1 = t.val ∧ win0_6.index t 2 = 0)

theorem idx_o7 : ∀ t : Fin cfg0.N, win0_7.index t 0 = 0 ∧ win0_7.index t 1 = t.val ∧ win0_7.index t 2 = 0 :=
  (by decide +kernel : ∀ t : Fin grid0.N, win0_7.index t 0 = 0 ∧ win0_7.index t 1 = t.val ∧ win0_7.index t 2 = 0)

theorem blk_p (t : Fin cfg0.N) (i : Fin 128) (r : Fin 4096) (ht : t.val * 128 + i.val = r.val) (g : Fin 4) (j : Fin 1280) :
    iblk m c 0 t (ix3 g i j) = aP m c (ix3 g r j) := by
  unfold iblk
  rw [View.read_apply]
  obtain ⟨e0, e1, e2⟩ := idx_o0 t
  refine (congrFun (V_main_arg0 m c) _).trans (congrArg (aP m c) ?_)
  funext a; apply Fin.ext
  match a with
  | ⟨0, _⟩ => show win0_0.index t 0 * 4 + 1 * g.val = g.val; omega
  | ⟨1, _⟩ => show win0_0.index t 1 * 128 + 1 * i.val = r.val; omega
  | ⟨2, _⟩ => show win0_0.index t 2 * 1280 + 1 * j.val = j.val; omega

theorem blk_w (t : Fin cfg0.N) (i : Fin 128) (r : Fin 4096) (ht : t.val * 128 + i.val = r.val) (j : Fin 1280) :
    iblk m c 1 t (ix3 0 i j) = aW m c (ix3 0 r j) := by
  unfold iblk
  rw [View.read_apply]
  obtain ⟨e0, e1, e2⟩ := idx_o1 t
  refine (congrFun (V_main_arg1 m c) _).trans (congrArg (aW m c) ?_)
  funext a; apply Fin.ext
  match a with
  | ⟨0, _⟩ => show win0_1.index t 0 * 1 + 1 * 0 = 0; omega
  | ⟨1, _⟩ => show win0_1.index t 1 * 128 + 1 * i.val = r.val; omega
  | ⟨2, _⟩ => show win0_1.index t 2 * 1280 + 1 * j.val = j.val; omega

theorem blk_m (t : Fin cfg0.N) (i : Fin 128) (r : Fin 4096) (ht : t.val * 128 + i.val = r.val) (j : Fin 1280) :
    iblk m c 2 t (ix3 0 i j) = aM m c (ix3 0 r j) := by
  unfold iblk
  rw [View.read_apply]
  obtain ⟨e0, e1, e2⟩ := idx_o2 t
  refine (congrFun (V_main_arg2 m c) _).trans (congrArg (aM m c) ?_)
  funext a; apply Fin.ext
  match a with
  | ⟨0, _⟩ => show win0_2.index t 0 * 1 + 1 * 0 = 0; omega
  | ⟨1, _⟩ => show win0_2.index t 1 * 128 + 1 * i.val = r.val; omega
  | ⟨2, _⟩ => show win0_2.index t 2 * 1280 + 1 * j.val = j.val; omega

theorem blk_v (t : Fin cfg0.N) (i : Fin 128) (r : Fin 4096) (ht : t.val * 128 + i.val = r.val) (j : Fin 1280) :
    iblk m c 3 t (ix3 0 i j) = aN m c (ix3 0 r j) := by
  unfold iblk
  rw [View.read_apply]
  obtain ⟨e0, e1, e2⟩ := idx_o3 t
  refine (congrFun (V_main_arg3 m c) _).trans (congrArg (aN m c) ?_)
  funext a; apply Fin.ext
  match a with
  | ⟨0, _⟩ => show win0_3.index t 0 * 1 + 1 * 0 = 0; omega
  | ⟨1, _⟩ => show win0_3.index t 1 * 128 + 1 * i.val = r.val; omega
  | ⟨2, _⟩ => show win0_3.index t 2 * 1280 + 1 * j.val = j.val; omega

/-! What the launch leaves in each result. -/

theorem final4 (r : Fin 4096) (j : Fin 1280) :
    (dats m 0 c).arrAt 4 cfg0.N (ix3 0 r j) = val_main_v2 (F := Ideal) (aP m c) (ix3 0 r j) := by
  obtain ⟨t, i, ht⟩ := point r
  have e := congrFun (blocks4 m c t (flush0_4 t)) (ix3 0 i j)
  rw [View.read_apply, flushed4] at e
  have hi : ((cfg0.win 4).blk t).view.emb (ix3 0 i j) = ix3 0 r j := by
    obtain ⟨e0, e1, e2⟩ := idx_o4 t
    funext a; apply Fin.ext
    match a with
    | ⟨0, _⟩ => show win0_4.index t 0 * 1 + 1 * 0 = 0; omega
    | ⟨1, _⟩ => show win0_4.index t 1 * 128 + 1 * i.val = r.val; omega
    | ⟨2, _⟩ => show win0_4.index t 2 * 1280 + 1 * j.val = j.val; omega
  rw [← hi]
  refine e.trans ?_
  rw [hi]
  show out0_4 (iblk m c 0 t) (iblk m c 1 t) (iblk m c 2 t) (iblk m c 3 t) (ix3 0 i j) = _
  exact out4 _ _ _ _ _ _ _ _ (fun g => blk_p m c t i r ht g j)

theorem final5 (r : Fin 4096) (j : Fin 1280) :
    (dats m 0 c).arrAt 5 cfg0.N (ix3 0 r j) = val_main_v26 (F := Ideal) (aP m c) (aW m c) (aM m c) (aN m c) (ix3 0 r j) := by
  obtain ⟨t, i, ht⟩ := point r
  have e := congrFun (blocks5 m c t (flush0_5 t)) (ix3 0 i j)
  rw [View.read_apply, flushed5] at e
  have hi : ((cfg0.win 5).blk t).view.emb (ix3 0 i j) = ix3 0 r j := by
    obtain ⟨e0, e1, e2⟩ := idx_o5 t
    funext a; apply Fin.ext
    match a with
    | ⟨0, _⟩ => show win0_5.index t 0 * 1 + 1 * 0 = 0; omega
    | ⟨1, _⟩ => show win0_5.index t 1 * 128 + 1 * i.val = r.val; omega
    | ⟨2, _⟩ => show win0_5.index t 2 * 1280 + 1 * j.val = j.val; omega
  rw [← hi]
  refine e.trans ?_
  rw [hi]
  show out0_5 (iblk m c 0 t) (iblk m c 1 t) (iblk m c 2 t) (iblk m c 3 t) (ix3 0 i j) = _
  exact out5 _ _ _ _ _ _ _ _ _ _ _ (fun g => blk_p m c t i r ht g j) (blk_w m c t i r ht j) (blk_m m c t i r ht j) (blk_v m c t i r ht j)

theorem final6 (r : Fin 4096) (j : Fin 1280) :
    (dats m 0 c).arrAt 6 cfg0.N (ix3 0 r j) = val_main_v7 (F := Ideal) (aP m c) (aM m c) (ix3 0 r j) := by
  obtain ⟨t, i, ht⟩ := point r
  have e := congrFun (blocks6 m c t (flush0_6 t)) (ix3 0 i j)
  rw [View.read_apply, flushed6] at e
  have hi : ((cfg0.win 6).blk t).view.emb (ix3 0 i j) = ix3 0 r j := by
    obtain ⟨e0, e1, e2⟩ := idx_o6 t
    funext a; apply Fin.ext
    match a with
    | ⟨0, _⟩ => show win0_6.index t 0 * 1 + 1 * 0 = 0; omega
    | ⟨1, _⟩ => show win0_6.index t 1 * 128 + 1 * i.val = r.val; omega
    | ⟨2, _⟩ => show win0_6.index t 2 * 1280 + 1 * j.val = j.val; omega
  rw [← hi]
  refine e.trans ?_
  rw [hi]
  show out0_6 (iblk m c 0 t) (iblk m c 1 t) (iblk m c 2 t) (iblk m c 3 t) (ix3 0 i j) = _
  exact out6 _ _ _ _ _ _ _ _ _ (fun g => blk_p m c t i r ht g j) (blk_m m c t i r ht j)

theorem final7 (r : Fin 4096) (j : Fin 1280) :
    (dats m 0 c).arrAt 7 cfg0.N (ix3 0 r j) = val_main_v13 (F := Ideal) (aP m c) (aN m c) (ix3 0 r j) := by
  obtain ⟨t, i, ht⟩ := point r
  have e := congrFun (blocks7 m c t (flush0_7 t)) (ix3 0 i j)
  rw [View.read_apply, flushed7] at e
  have hi : ((cfg0.win 7).blk t).view.emb (ix3 0 i j) = ix3 0 r j := by
    obtain ⟨e0, e1, e2⟩ := idx_o7 t
    funext a; apply Fin.ext
    match a with
    | ⟨0, _⟩ => show win0_7.index t 0 * 1 + 1 * 0 = 0; omega
    | ⟨1, _⟩ => show win0_7.index t 1 * 128 + 1 * i.val = r.val; omega
    | ⟨2, _⟩ => show win0_7.index t 2 * 1280 + 1 * j.val = j.val; omega
  rw [← hi]
  refine e.trans ?_
  rw [hi]
  show out0_7 (iblk m c 0 t) (iblk m c 1 t) (iblk m c 2 t) (iblk m c 3 t) (ix3 0 i j) = _
  exact out7 _ _ _ _ _ _ _ _ _ (fun g => blk_p m c t i r ht g j) (blk_v m c t i r ht j)
end

attribute [local instance] Cert.AdamIdeal.Gen.facts Cert.AdamRefIdeal.Gen.facts

/-- The claim. -/
theorem algebraic : Cert.algebraic_AdamIdeal_AdamRefIdeal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g, ?_⟩
  refine (θ_run _ _ _).mono (fun r h c => ?_) (Cert.AdamRefIdeal.Value.run m' g')
  obtain ⟨e0, e1, e2, e3, ks⟩ := h c
  obtain ⟨a0, a1, a2, a3⟩ := hargs c
  have same : ∀ (x y : S1x4096x1280.Idx → EReal), (∀ r j, y (ix3 0 r j) = x (ix3 0 r j)) → x = y := fun x y h => by
    funext i
    obtain ⟨u, r, j, rfl⟩ : ∃ (u : Fin 1) (r : Fin 4096) (j : Fin 1280), i = ix3 u r j := ⟨i 0, i 1, i 2, eq_ix3 i⟩
    obtain rfl := Subsingleton.elim u 0
    exact (h r j).symm
  refine ⟨e0.trans ?_, e1.trans ?_, e2.trans ?_, e3.trans ?_, ks⟩
  · rw [val_main_v2_eq, a0]
    exact same _ _ (final4 m c)
  · rw [val_main_v26_eq, a0, a1, a2, a3]
    exact same _ _ (final5 m c)
  · rw [val_main_v7_eq, a0, a2]
    exact same _ _ (final6 m c)
  · rw [val_main_v13_eq, a0, a3]
    exact same _ _ (final7 m c)

/-- The reference runs, keeps its arguments, and holds no semaphore. -/
theorem frame_r : Cert.quiescent_AdamRefIdeal := by
  intro m g _
  exact (θ_run Cert.AdamRefIdeal.defs _ _).mono
    (fun r h => ⟨fun c => (h c).2.2.2.2, sem_eq_zero_of_no_sems (by decide) r.2⟩) (Cert.AdamRefIdeal.Value.run m g)

end Cert.ProdAdam
-- ==== Proof.ProdDwIn.lean ====
/-
The weight gradient of the mixer's first projection. Each point of the launch takes five hundred channels by one of the eight
shards of columns, and sums over all the tokens at once.
-/
module

public import proofs.«01_k».proof.Defs
public import proofs.«01_k».proof.Proof.Gen.DwInIdeal.Value
public import proofs.«01_k».proof.Proof.Gen.DwInRefIdeal.Read
public import Idealize.ShloMosaic.Lib.Pointwise
public import Idealize.ShloMosaic.Lib.Pipeline.ValueKit.Basic

@[expose] public section

set_option maxRecDepth 16384

noncomputable section

namespace Cert.ProdDwIn

open Cert.DwInIdeal Cert.DwInIdeal.Gen Cert.DwInIdeal.Value Idealize.ShloMosaic Idealize.SL.Sem
open Idealize.ShloMosaic.TcCoe
open Cert.DwInRefIdeal.Read

/-- Column `j` of shard `b`, among all the columns. -/
abbrev col (b : Fin 8) (j : Fin 1280) : Fin 10240 := ⟨b.val * 1280 + j.val, by omega⟩

/-- What one point computes. -/
theorem pay_at (x : Vec Ideal S4096x512 .bf16) (y : Vec Ideal S4096x1280 .bf16) (r : Fin 512) (j : Fin 1280) :
    k0_pay1 x y (ix3 0 r j) = ∑ k : Fin 4096, x (ix2 k r) * y (ix2 k j) := by
  unfold k0_pay1
  pointwise

section
variable (m : (ℓ : Loc nD τ sig) → Buf (Elt Ideal) ℓ) (c : Dev nD)

/-- The activations, by token and channel. -/
abbrev aX : Vec Ideal S4096x4096 .bf16 := m ((c : Thread nD τ).loc main_arg0)
/-- The cotangent, by token and column. -/
abbrev aW : Vec Ideal S4096x10240 .bf16 := m ((c : Thread nD τ).loc main_arg1)

theorem idx_w : ∀ t : Fin cfg0.N, (win0_0.index t 0 = 0 ∧ win0_0.index t 1 = t.val % 8)
    ∧ (win0_1.index t 0 = 0 ∧ win0_1.index t 1 = t.val / 8)
    ∧ (win0_2.index t 0 = t.val / 8 ∧ win0_2.index t 1 = t.val % 8 ∧ win0_2.index t 2 = 0) :=
  (by decide +kernel : ∀ t : Fin grid0.N, (win0_0.index t 0 = 0 ∧ win0_0.index t 1 = t.val % 8)
    ∧ (win0_1.index t 0 = 0 ∧ win0_1.index t 1 = t.val / 8)
    ∧ (win0_2.index t 0 = t.val / 8 ∧ win0_2.index t 1 = t.val % 8 ∧ win0_2.index t 2 = 0))

theorem blk_x (t : Fin cfg0.N) (i : Fin 512) (r : Fin 4096) (hr : t.val % 8 * 512 + i.val = r.val) (k : Fin 4096) :
    iblk m c 0 t (ix2 k i) = aX m c (ix2 k r) := by
  unfold iblk
  rw [View.read_apply]
  obtain ⟨⟨e0, e1⟩, -⟩ := idx_w t
  refine (congrFun (V_main_arg0 m c) _).trans (congrArg (aX m c) ?_)
  funext a; apply Fin.ext
  match a with
  | ⟨0, _⟩ => show win0_0.index t 0 * 4096 + 1 * k.val = k.val; omega
  | ⟨1, _⟩ => show win0_0.index t 1 * 512 + 1 * i.val = r.val; omega

theorem blk_w (t : Fin cfg0.N) (b : Fin 8) (hb : t.val / 8 = b.val) (j : Fin 1280) (k : Fin 4096) :
    iblk m c 1 t (ix2 k j) = aW m c (ix2 k (col b j)) := by
  unfold iblk
  rw [View.read_apply]
  obtain ⟨-, ⟨e0, e1⟩, -⟩ := idx_w t
  refine (congrFun (V_main_arg1 m c) _).trans (congrArg (aW m c) ?_)
  funext a; apply Fin.ext
  match a with
  | ⟨0, _⟩ => show win0_1.index t 0 * 4096 + 1 * k.val = k.val; omega
  | ⟨1, _⟩ => show win0_1.index t 1 * 1280 + 1 * j.val = b.val * 1280 + j.val; omega

/-- What the launch leaves. -/
theorem final (b : Fin 8) (r : Fin 4096) (j : Fin 1280) :
    (dats m 0 c).arrAt 2 cfg0.N (ix3 b r j) = ∑ k : Fin 4096, aX m c (ix2 k r) * aW m c (ix2 k (col b j)) := by
  obtain ⟨t, ht⟩ : ∃ t : Fin cfg0.N, t.val = b.val * 8 + r.val / 512 :=
    ⟨⟨b.val * 8 + r.val / 512, lt_of_lt_of_eq (by omega) N_0.symm⟩, rfl⟩
  obtain ⟨i, hi'⟩ : ∃ i : Fin 512, i.val = r.val % 512 := ⟨⟨r.val % 512, Nat.mod_lt _ (by norm_num)⟩, rfl⟩
  have e := congrFun (blocks2 m c t (flush0_2 t)) (ix3 0 i j)
  rw [View.read_apply, flushed2] at e
  obtain ⟨-, -, e0, e1, e2⟩ := idx_w t
  have hi : ((cfg0.win 2).blk t).view.emb (ix3 0 i j) = ix3 b r j := by
    funext a; apply Fin.ext
    match a with
    | ⟨0, _⟩ => show win0_2.index t 0 * 1 + 1 * 0 = b.val; omega
    | ⟨1, _⟩ => show win0_2.index t 1 * 512 + 1 * i.val = r.val; omega
    | ⟨2, _⟩ => show win0_2.index t 2 * 1280 + 1 * j.val = j.val; omega
  rw [← hi]
  refine e.trans ?_
  show out0_2 (iblk m c 0 t) (iblk m c 1 t) (ix3 0 i j) = _
  unfold out0_2 r0_0 r0_1 r0_2
  rw [View.canon_cons_unit_lit _ _ _ (by decide), View.ld_unit_lit _ _ (by decide), View.ld_unit_lit _ _ (by decide), pay_at]
  refine Finset.sum_congr rfl fun k _ => ?_
  rw [blk_x m c t i r (by omega), blk_w m c t b (by omega)]
end

/-- What the reference computes. -/
theorem ref_at (x : Vec Ideal S4096x4096 .bf16) (w : Vec Ideal S4096x10240 .bf16) (b : Fin 8) (r : Fin 4096) (j : Fin 1280) :
    val_main_v8 (F := Ideal) x w (ix3 b r j) = ∑ k : Fin 4096, x (ix2 k r) * w (ix2 k (col b j)) := by
  rw [show (∑ k : Fin 4096, x (ix2 k r) * w (ix2 k (col b j))) = ∑ k : Fin 4096, w (ix2 k (col b j)) * x (ix2 k r) from
    Finset.sum_congr rfl fun k _ => mul_comm _ _]
  pointwise [val_main_v8, val_main_v7, val_main_v6, val_main_v5, val_main_v4, val_main_v3, val_main_v2, val_main_v1]

attribute [local instance] Cert.DwInIdeal.Gen.facts Cert.DwInRefIdeal.Gen.facts

/-- The claim. -/
theorem algebraic : Cert.algebraic_DwInIdeal_DwInRefIdeal := by
  intro m g m' g' _ hargs
  refine ⟨fun c => (dats m 0 c).arrAt 2 cfg0.N, run_blocks m g, ?_⟩
  refine (θ_run _ _ _).mono (fun r h c => ?_) (Cert.DwInRefIdeal.Value.run m' g')
  obtain ⟨e, ks⟩ := h c
  obtain ⟨a0, a1⟩ := hargs c
  refine ⟨e.trans ?_, ks⟩
  rw [val_main_v8_eq, a0, a1]
  funext y
  rw [ValueIdx.eq_ix3 y]
  exact (ref_at _ _ _ _ _).trans (final m c _ _ _).symm

/-- The reference runs, keeps its arguments, and holds no semaphore. -/
theorem frame_r : Cert.quiescent_DwInRefIdeal := by
  intro m g _
  exact (θ_run Cert.DwInRefIdeal.defs _ _).mono (fun r h => ⟨fun c => (h c).2, sem_eq_zero_of_no_sems (by decide) r.2⟩)
    (Cert.DwInRefIdeal.Value.run m g)

end Cert.ProdDwIn
-- ==== Proof.ProdQ.lean ====
/-
The projection to the queries. Each point of the launch takes a thousand rows of the result by a thousand columns,
and sums over all the channels at once.
-/
module

public import proofs.«01_k».proof.Defs
public import proofs.«01_k».proof.Proof.Gen.QIdeal.Value
public import proofs.«01_k».proof.Proof.Gen.QRefIdeal.Read
public import Idealize.ShloMosaic.Lib.Pointwise
public import Idealize.ShloMosaic.Lib.Pipeline.ValueKit.Basic

@[expose] public section

set_option maxRecDepth 16384

noncomputable section

namespace Cert.ProdQ

open Cert.QIdeal Cert.QIdeal.Gen Cert.QIdeal.Value Idealize.ShloMosaic Idealize.SL.Sem
open Idealize.ShloMosaic.TcCoe
open Cert.QRefIdeal.Read

/-- What one point computes. -/
theorem pay_at (x : Vec Ideal S1024x4096 .bf16) (y : Vec Ideal S4096x1024 .bf16) (r : Fin 1024) (j : Fin 1024) :
    k0_pay1 x y (ix2 r j) = (∑ k : Fin 4096, x (ix2 r k) * y (ix2 k j)) := by
  unfold k0_pay1
  pointwise

section
variable (m : (ℓ : Loc nD τ sig) → Buf (Elt Ideal) ℓ) (c : Dev nD)

/-- The activations, by token and channel. -/
abbrev aX : Vec Ideal S4096x4096 .bf16 := m ((c : Thread nD τ).loc main_arg0)
/-- The weight, by channel and column. -/
abbrev aW : Vec Ideal S4096x4096 .bf16 := m ((c : Thread nD τ).loc main_arg1)

theorem idx_w : ∀ t : Fin cfg0.N, (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4) :=
  (by decide +kernel : ∀ t : Fin grid0.N, (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4))

theorem blk_x (t : Fin cfg0.N) (i : Fin 1024) (r : Fin 4096) (hr : t.val / 4 * 1024 + i.val = r.val) (k : Fin 4096) :
    iblk m c 0 t (ix2 i k) = aX m c (ix2 r k) := by
  unfold iblk
  rw [View.read_apply]
  obtain ⟨⟨e0, e1⟩, -⟩ := idx_w t
  refine (congrFun (V_main_arg0 m c) _).trans (congrArg (aX m c) ?_)
  funext a; apply Fin.ext
  match a with
  | ⟨0, _⟩ => show win0_0.index t 0 * 1024 + 1 * i.val = r.val; omega
  | ⟨1, _⟩ => show win0_0.index t 1 * 4096 + 1 * k.val = k.val; omega

theorem blk_w (t : Fin cfg0.N) (j : Fin 1024) (cc : Fin 4096) (hc : t.val % 4 * 1024 + j.val = cc.val) (k : Fin 4096) :
    iblk m c 1 t (ix2 k j) = aW m c (ix2 k cc) := by
  unfold iblk
  rw [View.read_apply]
  obtain ⟨-, ⟨e0, e1⟩, -⟩ := idx_w t
  refine (congrFun (V_main_arg1 m c) _).trans (congrArg (aW m c) ?_)
  funext a; apply Fin.ext
  match a with
  | ⟨0, _⟩ => show win0_1.index t 0 * 4096 + 1 * k.val = k.val; omega
  | ⟨1, _⟩ => show win0_1.index t 1 * 1024 + 1 * j.val = cc.val; omega

/-- What the launch leaves. -/
theorem final (r cc : Fin 4096) :
    (dats m 0 c).arrAt 2 cfg0.N (ix2 r cc) = ∑ k : Fin 4096, aX m c (ix2 r k) * aW m c (ix2 k cc) := by
  obtain ⟨t, ht⟩ : ∃ t : Fin cfg0.N, t.val = r.val / 1024 * 4 + cc.val / 1024 :=
    ⟨⟨r.val / 1024 * 4 + cc.val / 1024, lt_of_lt_of_eq (by omega) N_0.symm⟩, rfl⟩
  obtain ⟨i, hi'⟩ : ∃ i : Fin 1024, i.val = r.val % 1024 := ⟨⟨r.val % 1024, Nat.mod_lt _ (by norm_num)⟩, rfl⟩
  obtain ⟨j, hj⟩ : ∃ j : Fin 1024, j.val = cc.val % 1024 := ⟨⟨cc.val % 1024, Nat.mod_lt _ (by norm_num)⟩, rfl⟩
  have e := congrFun (blocks2 m c t (flush0_2 t)) (ix2 i j)
  rw [View.read_apply, flushed2] at e
  obtain ⟨-, -, e0, e1⟩ := idx_w t
  have hi : ((cfg0.win 2).blk t).view.emb (ix2 i j) = ix2 r cc := by
    funext a; apply Fin.ext
    match a with
    | ⟨0, _⟩ => show win0_2.index t 0 * 1024 + 1 * i.val = r.val; omega
    | ⟨1, _⟩ => show win0_2.index t 1 * 1024 + 1 * j.val = cc.val; omega
  rw [← hi]
  refine e.trans ?_
  show out0_2 (iblk m c 0 t) (iblk m c 1 t) (ix2 i j) = _
  unfold out0_2 r0_0 r0_1 r0_2
  rw [View.canon_cons_unit_lit _ _ _ (by decide), View.ld_unit_lit _ _ (by decide), View.ld_unit_lit _ _ (by decide), pay_at]
  refine Finset.sum_congr rfl fun k _ => ?_
  rw [blk_x m c t i r (by omega), blk_w m c t j cc (by omega)]
end

/-- What the reference computes. -/
theorem ref_at (x w : Vec Ideal S4096x4096 .bf16) (r cc : Fin 4096) :
    val_main_v3 (F := Ideal) x w (ix2 r cc) = ∑ k : Fin 4096, x (ix2 r k) * w (ix2 k cc) := by
  pointwise [val_main_v3, val_main_v2, val_main_v1, val_main_v0]

attribute [local instance] Cert.QIdeal.Gen.facts Cert.QRefIdeal.Gen.facts

/-- The claim. -/
theorem algebraic : Cert.algebraic_QIdeal_QRefIdeal := by
  intro m g m' g' _ hargs
  refine ⟨fun c => (dats m 0 c).arrAt 2 cfg0.N, run_blocks m g, ?_⟩
  refine (θ_run _ _ _).mono (fun r h c => ?_) (Cert.QRefIdeal.Value.run m' g')
  obtain ⟨e, ks⟩ := h c
  obtain ⟨a0, a1⟩ := hargs c
  refine ⟨e.trans ?_, ks⟩
  rw [val_main_v3_eq, a0, a1]
  funext y
  rw [ValueIdx.eq_ix2 y]
  exact (ref_at _ _ _ _).trans (final m c _ _).symm

/-- The reference runs, keeps its arguments, and holds no semaphore. -/
theorem frame_r : Cert.quiescent_QRefIdeal := by
  intro m g _
  exact (θ_run Cert.QRefIdeal.defs _ _).mono (fun r h => ⟨fun c => (h c).2, sem_eq_zero_of_no_sems (by decide) r.2⟩)
    (Cert.QRefIdeal.Value.run m g)

end Cert.ProdQ
-- ==== Proof.ProdH2.lean ====
/-
The attention's output projection with its residual. Each point of the launch takes a thousand rows of the result by a thousand
columns, sums over all the channels at once, and adds the residual.
-/
module

public import proofs.«01_k».proof.Defs
public import proofs.«01_k».proof.Proof.Gen.H2Ideal.Value
public import proofs.«01_k».proof.Proof.Gen.H2RefIdeal.Read
public import Idealize.ShloMosaic.Lib.Pointwise
public import Idealize.ShloMosaic.Lib.Pipeline.ValueKit.Basic

@[expose] public section

set_option maxRecDepth 16384

noncomputable section

namespace Cert.ProdH2

open Cert.H2Ideal Cert.H2Ideal.Gen Cert.H2Ideal.Value Idealize.ShloMosaic Idealize.SL.Sem
open Idealize.ShloMosaic.TcCoe
open Cert.H2RefIdeal.Read

/-- What one point computes. -/
theorem pay_at (x : Vec Ideal S1024x4096 .bf16) (y : Vec Ideal S4096x1024 .bf16) (h : Vec Ideal S1024x1024 .f32) (r : Fin 1024) (j : Fin 1024) :
    k0_pay1 x y h (ix2 r j) = (∑ k : Fin 4096, x (ix2 r k) * y (ix2 k j)) + h (ix2 r j) := by
  unfold k0_pay1
  pointwise

section
variable (m : (ℓ : Loc nD τ sig) → Buf (Elt Ideal) ℓ) (c : Dev nD)

/-- The activations, by token and channel. -/
abbrev aX : Vec Ideal S4096x4096 .bf16 := m ((c : Thread nD τ).loc main_arg0)
/-- The weight, by channel and column. -/
abbrev aW : Vec Ideal S4096x4096 .bf16 := m ((c : Thread nD τ).loc main_arg1)
/-- The residual. -/
abbrev aH : Vec Ideal S4096x4096 .f32 := m ((c : Thread nD τ).loc main_arg2)

theorem idx_w : ∀ t : Fin cfg0.N, (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4)
    ∧ (win0_3.index t 0 = t.val / 4 ∧ win0_3.index t 1 = t.val % 4) :=
  (by decide +kernel : ∀ t : Fin grid0.N, (win0_0.index t 0 = t.val / 4 ∧ win0_0.index t 1 = 0)
    ∧ (win0_1.index t 0 = 0 ∧ win0_1.index t 1 = t.val % 4)
    ∧ (win0_2.index t 0 = t.val / 4 ∧ win0_2.index t 1 = t.val % 4)
    ∧ (win0_3.index t 0 = t.val / 4 ∧ win0_3.index t 1 = t.val % 4))

theorem blk_x (t : Fin cfg0.N) (i : Fin 1024) (r : Fin 4096) (hr : t.val / 4 * 1024 + i.val = r.val) (k : Fin 4096) :
    iblk m c 0 t (ix2 i k) = aX m c (ix2 r k) := by
  unfold iblk
  rw [View.read_apply]
  obtain ⟨⟨e0, e1⟩, -⟩ := idx_w t
  refine (congrFun (V_main_arg0 m c) _).trans (congrArg (aX m c) ?_)
  funext a; apply Fin.ext
  match a with
  | ⟨0, _⟩ => show win0_0.index t 0 * 1024 + 1 * i.val = r.val; omega
  | ⟨1, _⟩ => show win0_0.index t 1 * 4096 + 1 * k.val = k.val; omega

theorem blk_w (t : Fin cfg0.N) (j : Fin 1024) (cc : Fin 4096) (hc : t.val % 4 * 1024 + j.val = cc.val) (k : Fin 4096) :
    iblk m c 1 t (ix2 k j) = aW m c (ix2 k cc) := by
  unfold iblk
  rw [View.read_apply]
  obtain ⟨-, ⟨e0, e1⟩, -⟩ := idx_w t
  refine (congrFun (V_main_arg1 m c) _).trans (congrArg (aW m c) ?_)
  funext a; apply Fin.ext
  match a with
  | ⟨0, _⟩ => show win0_1.index t 0 * 4096 + 1 * k.val = k.val; omega
  | ⟨1, _⟩ => show win0_1.index t 1 * 1024 + 1 * j.val = cc.val; omega

theorem blk_h (t : Fin cfg0.N) (i : Fin 1024) (r : Fin 4096) (hr : t.val / 4 * 1024 + i.val = r.val)
    (j : Fin 1024) (cc : Fin 4096) (hc : t.val % 4 * 1024 + j.val = cc.val) :
    iblk m c 2 t (ix2 i j) = aH m c (ix2 r cc) := by
  unfold iblk
  rw [View.read_apply]
  obtain ⟨-, -, ⟨e0, e1⟩, -⟩ := idx_w t
  refine (congrFun (V_main_arg2 m c) _).trans (congrArg (aH m c) ?_)
  funext a; apply Fin.ext
  match a with
  | ⟨0, _⟩ => show win0_2.index t 0 * 1024 + 1 * i.val = r.val; omega
  | ⟨1, _⟩ => show win0_2.index t 1 * 1024 + 1 * j.val = cc.val; omega

/-- What the launch leaves. -/
theorem final (r cc : Fin 4096) :
    (dats m 0 c).arrAt 3 cfg0.N (ix2 r cc) = (∑ k : Fin 4096, aX m c (ix2 r k) * aW m c (ix2 k cc)) + aH m c (ix2 r cc) := by
  obtain ⟨t, ht⟩ : ∃ t : Fin cfg0.N, t.val = r.val / 1024 * 4 + cc.val / 1024 :=
    ⟨⟨r.val / 1024 * 4 + cc.val / 1024, lt_of_lt_of_eq (by omega) N_0.symm⟩, rfl⟩
  obtain ⟨i, hi'⟩ : ∃ i : Fin 1024, i.val = r.val % 1024 := ⟨⟨r.val % 1024, Nat.mod_lt _ (by norm_num)⟩, rfl⟩
  obtain ⟨j, hj⟩ : ∃ j : Fin 1024, j.val = cc.val % 1024 := ⟨⟨cc.val % 1024, Nat.mod_lt _ (by norm_num)⟩, rfl⟩
  have e := congrFun (blocks3 m c t (flush0_3 t)) (ix2 i j)
  rw [View.read_apply, flushed3] at e
  obtain ⟨-, -, -, e0, e1⟩ := idx_w t
  have hi : ((cfg0.win 3).blk t).view.emb (ix2 i j) = ix2 r cc := by
    funext a; apply Fin.ext
    match a with
    | ⟨0, _⟩ => show win0_3.index t 0 * 1024 + 1 * i.val = r.val; omega
    | ⟨1, _⟩ => show win0_3.index t 1 * 1024 + 1 * j.val = cc.val; omega
  refine (congrArg ((dats m 0 c).arrAt 3 cfg0.N) hi.symm).trans (e.trans ?_)
  show out0_3 (iblk m c 0 t) (iblk m c 1 t) (iblk m c 2 t) (ix2 i j) = _
  unfold out0_3 r0_0 r0_1 r0_2
  rw [View.canon_cons_unit_lit _ _ _ (by decide), View.ld_unit_lit _ _ (by decide), View.ld_unit_lit _ _ (by decide), View.ld_unit_lit _ _ (by decide), pay_at]
  rw [blk_h m c t i r (by omega) j cc (by omega)]
  congr 1
  refine Finset.sum_congr rfl fun k _ => ?_
  rw [blk_x m c t i r (by omega), blk_w m c t j cc (by omega)]
end

/-- What the reference computes. -/
theorem ref_at (x w : Vec Ideal S4096x4096 .bf16) (h : Vec Ideal S4096x4096 .f32) (r cc : Fin 4096) :
    val_main_v3 (F := Ideal) x w h (ix2 r cc) = h (ix2 r cc) + ∑ k : Fin 4096, x (ix2 r k) * w (ix2 k cc) := by
  pointwise [val_main_v3, val_main_v2, val_main_v1, val_main_v0]

attribute [local instance] Cert.H2Ideal.Gen.facts Cert.H2RefIdeal.Gen.facts

/-- The claim. -/
theorem algebraic : Cert.algebraic_H2Ideal_H2RefIdeal := by
  intro m g m' g' _ hargs
  refine ⟨fun c => (dats m 0 c).arrAt 3 cfg0.N, run_blocks m g, ?_⟩
  refine (θ_run _ _ _).mono (fun r h c => ?_) (Cert.H2RefIdeal.Value.run m' g')
  obtain ⟨e, ks⟩ := h c
  obtain ⟨a0, a1, a2⟩ := hargs c
  refine ⟨e.trans ?_, ks⟩
  rw [val_main_v3_eq, a0, a1, a2]
  funext y
  rw [ValueIdx.eq_ix2 y]
  exact (ref_at _ _ _ _ _).trans ((add_comm _ _).trans (final m c _ _).symm)

/-- The reference runs, keeps its arguments, and holds no semaphore. -/
theorem frame_r : Cert.quiescent_H2RefIdeal := by
  intro m g _
  exact (θ_run Cert.H2RefIdeal.defs _ _).mono (fun r h => ⟨fun c => (h c).2, sem_eq_zero_of_no_sems (by decide) r.2⟩)
    (Cert.H2RefIdeal.Value.run m g)

end Cert.ProdH2
-- ==== Proof.ProdH1.lean ====
/-
The mixer's output projection with its residual. The activations and the weight come in two halves of channels; each point
of the launch takes a thousand rows by five hundred columns, adds the two halves' products, and adds the residual.
-/
module

public import proofs.«01_k».proof.Defs
public import proofs.«01_k».proof.Proof.Gen.H1Ideal.Value
public import proofs.«01_k».proof.Proof.Gen.H1RefIdeal.Read
public import Idealize.ShloMosaic.Lib.Pointwise
public import Idealize.ShloMosaic.Lib.Pipeline.ValueKit.Basic

@[expose] public section

set_option maxRecDepth 16384

noncomputable section

namespace Cert.ProdH1

open Cert.H1Ideal Cert.H1Ideal.Gen Cert.H1Ideal.Value Idealize.ShloMosaic Idealize.SL.Sem
open Idealize.ShloMosaic.TcCoe
open Cert.H1RefIdeal.Read

/-- Channel `k` of half `u`, among all the channels. -/
abbrev chan (u : Fin 2) (k : Fin 2048) : Fin 4096 := ⟨u.val * 2048 + k.val, by omega⟩

/-- A sum over the channels is the sum of the halves' sums. -/
theorem sum_halves (f : Fin 4096 → EReal) : ∑ j, f j = ∑ k, f (chan 0 k) + ∑ k, f (chan 1 k) := by
  rw [← Fin.sum_univ_two (fun u => ∑ k, f (chan u k)), ← Fintype.sum_prod_type', ← (finProdFinEquiv (m := 2) (n := 2048)).sum_comp f]
  refine Finset.sum_congr rfl fun x _ => congrArg f (Fin.ext ?_)
  show x.2.val + 2048 * x.1.val = x.1.val * 2048 + x.2.val
  omega

/-- What one point computes. -/
theorem pay_at (x x' : Vec Ideal S1x1024x2048 .bf16) (y y' : Vec Ideal S1x2048x512 .bf16) (h : Vec Ideal S1024x512 .f32)
    (r : Fin 1024) (j : Fin 512) :
    k0_pay1 x y x' y' h (ix2 r j)
      = ((∑ k : Fin 2048, x (ix3 0 r k) * y (ix3 0 k j)) + ∑ k : Fin 2048, x' (ix3 0 r k) * y' (ix3 0 k j)) + h (ix2 r j) := by
  unfold k0_pay1
  pointwise

/-- A half of a block of the two. -/
theorem ld_x (x : Vec Ideal S2x1024x2048 .bf16) (g : Fin 2) (o : ℕ) (ho : o = g.val) (inb) (r : Fin 1024) (k : Fin 2048) :
    View.ld x (Rect.unit (s := S2x1024x2048) ![o, 0, 0] S1x1024x2048.size inb) (ix3 0 r k) = x (ix3 g r k) := by
  refine congrArg x ?_
  funext a; apply Fin.ext
  match a with
  | ⟨0, _⟩ => show o + 1 * 0 = g.val; omega
  | ⟨1, _⟩ => show 0 + 1 * r.val = r.val; omega
  | ⟨2, _⟩ => show 0 + 1 * k.val = k.val; omega

theorem ld_w (x : Vec Ideal S2x2048x512 .bf16) (g : Fin 2) (o : ℕ) (ho : o = g.val) (inb) (k : Fin 2048) (j : Fin 512) :
    View.ld x (Rect.unit (s := S2x2048x512) ![o, 0, 0] S1x2048x512.size inb) (ix3 0 k j) = x (ix3 g k j) := by
  refine congrArg x ?_
  funext a; apply Fin.ext
  match a with
  | ⟨0, _⟩ => show o + 1 * 0 = g.val; omega
  | ⟨1, _⟩ => show 0 + 1 * k.val = k.val; omega
  | ⟨2, _⟩ => show 0 + 1 * j.val = j.val; omega

/-- What one point computes, from its blocks of the two halves. -/
theorem out_at (x : Vec Ideal S2x1024x2048 .bf16) (w : Vec Ideal S2x2048x512 .bf16) (h : Vec Ideal S1024x512 .f32) (i : Fin 1024) (j : Fin 512) :
    out0_3 x w h (ix2 i j)
      = ((∑ k, x (ix3 0 i k) * w (ix3 0 k j)) + ∑ k, x (ix3 1 i k) * w (ix3 1 k j)) + h (ix2 i j) := by
  unfold out0_3 r0_4
  rw [View.canon_cons_unit_lit _ _ _ (by decide), View.ld_unit_lit _ _ (by decide), pay_at]
  exact congrArg₂ (fun a b : EReal => a + b)
    (congrArg₂ (fun a b : EReal => a + b)
      (Finset.sum_congr rfl fun k _ => congrArg₂ (fun a b : EReal => a * b) (ld_x x 0 0 rfl _ i k) (ld_w w 0 0 rfl _ k j))
      (Finset.sum_congr rfl fun k _ => congrArg₂ (fun a b : EReal => a * b) (ld_x x 1 1 rfl _ i k) (ld_w w 1 1 rfl _ k j))) rfl

section
variable (m : (ℓ : Loc nD τ sig) → Buf (Elt Ideal) ℓ) (c : Dev nD)

/-- The activations, by token and channel. -/
abbrev aX : Vec Ideal S4096x4096 .bf16 := m ((c : Thread nD τ).loc main_arg0)
/-- The weight, by channel and column. -/
abbrev aW : Vec Ideal S4096x4096 .bf16 := m ((c : Thread nD τ).loc main_arg1)
/-- The residual. -/
abbrev aH : Vec Ideal S4096x4096 .f32 := m ((c : Thread nD τ).loc main_arg2)

/-- The activations and the weight are laid out half by half before the launch. -/
theorem V_v1 (b : Fin 2) (r : Fin 4096) (k : Fin 2048) : V m c main_v1 (ix3 b r k) = aX m c (ix2 r (chan b k)) := by
  have e : V m c main_v1 = transpose S2x4096x2048 [1, 0, 2] (shapeCast S4096x2x2048 (aX m c) shapeCasts_S4096x4096_S4096x2x2048)
      transposes_S4096x2x2048_S2x4096x2048_1_0_2 := by
    unfold V
    after_results <;> rfl
  rw [e]
  pointwise

theorem V_v2 (b : Fin 2) (k : Fin 2048) (j : Fin 4096) : V m c main_v2 (ix3 b k j) = aW m c (ix2 (chan b k) j) := by
  have e : V m c main_v2 = shapeCast S2x2048x4096 (aW m c) shapeCasts_S4096x4096_S2x2048x4096 := by
    unfold V
    after_results <;> rfl
  rw [e]
  pointwise

theorem idx_w : ∀ t : Fin cfg0.N, (win0_0.index t 0 = 0 ∧ win0_0.index t 1 = t.val / 8 ∧ win0_0.index t 2 = 0)
    ∧ (win0_1.index t 0 = 0 ∧ win0_1.index t 1 = 0 ∧ win0_1.index t 2 = t.val % 8)
    ∧ (win0_2.index t 0 = t.val / 8 ∧ win0_2.index t 1 = t.val % 8)
    ∧ (win0_3.index t 0 = t.val / 8 ∧ win0_3.index t 1 = t.val % 8) :=
  (by decide +kernel : ∀ t : Fin grid0.N, (win0_0.index t 0 = 0 ∧ win0_0.index t 1 = t.val / 8 ∧ win0_0.index t 2 = 0)
    ∧ (win0_1.index t 0 = 0 ∧ win0_1.index t 1 = 0 ∧ win0_1.index t 2 = t.val % 8)
    ∧ (win0_2.index t 0 = t.val / 8 ∧ win0_2.index t 1 = t.val % 8)
    ∧ (win0_3.index t 0 = t.val / 8 ∧ win0_3.index t 1 = t.val % 8))

theorem blk_x (t : Fin cfg0.N) (g : Fin 2) (i : Fin 1024) (r : Fin 4096) (hr : t.val / 8 * 1024 + i.val = r.val) (k : Fin 2048) :
    iblk m c 0 t (ix3 g i k) = aX m c (ix2 r (chan g k)) := by
  unfold iblk
  rw [View.read_apply, ← V_v1]
  obtain ⟨⟨e0, e1, e2⟩, -⟩ := idx_w t
  show V m c main_v1 _ = _
  congr 1
  funext a; apply Fin.ext
  match a with
  | ⟨0, _⟩ => show win0_0.index t 0 * 2 + 1 * g.val = g.val; omega
  | ⟨1, _⟩ => show win0_0.index t 1 * 1024 + 1 * i.val = r.val; omega
  | ⟨2, _⟩ => show win0_0.index t 2 * 2048 + 1 * k.val = k.val; omega

theorem blk_w (t : Fin cfg0.N) (g : Fin 2) (j : Fin 512) (cc : Fin 4096) (hc : t.val % 8 * 512 + j.val = cc.val) (k : Fin 2048) :
    iblk m c 1 t (ix3 g k j) = aW m c (ix2 (chan g k) cc) := by
  unfold iblk
  rw [View.read_apply, ← V_v2]
  obtain ⟨-, ⟨e0, e1, e2⟩, -⟩ := idx_w t
  show V m c main_v2 _ = _
  congr 1
  funext a; apply Fin.ext
  match a with
  | ⟨0, _⟩ => show win0_1.index t 0 * 2 + 1 * g.val = g.val; omega
  | ⟨1, _⟩ => show win0_1.index t 1 * 2048 + 1 * k.val = k.val; omega
  | ⟨2, _⟩ => show win0_1.index t 2 * 512 + 1 * j.val = cc.val; omega

theorem blk_h (t : Fin cfg0.N) (i : Fin 1024) (r : Fin 4096) (hr : t.val / 8 * 1024 + i.val = r.val)
    (j : Fin 512) (cc : Fin 4096) (hc : t.val % 8 * 512 + j.val = cc.val) :
    iblk m c 2 t (ix2 i j) = aH m c (ix2 r cc) := by
  unfold iblk
  rw [View.read_apply]
  obtain ⟨-, -, ⟨e0, e1⟩, -⟩ := idx_w t
  refine (congrFun (V_main_arg2 m c) _).trans (congrArg (aH m c) ?_)
  funext a; apply Fin.ext
  match a with
  | ⟨0, _⟩ => show win0_2.index t 0 * 1024 + 1 * i.val = r.val; omega
  | ⟨1, _⟩ => show win0_2.index t 1 * 512 + 1 * j.val = cc.val; omega

/-- What the launch leaves. -/
theorem final (r cc : Fin 4096) :
    (dats m 0 c).arrAt 3 cfg0.N (ix2 r cc) = (∑ k : Fin 4096, aX m c (ix2 r k) * aW m c (ix2 k cc)) + aH m c (ix2 r cc) := by
  obtain ⟨t, ht⟩ : ∃ t : Fin cfg0.N, t.val = r.val / 1024 * 8 + cc.val / 512 :=
    ⟨⟨r.val / 1024 * 8 + cc.val / 512, lt_of_lt_of_eq (by omega) N_0.symm⟩, rfl⟩
  obtain ⟨i, hi'⟩ : ∃ i : Fin 1024, i.val = r.val % 1024 := ⟨⟨r.val % 1024, Nat.mod_lt _ (by norm_num)⟩, rfl⟩
  obtain ⟨j, hj⟩ : ∃ j : Fin 512, j.val = cc.val % 512 := ⟨⟨cc.val % 512, Nat.mod_lt _ (by norm_num)⟩, rfl⟩
  have e := congrFun (blocks3 m c t (flush0_3 t)) (ix2 i j)
  rw [View.read_apply, flushed3] at e
  obtain ⟨-, -, -, e0, e1⟩ := idx_w t
  have hi : ((cfg0.win 3).blk t).view.emb (ix2 i j) = ix2 r cc := by
    funext a; apply Fin.ext
    match a with
    | ⟨0, _⟩ => show win0_3.index t 0 * 1024 + 1 * i.val = r.val; omega
    | ⟨1, _⟩ => show win0_3.index t 1 * 512 + 1 * j.val = cc.val; omega
  refine (congrArg ((dats m 0 c).arrAt 3 cfg0.N) hi.symm).trans (e.trans ?_)
  show out0_3 (iblk m c 0 t) (iblk m c 1 t) (iblk m c 2 t) (ix2 i j) = _
  rw [out_at, sum_halves]
  simp only [blk_x m c t _ i r (show t.val / 8 * 1024 + i.val = r.val by omega),
    blk_w m c t _ j cc (show t.val % 8 * 512 + j.val = cc.val by omega), blk_h m c t i r (show t.val / 8 * 1024 + i.val = r.val by omega) j cc (by omega)]
end

/-- What the reference computes. -/
theorem ref_at (x w : Vec Ideal S4096x4096 .bf16) (h : Vec Ideal S4096x4096 .f32) (r cc : Fin 4096) :
    val_main_v3 (F := Ideal) x w h (ix2 r cc) = h (ix2 r cc) + ∑ k : Fin 4096, x (ix2 r k) * w (ix2 k cc) := by
  pointwise [val_main_v3, val_main_v2, val_main_v1, val_main_v0]

attribute [local instance] Cert.H1Ideal.Gen.facts Cert.H1RefIdeal.Gen.facts

/-- The claim. -/
theorem algebraic : Cert.algebraic_H1Ideal_H1RefIdeal := by
  intro m g m' g' _ hargs
  refine ⟨fun c => (dats m 0 c).arrAt 3 cfg0.N, run_blocks m g, ?_⟩
  refine (θ_run _ _ _).mono (fun r h c => ?_) (Cert.H1RefIdeal.Value.run m' g')
  obtain ⟨e, ks⟩ := h c
  obtain ⟨a0, a1, a2⟩ := hargs c
  refine ⟨e.trans ?_, ks⟩
  rw [val_main_v3_eq, a0, a1, a2]
  funext y
  rw [ValueIdx.eq_ix2 y]
  exact (ref_at _ _ _ _ _).trans ((add_comm _ _).trans (final m c _ _).symm)

/-- The reference runs, keeps its arguments, and holds no semaphore. -/
theorem frame_r : Cert.quiescent_H1RefIdeal := by
  intro m g _
  exact (θ_run Cert.H1RefIdeal.defs _ _).mono (fun r h => ⟨fun c => (h c).2, sem_eq_zero_of_no_sems (by decide) r.2⟩)
    (Cert.H1RefIdeal.Value.run m g)

end Cert.ProdH1
-- ==== Proof.ProdDo.lean ====
/-
The gradient through the attention's output projection. Each point of the launch takes a thousand rows of the result by a
thousand columns: rows of the cotangent by rows of the weight.
-/
module

public import proofs.«01_k».proof.Defs
public import proofs.«01_k».proof.Proof.Gen.DoIdeal.Value
public import proofs.«01_k».proof.Proof.Gen.DoRefIdeal.Read
public import Idealize.ShloMosaic.Lib.Pointwise
public import Idealize.ShloMosaic.Lib.Pipeline.ValueKit.Basic

@[expose] public section

set_option maxRecDepth 16384

noncomputable section

namespace Cert.ProdDo

open Cert.DoIdeal Cert.DoIdeal.Gen Cert.DoIdeal.Value Idealize.ShloMosaic Idealize.SL.Sem
open Idealize.ShloMosaic.TcCoe
open Cert.DoRefIdeal.Read

/-- What one point computes. -/
theorem pay_at (x : Vec Ideal S1024x4096 .bf16) (y : Vec Ideal S1024x4096 .bf16) (r : Fin 1024) (j : Fin 1024) :
    k0_pay1 x y (ix2 r j) = (∑ k : Fin 4096, x (ix2 r k) * y (ix2 j k)) := by
  unfold k0_pay1
  pointwise

section
variable (m : (ℓ : Loc nD τ sig) → Buf (Elt Ideal) ℓ) (c : Dev nD)

/-- The cotangent, by token and column. -/
abbrev aX : Vec Ideal S4096x4096 .bf16 := m ((c : Thread nD τ).loc main_arg0)
/-- The weight, by channel and column. -/
abbrev aW : Vec Ideal S4096x4096 .bf16 := m ((c : Thread nD τ).loc main_arg1)

theorem idx_w : ∀ t : Fin cfg0.N, (win0_0.index t 0 = t.val / 4 ∧ win0_0.index t 1 = 0)
    ∧ (win0_1.index t 0 = t.val % 4 ∧ win0_1.index t 1 = 0)
    ∧ (win0_2.index t 0 = t.val / 4 ∧ win0_2.index t 1 = t.val % 4) :=
  (by decide +kernel : ∀ t : Fin grid0.N, (win0_0.index t 0 = t.val / 4 ∧ win0_0.index t 1 = 0)
    ∧ (win0_1.index t 0 = t.val % 4 ∧ win0_1.index t 1 = 0)
    ∧ (win0_2.index t 0 = t.val / 4 ∧ win0_2.index t 1 = t.val % 4))

theorem blk_x (t : Fin cfg0.N) (i : Fin 1024) (r : Fin 4096) (hr : t.val / 4 * 1024 + i.val = r.val) (k : Fin 4096) :
    iblk m c 0 t (ix2 i k) = aX m c (ix2 r k) := by
  unfold iblk
  rw [View.read_apply]
  obtain ⟨⟨e0, e1⟩, -⟩ := idx_w t
  refine (congrFun (V_main_arg0 m c) _).trans (congrArg (aX m c) ?_)
  funext a; apply Fin.ext
  match a with
  | ⟨0, _⟩ => show win0_0.index t 0 * 1024 + 1 * i.val = r.val; omega
  | ⟨1, _⟩ => show win0_0.index t 1 * 4096 + 1 * k.val = k.val; omega

theorem blk_w (t : Fin cfg0.N) (j : Fin 1024) (cc : Fin 4096) (hc : t.val % 4 * 1024 + j.val = cc.val) (k : Fin 4096) :
    iblk m c 1 t (ix2 j k) = aW m c (ix2 cc k) := by
  unfold iblk
  rw [View.read_apply]
  obtain ⟨-, ⟨e0, e1⟩, -⟩ := idx_w t
  refine (congrFun (V_main_arg1 m c) _).trans (congrArg (aW m c) ?_)
  funext a; apply Fin.ext
  match a with
  | ⟨0, _⟩ => show win0_1.index t 0 * 1024 + 1 * j.val = cc.val; omega
  | ⟨1, _⟩ => show win0_1.index t 1 * 4096 + 1 * k.val = k.val; omega

/-- What the launch leaves. -/
theorem final (r cc : Fin 4096) :
    (dats m 0 c).arrAt 2 cfg0.N (ix2 r cc) = ∑ k : Fin 4096, aX m c (ix2 r k) * aW m c (ix2 cc k) := by
  obtain ⟨t, ht⟩ : ∃ t : Fin cfg0.N, t.val = r.val / 1024 * 4 + cc.val / 1024 :=
    ⟨⟨r.val / 1024 * 4 + cc.val / 1024, lt_of_lt_of_eq (by omega) N_0.symm⟩, rfl⟩
  obtain ⟨i, hi'⟩ : ∃ i : Fin 1024, i.val = r.val % 1024 := ⟨⟨r.val % 1024, Nat.mod_lt _ (by norm_num)⟩, rfl⟩
  obtain ⟨j, hj⟩ : ∃ j : Fin 1024, j.val = cc.val % 1024 := ⟨⟨cc.val % 1024, Nat.mod_lt _ (by norm_num)⟩, rfl⟩
  have e := congrFun (blocks2 m c t (flush0_2 t)) (ix2 i j)
  rw [View.read_apply, flushed2] at e
  obtain ⟨-, -, e0, e1⟩ := idx_w t
  have hi : ((cfg0.win 2).blk t).view.emb (ix2 i j) = ix2 r cc := by
    funext a; apply Fin.ext
    match a with
    | ⟨0, _⟩ => show win0_2.index t 0 * 1024 + 1 * i.val = r.val; omega
    | ⟨1, _⟩ => show win0_2.index t 1 * 1024 + 1 * j.val = cc.val; omega
  rw [← hi]
  refine e.trans ?_
  show out0_2 (iblk m c 0 t) (iblk m c 1 t) (ix2 i j) = _
  unfold out0_2 r0_0 r0_1
  rw [View.canon_cons_unit_lit _ _ _ (by decide), View.ld_unit_lit _ _ (by decide), View.ld_unit_lit _ _ (by decide), pay_at]
  refine Finset.sum_congr rfl fun k _ => ?_
  rw [blk_x m c t i r (by omega), blk_w m c t j cc (by omega)]
end

/-- What the reference computes. -/
theorem ref_at (x w : Vec Ideal S4096x4096 .bf16) (r cc : Fin 4096) :
    val_main_v5 (F := Ideal) x w (ix2 r cc) = ∑ k : Fin 4096, x (ix2 r k) * w (ix2 cc k) := by
  pointwise [val_main_v5, val_main_v4, val_main_v3, val_main_v2, val_main_v1]

attribute [local instance] Cert.DoIdeal.Gen.facts Cert.DoRefIdeal.Gen.facts

/-- The claim. -/
theorem algebraic : Cert.algebraic_DoIdeal_DoRefIdeal := by
  intro m g m' g' _ hargs
  refine ⟨fun c => (dats m 0 c).arrAt 2 cfg0.N, run_blocks m g, ?_⟩
  refine (θ_run _ _ _).mono (fun r h c => ?_) (Cert.DoRefIdeal.Value.run m' g')
  obtain ⟨e, ks⟩ := h c
  obtain ⟨a0, a1⟩ := hargs c
  refine ⟨e.trans ?_, ks⟩
  rw [val_main_v5_eq, a0, a1]
  funext y
  rw [ValueIdx.eq_ix2 y]
  exact (ref_at _ _ _ _).trans (final m c _ _).symm

/-- The reference runs, keeps its arguments, and holds no semaphore. -/
theorem frame_r : Cert.quiescent_DoRefIdeal := by
  intro m g _
  exact (θ_run Cert.DoRefIdeal.defs _ _).mono (fun r h => ⟨fun c => (h c).2, sem_eq_zero_of_no_sems (by decide) r.2⟩)
    (Cert.DoRefIdeal.Value.run m g)

end Cert.ProdDo
-- ==== Proof.ProdDxn2.lean ====
/-
The gradient through the projection to the queries. Each point of the launch takes a thousand rows of the result by five hundred
columns: rows of the cotangent by rows of the weight.
-/
module

public import proofs.«01_k».proof.Defs
public import proofs.«01_k».proof.Proof.Gen.Dxn2Ideal.Value
public import proofs.«01_k».proof.Proof.Gen.Dxn2RefIdeal.Read
public import Idealize.ShloMosaic.Lib.Pointwise
public import Idealize.ShloMosaic.Lib.Pipeline.ValueKit.Basic

@[expose] public section

set_option maxRecDepth 16384

noncomputable section

namespace Cert.ProdDxn2

open Cert.Dxn2Ideal Cert.Dxn2Ideal.Gen Cert.Dxn2Ideal.Value Idealize.ShloMosaic Idealize.SL.Sem
open Idealize.ShloMosaic.TcCoe
open Cert.Dxn2RefIdeal.Read

/-- What one point computes. -/
theorem pay_at (x : Vec Ideal S1024x4096 .bf16) (y : Vec Ideal S512x4096 .bf16) (r : Fin 1024) (j : Fin 512) :
    k0_pay1 x y (ix2 r j) = (∑ k : Fin 4096, x (ix2 r k) * y (ix2 j k)) := by
  unfold k0_pay1
  pointwise

section
variable (m : (ℓ : Loc nD τ sig) → Buf (Elt Ideal) ℓ) (c : Dev nD)

/-- The cotangent, by token and column. -/
abbrev aX : Vec Ideal S4096x4096 .bf16 := m ((c : Thread nD τ).loc main_arg0)
/-- The weight, by channel and column. -/
abbrev aW : Vec Ideal S4096x4096 .bf16 := m ((c : Thread nD τ).loc main_arg1)

theorem idx_w : ∀ t : Fin cfg0.N, (win0_0.index t 0 = t.val / 8 ∧ win0_0.index t 1 = 0)
    ∧ (win0_1.index t 0 = t.val % 8 ∧ win0_1.index t 1 = 0)
    ∧ (win0_2.index t 0 = t.val / 8 ∧ win0_2.index t 1 = t.val % 8) :=
  (by decide +kernel : ∀ t : Fin grid0.N, (win0_0.index t 0 = t.val / 8 ∧ win0_0.index t 1 = 0)
    ∧ (win0_1.index t 0 = t.val % 8 ∧ win0_1.index t 1 = 0)
    ∧ (win0_2.index t 0 = t.val / 8 ∧ win0_2.index t 1 = t.val % 8))

theorem blk_x (t : Fin cfg0.N) (i : Fin 1024) (r : Fin 4096) (hr : t.val / 8 * 1024 + i.val = r.val) (k : Fin 4096) :
    iblk m c 0 t (ix2 i k) = aX m c (ix2 r k) := by
  unfold iblk
  rw [View.read_apply]
  obtain ⟨⟨e0, e1⟩, -⟩ := idx_w t
  refine (congrFun (V_main_arg0 m c) _).trans (congrArg (aX m c) ?_)
  funext a; apply Fin.ext
  match a with
  | ⟨0, _⟩ => show win0_0.index t 0 * 1024 + 1 * i.val = r.val; omega
  | ⟨1, _⟩ => show win0_0.index t 1 * 4096 + 1 * k.val = k.val; omega

theorem blk_w (t : Fin cfg0.N) (j : Fin 512) (cc : Fin 4096) (hc : t.val % 8 * 512 + j.val = cc.val) (k : Fin 4096) :
    iblk m c 1 t (ix2 j k) = aW m c (ix2 cc k) := by
  unfold iblk
  rw [View.read_apply]
  obtain ⟨-, ⟨e0, e1⟩, -⟩ := idx_w t
  refine (congrFun (V_main_arg1 m c) _).trans (congrArg (aW m c) ?_)
  funext a; apply Fin.ext
  match a with
  | ⟨0, _⟩ => show win0_1.index t 0 * 512 + 1 * j.val = cc.val; omega
  | ⟨1, _⟩ => show win0_1.index t 1 * 4096 + 1 * k.val = k.val; omega

/-- What the launch leaves. -/
theorem final (r cc : Fin 4096) :
    (dats m 0 c).arrAt 2 cfg0.N (ix2 r cc) = ∑ k : Fin 4096, aX m c (ix2 r k) * aW m c (ix2 cc k) := by
  obtain ⟨t, ht⟩ : ∃ t : Fin cfg0.N, t.val = r.val / 1024 * 8 + cc.val / 512 :=
    ⟨⟨r.val / 1024 * 8 + cc.val / 512, lt_of_lt_of_eq (by omega) N_0.symm⟩, rfl⟩
  obtain ⟨i, hi'⟩ : ∃ i : Fin 1024, i.val = r.val % 1024 := ⟨⟨r.val % 1024, Nat.mod_lt _ (by norm_num)⟩, rfl⟩
  obtain ⟨j, hj⟩ : ∃ j : Fin 512, j.val = cc.val % 512 := ⟨⟨cc.val % 512, Nat.mod_lt _ (by norm_num)⟩, rfl⟩
  have e := congrFun (blocks2 m c t (flush0_2 t)) (ix2 i j)
  rw [View.read_apply, flushed2] at e
  obtain ⟨-, -, e0, e1⟩ := idx_w t
  have hi : ((cfg0.win 2).blk t).view.emb (ix2 i j) = ix2 r cc := by
    funext a; apply Fin.ext
    match a with
    | ⟨0, _⟩ => show win0_2.index t 0 * 1024 + 1 * i.val = r.val; omega
    | ⟨1, _⟩ => show win0_2.index t 1 * 512 + 1 * j.val = cc.val; omega
  rw [← hi]
  refine e.trans ?_
  show out0_2 (iblk m c 0 t) (iblk m c 1 t) (ix2 i j) = _
  unfold out0_2 r0_0 r0_1 r0_2
  rw [View.canon_cons_unit_lit _ _ _ (by decide), View.ld_unit_lit _ _ (by decide), View.ld_unit_lit _ _ (by decide), pay_at]
  refine Finset.sum_congr rfl fun k _ => ?_
  rw [blk_x m c t i r (by omega), blk_w m c t j cc (by omega)]
end

/-- What the reference computes. -/
theorem ref_at (x w : Vec Ideal S4096x4096 .bf16) (r cc : Fin 4096) :
    val_main_v5 (F := Ideal) x w (ix2 r cc) = ∑ k : Fin 4096, x (ix2 r k) * w (ix2 cc k) := by
  pointwise [val_main_v5, val_main_v4, val_main_v3, val_main_v2, val_main_v1]

attribute [local instance] Cert.Dxn2Ideal.Gen.facts Cert.Dxn2RefIdeal.Gen.facts

/-- The claim. -/
theorem algebraic : Cert.algebraic_Dxn2Ideal_Dxn2RefIdeal := by
  intro m g m' g' _ hargs
  refine ⟨fun c => (dats m 0 c).arrAt 2 cfg0.N, run_blocks m g, ?_⟩
  refine (θ_run _ _ _).mono (fun r h c => ?_) (Cert.Dxn2RefIdeal.Value.run m' g')
  obtain ⟨e, ks⟩ := h c
  obtain ⟨a0, a1⟩ := hargs c
  refine ⟨e.trans ?_, ks⟩
  rw [val_main_v5_eq, a0, a1]
  funext y
  rw [ValueIdx.eq_ix2 y]
  exact (ref_at _ _ _ _).trans (final m c _ _).symm

/-- The reference runs, keeps its arguments, and holds no semaphore. -/
theorem frame_r : Cert.quiescent_Dxn2RefIdeal := by
  intro m g _
  exact (θ_run Cert.Dxn2RefIdeal.defs _ _).mono (fun r h => ⟨fun c => (h c).2, sem_eq_zero_of_no_sems (by decide) r.2⟩)
    (Cert.Dxn2RefIdeal.Value.run m g)

end Cert.ProdDxn2
-- ==== Proof.ProdDwO.lean ====
/-
The weight gradient of the attention's output projection. Each point of the launch takes a thousand rows of the result by a
thousand columns, and sums over all the tokens at once.
-/
module

public import proofs.«01_k».proof.Defs
public import proofs.«01_k».proof.Proof.Gen.DwOIdeal.Value
public import proofs.«01_k».proof.Proof.Gen.DwORefIdeal.Read
public import Idealize.ShloMosaic.Lib.Pointwise
public import Idealize.ShloMosaic.Lib.Pipeline.ValueKit.Basic

@[expose] public section

set_option maxRecDepth 16384

noncomputable section

namespace Cert.ProdDwO

open Cert.DwOIdeal Cert.DwOIdeal.Gen Cert.DwOIdeal.Value Idealize.ShloMosaic Idealize.SL.Sem
open Idealize.ShloMosaic.TcCoe
open Cert.DwORefIdeal.Read

/-- What one point computes. -/
theorem pay_at (x : Vec Ideal S4096x1024 .bf16) (y : Vec Ideal S4096x1024 .bf16) (r : Fin 1024) (j : Fin 1024) :
    k0_pay1 x y (ix2 r j) = (∑ k : Fin 4096, x (ix2 k r) * y (ix2 k j)) := by
  unfold k0_pay1
  pointwise

section
variable (m : (ℓ : Loc nD τ sig) → Buf (Elt Ideal) ℓ) (c : Dev nD)

/-- The activations, by token and channel. -/
abbrev aX : Vec Ideal S4096x4096 .bf16 := m ((c : Thread nD τ).loc main_arg0)
/-- The cotangent, by token and column. -/
abbrev aW : Vec Ideal S4096x4096 .bf16 := m ((c : Thread nD τ).loc main_arg1)

theorem idx_w : ∀ t : Fin cfg0.N, (win0_0.index t 0 = 0 ∧ win0_0.index t 1 = t.val / 4)
    ∧ (win0_1.index t 0 = 0 ∧ win0_1.index t 1 = t.val % 4)
    ∧ (win0_2.index t 0 = t.val / 4 ∧ win0_2.index t 1 = t.val % 4) :=
  (by decide +kernel : ∀ t : Fin grid0.N, (win0_0.index t 0 = 0 ∧ win0_0.index t 1 = t.val / 4)
    ∧ (win0_1.index t 0 = 0 ∧ win0_1.index t 1 = t.val % 4)
    ∧ (win0_2.index t 0 = t.val / 4 ∧ win0_2.index t 1 = t.val % 4))

theorem blk_x (t : Fin cfg0.N) (i : Fin 1024) (r : Fin 4096) (hr : t.val / 4 * 1024 + i.val = r.val) (k : Fin 4096) :
    iblk m c 0 t (ix2 k i) = aX m c (ix2 k r) := by
  unfold iblk
  rw [View.read_apply]
  obtain ⟨⟨e0, e1⟩, -⟩ := idx_w t
  refine (congrFun (V_main_arg0 m c) _).trans (congrArg (aX m c) ?_)
  funext a; apply Fin.ext
  match a with
  | ⟨0, _⟩ => show win0_0.index t 0 * 4096 + 1 * k.val = k.val; omega
  | ⟨1, _⟩ => show win0_0.index t 1 * 1024 + 1 * i.val = r.val; omega

theorem blk_w (t : Fin cfg0.N) (j : Fin 1024) (cc : Fin 4096) (hc : t.val % 4 * 1024 + j.val = cc.val) (k : Fin 4096) :
    iblk m c 1 t (ix2 k j) = aW m c (ix2 k cc) := by
  unfold iblk
  rw [View.read_apply]
  obtain ⟨-, ⟨e0, e1⟩, -⟩ := idx_w t
  refine (congrFun (V_main_arg1 m c) _).trans (congrArg (aW m c) ?_)
  funext a; apply Fin.ext
  match a with
  | ⟨0, _⟩ => show win0_1.index t 0 * 4096 + 1 * k.val = k.val; omega
  | ⟨1, _⟩ => show win0_1.index t 1 * 1024 + 1 * j.val = cc.val; omega

/-- What the launch leaves. -/
theorem final (r cc : Fin 4096) :
    (dats m 0 c).arrAt 2 cfg0.N (ix2 r cc) = ∑ k : Fin 4096, aX m c (ix2 k r) * aW m c (ix2 k cc) := by
  obtain ⟨t, ht⟩ : ∃ t : Fin cfg0.N, t.val = r.val / 1024 * 4 + cc.val / 1024 :=
    ⟨⟨r.val / 1024 * 4 + cc.val / 1024, lt_of_lt_of_eq (by omega) N_0.symm⟩, rfl⟩
  obtain ⟨i, hi'⟩ : ∃ i : Fin 1024, i.val = r.val % 1024 := ⟨⟨r.val % 1024, Nat.mod_lt _ (by norm_num)⟩, rfl⟩
  obtain ⟨j, hj⟩ : ∃ j : Fin 1024, j.val = cc.val % 1024 := ⟨⟨cc.val % 1024, Nat.mod_lt _ (by norm_num)⟩, rfl⟩
  have e := congrFun (blocks2 m c t (flush0_2 t)) (ix2 i j)
  rw [View.read_apply, flushed2] at e
  obtain ⟨-, -, e0, e1⟩ := idx_w t
  have hi : ((cfg0.win 2).blk t).view.emb (ix2 i j) = ix2 r cc := by
    funext a; apply Fin.ext
    match a with
    | ⟨0, _⟩ => show win0_2.index t 0 * 1024 + 1 * i.val = r.val; omega
    | ⟨1, _⟩ => show win0_2.index t 1 * 1024 + 1 * j.val = cc.val; omega
  rw [← hi]
  refine e.trans ?_
  show out0_2 (iblk m c 0 t) (iblk m c 1 t) (ix2 i j) = _
  unfold out0_2 r0_0 r0_1
  rw [View.canon_cons_unit_lit _ _ _ (by decide), View.ld_unit_lit _ _ (by decide), View.ld_unit_lit _ _ (by decide), pay_at]
  refine Finset.sum_congr rfl fun k _ => ?_
  rw [blk_x m c t i r (by omega), blk_w m c t j cc (by omega)]
end

/-- What the reference computes. -/
theorem ref_at (x w : Vec Ideal S4096x4096 .bf16) (r cc : Fin 4096) :
    val_main_v6 (F := Ideal) x w (ix2 r cc) = ∑ k : Fin 4096, x (ix2 k r) * w (ix2 k cc) := by
  rw [show (∑ k : Fin 4096, x (ix2 k r) * w (ix2 k cc)) = ∑ k : Fin 4096, w (ix2 k cc) * x (ix2 k r) from
    Finset.sum_congr rfl fun k _ => mul_comm _ _]
  pointwise [val_main_v6, val_main_v5, val_main_v4, val_main_v3, val_main_v2, val_main_v1]

attribute [local instance] Cert.DwOIdeal.Gen.facts Cert.DwORefIdeal.Gen.facts

/-- The claim. -/
theorem algebraic : Cert.algebraic_DwOIdeal_DwORefIdeal := by
  intro m g m' g' _ hargs
  refine ⟨fun c => (dats m 0 c).arrAt 2 cfg0.N, run_blocks m g, ?_⟩
  refine (θ_run _ _ _).mono (fun r h c => ?_) (Cert.DwORefIdeal.Value.run m' g')
  obtain ⟨e, ks⟩ := h c
  obtain ⟨a0, a1⟩ := hargs c
  refine ⟨e.trans ?_, ks⟩
  rw [val_main_v6_eq, a0, a1]
  funext y
  rw [ValueIdx.eq_ix2 y]
  exact (ref_at _ _ _ _).trans (final m c _ _).symm

/-- The reference runs, keeps its arguments, and holds no semaphore. -/
theorem frame_r : Cert.quiescent_DwORefIdeal := by
  intro m g _
  exact (θ_run Cert.DwORefIdeal.defs _ _).mono (fun r h => ⟨fun c => (h c).2, sem_eq_zero_of_no_sems (by decide) r.2⟩)
    (Cert.DwORefIdeal.Value.run m g)

end Cert.ProdDwO
-- ==== Proof.ProdDwQ.lean ====
/-
The weight gradient of the projection to the queries. Each point of the launch takes a thousand rows of the result by five hundred
columns, and sums over all the tokens at once.
-/
module

public import proofs.«01_k».proof.Defs
public import proofs.«01_k».proof.Proof.Gen.DwQIdeal.Value
public import proofs.«01_k».proof.Proof.Gen.DwQRefIdeal.Read
public import Idealize.ShloMosaic.Lib.Pointwise
public import Idealize.ShloMosaic.Lib.Pipeline.ValueKit.Basic

@[expose] public section

set_option maxRecDepth 16384

noncomputable section

namespace Cert.ProdDwQ

open Cert.DwQIdeal Cert.DwQIdeal.Gen Cert.DwQIdeal.Value Idealize.ShloMosaic Idealize.SL.Sem
open Idealize.ShloMosaic.TcCoe
open Cert.DwQRefIdeal.Read

/-- What one point computes. -/
theorem pay_at (x : Vec Ideal S4096x1024 .bf16) (y : Vec Ideal S4096x512 .bf16) (r : Fin 1024) (j : Fin 512) :
    k0_pay1 x y (ix2 r j) = (∑ k : Fin 4096, x (ix2 k r) * y (ix2 k j)) := by
  unfold k0_pay1
  pointwise

section
variable (m : (ℓ : Loc nD τ sig) → Buf (Elt Ideal) ℓ) (c : Dev nD)

/-- The activations, by token and channel. -/
abbrev aX : Vec Ideal S4096x4096 .bf16 := m ((c : Thread nD τ).loc main_arg0)
/-- The cotangent, by token and column. -/
abbrev aW : Vec Ideal S4096x4096 .bf16 := m ((c : Thread nD τ).loc main_arg1)

theorem idx_w : ∀ t : Fin cfg0.N, (win0_0.index t 0 = 0 ∧ win0_0.index t 1 = t.val / 8)
    ∧ (win0_1.index t 0 = 0 ∧ win0_1.index t 1 = t.val % 8)
    ∧ (win0_2.index t 0 = t.val / 8 ∧ win0_2.index t 1 = t.val % 8) :=
  (by decide +kernel : ∀ t : Fin grid0.N, (win0_0.index t 0 = 0 ∧ win0_0.index t 1 = t.val / 8)
    ∧ (win0_1.index t 0 = 0 ∧ win0_1.index t 1 = t.val % 8)
    ∧ (win0_2.index t 0 = t.val / 8 ∧ win0_2.index t 1 = t.val % 8))

theorem blk_x (t : Fin cfg0.N) (i : Fin 1024) (r : Fin 4096) (hr : t.val / 8 * 1024 + i.val = r.val) (k : Fin 4096) :
    iblk m c 0 t (ix2 k i) = aX m c (ix2 k r) := by
  unfold iblk
  rw [View.read_apply]
  obtain ⟨⟨e0, e1⟩, -⟩ := idx_w t
  refine (congrFun (V_main_arg0 m c) _).trans (congrArg (aX m c) ?_)
  funext a; apply Fin.ext
  match a with
  | ⟨0, _⟩ => show win0_0.index t 0 * 4096 + 1 * k.val = k.val; omega
  | ⟨1, _⟩ => show win0_0.index t 1 * 1024 + 1 * i.val = r.val; omega

theorem blk_w (t : Fin cfg0.N) (j : Fin 512) (cc : Fin 4096) (hc : t.val % 8 * 512 + j.val = cc.val) (k : Fin 4096) :
    iblk m c 1 t (ix2 k j) = aW m c (ix2 k cc) := by
  unfold iblk
  rw [View.read_apply]
  obtain ⟨-, ⟨e0, e1⟩, -⟩ := idx_w t
  refine (congrFun (V_main_arg1 m c) _).trans (congrArg (aW m c) ?_)
  funext a; apply Fin.ext
  match a with
  | ⟨0, _⟩ => show win0_1.index t 0 * 4096 + 1 * k.val = k.val; omega
  | ⟨1, _⟩ => show win0_1.index t 1 * 512 + 1 * j.val = cc.val; omega

/-- What the launch leaves. -/
theorem final (r cc : Fin 4096) :
    (dats m 0 c).arrAt 2 cfg0.N (ix2 r cc) = ∑ k : Fin 4096, aX m c (ix2 k r) * aW m c (ix2 k cc) := by
  obtain ⟨t, ht⟩ : ∃ t : Fin cfg0.N, t.val = r.val / 1024 * 8 + cc.val / 512 :=
    ⟨⟨r.val / 1024 * 8 + cc.val / 512, lt_of_lt_of_eq (by omega) N_0.symm⟩, rfl⟩
  obtain ⟨i, hi'⟩ : ∃ i : Fin 1024, i.val = r.val % 1024 := ⟨⟨r.val % 1024, Nat.mod_lt _ (by norm_num)⟩, rfl⟩
  obtain ⟨j, hj⟩ : ∃ j : Fin 512, j.val = cc.val % 512 := ⟨⟨cc.val % 512, Nat.mod_lt _ (by norm_num)⟩, rfl⟩
  have e := congrFun (blocks2 m c t (flush0_2 t)) (ix2 i j)
  rw [View.read_apply, flushed2] at e
  obtain ⟨-, -, e0, e1⟩ := idx_w t
  have hi : ((cfg0.win 2).blk t).view.emb (ix2 i j) = ix2 r cc := by
    funext a; apply Fin.ext
    match a with
    | ⟨0, _⟩ => show win0_2.index t 0 * 1024 + 1 * i.val = r.val; omega
    | ⟨1, _⟩ => show win0_2.index t 1 * 512 + 1 * j.val = cc.val; omega
  rw [← hi]
  refine e.trans ?_
  show out0_2 (iblk m c 0 t) (iblk m c 1 t) (ix2 i j) = _
  unfold out0_2 r0_0 r0_1 r0_2
  rw [View.canon_cons_unit_lit _ _ _ (by decide), View.ld_unit_lit _ _ (by decide), View.ld_unit_lit _ _ (by decide), pay_at]
  refine Finset.sum_congr rfl fun k _ => ?_
  rw [blk_x m c t i r (by omega), blk_w m c t j cc (by omega)]
end

/-- What the reference computes. -/
theorem ref_at (x w : Vec Ideal S4096x4096 .bf16) (r cc : Fin 4096) :
    val_main_v6 (F := Ideal) x w (ix2 r cc) = ∑ k : Fin 4096, x (ix2 k r) * w (ix2 k cc) := by
  rw [show (∑ k : Fin 4096, x (ix2 k r) * w (ix2 k cc)) = ∑ k : Fin 4096, w (ix2 k cc) * x (ix2 k r) from
    Finset.sum_congr rfl fun k _ => mul_comm _ _]
  pointwise [val_main_v6, val_main_v5, val_main_v4, val_main_v3, val_main_v2, val_main_v1]

attribute [local instance] Cert.DwQIdeal.Gen.facts Cert.DwQRefIdeal.Gen.facts

/-- The claim. -/
theorem algebraic : Cert.algebraic_DwQIdeal_DwQRefIdeal := by
  intro m g m' g' _ hargs
  refine ⟨fun c => (dats m 0 c).arrAt 2 cfg0.N, run_blocks m g, ?_⟩
  refine (θ_run _ _ _).mono (fun r h c => ?_) (Cert.DwQRefIdeal.Value.run m' g')
  obtain ⟨e, ks⟩ := h c
  obtain ⟨a0, a1⟩ := hargs c
  refine ⟨e.trans ?_, ks⟩
  rw [val_main_v6_eq, a0, a1]
  funext y
  rw [ValueIdx.eq_ix2 y]
  exact (ref_at _ _ _ _).trans (final m c _ _).symm

/-- The reference runs, keeps its arguments, and holds no semaphore. -/
theorem frame_r : Cert.quiescent_DwQRefIdeal := by
  intro m g _
  exact (θ_run Cert.DwQRefIdeal.defs _ _).mono (fun r h => ⟨fun c => (h c).2, sem_eq_zero_of_no_sems (by decide) r.2⟩)
    (Cert.DwQRefIdeal.Value.run m g)

end Cert.ProdDwQ
-- ==== Proof.ProdDwOut.lean ====
/-
The weight gradient of the mixer's output projection. The activations come in two halves of channels; each point of the
launch takes a thousand channels of one half by five hundred columns, and sums over all the tokens at once.
-/
module

public import proofs.«01_k».proof.Defs
public import proofs.«01_k».proof.Proof.Gen.DwOutIdeal.Value
public import proofs.«01_k».proof.Proof.Gen.DwOutRefIdeal.Read
public import Idealize.ShloMosaic.Lib.Pointwise
public import Idealize.ShloMosaic.Lib.Pipeline.ValueKit.Basic

@[expose] public section

set_option maxRecDepth 16384

noncomputable section

namespace Cert.ProdDwOut

open Cert.DwOutIdeal Cert.DwOutIdeal.Gen Cert.DwOutIdeal.Value Idealize.ShloMosaic Idealize.SL.Sem
open Idealize.ShloMosaic.TcCoe
open Cert.DwOutRefIdeal.Read

/-- Channel `r` of half `b`, among all the channels. -/
abbrev chan (b : Fin 2) (r : Fin 2048) : Fin 4096 := ⟨b.val * 2048 + r.val, by omega⟩

/-- What one point computes. -/
theorem pay_at (x : Vec Ideal S1x4096x1024 .bf16) (y : Vec Ideal S4096x512 .bf16) (r : Fin 1024) (j : Fin 512) :
    k0_pay1 x y (ix3 0 r j) = ∑ k : Fin 4096, x (ix3 0 k r) * y (ix2 k j) := by
  unfold k0_pay1
  pointwise

section
variable (m : (ℓ : Loc nD τ sig) → Buf (Elt Ideal) ℓ) (c : Dev nD)

/-- The activations, by token and channel. -/
abbrev aX : Vec Ideal S4096x4096 .bf16 := m ((c : Thread nD τ).loc main_arg0)
/-- The cotangent, by token and column. -/
abbrev aW : Vec Ideal S4096x4096 .bf16 := m ((c : Thread nD τ).loc main_arg1)

/-- The activations are laid out half by half before the launch. -/
theorem V_v1 (b : Fin 2) (k : Fin 4096) (r : Fin 2048) : V m c main_v1 (ix3 b k r) = aX m c (ix2 k (chan b r)) := by
  have e : V m c main_v1 = transpose S2x4096x2048 [1, 0, 2] (shapeCast S4096x2x2048 (aX m c) shapeCasts_S4096x4096_S4096x2x2048)
      transposes_S4096x2x2048_S2x4096x2048_1_0_2 := by
    unfold V
    after_results <;> rfl
  rw [e]
  pointwise

theorem idx_w : ∀ t : Fin cfg0.N, (win0_0.index t 0 = t.val / 16 ∧ win0_0.index t 1 = 0 ∧ win0_0.index t 2 = t.val / 8 % 2)
    ∧ (win0_1.index t 0 = 0 ∧ win0_1.index t 1 = t.val % 8)
    ∧ (win0_2.index t 0 = t.val / 16 ∧ win0_2.index t 1 = t.val / 8 % 2 ∧ win0_2.index t 2 = t.val % 8) :=
  (by decide +kernel : ∀ t : Fin grid0.N, (win0_0.index t 0 = t.val / 16 ∧ win0_0.index t 1 = 0 ∧ win0_0.index t 2 = t.val / 8 % 2)
    ∧ (win0_1.index t 0 = 0 ∧ win0_1.index t 1 = t.val % 8)
    ∧ (win0_2.index t 0 = t.val / 16 ∧ win0_2.index t 1 = t.val / 8 % 2 ∧ win0_2.index t 2 = t.val % 8))

theorem blk_x (t : Fin cfg0.N) (b : Fin 2) (hb : t.val / 16 = b.val) (i : Fin 1024) (r : Fin 2048)
    (hr : t.val / 8 % 2 * 1024 + i.val = r.val) (k : Fin 4096) : iblk m c 0 t (ix3 0 k i) = aX m c (ix2 k (chan b r)) := by
  unfold iblk
  rw [View.read_apply, ← V_v1]
  obtain ⟨⟨e0, e1, e2⟩, -⟩ := idx_w t
  show V m c main_v1 _ = _
  congr 1
  funext a; apply Fin.ext
  match a with
  | ⟨0, _⟩ => show win0_0.index t 0 * 1 + 1 * 0 = b.val; omega
  | ⟨1, _⟩ => show win0_0.index t 1 * 4096 + 1 * k.val = k.val; omega
  | ⟨2, _⟩ => show win0_0.index t 2 * 1024 + 1 * i.val = r.val; omega

theorem blk_w (t : Fin cfg0.N) (j : Fin 512) (cc : Fin 4096) (hc : t.val % 8 * 512 + j.val = cc.val) (k : Fin 4096) :
    iblk m c 1 t (ix2 k j) = aW m c (ix2 k cc) := by
  unfold iblk
  rw [View.read_apply]
  obtain ⟨-, ⟨e0, e1⟩, -⟩ := idx_w t
  refine (congrFun (V_main_arg1 m c) _).trans (congrArg (aW m c) ?_)
  funext a; apply Fin.ext
  match a with
  | ⟨0, _⟩ => show win0_1.index t 0 * 4096 + 1 * k.val = k.val; omega
  | ⟨1, _⟩ => show win0_1.index t 1 * 512 + 1 * j.val = cc.val; omega

/-- What the launch leaves. -/
theorem final (b : Fin 2) (r : Fin 2048) (cc : Fin 4096) :
    (dats m 0 c).arrAt 2 cfg0.N (ix3 b r cc) = ∑ k : Fin 4096, aX m c (ix2 k (chan b r)) * aW m c (ix2 k cc) := by
  obtain ⟨t, ht⟩ : ∃ t : Fin cfg0.N, t.val = b.val * 16 + r.val / 1024 * 8 + cc.val / 512 :=
    ⟨⟨b.val * 16 + r.val / 1024 * 8 + cc.val / 512, lt_of_lt_of_eq (by omega) N_0.symm⟩, rfl⟩
  obtain ⟨i, hi'⟩ : ∃ i : Fin 1024, i.val = r.val % 1024 := ⟨⟨r.val % 1024, Nat.mod_lt _ (by norm_num)⟩, rfl⟩
  obtain ⟨j, hj⟩ : ∃ j : Fin 512, j.val = cc.val % 512 := ⟨⟨cc.val % 512, Nat.mod_lt _ (by norm_num)⟩, rfl⟩
  have e := congrFun (blocks2 m c t (flush0_2 t)) (ix3 0 i j)
  rw [View.read_apply, flushed2] at e
  obtain ⟨-, -, e0, e1, e2⟩ := idx_w t
  have hi : ((cfg0.win 2).blk t).view.emb (ix3 0 i j) = ix3 b r cc := by
    funext a; apply Fin.ext
    match a with
    | ⟨0, _⟩ => show win0_2.index t 0 * 1 + 1 * 0 = b.val; omega
    | ⟨1, _⟩ => show win0_2.index t 1 * 1024 + 1 * i.val = r.val; omega
    | ⟨2, _⟩ => show win0_2.index t 2 * 512 + 1 * j.val = cc.val; omega
  rw [← hi]
  refine e.trans ?_
  show out0_2 (iblk m c 0 t) (iblk m c 1 t) (ix3 0 i j) = _
  unfold out0_2 r0_0 r0_1 r0_2
  rw [View.canon_cons_unit_lit _ _ _ (by decide), View.ld_unit_lit _ _ (by decide), View.ld_unit_lit _ _ (by decide), pay_at]
  refine Finset.sum_congr rfl fun k _ => ?_
  rw [blk_x m c t b (by omega) i r (by omega), blk_w m c t j cc (by omega)]
end

/-- What the reference computes. -/
theorem ref_at (x w : Vec Ideal S4096x4096 .bf16) (b : Fin 2) (r : Fin 2048) (cc : Fin 4096) :
    val_main_v7 (F := Ideal) x w (ix3 b r cc) = ∑ k : Fin 4096, x (ix2 k (chan b r)) * w (ix2 k cc) := by
  rw [show (∑ k : Fin 4096, x (ix2 k (chan b r)) * w (ix2 k cc)) = ∑ k : Fin 4096, w (ix2 k cc) * x (ix2 k (chan b r)) from
    Finset.sum_congr rfl fun k _ => mul_comm _ _]
  pointwise [val_main_v7, val_main_v6, val_main_v5, val_main_v4, val_main_v3, val_main_v2, val_main_v1]

attribute [local instance] Cert.DwOutIdeal.Gen.facts Cert.DwOutRefIdeal.Gen.facts

/-- The claim. -/
theorem algebraic : Cert.algebraic_DwOutIdeal_DwOutRefIdeal := by
  intro m g m' g' _ hargs
  refine ⟨fun c => (dats m 0 c).arrAt 2 cfg0.N, run_blocks m g, ?_⟩
  refine (θ_run _ _ _).mono (fun r h c => ?_) (Cert.DwOutRefIdeal.Value.run m' g')
  obtain ⟨e, ks⟩ := h c
  obtain ⟨a0, a1⟩ := hargs c
  refine ⟨e.trans ?_, ks⟩
  rw [val_main_v7_eq, a0, a1]
  funext y
  rw [ValueIdx.eq_ix3 y]
  exact (ref_at _ _ _ _ _).trans (final m c _ _ _).symm

/-- The reference runs, keeps its arguments, and holds no semaphore. -/
theorem frame_r : Cert.quiescent_DwOutRefIdeal := by
  intro m g _
  exact (θ_run Cert.DwOutRefIdeal.defs _ _).mono (fun r h => ⟨fun c => (h c).2, sem_eq_zero_of_no_sems (by decide) r.2⟩)
    (Cert.DwOutRefIdeal.Value.run m g)

end Cert.ProdDwOut
-- ==== Proof.RmsMath.lean ====
/-
The algebra of the root-mean-square norm's gradient, on one row. The kernel scales the whole bracket by the reciprocal
root `r`; the derivative of the plain expression adds the two equal halves that come of the row's squares. `r` is a
nonnegative real whatever the row holds (a row with an infinite entry has `r = 0`), so it may be taken out of every sum.
-/
module

public import Idealize.ShloMosaic.PureOps.Ideal

@[expose] public section

noncomputable section

namespace Cert.RmsMath

open Idealize.ShloMosaic

/-- The literals: the number of features, the norm's epsilon, and the small factors of the derivative. -/
theorem w_n : Ideal.ofBits .f32 0x45800000#32 = ((4096 : ℝ) : EReal) := by
  simp [Ideal.ofBits, Ideal.ieee, -EReal.coe_mul]; norm_num

theorem w_inv : Ideal.ofBits .f32 0x39800000#32 = ((1 / 4096 : ℝ) : EReal) := by
  simp [Ideal.ofBits, Ideal.ieee, -EReal.coe_mul]; norm_num

theorem w_half : Ideal.ofBits .f32 0x3F000000#32 = ((1 / 2 : ℝ) : EReal) := by
  simp [Ideal.ofBits, Ideal.ieee, -EReal.coe_mul]; norm_num

theorem w_neg_half : Ideal.ofBits .f32 0xBF000000#32 = ((-(1 / 2) : ℝ) : EReal) := by
  simp [Ideal.ofBits, Ideal.ieee, -EReal.coe_mul]; norm_num

theorem w_one : Ideal.ofBits .f32 0x3F800000#32 = ((1 : ℝ) : EReal) := by
  simp [Ideal.ofBits, Ideal.ieee, -EReal.coe_mul]; norm_num

theorem w_two : Ideal.ofBits .f32 0x40000000#32 = ((2 : ℝ) : EReal) := by
  simp [Ideal.ofBits, Ideal.ieee, -EReal.coe_mul]; norm_num

theorem w_eps : ∃ y : ℝ, 0 < y ∧ Ideal.ofBits .f32 0x358637BD#32 = (y : EReal) := by
  refine ⟨_, ?_, by simp [Ideal.ofBits, Ideal.ieee, -EReal.coe_mul]; rfl⟩
  positivity

theorem div_n (x : EReal) : Ideal.div x ((4096 : ℝ) : EReal) = ((1 / 4096 : ℝ) : EReal) * x := by
  unfold Ideal.div
  rw [if_neg (by norm_num [EReal.coe_eq_zero]), ← EReal.coe_inv, mul_comm]
  norm_num

/-- A nonnegative real comes out of a sum. -/
theorem mul_sum {ι : Type*} (s : Finset ι) (c : ℝ) (h : 0 ≤ c) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, ← ih]
    exact EReal.left_distrib_of_nonneg_of_ne_top (by exact_mod_cast h) (EReal.coe_ne_top _) _ _

theorem add_self (a : EReal) : a + a = ((2 : ℝ) : EReal) * a := by
  have h := EReal.right_distrib_of_nonneg (a := (1 : EReal)) (b := 1) (c := a) zero_le_one zero_le_one
  rw [one_mul] at h
  rw [← h]
  congr 1
  norm_cast

/-- A row's mean square with the epsilon added. -/
def ms {n : ℕ} (x : Fin n → EReal) : EReal := Ideal.div (∑ k, x k * x k) (Ideal.ofBits .f32 0x45800000#32) + Ideal.ofBits .f32 0x358637BD#32

theorem sq_nonneg (x : EReal) : 0 ≤ x * x := by
  rcases le_total 0 x with h | h
  · exact mul_nonneg h h
  · rw [← neg_mul_neg]
    have h' : 0 ≤ -x := by rwa [← neg_zero, EReal.neg_le_neg_iff]
    exact mul_nonneg h' h'

/-- The reciprocal root of a row is a nonnegative real, and its quotient by the mean square is its cube. -/
theorem root {n : ℕ} (x : Fin n → EReal) :
    ∃ c : ℝ, 0 ≤ c ∧ Ideal.rsqrt (ms x) = (c : EReal) ∧ Ideal.div (Ideal.rsqrt (ms x)) (ms x) = ((c * c * c : ℝ) : EReal) := by
  obtain ⟨e, he, hw⟩ := w_eps
  have hs : 0 ≤ ∑ k, x k * x k := Finset.sum_nonneg fun k _ => sq_nonneg (x k)
  have hm : (e : EReal) ≤ ms x := by
    unfold ms
    rw [w_n, div_n, hw]
    have : (0 : EReal) ≤ ((1 / 4096 : ℝ) : EReal) * ∑ k, x k * x k := mul_nonneg (by exact_mod_cast (by norm_num)) hs
    calc (e : EReal) = 0 + e := (zero_add _).symm
      _ ≤ _ := add_le_add_left this _
  generalize ms x = v at *
  induction v using EReal.rec with
  | bot => exact absurd (lt_of_lt_of_le (EReal.bot_lt_coe e) hm) (lt_irrefl _)
  | top => exact ⟨0, le_rfl, by simp, by simp [Ideal.div]⟩
  | coe y =>
    have hy : 0 < y := lt_of_lt_of_le he (by exact_mod_cast hm)
    have hr : Ideal.rsqrt (y : EReal) = (((Real.sqrt y)⁻¹ : ℝ) : EReal) := by
      rw [Ideal.rsqrt_coe, if_neg (not_lt.mpr hy.le), if_neg hy.ne']
    refine ⟨(Real.sqrt y)⁻¹, by positivity, hr, ?_⟩
    rw [hr]
    unfold Ideal.div
    rw [if_neg (by exact_mod_cast hy.ne'), ← EReal.coe_inv, ← EReal.coe_mul]
    congr 1
    rw [mul_assoc]
    congr 1
    rw [← mul_inv, Real.mul_self_sqrt hy.le]

/-- The two forms of the norm's gradient, at one entry of a row `x` whose scaled cotangent is `d`. -/
theorem grad {n : ℕ} (x d : Fin n → EReal) (j : Fin n) :
    Ideal.rsqrt (ms x) * (d j - x j * Ideal.rsqrt (ms x)
      * Ideal.div (∑ k, d k * (x k * Ideal.rsqrt (ms x))) (Ideal.ofBits .f32 0x45800000#32))
    = d j * Ideal.rsqrt (ms x)
      + x j * Ideal.div ((∑ k, x k * d k) * (Ideal.ofBits .f32 0xBF000000#32 * Ideal.div (Ideal.rsqrt (ms x)) (ms x))) (Ideal.ofBits .f32 0x45800000#32)
      + Ideal.div ((∑ k, x k * d k) * (Ideal.ofBits .f32 0xBF000000#32 * Ideal.div (Ideal.rsqrt (ms x)) (ms x))) (Ideal.ofBits .f32 0x45800000#32) * x j := by
  obtain ⟨c, hc, hr, hq⟩ := root x
  rw [hq, hr, w_n, w_neg_half, div_n, div_n]
  have hs : ∑ k, d k * (x k * (c : EReal)) = (c : EReal) * ∑ k, x k * d k := by
    rw [mul_sum _ c hc]
    exact Finset.sum_congr rfl fun k _ => by rw [← mul_assoc, mul_comm, mul_comm (d k)]
  rw [hs]
  generalize ∑ k, x k * d k = S
  rw [sub_eq_add_neg, EReal.left_distrib_of_nonneg_of_ne_top (by exact_mod_cast hc) (EReal.coe_ne_top _), add_assoc, mul_comm (c : EReal) (d j)]
  congr 1
  have e : ((1 / 4096 : ℝ) : EReal) * (S * (((-(1 / 2) : ℝ) : EReal) * ((c * c * c : ℝ) : EReal))) * x j
      = ((-(c * c * c / 8192) : ℝ) : EReal) * (x j * S) := by
    rw [mul_comm S, ← mul_assoc, ← mul_assoc, ← EReal.coe_mul, ← EReal.coe_mul, mul_assoc, mul_comm S]
    congr 2
    ring
  have f : x j * (c : EReal) * (((1 / 4096 : ℝ) : EReal) * ((c : EReal) * S)) = ((c * c / 4096 : ℝ) : EReal) * (x j * S) := by
    have : ((c * c / 4096 : ℝ) : EReal) = (c : EReal) * ((1 / 4096 : ℝ) : EReal) * (c : EReal) := by
      rw [← EReal.coe_mul, ← EReal.coe_mul]; congr 1; ring
    rw [this]
    ac_rfl
  rw [mul_comm (x j) (_ * (S * _)), e, add_self, f, mul_neg, ← mul_assoc, ← EReal.coe_mul, ← neg_mul, ← EReal.coe_neg,
    ← mul_assoc ((2 : ℝ) : EReal), ← EReal.coe_mul]
  congr 2
  ring

/-- A family over the rows, by row number. -/
def ext {n : ℕ} (f : Fin n → EReal) (r : ℕ) : EReal := if h : r < n then f ⟨r, h⟩ else 0

theorem ext_eq {n : ℕ} (f : Fin n → EReal) (r : Fin n) : ext f r.val = f r := dif_pos r.isLt

/-- A sum over the rows, block by block. -/
theorem sum_blocks (a b : ℕ) (f : Fin (a * b) → EReal) : ∑ s ∈ Finset.range a, ∑ i : Fin b, ext f (s * b + i.val) = ∑ r, f r := by
  rw [Finset.sum_range, ← Fintype.sum_prod_type', ← (finProdFinEquiv (m := a) (n := b)).sum_comp f]
  refine Finset.sum_congr rfl fun x _ => ?_
  have e : x.1.val * b + x.2.val = (finProdFinEquiv x : Fin (a * b)).val := by
    show _ = x.2.val + b * x.1.val
    rw [mul_comm, add_comm]
  rw [e, ext_eq]

/-- What is accumulated from zero is the sum of the parts. -/
theorem acc_eq {N : ℕ} (A : (n : ℕ) → n < N → EReal) (f : ℕ → EReal) (h0 : ∀ h, A 0 h = 0 + f 0)
    (hs : ∀ n (h : n + 1 < N), A (n + 1) h = A n (by omega) + f (n + 1)) (n : ℕ) (h : n < N) :
    A n h = ∑ s ∈ Finset.range (n + 1), f s := by
  induction n with
  | zero => rw [h0, zero_add, Finset.sum_range_one]
  | succ n ih => rw [hs, ih, Finset.sum_range_succ _ (n + 1)]

end Cert.RmsMath
-- ==== Proof.ProdLoss.lean ====
/-
The loss head: the final norm, the squared error against the target, and the gradient back through the norm. A point
of the launch takes 128 tokens. The gradient of a token's row is written where it is computed; the loss and the
gradient of the norm's gains are accumulated over the points.
-/
module

public import proofs.«01_k».proof.Defs
public import proofs.«01_k».proof.Proof.RmsMath
public import proofs.«01_k».proof.Proof.Gen.LossIdeal.Value
public import proofs.«01_k».proof.Proof.Gen.LossRefIdeal.Read
public import Idealize.ShloMosaic.Lib.Pointwise
public import Idealize.ShloMosaic.Lib.Pipeline.ValueKit.Basic

@[expose] public section

set_option maxRecDepth 16384

noncomputable section

namespace Cert.ProdLoss

open Cert.LossIdeal Cert.LossIdeal.Gen Cert.LossIdeal.Value Idealize.ShloMosaic Idealize.SL.Sem
open Idealize.ShloMosaic.TcCoe
open Cert.LossRefIdeal.Read
open Cert.RmsMath

section
variable (x t : Vec Ideal S128x4096 .f32) (g : Vec Ideal S1x4096 .f32)
  (X T : Vec Ideal S4096x4096 .f32) (G : Vec Ideal S1x4096 .f32) (i : Fin 128) (r : Fin 4096)
  (hx : ∀ k : Fin 4096, x (ix2 i k) = X (ix2 r k)) (ht : ∀ k : Fin 4096, t (ix2 i k) = T (ix2 r k))
  (hg : ∀ k : Fin 4096, g (ix2 0 k) = G (ix2 0 k))

/-- The reference's reciprocal root is the row's. -/
theorem r_root : val_main_v7 (F := Ideal) X (ix2 r 0) = Ideal.rsqrt (ms fun k => X (ix2 r k)) := by
  unfold ms
  pointwise [val_main_v7, val_main_v6, val_main_v5, val_main_v4, val_main_v3, val_main_v2, val_main_v1, val_main_v0, val_main_cst, val_main_cst_0,
    val_main_cst_1]

include hx in
theorem same_root : k0_pay5 x (ix2 i 0) = val_main_v7 (F := Ideal) X (ix2 r 0) := by
  rw [r_root]
  unfold k0_pay5 ms
  pointwise
  simp only [hx]

include hx in
/-- The normalised row. -/
theorem same_xh (j : Fin 4096) : k0_pay6 x (ix2 i j) = val_main_v12 (F := Ideal) X (ix2 r j) := by
  have e := same_root x X i r hx
  unfold k0_pay6 val_main_v12
  generalize k0_pay5 x = a at *
  pointwise [val_main_v11]
  rw [e, hx]

include hx ht hg in
/-- The error against the target. -/
theorem same_err (j : Fin 4096) : k0_pay7 x g t (ix2 i j) = val_main_v15 (F := Ideal) X T G (ix2 r j) := by
  have e := same_xh x X i r hx j
  unfold k0_pay7 val_main_v15 val_main_v14
  generalize k0_pay6 x = a at *
  pointwise [val_main_v13]
  rw [e, hg, ht]

include hx ht hg in
/-- The cotangent of the normalised and scaled row. -/
theorem same_dy (j : Fin 4096) : k0_pay11 x g t (ix2 i j) = val_main_v29 (F := Ideal) X T G (ix2 r j) := by
  have e := same_err x t g X T G i r hx ht hg j
  have a : k0_pay11 x g t (ix2 i j) = k0_pay7 x g t (ix2 i j) * Ideal.ofBits .f32 0x39800000#32 := by
    unfold k0_pay11
    generalize k0_pay7 x g t = y
    pointwise
  have b : val_main_v29 (F := Ideal) X T G (ix2 r j) = Ideal.div (Ideal.ofBits .f32 0x3F000000#32) (Ideal.ofBits .f32 0x45800000#32)
      * (Ideal.ofBits .f32 0x40000000#32 * val_main_v15 (F := Ideal) X T G (ix2 r j)) := by
    pointwise [val_main_v29, val_main_v28, val_main_v27, val_main_v26, val_main_v25, val_main_v24, val_main_v18, val_main_v17, val_main_cst_8,
      val_main_cst_9, val_main_cst_10, val_main_cst_3]
  rw [a, b, e, w_inv, w_half, w_two, w_n, div_n, ← mul_assoc, ← EReal.coe_mul, ← EReal.coe_mul, mul_comm]
  congr 2
  norm_num

include hx ht hg in
/-- The gradient of the row. -/
theorem same_dx (j : Fin 4096) :
    k0_pay2 g (k0_pay5 x) (k0_pay6 x) (k0_pay11 x g t) (ix2 i j) = val_main_v48 (F := Ideal) X T G (ix2 r j) := by
  have e1 := same_root x X i r hx
  have e2 := fun j => same_xh x X i r hx j
  have e3 := fun j => same_dy x t g X T G i r hx ht hg j
  have a : k0_pay2 g (k0_pay5 x) (k0_pay6 x) (k0_pay11 x g t) (ix2 i j)
      = val_main_v7 (F := Ideal) X (ix2 r 0) * (val_main_v29 (F := Ideal) X T G (ix2 r j) * G (ix2 0 j)
        - val_main_v12 (F := Ideal) X (ix2 r j) * Ideal.div (∑ k : Fin 4096, val_main_v29 (F := Ideal) X T G (ix2 r k) * G (ix2 0 k)
          * val_main_v12 (F := Ideal) X (ix2 r k)) (Ideal.ofBits .f32 0x45800000#32)) := by
    unfold k0_pay2
    generalize k0_pay5 x = a1 at *
    generalize k0_pay6 x = a2 at *
    generalize k0_pay11 x g t = a3 at *
    pointwise
    simp only [e1, e2, e3, hg]
  have x12 : ∀ k : Fin 4096, val_main_v12 (F := Ideal) X (ix2 r k) = X (ix2 r k) * val_main_v7 (F := Ideal) X (ix2 r 0) := fun k => by
    pointwise [val_main_v12, val_main_v11]
  rw [a]
  simp only [x12]
  rw [r_root]
  refine (grad (fun k => X (ix2 r k)) (fun k => val_main_v29 (F := Ideal) X T G (ix2 r k) * G (ix2 0 k)) j).trans ?_
  rw [← r_root X r]
  have e6 : ms (fun k => X (ix2 r k)) = val_main_v6 (F := Ideal) X (ix2 r 0) := by
    unfold ms
    pointwise [val_main_v6, val_main_v5, val_main_v4, val_main_v3, val_main_v2, val_main_v1, val_main_v0, val_main_cst, val_main_cst_0, val_main_cst_1]
  rw [e6]
  unfold val_main_v48 val_main_v47 val_main_v46 val_main_v45 val_main_v39 val_main_v44 val_main_v43 val_main_v42 val_main_v40 val_main_v37 val_main_v36
    val_main_v35 val_main_v34 val_main_v10 val_main_v8
  generalize val_main_v29 (F := Ideal) X T G = e
  pointwise [val_main_v41, val_main_v33, val_main_v38, val_main_cst_13, val_main_cst_14, val_main_cst_12, val_main_v9, val_main_cst_2]
  simp only [Finset.univ_unique, Finset.sum_singleton]
  rfl

end
section
variable (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S1x4096 .f32) (harg3 : arg3.IsWhole) (arg4 : Memref sig .tc .vmem S128x4096 .f32) (harg4 : arg4.IsWhole) (arg5 : Memref sig .tc .vmem S128x4096 .bf16) (harg5 : arg5.IsWhole) (arg6 : Memref sig .tc .vmem S1x128 .f32) (harg6 : arg6.IsWhole) (arg7 : Memref sig .tc .vmem S1x4096 .f32) (harg7 : arg7.IsWhole)
variable (x t : Vec Ideal S128x4096 .f32) (g : Vec Ideal S1x4096 .f32) (l : Vec Ideal S1x128 .f32) (d : Vec Ideal S1x4096 .f32)

theorem caseA_3 (hc0 : cond0_0 i) :
    out0_A_3 c i arg1 harg1 arg2 harg2 arg3 harg3 arg4 harg4 arg5 harg5 arg6 harg6 arg7 harg7 hc0 x t g = k0_pay3 g (k0_pay5 x) (k0_pay6 x) (k0_pay11 x g t) := by
  unfold out0_A_3
  rw [View.read_writes_eq_canon _ _ _ (cover0_A_3 c i arg1 harg1 arg2 harg2 arg3 harg3 arg4 harg4 arg5 harg5 arg6 harg6 arg7 harg7 hc0 x t g)]
  unfold kernelRun0_A; dsimp only; sl_unfold_words
  simp only [View.readAt_eq_ld, harg1.read_unread, harg2.read_unread, harg3.read_unread, harg6.read_unread, harg7.read_unread]
  rw [View.canon_cons_unit_lit _ _ _ (by decide),
    View.ld_unit_lit _ x (by decide), View.ld_unit_lit _ g (by decide), View.ld_unit_lit _ t (by decide)]

theorem caseA_4 (hc0 : cond0_0 i) :
    out0_A_4 c i arg1 harg1 arg2 harg2 arg3 harg3 arg4 harg4 arg5 harg5 arg6 harg6 arg7 harg7 hc0 x t g = k0_pay4 g (k0_pay5 x) (k0_pay6 x) (k0_pay11 x g t) := by
  unfold out0_A_4
  rw [View.read_writes_eq_canon _ _ _ (cover0_A_4 c i arg1 harg1 arg2 harg2 arg3 harg3 arg4 harg4 arg5 harg5 arg6 harg6 arg7 harg7 hc0 x t g)]
  unfold kernelRun0_A; dsimp only; sl_unfold_words
  simp only [View.readAt_eq_ld, harg1.read_unread, harg2.read_unread, harg3.read_unread, harg6.read_unread, harg7.read_unread]
  rw [View.canon_cons_unit_lit _ _ _ (by decide),
    View.ld_unit_lit _ x (by decide), View.ld_unit_lit _ g (by decide), View.ld_unit_lit _ t (by decide)]

theorem caseA_5 (hc0 : cond0_0 i) :
    out0_A_5 c i arg1 harg1 arg2 harg2 arg3 harg3 arg4 harg4 arg5 harg5 arg6 harg6 arg7 harg7 hc0 x t g = k0_pay10 x g t (k0_pay9 (F := Ideal)) := by
  unfold out0_A_5
  rw [View.read_writes_eq_canon _ _ _ (cover0_A_5 c i arg1 harg1 arg2 harg2 arg3 harg3 arg4 harg4 arg5 harg5 arg6 harg6 arg7 harg7 hc0 x t g)]
  unfold kernelRun0_A; dsimp only; sl_unfold_words
  simp only [View.readAt_eq_ld, harg1.read_unread, harg2.read_unread, harg3.read_unread, harg6.read_unread, harg7.read_unread]
  rw [View.canon_cons_unit_lit _ _ _ (by decide), View.readCov_unit_lit _ _ _ (by decide),
    View.ld_unit_lit _ x (by decide), View.ld_unit_lit _ g (by decide), View.ld_unit_lit _ t (by decide)]

theorem caseA_6 (hc0 : cond0_0 i) :
    out0_A_6 c i arg1 harg1 arg2 harg2 arg3 harg3 arg4 harg4 arg5 harg5 arg6 harg6 arg7 harg7 hc0 x t g = k0_pay1 (k0_pay6 x) (k0_pay11 x g t) (k0_pay8 (F := Ideal)) := by
  unfold out0_A_6
  rw [View.read_writes_eq_canon _ _ _ (cover0_A_6 c i arg1 harg1 arg2 harg2 arg3 harg3 arg4 harg4 arg5 harg5 arg6 harg6 arg7 harg7 hc0 x t g)]
  unfold kernelRun0_A; dsimp only; sl_unfold_words
  simp only [View.readAt_eq_ld, harg1.read_unread, harg2.read_unread, harg3.read_unread, harg6.read_unread, harg7.read_unread]
  rw [View.canon_cons_unit_lit _ _ _ (by decide), View.readCov_unit_lit _ _ _ (by decide),
    View.ld_unit_lit _ x (by decide), View.ld_unit_lit _ g (by decide), View.ld_unit_lit _ t (by decide)]

theorem caseB_3 (hc0 : ¬cond0_0 i) :
    out0_B_3 c i arg1 harg1 arg2 harg2 arg3 harg3 arg4 harg4 arg5 harg5 arg6 harg6 arg7 harg7 hc0 x t g l d = k0_pay3 g (k0_pay5 x) (k0_pay6 x) (k0_pay11 x g t) := by
  unfold out0_B_3
  rw [View.read_writes_eq_canon _ _ _ (cover0_B_3 c i arg1 harg1 arg2 harg2 arg3 harg3 arg4 harg4 arg5 harg5 arg6 harg6 arg7 harg7 hc0 x t g l d)]
  unfold kernelRun0_B; dsimp only; sl_unfold_words
  simp only [View.readAt_eq_ld, harg1.read_unread, harg2.read_unread, harg3.read_unread, harg6.read_unread, harg7.read_unread]
  rw [View.canon_cons_unit_lit _ _ _ (by decide),
    View.ld_unit_lit _ x (by decide), View.ld_unit_lit _ g (by decide), View.ld_unit_lit _ t (by decide)]

theorem caseB_4 (hc0 : ¬cond0_0 i) :
    out0_B_4 c i arg1 harg1 arg2 harg2 arg3 harg3 arg4 harg4 arg5 harg5 arg6 harg6 arg7 harg7 hc0 x t g l d = k0_pay4 g (k0_pay5 x) (k0_pay6 x) (k0_pay11 x g t) := by
  unfold out0_B_4
  rw [View.read_writes_eq_canon _ _ _ (cover0_B_4 c i arg1 harg1 arg2 harg2 arg3 harg3 arg4 harg4 arg5 harg5 arg6 harg6 arg7 harg7 hc0 x t g l d)]
  unfold kernelRun0_B; dsimp only; sl_unfold_words
  simp only [View.readAt_eq_ld, harg1.read_unread, harg2.read_unread, harg3.read_unread, harg6.read_unread, harg7.read_unread]
  rw [View.canon_cons_unit_lit _ _ _ (by decide),
    View.ld_unit_lit _ x (by decide), View.ld_unit_lit _ g (by decide), View.ld_unit_lit _ t (by decide)]

theorem caseB_5 (hc0 : ¬cond0_0 i) :
    out0_B_5 c i arg1 harg1 arg2 harg2 arg3 harg3 arg4 harg4 arg5 harg5 arg6 harg6 arg7 harg7 hc0 x t g l d = k0_pay10 x g t l := by
  unfold out0_B_5
  rw [View.read_writes_eq_canon _ _ _ (cover0_B_5 c i arg1 harg1 arg2 harg2 arg3 harg3 arg4 harg4 arg5 harg5 arg6 harg6 arg7 harg7 hc0 x t g l d)]
  unfold kernelRun0_B; dsimp only; sl_unfold_words
  simp only [View.readAt_eq_ld, harg1.read_unread, harg2.read_unread, harg3.read_unread, harg6.read_unread, harg7.read_unread]
  rw [View.canon_cons_unit_lit _ _ _ (by decide), View.ld_unit_lit _ l (by decide),
    View.ld_unit_lit _ x (by decide), View.ld_unit_lit _ g (by decide), View.ld_unit_lit _ t (by decide)]

theorem caseB_6 (hc0 : ¬cond0_0 i) :
    out0_B_6 c i arg1 harg1 arg2 harg2 arg3 harg3 arg4 harg4 arg5 harg5 arg6 harg6 arg7 harg7 hc0 x t g l d = k0_pay1 (k0_pay6 x) (k0_pay11 x g t) d := by
  unfold out0_B_6
  rw [View.read_writes_eq_canon _ _ _ (cover0_B_6 c i arg1 harg1 arg2 harg2 arg3 harg3 arg4 harg4 arg5 harg5 arg6 harg6 arg7 harg7 hc0 x t g l d)]
  unfold kernelRun0_B; dsimp only; sl_unfold_words
  simp only [View.readAt_eq_ld, harg1.read_unread, harg2.read_unread, harg3.read_unread, harg6.read_unread, harg7.read_unread]
  rw [View.canon_cons_unit_lit _ _ _ (by decide), View.ld_unit_lit _ d (by decide),
    View.ld_unit_lit _ x (by decide), View.ld_unit_lit _ g (by decide), View.ld_unit_lit _ t (by decide)]

end

section
variable (m : (ℓ : Loc nD τ sig) → Buf (Elt Ideal) ℓ) (c : Dev nD)

/-- The last layer's output, by token and feature. -/
abbrev aX : Vec Ideal S4096x4096 .f32 := m ((c : Thread nD τ).loc main_arg0)
/-- The target. -/
abbrev aT : Vec Ideal S4096x4096 .f32 := m ((c : Thread nD τ).loc main_arg1)
/-- The norm's gains. -/
abbrev aG : Vec Ideal S1x4096 .f32 := m ((c : Thread nD τ).loc main_arg2)

theorem idx_w : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ win0_6.index t 0 = 0 ∧ win0_6.index t 1 = 0 :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ win0_6.index t 0 = 0 ∧ win0_6.index t 1 = 0)

theorem lt32 (t : Fin cfg0.N) : t.val < 32 := lt_of_lt_of_eq t.isLt N_0

/-- Row `i` of point `t`. -/
abbrev row (t : Fin cfg0.N) (i : Fin 128) : Fin 4096 := ⟨t.val * 128 + i.val, by have := lt32 t; omega⟩

theorem blk_x (t : Fin cfg0.N) (i : Fin 128) (k : Fin 4096) : iblk m c 0 t (ix2 i k) = aX m c (ix2 (row t i) k) := by
  unfold iblk
  rw [View.read_apply]
  obtain ⟨⟨e0, e1⟩, -⟩ := idx_w t
  refine (congrFun (V_main_arg0 m c) _).trans (congrArg (aX m c) ?_)
  funext a; apply Fin.ext
  match a with
  | ⟨0, _⟩ => show win0_0.index t 0 * 128 + 1 * i.val = t.val * 128 + i.val; omega
  | ⟨1, _⟩ => show win0_0.index t 1 * 4096 + 1 * k.val = k.val; omega

theorem blk_t (t : Fin cfg0.N) (i : Fin 128) (k : Fin 4096) : iblk m c 1 t (ix2 i k) = aT m c (ix2 (row t i) k) := by
  unfold iblk
  rw [View.read_apply]
  obtain ⟨-, ⟨e0, e1⟩, -⟩ := idx_w t
  refine (congrFun (V_main_arg1 m c) _).trans (congrArg (aT m c) ?_)
  funext a; apply Fin.ext
  match a with
  | ⟨0, _⟩ => show win0_1.index t 0 * 128 + 1 * i.val = t.val * 128 + i.val; omega
  | ⟨1, _⟩ => show win0_1.index t 1 * 4096 + 1 * k.val = k.val; omega

theorem blk_g (t : Fin cfg0.N) (k : Fin 4096) : iblk m c 2 t (ix2 0 k) = aG m c (ix2 0 k) := by
  unfold iblk
  rw [View.read_apply]
  obtain ⟨-, -, ⟨e0, e1⟩, -⟩ := idx_w t
  refine (congrFun (V_main_arg2 m c) _).trans (congrArg (aG m c) ?_)
  funext a; apply Fin.ext
  match a with
  | ⟨0, _⟩ => show win0_2.index t 0 * 1 + 1 * 0 = 0; omega
  | ⟨1, _⟩ => show win0_2.index t 1 * 4096 + 1 * k.val = k.val; omega

/-! ## What a point leaves -/

/-- The row gradients, from a point's blocks. -/
abbrev dxOf (x t : Vec Ideal S128x4096 .f32) (g : Vec Ideal S1x4096 .f32) : FVec Ideal S128x4096 .f32 :=
  k0_pay2 g (k0_pay5 x) (k0_pay6 x) (k0_pay11 x g t)

theorem pt_3 (t : Fin cfg0.N) : (outsAt0 m c t.val t.isLt).1
    = k0_pay3 (iblk m c 2 t) (k0_pay5 (iblk m c 0 t)) (k0_pay6 (iblk m c 0 t)) (k0_pay11 (iblk m c 0 t) (iblk m c 2 t) (iblk m c 1 t)) := by
  by_cases h0 : t.val % 32 = 0
  · rw [outsAt0_A m c t h0]; dsimp only
    exact caseA_3 _ _ _ _ _ _ _ _ _ _ _ _ _ _ _ _ _ _ _ _
  · rw [outsAt0_B m c t h0]; dsimp only
    exact caseB_3 _ _ _ _ _ _ _ _ _ _ _ _ _ _ _ _ _ _ _ _ _ _

theorem pt_4 (t : Fin cfg0.N) : (outsAt0 m c t.val t.isLt).2.1
    = k0_pay4 (iblk m c 2 t) (k0_pay5 (iblk m c 0 t)) (k0_pay6 (iblk m c 0 t)) (k0_pay11 (iblk m c 0 t) (iblk m c 2 t) (iblk m c 1 t)) := by
  by_cases h0 : t.val % 32 = 0
  · rw [outsAt0_A m c t h0]; dsimp only
    exact caseA_4 _ _ _ _ _ _ _ _ _ _ _ _ _ _ _ _ _ _ _ _
  · rw [outsAt0_B m c t h0]; dsimp only
    exact caseB_4 _ _ _ _ _ _ _ _ _ _ _ _ _ _ _ _ _ _ _ _ _ _

/-- The reference's gradient at a row. -/
theorem dx_at (t : Fin cfg0.N) (i : Fin 128) (j : Fin 4096) :
    dxOf (iblk m c 0 t) (iblk m c 1 t) (iblk m c 2 t) (ix2 i j)
      = val_main_v48 (F := Ideal) (aX m c) (aT m c) (aG m c) (ix2 (row t i) j) :=
  same_dx _ _ _ _ _ _ _ _ (blk_x m c t i) (blk_t m c t i) (blk_g m c t) j

/-- A token's mean squared error. -/
def lossRow (r : Fin 4096) : EReal :=
  Ideal.div (∑ k : Fin 4096, val_main_v15 (F := Ideal) (aX m c) (aT m c) (aG m c) (ix2 r k) * val_main_v15 (F := Ideal) (aX m c) (aT m c) (aG m c) (ix2 r k))
    (Ideal.ofBits .f32 0x45800000#32)

/-- A token's part of a gain's gradient. -/
def gainRow (j : Fin 4096) (r : Fin 4096) : EReal :=
  val_main_v29 (F := Ideal) (aX m c) (aT m c) (aG m c) (ix2 r j) * val_main_v12 (F := Ideal) (aX m c) (ix2 r j)

theorem loss_at (t : Fin cfg0.N) (l : Vec Ideal S1x128 .f32) (j : Fin 128) :
    k0_pay10 (iblk m c 0 t) (iblk m c 2 t) (iblk m c 1 t) l (ix2 0 j)
      = l (ix2 0 j) + Ideal.ofBits .f32 0x3F000000#32 * ∑ i : Fin 128, ext (lossRow m c) (t.val * 128 + i.val) := by
  have e : ∀ i : Fin 128, ext (lossRow m c) (t.val * 128 + i.val) = lossRow m c (row t i) := fun i => ext_eq (lossRow m c) (row t i)
  have h := fun i k => same_err _ _ _ _ _ _ i (row t i) (blk_x m c t i) (blk_t m c t i) (blk_g m c t) k
  simp only [e]
  unfold k0_pay10 lossRow
  generalize k0_pay7 (iblk m c 0 t) (iblk m c 2 t) (iblk m c 1 t) = y at *
  pointwise
  simp only [h]

theorem gain_at (t : Fin cfg0.N) (d : Vec Ideal S1x4096 .f32) (j : Fin 4096) :
    k0_pay1 (k0_pay6 (iblk m c 0 t)) (k0_pay11 (iblk m c 0 t) (iblk m c 2 t) (iblk m c 1 t)) d (ix2 0 j)
      = d (ix2 0 j) + ∑ i : Fin 128, ext (gainRow m c j) (t.val * 128 + i.val) := by
  have e : ∀ i : Fin 128, ext (gainRow m c j) (t.val * 128 + i.val) = gainRow m c j (row t i) := fun i => ext_eq (gainRow m c j) (row t i)
  have h := fun i => same_dy _ _ _ _ _ _ i (row t i) (blk_x m c t i) (blk_t m c t i) (blk_g m c t) j
  have h' := fun i => same_xh _ _ i (row t i) (blk_x m c t i) j
  simp only [e]
  unfold k0_pay1 gainRow
  generalize k0_pay6 (iblk m c 0 t) = y at *
  generalize k0_pay11 (iblk m c 0 t) (iblk m c 2 t) (iblk m c 1 t) = z at *
  pointwise
  simp only [h, h']

theorem pay9_at (j : Fin 128) : k0_pay9 (F := Ideal) (ix2 0 j) = 0 := by
  unfold k0_pay9
  pointwise

theorem pay8_at (j : Fin 4096) : k0_pay8 (F := Ideal) (ix2 0 j) = 0 := by
  unfold k0_pay8
  pointwise

/-- The loss's accumulator after a point. -/
theorem acc_loss (t : Fin cfg0.N) (j : Fin 128) : (outsAt0 m c t.val t.isLt).2.2.1 (ix2 0 j)
    = ∑ s ∈ Finset.range (t.val + 1), Ideal.ofBits .f32 0x3F000000#32 * ∑ i : Fin 128, ext (lossRow m c) (s * 128 + i.val) := by
  refine acc_eq (N := cfg0.N) (fun n h => (outsAt0 m c n h).2.2.1 (ix2 0 j))
    (fun s => Ideal.ofBits .f32 0x3F000000#32 * ∑ i : Fin 128, ext (lossRow m c) (s * 128 + i.val)) ?_ ?_ t.val t.isLt
  · intro h
    have e := congrArg (fun o => o.2.2.1 (ix2 0 j)) (outsAt0_A m c ⟨0, h⟩ (by rfl))
    refine e.trans ?_
    dsimp only
    rw [caseA_5, loss_at, pay9_at]
  · intro n h
    have h0 : ¬(n + 1) % 32 = 0 := by have := lt_of_lt_of_eq h N_0; omega
    have e := congrArg (fun o => o.2.2.1 (ix2 0 j)) (outsAt0_B m c ⟨n + 1, h⟩ h0)
    refine e.trans ?_
    dsimp only
    rw [caseB_5, loss_at]
    rfl

/-- The gains' accumulator after a point. -/
theorem acc_gain (t : Fin cfg0.N) (j : Fin 4096) : (outsAt0 m c t.val t.isLt).2.2.2 (ix2 0 j)
    = ∑ s ∈ Finset.range (t.val + 1), ∑ i : Fin 128, ext (gainRow m c j) (s * 128 + i.val) := by
  refine acc_eq (N := cfg0.N) (fun n h => (outsAt0 m c n h).2.2.2 (ix2 0 j))
    (fun s => ∑ i : Fin 128, ext (gainRow m c j) (s * 128 + i.val)) ?_ ?_ t.val t.isLt
  · intro h
    have e := congrArg (fun o => o.2.2.2 (ix2 0 j)) (outsAt0_A m c ⟨0, h⟩ (by rfl))
    refine e.trans ?_
    dsimp only
    rw [caseA_6, gain_at, pay8_at]
  · intro n h
    have h0 : ¬(n + 1) % 32 = 0 := by have := lt_of_lt_of_eq h N_0; omega
    have e := congrArg (fun o => o.2.2.2 (ix2 0 j)) (outsAt0_B m c ⟨n + 1, h⟩ h0)
    refine e.trans ?_
    dsimp only
    rw [caseB_6, gain_at]
    rfl

/-! ## What the launch leaves -/

theorem point (r : Fin 4096) : ∃ (t : Fin cfg0.N) (i : Fin 128), row t i = r :=
  ⟨⟨r.val / 128, lt_of_lt_of_eq (by omega) N_0.symm⟩, ⟨r.val % 128, Nat.mod_lt _ (by norm_num)⟩,
    Fin.ext (by show r.val / 128 * 128 + r.val % 128 = r.val; omega)⟩

theorem final3 (r j : Fin 4096) : (dats m 0 c).arrAt 3 cfg0.N (ix2 r j) = val_main_v48 (F := Ideal) (aX m c) (aT m c) (aG m c) (ix2 r j) := by
  obtain ⟨t, i, rfl⟩ := point r
  have e := congrFun (blocks3 m c t (flush0_3 t)) (ix2 i j)
  rw [View.read_apply, flushed3] at e
  have hi : ((cfg0.win 3).blk t).view.emb (ix2 i j) = ix2 (row t i) j := by
    obtain ⟨-, -, -, ⟨e0, e1⟩, -⟩ := idx_w t
    funext a; apply Fin.ext
    match a with
    | ⟨0, _⟩ => show win0_3.index t 0 * 128 + 1 * i.val = t.val * 128 + i.val; omega
    | ⟨1, _⟩ => show win0_3.index t 1 * 4096 + 1 * j.val = j.val; omega
  refine (congrArg ((dats m 0 c).arrAt 3 cfg0.N) hi.symm).trans (e.trans ?_)
  show (outsAt0 m c t.val t.isLt).1 (ix2 i j) = _
  rw [pt_3, ← dx_at]
  unfold k0_pay3
  pointwise

theorem final4 (r j : Fin 4096) : (dats m 0 c).arrAt 4 cfg0.N (ix2 r j) = val_main_v48 (F := Ideal) (aX m c) (aT m c) (aG m c) (ix2 r j) := by
  obtain ⟨t, i, rfl⟩ := point r
  have e := congrFun (blocks4 m c t (flush0_4 t)) (ix2 i j)
  rw [View.read_apply, flushed4] at e
  have hi : ((cfg0.win 4).blk t).view.emb (ix2 i j) = ix2 (row t i) j := by
    obtain ⟨-, -, -, -, ⟨e0, e1⟩, -⟩ := idx_w t
    funext a; apply Fin.ext
    match a with
    | ⟨0, _⟩ => show win0_4.index t 0 * 128 + 1 * i.val = t.val * 128 + i.val; omega
    | ⟨1, _⟩ => show win0_4.index t 1 * 4096 + 1 * j.val = j.val; omega
  refine (congrArg ((dats m 0 c).arrAt 4 cfg0.N) hi.symm).trans (e.trans ?_)
  show (outsAt0 m c t.val t.isLt).2.1 (ix2 i j) = _
  rw [pt_4, ← dx_at]
  unfold k0_pay4
  pointwise

/-- The last point, which alone writes the accumulators back. -/
abbrev last : Fin cfg0.N := ⟨31, lt_of_lt_of_eq (by norm_num) N_0.symm⟩

theorem only5 (t t' : Fin cfg0.N) (h : (cfg0.win 5).flush t = true) (h' : (cfg0.win 5).flush t' = true) : t = t' := by
  have := (flush0_5 t).mp h
  have := (flush0_5 t').mp h'
  have := lt32 t
  have := lt32 t'
  exact Fin.ext (by omega)

theorem only6 (t t' : Fin cfg0.N) (h : (cfg0.win 6).flush t = true) (h' : (cfg0.win 6).flush t' = true) : t = t' := by
  have := (flush0_6 t).mp h
  have := (flush0_6 t').mp h'
  have := lt32 t
  have := lt32 t'
  exact Fin.ext (by omega)

theorem final5 (j : Fin 128) : (dats m 0 c).arrAt 5 cfg0.N (ix2 0 j) = val_main_v50 (F := Ideal) (aX m c) (aT m c) (aG m c) (ix2 0 j) := by
  have e := congrFun ((dats m 0 c).read_blk_arrAt_eq_flushed 5 (fun t t' h h' hne => absurd (only5 t t' h h') hne) cfg0.N last last.isLt
    ((flush0_5 last).mpr (by rfl))) (ix2 0 j)
  rw [View.read_apply, flushed5] at e
  have hi : ((cfg0.win 5).blk last).view.emb (ix2 0 j) = ix2 0 j := by
    obtain ⟨-, -, -, -, -, ⟨e0, e1⟩, -⟩ := idx_w last
    funext a; apply Fin.ext
    match a with
    | ⟨0, _⟩ => show win0_5.index last 0 * 1 + 1 * 0 = 0; omega
    | ⟨1, _⟩ => show win0_5.index last 1 * 128 + 1 * j.val = j.val; omega
  refine (congrArg ((dats m 0 c).arrAt 5 cfg0.N) hi.symm).trans (e.trans ?_)
  show (outsAt0 m c last.val last.isLt).2.2.1 (ix2 0 j) = _
  rw [acc_loss]
  show ∑ s ∈ Finset.range 32, _ = _
  have hsum := sum_blocks 32 128 (lossRow m c)
  rw [w_half, ← mul_sum _ _ (by norm_num), hsum, ← w_half]
  unfold lossRow val_main_v50 val_main_v23 val_main_v22 val_main_v21 val_main_v19 val_main_v16
  generalize val_main_v15 (F := Ideal) (aX m c) (aT m c) (aG m c) = y
  pointwise [val_main_v20, val_main_cst_7, val_main_cst_6, val_main_cst_5, val_main_cst_4]

theorem final6 (j : Fin 4096) : (dats m 0 c).arrAt 6 cfg0.N (ix2 0 j) = val_main_v32 (F := Ideal) (aX m c) (aT m c) (aG m c) (ix2 0 j) := by
  have e := congrFun ((dats m 0 c).read_blk_arrAt_eq_flushed 6 (fun t t' h h' hne => absurd (only6 t t' h h') hne) cfg0.N last last.isLt
    ((flush0_6 last).mpr (by rfl))) (ix2 0 j)
  rw [View.read_apply, flushed6] at e
  have hi : ((cfg0.win 6).blk last).view.emb (ix2 0 j) = ix2 0 j := by
    obtain ⟨-, -, -, -, -, -, e0, e1⟩ := idx_w last
    funext a; apply Fin.ext
    match a with
    | ⟨0, _⟩ => show win0_6.index last 0 * 1 + 1 * 0 = 0; omega
    | ⟨1, _⟩ => show win0_6.index last 1 * 4096 + 1 * j.val = j.val; omega
  refine (congrArg ((dats m 0 c).arrAt 6 cfg0.N) hi.symm).trans (e.trans ?_)
  show (outsAt0 m c last.val last.isLt).2.2.2 (ix2 0 j) = _
  rw [acc_gain]
  show ∑ s ∈ Finset.range 32, _ = _
  have hsum := sum_blocks 32 128 (gainRow m c j)
  rw [hsum]
  unfold gainRow val_main_v32 val_main_v31 val_main_v30
  generalize val_main_v29 (F := Ideal) (aX m c) (aT m c) (aG m c) = y
  pointwise [val_main_cst_11]
  exact Finset.sum_congr rfl fun r _ => mul_comm _ _

end

attribute [local instance] Cert.LossIdeal.Gen.facts Cert.LossRefIdeal.Gen.facts

/-- The claim. -/
theorem algebraic : Cert.algebraic_LossIdeal_LossRefIdeal := by
  intro m g m' g' _ hargs
  refine ⟨fun c => (dats m 0 c).arrAt 3 cfg0.N, fun c => (dats m 0 c).arrAt 4 cfg0.N, fun c => (dats m 0 c).arrAt 5 cfg0.N,
    fun c => (dats m 0 c).arrAt 6 cfg0.N, run_blocks m g, ?_⟩
  refine (θ_run _ _ _).mono (fun r h c => ?_) (Cert.LossRefIdeal.Value.run m' g')
  obtain ⟨e0, e1, e2, e3, ks⟩ := h c
  obtain ⟨a0, a1, a2⟩ := hargs c
  have same : ∀ (n : ℕ) (x y : (⟨2, ![n, 4096]⟩ : Shape).Idx → EReal), (∀ r j, y (ix2 r j) = x (ix2 r j)) → x = y := fun n x y h => by
    funext i
    obtain ⟨r, j, rfl⟩ : ∃ (r : Fin n) (j : Fin 4096), i = ix2 r j := ⟨i 0, i 1, eq_ix2 i⟩
    exact (h r j).symm
  refine ⟨e0.trans ?_, e1.trans ?_, e2.trans ?_, e3.trans ?_, ks⟩
  · rw [val_main_v48_eq, a0, a1, a2]
    exact same _ _ _ (final3 m c)
  · rw [val_main_v49_eq, a0, a1, a2]
    exact same _ _ _ (final4 m c)
  · rw [val_main_v50_eq, a0, a1, a2]
    funext i
    obtain ⟨u, j, rfl⟩ : ∃ (u : Fin 1) (j : Fin 128), i = ix2 u j := ⟨i 0, i 1, eq_ix2 i⟩
    obtain rfl := Subsingleton.elim u 0
    exact (final5 m c j).symm
  · rw [val_main_v32_eq, a0, a1, a2]
    refine same _ _ _ fun u j => ?_
    obtain rfl := Subsingleton.elim u 0
    exact final6 m c j

/-- The reference runs, keeps its arguments, and holds no semaphore. -/
theorem frame_r : Cert.quiescent_LossRefIdeal := by
  intro m g _
  exact (θ_run Cert.LossRefIdeal.defs _ _).mono
    (fun r h => ⟨fun c => (h c).2.2.2.2, sem_eq_zero_of_no_sems (by decide) r.2⟩) (Cert.LossRefIdeal.Value.run m g)

end Cert.ProdLoss
-- ==== Proof.ProdRmsMem.lean ====
/-
The gradient of the memory norm's gains. A point of the launch takes 128 of the 256 tokens and adds, to what the point
before left, their cotangents times their normalised entries.
-/
module

public import proofs.«01_k».proof.Defs
public import proofs.«01_k».proof.Proof.RmsMath
public import proofs.«01_k».proof.Proof.Gen.RmsMemIdeal.Value
public import proofs.«01_k».proof.Proof.Gen.RmsMemRefIdeal.Read
public import Idealize.ShloMosaic.Lib.Pointwise
public import Idealize.ShloMosaic.Lib.Pipeline.ValueKit.Basic

@[expose] public section

set_option maxRecDepth 16384

noncomputable section

namespace Cert.ProdRmsMem

open Cert.RmsMemIdeal Cert.RmsMemIdeal.Gen Cert.RmsMemIdeal.Value Idealize.ShloMosaic Idealize.SL.Sem
open Idealize.ShloMosaic.TcCoe
open Cert.RmsMemRefIdeal.Read
open Cert.RmsMath

/-- A token's part of a gain's gradient. -/
def part (d x : Fin 256 → Fin 4096 → EReal) (j : Fin 4096) (r : Fin 256) : EReal :=
  d r j * (x r j * Ideal.rsqrt (ms fun k => x r k))

theorem pay_at (d x : Vec Ideal S128x4096 .f32) (a : Vec Ideal S1x4096 .f32) (j : Fin 4096) :
    k0_pay2 d x a (ix2 0 j) = a (ix2 0 j) + ∑ i : Fin 128, d (ix2 i j) * (x (ix2 i j) * Ideal.rsqrt (ms fun k => x (ix2 i k))) := by
  unfold k0_pay2 ms
  pointwise

theorem pay1_at (j : Fin 4096) : k0_pay1 (F := Ideal) (ix2 0 j) = 0 := by
  unfold k0_pay1
  pointwise

theorem ref_at (d x : Vec Ideal S256x4096 .f32) (j : Fin 4096) :
    val_main_v17 (F := Ideal) d x (ix2 0 j) = ∑ r : Fin 256, part (fun r k => d (ix2 r k)) (fun r k => x (ix2 r k)) j r := by
  unfold part ms
  pointwise [val_main_v17, val_main_v16, val_main_v15, val_main_v12, val_main_v11, val_main_v7, val_main_v6, val_main_v5, val_main_v4,
    val_main_v3, val_main_v2, val_main_v1, val_main_v0, val_main_cst, val_main_cst_0, val_main_cst_1, val_main_cst_3]
  exact Finset.sum_congr rfl fun r _ => mul_comm _ _

section
variable (m : (ℓ : Loc nD τ sig) → Buf (Elt Ideal) ℓ) (c : Dev nD)

/-- The cotangent. -/
abbrev aD : Vec Ideal S256x4096 .f32 := m ((c : Thread nD τ).loc main_arg0)
/-- The norm's input. -/
abbrev aX : Vec Ideal S256x4096 .f32 := m ((c : Thread nD τ).loc main_arg1)

theorem idx_w : ∀ t : Fin cfg0.N, (win0_0.index t 0 = t.val ∧ win0_0.index t 1 = 0) ∧ (win0_1.index t 0 = t.val ∧ win0_1.index t 1 = 0)
    ∧ win0_3.index t 0 = 0 ∧ win0_3.index t 1 = 0 :=
  (by decide +kernel : ∀ t : Fin grid0.N, (win0_0.index t 0 = t.val ∧ win0_0.index t 1 = 0) ∧ (win0_1.index t 0 = t.val ∧ win0_1.index t 1 = 0)
    ∧ win0_3.index t 0 = 0 ∧ win0_3.index t 1 = 0)

theorem lt2 (t : Fin cfg0.N) : t.val < 2 := lt_of_lt_of_eq t.isLt N_0

/-- Row `i` of point `t`. -/
abbrev row (t : Fin cfg0.N) (i : Fin 128) : Fin 256 := ⟨t.val * 128 + i.val, by have := lt2 t; omega⟩

theorem blk_d (t : Fin cfg0.N) (i : Fin 128) (k : Fin 4096) : iblk m c 0 t (ix2 i k) = aD m c (ix2 (row t i) k) := by
  unfold iblk
  rw [View.read_apply]
  obtain ⟨⟨e0, e1⟩, -⟩ := idx_w t
  refine (congrFun (V_main_arg0 m c) _).trans (congrArg (aD m c) ?_)
  funext a; apply Fin.ext
  match a with
  | ⟨0, _⟩ => show win0_0.index t 0 * 128 + 1 * i.val = t.val * 128 + i.val; omega
  | ⟨1, _⟩ => show win0_0.index t 1 * 4096 + 1 * k.val = k.val; omega

theorem blk_x (t : Fin cfg0.N) (i : Fin 128) (k : Fin 4096) : iblk m c 1 t (ix2 i k) = aX m c (ix2 (row t i) k) := by
  unfold iblk
  rw [View.read_apply]
  obtain ⟨-, ⟨e0, e1⟩, -⟩ := idx_w t
  refine (congrFun (V_main_arg1 m c) _).trans (congrArg (aX m c) ?_)
  funext a; apply Fin.ext
  match a with
  | ⟨0, _⟩ => show win0_1.index t 0 * 128 + 1 * i.val = t.val * 128 + i.val; omega
  | ⟨1, _⟩ => show win0_1.index t 1 * 4096 + 1 * k.val = k.val; omega

/-- The tokens' parts of gain `j`'s gradient. -/
abbrev parts (j : Fin 4096) : Fin 256 → EReal := part (fun r k => aD m c (ix2 r k)) (fun r k => aX m c (ix2 r k)) j

theorem step_at (t : Fin cfg0.N) (a : Vec Ideal S1x4096 .f32) (j : Fin 4096) :
    k0_pay2 (iblk m c 0 t) (iblk m c 1 t) a (ix2 0 j) = a (ix2 0 j) + ∑ i : Fin 128, ext (parts m c j) (t.val * 128 + i.val) := by
  have e : ∀ i : Fin 128, ext (parts m c j) (t.val * 128 + i.val) = parts m c j (row t i) := fun i => ext_eq (parts m c j) (row t i)
  rw [pay_at]
  simp only [e, blk_d, blk_x]
  rfl

/-- What the accumulator holds after a point. -/
theorem acc (t : Fin cfg0.N) (j : Fin 4096) : (outsAt0 m c t.val t.isLt) (ix2 0 j)
    = ∑ s ∈ Finset.range (t.val + 1), ∑ i : Fin 128, ext (parts m c j) (s * 128 + i.val) := by
  refine acc_eq (N := cfg0.N) (fun n h => (outsAt0 m c n h) (ix2 0 j))
    (fun s => ∑ i : Fin 128, ext (parts m c j) (s * 128 + i.val)) ?_ ?_ t.val t.isLt
  · intro h
    refine (congrFun (outsAt0_A m c ⟨0, h⟩ (by rfl)) (ix2 0 j)).trans ?_
    rw [out_A_3_eq, step_at, pay1_at]
  · intro n h
    have h0 : ¬(n + 1) % 2 = 0 := by have := lt_of_lt_of_eq h N_0; omega
    refine (congrFun (outsAt0_B m c ⟨n + 1, h⟩ h0) (ix2 0 j)).trans ?_
    rw [out_B_3_eq, step_at]
    rfl

/-- The last point, which alone writes the accumulator back. -/
abbrev last : Fin cfg0.N := ⟨1, lt_of_lt_of_eq (by norm_num) N_0.symm⟩

theorem only3 (t t' : Fin cfg0.N) (h : (cfg0.win 3).flush t = true) (h' : (cfg0.win 3).flush t' = true) : t = t' := by
  have := (flush0_3 t).mp h
  have := (flush0_3 t').mp h'
  have := lt2 t
  have := lt2 t'
  exact Fin.ext (by omega)

theorem final (j : Fin 4096) : (dats m 0 c).arrAt 3 cfg0.N (ix2 0 j) = val_main_v17 (F := Ideal) (aD m c) (aX m c) (ix2 0 j) := by
  have e := congrFun ((dats m 0 c).read_blk_arrAt_eq_flushed 3 (fun t t' h h' hne => absurd (only3 t t' h h') hne) cfg0.N last last.isLt
    ((flush0_3 last).mpr (by rfl))) (ix2 0 j)
  rw [View.read_apply, flushed3] at e
  have hi : ((cfg0.win 3).blk last).view.emb (ix2 0 j) = ix2 0 j := by
    obtain ⟨-, -, e0, e1⟩ := idx_w last
    funext a; apply Fin.ext
    match a with
    | ⟨0, _⟩ => show win0_3.index last 0 * 1 + 1 * 0 = 0; omega
    | ⟨1, _⟩ => show win0_3.index last 1 * 4096 + 1 * j.val = j.val; omega
  refine (congrArg ((dats m 0 c).arrAt 3 cfg0.N) hi.symm).trans (e.trans ?_)
  show (outsAt0 m c last.val last.isLt) (ix2 0 j) = _
  rw [acc, ref_at]
  exact sum_blocks 2 128 (parts m c j)

end

attribute [local instance] Cert.RmsMemIdeal.Gen.facts Cert.RmsMemRefIdeal.Gen.facts

/-- The claim. -/
theorem algebraic : Cert.algebraic_RmsMemIdeal_RmsMemRefIdeal := by
  intro m g m' g' _ hargs
  refine ⟨fun c => (dats m 0 c).arrAt 3 cfg0.N, run_blocks m g, ?_⟩
  refine (θ_run _ _ _).mono (fun r h c => ?_) (Cert.RmsMemRefIdeal.Value.run m' g')
  obtain ⟨e0, ks⟩ := h c
  obtain ⟨a0, a1, a2⟩ := hargs c
  refine ⟨e0.trans ?_, ks⟩
  rw [val_main_v17_eq, a0, a1]
  funext i
  obtain ⟨u, j, rfl⟩ : ∃ (u : Fin 1) (j : Fin 4096), i = ix2 u j := ⟨i 0, i 1, eq_ix2 i⟩
  obtain rfl := Subsingleton.elim u 0
  exact (final m c j).symm

/-- The reference runs, keeps its arguments, and holds no semaphore. -/
theorem frame_r : Cert.quiescent_RmsMemRefIdeal := by
  intro m g _
  exact (θ_run Cert.RmsMemRefIdeal.defs _ _).mono
    (fun r h => ⟨fun c => (h c).2, sem_eq_zero_of_no_sems (by decide) r.2⟩) (Cert.RmsMemRefIdeal.Value.run m g)

end Cert.ProdRmsMem
-- ==== Proof.ProdRmsFwd.lean ====
/-
The norm before the mixer. A point of the launch takes 128 tokens and divides each row by its root mean square, times
the gains; the result is a row of the reference's.
-/
module

public import proofs.«01_k».proof.Defs
public import proofs.«01_k».proof.Proof.RmsMath
public import proofs.«01_k».proof.Proof.Gen.RmsFwdIdeal.Value
public import proofs.«01_k».proof.Proof.Gen.RmsFwdRefIdeal.Read
public import Idealize.ShloMosaic.Lib.Pointwise
public import Idealize.ShloMosaic.Lib.Pipeline.ValueKit.Basic

@[expose] public section

set_option maxRecDepth 16384

noncomputable section

namespace Cert.ProdRmsFwd

open Cert.RmsFwdIdeal Cert.RmsFwdIdeal.Gen Cert.RmsFwdIdeal.Value Idealize.ShloMosaic Idealize.SL.Sem
open Idealize.ShloMosaic.TcCoe
open Cert.RmsFwdRefIdeal.Read
open Cert.RmsMath

theorem k_at (x : Vec Ideal S128x4096 .f32) (g : Vec Ideal S1x4096 .f32) (i : Fin 128) (j : Fin 4096) :
    out0_2 x g (ix2 i j) = x (ix2 i j) * Ideal.rsqrt (ms fun k => x (ix2 i k)) * g (ix2 0 j) := by
  unfold out0_2
  rw [View.canon_cons_unit_lit _ _ _ (by decide), View.ld_unit_lit _ x (by decide), View.ld_unit_lit _ g (by decide)]
  unfold k0_pay1 ms
  pointwise

theorem r_at (x : Vec Ideal S4096x4096 .f32) (g : Vec Ideal S1x4096 .f32) (i : Fin 4096) (j : Fin 4096) :
    val_main_v12 (F := Ideal) x g (ix2 i j) = x (ix2 i j) * Ideal.rsqrt (ms fun k => x (ix2 i k)) * g (ix2 0 j) := by
  unfold ms
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

section
variable (m : (ℓ : Loc nD τ sig) → Buf (Elt Ideal) ℓ) (c : Dev nD)

/-- The tokens. -/
abbrev aX : Vec Ideal S4096x4096 .f32 := m ((c : Thread nD τ).loc main_arg0)
/-- The gains. -/
abbrev aG : Vec Ideal S1x4096 .f32 := m ((c : Thread nD τ).loc main_arg1)

theorem idx_w : ∀ t : Fin cfg0.N, (win0_0.index t 0 = t.val ∧ win0_0.index t 1 = 0) ∧ (win0_1.index t 0 = 0 ∧ win0_1.index t 1 = 0)
    ∧ win0_2.index t 0 = t.val ∧ win0_2.index t 1 = 0 :=
  (by decide +kernel : ∀ t : Fin grid0.N, (win0_0.index t 0 = t.val ∧ win0_0.index t 1 = 0) ∧ (win0_1.index t 0 = 0 ∧ win0_1.index t 1 = 0)
    ∧ win0_2.index t 0 = t.val ∧ win0_2.index t 1 = 0)

/-- Row `i` of point `t`. -/
abbrev row (t : Fin cfg0.N) (i : Fin 128) : Fin 4096 := ⟨t.val * 128 + i.val, by have := lt_of_lt_of_eq t.isLt N_0; omega⟩

theorem blk_x (t : Fin cfg0.N) (i : Fin 128) (k : Fin 4096) : iblk m c 0 t (ix2 i k) = aX m c (ix2 (row t i) k) := by
  unfold iblk
  rw [View.read_apply]
  obtain ⟨⟨e0, e1⟩, -⟩ := idx_w t
  refine (congrFun (V_main_arg0 m c) _).trans (congrArg (aX m c) ?_)
  funext a; apply Fin.ext
  match a with
  | ⟨0, _⟩ => show win0_0.index t 0 * 128 + 1 * i.val = t.val * 128 + i.val; omega
  | ⟨1, _⟩ => show win0_0.index t 1 * 4096 + 1 * k.val = k.val; omega

theorem blk_g (t : Fin cfg0.N) (k : Fin 4096) : iblk m c 1 t (ix2 0 k) = aG m c (ix2 0 k) := by
  unfold iblk
  rw [View.read_apply]
  obtain ⟨-, ⟨e0, e1⟩, -⟩ := idx_w t
  refine (congrFun (V_main_arg1 m c) _).trans (congrArg (aG m c) ?_)
  funext a; apply Fin.ext
  match a with
  | ⟨0, _⟩ => show win0_1.index t 0 * 1 + 1 * 0 = 0; omega
  | ⟨1, _⟩ => show win0_1.index t 1 * 4096 + 1 * k.val = k.val; omega

theorem point (r : Fin 4096) : ∃ (t : Fin cfg0.N) (i : Fin 128), row t i = r :=
  ⟨⟨r.val / 128, lt_of_lt_of_eq (by omega) N_0.symm⟩, ⟨r.val % 128, Nat.mod_lt _ (by norm_num)⟩,
    Fin.ext (by show r.val / 128 * 128 + r.val % 128 = r.val; omega)⟩

theorem final (r j : Fin 4096) : (dats m 0 c).arrAt 2 cfg0.N (ix2 r j) = val_main_v12 (F := Ideal) (aX m c) (aG m c) (ix2 r j) := by
  obtain ⟨t, i, rfl⟩ := point r
  have e := congrFun (blocks2 m c t (flush0_2 t)) (ix2 i j)
  rw [View.read_apply, flushed2] at e
  have hi : ((cfg0.win 2).blk t).view.emb (ix2 i j) = ix2 (row t i) j := by
    obtain ⟨-, -, e0, e1⟩ := idx_w t
    funext a; apply Fin.ext
    match a with
    | ⟨0, _⟩ => show win0_2.index t 0 * 128 + 1 * i.val = t.val * 128 + i.val; omega
    | ⟨1, _⟩ => show win0_2.index t 1 * 4096 + 1 * j.val = j.val; omega
  refine (congrArg ((dats m 0 c).arrAt 2 cfg0.N) hi.symm).trans (e.trans ?_)
  show out0_2 (iblk m c 0 t) (iblk m c 1 t) (ix2 i j) = _
  rw [k_at, r_at]
  simp only [blk_x, blk_g]

end

attribute [local instance] Cert.RmsFwdIdeal.Gen.facts Cert.RmsFwdRefIdeal.Gen.facts

/-- The claim. -/
theorem algebraic : Cert.algebraic_RmsFwdIdeal_RmsFwdRefIdeal := by
  intro m g m' g' _ hargs
  refine ⟨fun c => (dats m 0 c).arrAt 2 cfg0.N, run_blocks m g, ?_⟩
  refine (θ_run _ _ _).mono (fun r h c => ?_) (Cert.RmsFwdRefIdeal.Value.run m' g')
  obtain ⟨e0, ks⟩ := h c
  obtain ⟨a0, a1⟩ := hargs c
  refine ⟨e0.trans ?_, ks⟩
  rw [val_main_v12_eq, a0, a1]
  funext i
  obtain ⟨r, j, rfl⟩ : ∃ (r : Fin 4096) (j : Fin 4096), i = ix2 r j := ⟨i 0, i 1, eq_ix2 i⟩
  exact (final m c r j).symm

/-- The reference runs, keeps its arguments, and holds no semaphore. -/
theorem frame_r : Cert.quiescent_RmsFwdRefIdeal := by
  intro m g _
  exact (θ_run Cert.RmsFwdRefIdeal.defs _ _).mono
    (fun r h => ⟨fun c => (h c).2, sem_eq_zero_of_no_sems (by decide) r.2⟩) (Cert.RmsFwdRefIdeal.Value.run m g)

end Cert.ProdRmsFwd
-- ==== Proof.ProdAttnFwd.lean ====
/-
The attention over the memory, forward. A point of the launch takes 256 tokens and all 256 memory rows; it stores its block
head by head, and each head's columns are the softmax of the scores times the values.
-/
module

public import proofs.«01_k».proof.Defs
public import proofs.«01_k».proof.Proof.AttnPoint
public import proofs.«01_k».proof.Proof.Gen.AttnFwdIdeal.Value
public import proofs.«01_k».proof.Proof.Gen.AttnFwdRefIdeal.Read
public import Idealize.ShloMosaic.Lib.Pointwise
public import Idealize.ShloMosaic.Lib.Pipeline.ValueKit.Basic

@[expose] public section

set_option maxRecDepth 16384

noncomputable section

namespace Cert.ProdAttnFwd

open Cert.AttnFwdIdeal Cert.AttnFwdIdeal.Gen Cert.AttnFwdIdeal.Value Idealize.ShloMosaic Idealize.SL.Sem
open Idealize.ShloMosaic.TcCoe
open Cert.AttnFwdRefIdeal.Read
open Cert.AttnMath Cert.KernelIdeal.AttnPoint Cert.KernelIdeal.AttnBlock

/-- The attention's row `r` at column `c`. -/
def mix {n : ℕ} (Q : Fin n → Fin 4096 → EReal) (K V : Fin 256 → Fin 4096 → EReal) (r : Fin n) (c : Fin 4096) : EReal :=
  ∑ m, pr Q K c r m * V m c

/-! ## A point -/

section
variable (q k v : Vec Ideal S256x1024 .bf16)

/-- One head of a block. -/
theorem one_at (r : Fin 256) (d : Fin 1024) :
    k0_pay2 q k v (ix2 r d) = ∑ m, prob (rows q r) (rows k) m * v (ix2 m d) := by
  unfold k0_pay2
  pointwise
  simp only [prob, tot, ex, top, score, scl, low, rows]

theorem pay4_eq : k0_pay4 (k0_pay3 q k) v = k0_pay2 q k v := rfl
theorem pay5_eq : k0_pay5 q k v = k0_pay2 q k v := rfl
theorem pay1_eq : k0_pay1 (k0_pay6 q k) (k0_pay7 q k) v = k0_pay2 q k v := rfl

end

section
variable (x0 x1 x2 : Vec Ideal S256x4096 .bf16)

/-- The block. -/
def bO : Vec Ideal S256x4096 .bf16 := fun y => mix (mat x0) (mat x1) (mat x2) (y 0) (y 1)

theorem piece (h o : ℕ) (ho : o = h * 1024) (inb : ∀ a, ![0, o] a + ![256, 1024] a ≤ S256x4096.size a) (r : Fin 256) (d : Fin 1024) :
    k0_pay2 (View.ld x0 (cols o inb)) (View.ld x1 (cols o inb)) (View.ld x2 (cols o inb)) (ix2 r d)
      = bO x0 x1 x2 (ix2 r ⟨o + d.val, col_lt o inb d⟩) := by
  rw [one_at]
  simp only [rows_ld _ h o ho inb d]
  exact Finset.sum_congr rfl fun m _ => congrArg (_ * ·) (ld_cols x2 o inb m d)

theorem block : out0_3 x0 x1 x2 = bO x0 x1 x2 := by
  unfold out0_3
  rw [pay4_eq, pay5_eq, pay1_eq]
  exact canon_heads _ _ _ _ _ [] _ _ _ _ (piece x0 x1 x2 0 0 rfl _) (piece x0 x1 x2 1 1024 rfl _) (piece x0 x1 x2 2 2048 rfl _)
    (piece x0 x1 x2 3 3072 rfl _)

end

/-! ## The launch -/

section
variable (m : (ℓ : Loc nD τ sig) → Buf (Elt Ideal) ℓ) (c : Dev nD)

/-- The queries. -/
abbrev aQ : Vec Ideal S4096x4096 .bf16 := m ((c : Thread nD τ).loc main_arg0)
/-- The keys. -/
abbrev aK : Vec Ideal S256x4096 .bf16 := m ((c : Thread nD τ).loc main_arg1)
/-- The values. -/
abbrev aV : Vec Ideal S256x4096 .bf16 := m ((c : Thread nD τ).loc main_arg2)

/-- The point's number. -/
abbrev num (t : Fin cfg0.N) : Fin 16 := ⟨t.val, lt_of_lt_of_eq t.isLt N_0⟩

theorem idx_w : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ win0_3.index t 0 = t.val ∧ win0_3.index t 1 = 0 :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ win0_3.index t 0 = t.val ∧ win0_3.index t 1 = 0)

theorem blk_q (t : Fin cfg0.N) : mat (iblk m c 0 t) = blk (mat (aQ m c)) (num t) := by
  funext r k
  show iblk m c 0 t (ix2 r k) = aQ m c (ix2 (rowOf (num t) r) k)
  unfold iblk
  rw [View.read_apply]
  obtain ⟨⟨e0, e1⟩, -⟩ := idx_w t
  refine (congrFun (V_main_arg0 m c) _).trans (congrArg (aQ m c) ?_)
  funext a; apply Fin.ext
  match a with
  | ⟨0, _⟩ => show win0_0.index t 0 * 256 + 1 * r.val = t.val * 256 + r.val; omega
  | ⟨1, _⟩ => show win0_0.index t 1 * 4096 + 1 * k.val = k.val; omega

theorem blk_k (t : Fin cfg0.N) : mat (iblk m c 1 t) = mat (aK m c) := by
  funext r k
  show iblk m c 1 t (ix2 r k) = aK m c (ix2 r k)
  unfold iblk
  rw [View.read_apply]
  obtain ⟨-, ⟨e0, e1⟩, -⟩ := idx_w t
  refine (congrFun (V_main_arg1 m c) _).trans (congrArg (aK m c) ?_)
  funext a; apply Fin.ext
  match a with
  | ⟨0, _⟩ => show win0_1.index t 0 * 256 + 1 * r.val = r.val; omega
  | ⟨1, _⟩ => show win0_1.index t 1 * 4096 + 1 * k.val = k.val; omega

theorem blk_v (t : Fin cfg0.N) : mat (iblk m c 2 t) = mat (aV m c) := by
  funext r k
  show iblk m c 2 t (ix2 r k) = aV m c (ix2 r k)
  unfold iblk
  rw [View.read_apply]
  obtain ⟨-, -, ⟨e0, e1⟩, -⟩ := idx_w t
  refine (congrFun (V_main_arg2 m c) _).trans (congrArg (aV m c) ?_)
  funext a; apply Fin.ext
  match a with
  | ⟨0, _⟩ => show win0_2.index t 0 * 256 + 1 * r.val = r.val; omega
  | ⟨1, _⟩ => show win0_2.index t 1 * 4096 + 1 * k.val = k.val; omega

theorem point (r : Fin 4096) : ∃ (t : Fin cfg0.N) (i : Fin 256), rowOf (num t) i = r :=
  ⟨⟨r.val / 256, lt_of_lt_of_eq (by omega) N_0.symm⟩, ⟨r.val % 256, Nat.mod_lt _ (by norm_num)⟩,
    Fin.ext (by show r.val / 256 * 256 + r.val % 256 = r.val; omega)⟩

theorem final (r j : Fin 4096) : (dats m 0 c).arrAt 3 cfg0.N (ix2 r j) = mix (mat (aQ m c)) (mat (aK m c)) (mat (aV m c)) r j := by
  obtain ⟨t, i, rfl⟩ := point r
  have e := congrFun (blocks3 m c t (flush0_3 t)) (ix2 i j)
  rw [View.read_apply, flushed3] at e
  have hi : ((cfg0.win 3).blk t).view.emb (ix2 i j) = ix2 (rowOf (num t) i) j := by
    obtain ⟨-, -, -, e0, e1⟩ := idx_w t
    funext a; apply Fin.ext
    match a with
    | ⟨0, _⟩ => show win0_3.index t 0 * 256 + 1 * i.val = t.val * 256 + i.val; omega
    | ⟨1, _⟩ => show win0_3.index t 1 * 4096 + 1 * j.val = j.val; omega
  refine (congrArg ((dats m 0 c).arrAt 3 cfg0.N) hi.symm).trans (e.trans ?_)
  show out0_3 (iblk m c 0 t) (iblk m c 1 t) (iblk m c 2 t) (ix2 i j) = _
  rw [block]
  show mix (mat (iblk m c 0 t)) (mat (iblk m c 1 t)) (mat (iblk m c 2 t)) i j = _
  rw [blk_q, blk_k, blk_v]
  rfl

end

/-! ## The reference -/

section
variable (x0 : Vec Ideal S4096x4096 .bf16) (x1 x2 : Vec Ideal S256x4096 .bf16)

/-- The rows of `f`, cut to head `h`. -/
abbrev hd {n : ℕ} (f : Fin n → Fin 4096 → EReal) (h : Fin 4) : Fin n → Row := fun r d => f r ⟨h.val * 1024 + d.val, by omega⟩

theorem fold_at (y : Cert.AttnFwdRefIdeal.S1x4x4096x256.Idx → EReal) (init : Cert.AttnFwdRefIdeal.S_.Idx → EReal) (h : Fin 4) (r : Fin 4096) :
    Host.reduce max y init Cert.AttnFwdRefIdeal.Gen.reducesTo_S1x4x4096x256_S1x4x4096_d3 Cert.AttnFwdRefIdeal.Gen.h_S_ (ix3 0 h r)
      = Finset.univ.fold max (init (Shape.Idx.first Cert.AttnFwdRefIdeal.Gen.h_S_)) (fun m => y (ix4 0 h r m)) := by
  pointwise

theorem v11_at (h : Fin 4) (r : Fin 4096) (m : Fin 256) :
    val_main_v11 (F := Ideal) x0 x1 (ix4 0 h r m) = score (hd (mat x0) h r) (hd (mat x1) h) m := by
  pointwise [val_main_v11, val_main_v10, val_main_v9, val_main_v6, val_main_v7, val_main_v1, val_main_v3, val_main_v0, val_main_v2, val_main_cst]
  simp only [score, scl]

theorem v12_at (h : Fin 4) (r : Fin 4096) :
    val_main_v12 (F := Ideal) x0 x1 (ix3 0 h r) = top (hd (mat x0) h r) (hd (mat x1) h) := by
  refine (fold_at (val_main_v11 (F := Ideal) x0 x1) (val_main_cst_0 (F := Ideal)) h r).trans ?_
  simp only [v11_at]
  rfl

theorem v14_at (h : Fin 4) (r : Fin 4096) :
    val_main_v14 (F := Ideal) x0 x1 (ix3 0 h r) = top (hd (mat x0) h r) (hd (mat x1) h) := by
  have e := v12_at x0 x1 h r
  rw [val_main_v14_apply, e]
  pointwise [val_main_v13, val_main_cst_1]
  show max low _ = _
  rw [low_eq, max_eq_right bot_le]

theorem v18_at (h : Fin 4) (r : Fin 4096) (m : Fin 256) :
    val_main_v18 (F := Ideal) x0 x1 (ix4 0 h r m) = ex (hd (mat x0) h r) (hd (mat x1) h) m := by
  pointwise [val_main_v18, val_main_v17, val_main_v16, val_main_v15]
  rw [v11_at, v14_at]
  simp only [ex]

theorem v19_at (h : Fin 4) (r : Fin 4096) :
    val_main_v19 (F := Ideal) x0 x1 (ix3 0 h r) = tot (hd (mat x0) h r) (hd (mat x1) h) := by
  pointwise [val_main_v19, val_main_cst_2]
  simp only [v18_at, tot]

theorem v22_at (h : Fin 4) (r : Fin 4096) (m : Fin 256) :
    val_main_v22 (F := Ideal) x0 x1 (ix4 0 h r m) = prob (hd (mat x0) h r) (hd (mat x1) h) m := by
  pointwise [val_main_v22, val_main_v21, val_main_v20]
  rw [v18_at, v19_at]
  simp only [prob]

theorem v27_at (r c : Fin 4096) :
    val_main_v27 (F := Ideal) x0 x1 x2 (ix2 r c) = mix (mat x0) (mat x1) (mat x2) r c := by
  pointwise [val_main_v27, val_main_v26, val_main_v25, val_main_v24, val_main_v23, val_main_v8, val_main_v5, val_main_v4]
  simp only [v22_at, mix]
  refine Finset.sum_congr rfl fun m _ => ?_
  rw [mul_comm]
  rfl

end

attribute [local instance] Cert.AttnFwdIdeal.Gen.facts Cert.AttnFwdRefIdeal.Gen.facts

/-- The claim. -/
theorem algebraic : Cert.algebraic_AttnFwdIdeal_AttnFwdRefIdeal := by
  intro m g m' g' _ hargs
  refine ⟨fun c => (dats m 0 c).arrAt 3 cfg0.N, run_blocks m g, ?_⟩
  refine (θ_run _ _ _).mono (fun r h c => ?_) (Cert.AttnFwdRefIdeal.Value.run m' g')
  obtain ⟨e0, ks⟩ := h c
  obtain ⟨a0, a1, a2⟩ := hargs c
  refine ⟨e0.trans ?_, ks⟩
  rw [val_main_v27_eq, a0, a1, a2]
  funext i
  obtain ⟨r, j, rfl⟩ : ∃ (r : Fin 4096) (j : Fin 4096), i = ix2 r j := ⟨i 0, i 1, eq_ix2 i⟩
  exact (v27_at _ _ _ r j).trans (final m c r j).symm

/-- The reference runs, keeps its arguments, and holds no semaphore. -/
theorem frame_r : Cert.quiescent_AttnFwdRefIdeal := by
  intro m g _
  exact (θ_run Cert.AttnFwdRefIdeal.defs _ _).mono
    (fun r h => ⟨fun c => (h c).2, sem_eq_zero_of_no_sems (by decide) r.2⟩) (Cert.AttnFwdRefIdeal.Value.run m g)

end Cert.ProdAttnFwd
-- ==== Proof.AdamMath.lean ====
/-
One entry of the optimiser's step: the two moments and the update, as expressions of the entry's own numbers.
-/
module

public import Idealize.ShloMosaic.Lib.Pointwise

@[expose] public section

noncomputable section

namespace Cert.AdamMath

open Idealize.ShloMosaic

/-- The first moment after the step. -/
def first (m g : EReal) : EReal := Ideal.ofBits .f32 0x3F666666#32 * m + Ideal.ofBits .f32 0x3DCCCCCD#32 * g

/-- The second moment after the step. -/
def second (v g : EReal) : EReal := Ideal.ofBits .f32 0x3F7FBE77#32 * v + Ideal.ofBits .f32 0x3A83126F#32 * (g * g)

/-- The weight's change, from the weight and the new moments. -/
def step (w m v : EReal) : EReal :=
  Ideal.ofBits .f32 0xBA83126F#32 * (Ideal.div (Ideal.div m (Ideal.ofBits .f32 0x3F26BD02#32))
      (Ideal.sqrt (Ideal.div v (Ideal.ofBits .f32 0x3C231ACC#32)) + Ideal.ofBits .f32 0x322BCC77#32)
    + Ideal.ofBits .f32 0x3C23D70A#32 * w)

end Cert.AdamMath
-- ==== Proof.ProdAdamSmall.lean ====
/-
The optimiser's update of the eight small weights, stacked into one array that the launch's one point holds whole. The
gradient comes in already summed over the chips; every step is taken entry by entry.
-/
module

public import proofs.«01_k».proof.Defs
public import proofs.«01_k».proof.Proof.AdamMath
public import proofs.«01_k».proof.Proof.Gen.AdamSmallIdeal.Value
public import proofs.«01_k».proof.Proof.Gen.AdamSmallRefIdeal.Read
public import Idealize.ShloMosaic.Lib.Pointwise
public import Idealize.ShloMosaic.Lib.Pipeline.ValueKit.Basic

@[expose] public section

set_option maxRecDepth 16384

noncomputable section

namespace Cert.ProdAdamSmall

open Cert.AdamSmallIdeal Cert.AdamSmallIdeal.Gen Cert.AdamSmallIdeal.Value Idealize.ShloMosaic Idealize.SL.Sem
open Idealize.ShloMosaic.TcCoe
open Cert.AdamSmallRefIdeal.Read
open Cert.AdamMath

section
variable (g : Vec Ideal S1x8x4096 .f32) (w m v : Vec Ideal S8x4096 .f32) (i : Fin 8) (j : Fin 4096)

theorem k_m : k0_pay5 g m (ix2 i j) = first (m (ix2 i j)) (g (ix3 0 i j)) := by
  unfold k0_pay5 k0_pay3 first
  pointwise

theorem k_v : k0_pay6 g v (ix2 i j) = second (v (ix2 i j)) (g (ix3 0 i j)) := by
  unfold k0_pay6 k0_pay3 second
  pointwise

theorem o4 : out0_4 g w m v (ix2 i j) = g (ix3 0 i j) := by
  unfold out0_4
  rw [View.canon_cons_unit_lit _ _ _ (by decide), View.ld_unit_lit _ g (by decide)]
  unfold k0_pay4 k0_pay3
  pointwise

theorem o5 : out0_5 g w m v (ix2 i j) = step (w (ix2 i j)) (first (m (ix2 i j)) (g (ix3 0 i j))) (second (v (ix2 i j)) (g (ix3 0 i j))) := by
  rw [← k_m, ← k_v]
  unfold out0_5
  rw [View.canon_cons_unit_lit _ _ _ (by decide), View.ld_unit_lit _ g (by decide), View.ld_unit_lit _ w (by decide), View.ld_unit_lit _ m (by decide),
    View.ld_unit_lit _ v (by decide)]
  unfold k0_pay7 step
  generalize k0_pay5 g m = m'
  generalize k0_pay6 g v = v'
  pointwise

theorem o6 : out0_6 g w m v (ix2 i j) = first (m (ix2 i j)) (g (ix3 0 i j)) := by
  rw [← k_m]
  unfold out0_6
  rw [View.canon_cons_unit_lit _ _ _ (by decide), View.ld_unit_lit _ g (by decide), View.ld_unit_lit _ m (by decide)]
  unfold k0_pay1
  generalize k0_pay5 g m = m'
  pointwise

theorem o7 : out0_7 g w m v (ix2 i j) = second (v (ix2 i j)) (g (ix3 0 i j)) := by
  rw [← k_v]
  unfold out0_7
  rw [View.canon_cons_unit_lit _ _ _ (by decide), View.ld_unit_lit _ g (by decide), View.ld_unit_lit _ v (by decide)]
  unfold k0_pay2
  generalize k0_pay6 g v = v'
  pointwise
end

section
variable (g w m v : Vec Ideal S8x4096 .f32) (i : Fin 8) (j : Fin 4096)

theorem r_m : val_main_v4 (F := Ideal) g m (ix2 i j) = first (m (ix2 i j)) (g (ix2 i j)) := by
  unfold first
  pointwise [val_main_v4, val_main_v3, val_main_v2, val_main_v1, val_main_v0, val_main_cst, val_main_cst_0]

theorem r_v : val_main_v10 (F := Ideal) g v (ix2 i j) = second (v (ix2 i j)) (g (ix2 i j)) := by
  unfold second
  pointwise [val_main_v10, val_main_v9, val_main_v8, val_main_v7, val_main_v6, val_main_v5, val_main_cst_1, val_main_cst_2]

theorem r_d : val_main_v23 (F := Ideal) g w m v (ix2 i j)
    = step (w (ix2 i j)) (first (m (ix2 i j)) (g (ix2 i j))) (second (v (ix2 i j)) (g (ix2 i j))) := by
  rw [← r_m, ← r_v]
  unfold step
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]
end

section
variable (m : (ℓ : Loc nD τ sig) → Buf (Elt Ideal) ℓ) (c : Dev nD)

/-- The summed gradient. -/
abbrev aG : Vec Ideal S8x4096 .f32 := m ((c : Thread nD τ).loc main_arg0)
/-- The weights. -/
abbrev aW : Vec Ideal S8x4096 .f32 := m ((c : Thread nD τ).loc main_arg1)
/-- The two moments. -/
abbrev aM : Vec Ideal S8x4096 .f32 := m ((c : Thread nD τ).loc main_arg2)
abbrev aN : Vec Ideal S8x4096 .f32 := m ((c : Thread nD τ).loc main_arg3)

/-- The launch's point. -/
abbrev pt : Fin cfg0.N := ⟨0, lt_of_lt_of_eq Nat.one_pos N_0.symm⟩

theorem lead_at (i : Fin 8) (j : Fin 4096) : V m c main_v0 (ix3 0 i j) = aG m c (ix2 i j) := by
  have e : V m c main_v0 = broadcastInDim S1x8x4096 ![1, 2] bcast_S8x4096_S1x8x4096_1_2 (aG m c) := by
    unfold V; after_results <;> rfl
  rw [e]
  pointwise

theorem idx_w : (win0_0.index pt 0 = 0 ∧ win0_0.index pt 1 = 0 ∧ win0_0.index pt 2 = 0) ∧ (win0_1.index pt 0 = 0 ∧ win0_1.index pt 1 = 0)
    ∧ (win0_2.index pt 0 = 0 ∧ win0_2.index pt 1 = 0) ∧ (win0_3.index pt 0 = 0 ∧ win0_3.index pt 1 = 0)
    ∧ (win0_4.index pt 0 = 0 ∧ win0_4.index pt 1 = 0) ∧ (win0_5.index pt 0 = 0 ∧ win0_5.index pt 1 = 0)
    ∧ (win0_6.index pt 0 = 0 ∧ win0_6.index pt 1 = 0) ∧ win0_7.index pt 0 = 0 ∧ win0_7.index pt 1 = 0 := by
  decide +kernel

theorem blk_g (i : Fin 8) (j : Fin 4096) : iblk m c 0 pt (ix3 0 i j) = aG m c (ix2 i j) := by
  refine Eq.trans ?_ (lead_at m c i j)
  unfold iblk
  rw [View.read_apply]
  obtain ⟨⟨e0, e1, e2⟩, -⟩ := idx_w
  refine congrArg (V m c main_v0) ?_
  funext a; apply Fin.ext
  match a with
  | ⟨0, _⟩ => show win0_0.index pt 0 * 1 + 1 * 0 = 0; omega
  | ⟨1, _⟩ => show win0_0.index pt 1 * 8 + 1 * i.val = i.val; omega
  | ⟨2, _⟩ => show win0_0.index pt 2 * 4096 + 1 * j.val = j.val; omega

theorem blk_w (i : Fin 8) (j : Fin 4096) : iblk m c 1 pt (ix2 i j) = aW m c (ix2 i j) := by
  unfold iblk
  rw [View.read_apply]
  obtain ⟨-, ⟨e0, e1⟩, -⟩ := idx_w
  refine (congrFun (V_main_arg1 m c) _).trans (congrArg (aW m c) ?_)
  funext a; apply Fin.ext
  match a with
  | ⟨0, _⟩ => show win0_1.index pt 0 * 8 + 1 * i.val = i.val; omega
  | ⟨1, _⟩ => show win0_1.index pt 1 * 4096 + 1 * j.val = j.val; omega

theorem blk_m (i : Fin 8) (j : Fin 4096) : iblk m c 2 pt (ix2 i j) = aM m c (ix2 i j) := by
  unfold iblk
  rw [View.read_apply]
  obtain ⟨-, -, ⟨e0, e1⟩, -⟩ := idx_w
  refine (congrFun (V_main_arg2 m c) _).trans (congrArg (aM m c) ?_)
  funext a; apply Fin.ext
  match a with
  | ⟨0, _⟩ => show win0_2.index pt 0 * 8 + 1 * i.val = i.val; omega
  | ⟨1, _⟩ => show win0_2.index pt 1 * 4096 + 1 * j.val = j.val; omega

theorem blk_v (i : Fin 8) (j : Fin 4096) : iblk m c 3 pt (ix2 i j) = aN m c (ix2 i j) := by
  unfold iblk
  rw [View.read_apply]
  obtain ⟨-, -, -, ⟨e0, e1⟩, -⟩ := idx_w
  refine (congrFun (V_main_arg3 m c) _).trans (congrArg (aN m c) ?_)
  funext a; apply Fin.ext
  match a with
  | ⟨0, _⟩ => show win0_3.index pt 0 * 8 + 1 * i.val = i.val; omega
  | ⟨1, _⟩ => show win0_3.index pt 1 * 4096 + 1 * j.val = j.val; omega

theorem final4 (i : Fin 8) (j : Fin 4096) : (dats m 0 c).arrAt 4 cfg0.N (ix2 i j) = aG m c (ix2 i j) := by
  have e := congrFun (blocks4 m c pt (flush0_4 pt)) (ix2 i j)
  rw [View.read_apply, flushed4] at e
  have hi : ((cfg0.win 4).blk pt).view.emb (ix2 i j) = ix2 i j := by
    obtain ⟨-, -, -, -, ⟨e0, e1⟩, -⟩ := idx_w
    funext a; apply Fin.ext
    match a with
    | ⟨0, _⟩ => show win0_4.index pt 0 * 8 + 1 * i.val = i.val; omega
    | ⟨1, _⟩ => show win0_4.index pt 1 * 4096 + 1 * j.val = j.val; omega
  refine (congrArg ((dats m 0 c).arrAt 4 cfg0.N) hi.symm).trans (e.trans ?_)
  show out0_4 (iblk m c 0 pt) (iblk m c 1 pt) (iblk m c 2 pt) (iblk m c 3 pt) (ix2 i j) = _
  rw [o4, blk_g]

theorem final5 (i : Fin 8) (j : Fin 4096) : (dats m 0 c).arrAt 5 cfg0.N (ix2 i j) = val_main_v23 (F := Ideal) (aG m c) (aW m c) (aM m c) (aN m c) (ix2 i j) := by
  have e := congrFun (blocks5 m c pt (flush0_5 pt)) (ix2 i j)
  rw [View.read_apply, flushed5] at e
  have hi : ((cfg0.win 5).blk pt).view.emb (ix2 i j) = ix2 i j := by
    obtain ⟨-, -, -, -, -, ⟨e0, e1⟩, -⟩ := idx_w
    funext a; apply Fin.ext
    match a with
    | ⟨0, _⟩ => show win0_5.index pt 0 * 8 + 1 * i.val = i.val; omega
    | ⟨1, _⟩ => show win0_5.index pt 1 * 4096 + 1 * j.val = j.val; omega
  refine (congrArg ((dats m 0 c).arrAt 5 cfg0.N) hi.symm).trans (e.trans ?_)
  show out0_5 (iblk m c 0 pt) (iblk m c 1 pt) (iblk m c 2 pt) (iblk m c 3 pt) (ix2 i j) = _
  rw [o5, r_d, blk_g, blk_w, blk_m, blk_v]

theorem final6 (i : Fin 8) (j : Fin 4096) : (dats m 0 c).arrAt 6 cfg0.N (ix2 i j) = val_main_v4 (F := Ideal) (aG m c) (aM m c) (ix2 i j) := by
  have e := congrFun (blocks6 m c pt (flush0_6 pt)) (ix2 i j)
  rw [View.read_apply, flushed6] at e
  have hi : ((cfg0.win 6).blk pt).view.emb (ix2 i j) = ix2 i j := by
    obtain ⟨-, -, -, -, -, -, ⟨e0, e1⟩, -⟩ := idx_w
    funext a; apply Fin.ext
    match a with
    | ⟨0, _⟩ => show win0_6.index pt 0 * 8 + 1 * i.val = i.val; omega
    | ⟨1, _⟩ => show win0_6.index pt 1 * 4096 + 1 * j.val = j.val; omega
  refine (congrArg ((dats m 0 c).arrAt 6 cfg0.N) hi.symm).trans (e.trans ?_)
  show out0_6 (iblk m c 0 pt) (iblk m c 1 pt) (iblk m c 2 pt) (iblk m c 3 pt) (ix2 i j) = _
  rw [o6, r_m, blk_g, blk_m]

theorem final7 (i : Fin 8) (j : Fin 4096) : (dats m 0 c).arrAt 7 cfg0.N (ix2 i j) = val_main_v10 (F := Ideal) (aG m c) (aN m c) (ix2 i j) := by
  have e := congrFun (blocks7 m c pt (flush0_7 pt)) (ix2 i j)
  rw [View.read_apply, flushed7] at e
  have hi : ((cfg0.win 7).blk pt).view.emb (ix2 i j) = ix2 i j := by
    obtain ⟨-, -, -, -, -, -, -, e0, e1⟩ := idx_w
    funext a; apply Fin.ext
    match a with
    | ⟨0, _⟩ => show win0_7.index pt 0 * 8 + 1 * i.val = i.val; omega
    | ⟨1, _⟩ => show win0_7.index pt 1 * 4096 + 1 * j.val = j.val; omega
  refine (congrArg ((dats m 0 c).arrAt 7 cfg0.N) hi.symm).trans (e.trans ?_)
  show out0_7 (iblk m c 0 pt) (iblk m c 1 pt) (iblk m c 2 pt) (iblk m c 3 pt) (ix2 i j) = _
  rw [o7, r_v, blk_g, blk_v]

end

attribute [local instance] Cert.AdamSmallIdeal.Gen.facts Cert.AdamSmallRefIdeal.Gen.facts

/-- The claim. -/
theorem algebraic : Cert.algebraic_AdamSmallIdeal_AdamSmallRefIdeal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g, ?_⟩
  refine (θ_run _ _ _).mono (fun r h c => ?_) (Cert.AdamSmallRefIdeal.Value.run m' g')
  obtain ⟨e0, e1, e2, e3, ks⟩ := h c
  obtain ⟨a0, a1, a2, a3⟩ := hargs c
  have same : ∀ (x y : S8x4096.Idx → EReal), (∀ r j, y (ix2 r j) = x (ix2 r j)) → x = y := fun x y h => by
    funext i
    obtain ⟨r, j, rfl⟩ : ∃ (r : Fin 8) (j : Fin 4096), i = ix2 r j := ⟨i 0, i 1, eq_ix2 i⟩
    exact (h r j).symm
  refine ⟨e0.trans ?_, e1.trans ?_, e2.trans ?_, e3.trans ?_, ks⟩
  · rw [a0]
    exact same _ _ (final4 m c)
  · rw [val_main_v23_eq, a0, a1, a2, a3]
    exact same _ _ (final5 m c)
  · rw [val_main_v4_eq, a0, a2]
    exact same _ _ (final6 m c)
  · rw [val_main_v10_eq, a0, a3]
    exact same _ _ (final7 m c)

/-- The reference runs, keeps its arguments, and holds no semaphore. -/
theorem frame_r : Cert.quiescent_AdamSmallRefIdeal := by
  intro m g _
  exact (θ_run Cert.AdamSmallRefIdeal.defs _ _).mono
    (fun r h => ⟨fun c => (h c).2.2.2.2, sem_eq_zero_of_no_sems (by decide) r.2⟩) (Cert.AdamSmallRefIdeal.Value.run m g)

end Cert.ProdAdamSmall
-- ==== Proof.ProdAdamOut.lean ====
/-
The optimiser's update of the mixer's output projection. A point of the launch takes 64 rows: it sums the chips' four partial
gradients, moves the two moments, and divides them, entry by entry.
-/
module

public import proofs.«01_k».proof.Defs
public import proofs.«01_k».proof.Proof.AdamMath
public import proofs.«01_k».proof.Proof.Gen.AdamOutIdeal.Value
public import proofs.«01_k».proof.Proof.Gen.AdamOutRefIdeal.Read
public import Idealize.ShloMosaic.Lib.Pointwise
public import Idealize.ShloMosaic.Lib.Pipeline.ValueKit.Basic

@[expose] public section

set_option maxRecDepth 16384

noncomputable section

namespace Cert.ProdAdamOut

open Cert.AdamOutIdeal Cert.AdamOutIdeal.Gen Cert.AdamOutIdeal.Value Idealize.ShloMosaic Idealize.SL.Sem
open Idealize.ShloMosaic.TcCoe
open Cert.AdamOutRefIdeal.Read
open Cert.AdamMath

section
variable (x : Vec Ideal S4x64x4096 .bf16) (w m v : Vec Ideal S1x64x4096 .f32) (i : Fin 64) (j : Fin 4096)

/-- The sum of the chips' partial gradients at a row and a column. -/
def total {n : ℕ} (x : (⟨3, ![4, n, 4096]⟩ : Shape).Idx → EReal) (i : Fin n) (j : Fin 4096) : EReal :=
  x (ix3 0 i j) + x (ix3 1 i j) + x (ix3 2 i j) + x (ix3 3 i j)

theorem k_g : k0_pay5 (View.ld x r0_0) (View.ld x r0_1) (View.ld x r0_2) (View.ld x r0_3) (ix2 i j) = total x i j := by
  unfold k0_pay5 total
  pointwise

theorem k_m : k0_pay11 x w m v (ix2 i j) = first (m (ix3 0 i j)) (total x i j) := by
  rw [← k_g]
  unfold k0_pay11 k0_pay8 first
  generalize k0_pay5 (View.ld x r0_0) (View.ld x r0_1) (View.ld x r0_2) (View.ld x r0_3) = g
  pointwise

theorem k_v : k0_pay1 (k0_pay10 x w m v) (k0_pay12 x w m v) (ix2 i j) = second (v (ix3 0 i j)) (total x i j) := by
  rw [← k_g]
  unfold k0_pay1 k0_pay12 k0_pay10 k0_pay9 second
  generalize k0_pay5 (View.ld x r0_0) (View.ld x r0_1) (View.ld x r0_2) (View.ld x r0_3) = g
  pointwise

theorem o4 : out0_4 x w m v (ix3 0 i j) = total x i j := by
  rw [← k_g]
  unfold out0_4
  rw [View.canon_cons_unit_lit _ _ _ (by decide)]
  unfold k0_pay6
  generalize k0_pay5 (View.ld x r0_0) (View.ld x r0_1) (View.ld x r0_2) (View.ld x r0_3) = g
  pointwise

theorem o5 : out0_5 x w m v (ix3 0 i j) = step (w (ix3 0 i j)) (first (m (ix3 0 i j)) (total x i j)) (second (v (ix3 0 i j)) (total x i j)) := by
  rw [← k_m x w m v, ← k_v x w m v]
  unfold out0_5
  rw [View.canon_cons_unit_lit _ _ _ (by decide)]
  unfold k0_pay2 k0_pay7 step
  generalize k0_pay1 (k0_pay10 x w m v) (k0_pay12 x w m v) = v'
  generalize k0_pay11 x w m v = m'
  pointwise

theorem o6 : out0_6 x w m v (ix3 0 i j) = first (m (ix3 0 i j)) (total x i j) := by
  rw [← k_m x w m v]
  unfold out0_6
  rw [View.canon_cons_unit_lit _ _ _ (by decide)]
  unfold k0_pay3
  generalize k0_pay11 x w m v = m'
  pointwise

theorem o7 : out0_7 x w m v (ix3 0 i j) = second (v (ix3 0 i j)) (total x i j) := by
  rw [← k_v x w m v]
  unfold out0_7
  rw [View.canon_cons_unit_lit _ _ _ (by decide)]
  unfold k0_pay4
  generalize k0_pay1 (k0_pay10 x w m v) (k0_pay12 x w m v) = v'
  pointwise
end

section
variable (x : Vec Ideal S4x512x4096 .bf16) (w m v : Vec Ideal S1x512x4096 .f32) (i : Fin 512) (j : Fin 4096)

theorem r_g : val_main_v2 (F := Ideal) x (ix3 0 i j) = total x i j := by
  unfold total
  pointwise [val_main_v2, val_main_v1, val_main_v0, val_main_cst]
  exact Fin.sum_univ_four _

theorem r_m : val_main_v7 (F := Ideal) x m (ix3 0 i j) = first (m (ix3 0 i j)) (total x i j) := by
  rw [← r_g]
  unfold first
  pointwise [val_main_v7, val_main_v6, val_main_v5, val_main_v4, val_main_v3, val_main_cst_0, val_main_cst_1]

theorem r_v : val_main_v13 (F := Ideal) x v (ix3 0 i j) = second (v (ix3 0 i j)) (total x i j) := by
  rw [← r_g]
  unfold second
  pointwise [val_main_v13, val_main_v12, val_main_v11, val_main_v10, val_main_v9, val_main_v8, val_main_cst_2, val_main_cst_3]

theorem r_d : val_main_v26 (F := Ideal) x w m v (ix3 0 i j)
    = step (w (ix3 0 i j)) (first (m (ix3 0 i j)) (total x i j)) (second (v (ix3 0 i j)) (total x i j)) := by
  rw [← r_m, ← r_v]
  unfold step
  pointwise [val_main_v26, val_main_v25, val_main_v24, val_main_v23, val_main_v22, val_main_v21, val_main_v20, val_main_v19, val_main_v18, val_main_v17,
    val_main_v16, val_main_v15, val_main_v14, val_main_cst_4, val_main_cst_5, val_main_cst_6, val_main_cst_7, val_main_cst_8]
end

section
variable (m : (ℓ : Loc nD τ sig) → Buf (Elt Ideal) ℓ) (c : Dev nD)

/-- The chips' partial gradients. -/
abbrev aP : Vec Ideal S4x512x4096 .bf16 := m ((c : Thread nD τ).loc main_arg0)
/-- The weight. -/
abbrev aW : Vec Ideal S1x512x4096 .f32 := m ((c : Thread nD τ).loc main_arg1)
/-- The two moments. -/
abbrev aM : Vec Ideal S1x512x4096 .f32 := m ((c : Thread nD τ).loc main_arg2)
abbrev aN : Vec Ideal S1x512x4096 .f32 := m ((c : Thread nD τ).loc main_arg3)

/-- The point that takes row `r`, and the row within it. -/
theorem point (r : Fin 512) : ∃ (t : Fin cfg0.N) (i : Fin 64), t.val * 64 + i.val = r.val :=
  ⟨⟨r.val / 64, lt_of_lt_of_eq (by omega) N_0.symm⟩, ⟨r.val % 64, Nat.mod_lt _ (by norm_num)⟩,
    by show r.val / 64 * 64 + r.val % 64 = r.val; omega⟩

theorem idx_o0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

theorem idx_o1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

theorem idx_o2 : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)

theorem idx_o3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)

theorem idx_o4 : ∀ t : Fin cfg0.N, win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0)

theorem idx_o5 : ∀ t : Fin cfg0.N, win0_5.index t 0 = 0 ∧ win0_5.index t 1 = t.val ∧ win0_5.index t 2 = 0 :=
  (by decide +kernel : ∀ t : Fin grid0.N, win0_5.index t 0 = 0 ∧ win0_5.index t 1 = t.val ∧ win0_5.index t 2 = 0)

theorem idx_o6 : ∀ t : Fin cfg0.N, win0_6.index t 0 = 0 ∧ win0_6.index t 1 = t.val ∧ win0_6.index t 2 = 0 :=
  (by decide +kernel : ∀ t : Fin grid0.N, win0_6.index t 0 = 0 ∧ win0_6.index t 1 = t.val ∧ win0_6.index t 2 = 0)

theorem idx_o7 : ∀ t : Fin cfg0.N, win0_7.index t 0 = 0 ∧ win0_7.index t 1 = t.val ∧ win0_7.index t 2 = 0 :=
  (by decide +kernel : ∀ t : Fin grid0.N, win0_7.index t 0 = 0 ∧ win0_7.index t 1 = t.val ∧ win0_7.index t 2 = 0)

theorem blk_p (t : Fin cfg0.N) (i : Fin 64) (r : Fin 512) (ht : t.val * 64 + i.val = r.val) (g : Fin 4) (j : Fin 4096) :
    iblk m c 0 t (ix3 g i j) = aP m c (ix3 g r j) := by
  unfold iblk
  rw [View.read_apply]
  obtain ⟨e0, e1, e2⟩ := idx_o0 t
  refine (congrFun (V_main_arg0 m c) _).trans (congrArg (aP m c) ?_)
  funext a; apply Fin.ext
  match a with
  | ⟨0, _⟩ => show win0_0.index t 0 * 4 + 1 * g.val = g.val; omega
  | ⟨1, _⟩ => show win0_0.index t 1 * 64 + 1 * i.val = r.val; omega
  | ⟨2, _⟩ => show win0_0.index t 2 * 4096 + 1 * j.val = j.val; omega

theorem blk_w (t : Fin cfg0.N) (i : Fin 64) (r : Fin 512) (ht : t.val * 64 + i.val = r.val) (j : Fin 4096) :
    iblk m c 1 t (ix3 0 i j) = aW m c (ix3 0 r j) := by
  unfold iblk
  rw [View.read_apply]
  obtain ⟨e0, e1, e2⟩ := idx_o1 t
  refine (congrFun (V_main_arg1 m c) _).trans (congrArg (aW m c) ?_)
  funext a; apply Fin.ext
  match a with
  | ⟨0, _⟩ => show win0_1.index t 0 * 1 + 1 * 0 = 0; omega
  | ⟨1, _⟩ => show win0_1.index t 1 * 64 + 1 * i.val = r.val; omega
  | ⟨2, _⟩ => show win0_1.index t 2 * 4096 + 1 * j.val = j.val; omega

theorem blk_m (t : Fin cfg0.N) (i : Fin 64) (r : Fin 512) (ht : t.val * 64 + i.val = r.val) (j : Fin 4096) :
    iblk m c 2 t (ix3 0 i j) = aM m c (ix3 0 r j) := by
  unfold iblk
  rw [View.read_apply]
  obtain ⟨e0, e1, e2⟩ := idx_o2 t
  refine (congrFun (V_main_arg2 m c) _).trans (congrArg (aM m c) ?_)
  funext a; apply Fin.ext
  match a with
  | ⟨0, _⟩ => show win0_2.index t 0 * 1 + 1 * 0 = 0; omega
  | ⟨1, _⟩ => show win0_2.index t 1 * 64 + 1 * i.val = r.val; omega
  | ⟨2, _⟩ => show win0_2.index t 2 * 4096 + 1 * j.val = j.val; omega

theorem blk_v (t : Fin cfg0.N) (i : Fin 64) (r : Fin 512) (ht : t.val * 64 + i.val = r.val) (j : Fin 4096) :
    iblk m c 3 t (ix3 0 i j) = aN m c (ix3 0 r j) := by
  unfold iblk
  rw [View.read_apply]
  obtain ⟨e0, e1, e2⟩ := idx_o3 t
  refine (congrFun (V_main_arg3 m c) _).trans (congrArg (aN m c) ?_)
  funext a; apply Fin.ext
  match a with
  | ⟨0, _⟩ => show win0_3.index t 0 * 1 + 1 * 0 = 0; omega
  | ⟨1, _⟩ => show win0_3.index t 1 * 64 + 1 * i.val = r.val; omega
  | ⟨2, _⟩ => show win0_3.index t 2 * 4096 + 1 * j.val = j.val; omega

/-! What the launch leaves in each result. -/

theorem final4 (r : Fin 512) (j : Fin 4096) :
    (dats m 0 c).arrAt 4 cfg0.N (ix3 0 r j) = val_main_v2 (F := Ideal) (aP m c) (ix3 0 r j) := by
  obtain ⟨t, i, ht⟩ := point r
  have e := congrFun (blocks4 m c t (flush0_4 t)) (ix3 0 i j)
  rw [View.read_apply, flushed4] at e
  have hi : ((cfg0.win 4).blk t).view.emb (ix3 0 i j) = ix3 0 r j := by
    obtain ⟨e0, e1, e2⟩ := idx_o4 t
    funext a; apply Fin.ext
    match a with
    | ⟨0, _⟩ => show win0_4.index t 0 * 1 + 1 * 0 = 0; omega
    | ⟨1, _⟩ => show win0_4.index t 1 * 64 + 1 * i.val = r.val; omega
    | ⟨2, _⟩ => show win0_4.index t 2 * 4096 + 1 * j.val = j.val; omega
  rw [← hi]
  refine e.trans ?_
  rw [hi]
  show out0_4 (iblk m c 0 t) (iblk m c 1 t) (iblk m c 2 t) (iblk m c 3 t) (ix3 0 i j) = _
  rw [o4, r_g]
  unfold total
  simp only [blk_p m c t i r ht]

theorem final5 (r : Fin 512) (j : Fin 4096) :
    (dats m 0 c).arrAt 5 cfg0.N (ix3 0 r j) = val_main_v26 (F := Ideal) (aP m c) (aW m c) (aM m c) (aN m c) (ix3 0 r j) := by
  obtain ⟨t, i, ht⟩ := point r
  have e := congrFun (blocks5 m c t (flush0_5 t)) (ix3 0 i j)
  rw [View.read_apply, flushed5] at e
  have hi : ((cfg0.win 5).blk t).view.emb (ix3 0 i j) = ix3 0 r j := by
    obtain ⟨e0, e1, e2⟩ := idx_o5 t
    funext a; apply Fin.ext
    match a with
    | ⟨0, _⟩ => show win0_5.index t 0 * 1 + 1 * 0 = 0; omega
    | ⟨1, _⟩ => show win0_5.index t 1 * 64 + 1 * i.val = r.val; omega
    | ⟨2, _⟩ => show win0_5.index t 2 * 4096 + 1 * j.val = j.val; omega
  rw [← hi]
  refine e.trans ?_
  rw [hi]
  show out0_5 (iblk m c 0 t) (iblk m c 1 t) (iblk m c 2 t) (iblk m c 3 t) (ix3 0 i j) = _
  rw [o5, r_d]
  unfold total
  simp only [blk_p m c t i r ht, blk_w m c t i r ht, blk_m m c t i r ht, blk_v m c t i r ht]

theorem final6 (r : Fin 512) (j : Fin 4096) :
    (dats m 0 c).arrAt 6 cfg0.N (ix3 0 r j) = val_main_v7 (F := Ideal) (aP m c) (aM m c) (ix3 0 r j) := by
  obtain ⟨t, i, ht⟩ := point r
  have e := congrFun (blocks6 m c t (flush0_6 t)) (ix3 0 i j)
  rw [View.read_apply, flushed6] at e
  have hi : ((cfg0.win 6).blk t).view.emb (ix3 0 i j) = ix3 0 r j := by
    obtain ⟨e0, e1, e2⟩ := idx_o6 t
    funext a; apply Fin.ext
    match a with
    | ⟨0, _⟩ => show win0_6.index t 0 * 1 + 1 * 0 = 0; omega
    | ⟨1, _⟩ => show win0_6.index t 1 * 64 + 1 * i.val = r.val; omega
    | ⟨2, _⟩ => show win0_6.index t 2 * 4096 + 1 * j.val = j.val; omega
  rw [← hi]
  refine e.trans ?_
  rw [hi]
  show out0_6 (iblk m c 0 t) (iblk m c 1 t) (iblk m c 2 t) (iblk m c 3 t) (ix3 0 i j) = _
  rw [o6, r_m]
  unfold total
  simp only [blk_p m c t i r ht, blk_m m c t i r ht]

theorem final7 (r : Fin 512) (j : Fin 4096) :
    (dats m 0 c).arrAt 7 cfg0.N (ix3 0 r j) = val_main_v13 (F := Ideal) (aP m c) (aN m c) (ix3 0 r j) := by
  obtain ⟨t, i, ht⟩ := point r
  have e := congrFun (blocks7 m c t (flush0_7 t)) (ix3 0 i j)
  rw [View.read_apply, flushed7] at e
  have hi : ((cfg0.win 7).blk t).view.emb (ix3 0 i j) = ix3 0 r j := by
    obtain ⟨e0, e1, e2⟩ := idx_o7 t
    funext a; apply Fin.ext
    match a with
    | ⟨0, _⟩ => show win0_7.index t 0 * 1 + 1 * 0 = 0; omega
    | ⟨1, _⟩ => show win0_7.index t 1 * 64 + 1 * i.val = r.val; omega
    | ⟨2, _⟩ => show win0_7.index t 2 * 4096 + 1 * j.val = j.val; omega
  rw [← hi]
  refine e.trans ?_
  rw [hi]
  show out0_7 (iblk m c 0 t) (iblk m c 1 t) (iblk m c 2 t) (iblk m c 3 t) (ix3 0 i j) = _
  rw [o7, r_v]
  unfold total
  simp only [blk_p m c t i r ht, blk_v m c t i r ht]
end

attribute [local instance] Cert.AdamOutIdeal.Gen.facts Cert.AdamOutRefIdeal.Gen.facts

/-- The claim. -/
theorem algebraic : Cert.algebraic_AdamOutIdeal_AdamOutRefIdeal := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g, ?_⟩
  refine (θ_run _ _ _).mono (fun r h c => ?_) (Cert.AdamOutRefIdeal.Value.run m' g')
  obtain ⟨e0, e1, e2, e3, ks⟩ := h c
  obtain ⟨a0, a1, a2, a3⟩ := hargs c
  have same : ∀ (x y : S1x512x4096.Idx → EReal), (∀ r j, y (ix3 0 r j) = x (ix3 0 r j)) → x = y := fun x y h => by
    funext i
    obtain ⟨u, r, j, rfl⟩ : ∃ (u : Fin 1) (r : Fin 512) (j : Fin 4096), i = ix3 u r j := ⟨i 0, i 1, i 2, eq_ix3 i⟩
    obtain rfl := Subsingleton.elim u 0
    exact (h r j).symm
  refine ⟨e0.trans ?_, e1.trans ?_, e2.trans ?_, e3.trans ?_, ks⟩
  · rw [val_main_v2_eq, a0]
    exact same _ _ (final4 m c)
  · rw [val_main_v26_eq, a0, a1, a2, a3]
    exact same _ _ (final5 m c)
  · rw [val_main_v7_eq, a0, a2]
    exact same _ _ (final6 m c)
  · rw [val_main_v13_eq, a0, a3]
    exact same _ _ (final7 m c)

/-- The reference runs, keeps its arguments, and holds no semaphore. -/
theorem frame_r : Cert.quiescent_AdamOutRefIdeal := by
  intro m g _
  exact (θ_run Cert.AdamOutRefIdeal.defs _ _).mono
    (fun r h => ⟨fun c => (h c).2.2.2.2, sem_eq_zero_of_no_sems (by decide) r.2⟩) (Cert.AdamOutRefIdeal.Value.run m g)

end Cert.ProdAdamOut
-- ==== Proof.ProdAdamConvA.lean ====
/-
The optimiser's update of the first convolution's taps, held whole by the launch's one point: the sum of the chips'
four partial gradients, the two moments, and the weight's change, entry by entry.
-/
module

public import proofs.«01_k».proof.Defs
public import proofs.«01_k».proof.Proof.AdamMath
public import proofs.«01_k».proof.Proof.Gen.AdamConvAIdeal.Value
public import proofs.«01_k».proof.Proof.Gen.AdamConvARefIdeal.Read
public import Idealize.ShloMosaic.Lib.Pointwise
public import Idealize.ShloMosaic.Lib.Pipeline.ValueKit.Basic

@[expose] public section

set_option maxRecDepth 16384

noncomputable section

namespace Cert.ProdAdamConvA

open Cert.AdamConvAIdeal Cert.AdamConvAIdeal.Gen Cert.AdamConvAIdeal.Value Idealize.ShloMosaic Idealize.SL.Sem
open Idealize.ShloMosaic.TcCoe
open Cert.AdamConvARefIdeal.Read
open Cert.AdamMath

section
variable (x : Vec Ideal S4x31x256 .f32) (w m v : Vec Ideal S1x31x256 .f32) (i : Fin 31) (j : Fin 256)

/-- The sum of the chips' partial gradients. -/
def total : EReal := x (ix3 0 i j) + x (ix3 1 i j) + x (ix3 2 i j) + x (ix3 3 i j)

theorem k_g : k0_pay5 (View.ld x r0_0) (View.ld x r0_1) (View.ld x r0_2) (View.ld x r0_3) (ix2 i j) = total x i j := by
  unfold k0_pay5 total
  pointwise

/-- The new first moment. -/
theorem k_m : k0_pay11 x w m v (ix2 i j) = first (m (ix3 0 i j)) (total x i j) := by
  rw [← k_g]
  unfold k0_pay11 k0_pay8 first
  generalize k0_pay5 (View.ld x r0_0) (View.ld x r0_1) (View.ld x r0_2) (View.ld x r0_3) = g
  pointwise

/-- The new second moment. -/
theorem k_v : k0_pay1 (k0_pay12 x w m v) (k0_pay13 x w m v) (ix2 i j) = second (v (ix3 0 i j)) (total x i j) := by
  rw [← k_g]
  unfold k0_pay1 k0_pay12 k0_pay13 k0_pay9 k0_pay10 second
  generalize k0_pay5 (View.ld x r0_0) (View.ld x r0_1) (View.ld x r0_2) (View.ld x r0_3) = g
  pointwise

theorem k4 : G4 x w m v (ix3 0 i j) = total x i j := by
  rw [← k_g]
  show k0_pay6 (View.ld x r0_0) (View.ld x r0_1) (View.ld x r0_2) (View.ld x r0_3) (ix3 0 i j) = _
  unfold k0_pay6
  generalize k0_pay5 (View.ld x r0_0) (View.ld x r0_1) (View.ld x r0_2) (View.ld x r0_3) = g
  pointwise

theorem k5 : G5 x w m v (ix3 0 i j) = step (w (ix3 0 i j)) (first (m (ix3 0 i j)) (total x i j)) (second (v (ix3 0 i j)) (total x i j)) := by
  rw [← k_m x w m v, ← k_v x w m v]
  show k0_pay2 (k0_pay7 w) (k0_pay11 x w m v) (k0_pay12 x w m v) (k0_pay13 x w m v) (ix3 0 i j) = _
  unfold k0_pay2 k0_pay7 step
  generalize k0_pay1 (k0_pay12 x w m v) (k0_pay13 x w m v) = v'
  generalize k0_pay11 x w m v = m'
  pointwise

theorem k6 : G6 x w m v (ix3 0 i j) = first (m (ix3 0 i j)) (total x i j) := by
  rw [← k_m x w m v]
  show k0_pay3 (k0_pay11 x w m v) (ix3 0 i j) = _
  unfold k0_pay3
  generalize k0_pay11 x w m v = m'
  pointwise

theorem k7 : G7 x w m v (ix3 0 i j) = second (v (ix3 0 i j)) (total x i j) := by
  rw [← k_v x w m v]
  show k0_pay4 (k0_pay12 x w m v) (k0_pay13 x w m v) (ix3 0 i j) = _
  unfold k0_pay4
  generalize k0_pay1 (k0_pay12 x w m v) (k0_pay13 x w m v) = v'
  pointwise

theorem r_g : val_main_v1 (F := Ideal) x (ix3 0 i j) = total x i j := by
  unfold total
  pointwise [val_main_v1, val_main_v0, val_main_cst]
  exact Fin.sum_univ_four _

theorem r_m : val_main_v6 (F := Ideal) x m (ix3 0 i j) = first (m (ix3 0 i j)) (total x i j) := by
  rw [← r_g]
  unfold first
  pointwise [val_main_v6, val_main_v5, val_main_v4, val_main_v3, val_main_v2, val_main_cst_0, val_main_cst_1]

theorem r_v : val_main_v12 (F := Ideal) x v (ix3 0 i j) = second (v (ix3 0 i j)) (total x i j) := by
  rw [← r_g]
  unfold second
  pointwise [val_main_v12, val_main_v11, val_main_v10, val_main_v9, val_main_v8, val_main_v7, val_main_cst_2, val_main_cst_3]

theorem r_d : val_main_v25 (F := Ideal) x w m v (ix3 0 i j)
    = step (w (ix3 0 i j)) (first (m (ix3 0 i j)) (total x i j)) (second (v (ix3 0 i j)) (total x i j)) := by
  rw [← r_m, ← r_v]
  unfold step
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8]

end

attribute [local instance] Cert.AdamConvAIdeal.Gen.facts Cert.AdamConvARefIdeal.Gen.facts

/-- The claim. -/
theorem algebraic : Cert.algebraic_AdamConvAIdeal_AdamConvARefIdeal := by
  intro m g m' g' _ hargs
  refine ⟨_, _, _, _, run m g, ?_⟩
  refine (θ_run _ _ _).mono (fun r h c => ?_) (Cert.AdamConvARefIdeal.Value.run m' g')
  obtain ⟨e0, e1, e2, e3, ks⟩ := h c
  obtain ⟨a0, a1, a2, a3⟩ := hargs c
  have same : ∀ (x y : S1x31x256.Idx → EReal), (∀ i j, x (ix3 0 i j) = y (ix3 0 i j)) → x = y := fun x y h => by
    funext i
    obtain ⟨u, r, j, rfl⟩ : ∃ (u : Fin 1) (r : Fin 31) (j : Fin 256), i = ix3 u r j := ⟨i 0, i 1, i 2, eq_ix3 i⟩
    obtain rfl := Subsingleton.elim u 0
    exact h r j
  refine ⟨e0.trans ?_, e1.trans ?_, e2.trans ?_, e3.trans ?_, ks⟩
  · rw [val_main_v1_eq, a0]
    exact same _ _ fun i j => (r_g _ i j).trans (k4 _ _ _ _ i j).symm
  · rw [val_main_v25_eq, a0, a1, a2, a3]
    exact same _ _ fun i j => (r_d _ _ _ _ i j).trans (k5 _ _ _ _ i j).symm
  · rw [val_main_v6_eq, a0, a2]
    exact same _ _ fun i j => (r_m _ _ i j).trans (k6 _ _ _ _ i j).symm
  · rw [val_main_v12_eq, a0, a3]
    exact same _ _ fun i j => (r_v _ _ i j).trans (k7 _ _ _ _ i j).symm

/-- The reference runs, keeps its arguments, and holds no semaphore. -/
theorem frame_r : Cert.quiescent_AdamConvARefIdeal := by
  intro m g _
  exact (θ_run Cert.AdamConvARefIdeal.defs _ _).mono
    (fun r h => ⟨fun c => (h c).2.2.2.2, sem_eq_zero_of_no_sems (by decide) r.2⟩) (Cert.AdamConvARefIdeal.Value.run m g)

end Cert.ProdAdamConvA
-- ==== Proof.ProdAdamConvB.lean ====
/-
The optimiser's update of the second convolution's taps, held whole by the launch's one point: the sum of the chips'
four partial gradients, the two moments, and the weight's change, entry by entry.
-/
module

public import proofs.«01_k».proof.Defs
public import proofs.«01_k».proof.Proof.AdamMath
public import proofs.«01_k».proof.Proof.Gen.AdamConvBIdeal.Value
public import proofs.«01_k».proof.Proof.Gen.AdamConvBRefIdeal.Read
public import Idealize.ShloMosaic.Lib.Pointwise
public import Idealize.ShloMosaic.Lib.Pipeline.ValueKit.Basic

@[expose] public section

set_option maxRecDepth 16384

noncomputable section

namespace Cert.ProdAdamConvB

open Cert.AdamConvBIdeal Cert.AdamConvBIdeal.Gen Cert.AdamConvBIdeal.Value Idealize.ShloMosaic Idealize.SL.Sem
open Idealize.ShloMosaic.TcCoe
open Cert.AdamConvBRefIdeal.Read
open Cert.AdamMath

section
variable (x : Vec Ideal S4x3x256 .f32) (w m v : Vec Ideal S1x3x256 .f32) (i : Fin 3) (j : Fin 256)

/-- The sum of the chips' partial gradients. -/
def total : EReal := x (ix3 0 i j) + x (ix3 1 i j) + x (ix3 2 i j) + x (ix3 3 i j)

theorem k_g : k0_pay5 (View.ld x r0_0) (View.ld x r0_1) (View.ld x r0_2) (View.ld x r0_3) (ix2 i j) = total x i j := by
  unfold k0_pay5 total
  pointwise

/-- The new first moment. -/
theorem k_m : k0_pay11 x w m v (ix2 i j) = first (m (ix3 0 i j)) (total x i j) := by
  rw [← k_g]
  unfold k0_pay11 k0_pay8 first
  generalize k0_pay5 (View.ld x r0_0) (View.ld x r0_1) (View.ld x r0_2) (View.ld x r0_3) = g
  pointwise

/-- The new second moment. -/
theorem k_v : k0_pay1 (k0_pay12 x w m v) (k0_pay13 x w m v) (ix2 i j) = second (v (ix3 0 i j)) (total x i j) := by
  rw [← k_g]
  unfold k0_pay1 k0_pay12 k0_pay13 k0_pay9 k0_pay10 second
  generalize k0_pay5 (View.ld x r0_0) (View.ld x r0_1) (View.ld x r0_2) (View.ld x r0_3) = g
  pointwise

theorem k4 : G4 x w m v (ix3 0 i j) = total x i j := by
  rw [← k_g]
  show k0_pay6 (View.ld x r0_0) (View.ld x r0_1) (View.ld x r0_2) (View.ld x r0_3) (ix3 0 i j) = _
  unfold k0_pay6
  generalize k0_pay5 (View.ld x r0_0) (View.ld x r0_1) (View.ld x r0_2) (View.ld x r0_3) = g
  pointwise

theorem k5 : G5 x w m v (ix3 0 i j) = step (w (ix3 0 i j)) (first (m (ix3 0 i j)) (total x i j)) (second (v (ix3 0 i j)) (total x i j)) := by
  rw [← k_m x w m v, ← k_v x w m v]
  show k0_pay2 (k0_pay7 w) (k0_pay11 x w m v) (k0_pay12 x w m v) (k0_pay13 x w m v) (ix3 0 i j) = _
  unfold k0_pay2 k0_pay7 step
  generalize k0_pay1 (k0_pay12 x w m v) (k0_pay13 x w m v) = v'
  generalize k0_pay11 x w m v = m'
  pointwise

theorem k6 : G6 x w m v (ix3 0 i j) = first (m (ix3 0 i j)) (total x i j) := by
  rw [← k_m x w m v]
  show k0_pay3 (k0_pay11 x w m v) (ix3 0 i j) = _
  unfold k0_pay3
  generalize k0_pay11 x w m v = m'
  pointwise

theorem k7 : G7 x w m v (ix3 0 i j) = second (v (ix3 0 i j)) (total x i j) := by
  rw [← k_v x w m v]
  show k0_pay4 (k0_pay12 x w m v) (k0_pay13 x w m v) (ix3 0 i j) = _
  unfold k0_pay4
  generalize k0_pay1 (k0_pay12 x w m v) (k0_pay13 x w m v) = v'
  pointwise

theorem r_g : val_main_v1 (F := Ideal) x (ix3 0 i j) = total x i j := by
  unfold total
  pointwise [val_main_v1, val_main_v0, val_main_cst]
  exact Fin.sum_univ_four _

theorem r_m : val_main_v6 (F := Ideal) x m (ix3 0 i j) = first (m (ix3 0 i j)) (total x i j) := by
  rw [← r_g]
  unfold first
  pointwise [val_main_v6, val_main_v5, val_main_v4, val_main_v3, val_main_v2, val_main_cst_0, val_main_cst_1]

theorem r_v : val_main_v12 (F := Ideal) x v (ix3 0 i j) = second (v (ix3 0 i j)) (total x i j) := by
  rw [← r_g]
  unfold second
  pointwise [val_main_v12, val_main_v11, val_main_v10, val_main_v9, val_main_v8, val_main_v7, val_main_cst_2, val_main_cst_3]

theorem r_d : val_main_v25 (F := Ideal) x w m v (ix3 0 i j)
    = step (w (ix3 0 i j)) (first (m (ix3 0 i j)) (total x i j)) (second (v (ix3 0 i j)) (total x i j)) := by
  rw [← r_m, ← r_v]
  unfold step
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8]

end

attribute [local instance] Cert.AdamConvBIdeal.Gen.facts Cert.AdamConvBRefIdeal.Gen.facts

/-- The claim. -/
theorem algebraic : Cert.algebraic_AdamConvBIdeal_AdamConvBRefIdeal := by
  intro m g m' g' _ hargs
  refine ⟨_, _, _, _, run m g, ?_⟩
  refine (θ_run _ _ _).mono (fun r h c => ?_) (Cert.AdamConvBRefIdeal.Value.run m' g')
  obtain ⟨e0, e1, e2, e3, ks⟩ := h c
  obtain ⟨a0, a1, a2, a3⟩ := hargs c
  have same : ∀ (x y : S1x3x256.Idx → EReal), (∀ i j, x (ix3 0 i j) = y (ix3 0 i j)) → x = y := fun x y h => by
    funext i
    obtain ⟨u, r, j, rfl⟩ : ∃ (u : Fin 1) (r : Fin 3) (j : Fin 256), i = ix3 u r j := ⟨i 0, i 1, i 2, eq_ix3 i⟩
    obtain rfl := Subsingleton.elim u 0
    exact h r j
  refine ⟨e0.trans ?_, e1.trans ?_, e2.trans ?_, e3.trans ?_, ks⟩
  · rw [val_main_v1_eq, a0]
    exact same _ _ fun i j => (r_g _ i j).trans (k4 _ _ _ _ i j).symm
  · rw [val_main_v25_eq, a0, a1, a2, a3]
    exact same _ _ fun i j => (r_d _ _ _ _ i j).trans (k5 _ _ _ _ i j).symm
  · rw [val_main_v6_eq, a0, a2]
    exact same _ _ fun i j => (r_m _ _ i j).trans (k6 _ _ _ _ i j).symm
  · rw [val_main_v12_eq, a0, a3]
    exact same _ _ fun i j => (r_v _ _ i j).trans (k7 _ _ _ _ i j).symm

/-- The reference runs, keeps its arguments, and holds no semaphore. -/
theorem frame_r : Cert.quiescent_AdamConvBRefIdeal := by
  intro m g _
  exact (θ_run Cert.AdamConvBRefIdeal.defs _ _).mono
    (fun r h => ⟨fun c => (h c).2.2.2.2, sem_eq_zero_of_no_sems (by decide) r.2⟩) (Cert.AdamConvBRefIdeal.Value.run m g)

end Cert.ProdAdamConvB
-- ==== Proof.ProdAdamConvF.lean ====
/-
The optimiser's update of the feed-forward convolution's taps, held whole by the launch's one point: the sum of the chips'
four partial gradients, the two moments, and the weight's change, entry by entry.
-/
module

public import proofs.«01_k».proof.Defs
public import proofs.«01_k».proof.Proof.AdamMath
public import proofs.«01_k».proof.Proof.Gen.AdamConvFIdeal.Value
public import proofs.«01_k».proof.Proof.Gen.AdamConvFRefIdeal.Read
public import Idealize.ShloMosaic.Lib.Pointwise
public import Idealize.ShloMosaic.Lib.Pipeline.ValueKit.Basic

@[expose] public section

set_option maxRecDepth 16384

noncomputable section

namespace Cert.ProdAdamConvF

open Cert.AdamConvFIdeal Cert.AdamConvFIdeal.Gen Cert.AdamConvFIdeal.Value Idealize.ShloMosaic Idealize.SL.Sem
open Idealize.ShloMosaic.TcCoe
open Cert.AdamConvFRefIdeal.Read
open Cert.AdamMath

section
variable (x : Vec Ideal S4x3x1376 .f32) (w m v : Vec Ideal S1x3x1376 .f32) (i : Fin 3) (j : Fin 1376)

/-- The sum of the chips' partial gradients. -/
def total : EReal := x (ix3 0 i j) + x (ix3 1 i j) + x (ix3 2 i j) + x (ix3 3 i j)

theorem k_g : k0_pay5 (View.ld x r0_0) (View.ld x r0_1) (View.ld x r0_2) (View.ld x r0_3) (ix2 i j) = total x i j := by
  unfold k0_pay5 total
  pointwise

/-- The new first moment. -/
theorem k_m : k0_pay11 x w m v (ix2 i j) = first (m (ix3 0 i j)) (total x i j) := by
  rw [← k_g]
  unfold k0_pay11 k0_pay8 first
  generalize k0_pay5 (View.ld x r0_0) (View.ld x r0_1) (View.ld x r0_2) (View.ld x r0_3) = g
  pointwise

/-- The new second moment. -/
theorem k_v : k0_pay1 (k0_pay12 x w m v) (k0_pay13 x w m v) (ix2 i j) = second (v (ix3 0 i j)) (total x i j) := by
  rw [← k_g]
  unfold k0_pay1 k0_pay12 k0_pay13 k0_pay9 k0_pay10 second
  generalize k0_pay5 (View.ld x r0_0) (View.ld x r0_1) (View.ld x r0_2) (View.ld x r0_3) = g
  pointwise

theorem k4 : G4 x w m v (ix3 0 i j) = total x i j := by
  rw [← k_g]
  show k0_pay6 (View.ld x r0_0) (View.ld x r0_1) (View.ld x r0_2) (View.ld x r0_3) (ix3 0 i j) = _
  unfold k0_pay6
  generalize k0_pay5 (View.ld x r0_0) (View.ld x r0_1) (View.ld x r0_2) (View.ld x r0_3) = g
  pointwise

theorem k5 : G5 x w m v (ix3 0 i j) = step (w (ix3 0 i j)) (first (m (ix3 0 i j)) (total x i j)) (second (v (ix3 0 i j)) (total x i j)) := by
  rw [← k_m x w m v, ← k_v x w m v]
  show k0_pay2 (k0_pay7 w) (k0_pay11 x w m v) (k0_pay12 x w m v) (k0_pay13 x w m v) (ix3 0 i j) = _
  unfold k0_pay2 k0_pay7 step
  generalize k0_pay1 (k0_pay12 x w m v) (k0_pay13 x w m v) = v'
  generalize k0_pay11 x w m v = m'
  pointwise

theorem k6 : G6 x w m v (ix3 0 i j) = first (m (ix3 0 i j)) (total x i j) := by
  rw [← k_m x w m v]
  show k0_pay3 (k0_pay11 x w m v) (ix3 0 i j) = _
  unfold k0_pay3
  generalize k0_pay11 x w m v = m'
  pointwise

theorem k7 : G7 x w m v (ix3 0 i j) = second (v (ix3 0 i j)) (total x i j) := by
  rw [← k_v x w m v]
  show k0_pay4 (k0_pay12 x w m v) (k0_pay13 x w m v) (ix3 0 i j) = _
  unfold k0_pay4
  generalize k0_pay1 (k0_pay12 x w m v) (k0_pay13 x w m v) = v'
  pointwise

theorem r_g : val_main_v1 (F := Ideal) x (ix3 0 i j) = total x i j := by
  unfold total
  pointwise [val_main_v1, val_main_v0, val_main_cst]
  exact Fin.sum_univ_four _

theorem r_m : val_main_v6 (F := Ideal) x m (ix3 0 i j) = first (m (ix3 0 i j)) (total x i j) := by
  rw [← r_g]
  unfold first
  pointwise [val_main_v6, val_main_v5, val_main_v4, val_main_v3, val_main_v2, val_main_cst_0, val_main_cst_1]

theorem r_v : val_main_v12 (F := Ideal) x v (ix3 0 i j) = second (v (ix3 0 i j)) (total x i j) := by
  rw [← r_g]
  unfold second
  pointwise [val_main_v12, val_main_v11, val_main_v10, val_main_v9, val_main_v8, val_main_v7, val_main_cst_2, val_main_cst_3]

theorem r_d : val_main_v25 (F := Ideal) x w m v (ix3 0 i j)
    = step (w (ix3 0 i j)) (first (m (ix3 0 i j)) (total x i j)) (second (v (ix3 0 i j)) (total x i j)) := by
  rw [← r_m, ← r_v]
  unfold step
  pointwise [val_main_v25, val_main_v24, val_main_v23, val_main_v22, val_main_v21, val_main_v20, val_main_v19, val_main_v18, val_main_v17,
    val_main_v16, val_main_v15, val_main_v14, val_main_v13, val_main_cst_4, val_main_cst_5, val_main_cst_6, val_main_cst_7, val_main_cst_8]

end

attribute [local instance] Cert.AdamConvFIdeal.Gen.facts Cert.AdamConvFRefIdeal.Gen.facts

/-- The claim. -/
theorem algebraic : Cert.algebraic_AdamConvFIdeal_AdamConvFRefIdeal := by
  intro m g m' g' _ hargs
  refine ⟨_, _, _, _, run m g, ?_⟩
  refine (θ_run _ _ _).mono (fun r h c => ?_) (Cert.AdamConvFRefIdeal.Value.run m' g')
  obtain ⟨e0, e1, e2, e3, ks⟩ := h c
  obtain ⟨a0, a1, a2, a3⟩ := hargs c
  have same : ∀ (x y : S1x3x1376.Idx → EReal), (∀ i j, x (ix3 0 i j) = y (ix3 0 i j)) → x = y := fun x y h => by
    funext i
    obtain ⟨u, r, j, rfl⟩ : ∃ (u : Fin 1) (r : Fin 3) (j : Fin 1376), i = ix3 u r j := ⟨i 0, i 1, i 2, eq_ix3 i⟩
    obtain rfl := Subsingleton.elim u 0
    exact h r j
  refine ⟨e0.trans ?_, e1.trans ?_, e2.trans ?_, e3.trans ?_, ks⟩
  · rw [val_main_v1_eq, a0]
    exact same _ _ fun i j => (r_g _ i j).trans (k4 _ _ _ _ i j).symm
  · rw [val_main_v25_eq, a0, a1, a2, a3]
    exact same _ _ fun i j => (r_d _ _ _ _ i j).trans (k5 _ _ _ _ i j).symm
  · rw [val_main_v6_eq, a0, a2]
    exact same _ _ fun i j => (r_m _ _ i j).trans (k6 _ _ _ _ i j).symm
  · rw [val_main_v12_eq, a0, a3]
    exact same _ _ fun i j => (r_v _ _ i j).trans (k7 _ _ _ _ i j).symm

/-- The reference runs, keeps its arguments, and holds no semaphore. -/
theorem frame_r : Cert.quiescent_AdamConvFRefIdeal := by
  intro m g _
  exact (θ_run Cert.AdamConvFRefIdeal.defs _ _).mono
    (fun r h => ⟨fun c => (h c).2.2.2.2, sem_eq_zero_of_no_sems (by decide) r.2⟩) (Cert.AdamConvFRefIdeal.Value.run m g)

end Cert.ProdAdamConvF
-- ==== Proof.lean ====
/-
  The proof of `Cert.Claim`: the frames are the generated ones, nothing is rewritten between the kernel and its ideal,
  and the value claim is put together in `AttnAlg`.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.AttnAlg
public import proofs.«01_k».proof.Proof.ProdFfnFwd
public import proofs.«01_k».proof.Proof.ProdMixFwd
public import proofs.«01_k».proof.Proof.ProdDw
public import proofs.«01_k».proof.Proof.ProdDf
public import proofs.«01_k».proof.Proof.ProdDxn3
public import proofs.«01_k».proof.Proof.MixAlg
public import proofs.«01_k».proof.Proof.ProdDxn1
public import proofs.«01_k».proof.Proof.ProdH3
public import proofs.«01_k».proof.Proof.ProdProj
public import proofs.«01_k».proof.Proof.ProdGate
public import proofs.«01_k».proof.Proof.ProdAdam
public import proofs.«01_k».proof.Proof.ProdDwIn
public import proofs.«01_k».proof.Proof.ProdQ
public import proofs.«01_k».proof.Proof.ProdH2
public import proofs.«01_k».proof.Proof.ProdH1
public import proofs.«01_k».proof.Proof.ProdDo
public import proofs.«01_k».proof.Proof.ProdDxn2
public import proofs.«01_k».proof.Proof.ProdDwO
public import proofs.«01_k».proof.Proof.ProdDwQ
public import proofs.«01_k».proof.Proof.ProdDwOut
public import proofs.«01_k».proof.Proof.ProdLoss
public import proofs.«01_k».proof.Proof.ProdRmsMem
public import proofs.«01_k».proof.Proof.ProdRmsFwd
public import proofs.«01_k».proof.Proof.ProdAttnFwd
public import proofs.«01_k».proof.Proof.ProdAdamSmall
public import proofs.«01_k».proof.Proof.ProdAdamOut
public import proofs.«01_k».proof.Proof.ProdAdamConvA
public import proofs.«01_k».proof.Proof.ProdAdamConvB
public import proofs.«01_k».proof.Proof.ProdAdamConvF
public import proofs.«01_k».proof.Proof.Gen.DwDown
public import proofs.«01_k».proof.Proof.Gen.DwDown.Frame
public import proofs.«01_k».proof.Proof.Gen.DwDownIdeal
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.Df
public import proofs.«01_k».proof.Proof.Gen.Df.Frame
public import proofs.«01_k».proof.Proof.Gen.DfIdeal
public import proofs.«01_k».proof.Proof.Gen.DfIdeal.Frame
public import proofs.«01_k».proof.Proof.Gen.DfIdeal.Value
public import proofs.«01_k».proof.Proof.Gen.DfRefIdeal
public import proofs.«01_k».proof.Proof.Gen.DfRefIdeal.Run
public import proofs.«01_k».proof.Proof.Gen.DfRefIdeal.Read
public import proofs.«01_k».proof.Proof.Gen.Dxn3
public import proofs.«01_k».proof.Proof.Gen.Dxn3.Frame
public import proofs.«01_k».proof.Proof.Gen.Dxn3Ideal
public import proofs.«01_k».proof.Proof.Gen.Dxn3Ideal.Frame
public import proofs.«01_k».proof.Proof.Gen.Dxn3Ideal.Value
public import proofs.«01_k».proof.Proof.Gen.Dxn3RefIdeal
public import proofs.«01_k».proof.Proof.Gen.Dxn3RefIdeal.Run
public import proofs.«01_k».proof.Proof.Gen.Dxn3RefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Dxn1
public import proofs.«01_k».proof.Proof.Gen.Dxn1.Frame
public import proofs.«01_k».proof.Proof.Gen.Dxn1Ideal
public import proofs.«01_k».proof.Proof.Gen.Dxn1Ideal.Frame
public import proofs.«01_k».proof.Proof.Gen.Dxn1Ideal.Value
public import proofs.«01_k».proof.Proof.Gen.Dxn1RefIdeal
public import proofs.«01_k».proof.Proof.Gen.Dxn1RefIdeal.Run
public import proofs.«01_k».proof.Proof.Gen.Dxn1RefIdeal.Read
public import proofs.«01_k».proof.Proof.Gen.H3
public import proofs.«01_k».proof.Proof.Gen.H3.Frame
public import proofs.«01_k».proof.Proof.Gen.H3Ideal
public import proofs.«01_k».proof.Proof.Gen.H3Ideal.Frame
public import proofs.«01_k».proof.Proof.Gen.H3Ideal.Value
public import proofs.«01_k».proof.Proof.Gen.H3RefIdeal
public import proofs.«01_k».proof.Proof.Gen.H3RefIdeal.Run
public import proofs.«01_k».proof.Proof.Gen.H3RefIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.Q
public import proofs.«01_k».proof.Proof.Gen.Q.Frame
public import proofs.«01_k».proof.Proof.Gen.QIdeal
public import proofs.«01_k».proof.Proof.Gen.QIdeal.Frame
public import proofs.«01_k».proof.Proof.Gen.QIdeal.Value
public import proofs.«01_k».proof.Proof.Gen.QRefIdeal
public import proofs.«01_k».proof.Proof.Gen.QRefIdeal.Run
public import proofs.«01_k».proof.Proof.Gen.QRefIdeal.Read
public import proofs.«01_k».proof.Proof.Gen.H2
public import proofs.«01_k».proof.Proof.Gen.H2.Frame
public import proofs.«01_k».proof.Proof.Gen.H2Ideal
public import proofs.«01_k».proof.Proof.Gen.H2Ideal.Frame
public import proofs.«01_k».proof.Proof.Gen.H2Ideal.Value
public import proofs.«01_k».proof.Proof.Gen.H2RefIdeal
public import proofs.«01_k».proof.Proof.Gen.H2RefIdeal.Run
public import proofs.«01_k».proof.Proof.Gen.H2RefIdeal.Read
public import proofs.«01_k».proof.Proof.Gen.H1
public import proofs.«01_k».proof.Proof.Gen.H1.Frame
public import proofs.«01_k».proof.Proof.Gen.H1Ideal
public import proofs.«01_k».proof.Proof.Gen.H1Ideal.Frame
public import proofs.«01_k».proof.Proof.Gen.H1Ideal.Value
public import proofs.«01_k».proof.Proof.Gen.H1RefIdeal
public import proofs.«01_k».proof.Proof.Gen.H1RefIdeal.Run
public import proofs.«01_k».proof.Proof.Gen.H1RefIdeal.Read
public import proofs.«01_k».proof.Proof.Gen.Do
public import proofs.«01_k».proof.Proof.Gen.Do.Frame
public import proofs.«01_k».proof.Proof.Gen.DoIdeal
public import proofs.«01_k».proof.Proof.Gen.DoIdeal.Frame
public import proofs.«01_k».proof.Proof.Gen.DoIdeal.Value
public import proofs.«01_k».proof.Proof.Gen.DoRefIdeal
public import proofs.«01_k».proof.Proof.Gen.DoRefIdeal.Run
public import proofs.«01_k».proof.Proof.Gen.DoRefIdeal.Read
public import proofs.«01_k».proof.Proof.Gen.Dxn2
public import proofs.«01_k».proof.Proof.Gen.Dxn2.Frame
public import proofs.«01_k».proof.Proof.Gen.Dxn2Ideal
public import proofs.«01_k».proof.Proof.Gen.Dxn2Ideal.Frame
public import proofs.«01_k».proof.Proof.Gen.Dxn2Ideal.Value
public import proofs.«01_k».proof.Proof.Gen.Dxn2RefIdeal
public import proofs.«01_k».proof.Proof.Gen.Dxn2RefIdeal.Run
public import proofs.«01_k».proof.Proof.Gen.Dxn2RefIdeal.Read
public import proofs.«01_k».proof.Proof.Gen.DwO
public import proofs.«01_k».proof.Proof.Gen.DwO.Frame
public import proofs.«01_k».proof.Proof.Gen.DwOIdeal
public import proofs.«01_k».proof.Proof.Gen.DwOIdeal.Frame
public import proofs.«01_k».proof.Proof.Gen.DwOIdeal.Value
public import proofs.«01_k».proof.Proof.Gen.DwORefIdeal
public import proofs.«01_k».proof.Proof.Gen.DwORefIdeal.Run
public import proofs.«01_k».proof.Proof.Gen.DwORefIdeal.Read
public import proofs.«01_k».proof.Proof.Gen.DwQ
public import proofs.«01_k».proof.Proof.Gen.DwQ.Frame
public import proofs.«01_k».proof.Proof.Gen.DwQIdeal
public import proofs.«01_k».proof.Proof.Gen.DwQIdeal.Frame
public import proofs.«01_k».proof.Proof.Gen.DwQIdeal.Value
public import proofs.«01_k».proof.Proof.Gen.DwQRefIdeal
public import proofs.«01_k».proof.Proof.Gen.DwQRefIdeal.Run
public import proofs.«01_k».proof.Proof.Gen.DwQRefIdeal.Read
public import proofs.«01_k».proof.Proof.Gen.DwOut
public import proofs.«01_k».proof.Proof.Gen.DwOut.Frame
public import proofs.«01_k».proof.Proof.Gen.DwOutIdeal
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.RmsMem
public import proofs.«01_k».proof.Proof.Gen.RmsMem.Frame
public import proofs.«01_k».proof.Proof.Gen.RmsMemIdeal
public import proofs.«01_k».proof.Proof.Gen.RmsMemIdeal.Frame
public import proofs.«01_k».proof.Proof.Gen.RmsMemIdeal.Value
public import proofs.«01_k».proof.Proof.Gen.RmsMemRefIdeal
public import proofs.«01_k».proof.Proof.Gen.RmsMemRefIdeal.Run
public import proofs.«01_k».proof.Proof.Gen.RmsMemRefIdeal.Read
public import proofs.«01_k».proof.Proof.Gen.RmsFwd
public import proofs.«01_k».proof.Proof.Gen.RmsFwd.Frame
public import proofs.«01_k».proof.Proof.Gen.RmsFwdIdeal
public import proofs.«01_k».proof.Proof.Gen.RmsFwdIdeal.Frame
public import proofs.«01_k».proof.Proof.Gen.RmsFwdIdeal.Value
public import proofs.«01_k».proof.Proof.Gen.RmsFwdRefIdeal
public import proofs.«01_k».proof.Proof.Gen.RmsFwdRefIdeal.Run
public import proofs.«01_k».proof.Proof.Gen.RmsFwdRefIdeal.Read
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamConvA
public import proofs.«01_k».proof.Proof.Gen.AdamConvA.Frame
public import proofs.«01_k».proof.Proof.Gen.AdamConvAIdeal
public import proofs.«01_k».proof.Proof.Gen.AdamConvAIdeal.Frame
public import proofs.«01_k».proof.Proof.Gen.AdamConvAIdeal.Value
public import proofs.«01_k».proof.Proof.Gen.AdamConvARefIdeal
public import proofs.«01_k».proof.Proof.Gen.AdamConvARefIdeal.Run
public import proofs.«01_k».proof.Proof.Gen.AdamConvARefIdeal.Read
public import proofs.«01_k».proof.Proof.Gen.AdamConvB
public import proofs.«01_k».proof.Proof.Gen.AdamConvB.Frame
public import proofs.«01_k».proof.Proof.Gen.AdamConvBIdeal
public import proofs.«01_k».proof.Proof.Gen.AdamConvBIdeal.Frame
public import proofs.«01_k».proof.Proof.Gen.AdamConvBIdeal.Value
public import proofs.«01_k».proof.Proof.Gen.AdamConvBRefIdeal
public import proofs.«01_k».proof.Proof.Gen.AdamConvBRefIdeal.Run
public import proofs.«01_k».proof.Proof.Gen.AdamConvBRefIdeal.Read
public import proofs.«01_k».proof.Proof.Gen.AdamConvF
public import proofs.«01_k».proof.Proof.Gen.AdamConvF.Frame
public import proofs.«01_k».proof.Proof.Gen.AdamConvFIdeal
public import proofs.«01_k».proof.Proof.Gen.AdamConvFIdeal.Frame
public import proofs.«01_k».proof.Proof.Gen.AdamConvFIdeal.Value
public import proofs.«01_k».proof.Proof.Gen.AdamConvFRefIdeal
public import proofs.«01_k».proof.Proof.Gen.AdamConvFRefIdeal.Run
public import proofs.«01_k».proof.Proof.Gen.AdamConvFRefIdeal.Read
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.Gen.FfnFwd
public import proofs.«01_k».proof.Proof.Gen.FfnFwd.Frame
public import proofs.«01_k».proof.Proof.Gen.FfnFwdIdeal
public import proofs.«01_k».proof.Proof.Gen.FfnFwdIdeal.Frame
public import proofs.«01_k».proof.Proof.Gen.FfnFwdIdeal.Value
public import proofs.«01_k».proof.Proof.Gen.FfnFwdRefIdeal
public import proofs.«01_k».proof.Proof.Gen.FfnFwdRefIdeal.Run
public import proofs.«01_k».proof.Proof.Gen.FfnFwdRefIdeal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.DwDown.Gen.facts, Cert.DwDownIdeal.Gen.facts, Cert.DwDownRefIdeal.Gen.facts,
  Cert.Df.Gen.facts, Cert.DfIdeal.Gen.facts, Cert.DfRefIdeal.Gen.facts,
  Cert.Dxn3.Gen.facts, Cert.Dxn3Ideal.Gen.facts, Cert.Dxn3RefIdeal.Gen.facts,
  Cert.Mix.Gen.facts, Cert.MixIdeal.Gen.facts, Cert.MixRefIdeal.Gen.facts,
  Cert.Dxn1.Gen.facts, Cert.Dxn1Ideal.Gen.facts, Cert.Dxn1RefIdeal.Gen.facts,
  Cert.H3.Gen.facts, Cert.H3Ideal.Gen.facts, Cert.H3RefIdeal.Gen.facts,
  Cert.Proj.Gen.facts, Cert.ProjIdeal.Gen.facts, Cert.ProjRefIdeal.Gen.facts,
  Cert.Gate.Gen.facts, Cert.GateIdeal.Gen.facts, Cert.GateRefIdeal.Gen.facts,
  Cert.Adam.Gen.facts, Cert.AdamIdeal.Gen.facts, Cert.AdamRefIdeal.Gen.facts,
  Cert.DwIn.Gen.facts, Cert.DwInIdeal.Gen.facts, Cert.DwInRefIdeal.Gen.facts,
  Cert.Q.Gen.facts, Cert.QIdeal.Gen.facts, Cert.QRefIdeal.Gen.facts,
  Cert.H2.Gen.facts, Cert.H2Ideal.Gen.facts, Cert.H2RefIdeal.Gen.facts,
  Cert.H1.Gen.facts, Cert.H1Ideal.Gen.facts, Cert.H1RefIdeal.Gen.facts,
  Cert.Do.Gen.facts, Cert.DoIdeal.Gen.facts, Cert.DoRefIdeal.Gen.facts,
  Cert.Dxn2.Gen.facts, Cert.Dxn2Ideal.Gen.facts, Cert.Dxn2RefIdeal.Gen.facts,
  Cert.DwO.Gen.facts, Cert.DwOIdeal.Gen.facts, Cert.DwORefIdeal.Gen.facts,
  Cert.DwQ.Gen.facts, Cert.DwQIdeal.Gen.facts, Cert.DwQRefIdeal.Gen.facts,
  Cert.DwOut.Gen.facts, Cert.DwOutIdeal.Gen.facts, Cert.DwOutRefIdeal.Gen.facts,
  Cert.Loss.Gen.facts, Cert.LossIdeal.Gen.facts, Cert.LossRefIdeal.Gen.facts,
  Cert.RmsMem.Gen.facts, Cert.RmsMemIdeal.Gen.facts, Cert.RmsMemRefIdeal.Gen.facts,
  Cert.RmsFwd.Gen.facts, Cert.RmsFwdIdeal.Gen.facts, Cert.RmsFwdRefIdeal.Gen.facts,
  Cert.AttnFwd.Gen.facts, Cert.AttnFwdIdeal.Gen.facts, Cert.AttnFwdRefIdeal.Gen.facts,
  Cert.AdamSmall.Gen.facts, Cert.AdamSmallIdeal.Gen.facts, Cert.AdamSmallRefIdeal.Gen.facts,
  Cert.AdamOut.Gen.facts, Cert.AdamOutIdeal.Gen.facts, Cert.AdamOutRefIdeal.Gen.facts,
  Cert.AdamConvA.Gen.facts, Cert.AdamConvAIdeal.Gen.facts, Cert.AdamConvARefIdeal.Gen.facts,
  Cert.AdamConvB.Gen.facts, Cert.AdamConvBIdeal.Gen.facts, Cert.AdamConvBRefIdeal.Gen.facts,
  Cert.AdamConvF.Gen.facts, Cert.AdamConvFIdeal.Gen.facts, Cert.AdamConvFRefIdeal.Gen.facts,
  Cert.MixFwd.Gen.facts, Cert.MixFwdIdeal.Gen.facts, Cert.MixFwdRefIdeal.Gen.facts,
  Cert.FfnFwd.Gen.facts, Cert.FfnFwdIdeal.Gen.facts, Cert.FfnFwdRefIdeal.Gen.facts,
  Cert.AttnAlg.preFacts,
  fun m ρ _ => Cert.Kernel.Gen.frame m ρ,
  fun m ρ _ => Cert.KernelIdeal.Gen.frame m ρ,
  fun m ρ _ => Cert.KernelIdeal.Gen.frame m ρ,
  fun m ρ _ => Cert.AttnAlg.frame_r m ρ trivial,
  fun m ρ _ => Cert.AttnAlg.frame_r m ρ trivial,
  fun m ρ _ => Cert.DwDown.Gen.frame m ρ, fun m ρ _ => Cert.DwDownIdeal.Gen.frame m ρ, Cert.ProdDw.frame_r,
  fun m ρ _ => Cert.Df.Gen.frame m ρ, fun m ρ _ => Cert.DfIdeal.Gen.frame m ρ, Cert.ProdDf.frame_r,
  fun m ρ _ => Cert.Dxn3.Gen.frame m ρ, fun m ρ _ => Cert.Dxn3Ideal.Gen.frame m ρ, Cert.ProdDxn3.frame_r,
  fun m ρ _ => Cert.Mix.Gen.frame m ρ, fun m ρ _ => Cert.MixIdeal.Gen.frame m ρ, Cert.MixAlg.frame_r,
  fun m ρ _ => Cert.Dxn1.Gen.frame m ρ, fun m ρ _ => Cert.Dxn1Ideal.Gen.frame m ρ, Cert.ProdDxn1.frame_r,
  fun m ρ _ => Cert.H3.Gen.frame m ρ, fun m ρ _ => Cert.H3Ideal.Gen.frame m ρ, Cert.ProdH3.frame_r,
  fun m ρ _ => Cert.Proj.Gen.frame m ρ, fun m ρ _ => Cert.ProjIdeal.Gen.frame m ρ, Cert.ProdProj.frame_r,
  fun m ρ _ => Cert.Gate.Gen.frame m ρ, fun m ρ _ => Cert.GateIdeal.Gen.frame m ρ, Cert.ProdGate.frame_r,
  fun m ρ _ => Cert.Adam.Gen.frame m ρ, fun m ρ _ => Cert.AdamIdeal.Gen.frame m ρ, Cert.ProdAdam.frame_r,
  fun m ρ _ => Cert.DwIn.Gen.frame m ρ, fun m ρ _ => Cert.DwInIdeal.Gen.frame m ρ, Cert.ProdDwIn.frame_r,
  fun m ρ _ => Cert.Q.Gen.frame m ρ, fun m ρ _ => Cert.QIdeal.Gen.frame m ρ, Cert.ProdQ.frame_r,
  fun m ρ _ => Cert.H2.Gen.frame m ρ, fun m ρ _ => Cert.H2Ideal.Gen.frame m ρ, Cert.ProdH2.frame_r,
  fun m ρ _ => Cert.H1.Gen.frame m ρ, fun m ρ _ => Cert.H1Ideal.Gen.frame m ρ, Cert.ProdH1.frame_r,
  fun m ρ _ => Cert.Do.Gen.frame m ρ, fun m ρ _ => Cert.DoIdeal.Gen.frame m ρ, Cert.ProdDo.frame_r,
  fun m ρ _ => Cert.Dxn2.Gen.frame m ρ, fun m ρ _ => Cert.Dxn2Ideal.Gen.frame m ρ, Cert.ProdDxn2.frame_r,
  fun m ρ _ => Cert.DwO.Gen.frame m ρ, fun m ρ _ => Cert.DwOIdeal.Gen.frame m ρ, Cert.ProdDwO.frame_r,
  fun m ρ _ => Cert.DwQ.Gen.frame m ρ, fun m ρ _ => Cert.DwQIdeal.Gen.frame m ρ, Cert.ProdDwQ.frame_r,
  fun m ρ _ => Cert.DwOut.Gen.frame m ρ, fun m ρ _ => Cert.DwOutIdeal.Gen.frame m ρ, Cert.ProdDwOut.frame_r,
  fun m ρ _ => Cert.Loss.Gen.frame m ρ, fun m ρ _ => Cert.LossIdeal.Gen.frame m ρ, Cert.ProdLoss.frame_r,
  fun m ρ _ => Cert.RmsMem.Gen.frame m ρ, fun m ρ _ => Cert.RmsMemIdeal.Gen.frame m ρ, Cert.ProdRmsMem.frame_r,
  fun m ρ _ => Cert.RmsFwd.Gen.frame m ρ, fun m ρ _ => Cert.RmsFwdIdeal.Gen.frame m ρ, Cert.ProdRmsFwd.frame_r,
  fun m ρ _ => Cert.AttnFwd.Gen.frame m ρ, fun m ρ _ => Cert.AttnFwdIdeal.Gen.frame m ρ, Cert.ProdAttnFwd.frame_r,
  fun m ρ _ => Cert.AdamSmall.Gen.frame m ρ, fun m ρ _ => Cert.AdamSmallIdeal.Gen.frame m ρ, Cert.ProdAdamSmall.frame_r,
  fun m ρ _ => Cert.AdamOut.Gen.frame m ρ, fun m ρ _ => Cert.AdamOutIdeal.Gen.frame m ρ, Cert.ProdAdamOut.frame_r,
  fun m ρ _ => Cert.AdamConvA.Gen.frame m ρ, fun m ρ _ => Cert.AdamConvAIdeal.Gen.frame m ρ, Cert.ProdAdamConvA.frame_r,
  fun m ρ _ => Cert.AdamConvB.Gen.frame m ρ, fun m ρ _ => Cert.AdamConvBIdeal.Gen.frame m ρ, Cert.ProdAdamConvB.frame_r,
  fun m ρ _ => Cert.AdamConvF.Gen.frame m ρ, fun m ρ _ => Cert.AdamConvFIdeal.Gen.frame m ρ, Cert.ProdAdamConvF.frame_r,
  fun m ρ _ => Cert.MixFwd.Gen.frame m ρ, fun m ρ _ => Cert.MixFwdIdeal.Gen.frame m ρ, Cert.ProdMixFwd.frame_r,
  fun m ρ _ => Cert.FfnFwd.Gen.frame m ρ, fun m ρ _ => Cert.FfnFwdIdeal.Gen.frame m ρ, Cert.ProdFfnFwd.frame_r,
  trivial, Cert.AttnAlg.algebraic,
  trivial, Cert.ProdDw.algebraic,
  trivial, Cert.ProdDf.algebraic,
  trivial, Cert.ProdDxn3.algebraic,
  trivial, Cert.MixAlg.algebraic,
  trivial, Cert.ProdDxn1.algebraic,
  trivial, Cert.ProdH3.algebraic,
  trivial, Cert.ProdProj.algebraic,
  trivial, Cert.ProdGate.algebraic,
  trivial, Cert.ProdAdam.algebraic,
  trivial, Cert.ProdDwIn.algebraic,
  trivial, Cert.ProdQ.algebraic,
  trivial, Cert.ProdH2.algebraic,
  trivial, Cert.ProdH1.algebraic,
  trivial, Cert.ProdDo.algebraic,
  trivial, Cert.ProdDxn2.algebraic,
  trivial, Cert.ProdDwO.algebraic,
  trivial, Cert.ProdDwQ.algebraic,
  trivial, Cert.ProdDwOut.algebraic,
  trivial, Cert.ProdLoss.algebraic,
  trivial, Cert.ProdRmsMem.algebraic,
  trivial, Cert.ProdRmsFwd.algebraic,
  trivial, Cert.ProdAttnFwd.algebraic,
  trivial, Cert.ProdAdamSmall.algebraic,
  trivial, Cert.ProdAdamOut.algebraic,
  trivial, Cert.ProdAdamConvA.algebraic,
  trivial, Cert.ProdAdamConvB.algebraic,
  trivial, Cert.ProdAdamConvF.algebraic,
  trivial, Cert.ProdMixFwd.algebraic,
  trivial, Cert.ProdFfnFwd.algebraic⟩

end Cert.Proof

end
